-- ==== Defs.lean ====
def Pre_DownActKernel (m : (ℓ : Loc Cert.DownActKernel.nD Cert.DownActKernel.τ Cert.DownActKernel.sig) → Buf (Elt Bits) ℓ) : Prop :=
  True

def Pre_DownActKernelIdeal (m : (ℓ : Loc Cert.DownActKernelIdeal.nD Cert.DownActKernelIdeal.τ Cert.DownActKernelIdeal.sig) → Buf (Elt Ideal) ℓ) : Prop :=
  True

def Pre_DownActReferenceIdeal (m : (ℓ : Loc Cert.DownActReferenceIdeal.nD Cert.DownActReferenceIdeal.τ Cert.DownActReferenceIdeal.sig) → Buf (Elt Ideal) ℓ) : Prop :=
  True

def Pre_DownWKernel (m : (ℓ : Loc Cert.DownWKernel.nD Cert.DownWKernel.τ Cert.DownWKernel.sig) → Buf (Elt Bits) ℓ) : Prop :=
  True

def Pre_DownWKernelIdeal (m : (ℓ : Loc Cert.DownWKernelIdeal.nD Cert.DownWKernelIdeal.τ Cert.DownWKernelIdeal.sig) → Buf (Elt Ideal) ℓ) : Prop :=
  True

def Pre_DownWReferenceIdeal (m : (ℓ : Loc Cert.DownWReferenceIdeal.nD Cert.DownWReferenceIdeal.τ Cert.DownWReferenceIdeal.sig) → Buf (Elt Ideal) ℓ) : Prop :=
  True

def Pre_GuXKernel (m : (ℓ : Loc Cert.GuXKernel.nD Cert.GuXKernel.τ Cert.GuXKernel.sig) → Buf (Elt Bits) ℓ) : Prop :=
  True

def Pre_GuXKernelIdeal (m : (ℓ : Loc Cert.GuXKernelIdeal.nD Cert.GuXKernelIdeal.τ Cert.GuXKernelIdeal.sig) → Buf (Elt Ideal) ℓ) : Prop :=
  True

def Pre_GuXReferenceIdeal (m : (ℓ : Loc Cert.GuXReferenceIdeal.nD Cert.GuXReferenceIdeal.τ Cert.GuXReferenceIdeal.sig) → Buf (Elt Ideal) ℓ) : Prop :=
  True

def Pre_GuWKernel (m : (ℓ : Loc Cert.GuWKernel.nD Cert.GuWKernel.τ Cert.GuWKernel.sig) → Buf (Elt Bits) ℓ) : Prop :=
  True

def Pre_GuWKernelIdeal (m : (ℓ : Loc Cert.GuWKernelIdeal.nD Cert.GuWKernelIdeal.τ Cert.GuWKernelIdeal.sig) → Buf (Elt Ideal) ℓ) : Prop :=
  True

def Pre_GuWReferenceIdeal (m : (ℓ : Loc Cert.GuWReferenceIdeal.nD Cert.GuWReferenceIdeal.τ Cert.GuWReferenceIdeal.sig) → Buf (Elt Ideal) ℓ) : Prop :=
  True

def Pre_SwigluKernel (m : (ℓ : Loc Cert.SwigluKernel.nD Cert.SwigluKernel.τ Cert.SwigluKernel.sig) → Buf (Elt Bits) ℓ) : Prop :=
  True

def Pre_SwigluKernelIdeal (m : (ℓ : Loc Cert.SwigluKernelIdeal.nD Cert.SwigluKernelIdeal.τ Cert.SwigluKernelIdeal.sig) → Buf (Elt Ideal) ℓ) : Prop :=
  True

def Pre_SwigluKernelIdeal_swiglu_finite [hPre_swiglu_finite : Cert.Pre_swiglu_finite.Facts] (m : (ℓ : Loc Cert.SwigluKernelIdeal.nD Cert.SwigluKernelIdeal.τ Cert.SwigluKernelIdeal.sig) → Buf (Elt Ideal) ℓ) : Prop :=
  ∀ c : Dev Cert.SwigluKernelIdeal.nD,
    (Cert.Pre_swiglu_finite.fn (F := Ideal) (m ((c.tc : Thread Cert.SwigluKernelIdeal.nD Cert.SwigluKernelIdeal.τ).loc Cert.SwigluKernelIdeal.main_arg0)) (m ((c.tc : Thread Cert.SwigluKernelIdeal.nD Cert.SwigluKernelIdeal.τ).loc Cert.SwigluKernelIdeal.main_arg1))).1 = (fun _ => 1#1)
    ∧ (Cert.Pre_swiglu_finite.fn (F := Ideal) (m ((c.tc : Thread Cert.SwigluKernelIdeal.nD Cert.SwigluKernelIdeal.τ).loc Cert.SwigluKernelIdeal.main_arg0)) (m ((c.tc : Thread Cert.SwigluKernelIdeal.nD Cert.SwigluKernelIdeal.τ).loc Cert.SwigluKernelIdeal.main_arg1))).2 = (fun _ => 1#1)

def Pre_SwigluReferenceIdeal (m : (ℓ : Loc Cert.SwigluReferenceIdeal.nD Cert.SwigluReferenceIdeal.τ Cert.SwigluReferenceIdeal.sig) → Buf (Elt Ideal) ℓ) : Prop :=
  True

def Pre_SwigluReferenceIdeal_swiglu_finite [hPre_swiglu_finite : Cert.Pre_swiglu_finite.Facts] (m : (ℓ : Loc Cert.SwigluReferenceIdeal.nD Cert.SwigluReferenceIdeal.τ Cert.SwigluReferenceIdeal.sig) → Buf (Elt Ideal) ℓ) : Prop :=
  ∀ c : Dev Cert.SwigluReferenceIdeal.nD,
    (Cert.Pre_swiglu_finite.fn (F := Ideal) (m ((c.tc : Thread Cert.SwigluReferenceIdeal.nD Cert.SwigluReferenceIdeal.τ).loc Cert.SwigluReferenceIdeal.main_arg0)) (m ((c.tc : Thread Cert.SwigluReferenceIdeal.nD Cert.SwigluReferenceIdeal.τ).loc Cert.SwigluReferenceIdeal.main_arg1))).1 = (fun _ => 1#1)
    ∧ (Cert.Pre_swiglu_finite.fn (F := Ideal) (m ((c.tc : Thread Cert.SwigluReferenceIdeal.nD Cert.SwigluReferenceIdeal.τ).loc Cert.SwigluReferenceIdeal.main_arg0)) (m ((c.tc : Thread Cert.SwigluReferenceIdeal.nD Cert.SwigluReferenceIdeal.τ).loc Cert.SwigluReferenceIdeal.main_arg1))).2 = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_GatesKernel (m : (ℓ : Loc Cert.GatesKernel.nD Cert.GatesKernel.τ Cert.GatesKernel.sig) → Buf (Elt Bits) ℓ) : Prop :=
  True

def Pre_GatesKernelIdeal (m : (ℓ : Loc Cert.GatesKernelIdeal.nD Cert.GatesKernelIdeal.τ Cert.GatesKernelIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_LruOutXKernel (m : (ℓ : Loc Cert.LruOutXKernel.nD Cert.LruOutXKernel.τ Cert.LruOutXKernel.sig) → Buf (Elt Bits) ℓ) : Prop :=
  True

def Pre_LruOutXKernelIdeal (m : (ℓ : Loc Cert.LruOutXKernelIdeal.nD Cert.LruOutXKernelIdeal.τ Cert.LruOutXKernelIdeal.sig) → Buf (Elt Ideal) ℓ) : Prop :=
  True

def Pre_LruOutXReferenceIdeal (m : (ℓ : Loc Cert.LruOutXReferenceIdeal.nD Cert.LruOutXReferenceIdeal.τ Cert.LruOutXReferenceIdeal.sig) → Buf (Elt Ideal) ℓ) : Prop :=
  True

def Pre_LruOutWKernel (m : (ℓ : Loc Cert.LruOutWKernel.nD Cert.LruOutWKernel.τ Cert.LruOutWKernel.sig) → Buf (Elt Bits) ℓ) : Prop :=
  True

def Pre_LruOutWKernelIdeal (m : (ℓ : Loc Cert.LruOutWKernelIdeal.nD Cert.LruOutWKernelIdeal.τ Cert.LruOutWKernelIdeal.sig) → Buf (Elt Ideal) ℓ) : Prop :=
  True

def Pre_LruOutWReferenceIdeal (m : (ℓ : Loc Cert.LruOutWReferenceIdeal.nD Cert.LruOutWReferenceIdeal.τ Cert.LruOutWReferenceIdeal.sig) → Buf (Elt Ideal) ℓ) : Prop :=
  True

def Pre_LruInXKernel (m : (ℓ : Loc Cert.LruInXKernel.nD Cert.LruInXKernel.τ Cert.LruInXKernel.sig) → Buf (Elt Bits) ℓ) : Prop :=
  True

def Pre_LruInXKernelIdeal (m : (ℓ : Loc Cert.LruInXKernelIdeal.nD Cert.LruInXKernelIdeal.τ Cert.LruInXKernelIdeal.sig) → Buf (Elt Ideal) ℓ) : Prop :=
  True

def Pre_LruInXReferenceIdeal (m : (ℓ : Loc Cert.LruInXReferenceIdeal.nD Cert.LruInXReferenceIdeal.τ Cert.LruInXReferenceIdeal.sig) → Buf (Elt Ideal) ℓ) : Prop :=
  True

def Pre_LruInWKernel (m : (ℓ : Loc Cert.LruInWKernel.nD Cert.LruInWKernel.τ Cert.LruInWKernel.sig) → Buf (Elt Bits) ℓ) : Prop :=
  True

def Pre_LruInWKernelIdeal (m : (ℓ : Loc Cert.LruInWKernelIdeal.nD Cert.LruInWKernelIdeal.τ Cert.LruInWKernelIdeal.sig) → Buf (Elt Ideal) ℓ) : Prop :=
  True

def Pre_LruInWReferenceIdeal (m : (ℓ : Loc Cert.LruInWReferenceIdeal.nD Cert.LruInWReferenceIdeal.τ Cert.LruInWReferenceIdeal.sig) → Buf (Elt Ideal) ℓ) : Prop :=
  True

def Pre_LruInKernel (m : (ℓ : Loc Cert.LruInKernel.nD Cert.LruInKernel.τ Cert.LruInKernel.sig) → Buf (Elt Bits) ℓ) : Prop :=
  True

def Pre_LruInKernelIdeal (m : (ℓ : Loc Cert.LruInKernelIdeal.nD Cert.LruInKernelIdeal.τ Cert.LruInKernelIdeal.sig) → Buf (Elt Ideal) ℓ) : Prop :=
  True

def Pre_LruInReferenceIdeal (m : (ℓ : Loc Cert.LruInReferenceIdeal.nD Cert.LruInReferenceIdeal.τ Cert.LruInReferenceIdeal.sig) → Buf (Elt Ideal) ℓ) : Prop :=
  True

def Pre_LruOutKernel (m : (ℓ : Loc Cert.LruOutKernel.nD Cert.LruOutKernel.τ Cert.LruOutKernel.sig) → Buf (Elt Bits) ℓ) : Prop :=
  True

def Pre_LruOutKernelIdeal (m : (ℓ : Loc Cert.LruOutKernelIdeal.nD Cert.LruOutKernelIdeal.τ Cert.LruOutKernelIdeal.sig) → Buf (Elt Ideal) ℓ) : Prop :=
  True

def Pre_LruOutReferenceIdeal (m : (ℓ : Loc Cert.LruOutReferenceIdeal.nD Cert.LruOutReferenceIdeal.τ Cert.LruOutReferenceIdeal.sig) → Buf (Elt Ideal) ℓ) : Prop :=
  True

def Pre_GateUpKernel (m : (ℓ : Loc Cert.GateUpKernel.nD Cert.GateUpKernel.τ Cert.GateUpKernel.sig) → Buf (Elt Bits) ℓ) : Prop :=
  True

def Pre_GateUpKernelIdeal (m : (ℓ : Loc Cert.GateUpKernelIdeal.nD Cert.GateUpKernelIdeal.τ Cert.GateUpKernelIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_MlaUkvKernel (m : (ℓ : Loc Cert.MlaUkvKernel.nD Cert.MlaUkvKernel.τ Cert.MlaUkvKernel.sig) → Buf (Elt Bits) ℓ) : Prop :=
  True

def Pre_MlaUkvKernelIdeal (m : (ℓ : Loc Cert.MlaUkvKernelIdeal.nD Cert.MlaUkvKernelIdeal.τ Cert.MlaUkvKernelIdeal.sig) → Buf (Elt Ideal) ℓ) : Prop :=
  True

def Pre_MlaUkvReferenceIdeal (m : (ℓ : Loc Cert.MlaUkvReferenceIdeal.nD Cert.MlaUkvReferenceIdeal.τ Cert.MlaUkvReferenceIdeal.sig) → Buf (Elt Ideal) ℓ) : Prop :=
  True

def Pre_MlaUkvXKernel (m : (ℓ : Loc Cert.MlaUkvXKernel.nD Cert.MlaUkvXKernel.τ Cert.MlaUkvXKernel.sig) → Buf (Elt Bits) ℓ) : Prop :=
  True

def Pre_MlaUkvXKernelIdeal (m : (ℓ : Loc Cert.MlaUkvXKernelIdeal.nD Cert.MlaUkvXKernelIdeal.τ Cert.MlaUkvXKernelIdeal.sig) → Buf (Elt Ideal) ℓ) : Prop :=
  True

def Pre_MlaUkvXReferenceIdeal (m : (ℓ : Loc Cert.MlaUkvXReferenceIdeal.nD Cert.MlaUkvXReferenceIdeal.τ Cert.MlaUkvXReferenceIdeal.sig) → Buf (Elt Ideal) ℓ) : Prop :=
  True

def Pre_MlaUkvWKernel (m : (ℓ : Loc Cert.MlaUkvWKernel.nD Cert.MlaUkvWKernel.τ Cert.MlaUkvWKernel.sig) → Buf (Elt Bits) ℓ) : Prop :=
  True

def Pre_MlaUkvWKernelIdeal (m : (ℓ : Loc Cert.MlaUkvWKernelIdeal.nD Cert.MlaUkvWKernelIdeal.τ Cert.MlaUkvWKernelIdeal.sig) → Buf (Elt Ideal) ℓ) : Prop :=
  True

def Pre_MlaUkvWReferenceIdeal (m : (ℓ : Loc Cert.MlaUkvWReferenceIdeal.nD Cert.MlaUkvWReferenceIdeal.τ Cert.MlaUkvWReferenceIdeal.sig) → Buf (Elt Ideal) ℓ) : Prop :=
  True

def Pre_MlaInKernel (m : (ℓ : Loc Cert.MlaInKernel.nD Cert.MlaInKernel.τ Cert.MlaInKernel.sig) → Buf (Elt Bits) ℓ) : Prop :=
  True

def Pre_MlaInKernelIdeal (m : (ℓ : Loc Cert.MlaInKernelIdeal.nD Cert.MlaInKernelIdeal.τ Cert.MlaInKernelIdeal.sig) → Buf (Elt Ideal) ℓ) : Prop :=
  True

def Pre_MlaInReferenceIdeal (m : (ℓ : Loc Cert.MlaInReferenceIdeal.nD Cert.MlaInReferenceIdeal.τ Cert.MlaInReferenceIdeal.sig) → Buf (Elt Ideal) ℓ) : Prop :=
  True

def Pre_MlaInXKernel (m : (ℓ : Loc Cert.MlaInXKernel.nD Cert.MlaInXKernel.τ Cert.MlaInXKernel.sig) → Buf (Elt Bits) ℓ) : Prop :=
  True

def Pre_MlaInXKernelIdeal (m : (ℓ : Loc Cert.MlaInXKernelIdeal.nD Cert.MlaInXKernelIdeal.τ Cert.MlaInXKernelIdeal.sig) → Buf (Elt Ideal) ℓ) : Prop :=
  True

def Pre_MlaInXReferenceIdeal (m : (ℓ : Loc Cert.MlaInXReferenceIdeal.nD Cert.MlaInXReferenceIdeal.τ Cert.MlaInXReferenceIdeal.sig) → Buf (Elt Ideal) ℓ) : Prop :=
  True

def Pre_MlaInWKernel (m : (ℓ : Loc Cert.MlaInWKernel.nD Cert.MlaInWKernel.τ Cert.MlaInWKernel.sig) → Buf (Elt Bits) ℓ) : Prop :=
  True

def Pre_MlaInWKernelIdeal (m : (ℓ : Loc Cert.MlaInWKernelIdeal.nD Cert.MlaInWKernelIdeal.τ Cert.MlaInWKernelIdeal.sig) → Buf (Elt Ideal) ℓ) : Prop :=
  True

def Pre_MlaInWReferenceIdeal (m : (ℓ : Loc Cert.MlaInWReferenceIdeal.nD Cert.MlaInWReferenceIdeal.τ Cert.MlaInWReferenceIdeal.sig) → Buf (Elt Ideal) ℓ) : Prop :=
  True

def Pre_MlaUqKernel (m : (ℓ : Loc Cert.MlaUqKernel.nD Cert.MlaUqKernel.τ Cert.MlaUqKernel.sig) → Buf (Elt Bits) ℓ) : Prop :=
  True

def Pre_MlaUqKernelIdeal (m : (ℓ : Loc Cert.MlaUqKernelIdeal.nD Cert.MlaUqKernelIdeal.τ Cert.MlaUqKernelIdeal.sig) → Buf (Elt Ideal) ℓ) : Prop :=
  True

def Pre_MlaUqReferenceIdeal (m : (ℓ : Loc Cert.MlaUqReferenceIdeal.nD Cert.MlaUqReferenceIdeal.τ Cert.MlaUqReferenceIdeal.sig) → Buf (Elt Ideal) ℓ) : Prop :=
  True

def Pre_MlaUqXKernel (m : (ℓ : Loc Cert.MlaUqXKernel.nD Cert.MlaUqXKernel.τ Cert.MlaUqXKernel.sig) → Buf (Elt Bits) ℓ) : Prop :=
  True

def Pre_MlaUqXKernelIdeal (m : (ℓ : Loc Cert.MlaUqXKernelIdeal.nD Cert.MlaUqXKernelIdeal.τ Cert.MlaUqXKernelIdeal.sig) → Buf (Elt Ideal) ℓ) : Prop :=
  True

def Pre_MlaUqXReferenceIdeal (m : (ℓ : Loc Cert.MlaUqXReferenceIdeal.nD Cert.MlaUqXReferenceIdeal.τ Cert.MlaUqXReferenceIdeal.sig) → Buf (Elt Ideal) ℓ) : Prop :=
  True

def Pre_MlaUqWKernel (m : (ℓ : Loc Cert.MlaUqWKernel.nD Cert.MlaUqWKernel.τ Cert.MlaUqWKernel.sig) → Buf (Elt Bits) ℓ) : Prop :=
  True

def Pre_MlaUqWKernelIdeal (m : (ℓ : Loc Cert.MlaUqWKernelIdeal.nD Cert.MlaUqWKernelIdeal.τ Cert.MlaUqWKernelIdeal.sig) → Buf (Elt Ideal) ℓ) : Prop :=
  True

def Pre_MlaUqWReferenceIdeal (m : (ℓ : Loc Cert.MlaUqWReferenceIdeal.nD Cert.MlaUqWReferenceIdeal.τ Cert.MlaUqWReferenceIdeal.sig) → Buf (Elt Ideal) ℓ) : Prop :=
  True

def quiescent_DownActKernel [hDownActKernel : Cert.DownActKernel.Facts] : Prop :=
  ∀ (m : (ℓ : Loc Cert.DownActKernel.nD Cert.DownActKernel.τ Cert.DownActKernel.sig) → Buf (Elt Bits) ℓ) (g : Dev Cert.DownActKernel.nD → PrngReg), Pre_DownActKernel m →
    θ_run (Cert.DownActKernel.defs (F := Bits)) (onTc (τ := Cert.DownActKernel.τ) (Cert.DownActKernel.main (F := Bits))) ⟨m, fun _ => 0, g⟩ (fun r => (∀ c : Dev Cert.DownActKernel.nD,
      r.2.mem ((c.tc : Thread Cert.DownActKernel.nD Cert.DownActKernel.τ).loc Cert.DownActKernel.main_arg0) = m ((c.tc : Thread Cert.DownActKernel.nD Cert.DownActKernel.τ).loc Cert.DownActKernel.main_arg0)
      ∧ r.2.mem ((c.tc : Thread Cert.DownActKernel.nD Cert.DownActKernel.τ).loc Cert.DownActKernel.main_arg1) = m ((c.tc : Thread Cert.DownActKernel.nD Cert.DownActKernel.τ).loc Cert.DownActKernel.main_arg1)
      ∧ r.2.mem ((c.tc : Thread Cert.DownActKernel.nD Cert.DownActKernel.τ).loc Cert.DownActKernel.main_arg2) = m ((c.tc : Thread Cert.DownActKernel.nD Cert.DownActKernel.τ).loc Cert.DownActKernel.main_arg2))
      ∧ r.2.sem = fun _ => 0)

def quiescent_DownActKernelIdeal [hDownActKernelIdeal : Cert.DownActKernelIdeal.Facts] : Prop :=
  ∀ (m : (ℓ : Loc Cert.DownActKernelIdeal.nD Cert.DownActKernelIdeal.τ Cert.DownActKernelIdeal.sig) → Buf (Elt Ideal) ℓ) (g : Dev Cert.DownActKernelIdeal.nD → PrngReg), Pre_DownActKernelIdeal m →
    θ_run (Cert.DownActKernelIdeal.defs (F := Ideal)) (onTc (τ := Cert.DownActKernelIdeal.τ) (Cert.DownActKernelIdeal.main (F := Ideal))) ⟨m, fun _ => 0, g⟩ (fun r => (∀ c : Dev Cert.DownActKernelIdeal.nD,
      r.2.mem ((c.tc : Thread Cert.DownActKernelIdeal.nD Cert.DownActKernelIdeal.τ).loc Cert.DownActKernelIdeal.main_arg0) = m ((c.tc : Thread Cert.DownActKernelIdeal.nD Cert.DownActKernelIdeal.τ).loc Cert.DownActKernelIdeal.main_arg0)
      ∧ r.2.mem ((c.tc : Thread Cert.DownActKernelIdeal.nD Cert.DownActKernelIdeal.τ).loc Cert.DownActKernelIdeal.main_arg1) = m ((c.tc : Thread Cert.DownActKernelIdeal.nD Cert.DownActKernelIdeal.τ).loc Cert.DownActKernelIdeal.main_arg1)
      ∧ r.2.mem ((c.tc : Thread Cert.DownActKernelIdeal.nD Cert.DownActKernelIdeal.τ).loc Cert.DownActKernelIdeal.main_arg2) = m ((c.tc : Thread Cert.DownActKernelIdeal.nD Cert.DownActKernelIdeal.τ).loc Cert.DownActKernelIdeal.main_arg2))
      ∧ r.2.sem = fun _ => 0)

def quiescent_DownActReferenceIdeal [hDownActReferenceIdeal : Cert.DownActReferenceIdeal.Facts] : Prop :=
  ∀ (m : (ℓ : Loc Cert.DownActReferenceIdeal.nD Cert.DownActReferenceIdeal.τ Cert.DownActReferenceIdeal.sig) → Buf (Elt Ideal) ℓ) (g : Dev Cert.DownActReferenceIdeal.nD → PrngReg), Pre_DownActReferenceIdeal m →
    θ_run (Cert.DownActReferenceIdeal.defs (F := Ideal)) (onTc (τ := Cert.DownActReferenceIdeal.τ) (Cert.DownActReferenceIdeal.main (F := Ideal))) ⟨m, fun _ => 0, g⟩ (fun r => (∀ c : Dev Cert.DownActReferenceIdeal.nD,
      r.2.mem ((c.tc : Thread Cert.DownActReferenceIdeal.nD Cert.DownActReferenceIdeal.τ).loc Cert.DownActReferenceIdeal.main_arg0) = m ((c.tc : Thread Cert.DownActReferenceIdeal.nD Cert.DownActReferenceIdeal.τ).loc Cert.DownActReferenceIdeal.main_arg0)
      ∧ r.2.mem ((c.tc : Thread Cert.DownActReferenceIdeal.nD Cert.DownActReferenceIdeal.τ).loc Cert.DownActReferenceIdeal.main_arg1) = m ((c.tc : Thread Cert.DownActReferenceIdeal.nD Cert.DownActReferenceIdeal.τ).loc Cert.DownActReferenceIdeal.main_arg1)
      ∧ r.2.mem ((c.tc : Thread Cert.DownActReferenceIdeal.nD Cert.DownActReferenceIdeal.τ).loc Cert.DownActReferenceIdeal.main_arg2) = m ((c.tc : Thread Cert.DownActReferenceIdeal.nD Cert.DownActReferenceIdeal.τ).loc Cert.DownActReferenceIdeal.main_arg2))
      ∧ r.2.sem = fun _ => 0)

def quiescent_DownWKernel [hDownWKernel : Cert.DownWKernel.Facts] : Prop :=
  ∀ (m : (ℓ : Loc Cert.DownWKernel.nD Cert.DownWKernel.τ Cert.DownWKernel.sig) → Buf (Elt Bits) ℓ) (g : Dev Cert.DownWKernel.nD → PrngReg), Pre_DownWKernel m →
    θ_run (Cert.DownWKernel.defs (F := Bits)) (onTc (τ := Cert.DownWKernel.τ) (Cert.DownWKernel.main (F := Bits))) ⟨m, fun _ => 0, g⟩ (fun r => (∀ c : Dev Cert.DownWKernel.nD,
      r.2.mem ((c.tc : Thread Cert.DownWKernel.nD Cert.DownWKernel.τ).loc Cert.DownWKernel.main_arg0) = m ((c.tc : Thread Cert.DownWKernel.nD Cert.DownWKernel.τ).loc Cert.DownWKernel.main_arg0)
      ∧ r.2.mem ((c.tc : Thread Cert.DownWKernel.nD Cert.DownWKernel.τ).loc Cert.DownWKernel.main_arg1) = m ((c.tc : Thread Cert.DownWKernel.nD Cert.DownWKernel.τ).loc Cert.DownWKernel.main_arg1)
      ∧ r.2.mem ((c.tc : Thread Cert.DownWKernel.nD Cert.DownWKernel.τ).loc Cert.DownWKernel.main_arg2) = m ((c.tc : Thread Cert.DownWKernel.nD Cert.DownWKernel.τ).loc Cert.DownWKernel.main_arg2))
      ∧ r.2.sem = fun _ => 0)

def quiescent_DownWKernelIdeal [hDownWKernelIdeal : Cert.DownWKernelIdeal.Facts] : Prop :=
  ∀ (m : (ℓ : Loc Cert.DownWKernelIdeal.nD Cert.DownWKernelIdeal.τ Cert.DownWKernelIdeal.sig) → Buf (Elt Ideal) ℓ) (g : Dev Cert.DownWKernelIdeal.nD → PrngReg), Pre_DownWKernelIdeal m →
    θ_run (Cert.DownWKernelIdeal.defs (F := Ideal)) (onTc (τ := Cert.DownWKernelIdeal.τ) (Cert.DownWKernelIdeal.main (F := Ideal))) ⟨m, fun _ => 0, g⟩ (fun r => (∀ c : Dev Cert.DownWKernelIdeal.nD,
      r.2.mem ((c.tc : Thread Cert.DownWKernelIdeal.nD Cert.DownWKernelIdeal.τ).loc Cert.DownWKernelIdeal.main_arg0) = m ((c.tc : Thread Cert.DownWKernelIdeal.nD Cert.DownWKernelIdeal.τ).loc Cert.DownWKernelIdeal.main_arg0)
      ∧ r.2.mem ((c.tc : Thread Cert.DownWKernelIdeal.nD Cert.DownWKernelIdeal.τ).loc Cert.DownWKernelIdeal.main_arg1) = m ((c.tc : Thread Cert.DownWKernelIdeal.nD Cert.DownWKernelIdeal.τ).loc Cert.DownWKernelIdeal.main_arg1)
      ∧ r.2.mem ((c.tc : Thread Cert.DownWKernelIdeal.nD Cert.DownWKernelIdeal.τ).loc Cert.DownWKernelIdeal.main_arg2) = m ((c.tc : Thread Cert.DownWKernelIdeal.nD Cert.DownWKernelIdeal.τ).loc Cert.DownWKernelIdeal.main_arg2))
      ∧ r.2.sem = fun _ => 0)

def quiescent_DownWReferenceIdeal [hDownWReferenceIdeal : Cert.DownWReferenceIdeal.Facts] : Prop :=
  ∀ (m : (ℓ : Loc Cert.DownWReferenceIdeal.nD Cert.DownWReferenceIdeal.τ Cert.DownWReferenceIdeal.sig) → Buf (Elt Ideal) ℓ) (g : Dev Cert.DownWReferenceIdeal.nD → PrngReg), Pre_DownWReferenceIdeal m →
    θ_run (Cert.DownWReferenceIdeal.defs (F := Ideal)) (onTc (τ := Cert.DownWReferenceIdeal.τ) (Cert.DownWReferenceIdeal.main (F := Ideal))) ⟨m, fun _ => 0, g⟩ (fun r => (∀ c : Dev Cert.DownWReferenceIdeal.nD,
      r.2.mem ((c.tc : Thread Cert.DownWReferenceIdeal.nD Cert.DownWReferenceIdeal.τ).loc Cert.DownWReferenceIdeal.main_arg0) = m ((c.tc : Thread Cert.DownWReferenceIdeal.nD Cert.DownWReferenceIdeal.τ).loc Cert.DownWReferenceIdeal.main_arg0)
      ∧ r.2.mem ((c.tc : Thread Cert.DownWReferenceIdeal.nD Cert.DownWReferenceIdeal.τ).loc Cert.DownWReferenceIdeal.main_arg1) = m ((c.tc : Thread Cert.DownWReferenceIdeal.nD Cert.DownWReferenceIdeal.τ).loc Cert.DownWReferenceIdeal.main_arg1)
      ∧ r.2.mem ((c.tc : Thread Cert.DownWReferenceIdeal.nD Cert.DownWReferenceIdeal.τ).loc Cert.DownWReferenceIdeal.main_arg2) = m ((c.tc : Thread Cert.DownWReferenceIdeal.nD Cert.DownWReferenceIdeal.τ).loc Cert.DownWReferenceIdeal.main_arg2))
      ∧ r.2.sem = fun _ => 0)

def quiescent_GuXKernel [hGuXKernel : Cert.GuXKernel.Facts] : Prop :=
  ∀ (m : (ℓ : Loc Cert.GuXKernel.nD Cert.GuXKernel.τ Cert.GuXKernel.sig) → Buf (Elt Bits) ℓ) (g : Dev Cert.GuXKernel.nD → PrngReg), Pre_GuXKernel m →
    θ_run (Cert.GuXKernel.defs (F := Bits)) (onTc (τ := Cert.GuXKernel.τ) (Cert.GuXKernel.main (F := Bits))) ⟨m, fun _ => 0, g⟩ (fun r => (∀ c : Dev Cert.GuXKernel.nD,
      r.2.mem ((c.tc : Thread Cert.GuXKernel.nD Cert.GuXKernel.τ).loc Cert.GuXKernel.main_arg0) = m ((c.tc : Thread Cert.GuXKernel.nD Cert.GuXKernel.τ).loc Cert.GuXKernel.main_arg0)
      ∧ r.2.mem ((c.tc : Thread Cert.GuXKernel.nD Cert.GuXKernel.τ).loc Cert.GuXKernel.main_arg1) = m ((c.tc : Thread Cert.GuXKernel.nD Cert.GuXKernel.τ).loc Cert.GuXKernel.main_arg1)
      ∧ r.2.mem ((c.tc : Thread Cert.GuXKernel.nD Cert.GuXKernel.τ).loc Cert.GuXKernel.main_arg2) = m ((c.tc : Thread Cert.GuXKernel.nD Cert.GuXKernel.τ).loc Cert.GuXKernel.main_arg2))
      ∧ r.2.sem = fun _ => 0)

def quiescent_GuXKernelIdeal [hGuXKernelIdeal : Cert.GuXKernelIdeal.Facts] : Prop :=
  ∀ (m : (ℓ : Loc Cert.GuXKernelIdeal.nD Cert.GuXKernelIdeal.τ Cert.GuXKernelIdeal.sig) → Buf (Elt Ideal) ℓ) (g : Dev Cert.GuXKernelIdeal.nD → PrngReg), Pre_GuXKernelIdeal m →
    θ_run (Cert.GuXKernelIdeal.defs (F := Ideal)) (onTc (τ := Cert.GuXKernelIdeal.τ) (Cert.GuXKernelIdeal.main (F := Ideal))) ⟨m, fun _ => 0, g⟩ (fun r => (∀ c : Dev Cert.GuXKernelIdeal.nD,
      r.2.mem ((c.tc : Thread Cert.GuXKernelIdeal.nD Cert.GuXKernelIdeal.τ).loc Cert.GuXKernelIdeal.main_arg0) = m ((c.tc : Thread Cert.GuXKernelIdeal.nD Cert.GuXKernelIdeal.τ).loc Cert.GuXKernelIdeal.main_arg0)
      ∧ r.2.mem ((c.tc : Thread Cert.GuXKernelIdeal.nD Cert.GuXKernelIdeal.τ).loc Cert.GuXKernelIdeal.main_arg1) = m ((c.tc : Thread Cert.GuXKernelIdeal.nD Cert.GuXKernelIdeal.τ).loc Cert.GuXKernelIdeal.main_arg1)
      ∧ r.2.mem ((c.tc : Thread Cert.GuXKernelIdeal.nD Cert.GuXKernelIdeal.τ).loc Cert.GuXKernelIdeal.main_arg2) = m ((c.tc : Thread Cert.GuXKernelIdeal.nD Cert.GuXKernelIdeal.τ).loc Cert.GuXKernelIdeal.main_arg2))
      ∧ r.2.sem = fun _ => 0)

def quiescent_GuXReferenceIdeal [hGuXReferenceIdeal : Cert.GuXReferenceIdeal.Facts] : Prop :=
  ∀ (m : (ℓ : Loc Cert.GuXReferenceIdeal.nD Cert.GuXReferenceIdeal.τ Cert.GuXReferenceIdeal.sig) → Buf (Elt Ideal) ℓ) (g : Dev Cert.GuXReferenceIdeal.nD → PrngReg), Pre_GuXReferenceIdeal m →
    θ_run (Cert.GuXReferenceIdeal.defs (F := Ideal)) (onTc (τ := Cert.GuXReferenceIdeal.τ) (Cert.GuXReferenceIdeal.main (F := Ideal))) ⟨m, fun _ => 0, g⟩ (fun r => (∀ c : Dev Cert.GuXReferenceIdeal.nD,
      r.2.mem ((c.tc : Thread Cert.GuXReferenceIdeal.nD Cert.GuXReferenceIdeal.τ).loc Cert.GuXReferenceIdeal.main_arg0) = m ((c.tc : Thread Cert.GuXReferenceIdeal.nD Cert.GuXReferenceIdeal.τ).loc Cert.GuXReferenceIdeal.main_arg0)
      ∧ r.2.mem ((c.tc : Thread Cert.GuXReferenceIdeal.nD Cert.GuXReferenceIdeal.τ).loc Cert.GuXReferenceIdeal.main_arg1) = m ((c.tc : Thread Cert.GuXReferenceIdeal.nD Cert.GuXReferenceIdeal.τ).loc Cert.GuXReferenceIdeal.main_arg1)
      ∧ r.2.mem ((c.tc : Thread Cert.GuXReferenceIdeal.nD Cert.GuXReferenceIdeal.τ).loc Cert.GuXReferenceIdeal.main_arg2) = m ((c.tc : Thread Cert.GuXReferenceIdeal.nD Cert.GuXReferenceIdeal.τ).loc Cert.GuXReferenceIdeal.main_arg2))
      ∧ r.2.sem = fun _ => 0)

def quiescent_GuWKernel [hGuWKernel : Cert.GuWKernel.Facts] : Prop :=
  ∀ (m : (ℓ : Loc Cert.GuWKernel.nD Cert.GuWKernel.τ Cert.GuWKernel.sig) → Buf (Elt Bits) ℓ) (g : Dev Cert.GuWKernel.nD → PrngReg), Pre_GuWKernel m →
    θ_run (Cert.GuWKernel.defs (F := Bits)) (onTc (τ := Cert.GuWKernel.τ) (Cert.GuWKernel.main (F := Bits))) ⟨m, fun _ => 0, g⟩ (fun r => (∀ c : Dev Cert.GuWKernel.nD,
      r.2.mem ((c.tc : Thread Cert.GuWKernel.nD Cert.GuWKernel.τ).loc Cert.GuWKernel.main_arg0) = m ((c.tc : Thread Cert.GuWKernel.nD Cert.GuWKernel.τ).loc Cert.GuWKernel.main_arg0)
      ∧ r.2.mem ((c.tc : Thread Cert.GuWKernel.nD Cert.GuWKernel.τ).loc Cert.GuWKernel.main_arg1) = m ((c.tc : Thread Cert.GuWKernel.nD Cert.GuWKernel.τ).loc Cert.GuWKernel.main_arg1)
      ∧ r.2.mem ((c.tc : Thread Cert.GuWKernel.nD Cert.GuWKernel.τ).loc Cert.GuWKernel.main_arg2) = m ((c.tc : Thread Cert.GuWKernel.nD Cert.GuWKernel.τ).loc Cert.GuWKernel.main_arg2))
      ∧ r.2.sem = fun _ => 0)

def quiescent_GuWKernelIdeal [hGuWKernelIdeal : Cert.GuWKernelIdeal.Facts] : Prop :=
  ∀ (m : (ℓ : Loc Cert.GuWKernelIdeal.nD Cert.GuWKernelIdeal.τ Cert.GuWKernelIdeal.sig) → Buf (Elt Ideal) ℓ) (g : Dev Cert.GuWKernelIdeal.nD → PrngReg), Pre_GuWKernelIdeal m →
    θ_run (Cert.GuWKernelIdeal.defs (F := Ideal)) (onTc (τ := Cert.GuWKernelIdeal.τ) (Cert.GuWKernelIdeal.main (F := Ideal))) ⟨m, fun _ => 0, g⟩ (fun r => (∀ c : Dev Cert.GuWKernelIdeal.nD,
      r.2.mem ((c.tc : Thread Cert.GuWKernelIdeal.nD Cert.GuWKernelIdeal.τ).loc Cert.GuWKernelIdeal.main_arg0) = m ((c.tc : Thread Cert.GuWKernelIdeal.nD Cert.GuWKernelIdeal.τ).loc Cert.GuWKernelIdeal.main_arg0)
      ∧ r.2.mem ((c.tc : Thread Cert.GuWKernelIdeal.nD Cert.GuWKernelIdeal.τ).loc Cert.GuWKernelIdeal.main_arg1) = m ((c.tc : Thread Cert.GuWKernelIdeal.nD Cert.GuWKernelIdeal.τ).loc Cert.GuWKernelIdeal.main_arg1)
      ∧ r.2.mem ((c.tc : Thread Cert.GuWKernelIdeal.nD Cert.GuWKernelIdeal.τ).loc Cert.GuWKernelIdeal.main_arg2) = m ((c.tc : Thread Cert.GuWKernelIdeal.nD Cert.GuWKernelIdeal.τ).loc Cert.GuWKernelIdeal.main_arg2))
      ∧ r.2.sem = fun _ => 0)

def quiescent_GuWReferenceIdeal [hGuWReferenceIdeal : Cert.GuWReferenceIdeal.Facts] : Prop :=
  ∀ (m : (ℓ : Loc Cert.GuWReferenceIdeal.nD Cert.GuWReferenceIdeal.τ Cert.GuWReferenceIdeal.sig) → Buf (Elt Ideal) ℓ) (g : Dev Cert.GuWReferenceIdeal.nD → PrngReg), Pre_GuWReferenceIdeal m →
    θ_run (Cert.GuWReferenceIdeal.defs (F := Ideal)) (onTc (τ := Cert.GuWReferenceIdeal.τ) (Cert.GuWReferenceIdeal.main (F := Ideal))) ⟨m, fun _ => 0, g⟩ (fun r => (∀ c : Dev Cert.GuWReferenceIdeal.nD,
      r.2.mem ((c.tc : Thread Cert.GuWReferenceIdeal.nD Cert.GuWReferenceIdeal.τ).loc Cert.GuWReferenceIdeal.main_arg0) = m ((c.tc : Thread Cert.GuWReferenceIdeal.nD Cert.GuWReferenceIdeal.τ).loc Cert.GuWReferenceIdeal.main_arg0)
      ∧ r.2.mem ((c.tc : Thread Cert.GuWReferenceIdeal.nD Cert.GuWReferenceIdeal.τ).loc Cert.GuWReferenceIdeal.main_arg1) = m ((c.tc : Thread Cert.GuWReferenceIdeal.nD Cert.GuWReferenceIdeal.τ).loc Cert.GuWReferenceIdeal.main_arg1)
      ∧ r.2.mem ((c.tc : Thread Cert.GuWReferenceIdeal.nD Cert.GuWReferenceIdeal.τ).loc Cert.GuWReferenceIdeal.main_arg2) = m ((c.tc : Thread Cert.GuWReferenceIdeal.nD Cert.GuWReferenceIdeal.τ).loc Cert.GuWReferenceIdeal.main_arg2))
      ∧ r.2.sem = fun _ => 0)

def quiescent_SwigluKernel [hSwigluKernel : Cert.SwigluKernel.Facts] : Prop :=
  ∀ (m : (ℓ : Loc Cert.SwigluKernel.nD Cert.SwigluKernel.τ Cert.SwigluKernel.sig) → Buf (Elt Bits) ℓ) (g : Dev Cert.SwigluKernel.nD → PrngReg), Pre_SwigluKernel m →
    θ_run (Cert.SwigluKernel.defs (F := Bits)) (onTc (τ := Cert.SwigluKernel.τ) (Cert.SwigluKernel.main (F := Bits))) ⟨m, fun _ => 0, g⟩ (fun r => (∀ c : Dev Cert.SwigluKernel.nD,
      r.2.mem ((c.tc : Thread Cert.SwigluKernel.nD Cert.SwigluKernel.τ).loc Cert.SwigluKernel.main_arg0) = m ((c.tc : Thread Cert.SwigluKernel.nD Cert.SwigluKernel.τ).loc Cert.SwigluKernel.main_arg0)
      ∧ r.2.mem ((c.tc : Thread Cert.SwigluKernel.nD Cert.SwigluKernel.τ).loc Cert.SwigluKernel.main_arg1) = m ((c.tc : Thread Cert.SwigluKernel.nD Cert.SwigluKernel.τ).loc Cert.SwigluKernel.main_arg1))
      ∧ r.2.sem = fun _ => 0)

def quiescent_SwigluKernelIdeal [hSwigluKernelIdeal : Cert.SwigluKernelIdeal.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
      ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1))
      ∧ r.2.sem = fun _ => 0)

def quiescent_SwigluKernelIdeal_pre_swiglu_finite [hSwigluKernelIdeal : Cert.SwigluKernelIdeal.Facts] [hPre_swiglu_finite : Cert.Pre_swiglu_finite.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal_swiglu_finite m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
      ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1))
      ∧ r.2.sem = fun _ => 0)

def quiescent_SwigluReferenceIdeal_pre_swiglu_finite [hSwigluReferenceIdeal : Cert.SwigluReferenceIdeal.Facts] [hPre_swiglu_finite : Cert.Pre_swiglu_finite.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal_swiglu_finite m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_GatesKernel [hGatesKernel : Cert.GatesKernel.Facts] : Prop :=
  ∀ (m : (ℓ : Loc Cert.GatesKernel.nD Cert.GatesKernel.τ Cert.GatesKernel.sig) → Buf (Elt Bits) ℓ) (g : Dev Cert.GatesKernel.nD → PrngReg), Pre_GatesKernel m →
    θ_run (Cert.GatesKernel.defs (F := Bits)) (onTc (τ := Cert.GatesKernel.τ) (Cert.GatesKernel.main (F := Bits))) ⟨m, fun _ => 0, g⟩ (fun r => (∀ c : Dev Cert.GatesKernel.nD,
      r.2.mem ((c.tc : Thread Cert.GatesKernel.nD Cert.GatesKernel.τ).loc Cert.GatesKernel.main_arg0) = m ((c.tc : Thread Cert.GatesKernel.nD Cert.GatesKernel.τ).loc Cert.GatesKernel.main_arg0)
      ∧ r.2.mem ((c.tc : Thread Cert.GatesKernel.nD Cert.GatesKernel.τ).loc Cert.GatesKernel.main_arg1) = m ((c.tc : Thread Cert.GatesKernel.nD Cert.GatesKernel.τ).loc Cert.GatesKernel.main_arg1)
      ∧ r.2.mem ((c.tc : Thread Cert.GatesKernel.nD Cert.GatesKernel.τ).loc Cert.GatesKernel.main_arg2) = m ((c.tc : Thread Cert.GatesKernel.nD Cert.GatesKernel.τ).loc Cert.GatesKernel.main_arg2)
      ∧ r.2.mem ((c.tc : Thread Cert.GatesKernel.nD Cert.GatesKernel.τ).loc Cert.GatesKernel.main_arg3) = m ((c.tc : Thread Cert.GatesKernel.nD Cert.GatesKernel.τ).loc Cert.GatesKernel.main_arg3)
      ∧ r.2.mem ((c.tc : Thread Cert.GatesKernel.nD Cert.GatesKernel.τ).loc Cert.GatesKernel.main_arg4) = m ((c.tc : Thread Cert.GatesKernel.nD Cert.GatesKernel.τ).loc Cert.GatesKernel.main_arg4)
      ∧ r.2.mem ((c.tc : Thread Cert.GatesKernel.nD Cert.GatesKernel.τ).loc Cert.GatesKernel.main_arg5) = m ((c.tc : Thread Cert.GatesKernel.nD Cert.GatesKernel.τ).loc Cert.GatesKernel.main_arg5)
      ∧ r.2.mem ((c.tc : Thread Cert.GatesKernel.nD Cert.GatesKernel.τ).loc Cert.GatesKernel.main_arg6) = m ((c.tc : Thread Cert.GatesKernel.nD Cert.GatesKernel.τ).loc Cert.GatesKernel.main_arg6)
      ∧ r.2.mem ((c.tc : Thread Cert.GatesKernel.nD Cert.GatesKernel.τ).loc Cert.GatesKernel.main_arg7) = m ((c.tc : Thread Cert.GatesKernel.nD Cert.GatesKernel.τ).loc Cert.GatesKernel.main_arg7))
      ∧ r.2.sem = fun _ => 0)

def quiescent_GatesKernelIdeal [hGatesKernelIdeal : Cert.GatesKernelIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg), Pre_GatesKernelIdeal m →
    θ_run (Cert.GatesKernelIdeal.defs (F := Ideal)) (onTc (τ := Cert.GatesKernelIdeal.τ) (Cert.GatesKernelIdeal.main (F := Ideal))) ⟨m, fun _ => 0, g⟩ (fun r => (∀ c : Dev Cert.GatesKernelIdeal.nD,
      r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
      ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1)
      ∧ r.2.mem ((c.tc : Thread Cert.GatesKernelIdeal.nD Cert.GatesKernelIdeal.τ).loc Cert.GatesKernelIdeal.main_arg2) = m ((c.tc : Thread Cert.GatesKernelIdeal.nD Cert.GatesKernelIdeal.τ).loc Cert.GatesKernelIdeal.main_arg2)
      ∧ r.2.mem ((c.tc : Thread Cert.GatesKernelIdeal.nD Cert.GatesKernelIdeal.τ).loc Cert.GatesKernelIdeal.main_arg3) = m ((c.tc : Thread Cert.GatesKernelIdeal.nD Cert.GatesKernelIdeal.τ).loc Cert.GatesKernelIdeal.main_arg3)
      ∧ r.2.mem ((c.tc : Thread Cert.GatesKernelIdeal.nD Cert.GatesKernelIdeal.τ).loc Cert.GatesKernelIdeal.main_arg4) = m ((c.tc : Thread Cert.GatesKernelIdeal.nD Cert.GatesKernelIdeal.τ).loc Cert.GatesKernelIdeal.main_arg4)
      ∧ r.2.mem ((c.tc : Thread Cert.GatesKernelIdeal.nD Cert.GatesKernelIdeal.τ).loc Cert.GatesKernelIdeal.main_arg5) = m ((c.tc : Thread Cert.GatesKernelIdeal.nD Cert.GatesKernelIdeal.τ).loc Cert.GatesKernelIdeal.main_arg5)
      ∧ r.2.mem ((c.tc : Thread Cert.GatesKernelIdeal.nD Cert.GatesKernelIdeal.τ).loc Cert.GatesKernelIdeal.main_arg6) = m ((c.tc : Thread Cert.GatesKernelIdeal.nD Cert.GatesKernelIdeal.τ).loc Cert.GatesKernelIdeal.main_arg6)
      ∧ r.2.mem ((c.tc : Thread Cert.GatesKernelIdeal.nD Cert.GatesKernelIdeal.τ).loc Cert.GatesKernelIdeal.main_arg7) = m ((c.tc : Thread Cert.GatesKernelIdeal.nD Cert.GatesKernelIdeal.τ).loc Cert.GatesKernelIdeal.main_arg7))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4)
      ∧ r.2.mem ((c.tc : Thread Cert.GatesReferenceIdeal.nD Cert.GatesReferenceIdeal.τ).loc Cert.GatesReferenceIdeal.main_arg5) = m ((c.tc : Thread Cert.GatesReferenceIdeal.nD Cert.GatesReferenceIdeal.τ).loc Cert.GatesReferenceIdeal.main_arg5)
      ∧ r.2.mem ((c.tc : Thread Cert.GatesReferenceIdeal.nD Cert.GatesReferenceIdeal.τ).loc Cert.GatesReferenceIdeal.main_arg6) = m ((c.tc : Thread Cert.GatesReferenceIdeal.nD Cert.GatesReferenceIdeal.τ).loc Cert.GatesReferenceIdeal.main_arg6)
      ∧ r.2.mem ((c.tc : Thread Cert.GatesReferenceIdeal.nD Cert.GatesReferenceIdeal.τ).loc Cert.GatesReferenceIdeal.main_arg7) = m ((c.tc : Thread Cert.GatesReferenceIdeal.nD Cert.GatesReferenceIdeal.τ).loc Cert.GatesReferenceIdeal.main_arg7))
      ∧ r.2.sem = fun _ => 0)

def quiescent_LruOutXKernel [hLruOutXKernel : Cert.LruOutXKernel.Facts] : Prop :=
  ∀ (m : (ℓ : Loc Cert.LruOutXKernel.nD Cert.LruOutXKernel.τ Cert.LruOutXKernel.sig) → Buf (Elt Bits) ℓ) (g : Dev Cert.LruOutXKernel.nD → PrngReg), Pre_LruOutXKernel m →
    θ_run (Cert.LruOutXKernel.defs (F := Bits)) (onTc (τ := Cert.LruOutXKernel.τ) (Cert.LruOutXKernel.main (F := Bits))) ⟨m, fun _ => 0, g⟩ (fun r => (∀ c : Dev Cert.LruOutXKernel.nD,
      r.2.mem ((c.tc : Thread Cert.LruOutXKernel.nD Cert.LruOutXKernel.τ).loc Cert.LruOutXKernel.main_arg0) = m ((c.tc : Thread Cert.LruOutXKernel.nD Cert.LruOutXKernel.τ).loc Cert.LruOutXKernel.main_arg0)
      ∧ r.2.mem ((c.tc : Thread Cert.LruOutXKernel.nD Cert.LruOutXKernel.τ).loc Cert.LruOutXKernel.main_arg1) = m ((c.tc : Thread Cert.LruOutXKernel.nD Cert.LruOutXKernel.τ).loc Cert.LruOutXKernel.main_arg1)
      ∧ r.2.mem ((c.tc : Thread Cert.LruOutXKernel.nD Cert.LruOutXKernel.τ).loc Cert.LruOutXKernel.main_arg2) = m ((c.tc : Thread Cert.LruOutXKernel.nD Cert.LruOutXKernel.τ).loc Cert.LruOutXKernel.main_arg2))
      ∧ r.2.sem = fun _ => 0)

def quiescent_LruOutXKernelIdeal [hLruOutXKernelIdeal : Cert.LruOutXKernelIdeal.Facts] : Prop :=
  ∀ (m : (ℓ : Loc Cert.LruOutXKernelIdeal.nD Cert.LruOutXKernelIdeal.τ Cert.LruOutXKernelIdeal.sig) → Buf (Elt Ideal) ℓ) (g : Dev Cert.LruOutXKernelIdeal.nD → PrngReg), Pre_LruOutXKernelIdeal m →
    θ_run (Cert.LruOutXKernelIdeal.defs (F := Ideal)) (onTc (τ := Cert.LruOutXKernelIdeal.τ) (Cert.LruOutXKernelIdeal.main (F := Ideal))) ⟨m, fun _ => 0, g⟩ (fun r => (∀ c : Dev Cert.LruOutXKernelIdeal.nD,
      r.2.mem ((c.tc : Thread Cert.LruOutXKernelIdeal.nD Cert.LruOutXKernelIdeal.τ).loc Cert.LruOutXKernelIdeal.main_arg0) = m ((c.tc : Thread Cert.LruOutXKernelIdeal.nD Cert.LruOutXKernelIdeal.τ).loc Cert.LruOutXKernelIdeal.main_arg0)
      ∧ r.2.mem ((c.tc : Thread Cert.LruOutXKernelIdeal.nD Cert.LruOutXKernelIdeal.τ).loc Cert.LruOutXKernelIdeal.main_arg1) = m ((c.tc : Thread Cert.LruOutXKernelIdeal.nD Cert.LruOutXKernelIdeal.τ).loc Cert.LruOutXKernelIdeal.main_arg1)
      ∧ r.2.mem ((c.tc : Thread Cert.LruOutXKernelIdeal.nD Cert.LruOutXKernelIdeal.τ).loc Cert.LruOutXKernelIdeal.main_arg2) = m ((c.tc : Thread Cert.LruOutXKernelIdeal.nD Cert.LruOutXKernelIdeal.τ).loc Cert.LruOutXKernelIdeal.main_arg2))
      ∧ r.2.sem = fun _ => 0)

def quiescent_LruOutXReferenceIdeal [hLruOutXReferenceIdeal : Cert.LruOutXReferenceIdeal.Facts] : Prop :=
  ∀ (m : (ℓ : Loc Cert.LruOutXReferenceIdeal.nD Cert.LruOutXReferenceIdeal.τ Cert.LruOutXReferenceIdeal.sig) → Buf (Elt Ideal) ℓ) (g : Dev Cert.LruOutXReferenceIdeal.nD → PrngReg), Pre_LruOutXReferenceIdeal m →
    θ_run (Cert.LruOutXReferenceIdeal.defs (F := Ideal)) (onTc (τ := Cert.LruOutXReferenceIdeal.τ) (Cert.LruOutXReferenceIdeal.main (F := Ideal))) ⟨m, fun _ => 0, g⟩ (fun r => (∀ c : Dev Cert.LruOutXReferenceIdeal.nD,
      r.2.mem ((c.tc : Thread Cert.LruOutXReferenceIdeal.nD Cert.LruOutXReferenceIdeal.τ).loc Cert.LruOutXReferenceIdeal.main_arg0) = m ((c.tc : Thread Cert.LruOutXReferenceIdeal.nD Cert.LruOutXReferenceIdeal.τ).loc Cert.LruOutXReferenceIdeal.main_arg0)
      ∧ r.2.mem ((c.tc : Thread Cert.LruOutXReferenceIdeal.nD Cert.LruOutXReferenceIdeal.τ).loc Cert.LruOutXReferenceIdeal.main_arg1) = m ((c.tc : Thread Cert.LruOutXReferenceIdeal.nD Cert.LruOutXReferenceIdeal.τ).loc Cert.LruOutXReferenceIdeal.main_arg1)
      ∧ r.2.mem ((c.tc : Thread Cert.LruOutXReferenceIdeal.nD Cert.LruOutXReferenceIdeal.τ).loc Cert.LruOutXReferenceIdeal.main_arg2) = m ((c.tc : Thread Cert.LruOutXReferenceIdeal.nD Cert.LruOutXReferenceIdeal.τ).loc Cert.LruOutXReferenceIdeal.main_arg2))
      ∧ r.2.sem = fun _ => 0)

def quiescent_LruOutWKernel [hLruOutWKernel : Cert.LruOutWKernel.Facts] : Prop :=
  ∀ (m : (ℓ : Loc Cert.LruOutWKernel.nD Cert.LruOutWKernel.τ Cert.LruOutWKernel.sig) → Buf (Elt Bits) ℓ) (g : Dev Cert.LruOutWKernel.nD → PrngReg), Pre_LruOutWKernel m →
    θ_run (Cert.LruOutWKernel.defs (F := Bits)) (onTc (τ := Cert.LruOutWKernel.τ) (Cert.LruOutWKernel.main (F := Bits))) ⟨m, fun _ => 0, g⟩ (fun r => (∀ c : Dev Cert.LruOutWKernel.nD,
      r.2.mem ((c.tc : Thread Cert.LruOutWKernel.nD Cert.LruOutWKernel.τ).loc Cert.LruOutWKernel.main_arg0) = m ((c.tc : Thread Cert.LruOutWKernel.nD Cert.LruOutWKernel.τ).loc Cert.LruOutWKernel.main_arg0)
      ∧ r.2.mem ((c.tc : Thread Cert.LruOutWKernel.nD Cert.LruOutWKernel.τ).loc Cert.LruOutWKernel.main_arg1) = m ((c.tc : Thread Cert.LruOutWKernel.nD Cert.LruOutWKernel.τ).loc Cert.LruOutWKernel.main_arg1)
      ∧ r.2.mem ((c.tc : Thread Cert.LruOutWKernel.nD Cert.LruOutWKernel.τ).loc Cert.LruOutWKernel.main_arg2) = m ((c.tc : Thread Cert.LruOutWKernel.nD Cert.LruOutWKernel.τ).loc Cert.LruOutWKernel.main_arg2))
      ∧ r.2.sem = fun _ => 0)

def quiescent_LruOutWKernelIdeal [hLruOutWKernelIdeal : Cert.LruOutWKernelIdeal.Facts] : Prop :=
  ∀ (m : (ℓ : Loc Cert.LruOutWKernelIdeal.nD Cert.LruOutWKernelIdeal.τ Cert.LruOutWKernelIdeal.sig) → Buf (Elt Ideal) ℓ) (g : Dev Cert.LruOutWKernelIdeal.nD → PrngReg), Pre_LruOutWKernelIdeal m →
    θ_run (Cert.LruOutWKernelIdeal.defs (F := Ideal)) (onTc (τ := Cert.LruOutWKernelIdeal.τ) (Cert.LruOutWKernelIdeal.main (F := Ideal))) ⟨m, fun _ => 0, g⟩ (fun r => (∀ c : Dev Cert.LruOutWKernelIdeal.nD,
      r.2.mem ((c.tc : Thread Cert.LruOutWKernelIdeal.nD Cert.LruOutWKernelIdeal.τ).loc Cert.LruOutWKernelIdeal.main_arg0) = m ((c.tc : Thread Cert.LruOutWKernelIdeal.nD Cert.LruOutWKernelIdeal.τ).loc Cert.LruOutWKernelIdeal.main_arg0)
      ∧ r.2.mem ((c.tc : Thread Cert.LruOutWKernelIdeal.nD Cert.LruOutWKernelIdeal.τ).loc Cert.LruOutWKernelIdeal.main_arg1) = m ((c.tc : Thread Cert.LruOutWKernelIdeal.nD Cert.LruOutWKernelIdeal.τ).loc Cert.LruOutWKernelIdeal.main_arg1)
      ∧ r.2.mem ((c.tc : Thread Cert.LruOutWKernelIdeal.nD Cert.LruOutWKernelIdeal.τ).loc Cert.LruOutWKernelIdeal.main_arg2) = m ((c.tc : Thread Cert.LruOutWKernelIdeal.nD Cert.LruOutWKernelIdeal.τ).loc Cert.LruOutWKernelIdeal.main_arg2))
      ∧ r.2.sem = fun _ => 0)

def quiescent_LruOutWReferenceIdeal [hLruOutWReferenceIdeal : Cert.LruOutWReferenceIdeal.Facts] : Prop :=
  ∀ (m : (ℓ : Loc Cert.LruOutWReferenceIdeal.nD Cert.LruOutWReferenceIdeal.τ Cert.LruOutWReferenceIdeal.sig) → Buf (Elt Ideal) ℓ) (g : Dev Cert.LruOutWReferenceIdeal.nD → PrngReg), Pre_LruOutWReferenceIdeal m →
    θ_run (Cert.LruOutWReferenceIdeal.defs (F := Ideal)) (onTc (τ := Cert.LruOutWReferenceIdeal.τ) (Cert.LruOutWReferenceIdeal.main (F := Ideal))) ⟨m, fun _ => 0, g⟩ (fun r => (∀ c : Dev Cert.LruOutWReferenceIdeal.nD,
      r.2.mem ((c.tc : Thread Cert.LruOutWReferenceIdeal.nD Cert.LruOutWReferenceIdeal.τ).loc Cert.LruOutWReferenceIdeal.main_arg0) = m ((c.tc : Thread Cert.LruOutWReferenceIdeal.nD Cert.LruOutWReferenceIdeal.τ).loc Cert.LruOutWReferenceIdeal.main_arg0)
      ∧ r.2.mem ((c.tc : Thread Cert.LruOutWReferenceIdeal.nD Cert.LruOutWReferenceIdeal.τ).loc Cert.LruOutWReferenceIdeal.main_arg1) = m ((c.tc : Thread Cert.LruOutWReferenceIdeal.nD Cert.LruOutWReferenceIdeal.τ).loc Cert.LruOutWReferenceIdeal.main_arg1)
      ∧ r.2.mem ((c.tc : Thread Cert.LruOutWReferenceIdeal.nD Cert.LruOutWReferenceIdeal.τ).loc Cert.LruOutWReferenceIdeal.main_arg2) = m ((c.tc : Thread Cert.LruOutWReferenceIdeal.nD Cert.LruOutWReferenceIdeal.τ).loc Cert.LruOutWReferenceIdeal.main_arg2))
      ∧ r.2.sem = fun _ => 0)

def quiescent_LruInXKernel [hLruInXKernel : Cert.LruInXKernel.Facts] : Prop :=
  ∀ (m : (ℓ : Loc Cert.LruInXKernel.nD Cert.LruInXKernel.τ Cert.LruInXKernel.sig) → Buf (Elt Bits) ℓ) (g : Dev Cert.LruInXKernel.nD → PrngReg), Pre_LruInXKernel m →
    θ_run (Cert.LruInXKernel.defs (F := Bits)) (onTc (τ := Cert.LruInXKernel.τ) (Cert.LruInXKernel.main (F := Bits))) ⟨m, fun _ => 0, g⟩ (fun r => (∀ c : Dev Cert.LruInXKernel.nD,
      r.2.mem ((c.tc : Thread Cert.LruInXKernel.nD Cert.LruInXKernel.τ).loc Cert.LruInXKernel.main_arg0) = m ((c.tc : Thread Cert.LruInXKernel.nD Cert.LruInXKernel.τ).loc Cert.LruInXKernel.main_arg0)
      ∧ r.2.mem ((c.tc : Thread Cert.LruInXKernel.nD Cert.LruInXKernel.τ).loc Cert.LruInXKernel.main_arg1) = m ((c.tc : Thread Cert.LruInXKernel.nD Cert.LruInXKernel.τ).loc Cert.LruInXKernel.main_arg1)
      ∧ r.2.mem ((c.tc : Thread Cert.LruInXKernel.nD Cert.LruInXKernel.τ).loc Cert.LruInXKernel.main_arg2) = m ((c.tc : Thread Cert.LruInXKernel.nD Cert.LruInXKernel.τ).loc Cert.LruInXKernel.main_arg2))
      ∧ r.2.sem = fun _ => 0)

def quiescent_LruInXKernelIdeal [hLruInXKernelIdeal : Cert.LruInXKernelIdeal.Facts] : Prop :=
  ∀ (m : (ℓ : Loc Cert.LruInXKernelIdeal.nD Cert.LruInXKernelIdeal.τ Cert.LruInXKernelIdeal.sig) → Buf (Elt Ideal) ℓ) (g : Dev Cert.LruInXKernelIdeal.nD → PrngReg), Pre_LruInXKernelIdeal m →
    θ_run (Cert.LruInXKernelIdeal.defs (F := Ideal)) (onTc (τ := Cert.LruInXKernelIdeal.τ) (Cert.LruInXKernelIdeal.main (F := Ideal))) ⟨m, fun _ => 0, g⟩ (fun r => (∀ c : Dev Cert.LruInXKernelIdeal.nD,
      r.2.mem ((c.tc : Thread Cert.LruInXKernelIdeal.nD Cert.LruInXKernelIdeal.τ).loc Cert.LruInXKernelIdeal.main_arg0) = m ((c.tc : Thread Cert.LruInXKernelIdeal.nD Cert.LruInXKernelIdeal.τ).loc Cert.LruInXKernelIdeal.main_arg0)
      ∧ r.2.mem ((c.tc : Thread Cert.LruInXKernelIdeal.nD Cert.LruInXKernelIdeal.τ).loc Cert.LruInXKernelIdeal.main_arg1) = m ((c.tc : Thread Cert.LruInXKernelIdeal.nD Cert.LruInXKernelIdeal.τ).loc Cert.LruInXKernelIdeal.main_arg1)
      ∧ r.2.mem ((c.tc : Thread Cert.LruInXKernelIdeal.nD Cert.LruInXKernelIdeal.τ).loc Cert.LruInXKernelIdeal.main_arg2) = m ((c.tc : Thread Cert.LruInXKernelIdeal.nD Cert.LruInXKernelIdeal.τ).loc Cert.LruInXKernelIdeal.main_arg2))
      ∧ r.2.sem = fun _ => 0)

def quiescent_LruInXReferenceIdeal [hLruInXReferenceIdeal : Cert.LruInXReferenceIdeal.Facts] : Prop :=
  ∀ (m : (ℓ : Loc Cert.LruInXReferenceIdeal.nD Cert.LruInXReferenceIdeal.τ Cert.LruInXReferenceIdeal.sig) → Buf (Elt Ideal) ℓ) (g : Dev Cert.LruInXReferenceIdeal.nD → PrngReg), Pre_LruInXReferenceIdeal m →
    θ_run (Cert.LruInXReferenceIdeal.defs (F := Ideal)) (onTc (τ := Cert.LruInXReferenceIdeal.τ) (Cert.LruInXReferenceIdeal.main (F := Ideal))) ⟨m, fun _ => 0, g⟩ (fun r => (∀ c : Dev Cert.LruInXReferenceIdeal.nD,
      r.2.mem ((c.tc : Thread Cert.LruInXReferenceIdeal.nD Cert.LruInXReferenceIdeal.τ).loc Cert.LruInXReferenceIdeal.main_arg0) = m ((c.tc : Thread Cert.LruInXReferenceIdeal.nD Cert.LruInXReferenceIdeal.τ).loc Cert.LruInXReferenceIdeal.main_arg0)
      ∧ r.2.mem ((c.tc : Thread Cert.LruInXReferenceIdeal.nD Cert.LruInXReferenceIdeal.τ).loc Cert.LruInXReferenceIdeal.main_arg1) = m ((c.tc : Thread Cert.LruInXReferenceIdeal.nD Cert.LruInXReferenceIdeal.τ).loc Cert.LruInXReferenceIdeal.main_arg1)
      ∧ r.2.mem ((c.tc : Thread Cert.LruInXReferenceIdeal.nD Cert.LruInXReferenceIdeal.τ).loc Cert.LruInXReferenceIdeal.main_arg2) = m ((c.tc : Thread Cert.LruInXReferenceIdeal.nD Cert.LruInXReferenceIdeal.τ).loc Cert.LruInXReferenceIdeal.main_arg2))
      ∧ r.2.sem = fun _ => 0)

def quiescent_LruInWKernel [hLruInWKernel : Cert.LruInWKernel.Facts] : Prop :=
  ∀ (m : (ℓ : Loc Cert.LruInWKernel.nD Cert.LruInWKernel.τ Cert.LruInWKernel.sig) → Buf (Elt Bits) ℓ) (g : Dev Cert.LruInWKernel.nD → PrngReg), Pre_LruInWKernel m →
    θ_run (Cert.LruInWKernel.defs (F := Bits)) (onTc (τ := Cert.LruInWKernel.τ) (Cert.LruInWKernel.main (F := Bits))) ⟨m, fun _ => 0, g⟩ (fun r => (∀ c : Dev Cert.LruInWKernel.nD,
      r.2.mem ((c.tc : Thread Cert.LruInWKernel.nD Cert.LruInWKernel.τ).loc Cert.LruInWKernel.main_arg0) = m ((c.tc : Thread Cert.LruInWKernel.nD Cert.LruInWKernel.τ).loc Cert.LruInWKernel.main_arg0)
      ∧ r.2.mem ((c.tc : Thread Cert.LruInWKernel.nD Cert.LruInWKernel.τ).loc Cert.LruInWKernel.main_arg1) = m ((c.tc : Thread Cert.LruInWKernel.nD Cert.LruInWKernel.τ).loc Cert.LruInWKernel.main_arg1)
      ∧ r.2.mem ((c.tc : Thread Cert.LruInWKernel.nD Cert.LruInWKernel.τ).loc Cert.LruInWKernel.main_arg2) = m ((c.tc : Thread Cert.LruInWKernel.nD Cert.LruInWKernel.τ).loc Cert.LruInWKernel.main_arg2))
      ∧ r.2.sem = fun _ => 0)

def quiescent_LruInWKernelIdeal [hLruInWKernelIdeal : Cert.LruInWKernelIdeal.Facts] : Prop :=
  ∀ (m : (ℓ : Loc Cert.LruInWKernelIdeal.nD Cert.LruInWKernelIdeal.τ Cert.LruInWKernelIdeal.sig) → Buf (Elt Ideal) ℓ) (g : Dev Cert.LruInWKernelIdeal.nD → PrngReg), Pre_LruInWKernelIdeal m →
    θ_run (Cert.LruInWKernelIdeal.defs (F := Ideal)) (onTc (τ := Cert.LruInWKernelIdeal.τ) (Cert.LruInWKernelIdeal.main (F := Ideal))) ⟨m, fun _ => 0, g⟩ (fun r => (∀ c : Dev Cert.LruInWKernelIdeal.nD,
      r.2.mem ((c.tc : Thread Cert.LruInWKernelIdeal.nD Cert.LruInWKernelIdeal.τ).loc Cert.LruInWKernelIdeal.main_arg0) = m ((c.tc : Thread Cert.LruInWKernelIdeal.nD Cert.LruInWKernelIdeal.τ).loc Cert.LruInWKernelIdeal.main_arg0)
      ∧ r.2.mem ((c.tc : Thread Cert.LruInWKernelIdeal.nD Cert.LruInWKernelIdeal.τ).loc Cert.LruInWKernelIdeal.main_arg1) = m ((c.tc : Thread Cert.LruInWKernelIdeal.nD Cert.LruInWKernelIdeal.τ).loc Cert.LruInWKernelIdeal.main_arg1)
      ∧ r.2.mem ((c.tc : Thread Cert.LruInWKernelIdeal.nD Cert.LruInWKernelIdeal.τ).loc Cert.LruInWKernelIdeal.main_arg2) = m ((c.tc : Thread Cert.LruInWKernelIdeal.nD Cert.LruInWKernelIdeal.τ).loc Cert.LruInWKernelIdeal.main_arg2))
      ∧ r.2.sem = fun _ => 0)

def quiescent_LruInWReferenceIdeal [hLruInWReferenceIdeal : Cert.LruInWReferenceIdeal.Facts] : Prop :=
  ∀ (m : (ℓ : Loc Cert.LruInWReferenceIdeal.nD Cert.LruInWReferenceIdeal.τ Cert.LruInWReferenceIdeal.sig) → Buf (Elt Ideal) ℓ) (g : Dev Cert.LruInWReferenceIdeal.nD → PrngReg), Pre_LruInWReferenceIdeal m →
    θ_run (Cert.LruInWReferenceIdeal.defs (F := Ideal)) (onTc (τ := Cert.LruInWReferenceIdeal.τ) (Cert.LruInWReferenceIdeal.main (F := Ideal))) ⟨m, fun _ => 0, g⟩ (fun r => (∀ c : Dev Cert.LruInWReferenceIdeal.nD,
      r.2.mem ((c.tc : Thread Cert.LruInWReferenceIdeal.nD Cert.LruInWReferenceIdeal.τ).loc Cert.LruInWReferenceIdeal.main_arg0) = m ((c.tc : Thread Cert.LruInWReferenceIdeal.nD Cert.LruInWReferenceIdeal.τ).loc Cert.LruInWReferenceIdeal.main_arg0)
      ∧ r.2.mem ((c.tc : Thread Cert.LruInWReferenceIdeal.nD Cert.LruInWReferenceIdeal.τ).loc Cert.LruInWReferenceIdeal.main_arg1) = m ((c.tc : Thread Cert.LruInWReferenceIdeal.nD Cert.LruInWReferenceIdeal.τ).loc Cert.LruInWReferenceIdeal.main_arg1)
      ∧ r.2.mem ((c.tc : Thread Cert.LruInWReferenceIdeal.nD Cert.LruInWReferenceIdeal.τ).loc Cert.LruInWReferenceIdeal.main_arg2) = m ((c.tc : Thread Cert.LruInWReferenceIdeal.nD Cert.LruInWReferenceIdeal.τ).loc Cert.LruInWReferenceIdeal.main_arg2))
      ∧ r.2.sem = fun _ => 0)

def quiescent_LruInKernel [hLruInKernel : Cert.LruInKernel.Facts] : Prop :=
  ∀ (m : (ℓ : Loc Cert.LruInKernel.nD Cert.LruInKernel.τ Cert.LruInKernel.sig) → Buf (Elt Bits) ℓ) (g : Dev Cert.LruInKernel.nD → PrngReg), Pre_LruInKernel m →
    θ_run (Cert.LruInKernel.defs (F := Bits)) (onTc (τ := Cert.LruInKernel.τ) (Cert.LruInKernel.main (F := Bits))) ⟨m, fun _ => 0, g⟩ (fun r => (∀ c : Dev Cert.LruInKernel.nD,
      r.2.mem ((c.tc : Thread Cert.LruInKernel.nD Cert.LruInKernel.τ).loc Cert.LruInKernel.main_arg0) = m ((c.tc : Thread Cert.LruInKernel.nD Cert.LruInKernel.τ).loc Cert.LruInKernel.main_arg0)
      ∧ r.2.mem ((c.tc : Thread Cert.LruInKernel.nD Cert.LruInKernel.τ).loc Cert.LruInKernel.main_arg1) = m ((c.tc : Thread Cert.LruInKernel.nD Cert.LruInKernel.τ).loc Cert.LruInKernel.main_arg1))
      ∧ r.2.sem = fun _ => 0)

def quiescent_LruInKernelIdeal [hLruInKernelIdeal : Cert.LruInKernelIdeal.Facts] : Prop :=
  ∀ (m : (ℓ : Loc Cert.LruInKernelIdeal.nD Cert.LruInKernelIdeal.τ Cert.LruInKernelIdeal.sig) → Buf (Elt Ideal) ℓ) (g : Dev Cert.LruInKernelIdeal.nD → PrngReg), Pre_LruInKernelIdeal m →
    θ_run (Cert.LruInKernelIdeal.defs (F := Ideal)) (onTc (τ := Cert.LruInKernelIdeal.τ) (Cert.LruInKernelIdeal.main (F := Ideal))) ⟨m, fun _ => 0, g⟩ (fun r => (∀ c : Dev Cert.LruInKernelIdeal.nD,
      r.2.mem ((c.tc : Thread Cert.LruInKernelIdeal.nD Cert.LruInKernelIdeal.τ).loc Cert.LruInKernelIdeal.main_arg0) = m ((c.tc : Thread Cert.LruInKernelIdeal.nD Cert.LruInKernelIdeal.τ).loc Cert.LruInKernelIdeal.main_arg0)
      ∧ r.2.mem ((c.tc : Thread Cert.LruInKernelIdeal.nD Cert.LruInKernelIdeal.τ).loc Cert.LruInKernelIdeal.main_arg1) = m ((c.tc : Thread Cert.LruInKernelIdeal.nD Cert.LruInKernelIdeal.τ).loc Cert.LruInKernelIdeal.main_arg1))
      ∧ r.2.sem = fun _ => 0)

def quiescent_LruInReferenceIdeal [hLruInReferenceIdeal : Cert.LruInReferenceIdeal.Facts] : Prop :=
  ∀ (m : (ℓ : Loc Cert.LruInReferenceIdeal.nD Cert.LruInReferenceIdeal.τ Cert.LruInReferenceIdeal.sig) → Buf (Elt Ideal) ℓ) (g : Dev Cert.LruInReferenceIdeal.nD → PrngReg), Pre_LruInReferenceIdeal m →
    θ_run (Cert.LruInReferenceIdeal.defs (F := Ideal)) (onTc (τ := Cert.LruInReferenceIdeal.τ) (Cert.LruInReferenceIdeal.main (F := Ideal))) ⟨m, fun _ => 0, g⟩ (fun r => (∀ c : Dev Cert.LruInReferenceIdeal.nD,
      r.2.mem ((c.tc : Thread Cert.LruInReferenceIdeal.nD Cert.LruInReferenceIdeal.τ).loc Cert.LruInReferenceIdeal.main_arg0) = m ((c.tc : Thread Cert.LruInReferenceIdeal.nD Cert.LruInReferenceIdeal.τ).loc Cert.LruInReferenceIdeal.main_arg0)
      ∧ r.2.mem ((c.tc : Thread Cert.LruInReferenceIdeal.nD Cert.LruInReferenceIdeal.τ).loc Cert.LruInReferenceIdeal.main_arg1) = m ((c.tc : Thread Cert.LruInReferenceIdeal.nD Cert.LruInReferenceIdeal.τ).loc Cert.LruInReferenceIdeal.main_arg1))
      ∧ r.2.sem = fun _ => 0)

def quiescent_LruOutKernel [hLruOutKernel : Cert.LruOutKernel.Facts] : Prop :=
  ∀ (m : (ℓ : Loc Cert.LruOutKernel.nD Cert.LruOutKernel.τ Cert.LruOutKernel.sig) → Buf (Elt Bits) ℓ) (g : Dev Cert.LruOutKernel.nD → PrngReg), Pre_LruOutKernel m →
    θ_run (Cert.LruOutKernel.defs (F := Bits)) (onTc (τ := Cert.LruOutKernel.τ) (Cert.LruOutKernel.main (F := Bits))) ⟨m, fun _ => 0, g⟩ (fun r => (∀ c : Dev Cert.LruOutKernel.nD,
      r.2.mem ((c.tc : Thread Cert.LruOutKernel.nD Cert.LruOutKernel.τ).loc Cert.LruOutKernel.main_arg0) = m ((c.tc : Thread Cert.LruOutKernel.nD Cert.LruOutKernel.τ).loc Cert.LruOutKernel.main_arg0)
      ∧ r.2.mem ((c.tc : Thread Cert.LruOutKernel.nD Cert.LruOutKernel.τ).loc Cert.LruOutKernel.main_arg1) = m ((c.tc : Thread Cert.LruOutKernel.nD Cert.LruOutKernel.τ).loc Cert.LruOutKernel.main_arg1)
      ∧ r.2.mem ((c.tc : Thread Cert.LruOutKernel.nD Cert.LruOutKernel.τ).loc Cert.LruOutKernel.main_arg2) = m ((c.tc : Thread Cert.LruOutKernel.nD Cert.LruOutKernel.τ).loc Cert.LruOutKernel.main_arg2))
      ∧ r.2.sem = fun _ => 0)

def quiescent_LruOutKernelIdeal [hLruOutKernelIdeal : Cert.LruOutKernelIdeal.Facts] : Prop :=
  ∀ (m : (ℓ : Loc Cert.LruOutKernelIdeal.nD Cert.LruOutKernelIdeal.τ Cert.LruOutKernelIdeal.sig) → Buf (Elt Ideal) ℓ) (g : Dev Cert.LruOutKernelIdeal.nD → PrngReg), Pre_LruOutKernelIdeal m →
    θ_run (Cert.LruOutKernelIdeal.defs (F := Ideal)) (onTc (τ := Cert.LruOutKernelIdeal.τ) (Cert.LruOutKernelIdeal.main (F := Ideal))) ⟨m, fun _ => 0, g⟩ (fun r => (∀ c : Dev Cert.LruOutKernelIdeal.nD,
      r.2.mem ((c.tc : Thread Cert.LruOutKernelIdeal.nD Cert.LruOutKernelIdeal.τ).loc Cert.LruOutKernelIdeal.main_arg0) = m ((c.tc : Thread Cert.LruOutKernelIdeal.nD Cert.LruOutKernelIdeal.τ).loc Cert.LruOutKernelIdeal.main_arg0)
      ∧ r.2.mem ((c.tc : Thread Cert.LruOutKernelIdeal.nD Cert.LruOutKernelIdeal.τ).loc Cert.LruOutKernelIdeal.main_arg1) = m ((c.tc : Thread Cert.LruOutKernelIdeal.nD Cert.LruOutKernelIdeal.τ).loc Cert.LruOutKernelIdeal.main_arg1)
      ∧ r.2.mem ((c.tc : Thread Cert.LruOutKernelIdeal.nD Cert.LruOutKernelIdeal.τ).loc Cert.LruOutKernelIdeal.main_arg2) = m ((c.tc : Thread Cert.LruOutKernelIdeal.nD Cert.LruOutKernelIdeal.τ).loc Cert.LruOutKernelIdeal.main_arg2))
      ∧ r.2.sem = fun _ => 0)

def quiescent_LruOutReferenceIdeal [hLruOutReferenceIdeal : Cert.LruOutReferenceIdeal.Facts] : Prop :=
  ∀ (m : (ℓ : Loc Cert.LruOutReferenceIdeal.nD Cert.LruOutReferenceIdeal.τ Cert.LruOutReferenceIdeal.sig) → Buf (Elt Ideal) ℓ) (g : Dev Cert.LruOutReferenceIdeal.nD → PrngReg), Pre_LruOutReferenceIdeal m →
    θ_run (Cert.LruOutReferenceIdeal.defs (F := Ideal)) (onTc (τ := Cert.LruOutReferenceIdeal.τ) (Cert.LruOutReferenceIdeal.main (F := Ideal))) ⟨m, fun _ => 0, g⟩ (fun r => (∀ c : Dev Cert.LruOutReferenceIdeal.nD,
      r.2.mem ((c.tc : Thread Cert.LruOutReferenceIdeal.nD Cert.LruOutReferenceIdeal.τ).loc Cert.LruOutReferenceIdeal.main_arg0) = m ((c.tc : Thread Cert.LruOutReferenceIdeal.nD Cert.LruOutReferenceIdeal.τ).loc Cert.LruOutReferenceIdeal.main_arg0)
      ∧ r.2.mem ((c.tc : Thread Cert.LruOutReferenceIdeal.nD Cert.LruOutReferenceIdeal.τ).loc Cert.LruOutReferenceIdeal.main_arg1) = m ((c.tc : Thread Cert.LruOutReferenceIdeal.nD Cert.LruOutReferenceIdeal.τ).loc Cert.LruOutReferenceIdeal.main_arg1)
      ∧ r.2.mem ((c.tc : Thread Cert.LruOutReferenceIdeal.nD Cert.LruOutReferenceIdeal.τ).loc Cert.LruOutReferenceIdeal.main_arg2) = m ((c.tc : Thread Cert.LruOutReferenceIdeal.nD Cert.LruOutReferenceIdeal.τ).loc Cert.LruOutReferenceIdeal.main_arg2))
      ∧ r.2.sem = fun _ => 0)

def quiescent_GateUpKernel [hGateUpKernel : Cert.GateUpKernel.Facts] : Prop :=
  ∀ (m : (ℓ : Loc Cert.GateUpKernel.nD Cert.GateUpKernel.τ Cert.GateUpKernel.sig) → Buf (Elt Bits) ℓ) (g : Dev Cert.GateUpKernel.nD → PrngReg), Pre_GateUpKernel m →
    θ_run (Cert.GateUpKernel.defs (F := Bits)) (onTc (τ := Cert.GateUpKernel.τ) (Cert.GateUpKernel.main (F := Bits))) ⟨m, fun _ => 0, g⟩ (fun r => (∀ c : Dev Cert.GateUpKernel.nD,
      r.2.mem ((c.tc : Thread Cert.GateUpKernel.nD Cert.GateUpKernel.τ).loc Cert.GateUpKernel.main_arg0) = m ((c.tc : Thread Cert.GateUpKernel.nD Cert.GateUpKernel.τ).loc Cert.GateUpKernel.main_arg0)
      ∧ r.2.mem ((c.tc : Thread Cert.GateUpKernel.nD Cert.GateUpKernel.τ).loc Cert.GateUpKernel.main_arg1) = m ((c.tc : Thread Cert.GateUpKernel.nD Cert.GateUpKernel.τ).loc Cert.GateUpKernel.main_arg1))
      ∧ r.2.sem = fun _ => 0)

def quiescent_GateUpKernelIdeal [hGateUpKernelIdeal : Cert.GateUpKernelIdeal.Facts] : Prop :=
  ∀ (m : (ℓ : Loc Cert.GateUpKernelIdeal.nD Cert.GateUpKernelIdeal.τ Cert.GateUpKernelIdeal.sig) → Buf (Elt Ideal) ℓ) (g : Dev Cert.GateUpKernelIdeal.nD → PrngReg), Pre_GateUpKernelIdeal m →
    θ_run (Cert.GateUpKernelIdeal.defs (F := Ideal)) (onTc (τ := Cert.GateUpKernelIdeal.τ) (Cert.GateUpKernelIdeal.main (F := Ideal))) ⟨m, fun _ => 0, g⟩ (fun r => (∀ c : Dev Cert.GateUpKernelIdeal.nD,
      r.2.mem ((c.tc : Thread Cert.GateUpKernelIdeal.nD Cert.GateUpKernelIdeal.τ).loc Cert.GateUpKernelIdeal.main_arg0) = m ((c.tc : Thread Cert.GateUpKernelIdeal.nD Cert.GateUpKernelIdeal.τ).loc Cert.GateUpKernelIdeal.main_arg0)
      ∧ r.2.mem ((c.tc : Thread Cert.GateUpKernelIdeal.nD Cert.GateUpKernelIdeal.τ).loc Cert.GateUpKernelIdeal.main_arg1) = m ((c.tc : Thread Cert.GateUpKernelIdeal.nD Cert.GateUpKernelIdeal.τ).loc Cert.GateUpKernelIdeal.main_arg1))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_MlaUkvKernel [hMlaUkvKernel : Cert.MlaUkvKernel.Facts] : Prop :=
  ∀ (m : (ℓ : Loc Cert.MlaUkvKernel.nD Cert.MlaUkvKernel.τ Cert.MlaUkvKernel.sig) → Buf (Elt Bits) ℓ) (g : Dev Cert.MlaUkvKernel.nD → PrngReg), Pre_MlaUkvKernel m →
    θ_run (Cert.MlaUkvKernel.defs (F := Bits)) (onTc (τ := Cert.MlaUkvKernel.τ) (Cert.MlaUkvKernel.main (F := Bits))) ⟨m, fun _ => 0, g⟩ (fun r => (∀ c : Dev Cert.MlaUkvKernel.nD,
      r.2.mem ((c.tc : Thread Cert.MlaUkvKernel.nD Cert.MlaUkvKernel.τ).loc Cert.MlaUkvKernel.main_arg0) = m ((c.tc : Thread Cert.MlaUkvKernel.nD Cert.MlaUkvKernel.τ).loc Cert.MlaUkvKernel.main_arg0)
      ∧ r.2.mem ((c.tc : Thread Cert.MlaUkvKernel.nD Cert.MlaUkvKernel.τ).loc Cert.MlaUkvKernel.main_arg1) = m ((c.tc : Thread Cert.MlaUkvKernel.nD Cert.MlaUkvKernel.τ).loc Cert.MlaUkvKernel.main_arg1))
      ∧ r.2.sem = fun _ => 0)

def quiescent_MlaUkvKernelIdeal [hMlaUkvKernelIdeal : Cert.MlaUkvKernelIdeal.Facts] : Prop :=
  ∀ (m : (ℓ : Loc Cert.MlaUkvKernelIdeal.nD Cert.MlaUkvKernelIdeal.τ Cert.MlaUkvKernelIdeal.sig) → Buf (Elt Ideal) ℓ) (g : Dev Cert.MlaUkvKernelIdeal.nD → PrngReg), Pre_MlaUkvKernelIdeal m →
    θ_run (Cert.MlaUkvKernelIdeal.defs (F := Ideal)) (onTc (τ := Cert.MlaUkvKernelIdeal.τ) (Cert.MlaUkvKernelIdeal.main (F := Ideal))) ⟨m, fun _ => 0, g⟩ (fun r => (∀ c : Dev Cert.MlaUkvKernelIdeal.nD,
      r.2.mem ((c.tc : Thread Cert.MlaUkvKernelIdeal.nD Cert.MlaUkvKernelIdeal.τ).loc Cert.MlaUkvKernelIdeal.main_arg0) = m ((c.tc : Thread Cert.MlaUkvKernelIdeal.nD Cert.MlaUkvKernelIdeal.τ).loc Cert.MlaUkvKernelIdeal.main_arg0)
      ∧ r.2.mem ((c.tc : Thread Cert.MlaUkvKernelIdeal.nD Cert.MlaUkvKernelIdeal.τ).loc Cert.MlaUkvKernelIdeal.main_arg1) = m ((c.tc : Thread Cert.MlaUkvKernelIdeal.nD Cert.MlaUkvKernelIdeal.τ).loc Cert.MlaUkvKernelIdeal.main_arg1))
      ∧ r.2.sem = fun _ => 0)

def quiescent_MlaUkvReferenceIdeal [hMlaUkvReferenceIdeal : Cert.MlaUkvReferenceIdeal.Facts] : Prop :=
  ∀ (m : (ℓ : Loc Cert.MlaUkvReferenceIdeal.nD Cert.MlaUkvReferenceIdeal.τ Cert.MlaUkvReferenceIdeal.sig) → Buf (Elt Ideal) ℓ) (g : Dev Cert.MlaUkvReferenceIdeal.nD → PrngReg), Pre_MlaUkvReferenceIdeal m →
    θ_run (Cert.MlaUkvReferenceIdeal.defs (F := Ideal)) (onTc (τ := Cert.MlaUkvReferenceIdeal.τ) (Cert.MlaUkvReferenceIdeal.main (F := Ideal))) ⟨m, fun _ => 0, g⟩ (fun r => (∀ c : Dev Cert.MlaUkvReferenceIdeal.nD,
      r.2.mem ((c.tc : Thread Cert.MlaUkvReferenceIdeal.nD Cert.MlaUkvReferenceIdeal.τ).loc Cert.MlaUkvReferenceIdeal.main_arg0) = m ((c.tc : Thread Cert.MlaUkvReferenceIdeal.nD Cert.MlaUkvReferenceIdeal.τ).loc Cert.MlaUkvReferenceIdeal.main_arg0)
      ∧ r.2.mem ((c.tc : Thread Cert.MlaUkvReferenceIdeal.nD Cert.MlaUkvReferenceIdeal.τ).loc Cert.MlaUkvReferenceIdeal.main_arg1) = m ((c.tc : Thread Cert.MlaUkvReferenceIdeal.nD Cert.MlaUkvReferenceIdeal.τ).loc Cert.MlaUkvReferenceIdeal.main_arg1))
      ∧ r.2.sem = fun _ => 0)

def quiescent_MlaUkvXKernel [hMlaUkvXKernel : Cert.MlaUkvXKernel.Facts] : Prop :=
  ∀ (m : (ℓ : Loc Cert.MlaUkvXKernel.nD Cert.MlaUkvXKernel.τ Cert.MlaUkvXKernel.sig) → Buf (Elt Bits) ℓ) (g : Dev Cert.MlaUkvXKernel.nD → PrngReg), Pre_MlaUkvXKernel m →
    θ_run (Cert.MlaUkvXKernel.defs (F := Bits)) (onTc (τ := Cert.MlaUkvXKernel.τ) (Cert.MlaUkvXKernel.main (F := Bits))) ⟨m, fun _ => 0, g⟩ (fun r => (∀ c : Dev Cert.MlaUkvXKernel.nD,
      r.2.mem ((c.tc : Thread Cert.MlaUkvXKernel.nD Cert.MlaUkvXKernel.τ).loc Cert.MlaUkvXKernel.main_arg0) = m ((c.tc : Thread Cert.MlaUkvXKernel.nD Cert.MlaUkvXKernel.τ).loc Cert.MlaUkvXKernel.main_arg0)
      ∧ r.2.mem ((c.tc : Thread Cert.MlaUkvXKernel.nD Cert.MlaUkvXKernel.τ).loc Cert.MlaUkvXKernel.main_arg1) = m ((c.tc : Thread Cert.MlaUkvXKernel.nD Cert.MlaUkvXKernel.τ).loc Cert.MlaUkvXKernel.main_arg1)
      ∧ r.2.mem ((c.tc : Thread Cert.MlaUkvXKernel.nD Cert.MlaUkvXKernel.τ).loc Cert.MlaUkvXKernel.main_arg2) = m ((c.tc : Thread Cert.MlaUkvXKernel.nD Cert.MlaUkvXKernel.τ).loc Cert.MlaUkvXKernel.main_arg2))
      ∧ r.2.sem = fun _ => 0)

def quiescent_MlaUkvXKernelIdeal [hMlaUkvXKernelIdeal : Cert.MlaUkvXKernelIdeal.Facts] : Prop :=
  ∀ (m : (ℓ : Loc Cert.MlaUkvXKernelIdeal.nD Cert.MlaUkvXKernelIdeal.τ Cert.MlaUkvXKernelIdeal.sig) → Buf (Elt Ideal) ℓ) (g : Dev Cert.MlaUkvXKernelIdeal.nD → PrngReg), Pre_MlaUkvXKernelIdeal m →
    θ_run (Cert.MlaUkvXKernelIdeal.defs (F := Ideal)) (onTc (τ := Cert.MlaUkvXKernelIdeal.τ) (Cert.MlaUkvXKernelIdeal.main (F := Ideal))) ⟨m, fun _ => 0, g⟩ (fun r => (∀ c : Dev Cert.MlaUkvXKernelIdeal.nD,
      r.2.mem ((c.tc : Thread Cert.MlaUkvXKernelIdeal.nD Cert.MlaUkvXKernelIdeal.τ).loc Cert.MlaUkvXKernelIdeal.main_arg0) = m ((c.tc : Thread Cert.MlaUkvXKernelIdeal.nD Cert.MlaUkvXKernelIdeal.τ).loc Cert.MlaUkvXKernelIdeal.main_arg0)
      ∧ r.2.mem ((c.tc : Thread Cert.MlaUkvXKernelIdeal.nD Cert.MlaUkvXKernelIdeal.τ).loc Cert.MlaUkvXKernelIdeal.main_arg1) = m ((c.tc : Thread Cert.MlaUkvXKernelIdeal.nD Cert.MlaUkvXKernelIdeal.τ).loc Cert.MlaUkvXKernelIdeal.main_arg1)
      ∧ r.2.mem ((c.tc : Thread Cert.MlaUkvXKernelIdeal.nD Cert.MlaUkvXKernelIdeal.τ).loc Cert.MlaUkvXKernelIdeal.main_arg2) = m ((c.tc : Thread Cert.MlaUkvXKernelIdeal.nD Cert.MlaUkvXKernelIdeal.τ).loc Cert.MlaUkvXKernelIdeal.main_arg2))
      ∧ r.2.sem = fun _ => 0)

def quiescent_MlaUkvXReferenceIdeal [hMlaUkvXReferenceIdeal : Cert.MlaUkvXReferenceIdeal.Facts] : Prop :=
  ∀ (m : (ℓ : Loc Cert.MlaUkvXReferenceIdeal.nD Cert.MlaUkvXReferenceIdeal.τ Cert.MlaUkvXReferenceIdeal.sig) → Buf (Elt Ideal) ℓ) (g : Dev Cert.MlaUkvXReferenceIdeal.nD → PrngReg), Pre_MlaUkvXReferenceIdeal m →
    θ_run (Cert.MlaUkvXReferenceIdeal.defs (F := Ideal)) (onTc (τ := Cert.MlaUkvXReferenceIdeal.τ) (Cert.MlaUkvXReferenceIdeal.main (F := Ideal))) ⟨m, fun _ => 0, g⟩ (fun r => (∀ c : Dev Cert.MlaUkvXReferenceIdeal.nD,
      r.2.mem ((c.tc : Thread Cert.MlaUkvXReferenceIdeal.nD Cert.MlaUkvXReferenceIdeal.τ).loc Cert.MlaUkvXReferenceIdeal.main_arg0) = m ((c.tc : Thread Cert.MlaUkvXReferenceIdeal.nD Cert.MlaUkvXReferenceIdeal.τ).loc Cert.MlaUkvXReferenceIdeal.main_arg0)
      ∧ r.2.mem ((c.tc : Thread Cert.MlaUkvXReferenceIdeal.nD Cert.MlaUkvXReferenceIdeal.τ).loc Cert.MlaUkvXReferenceIdeal.main_arg1) = m ((c.tc : Thread Cert.MlaUkvXReferenceIdeal.nD Cert.MlaUkvXReferenceIdeal.τ).loc Cert.MlaUkvXReferenceIdeal.main_arg1)
      ∧ r.2.mem ((c.tc : Thread Cert.MlaUkvXReferenceIdeal.nD Cert.MlaUkvXReferenceIdeal.τ).loc Cert.MlaUkvXReferenceIdeal.main_arg2) = m ((c.tc : Thread Cert.MlaUkvXReferenceIdeal.nD Cert.MlaUkvXReferenceIdeal.τ).loc Cert.MlaUkvXReferenceIdeal.main_arg2))
      ∧ r.2.sem = fun _ => 0)

def quiescent_MlaUkvWKernel [hMlaUkvWKernel : Cert.MlaUkvWKernel.Facts] : Prop :=
  ∀ (m : (ℓ : Loc Cert.MlaUkvWKernel.nD Cert.MlaUkvWKernel.τ Cert.MlaUkvWKernel.sig) → Buf (Elt Bits) ℓ) (g : Dev Cert.MlaUkvWKernel.nD → PrngReg), Pre_MlaUkvWKernel m →
    θ_run (Cert.MlaUkvWKernel.defs (F := Bits)) (onTc (τ := Cert.MlaUkvWKernel.τ) (Cert.MlaUkvWKernel.main (F := Bits))) ⟨m, fun _ => 0, g⟩ (fun r => (∀ c : Dev Cert.MlaUkvWKernel.nD,
      r.2.mem ((c.tc : Thread Cert.MlaUkvWKernel.nD Cert.MlaUkvWKernel.τ).loc Cert.MlaUkvWKernel.main_arg0) = m ((c.tc : Thread Cert.MlaUkvWKernel.nD Cert.MlaUkvWKernel.τ).loc Cert.MlaUkvWKernel.main_arg0)
      ∧ r.2.mem ((c.tc : Thread Cert.MlaUkvWKernel.nD Cert.MlaUkvWKernel.τ).loc Cert.MlaUkvWKernel.main_arg1) = m ((c.tc : Thread Cert.MlaUkvWKernel.nD Cert.MlaUkvWKernel.τ).loc Cert.MlaUkvWKernel.main_arg1)
      ∧ r.2.mem ((c.tc : Thread Cert.MlaUkvWKernel.nD Cert.MlaUkvWKernel.τ).loc Cert.MlaUkvWKernel.main_arg2) = m ((c.tc : Thread Cert.MlaUkvWKernel.nD Cert.MlaUkvWKernel.τ).loc Cert.MlaUkvWKernel.main_arg2))
      ∧ r.2.sem = fun _ => 0)

def quiescent_MlaUkvWKernelIdeal [hMlaUkvWKernelIdeal : Cert.MlaUkvWKernelIdeal.Facts] : Prop :=
  ∀ (m : (ℓ : Loc Cert.MlaUkvWKernelIdeal.nD Cert.MlaUkvWKernelIdeal.τ Cert.MlaUkvWKernelIdeal.sig) → Buf (Elt Ideal) ℓ) (g : Dev Cert.MlaUkvWKernelIdeal.nD → PrngReg), Pre_MlaUkvWKernelIdeal m →
    θ_run (Cert.MlaUkvWKernelIdeal.defs (F := Ideal)) (onTc (τ := Cert.MlaUkvWKernelIdeal.τ) (Cert.MlaUkvWKernelIdeal.main (F := Ideal))) ⟨m, fun _ => 0, g⟩ (fun r => (∀ c : Dev Cert.MlaUkvWKernelIdeal.nD,
      r.2.mem ((c.tc : Thread Cert.MlaUkvWKernelIdeal.nD Cert.MlaUkvWKernelIdeal.τ).loc Cert.MlaUkvWKernelIdeal.main_arg0) = m ((c.tc : Thread Cert.MlaUkvWKernelIdeal.nD Cert.MlaUkvWKernelIdeal.τ).loc Cert.MlaUkvWKernelIdeal.main_arg0)
      ∧ r.2.mem ((c.tc : Thread Cert.MlaUkvWKernelIdeal.nD Cert.MlaUkvWKernelIdeal.τ).loc Cert.MlaUkvWKernelIdeal.main_arg1) = m ((c.tc : Thread Cert.MlaUkvWKernelIdeal.nD Cert.MlaUkvWKernelIdeal.τ).loc Cert.MlaUkvWKernelIdeal.main_arg1)
      ∧ r.2.mem ((c.tc : Thread Cert.MlaUkvWKernelIdeal.nD Cert.MlaUkvWKernelIdeal.τ).loc Cert.MlaUkvWKernelIdeal.main_arg2) = m ((c.tc : Thread Cert.MlaUkvWKernelIdeal.nD Cert.MlaUkvWKernelIdeal.τ).loc Cert.MlaUkvWKernelIdeal.main_arg2))
      ∧ r.2.sem = fun _ => 0)

def quiescent_MlaUkvWReferenceIdeal [hMlaUkvWReferenceIdeal : Cert.MlaUkvWReferenceIdeal.Facts] : Prop :=
  ∀ (m : (ℓ : Loc Cert.MlaUkvWReferenceIdeal.nD Cert.MlaUkvWReferenceIdeal.τ Cert.MlaUkvWReferenceIdeal.sig) → Buf (Elt Ideal) ℓ) (g : Dev Cert.MlaUkvWReferenceIdeal.nD → PrngReg), Pre_MlaUkvWReferenceIdeal m →
    θ_run (Cert.MlaUkvWReferenceIdeal.defs (F := Ideal)) (onTc (τ := Cert.MlaUkvWReferenceIdeal.τ) (Cert.MlaUkvWReferenceIdeal.main (F := Ideal))) ⟨m, fun _ => 0, g⟩ (fun r => (∀ c : Dev Cert.MlaUkvWReferenceIdeal.nD,
      r.2.mem ((c.tc : Thread Cert.MlaUkvWReferenceIdeal.nD Cert.MlaUkvWReferenceIdeal.τ).loc Cert.MlaUkvWReferenceIdeal.main_arg0) = m ((c.tc : Thread Cert.MlaUkvWReferenceIdeal.nD Cert.MlaUkvWReferenceIdeal.τ).loc Cert.MlaUkvWReferenceIdeal.main_arg0)
      ∧ r.2.mem ((c.tc : Thread Cert.MlaUkvWReferenceIdeal.nD Cert.MlaUkvWReferenceIdeal.τ).loc Cert.MlaUkvWReferenceIdeal.main_arg1) = m ((c.tc : Thread Cert.MlaUkvWReferenceIdeal.nD Cert.MlaUkvWReferenceIdeal.τ).loc Cert.MlaUkvWReferenceIdeal.main_arg1)
      ∧ r.2.mem ((c.tc : Thread Cert.MlaUkvWReferenceIdeal.nD Cert.MlaUkvWReferenceIdeal.τ).loc Cert.MlaUkvWReferenceIdeal.main_arg2) = m ((c.tc : Thread Cert.MlaUkvWReferenceIdeal.nD Cert.MlaUkvWReferenceIdeal.τ).loc Cert.MlaUkvWReferenceIdeal.main_arg2))
      ∧ r.2.sem = fun _ => 0)

def quiescent_MlaInKernel [hMlaInKernel : Cert.MlaInKernel.Facts] : Prop :=
  ∀ (m : (ℓ : Loc Cert.MlaInKernel.nD Cert.MlaInKernel.τ Cert.MlaInKernel.sig) → Buf (Elt Bits) ℓ) (g : Dev Cert.MlaInKernel.nD → PrngReg), Pre_MlaInKernel m →
    θ_run (Cert.MlaInKernel.defs (F := Bits)) (onTc (τ := Cert.MlaInKernel.τ) (Cert.MlaInKernel.main (F := Bits))) ⟨m, fun _ => 0, g⟩ (fun r => (∀ c : Dev Cert.MlaInKernel.nD,
      r.2.mem ((c.tc : Thread Cert.MlaInKernel.nD Cert.MlaInKernel.τ).loc Cert.MlaInKernel.main_arg0) = m ((c.tc : Thread Cert.MlaInKernel.nD Cert.MlaInKernel.τ).loc Cert.MlaInKernel.main_arg0)
      ∧ r.2.mem ((c.tc : Thread Cert.MlaInKernel.nD Cert.MlaInKernel.τ).loc Cert.MlaInKernel.main_arg1) = m ((c.tc : Thread Cert.MlaInKernel.nD Cert.MlaInKernel.τ).loc Cert.MlaInKernel.main_arg1))
      ∧ r.2.sem = fun _ => 0)

def quiescent_MlaInKernelIdeal [hMlaInKernelIdeal : Cert.MlaInKernelIdeal.Facts] : Prop :=
  ∀ (m : (ℓ : Loc Cert.MlaInKernelIdeal.nD Cert.MlaInKernelIdeal.τ Cert.MlaInKernelIdeal.sig) → Buf (Elt Ideal) ℓ) (g : Dev Cert.MlaInKernelIdeal.nD → PrngReg), Pre_MlaInKernelIdeal m →
    θ_run (Cert.MlaInKernelIdeal.defs (F := Ideal)) (onTc (τ := Cert.MlaInKernelIdeal.τ) (Cert.MlaInKernelIdeal.main (F := Ideal))) ⟨m, fun _ => 0, g⟩ (fun r => (∀ c : Dev Cert.MlaInKernelIdeal.nD,
      r.2.mem ((c.tc : Thread Cert.MlaInKernelIdeal.nD Cert.MlaInKernelIdeal.τ).loc Cert.MlaInKernelIdeal.main_arg0) = m ((c.tc : Thread Cert.MlaInKernelIdeal.nD Cert.MlaInKernelIdeal.τ).loc Cert.MlaInKernelIdeal.main_arg0)
      ∧ r.2.mem ((c.tc : Thread Cert.MlaInKernelIdeal.nD Cert.MlaInKernelIdeal.τ).loc Cert.MlaInKernelIdeal.main_arg1) = m ((c.tc : Thread Cert.MlaInKernelIdeal.nD Cert.MlaInKernelIdeal.τ).loc Cert.MlaInKernelIdeal.main_arg1))
      ∧ r.2.sem = fun _ => 0)

def quiescent_MlaInReferenceIdeal [hMlaInReferenceIdeal : Cert.MlaInReferenceIdeal.Facts] : Prop :=
  ∀ (m : (ℓ : Loc Cert.MlaInReferenceIdeal.nD Cert.MlaInReferenceIdeal.τ Cert.MlaInReferenceIdeal.sig) → Buf (Elt Ideal) ℓ) (g : Dev Cert.MlaInReferenceIdeal.nD → PrngReg), Pre_MlaInReferenceIdeal m →
    θ_run (Cert.MlaInReferenceIdeal.defs (F := Ideal)) (onTc (τ := Cert.MlaInReferenceIdeal.τ) (Cert.MlaInReferenceIdeal.main (F := Ideal))) ⟨m, fun _ => 0, g⟩ (fun r => (∀ c : Dev Cert.MlaInReferenceIdeal.nD,
      r.2.mem ((c.tc : Thread Cert.MlaInReferenceIdeal.nD Cert.MlaInReferenceIdeal.τ).loc Cert.MlaInReferenceIdeal.main_arg0) = m ((c.tc : Thread Cert.MlaInReferenceIdeal.nD Cert.MlaInReferenceIdeal.τ).loc Cert.MlaInReferenceIdeal.main_arg0)
      ∧ r.2.mem ((c.tc : Thread Cert.MlaInReferenceIdeal.nD Cert.MlaInReferenceIdeal.τ).loc Cert.MlaInReferenceIdeal.main_arg1) = m ((c.tc : Thread Cert.MlaInReferenceIdeal.nD Cert.MlaInReferenceIdeal.τ).loc Cert.MlaInReferenceIdeal.main_arg1))
      ∧ r.2.sem = fun _ => 0)

def quiescent_MlaInXKernel [hMlaInXKernel : Cert.MlaInXKernel.Facts] : Prop :=
  ∀ (m : (ℓ : Loc Cert.MlaInXKernel.nD Cert.MlaInXKernel.τ Cert.MlaInXKernel.sig) → Buf (Elt Bits) ℓ) (g : Dev Cert.MlaInXKernel.nD → PrngReg), Pre_MlaInXKernel m →
    θ_run (Cert.MlaInXKernel.defs (F := Bits)) (onTc (τ := Cert.MlaInXKernel.τ) (Cert.MlaInXKernel.main (F := Bits))) ⟨m, fun _ => 0, g⟩ (fun r => (∀ c : Dev Cert.MlaInXKernel.nD,
      r.2.mem ((c.tc : Thread Cert.MlaInXKernel.nD Cert.MlaInXKernel.τ).loc Cert.MlaInXKernel.main_arg0) = m ((c.tc : Thread Cert.MlaInXKernel.nD Cert.MlaInXKernel.τ).loc Cert.MlaInXKernel.main_arg0)
      ∧ r.2.mem ((c.tc : Thread Cert.MlaInXKernel.nD Cert.MlaInXKernel.τ).loc Cert.MlaInXKernel.main_arg1) = m ((c.tc : Thread Cert.MlaInXKernel.nD Cert.MlaInXKernel.τ).loc Cert.MlaInXKernel.main_arg1)
      ∧ r.2.mem ((c.tc : Thread Cert.MlaInXKernel.nD Cert.MlaInXKernel.τ).loc Cert.MlaInXKernel.main_arg2) = m ((c.tc : Thread Cert.MlaInXKernel.nD Cert.MlaInXKernel.τ).loc Cert.MlaInXKernel.main_arg2))
      ∧ r.2.sem = fun _ => 0)

def quiescent_MlaInXKernelIdeal [hMlaInXKernelIdeal : Cert.MlaInXKernelIdeal.Facts] : Prop :=
  ∀ (m : (ℓ : Loc Cert.MlaInXKernelIdeal.nD Cert.MlaInXKernelIdeal.τ Cert.MlaInXKernelIdeal.sig) → Buf (Elt Ideal) ℓ) (g : Dev Cert.MlaInXKernelIdeal.nD → PrngReg), Pre_MlaInXKernelIdeal m →
    θ_run (Cert.MlaInXKernelIdeal.defs (F := Ideal)) (onTc (τ := Cert.MlaInXKernelIdeal.τ) (Cert.MlaInXKernelIdeal.main (F := Ideal))) ⟨m, fun _ => 0, g⟩ (fun r => (∀ c : Dev Cert.MlaInXKernelIdeal.nD,
      r.2.mem ((c.tc : Thread Cert.MlaInXKernelIdeal.nD Cert.MlaInXKernelIdeal.τ).loc Cert.MlaInXKernelIdeal.main_arg0) = m ((c.tc : Thread Cert.MlaInXKernelIdeal.nD Cert.MlaInXKernelIdeal.τ).loc Cert.MlaInXKernelIdeal.main_arg0)
      ∧ r.2.mem ((c.tc : Thread Cert.MlaInXKernelIdeal.nD Cert.MlaInXKernelIdeal.τ).loc Cert.MlaInXKernelIdeal.main_arg1) = m ((c.tc : Thread Cert.MlaInXKernelIdeal.nD Cert.MlaInXKernelIdeal.τ).loc Cert.MlaInXKernelIdeal.main_arg1)
      ∧ r.2.mem ((c.tc : Thread Cert.MlaInXKernelIdeal.nD Cert.MlaInXKernelIdeal.τ).loc Cert.MlaInXKernelIdeal.main_arg2) = m ((c.tc : Thread Cert.MlaInXKernelIdeal.nD Cert.MlaInXKernelIdeal.τ).loc Cert.MlaInXKernelIdeal.main_arg2))
      ∧ r.2.sem = fun _ => 0)

def quiescent_MlaInXReferenceIdeal [hMlaInXReferenceIdeal : Cert.MlaInXReferenceIdeal.Facts] : Prop :=
  ∀ (m : (ℓ : Loc Cert.MlaInXReferenceIdeal.nD Cert.MlaInXReferenceIdeal.τ Cert.MlaInXReferenceIdeal.sig) → Buf (Elt Ideal) ℓ) (g : Dev Cert.MlaInXReferenceIdeal.nD → PrngReg), Pre_MlaInXReferenceIdeal m →
    θ_run (Cert.MlaInXReferenceIdeal.defs (F := Ideal)) (onTc (τ := Cert.MlaInXReferenceIdeal.τ) (Cert.MlaInXReferenceIdeal.main (F := Ideal))) ⟨m, fun _ => 0, g⟩ (fun r => (∀ c : Dev Cert.MlaInXReferenceIdeal.nD,
      r.2.mem ((c.tc : Thread Cert.MlaInXReferenceIdeal.nD Cert.MlaInXReferenceIdeal.τ).loc Cert.MlaInXReferenceIdeal.main_arg0) = m ((c.tc : Thread Cert.MlaInXReferenceIdeal.nD Cert.MlaInXReferenceIdeal.τ).loc Cert.MlaInXReferenceIdeal.main_arg0)
      ∧ r.2.mem ((c.tc : Thread Cert.MlaInXReferenceIdeal.nD Cert.MlaInXReferenceIdeal.τ).loc Cert.MlaInXReferenceIdeal.main_arg1) = m ((c.tc : Thread Cert.MlaInXReferenceIdeal.nD Cert.MlaInXReferenceIdeal.τ).loc Cert.MlaInXReferenceIdeal.main_arg1)
      ∧ r.2.mem ((c.tc : Thread Cert.MlaInXReferenceIdeal.nD Cert.MlaInXReferenceIdeal.τ).loc Cert.MlaInXReferenceIdeal.main_arg2) = m ((c.tc : Thread Cert.MlaInXReferenceIdeal.nD Cert.MlaInXReferenceIdeal.τ).loc Cert.MlaInXReferenceIdeal.main_arg2))
      ∧ r.2.sem = fun _ => 0)

def quiescent_MlaInWKernel [hMlaInWKernel : Cert.MlaInWKernel.Facts] : Prop :=
  ∀ (m : (ℓ : Loc Cert.MlaInWKernel.nD Cert.MlaInWKernel.τ Cert.MlaInWKernel.sig) → Buf (Elt Bits) ℓ) (g : Dev Cert.MlaInWKernel.nD → PrngReg), Pre_MlaInWKernel m →
    θ_run (Cert.MlaInWKernel.defs (F := Bits)) (onTc (τ := Cert.MlaInWKernel.τ) (Cert.MlaInWKernel.main (F := Bits))) ⟨m, fun _ => 0, g⟩ (fun r => (∀ c : Dev Cert.MlaInWKernel.nD,
      r.2.mem ((c.tc : Thread Cert.MlaInWKernel.nD Cert.MlaInWKernel.τ).loc Cert.MlaInWKernel.main_arg0) = m ((c.tc : Thread Cert.MlaInWKernel.nD Cert.MlaInWKernel.τ).loc Cert.MlaInWKernel.main_arg0)
      ∧ r.2.mem ((c.tc : Thread Cert.MlaInWKernel.nD Cert.MlaInWKernel.τ).loc Cert.MlaInWKernel.main_arg1) = m ((c.tc : Thread Cert.MlaInWKernel.nD Cert.MlaInWKernel.τ).loc Cert.MlaInWKernel.main_arg1)
      ∧ r.2.mem ((c.tc : Thread Cert.MlaInWKernel.nD Cert.MlaInWKernel.τ).loc Cert.MlaInWKernel.main_arg2) = m ((c.tc : Thread Cert.MlaInWKernel.nD Cert.MlaInWKernel.τ).loc Cert.MlaInWKernel.main_arg2))
      ∧ r.2.sem = fun _ => 0)

def quiescent_MlaInWKernelIdeal [hMlaInWKernelIdeal : Cert.MlaInWKernelIdeal.Facts] : Prop :=
  ∀ (m : (ℓ : Loc Cert.MlaInWKernelIdeal.nD Cert.MlaInWKernelIdeal.τ Cert.MlaInWKernelIdeal.sig) → Buf (Elt Ideal) ℓ) (g : Dev Cert.MlaInWKernelIdeal.nD → PrngReg), Pre_MlaInWKernelIdeal m →
    θ_run (Cert.MlaInWKernelIdeal.defs (F := Ideal)) (onTc (τ := Cert.MlaInWKernelIdeal.τ) (Cert.MlaInWKernelIdeal.main (F := Ideal))) ⟨m, fun _ => 0, g⟩ (fun r => (∀ c : Dev Cert.MlaInWKernelIdeal.nD,
      r.2.mem ((c.tc : Thread Cert.MlaInWKernelIdeal.nD Cert.MlaInWKernelIdeal.τ).loc Cert.MlaInWKernelIdeal.main_arg0) = m ((c.tc : Thread Cert.MlaInWKernelIdeal.nD Cert.MlaInWKernelIdeal.τ).loc Cert.MlaInWKernelIdeal.main_arg0)
      ∧ r.2.mem ((c.tc : Thread Cert.MlaInWKernelIdeal.nD Cert.MlaInWKernelIdeal.τ).loc Cert.MlaInWKernelIdeal.main_arg1) = m ((c.tc : Thread Cert.MlaInWKernelIdeal.nD Cert.MlaInWKernelIdeal.τ).loc Cert.MlaInWKernelIdeal.main_arg1)
      ∧ r.2.mem ((c.tc : Thread Cert.MlaInWKernelIdeal.nD Cert.MlaInWKernelIdeal.τ).loc Cert.MlaInWKernelIdeal.main_arg2) = m ((c.tc : Thread Cert.MlaInWKernelIdeal.nD Cert.MlaInWKernelIdeal.τ).loc Cert.MlaInWKernelIdeal.main_arg2))
      ∧ r.2.sem = fun _ => 0)

def quiescent_MlaInWReferenceIdeal [hMlaInWReferenceIdeal : Cert.MlaInWReferenceIdeal.Facts] : Prop :=
  ∀ (m : (ℓ : Loc Cert.MlaInWReferenceIdeal.nD Cert.MlaInWReferenceIdeal.τ Cert.MlaInWReferenceIdeal.sig) → Buf (Elt Ideal) ℓ) (g : Dev Cert.MlaInWReferenceIdeal.nD → PrngReg), Pre_MlaInWReferenceIdeal m →
    θ_run (Cert.MlaInWReferenceIdeal.defs (F := Ideal)) (onTc (τ := Cert.MlaInWReferenceIdeal.τ) (Cert.MlaInWReferenceIdeal.main (F := Ideal))) ⟨m, fun _ => 0, g⟩ (fun r => (∀ c : Dev Cert.MlaInWReferenceIdeal.nD,
      r.2.mem ((c.tc : Thread Cert.MlaInWReferenceIdeal.nD Cert.MlaInWReferenceIdeal.τ).loc Cert.MlaInWReferenceIdeal.main_arg0) = m ((c.tc : Thread Cert.MlaInWReferenceIdeal.nD Cert.MlaInWReferenceIdeal.τ).loc Cert.MlaInWReferenceIdeal.main_arg0)
      ∧ r.2.mem ((c.tc : Thread Cert.MlaInWReferenceIdeal.nD Cert.MlaInWReferenceIdeal.τ).loc Cert.MlaInWReferenceIdeal.main_arg1) = m ((c.tc : Thread Cert.MlaInWReferenceIdeal.nD Cert.MlaInWReferenceIdeal.τ).loc Cert.MlaInWReferenceIdeal.main_arg1)
      ∧ r.2.mem ((c.tc : Thread Cert.MlaInWReferenceIdeal.nD Cert.MlaInWReferenceIdeal.τ).loc Cert.MlaInWReferenceIdeal.main_arg2) = m ((c.tc : Thread Cert.MlaInWReferenceIdeal.nD Cert.MlaInWReferenceIdeal.τ).loc Cert.MlaInWReferenceIdeal.main_arg2))
      ∧ r.2.sem = fun _ => 0)

def quiescent_MlaUqKernel [hMlaUqKernel : Cert.MlaUqKernel.Facts] : Prop :=
  ∀ (m : (ℓ : Loc Cert.MlaUqKernel.nD Cert.MlaUqKernel.τ Cert.MlaUqKernel.sig) → Buf (Elt Bits) ℓ) (g : Dev Cert.MlaUqKernel.nD → PrngReg), Pre_MlaUqKernel m →
    θ_run (Cert.MlaUqKernel.defs (F := Bits)) (onTc (τ := Cert.MlaUqKernel.τ) (Cert.MlaUqKernel.main (F := Bits))) ⟨m, fun _ => 0, g⟩ (fun r => (∀ c : Dev Cert.MlaUqKernel.nD,
      r.2.mem ((c.tc : Thread Cert.MlaUqKernel.nD Cert.MlaUqKernel.τ).loc Cert.MlaUqKernel.main_arg0) = m ((c.tc : Thread Cert.MlaUqKernel.nD Cert.MlaUqKernel.τ).loc Cert.MlaUqKernel.main_arg0)
      ∧ r.2.mem ((c.tc : Thread Cert.MlaUqKernel.nD Cert.MlaUqKernel.τ).loc Cert.MlaUqKernel.main_arg1) = m ((c.tc : Thread Cert.MlaUqKernel.nD Cert.MlaUqKernel.τ).loc Cert.MlaUqKernel.main_arg1))
      ∧ r.2.sem = fun _ => 0)

def quiescent_MlaUqKernelIdeal [hMlaUqKernelIdeal : Cert.MlaUqKernelIdeal.Facts] : Prop :=
  ∀ (m : (ℓ : Loc Cert.MlaUqKernelIdeal.nD Cert.MlaUqKernelIdeal.τ Cert.MlaUqKernelIdeal.sig) → Buf (Elt Ideal) ℓ) (g : Dev Cert.MlaUqKernelIdeal.nD → PrngReg), Pre_MlaUqKernelIdeal m →
    θ_run (Cert.MlaUqKernelIdeal.defs (F := Ideal)) (onTc (τ := Cert.MlaUqKernelIdeal.τ) (Cert.MlaUqKernelIdeal.main (F := Ideal))) ⟨m, fun _ => 0, g⟩ (fun r => (∀ c : Dev Cert.MlaUqKernelIdeal.nD,
      r.2.mem ((c.tc : Thread Cert.MlaUqKernelIdeal.nD Cert.MlaUqKernelIdeal.τ).loc Cert.MlaUqKernelIdeal.main_arg0) = m ((c.tc : Thread Cert.MlaUqKernelIdeal.nD Cert.MlaUqKernelIdeal.τ).loc Cert.MlaUqKernelIdeal.main_arg0)
      ∧ r.2.mem ((c.tc : Thread Cert.MlaUqKernelIdeal.nD Cert.MlaUqKernelIdeal.τ).loc Cert.MlaUqKernelIdeal.main_arg1) = m ((c.tc : Thread Cert.MlaUqKernelIdeal.nD Cert.MlaUqKernelIdeal.τ).loc Cert.MlaUqKernelIdeal.main_arg1))
      ∧ r.2.sem = fun _ => 0)

def quiescent_MlaUqReferenceIdeal [hMlaUqReferenceIdeal : Cert.MlaUqReferenceIdeal.Facts] : Prop :=
  ∀ (m : (ℓ : Loc Cert.MlaUqReferenceIdeal.nD Cert.MlaUqReferenceIdeal.τ Cert.MlaUqReferenceIdeal.sig) → Buf (Elt Ideal) ℓ) (g : Dev Cert.MlaUqReferenceIdeal.nD → PrngReg), Pre_MlaUqReferenceIdeal m →
    θ_run (Cert.MlaUqReferenceIdeal.defs (F := Ideal)) (onTc (τ := Cert.MlaUqReferenceIdeal.τ) (Cert.MlaUqReferenceIdeal.main (F := Ideal))) ⟨m, fun _ => 0, g⟩ (fun r => (∀ c : Dev Cert.MlaUqReferenceIdeal.nD,
      r.2.mem ((c.tc : Thread Cert.MlaUqReferenceIdeal.nD Cert.MlaUqReferenceIdeal.τ).loc Cert.MlaUqReferenceIdeal.main_arg0) = m ((c.tc : Thread Cert.MlaUqReferenceIdeal.nD Cert.MlaUqReferenceIdeal.τ).loc Cert.MlaUqReferenceIdeal.main_arg0)
      ∧ r.2.mem ((c.tc : Thread Cert.MlaUqReferenceIdeal.nD Cert.MlaUqReferenceIdeal.τ).loc Cert.MlaUqReferenceIdeal.main_arg1) = m ((c.tc : Thread Cert.MlaUqReferenceIdeal.nD Cert.MlaUqReferenceIdeal.τ).loc Cert.MlaUqReferenceIdeal.main_arg1))
      ∧ r.2.sem = fun _ => 0)

def quiescent_MlaUqXKernel [hMlaUqXKernel : Cert.MlaUqXKernel.Facts] : Prop :=
  ∀ (m : (ℓ : Loc Cert.MlaUqXKernel.nD Cert.MlaUqXKernel.τ Cert.MlaUqXKernel.sig) → Buf (Elt Bits) ℓ) (g : Dev Cert.MlaUqXKernel.nD → PrngReg), Pre_MlaUqXKernel m →
    θ_run (Cert.MlaUqXKernel.defs (F := Bits)) (onTc (τ := Cert.MlaUqXKernel.τ) (Cert.MlaUqXKernel.main (F := Bits))) ⟨m, fun _ => 0, g⟩ (fun r => (∀ c : Dev Cert.MlaUqXKernel.nD,
      r.2.mem ((c.tc : Thread Cert.MlaUqXKernel.nD Cert.MlaUqXKernel.τ).loc Cert.MlaUqXKernel.main_arg0) = m ((c.tc : Thread Cert.MlaUqXKernel.nD Cert.MlaUqXKernel.τ).loc Cert.MlaUqXKernel.main_arg0)
      ∧ r.2.mem ((c.tc : Thread Cert.MlaUqXKernel.nD Cert.MlaUqXKernel.τ).loc Cert.MlaUqXKernel.main_arg1) = m ((c.tc : Thread Cert.MlaUqXKernel.nD Cert.MlaUqXKernel.τ).loc Cert.MlaUqXKernel.main_arg1)
      ∧ r.2.mem ((c.tc : Thread Cert.MlaUqXKernel.nD Cert.MlaUqXKernel.τ).loc Cert.MlaUqXKernel.main_arg2) = m ((c.tc : Thread Cert.MlaUqXKernel.nD Cert.MlaUqXKernel.τ).loc Cert.MlaUqXKernel.main_arg2)
      ∧ r.2.mem ((c.tc : Thread Cert.MlaUqXKernel.nD Cert.MlaUqXKernel.τ).loc Cert.MlaUqXKernel.main_arg3) = m ((c.tc : Thread Cert.MlaUqXKernel.nD Cert.MlaUqXKernel.τ).loc Cert.MlaUqXKernel.main_arg3))
      ∧ r.2.sem = fun _ => 0)

def quiescent_MlaUqXKernelIdeal [hMlaUqXKernelIdeal : Cert.MlaUqXKernelIdeal.Facts] : Prop :=
  ∀ (m : (ℓ : Loc Cert.MlaUqXKernelIdeal.nD Cert.MlaUqXKernelIdeal.τ Cert.MlaUqXKernelIdeal.sig) → Buf (Elt Ideal) ℓ) (g : Dev Cert.MlaUqXKernelIdeal.nD → PrngReg), Pre_MlaUqXKernelIdeal m →
    θ_run (Cert.MlaUqXKernelIdeal.defs (F := Ideal)) (onTc (τ := Cert.MlaUqXKernelIdeal.τ) (Cert.MlaUqXKernelIdeal.main (F := Ideal))) ⟨m, fun _ => 0, g⟩ (fun r => (∀ c : Dev Cert.MlaUqXKernelIdeal.nD,
      r.2.mem ((c.tc : Thread Cert.MlaUqXKernelIdeal.nD Cert.MlaUqXKernelIdeal.τ).loc Cert.MlaUqXKernelIdeal.main_arg0) = m ((c.tc : Thread Cert.MlaUqXKernelIdeal.nD Cert.MlaUqXKernelIdeal.τ).loc Cert.MlaUqXKernelIdeal.main_arg0)
      ∧ r.2.mem ((c.tc : Thread Cert.MlaUqXKernelIdeal.nD Cert.MlaUqXKernelIdeal.τ).loc Cert.MlaUqXKernelIdeal.main_arg1) = m ((c.tc : Thread Cert.MlaUqXKernelIdeal.nD Cert.MlaUqXKernelIdeal.τ).loc Cert.MlaUqXKernelIdeal.main_arg1)
      ∧ r.2.mem ((c.tc : Thread Cert.MlaUqXKernelIdeal.nD Cert.MlaUqXKernelIdeal.τ).loc Cert.MlaUqXKernelIdeal.main_arg2) = m ((c.tc : Thread Cert.MlaUqXKernelIdeal.nD Cert.MlaUqXKernelIdeal.τ).loc Cert.MlaUqXKernelIdeal.main_arg2)
      ∧ r.2.mem ((c.tc : Thread Cert.MlaUqXKernelIdeal.nD Cert.MlaUqXKernelIdeal.τ).loc Cert.MlaUqXKernelIdeal.main_arg3) = m ((c.tc : Thread Cert.MlaUqXKernelIdeal.nD Cert.MlaUqXKernelIdeal.τ).loc Cert.MlaUqXKernelIdeal.main_arg3))
      ∧ r.2.sem = fun _ => 0)

def quiescent_MlaUqXReferenceIdeal [hMlaUqXReferenceIdeal : Cert.MlaUqXReferenceIdeal.Facts] : Prop :=
  ∀ (m : (ℓ : Loc Cert.MlaUqXReferenceIdeal.nD Cert.MlaUqXReferenceIdeal.τ Cert.MlaUqXReferenceIdeal.sig) → Buf (Elt Ideal) ℓ) (g : Dev Cert.MlaUqXReferenceIdeal.nD → PrngReg), Pre_MlaUqXReferenceIdeal m →
    θ_run (Cert.MlaUqXReferenceIdeal.defs (F := Ideal)) (onTc (τ := Cert.MlaUqXReferenceIdeal.τ) (Cert.MlaUqXReferenceIdeal.main (F := Ideal))) ⟨m, fun _ => 0, g⟩ (fun r => (∀ c : Dev Cert.MlaUqXReferenceIdeal.nD,
      r.2.mem ((c.tc : Thread Cert.MlaUqXReferenceIdeal.nD Cert.MlaUqXReferenceIdeal.τ).loc Cert.MlaUqXReferenceIdeal.main_arg0) = m ((c.tc : Thread Cert.MlaUqXReferenceIdeal.nD Cert.MlaUqXReferenceIdeal.τ).loc Cert.MlaUqXReferenceIdeal.main_arg0)
      ∧ r.2.mem ((c.tc : Thread Cert.MlaUqXReferenceIdeal.nD Cert.MlaUqXReferenceIdeal.τ).loc Cert.MlaUqXReferenceIdeal.main_arg1) = m ((c.tc : Thread Cert.MlaUqXReferenceIdeal.nD Cert.MlaUqXReferenceIdeal.τ).loc Cert.MlaUqXReferenceIdeal.main_arg1)
      ∧ r.2.mem ((c.tc : Thread Cert.MlaUqXReferenceIdeal.nD Cert.MlaUqXReferenceIdeal.τ).loc Cert.MlaUqXReferenceIdeal.main_arg2) = m ((c.tc : Thread Cert.MlaUqXReferenceIdeal.nD Cert.MlaUqXReferenceIdeal.τ).loc Cert.MlaUqXReferenceIdeal.main_arg2)
      ∧ r.2.mem ((c.tc : Thread Cert.MlaUqXReferenceIdeal.nD Cert.MlaUqXReferenceIdeal.τ).loc Cert.MlaUqXReferenceIdeal.main_arg3) = m ((c.tc : Thread Cert.MlaUqXReferenceIdeal.nD Cert.MlaUqXReferenceIdeal.τ).loc Cert.MlaUqXReferenceIdeal.main_arg3))
      ∧ r.2.sem = fun _ => 0)

def quiescent_MlaUqWKernel [hMlaUqWKernel : Cert.MlaUqWKernel.Facts] : Prop :=
  ∀ (m : (ℓ : Loc Cert.MlaUqWKernel.nD Cert.MlaUqWKernel.τ Cert.MlaUqWKernel.sig) → Buf (Elt Bits) ℓ) (g : Dev Cert.MlaUqWKernel.nD → PrngReg), Pre_MlaUqWKernel m →
    θ_run (Cert.MlaUqWKernel.defs (F := Bits)) (onTc (τ := Cert.MlaUqWKernel.τ) (Cert.MlaUqWKernel.main (F := Bits))) ⟨m, fun _ => 0, g⟩ (fun r => (∀ c : Dev Cert.MlaUqWKernel.nD,
      r.2.mem ((c.tc : Thread Cert.MlaUqWKernel.nD Cert.MlaUqWKernel.τ).loc Cert.MlaUqWKernel.main_arg0) = m ((c.tc : Thread Cert.MlaUqWKernel.nD Cert.MlaUqWKernel.τ).loc Cert.MlaUqWKernel.main_arg0)
      ∧ r.2.mem ((c.tc : Thread Cert.MlaUqWKernel.nD Cert.MlaUqWKernel.τ).loc Cert.MlaUqWKernel.main_arg1) = m ((c.tc : Thread Cert.MlaUqWKernel.nD Cert.MlaUqWKernel.τ).loc Cert.MlaUqWKernel.main_arg1)
      ∧ r.2.mem ((c.tc : Thread Cert.MlaUqWKernel.nD Cert.MlaUqWKernel.τ).loc Cert.MlaUqWKernel.main_arg2) = m ((c.tc : Thread Cert.MlaUqWKernel.nD Cert.MlaUqWKernel.τ).loc Cert.MlaUqWKernel.main_arg2)
      ∧ r.2.mem ((c.tc : Thread Cert.MlaUqWKernel.nD Cert.MlaUqWKernel.τ).loc Cert.MlaUqWKernel.main_arg3) = m ((c.tc : Thread Cert.MlaUqWKernel.nD Cert.MlaUqWKernel.τ).loc Cert.MlaUqWKernel.main_arg3))
      ∧ r.2.sem = fun _ => 0)

def quiescent_MlaUqWKernelIdeal [hMlaUqWKernelIdeal : Cert.MlaUqWKernelIdeal.Facts] : Prop :=
  ∀ (m : (ℓ : Loc Cert.MlaUqWKernelIdeal.nD Cert.MlaUqWKernelIdeal.τ Cert.MlaUqWKernelIdeal.sig) → Buf (Elt Ideal) ℓ) (g : Dev Cert.MlaUqWKernelIdeal.nD → PrngReg), Pre_MlaUqWKernelIdeal m →
    θ_run (Cert.MlaUqWKernelIdeal.defs (F := Ideal)) (onTc (τ := Cert.MlaUqWKernelIdeal.τ) (Cert.MlaUqWKernelIdeal.main (F := Ideal))) ⟨m, fun _ => 0, g⟩ (fun r => (∀ c : Dev Cert.MlaUqWKernelIdeal.nD,
      r.2.mem ((c.tc : Thread Cert.MlaUqWKernelIdeal.nD Cert.MlaUqWKernelIdeal.τ).loc Cert.MlaUqWKernelIdeal.main_arg0) = m ((c.tc : Thread Cert.MlaUqWKernelIdeal.nD Cert.MlaUqWKernelIdeal.τ).loc Cert.MlaUqWKernelIdeal.main_arg0)
      ∧ r.2.mem ((c.tc : Thread Cert.MlaUqWKernelIdeal.nD Cert.MlaUqWKernelIdeal.τ).loc Cert.MlaUqWKernelIdeal.main_arg1) = m ((c.tc : Thread Cert.MlaUqWKernelIdeal.nD Cert.MlaUqWKernelIdeal.τ).loc Cert.MlaUqWKernelIdeal.main_arg1)
      ∧ r.2.mem ((c.tc : Thread Cert.MlaUqWKernelIdeal.nD Cert.MlaUqWKernelIdeal.τ).loc Cert.MlaUqWKernelIdeal.main_arg2) = m ((c.tc : Thread Cert.MlaUqWKernelIdeal.nD Cert.MlaUqWKernelIdeal.τ).loc Cert.MlaUqWKernelIdeal.main_arg2)
      ∧ r.2.mem ((c.tc : Thread Cert.MlaUqWKernelIdeal.nD Cert.MlaUqWKernelIdeal.τ).loc Cert.MlaUqWKernelIdeal.main_arg3) = m ((c.tc : Thread Cert.MlaUqWKernelIdeal.nD Cert.MlaUqWKernelIdeal.τ).loc Cert.MlaUqWKernelIdeal.main_arg3))
      ∧ r.2.sem = fun _ => 0)

def quiescent_MlaUqWReferenceIdeal [hMlaUqWReferenceIdeal : Cert.MlaUqWReferenceIdeal.Facts] : Prop :=
  ∀ (m : (ℓ : Loc Cert.MlaUqWReferenceIdeal.nD Cert.MlaUqWReferenceIdeal.τ Cert.MlaUqWReferenceIdeal.sig) → Buf (Elt Ideal) ℓ) (g : Dev Cert.MlaUqWReferenceIdeal.nD → PrngReg), Pre_MlaUqWReferenceIdeal m →
    θ_run (Cert.MlaUqWReferenceIdeal.defs (F := Ideal)) (onTc (τ := Cert.MlaUqWReferenceIdeal.τ) (Cert.MlaUqWReferenceIdeal.main (F := Ideal))) ⟨m, fun _ => 0, g⟩ (fun r => (∀ c : Dev Cert.MlaUqWReferenceIdeal.nD,
      r.2.mem ((c.tc : Thread Cert.MlaUqWReferenceIdeal.nD Cert.MlaUqWReferenceIdeal.τ).loc Cert.MlaUqWReferenceIdeal.main_arg0) = m ((c.tc : Thread Cert.MlaUqWReferenceIdeal.nD Cert.MlaUqWReferenceIdeal.τ).loc Cert.MlaUqWReferenceIdeal.main_arg0)
      ∧ r.2.mem ((c.tc : Thread Cert.MlaUqWReferenceIdeal.nD Cert.MlaUqWReferenceIdeal.τ).loc Cert.MlaUqWReferenceIdeal.main_arg1) = m ((c.tc : Thread Cert.MlaUqWReferenceIdeal.nD Cert.MlaUqWReferenceIdeal.τ).loc Cert.MlaUqWReferenceIdeal.main_arg1)
      ∧ r.2.mem ((c.tc : Thread Cert.MlaUqWReferenceIdeal.nD Cert.MlaUqWReferenceIdeal.τ).loc Cert.MlaUqWReferenceIdeal.main_arg2) = m ((c.tc : Thread Cert.MlaUqWReferenceIdeal.nD Cert.MlaUqWReferenceIdeal.τ).loc Cert.MlaUqWReferenceIdeal.main_arg2)
      ∧ r.2.mem ((c.tc : Thread Cert.MlaUqWReferenceIdeal.nD Cert.MlaUqWReferenceIdeal.τ).loc Cert.MlaUqWReferenceIdeal.main_arg3) = m ((c.tc : Thread Cert.MlaUqWReferenceIdeal.nD Cert.MlaUqWReferenceIdeal.τ).loc Cert.MlaUqWReferenceIdeal.main_arg3))
      ∧ r.2.sem = fun _ => 0)

def preserves_DownActKernel_DownActKernelIdeal : Prop :=
  True

def algebraic_DownActKernelIdeal_DownActReferenceIdeal [hDownActKernelIdeal : Cert.DownActKernelIdeal.Facts] [hDownActReferenceIdeal : Cert.DownActReferenceIdeal.Facts] : Prop :=
  ∀ (m : (ℓ : Loc Cert.DownActKernelIdeal.nD Cert.DownActKernelIdeal.τ Cert.DownActKernelIdeal.sig) → Buf (Elt Ideal) ℓ) (g : Dev Cert.DownActKernelIdeal.nD → PrngReg)
    (m' : (ℓ : Loc Cert.DownActReferenceIdeal.nD Cert.DownActReferenceIdeal.τ Cert.DownActReferenceIdeal.sig) → Buf (Elt Ideal) ℓ) (g' : Dev Cert.DownActReferenceIdeal.nD → PrngReg), Pre_DownActKernelIdeal m →
    (∀ c : Dev Cert.DownActKernelIdeal.nD,
      m' ((c.tc : Thread Cert.DownActReferenceIdeal.nD Cert.DownActReferenceIdeal.τ).loc Cert.DownActReferenceIdeal.main_arg0) = m ((c.tc : Thread Cert.DownActKernelIdeal.nD Cert.DownActKernelIdeal.τ).loc Cert.DownActKernelIdeal.main_arg0)
      ∧ m' ((c.tc : Thread Cert.DownActReferenceIdeal.nD Cert.DownActReferenceIdeal.τ).loc Cert.DownActReferenceIdeal.main_arg1) = m ((c.tc : Thread Cert.DownActKernelIdeal.nD Cert.DownActKernelIdeal.τ).loc Cert.DownActKernelIdeal.main_arg1)
      ∧ m' ((c.tc : Thread Cert.DownActReferenceIdeal.nD Cert.DownActReferenceIdeal.τ).loc Cert.DownActReferenceIdeal.main_arg2) = m ((c.tc : Thread Cert.DownActKernelIdeal.nD Cert.DownActKernelIdeal.τ).loc Cert.DownActKernelIdeal.main_arg2)) →
    ∃ (v0 : (c : Dev Cert.DownActKernelIdeal.nD) → Buf (Elt Ideal) ((c.tc : Thread Cert.DownActKernelIdeal.nD Cert.DownActKernelIdeal.τ).loc Cert.DownActKernelIdeal.main_v3)),
      θ_run (Cert.DownActKernelIdeal.defs (F := Ideal)) (onTc (τ := Cert.DownActKernelIdeal.τ) (Cert.DownActKernelIdeal.main (F := Ideal))) ⟨m, fun _ => 0, g⟩ (fun r => ∀ c : Dev Cert.DownActKernelIdeal.nD,
          r.2.mem ((c.tc : Thread Cert.DownActKernelIdeal.nD Cert.DownActKernelIdeal.τ).loc Cert.DownActKernelIdeal.main_v3) = v0 c
          ∧ r.2.mem ((c.tc : Thread Cert.DownActKernelIdeal.nD Cert.DownActKernelIdeal.τ).loc Cert.DownActKernelIdeal.main_arg0) = m ((c.tc : Thread Cert.DownActKernelIdeal.nD Cert.DownActKernelIdeal.τ).loc Cert.DownActKernelIdeal.main_arg0)
          ∧ r.2.mem ((c.tc : Thread Cert.DownActKernelIdeal.nD Cert.DownActKernelIdeal.τ).loc Cert.DownActKernelIdeal.main_arg1) = m ((c.tc : Thread Cert.DownActKernelIdeal.nD Cert.DownActKernelIdeal.τ).loc Cert.DownActKernelIdeal.main_arg1)
          ∧ r.2.mem ((c.tc : Thread Cert.DownActKernelIdeal.nD Cert.DownActKernelIdeal.τ).loc Cert.DownActKernelIdeal.main_arg2) = m ((c.tc : Thread Cert.DownActKernelIdeal.nD Cert.DownActKernelIdeal.τ).loc Cert.DownActKernelIdeal.main_arg2))
      ∧ θ_run (Cert.DownActReferenceIdeal.defs (F := Ideal)) (onTc (τ := Cert.DownActReferenceIdeal.τ) (Cert.DownActReferenceIdeal.main (F := Ideal))) ⟨m', fun _ => 0, g'⟩ (fun r => ∀ c : Dev Cert.DownActReferenceIdeal.nD,
          r.2.mem ((c.tc : Thread Cert.DownActReferenceIdeal.nD Cert.DownActReferenceIdeal.τ).loc Cert.DownActReferenceIdeal.main_v4) = v0 c
          ∧ r.2.mem ((c.tc : Thread Cert.DownActReferenceIdeal.nD Cert.DownActReferenceIdeal.τ).loc Cert.DownActReferenceIdeal.main_arg0) = m' ((c.tc : Thread Cert.DownActReferenceIdeal.nD Cert.DownActReferenceIdeal.τ).loc Cert.DownActReferenceIdeal.main_arg0)
          ∧ r.2.mem ((c.tc : Thread Cert.DownActReferenceIdeal.nD Cert.DownActReferenceIdeal.τ).loc Cert.DownActReferenceIdeal.main_arg1) = m' ((c.tc : Thread Cert.DownActReferenceIdeal.nD Cert.DownActReferenceIdeal.τ).loc Cert.DownActReferenceIdeal.main_arg1)
          ∧ r.2.mem ((c.tc : Thread Cert.DownActReferenceIdeal.nD Cert.DownActReferenceIdeal.τ).loc Cert.DownActReferenceIdeal.main_arg2) = m' ((c.tc : Thread Cert.DownActReferenceIdeal.nD Cert.DownActReferenceIdeal.τ).loc Cert.DownActReferenceIdeal.main_arg2))

def preserves_DownWKernel_DownWKernelIdeal : Prop :=
  True

def algebraic_DownWKernelIdeal_DownWReferenceIdeal [hDownWKernelIdeal : Cert.DownWKernelIdeal.Facts] [hDownWReferenceIdeal : Cert.DownWReferenceIdeal.Facts] : Prop :=
  ∀ (m : (ℓ : Loc Cert.DownWKernelIdeal.nD Cert.DownWKernelIdeal.τ Cert.DownWKernelIdeal.sig) → Buf (Elt Ideal) ℓ) (g : Dev Cert.DownWKernelIdeal.nD → PrngReg)
    (m' : (ℓ : Loc Cert.DownWReferenceIdeal.nD Cert.DownWReferenceIdeal.τ Cert.DownWReferenceIdeal.sig) → Buf (Elt Ideal) ℓ) (g' : Dev Cert.DownWReferenceIdeal.nD → PrngReg), Pre_DownWKernelIdeal m →
    (∀ c : Dev Cert.DownWKernelIdeal.nD,
      m' ((c.tc : Thread Cert.DownWReferenceIdeal.nD Cert.DownWReferenceIdeal.τ).loc Cert.DownWReferenceIdeal.main_arg0) = m ((c.tc : Thread Cert.DownWKernelIdeal.nD Cert.DownWKernelIdeal.τ).loc Cert.DownWKernelIdeal.main_arg0)
      ∧ m' ((c.tc : Thread Cert.DownWReferenceIdeal.nD Cert.DownWReferenceIdeal.τ).loc Cert.DownWReferenceIdeal.main_arg1) = m ((c.tc : Thread Cert.DownWKernelIdeal.nD Cert.DownWKernelIdeal.τ).loc Cert.DownWKernelIdeal.main_arg1)
      ∧ m' ((c.tc : Thread Cert.DownWReferenceIdeal.nD Cert.DownWReferenceIdeal.τ).loc Cert.DownWReferenceIdeal.main_arg2) = m ((c.tc : Thread Cert.DownWKernelIdeal.nD Cert.DownWKernelIdeal.τ).loc Cert.DownWKernelIdeal.main_arg2)) →
    ∃ (v0 : (c : Dev Cert.DownWKernelIdeal.nD) → Buf (Elt Ideal) ((c.tc : Thread Cert.DownWKernelIdeal.nD Cert.DownWKernelIdeal.τ).loc Cert.DownWKernelIdeal.main_v2)),
      θ_run (Cert.DownWKernelIdeal.defs (F := Ideal)) (onTc (τ := Cert.DownWKernelIdeal.τ) (Cert.DownWKernelIdeal.main (F := Ideal))) ⟨m, fun _ => 0, g⟩ (fun r => ∀ c : Dev Cert.DownWKernelIdeal.nD,
          r.2.mem ((c.tc : Thread Cert.DownWKernelIdeal.nD Cert.DownWKernelIdeal.τ).loc Cert.DownWKernelIdeal.main_v2) = v0 c
          ∧ r.2.mem ((c.tc : Thread Cert.DownWKernelIdeal.nD Cert.DownWKernelIdeal.τ).loc Cert.DownWKernelIdeal.main_arg0) = m ((c.tc : Thread Cert.DownWKernelIdeal.nD Cert.DownWKernelIdeal.τ).loc Cert.DownWKernelIdeal.main_arg0)
          ∧ r.2.mem ((c.tc : Thread Cert.DownWKernelIdeal.nD Cert.DownWKernelIdeal.τ).loc Cert.DownWKernelIdeal.main_arg1) = m ((c.tc : Thread Cert.DownWKernelIdeal.nD Cert.DownWKernelIdeal.τ).loc Cert.DownWKernelIdeal.main_arg1)
          ∧ r.2.mem ((c.tc : Thread Cert.DownWKernelIdeal.nD Cert.DownWKernelIdeal.τ).loc Cert.DownWKernelIdeal.main_arg2) = m ((c.tc : Thread Cert.DownWKernelIdeal.nD Cert.DownWKernelIdeal.τ).loc Cert.DownWKernelIdeal.main_arg2))
      ∧ θ_run (Cert.DownWReferenceIdeal.defs (F := Ideal)) (onTc (τ := Cert.DownWReferenceIdeal.τ) (Cert.DownWReferenceIdeal.main (F := Ideal))) ⟨m', fun _ => 0, g'⟩ (fun r => ∀ c : Dev Cert.DownWReferenceIdeal.nD,
          r.2.mem ((c.tc : Thread Cert.DownWReferenceIdeal.nD Cert.DownWReferenceIdeal.τ).loc Cert.DownWReferenceIdeal.main_v7) = v0 c
          ∧ r.2.mem ((c.tc : Thread Cert.DownWReferenceIdeal.nD Cert.DownWReferenceIdeal.τ).loc Cert.DownWReferenceIdeal.main_arg0) = m' ((c.tc : Thread Cert.DownWReferenceIdeal.nD Cert.DownWReferenceIdeal.τ).loc Cert.DownWReferenceIdeal.main_arg0)
          ∧ r.2.mem ((c.tc : Thread Cert.DownWReferenceIdeal.nD Cert.DownWReferenceIdeal.τ).loc Cert.DownWReferenceIdeal.main_arg1) = m' ((c.tc : Thread Cert.DownWReferenceIdeal.nD Cert.DownWReferenceIdeal.τ).loc Cert.DownWReferenceIdeal.main_arg1)
          ∧ r.2.mem ((c.tc : Thread Cert.DownWReferenceIdeal.nD Cert.DownWReferenceIdeal.τ).loc Cert.DownWReferenceIdeal.main_arg2) = m' ((c.tc : Thread Cert.DownWReferenceIdeal.nD Cert.DownWReferenceIdeal.τ).loc Cert.DownWReferenceIdeal.main_arg2))

def preserves_GuXKernel_GuXKernelIdeal : Prop :=
  True

def algebraic_GuXKernelIdeal_GuXReferenceIdeal [hGuXKernelIdeal : Cert.GuXKernelIdeal.Facts] [hGuXReferenceIdeal : Cert.GuXReferenceIdeal.Facts] : Prop :=
  ∀ (m : (ℓ : Loc Cert.GuXKernelIdeal.nD Cert.GuXKernelIdeal.τ Cert.GuXKernelIdeal.sig) → Buf (Elt Ideal) ℓ) (g : Dev Cert.GuXKernelIdeal.nD → PrngReg)
    (m' : (ℓ : Loc Cert.GuXReferenceIdeal.nD Cert.GuXReferenceIdeal.τ Cert.GuXReferenceIdeal.sig) → Buf (Elt Ideal) ℓ) (g' : Dev Cert.GuXReferenceIdeal.nD → PrngReg), Pre_GuXKernelIdeal m →
    (∀ c : Dev Cert.GuXKernelIdeal.nD,
      m' ((c.tc : Thread Cert.GuXReferenceIdeal.nD Cert.GuXReferenceIdeal.τ).loc Cert.GuXReferenceIdeal.main_arg0) = m ((c.tc : Thread Cert.GuXKernelIdeal.nD Cert.GuXKernelIdeal.τ).loc Cert.GuXKernelIdeal.main_arg0)
      ∧ m' ((c.tc : Thread Cert.GuXReferenceIdeal.nD Cert.GuXReferenceIdeal.τ).loc Cert.GuXReferenceIdeal.main_arg1) = m ((c.tc : Thread Cert.GuXKernelIdeal.nD Cert.GuXKernelIdeal.τ).loc Cert.GuXKernelIdeal.main_arg1)
      ∧ m' ((c.tc : Thread Cert.GuXReferenceIdeal.nD Cert.GuXReferenceIdeal.τ).loc Cert.GuXReferenceIdeal.main_arg2) = m ((c.tc : Thread Cert.GuXKernelIdeal.nD Cert.GuXKernelIdeal.τ).loc Cert.GuXKernelIdeal.main_arg2)) →
    ∃ (v0 : (c : Dev Cert.GuXKernelIdeal.nD) → Buf (Elt Ideal) ((c.tc : Thread Cert.GuXKernelIdeal.nD Cert.GuXKernelIdeal.τ).loc Cert.GuXKernelIdeal.main_v5)),
      θ_run (Cert.GuXKernelIdeal.defs (F := Ideal)) (onTc (τ := Cert.GuXKernelIdeal.τ) (Cert.GuXKernelIdeal.main (F := Ideal))) ⟨m, fun _ => 0, g⟩ (fun r => ∀ c : Dev Cert.GuXKernelIdeal.nD,
          r.2.mem ((c.tc : Thread Cert.GuXKernelIdeal.nD Cert.GuXKernelIdeal.τ).loc Cert.GuXKernelIdeal.main_v5) = v0 c
          ∧ r.2.mem ((c.tc : Thread Cert.GuXKernelIdeal.nD Cert.GuXKernelIdeal.τ).loc Cert.GuXKernelIdeal.main_arg0) = m ((c.tc : Thread Cert.GuXKernelIdeal.nD Cert.GuXKernelIdeal.τ).loc Cert.GuXKernelIdeal.main_arg0)
          ∧ r.2.mem ((c.tc : Thread Cert.GuXKernelIdeal.nD Cert.GuXKernelIdeal.τ).loc Cert.GuXKernelIdeal.main_arg1) = m ((c.tc : Thread Cert.GuXKernelIdeal.nD Cert.GuXKernelIdeal.τ).loc Cert.GuXKernelIdeal.main_arg1)
          ∧ r.2.mem ((c.tc : Thread Cert.GuXKernelIdeal.nD Cert.GuXKernelIdeal.τ).loc Cert.GuXKernelIdeal.main_arg2) = m ((c.tc : Thread Cert.GuXKernelIdeal.nD Cert.GuXKernelIdeal.τ).loc Cert.GuXKernelIdeal.main_arg2))
      ∧ θ_run (Cert.GuXReferenceIdeal.defs (F := Ideal)) (onTc (τ := Cert.GuXReferenceIdeal.τ) (Cert.GuXReferenceIdeal.main (F := Ideal))) ⟨m', fun _ => 0, g'⟩ (fun r => ∀ c : Dev Cert.GuXReferenceIdeal.nD,
          r.2.mem ((c.tc : Thread Cert.GuXReferenceIdeal.nD Cert.GuXReferenceIdeal.τ).loc Cert.GuXReferenceIdeal.main_v3) = v0 c
          ∧ r.2.mem ((c.tc : Thread Cert.GuXReferenceIdeal.nD Cert.GuXReferenceIdeal.τ).loc Cert.GuXReferenceIdeal.main_arg0) = m' ((c.tc : Thread Cert.GuXReferenceIdeal.nD Cert.GuXReferenceIdeal.τ).loc Cert.GuXReferenceIdeal.main_arg0)
          ∧ r.2.mem ((c.tc : Thread Cert.GuXReferenceIdeal.nD Cert.GuXReferenceIdeal.τ).loc Cert.GuXReferenceIdeal.main_arg1) = m' ((c.tc : Thread Cert.GuXReferenceIdeal.nD Cert.GuXReferenceIdeal.τ).loc Cert.GuXReferenceIdeal.main_arg1)
          ∧ r.2.mem ((c.tc : Thread Cert.GuXReferenceIdeal.nD Cert.GuXReferenceIdeal.τ).loc Cert.GuXReferenceIdeal.main_arg2) = m' ((c.tc : Thread Cert.GuXReferenceIdeal.nD Cert.GuXReferenceIdeal.τ).loc Cert.GuXReferenceIdeal.main_arg2))

def preserves_GuWKernel_GuWKernelIdeal : Prop :=
  True

def algebraic_GuWKernelIdeal_GuWReferenceIdeal [hGuWKernelIdeal : Cert.GuWKernelIdeal.Facts] [hGuWReferenceIdeal : Cert.GuWReferenceIdeal.Facts] : Prop :=
  ∀ (m : (ℓ : Loc Cert.GuWKernelIdeal.nD Cert.GuWKernelIdeal.τ Cert.GuWKernelIdeal.sig) → Buf (Elt Ideal) ℓ) (g : Dev Cert.GuWKernelIdeal.nD → PrngReg)
    (m' : (ℓ : Loc Cert.GuWReferenceIdeal.nD Cert.GuWReferenceIdeal.τ Cert.GuWReferenceIdeal.sig) → Buf (Elt Ideal) ℓ) (g' : Dev Cert.GuWReferenceIdeal.nD → PrngReg), Pre_GuWKernelIdeal m →
    (∀ c : Dev Cert.GuWKernelIdeal.nD,
      m' ((c.tc : Thread Cert.GuWReferenceIdeal.nD Cert.GuWReferenceIdeal.τ).loc Cert.GuWReferenceIdeal.main_arg0) = m ((c.tc : Thread Cert.GuWKernelIdeal.nD Cert.GuWKernelIdeal.τ).loc Cert.GuWKernelIdeal.main_arg0)
      ∧ m' ((c.tc : Thread Cert.GuWReferenceIdeal.nD Cert.GuWReferenceIdeal.τ).loc Cert.GuWReferenceIdeal.main_arg1) = m ((c.tc : Thread Cert.GuWKernelIdeal.nD Cert.GuWKernelIdeal.τ).loc Cert.GuWKernelIdeal.main_arg1)
      ∧ m' ((c.tc : Thread Cert.GuWReferenceIdeal.nD Cert.GuWReferenceIdeal.τ).loc Cert.GuWReferenceIdeal.main_arg2) = m ((c.tc : Thread Cert.GuWKernelIdeal.nD Cert.GuWKernelIdeal.τ).loc Cert.GuWKernelIdeal.main_arg2)) →
    ∃ (v0 : (c : Dev Cert.GuWKernelIdeal.nD) → Buf (Elt Ideal) ((c.tc : Thread Cert.GuWKernelIdeal.nD Cert.GuWKernelIdeal.τ).loc Cert.GuWKernelIdeal.main_v2)),
      θ_run (Cert.GuWKernelIdeal.defs (F := Ideal)) (onTc (τ := Cert.GuWKernelIdeal.τ) (Cert.GuWKernelIdeal.main (F := Ideal))) ⟨m, fun _ => 0, g⟩ (fun r => ∀ c : Dev Cert.GuWKernelIdeal.nD,
          r.2.mem ((c.tc : Thread Cert.GuWKernelIdeal.nD Cert.GuWKernelIdeal.τ).loc Cert.GuWKernelIdeal.main_v2) = v0 c
          ∧ r.2.mem ((c.tc : Thread Cert.GuWKernelIdeal.nD Cert.GuWKernelIdeal.τ).loc Cert.GuWKernelIdeal.main_arg0) = m ((c.tc : Thread Cert.GuWKernelIdeal.nD Cert.GuWKernelIdeal.τ).loc Cert.GuWKernelIdeal.main_arg0)
          ∧ r.2.mem ((c.tc : Thread Cert.GuWKernelIdeal.nD Cert.GuWKernelIdeal.τ).loc Cert.GuWKernelIdeal.main_arg1) = m ((c.tc : Thread Cert.GuWKernelIdeal.nD Cert.GuWKernelIdeal.τ).loc Cert.GuWKernelIdeal.main_arg1)
          ∧ r.2.mem ((c.tc : Thread Cert.GuWKernelIdeal.nD Cert.GuWKernelIdeal.τ).loc Cert.GuWKernelIdeal.main_arg2) = m ((c.tc : Thread Cert.GuWKernelIdeal.nD Cert.GuWKernelIdeal.τ).loc Cert.GuWKernelIdeal.main_arg2))
      ∧ θ_run (Cert.GuWReferenceIdeal.defs (F := Ideal)) (onTc (τ := Cert.GuWReferenceIdeal.τ) (Cert.GuWReferenceIdeal.main (F := Ideal))) ⟨m', fun _ => 0, g'⟩ (fun r => ∀ c : Dev Cert.GuWReferenceIdeal.nD,
          r.2.mem ((c.tc : Thread Cert.GuWReferenceIdeal.nD Cert.GuWReferenceIdeal.τ).loc Cert.GuWReferenceIdeal.main_v7) = v0 c
          ∧ r.2.mem ((c.tc : Thread Cert.GuWReferenceIdeal.nD Cert.GuWReferenceIdeal.τ).loc Cert.GuWReferenceIdeal.main_arg0) = m' ((c.tc : Thread Cert.GuWReferenceIdeal.nD Cert.GuWReferenceIdeal.τ).loc Cert.GuWReferenceIdeal.main_arg0)
          ∧ r.2.mem ((c.tc : Thread Cert.GuWReferenceIdeal.nD Cert.GuWReferenceIdeal.τ).loc Cert.GuWReferenceIdeal.main_arg1) = m' ((c.tc : Thread Cert.GuWReferenceIdeal.nD Cert.GuWReferenceIdeal.τ).loc Cert.GuWReferenceIdeal.main_arg1)
          ∧ r.2.mem ((c.tc : Thread Cert.GuWReferenceIdeal.nD Cert.GuWReferenceIdeal.τ).loc Cert.GuWReferenceIdeal.main_arg2) = m' ((c.tc : Thread Cert.GuWReferenceIdeal.nD Cert.GuWReferenceIdeal.τ).loc Cert.GuWReferenceIdeal.main_arg2))

def preserves_SwigluKernel_SwigluKernelIdeal : Prop :=
  True

def algebraic_SwigluKernelIdeal_SwigluReferenceIdeal_pre_swiglu_finite [hSwigluKernelIdeal : Cert.SwigluKernelIdeal.Facts] [hSwigluReferenceIdeal : Cert.SwigluReferenceIdeal.Facts] [hPre_swiglu_finite : Cert.Pre_swiglu_finite.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluKernelIdeal_swiglu_finite m →
    (∀ c : Dev Cert.SwigluKernelIdeal.nD,
      m' ((c.tc : Thread Cert.SwigluReferenceIdeal.nD Cert.SwigluReferenceIdeal.τ).loc Cert.SwigluReferenceIdeal.main_arg0) = m ((c.tc : Thread Cert.SwigluKernelIdeal.nD Cert.SwigluKernelIdeal.τ).loc Cert.SwigluKernelIdeal.main_arg0)
      ∧ m' ((c.tc : Thread Cert.SwigluReferenceIdeal.nD Cert.SwigluReferenceIdeal.τ).loc Cert.SwigluReferenceIdeal.main_arg1) = m ((c.tc : Thread Cert.SwigluKernelIdeal.nD Cert.SwigluKernelIdeal.τ).loc Cert.SwigluKernelIdeal.main_arg1)) →
    ∃ (v0 : (c : Dev Cert.SwigluKernelIdeal.nD) → Buf (Elt Ideal) ((c.tc : Thread Cert.SwigluKernelIdeal.nD Cert.SwigluKernelIdeal.τ).loc Cert.SwigluKernelIdeal.main_v4)),
      θ_run (Cert.SwigluKernelIdeal.defs (F := Ideal)) (onTc (τ := Cert.SwigluKernelIdeal.τ) (Cert.SwigluKernelIdeal.main (F := Ideal))) ⟨m, fun _ => 0, g⟩ (fun r => ∀ c : Dev Cert.SwigluKernelIdeal.nD,
          r.2.mem ((c.tc : Thread Cert.SwigluKernelIdeal.nD Cert.SwigluKernelIdeal.τ).loc Cert.SwigluKernelIdeal.main_v4) = v0 c
          ∧ r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
          ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v8) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v0_0)) (v1 : (c : Dev Cert.ConvKernelIdeal.nD) → Buf (Elt Ideal) ((c.tc : Thread Cert.ConvKernelIdeal.nD Cert.ConvKernelIdeal.τ).loc Cert.ConvKernelIdeal.main_v0_1)) (v2 : (c : Dev Cert.ConvKernelIdeal.nD) → Buf (Elt Ideal) ((c.tc : Thread Cert.ConvKernelIdeal.nD Cert.ConvKernelIdeal.τ).loc Cert.ConvKernelIdeal.main_v0_2)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v0_0) = v0 c
          ∧ r.2.mem ((c.tc : Thread Cert.ConvKernelIdeal.nD Cert.ConvKernelIdeal.τ).loc Cert.ConvKernelIdeal.main_v0_1) = v1 c
          ∧ r.2.mem ((c.tc : Thread Cert.ConvKernelIdeal.nD Cert.ConvKernelIdeal.τ).loc Cert.ConvKernelIdeal.main_v0_2) = v2 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v83) = v0 c
          ∧ r.2.mem ((c.tc : Thread Cert.ConvReferenceIdeal.nD Cert.ConvReferenceIdeal.τ).loc Cert.ConvReferenceIdeal.main_v84) = v1 c
          ∧ r.2.mem ((c.tc : Thread Cert.ConvReferenceIdeal.nD Cert.ConvReferenceIdeal.τ).loc Cert.ConvReferenceIdeal.main_v85) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v1_0)) (v1 : (c : Dev Cert.NormKernelIdeal.nD) → Buf (Elt Ideal) ((c.tc : Thread Cert.NormKernelIdeal.nD Cert.NormKernelIdeal.τ).loc Cert.NormKernelIdeal.main_v1_1)) (v2 : (c : Dev Cert.NormKernelIdeal.nD) → Buf (Elt Ideal) ((c.tc : Thread Cert.NormKernelIdeal.nD Cert.NormKernelIdeal.τ).loc Cert.NormKernelIdeal.main_v1_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1_0) = v0 c
          ∧ r.2.mem ((c.tc : Thread Cert.NormKernelIdeal.nD Cert.NormKernelIdeal.τ).loc Cert.NormKernelIdeal.main_v1_1) = v1 c
          ∧ r.2.mem ((c.tc : Thread Cert.NormKernelIdeal.nD Cert.NormKernelIdeal.τ).loc Cert.NormKernelIdeal.main_v1_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v36) = v0 c
          ∧ r.2.mem ((c.tc : Thread Cert.NormReferenceIdeal.nD Cert.NormReferenceIdeal.τ).loc Cert.NormReferenceIdeal.main_v37) = v1 c
          ∧ r.2.mem ((c.tc : Thread Cert.NormReferenceIdeal.nD Cert.NormReferenceIdeal.τ).loc Cert.NormReferenceIdeal.main_v38) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_GatesKernel_GatesKernelIdeal : Prop :=
  True

def algebraic_GatesKernelIdeal_GatesReferenceIdeal [hGatesKernelIdeal : Cert.GatesKernelIdeal.Facts] [hGatesReferenceIdeal : Cert.GatesReferenceIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesKernelIdeal m →
    (∀ c : Dev Cert.GatesKernelIdeal.nD,
      m' ((c.tc : Thread Cert.GatesReferenceIdeal.nD Cert.GatesReferenceIdeal.τ).loc Cert.GatesReferenceIdeal.main_arg0) = m ((c.tc : Thread Cert.GatesKernelIdeal.nD Cert.GatesKernelIdeal.τ).loc Cert.GatesKernelIdeal.main_arg0)
      ∧ m' ((c.tc : Thread Cert.GatesReferenceIdeal.nD Cert.GatesReferenceIdeal.τ).loc Cert.GatesReferenceIdeal.main_arg1) = m ((c.tc : Thread Cert.GatesKernelIdeal.nD Cert.GatesKernelIdeal.τ).loc Cert.GatesKernelIdeal.main_arg1)
      ∧ m' ((c.tc : Thread Cert.GatesReferenceIdeal.nD Cert.GatesReferenceIdeal.τ).loc Cert.GatesReferenceIdeal.main_arg2) = m ((c.tc : Thread Cert.GatesKernelIdeal.nD Cert.GatesKernelIdeal.τ).loc Cert.GatesKernelIdeal.main_arg2)
      ∧ m' ((c.tc : Thread Cert.GatesReferenceIdeal.nD Cert.GatesReferenceIdeal.τ).loc Cert.GatesReferenceIdeal.main_arg3) = m ((c.tc : Thread Cert.GatesKernelIdeal.nD Cert.GatesKernelIdeal.τ).loc Cert.GatesKernelIdeal.main_arg3)
      ∧ m' ((c.tc : Thread Cert.GatesReferenceIdeal.nD Cert.GatesReferenceIdeal.τ).loc Cert.GatesReferenceIdeal.main_arg4) = m ((c.tc : Thread Cert.GatesKernelIdeal.nD Cert.GatesKernelIdeal.τ).loc Cert.GatesKernelIdeal.main_arg4)
      ∧ m' ((c.tc : Thread Cert.GatesReferenceIdeal.nD Cert.GatesReferenceIdeal.τ).loc Cert.GatesReferenceIdeal.main_arg5) = m ((c.tc : Thread Cert.GatesKernelIdeal.nD Cert.GatesKernelIdeal.τ).loc Cert.GatesKernelIdeal.main_arg5)
      ∧ m' ((c.tc : Thread Cert.GatesReferenceIdeal.nD Cert.GatesReferenceIdeal.τ).loc Cert.GatesReferenceIdeal.main_arg6) = m ((c.tc : Thread Cert.GatesKernelIdeal.nD Cert.GatesKernelIdeal.τ).loc Cert.GatesKernelIdeal.main_arg6)
      ∧ m' ((c.tc : Thread Cert.GatesReferenceIdeal.nD Cert.GatesReferenceIdeal.τ).loc Cert.GatesReferenceIdeal.main_arg7) = m ((c.tc : Thread Cert.GatesKernelIdeal.nD Cert.GatesKernelIdeal.τ).loc Cert.GatesKernelIdeal.main_arg7)) →
    ∃ (v0 : (c : Dev Cert.GatesKernelIdeal.nD) → Buf (Elt Ideal) ((c.tc : Thread Cert.GatesKernelIdeal.nD Cert.GatesKernelIdeal.τ).loc Cert.GatesKernelIdeal.main_v43_0)) (v1 : (c : Dev Cert.GatesKernelIdeal.nD) → Buf (Elt Ideal) ((c.tc : Thread Cert.GatesKernelIdeal.nD Cert.GatesKernelIdeal.τ).loc Cert.GatesKernelIdeal.main_v43_1)) (v2 : (c : Dev Cert.GatesKernelIdeal.nD) → Buf (Elt Ideal) ((c.tc : Thread Cert.GatesKernelIdeal.nD Cert.GatesKernelIdeal.τ).loc Cert.GatesKernelIdeal.main_v43_2)) (v3 : (c : Dev Cert.GatesKernelIdeal.nD) → Buf (Elt Ideal) ((c.tc : Thread Cert.GatesKernelIdeal.nD Cert.GatesKernelIdeal.τ).loc Cert.GatesKernelIdeal.main_v43_3)) (v4 : (c : Dev Cert.GatesKernelIdeal.nD) → Buf (Elt Ideal) ((c.tc : Thread Cert.GatesKernelIdeal.nD Cert.GatesKernelIdeal.τ).loc Cert.GatesKernelIdeal.main_v43_4)) (v5 : (c : Dev Cert.GatesKernelIdeal.nD) → Buf (Elt Ideal) ((c.tc : Thread Cert.GatesKernelIdeal.nD Cert.GatesKernelIdeal.τ).loc Cert.GatesKernelIdeal.main_v43_5)),
      θ_run (Cert.GatesKernelIdeal.defs (F := Ideal)) (onTc (τ := Cert.GatesKernelIdeal.τ) (Cert.GatesKernelIdeal.main (F := Ideal))) ⟨m, fun _ => 0, g⟩ (fun r => ∀ c : Dev Cert.GatesKernelIdeal.nD,
          r.2.mem ((c.tc : Thread Cert.GatesKernelIdeal.nD Cert.GatesKernelIdeal.τ).loc Cert.GatesKernelIdeal.main_v43_0) = v0 c
          ∧ r.2.mem ((c.tc : Thread Cert.GatesKernelIdeal.nD Cert.GatesKernelIdeal.τ).loc Cert.GatesKernelIdeal.main_v43_1) = v1 c
          ∧ r.2.mem ((c.tc : Thread Cert.GatesKernelIdeal.nD Cert.GatesKernelIdeal.τ).loc Cert.GatesKernelIdeal.main_v43_2) = v2 c
          ∧ r.2.mem ((c.tc : Thread Cert.GatesKernelIdeal.nD Cert.GatesKernelIdeal.τ).loc Cert.GatesKernelIdeal.main_v43_3) = v3 c
          ∧ r.2.mem ((c.tc : Thread Cert.GatesKernelIdeal.nD Cert.GatesKernelIdeal.τ).loc Cert.GatesKernelIdeal.main_v43_4) = v4 c
          ∧ r.2.mem ((c.tc : Thread Cert.GatesKernelIdeal.nD Cert.GatesKernelIdeal.τ).loc Cert.GatesKernelIdeal.main_v43_5) = v5 c
          ∧ r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
          ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1)
          ∧ r.2.mem ((c.tc : Thread Cert.GatesKernelIdeal.nD Cert.GatesKernelIdeal.τ).loc Cert.GatesKernelIdeal.main_arg2) = m ((c.tc : Thread Cert.GatesKernelIdeal.nD Cert.GatesKernelIdeal.τ).loc Cert.GatesKernelIdeal.main_arg2)
          ∧ r.2.mem ((c.tc : Thread Cert.GatesKernelIdeal.nD Cert.GatesKernelIdeal.τ).loc Cert.GatesKernelIdeal.main_arg3) = m ((c.tc : Thread Cert.GatesKernelIdeal.nD Cert.GatesKernelIdeal.τ).loc Cert.GatesKernelIdeal.main_arg3)
          ∧ r.2.mem ((c.tc : Thread Cert.GatesKernelIdeal.nD Cert.GatesKernelIdeal.τ).loc Cert.GatesKernelIdeal.main_arg4) = m ((c.tc : Thread Cert.GatesKernelIdeal.nD Cert.GatesKernelIdeal.τ).loc Cert.GatesKernelIdeal.main_arg4)
          ∧ r.2.mem ((c.tc : Thread Cert.GatesKernelIdeal.nD Cert.GatesKernelIdeal.τ).loc Cert.GatesKernelIdeal.main_arg5) = m ((c.tc : Thread Cert.GatesKernelIdeal.nD Cert.GatesKernelIdeal.τ).loc Cert.GatesKernelIdeal.main_arg5)
          ∧ r.2.mem ((c.tc : Thread Cert.GatesKernelIdeal.nD Cert.GatesKernelIdeal.τ).loc Cert.GatesKernelIdeal.main_arg6) = m ((c.tc : Thread Cert.GatesKernelIdeal.nD Cert.GatesKernelIdeal.τ).loc Cert.GatesKernelIdeal.main_arg6)
          ∧ r.2.mem ((c.tc : Thread Cert.GatesKernelIdeal.nD Cert.GatesKernelIdeal.τ).loc Cert.GatesKernelIdeal.main_arg7) = m ((c.tc : Thread Cert.GatesKernelIdeal.nD Cert.GatesKernelIdeal.τ).loc Cert.GatesKernelIdeal.main_arg7))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v92) = v0 c
          ∧ r.2.mem ((c.tc : Thread Cert.GatesReferenceIdeal.nD Cert.GatesReferenceIdeal.τ).loc Cert.GatesReferenceIdeal.main_v90) = v1 c
          ∧ r.2.mem ((c.tc : Thread Cert.GatesReferenceIdeal.nD Cert.GatesReferenceIdeal.τ).loc Cert.GatesReferenceIdeal.main_v93) = v2 c
          ∧ r.2.mem ((c.tc : Thread Cert.GatesReferenceIdeal.nD Cert.GatesReferenceIdeal.τ).loc Cert.GatesReferenceIdeal.main_v79) = v3 c
          ∧ r.2.mem ((c.tc : Thread Cert.GatesReferenceIdeal.nD Cert.GatesReferenceIdeal.τ).loc Cert.GatesReferenceIdeal.main_v94) = v4 c
          ∧ r.2.mem ((c.tc : Thread Cert.GatesReferenceIdeal.nD Cert.GatesReferenceIdeal.τ).loc Cert.GatesReferenceIdeal.main_v95) = v5 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4)
          ∧ r.2.mem ((c.tc : Thread Cert.GatesReferenceIdeal.nD Cert.GatesReferenceIdeal.τ).loc Cert.GatesReferenceIdeal.main_arg5) = m' ((c.tc : Thread Cert.GatesReferenceIdeal.nD Cert.GatesReferenceIdeal.τ).loc Cert.GatesReferenceIdeal.main_arg5)
          ∧ r.2.mem ((c.tc : Thread Cert.GatesReferenceIdeal.nD Cert.GatesReferenceIdeal.τ).loc Cert.GatesReferenceIdeal.main_arg6) = m' ((c.tc : Thread Cert.GatesReferenceIdeal.nD Cert.GatesReferenceIdeal.τ).loc Cert.GatesReferenceIdeal.main_arg6)
          ∧ r.2.mem ((c.tc : Thread Cert.GatesReferenceIdeal.nD Cert.GatesReferenceIdeal.τ).loc Cert.GatesReferenceIdeal.main_arg7) = m' ((c.tc : Thread Cert.GatesReferenceIdeal.nD Cert.GatesReferenceIdeal.τ).loc Cert.GatesReferenceIdeal.main_arg7))

def preserves_LruOutXKernel_LruOutXKernelIdeal : Prop :=
  True

def algebraic_LruOutXKernelIdeal_LruOutXReferenceIdeal [hLruOutXKernelIdeal : Cert.LruOutXKernelIdeal.Facts] [hLruOutXReferenceIdeal : Cert.LruOutXReferenceIdeal.Facts] : Prop :=
  ∀ (m : (ℓ : Loc Cert.LruOutXKernelIdeal.nD Cert.LruOutXKernelIdeal.τ Cert.LruOutXKernelIdeal.sig) → Buf (Elt Ideal) ℓ) (g : Dev Cert.LruOutXKernelIdeal.nD → PrngReg)
    (m' : (ℓ : Loc Cert.LruOutXReferenceIdeal.nD Cert.LruOutXReferenceIdeal.τ Cert.LruOutXReferenceIdeal.sig) → Buf (Elt Ideal) ℓ) (g' : Dev Cert.LruOutXReferenceIdeal.nD → PrngReg), Pre_LruOutXKernelIdeal m →
    (∀ c : Dev Cert.LruOutXKernelIdeal.nD,
      m' ((c.tc : Thread Cert.LruOutXReferenceIdeal.nD Cert.LruOutXReferenceIdeal.τ).loc Cert.LruOutXReferenceIdeal.main_arg0) = m ((c.tc : Thread Cert.LruOutXKernelIdeal.nD Cert.LruOutXKernelIdeal.τ).loc Cert.LruOutXKernelIdeal.main_arg0)
      ∧ m' ((c.tc : Thread Cert.LruOutXReferenceIdeal.nD Cert.LruOutXReferenceIdeal.τ).loc Cert.LruOutXReferenceIdeal.main_arg1) = m ((c.tc : Thread Cert.LruOutXKernelIdeal.nD Cert.LruOutXKernelIdeal.τ).loc Cert.LruOutXKernelIdeal.main_arg1)
      ∧ m' ((c.tc : Thread Cert.LruOutXReferenceIdeal.nD Cert.LruOutXReferenceIdeal.τ).loc Cert.LruOutXReferenceIdeal.main_arg2) = m ((c.tc : Thread Cert.LruOutXKernelIdeal.nD Cert.LruOutXKernelIdeal.τ).loc Cert.LruOutXKernelIdeal.main_arg2)) →
    ∃ (v0 : (c : Dev Cert.LruOutXKernelIdeal.nD) → Buf (Elt Ideal) ((c.tc : Thread Cert.LruOutXKernelIdeal.nD Cert.LruOutXKernelIdeal.τ).loc Cert.LruOutXKernelIdeal.main_v3)),
      θ_run (Cert.LruOutXKernelIdeal.defs (F := Ideal)) (onTc (τ := Cert.LruOutXKernelIdeal.τ) (Cert.LruOutXKernelIdeal.main (F := Ideal))) ⟨m, fun _ => 0, g⟩ (fun r => ∀ c : Dev Cert.LruOutXKernelIdeal.nD,
          r.2.mem ((c.tc : Thread Cert.LruOutXKernelIdeal.nD Cert.LruOutXKernelIdeal.τ).loc Cert.LruOutXKernelIdeal.main_v3) = v0 c
          ∧ r.2.mem ((c.tc : Thread Cert.LruOutXKernelIdeal.nD Cert.LruOutXKernelIdeal.τ).loc Cert.LruOutXKernelIdeal.main_arg0) = m ((c.tc : Thread Cert.LruOutXKernelIdeal.nD Cert.LruOutXKernelIdeal.τ).loc Cert.LruOutXKernelIdeal.main_arg0)
          ∧ r.2.mem ((c.tc : Thread Cert.LruOutXKernelIdeal.nD Cert.LruOutXKernelIdeal.τ).loc Cert.LruOutXKernelIdeal.main_arg1) = m ((c.tc : Thread Cert.LruOutXKernelIdeal.nD Cert.LruOutXKernelIdeal.τ).loc Cert.LruOutXKernelIdeal.main_arg1)
          ∧ r.2.mem ((c.tc : Thread Cert.LruOutXKernelIdeal.nD Cert.LruOutXKernelIdeal.τ).loc Cert.LruOutXKernelIdeal.main_arg2) = m ((c.tc : Thread Cert.LruOutXKernelIdeal.nD Cert.LruOutXKernelIdeal.τ).loc Cert.LruOutXKernelIdeal.main_arg2))
      ∧ θ_run (Cert.LruOutXReferenceIdeal.defs (F := Ideal)) (onTc (τ := Cert.LruOutXReferenceIdeal.τ) (Cert.LruOutXReferenceIdeal.main (F := Ideal))) ⟨m', fun _ => 0, g'⟩ (fun r => ∀ c : Dev Cert.LruOutXReferenceIdeal.nD,
          r.2.mem ((c.tc : Thread Cert.LruOutXReferenceIdeal.nD Cert.LruOutXReferenceIdeal.τ).loc Cert.LruOutXReferenceIdeal.main_v3) = v0 c
          ∧ r.2.mem ((c.tc : Thread Cert.LruOutXReferenceIdeal.nD Cert.LruOutXReferenceIdeal.τ).loc Cert.LruOutXReferenceIdeal.main_arg0) = m' ((c.tc : Thread Cert.LruOutXReferenceIdeal.nD Cert.LruOutXReferenceIdeal.τ).loc Cert.LruOutXReferenceIdeal.main_arg0)
          ∧ r.2.mem ((c.tc : Thread Cert.LruOutXReferenceIdeal.nD Cert.LruOutXReferenceIdeal.τ).loc Cert.LruOutXReferenceIdeal.main_arg1) = m' ((c.tc : Thread Cert.LruOutXReferenceIdeal.nD Cert.LruOutXReferenceIdeal.τ).loc Cert.LruOutXReferenceIdeal.main_arg1)
          ∧ r.2.mem ((c.tc : Thread Cert.LruOutXReferenceIdeal.nD Cert.LruOutXReferenceIdeal.τ).loc Cert.LruOutXReferenceIdeal.main_arg2) = m' ((c.tc : Thread Cert.LruOutXReferenceIdeal.nD Cert.LruOutXReferenceIdeal.τ).loc Cert.LruOutXReferenceIdeal.main_arg2))

def preserves_LruOutWKernel_LruOutWKernelIdeal : Prop :=
  True

def algebraic_LruOutWKernelIdeal_LruOutWReferenceIdeal [hLruOutWKernelIdeal : Cert.LruOutWKernelIdeal.Facts] [hLruOutWReferenceIdeal : Cert.LruOutWReferenceIdeal.Facts] : Prop :=
  ∀ (m : (ℓ : Loc Cert.LruOutWKernelIdeal.nD Cert.LruOutWKernelIdeal.τ Cert.LruOutWKernelIdeal.sig) → Buf (Elt Ideal) ℓ) (g : Dev Cert.LruOutWKernelIdeal.nD → PrngReg)
    (m' : (ℓ : Loc Cert.LruOutWReferenceIdeal.nD Cert.LruOutWReferenceIdeal.τ Cert.LruOutWReferenceIdeal.sig) → Buf (Elt Ideal) ℓ) (g' : Dev Cert.LruOutWReferenceIdeal.nD → PrngReg), Pre_LruOutWKernelIdeal m →
    (∀ c : Dev Cert.LruOutWKernelIdeal.nD,
      m' ((c.tc : Thread Cert.LruOutWReferenceIdeal.nD Cert.LruOutWReferenceIdeal.τ).loc Cert.LruOutWReferenceIdeal.main_arg0) = m ((c.tc : Thread Cert.LruOutWKernelIdeal.nD Cert.LruOutWKernelIdeal.τ).loc Cert.LruOutWKernelIdeal.main_arg0)
      ∧ m' ((c.tc : Thread Cert.LruOutWReferenceIdeal.nD Cert.LruOutWReferenceIdeal.τ).loc Cert.LruOutWReferenceIdeal.main_arg1) = m ((c.tc : Thread Cert.LruOutWKernelIdeal.nD Cert.LruOutWKernelIdeal.τ).loc Cert.LruOutWKernelIdeal.main_arg1)
      ∧ m' ((c.tc : Thread Cert.LruOutWReferenceIdeal.nD Cert.LruOutWReferenceIdeal.τ).loc Cert.LruOutWReferenceIdeal.main_arg2) = m ((c.tc : Thread Cert.LruOutWKernelIdeal.nD Cert.LruOutWKernelIdeal.τ).loc Cert.LruOutWKernelIdeal.main_arg2)) →
    ∃ (v0 : (c : Dev Cert.LruOutWKernelIdeal.nD) → Buf (Elt Ideal) ((c.tc : Thread Cert.LruOutWKernelIdeal.nD Cert.LruOutWKernelIdeal.τ).loc Cert.LruOutWKernelIdeal.main_v2)),
      θ_run (Cert.LruOutWKernelIdeal.defs (F := Ideal)) (onTc (τ := Cert.LruOutWKernelIdeal.τ) (Cert.LruOutWKernelIdeal.main (F := Ideal))) ⟨m, fun _ => 0, g⟩ (fun r => ∀ c : Dev Cert.LruOutWKernelIdeal.nD,
          r.2.mem ((c.tc : Thread Cert.LruOutWKernelIdeal.nD Cert.LruOutWKernelIdeal.τ).loc Cert.LruOutWKernelIdeal.main_v2) = v0 c
          ∧ r.2.mem ((c.tc : Thread Cert.LruOutWKernelIdeal.nD Cert.LruOutWKernelIdeal.τ).loc Cert.LruOutWKernelIdeal.main_arg0) = m ((c.tc : Thread Cert.LruOutWKernelIdeal.nD Cert.LruOutWKernelIdeal.τ).loc Cert.LruOutWKernelIdeal.main_arg0)
          ∧ r.2.mem ((c.tc : Thread Cert.LruOutWKernelIdeal.nD Cert.LruOutWKernelIdeal.τ).loc Cert.LruOutWKernelIdeal.main_arg1) = m ((c.tc : Thread Cert.LruOutWKernelIdeal.nD Cert.LruOutWKernelIdeal.τ).loc Cert.LruOutWKernelIdeal.main_arg1)
          ∧ r.2.mem ((c.tc : Thread Cert.LruOutWKernelIdeal.nD Cert.LruOutWKernelIdeal.τ).loc Cert.LruOutWKernelIdeal.main_arg2) = m ((c.tc : Thread Cert.LruOutWKernelIdeal.nD Cert.LruOutWKernelIdeal.τ).loc Cert.LruOutWKernelIdeal.main_arg2))
      ∧ θ_run (Cert.LruOutWReferenceIdeal.defs (F := Ideal)) (onTc (τ := Cert.LruOutWReferenceIdeal.τ) (Cert.LruOutWReferenceIdeal.main (F := Ideal))) ⟨m', fun _ => 0, g'⟩ (fun r => ∀ c : Dev Cert.LruOutWReferenceIdeal.nD,
          r.2.mem ((c.tc : Thread Cert.LruOutWReferenceIdeal.nD Cert.LruOutWReferenceIdeal.τ).loc Cert.LruOutWReferenceIdeal.main_v5) = v0 c
          ∧ r.2.mem ((c.tc : Thread Cert.LruOutWReferenceIdeal.nD Cert.LruOutWReferenceIdeal.τ).loc Cert.LruOutWReferenceIdeal.main_arg0) = m' ((c.tc : Thread Cert.LruOutWReferenceIdeal.nD Cert.LruOutWReferenceIdeal.τ).loc Cert.LruOutWReferenceIdeal.main_arg0)
          ∧ r.2.mem ((c.tc : Thread Cert.LruOutWReferenceIdeal.nD Cert.LruOutWReferenceIdeal.τ).loc Cert.LruOutWReferenceIdeal.main_arg1) = m' ((c.tc : Thread Cert.LruOutWReferenceIdeal.nD Cert.LruOutWReferenceIdeal.τ).loc Cert.LruOutWReferenceIdeal.main_arg1)
          ∧ r.2.mem ((c.tc : Thread Cert.LruOutWReferenceIdeal.nD Cert.LruOutWReferenceIdeal.τ).loc Cert.LruOutWReferenceIdeal.main_arg2) = m' ((c.tc : Thread Cert.LruOutWReferenceIdeal.nD Cert.LruOutWReferenceIdeal.τ).loc Cert.LruOutWReferenceIdeal.main_arg2))

def preserves_LruInXKernel_LruInXKernelIdeal : Prop :=
  True

def algebraic_LruInXKernelIdeal_LruInXReferenceIdeal [hLruInXKernelIdeal : Cert.LruInXKernelIdeal.Facts] [hLruInXReferenceIdeal : Cert.LruInXReferenceIdeal.Facts] : Prop :=
  ∀ (m : (ℓ : Loc Cert.LruInXKernelIdeal.nD Cert.LruInXKernelIdeal.τ Cert.LruInXKernelIdeal.sig) → Buf (Elt Ideal) ℓ) (g : Dev Cert.LruInXKernelIdeal.nD → PrngReg)
    (m' : (ℓ : Loc Cert.LruInXReferenceIdeal.nD Cert.LruInXReferenceIdeal.τ Cert.LruInXReferenceIdeal.sig) → Buf (Elt Ideal) ℓ) (g' : Dev Cert.LruInXReferenceIdeal.nD → PrngReg), Pre_LruInXKernelIdeal m →
    (∀ c : Dev Cert.LruInXKernelIdeal.nD,
      m' ((c.tc : Thread Cert.LruInXReferenceIdeal.nD Cert.LruInXReferenceIdeal.τ).loc Cert.LruInXReferenceIdeal.main_arg0) = m ((c.tc : Thread Cert.LruInXKernelIdeal.nD Cert.LruInXKernelIdeal.τ).loc Cert.LruInXKernelIdeal.main_arg0)
      ∧ m' ((c.tc : Thread Cert.LruInXReferenceIdeal.nD Cert.LruInXReferenceIdeal.τ).loc Cert.LruInXReferenceIdeal.main_arg1) = m ((c.tc : Thread Cert.LruInXKernelIdeal.nD Cert.LruInXKernelIdeal.τ).loc Cert.LruInXKernelIdeal.main_arg1)
      ∧ m' ((c.tc : Thread Cert.LruInXReferenceIdeal.nD Cert.LruInXReferenceIdeal.τ).loc Cert.LruInXReferenceIdeal.main_arg2) = m ((c.tc : Thread Cert.LruInXKernelIdeal.nD Cert.LruInXKernelIdeal.τ).loc Cert.LruInXKernelIdeal.main_arg2)) →
    ∃ (v0 : (c : Dev Cert.LruInXKernelIdeal.nD) → Buf (Elt Ideal) ((c.tc : Thread Cert.LruInXKernelIdeal.nD Cert.LruInXKernelIdeal.τ).loc Cert.LruInXKernelIdeal.main_v5)),
      θ_run (Cert.LruInXKernelIdeal.defs (F := Ideal)) (onTc (τ := Cert.LruInXKernelIdeal.τ) (Cert.LruInXKernelIdeal.main (F := Ideal))) ⟨m, fun _ => 0, g⟩ (fun r => ∀ c : Dev Cert.LruInXKernelIdeal.nD,
          r.2.mem ((c.tc : Thread Cert.LruInXKernelIdeal.nD Cert.LruInXKernelIdeal.τ).loc Cert.LruInXKernelIdeal.main_v5) = v0 c
          ∧ r.2.mem ((c.tc : Thread Cert.LruInXKernelIdeal.nD Cert.LruInXKernelIdeal.τ).loc Cert.LruInXKernelIdeal.main_arg0) = m ((c.tc : Thread Cert.LruInXKernelIdeal.nD Cert.LruInXKernelIdeal.τ).loc Cert.LruInXKernelIdeal.main_arg0)
          ∧ r.2.mem ((c.tc : Thread Cert.LruInXKernelIdeal.nD Cert.LruInXKernelIdeal.τ).loc Cert.LruInXKernelIdeal.main_arg1) = m ((c.tc : Thread Cert.LruInXKernelIdeal.nD Cert.LruInXKernelIdeal.τ).loc Cert.LruInXKernelIdeal.main_arg1)
          ∧ r.2.mem ((c.tc : Thread Cert.LruInXKernelIdeal.nD Cert.LruInXKernelIdeal.τ).loc Cert.LruInXKernelIdeal.main_arg2) = m ((c.tc : Thread Cert.LruInXKernelIdeal.nD Cert.LruInXKernelIdeal.τ).loc Cert.LruInXKernelIdeal.main_arg2))
      ∧ θ_run (Cert.LruInXReferenceIdeal.defs (F := Ideal)) (onTc (τ := Cert.LruInXReferenceIdeal.τ) (Cert.LruInXReferenceIdeal.main (F := Ideal))) ⟨m', fun _ => 0, g'⟩ (fun r => ∀ c : Dev Cert.LruInXReferenceIdeal.nD,
          r.2.mem ((c.tc : Thread Cert.LruInXReferenceIdeal.nD Cert.LruInXReferenceIdeal.τ).loc Cert.LruInXReferenceIdeal.main_v3) = v0 c
          ∧ r.2.mem ((c.tc : Thread Cert.LruInXReferenceIdeal.nD Cert.LruInXReferenceIdeal.τ).loc Cert.LruInXReferenceIdeal.main_arg0) = m' ((c.tc : Thread Cert.LruInXReferenceIdeal.nD Cert.LruInXReferenceIdeal.τ).loc Cert.LruInXReferenceIdeal.main_arg0)
          ∧ r.2.mem ((c.tc : Thread Cert.LruInXReferenceIdeal.nD Cert.LruInXReferenceIdeal.τ).loc Cert.LruInXReferenceIdeal.main_arg1) = m' ((c.tc : Thread Cert.LruInXReferenceIdeal.nD Cert.LruInXReferenceIdeal.τ).loc Cert.LruInXReferenceIdeal.main_arg1)
          ∧ r.2.mem ((c.tc : Thread Cert.LruInXReferenceIdeal.nD Cert.LruInXReferenceIdeal.τ).loc Cert.LruInXReferenceIdeal.main_arg2) = m' ((c.tc : Thread Cert.LruInXReferenceIdeal.nD Cert.LruInXReferenceIdeal.τ).loc Cert.LruInXReferenceIdeal.main_arg2))

def preserves_LruInWKernel_LruInWKernelIdeal : Prop :=
  True

def algebraic_LruInWKernelIdeal_LruInWReferenceIdeal [hLruInWKernelIdeal : Cert.LruInWKernelIdeal.Facts] [hLruInWReferenceIdeal : Cert.LruInWReferenceIdeal.Facts] : Prop :=
  ∀ (m : (ℓ : Loc Cert.LruInWKernelIdeal.nD Cert.LruInWKernelIdeal.τ Cert.LruInWKernelIdeal.sig) → Buf (Elt Ideal) ℓ) (g : Dev Cert.LruInWKernelIdeal.nD → PrngReg)
    (m' : (ℓ : Loc Cert.LruInWReferenceIdeal.nD Cert.LruInWReferenceIdeal.τ Cert.LruInWReferenceIdeal.sig) → Buf (Elt Ideal) ℓ) (g' : Dev Cert.LruInWReferenceIdeal.nD → PrngReg), Pre_LruInWKernelIdeal m →
    (∀ c : Dev Cert.LruInWKernelIdeal.nD,
      m' ((c.tc : Thread Cert.LruInWReferenceIdeal.nD Cert.LruInWReferenceIdeal.τ).loc Cert.LruInWReferenceIdeal.main_arg0) = m ((c.tc : Thread Cert.LruInWKernelIdeal.nD Cert.LruInWKernelIdeal.τ).loc Cert.LruInWKernelIdeal.main_arg0)
      ∧ m' ((c.tc : Thread Cert.LruInWReferenceIdeal.nD Cert.LruInWReferenceIdeal.τ).loc Cert.LruInWReferenceIdeal.main_arg1) = m ((c.tc : Thread Cert.LruInWKernelIdeal.nD Cert.LruInWKernelIdeal.τ).loc Cert.LruInWKernelIdeal.main_arg1)
      ∧ m' ((c.tc : Thread Cert.LruInWReferenceIdeal.nD Cert.LruInWReferenceIdeal.τ).loc Cert.LruInWReferenceIdeal.main_arg2) = m ((c.tc : Thread Cert.LruInWKernelIdeal.nD Cert.LruInWKernelIdeal.τ).loc Cert.LruInWKernelIdeal.main_arg2)) →
    ∃ (v0 : (c : Dev Cert.LruInWKernelIdeal.nD) → Buf (Elt Ideal) ((c.tc : Thread Cert.LruInWKernelIdeal.nD Cert.LruInWKernelIdeal.τ).loc Cert.LruInWKernelIdeal.main_v2)),
      θ_run (Cert.LruInWKernelIdeal.defs (F := Ideal)) (onTc (τ := Cert.LruInWKernelIdeal.τ) (Cert.LruInWKernelIdeal.main (F := Ideal))) ⟨m, fun _ => 0, g⟩ (fun r => ∀ c : Dev Cert.LruInWKernelIdeal.nD,
          r.2.mem ((c.tc : Thread Cert.LruInWKernelIdeal.nD Cert.LruInWKernelIdeal.τ).loc Cert.LruInWKernelIdeal.main_v2) = v0 c
          ∧ r.2.mem ((c.tc : Thread Cert.LruInWKernelIdeal.nD Cert.LruInWKernelIdeal.τ).loc Cert.LruInWKernelIdeal.main_arg0) = m ((c.tc : Thread Cert.LruInWKernelIdeal.nD Cert.LruInWKernelIdeal.τ).loc Cert.LruInWKernelIdeal.main_arg0)
          ∧ r.2.mem ((c.tc : Thread Cert.LruInWKernelIdeal.nD Cert.LruInWKernelIdeal.τ).loc Cert.LruInWKernelIdeal.main_arg1) = m ((c.tc : Thread Cert.LruInWKernelIdeal.nD Cert.LruInWKernelIdeal.τ).loc Cert.LruInWKernelIdeal.main_arg1)
          ∧ r.2.mem ((c.tc : Thread Cert.LruInWKernelIdeal.nD Cert.LruInWKernelIdeal.τ).loc Cert.LruInWKernelIdeal.main_arg2) = m ((c.tc : Thread Cert.LruInWKernelIdeal.nD Cert.LruInWKernelIdeal.τ).loc Cert.LruInWKernelIdeal.main_arg2))
      ∧ θ_run (Cert.LruInWReferenceIdeal.defs (F := Ideal)) (onTc (τ := Cert.LruInWReferenceIdeal.τ) (Cert.LruInWReferenceIdeal.main (F := Ideal))) ⟨m', fun _ => 0, g'⟩ (fun r => ∀ c : Dev Cert.LruInWReferenceIdeal.nD,
          r.2.mem ((c.tc : Thread Cert.LruInWReferenceIdeal.nD Cert.LruInWReferenceIdeal.τ).loc Cert.LruInWReferenceIdeal.main_v7) = v0 c
          ∧ r.2.mem ((c.tc : Thread Cert.LruInWReferenceIdeal.nD Cert.LruInWReferenceIdeal.τ).loc Cert.LruInWReferenceIdeal.main_arg0) = m' ((c.tc : Thread Cert.LruInWReferenceIdeal.nD Cert.LruInWReferenceIdeal.τ).loc Cert.LruInWReferenceIdeal.main_arg0)
          ∧ r.2.mem ((c.tc : Thread Cert.LruInWReferenceIdeal.nD Cert.LruInWReferenceIdeal.τ).loc Cert.LruInWReferenceIdeal.main_arg1) = m' ((c.tc : Thread Cert.LruInWReferenceIdeal.nD Cert.LruInWReferenceIdeal.τ).loc Cert.LruInWReferenceIdeal.main_arg1)
          ∧ r.2.mem ((c.tc : Thread Cert.LruInWReferenceIdeal.nD Cert.LruInWReferenceIdeal.τ).loc Cert.LruInWReferenceIdeal.main_arg2) = m' ((c.tc : Thread Cert.LruInWReferenceIdeal.nD Cert.LruInWReferenceIdeal.τ).loc Cert.LruInWReferenceIdeal.main_arg2))

def preserves_LruInKernel_LruInKernelIdeal : Prop :=
  True

def algebraic_LruInKernelIdeal_LruInReferenceIdeal [hLruInKernelIdeal : Cert.LruInKernelIdeal.Facts] [hLruInReferenceIdeal : Cert.LruInReferenceIdeal.Facts] : Prop :=
  ∀ (m : (ℓ : Loc Cert.LruInKernelIdeal.nD Cert.LruInKernelIdeal.τ Cert.LruInKernelIdeal.sig) → Buf (Elt Ideal) ℓ) (g : Dev Cert.LruInKernelIdeal.nD → PrngReg)
    (m' : (ℓ : Loc Cert.LruInReferenceIdeal.nD Cert.LruInReferenceIdeal.τ Cert.LruInReferenceIdeal.sig) → Buf (Elt Ideal) ℓ) (g' : Dev Cert.LruInReferenceIdeal.nD → PrngReg), Pre_LruInKernelIdeal m →
    (∀ c : Dev Cert.LruInKernelIdeal.nD,
      m' ((c.tc : Thread Cert.LruInReferenceIdeal.nD Cert.LruInReferenceIdeal.τ).loc Cert.LruInReferenceIdeal.main_arg0) = m ((c.tc : Thread Cert.LruInKernelIdeal.nD Cert.LruInKernelIdeal.τ).loc Cert.LruInKernelIdeal.main_arg0)
      ∧ m' ((c.tc : Thread Cert.LruInReferenceIdeal.nD Cert.LruInReferenceIdeal.τ).loc Cert.LruInReferenceIdeal.main_arg1) = m ((c.tc : Thread Cert.LruInKernelIdeal.nD Cert.LruInKernelIdeal.τ).loc Cert.LruInKernelIdeal.main_arg1)) →
    ∃ (v0 : (c : Dev Cert.LruInKernelIdeal.nD) → Buf (Elt Ideal) ((c.tc : Thread Cert.LruInKernelIdeal.nD Cert.LruInKernelIdeal.τ).loc Cert.LruInKernelIdeal.main_v5)),
      θ_run (Cert.LruInKernelIdeal.defs (F := Ideal)) (onTc (τ := Cert.LruInKernelIdeal.τ) (Cert.LruInKernelIdeal.main (F := Ideal))) ⟨m, fun _ => 0, g⟩ (fun r => ∀ c : Dev Cert.LruInKernelIdeal.nD,
          r.2.mem ((c.tc : Thread Cert.LruInKernelIdeal.nD Cert.LruInKernelIdeal.τ).loc Cert.LruInKernelIdeal.main_v5) = v0 c
          ∧ r.2.mem ((c.tc : Thread Cert.LruInKernelIdeal.nD Cert.LruInKernelIdeal.τ).loc Cert.LruInKernelIdeal.main_arg0) = m ((c.tc : Thread Cert.LruInKernelIdeal.nD Cert.LruInKernelIdeal.τ).loc Cert.LruInKernelIdeal.main_arg0)
          ∧ r.2.mem ((c.tc : Thread Cert.LruInKernelIdeal.nD Cert.LruInKernelIdeal.τ).loc Cert.LruInKernelIdeal.main_arg1) = m ((c.tc : Thread Cert.LruInKernelIdeal.nD Cert.LruInKernelIdeal.τ).loc Cert.LruInKernelIdeal.main_arg1))
      ∧ θ_run (Cert.LruInReferenceIdeal.defs (F := Ideal)) (onTc (τ := Cert.LruInReferenceIdeal.τ) (Cert.LruInReferenceIdeal.main (F := Ideal))) ⟨m', fun _ => 0, g'⟩ (fun r => ∀ c : Dev Cert.LruInReferenceIdeal.nD,
          r.2.mem ((c.tc : Thread Cert.LruInReferenceIdeal.nD Cert.LruInReferenceIdeal.τ).loc Cert.LruInReferenceIdeal.main_v0) = v0 c
          ∧ r.2.mem ((c.tc : Thread Cert.LruInReferenceIdeal.nD Cert.LruInReferenceIdeal.τ).loc Cert.LruInReferenceIdeal.main_arg0) = m' ((c.tc : Thread Cert.LruInReferenceIdeal.nD Cert.LruInReferenceIdeal.τ).loc Cert.LruInReferenceIdeal.main_arg0)
          ∧ r.2.mem ((c.tc : Thread Cert.LruInReferenceIdeal.nD Cert.LruInReferenceIdeal.τ).loc Cert.LruInReferenceIdeal.main_arg1) = m' ((c.tc : Thread Cert.LruInReferenceIdeal.nD Cert.LruInReferenceIdeal.τ).loc Cert.LruInReferenceIdeal.main_arg1))

def preserves_LruOutKernel_LruOutKernelIdeal : Prop :=
  True

def algebraic_LruOutKernelIdeal_LruOutReferenceIdeal [hLruOutKernelIdeal : Cert.LruOutKernelIdeal.Facts] [hLruOutReferenceIdeal : Cert.LruOutReferenceIdeal.Facts] : Prop :=
  ∀ (m : (ℓ : Loc Cert.LruOutKernelIdeal.nD Cert.LruOutKernelIdeal.τ Cert.LruOutKernelIdeal.sig) → Buf (Elt Ideal) ℓ) (g : Dev Cert.LruOutKernelIdeal.nD → PrngReg)
    (m' : (ℓ : Loc Cert.LruOutReferenceIdeal.nD Cert.LruOutReferenceIdeal.τ Cert.LruOutReferenceIdeal.sig) → Buf (Elt Ideal) ℓ) (g' : Dev Cert.LruOutReferenceIdeal.nD → PrngReg), Pre_LruOutKernelIdeal m →
    (∀ c : Dev Cert.LruOutKernelIdeal.nD,
      m' ((c.tc : Thread Cert.LruOutReferenceIdeal.nD Cert.LruOutReferenceIdeal.τ).loc Cert.LruOutReferenceIdeal.main_arg0) = m ((c.tc : Thread Cert.LruOutKernelIdeal.nD Cert.LruOutKernelIdeal.τ).loc Cert.LruOutKernelIdeal.main_arg0)
      ∧ m' ((c.tc : Thread Cert.LruOutReferenceIdeal.nD Cert.LruOutReferenceIdeal.τ).loc Cert.LruOutReferenceIdeal.main_arg1) = m ((c.tc : Thread Cert.LruOutKernelIdeal.nD Cert.LruOutKernelIdeal.τ).loc Cert.LruOutKernelIdeal.main_arg1)
      ∧ m' ((c.tc : Thread Cert.LruOutReferenceIdeal.nD Cert.LruOutReferenceIdeal.τ).loc Cert.LruOutReferenceIdeal.main_arg2) = m ((c.tc : Thread Cert.LruOutKernelIdeal.nD Cert.LruOutKernelIdeal.τ).loc Cert.LruOutKernelIdeal.main_arg2)) →
    ∃ (v0 : (c : Dev Cert.LruOutKernelIdeal.nD) → Buf (Elt Ideal) ((c.tc : Thread Cert.LruOutKernelIdeal.nD Cert.LruOutKernelIdeal.τ).loc Cert.LruOutKernelIdeal.main_v3)),
      θ_run (Cert.LruOutKernelIdeal.defs (F := Ideal)) (onTc (τ := Cert.LruOutKernelIdeal.τ) (Cert.LruOutKernelIdeal.main (F := Ideal))) ⟨m, fun _ => 0, g⟩ (fun r => ∀ c : Dev Cert.LruOutKernelIdeal.nD,
          r.2.mem ((c.tc : Thread Cert.LruOutKernelIdeal.nD Cert.LruOutKernelIdeal.τ).loc Cert.LruOutKernelIdeal.main_v3) = v0 c
          ∧ r.2.mem ((c.tc : Thread Cert.LruOutKernelIdeal.nD Cert.LruOutKernelIdeal.τ).loc Cert.LruOutKernelIdeal.main_arg0) = m ((c.tc : Thread Cert.LruOutKernelIdeal.nD Cert.LruOutKernelIdeal.τ).loc Cert.LruOutKernelIdeal.main_arg0)
          ∧ r.2.mem ((c.tc : Thread Cert.LruOutKernelIdeal.nD Cert.LruOutKernelIdeal.τ).loc Cert.LruOutKernelIdeal.main_arg1) = m ((c.tc : Thread Cert.LruOutKernelIdeal.nD Cert.LruOutKernelIdeal.τ).loc Cert.LruOutKernelIdeal.main_arg1)
          ∧ r.2.mem ((c.tc : Thread Cert.LruOutKernelIdeal.nD Cert.LruOutKernelIdeal.τ).loc Cert.LruOutKernelIdeal.main_arg2) = m ((c.tc : Thread Cert.LruOutKernelIdeal.nD Cert.LruOutKernelIdeal.τ).loc Cert.LruOutKernelIdeal.main_arg2))
      ∧ θ_run (Cert.LruOutReferenceIdeal.defs (F := Ideal)) (onTc (τ := Cert.LruOutReferenceIdeal.τ) (Cert.LruOutReferenceIdeal.main (F := Ideal))) ⟨m', fun _ => 0, g'⟩ (fun r => ∀ c : Dev Cert.LruOutReferenceIdeal.nD,
          r.2.mem ((c.tc : Thread Cert.LruOutReferenceIdeal.nD Cert.LruOutReferenceIdeal.τ).loc Cert.LruOutReferenceIdeal.main_v1) = v0 c
          ∧ r.2.mem ((c.tc : Thread Cert.LruOutReferenceIdeal.nD Cert.LruOutReferenceIdeal.τ).loc Cert.LruOutReferenceIdeal.main_arg0) = m' ((c.tc : Thread Cert.LruOutReferenceIdeal.nD Cert.LruOutReferenceIdeal.τ).loc Cert.LruOutReferenceIdeal.main_arg0)
          ∧ r.2.mem ((c.tc : Thread Cert.LruOutReferenceIdeal.nD Cert.LruOutReferenceIdeal.τ).loc Cert.LruOutReferenceIdeal.main_arg1) = m' ((c.tc : Thread Cert.LruOutReferenceIdeal.nD Cert.LruOutReferenceIdeal.τ).loc Cert.LruOutReferenceIdeal.main_arg1)
          ∧ r.2.mem ((c.tc : Thread Cert.LruOutReferenceIdeal.nD Cert.LruOutReferenceIdeal.τ).loc Cert.LruOutReferenceIdeal.main_arg2) = m' ((c.tc : Thread Cert.LruOutReferenceIdeal.nD Cert.LruOutReferenceIdeal.τ).loc Cert.LruOutReferenceIdeal.main_arg2))

def preserves_GateUpKernel_GateUpKernelIdeal : Prop :=
  True

def algebraic_GateUpKernelIdeal_GateUpReferenceIdeal [hGateUpKernelIdeal : Cert.GateUpKernelIdeal.Facts] [hGateUpReferenceIdeal : Cert.GateUpReferenceIdeal.Facts] : Prop :=
  ∀ (m : (ℓ : Loc Cert.GateUpKernelIdeal.nD Cert.GateUpKernelIdeal.τ Cert.GateUpKernelIdeal.sig) → Buf (Elt Ideal) ℓ) (g : Dev Cert.GateUpKernelIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpKernelIdeal m →
    (∀ c : Dev Cert.GateUpKernelIdeal.nD,
      m' ((c.tc : Thread Cert.GateUpReferenceIdeal.nD Cert.GateUpReferenceIdeal.τ).loc Cert.GateUpReferenceIdeal.main_arg0) = m ((c.tc : Thread Cert.GateUpKernelIdeal.nD Cert.GateUpKernelIdeal.τ).loc Cert.GateUpKernelIdeal.main_arg0)
      ∧ m' ((c.tc : Thread Cert.GateUpReferenceIdeal.nD Cert.GateUpReferenceIdeal.τ).loc Cert.GateUpReferenceIdeal.main_arg1) = m ((c.tc : Thread Cert.GateUpKernelIdeal.nD Cert.GateUpKernelIdeal.τ).loc Cert.GateUpKernelIdeal.main_arg1)) →
    ∃ (v0 : (c : Dev Cert.GateUpKernelIdeal.nD) → Buf (Elt Ideal) ((c.tc : Thread Cert.GateUpKernelIdeal.nD Cert.GateUpKernelIdeal.τ).loc Cert.GateUpKernelIdeal.main_v5_0)) (v1 : (c : Dev Cert.GateUpKernelIdeal.nD) → Buf (Elt Ideal) ((c.tc : Thread Cert.GateUpKernelIdeal.nD Cert.GateUpKernelIdeal.τ).loc Cert.GateUpKernelIdeal.main_v5_1)) (v2 : (c : Dev Cert.GateUpKernelIdeal.nD) → Buf (Elt Ideal) ((c.tc : Thread Cert.GateUpKernelIdeal.nD Cert.GateUpKernelIdeal.τ).loc Cert.GateUpKernelIdeal.main_v5_2)),
      θ_run (Cert.GateUpKernelIdeal.defs (F := Ideal)) (onTc (τ := Cert.GateUpKernelIdeal.τ) (Cert.GateUpKernelIdeal.main (F := Ideal))) ⟨m, fun _ => 0, g⟩ (fun r => ∀ c : Dev Cert.GateUpKernelIdeal.nD,
          r.2.mem ((c.tc : Thread Cert.GateUpKernelIdeal.nD Cert.GateUpKernelIdeal.τ).loc Cert.GateUpKernelIdeal.main_v5_0) = v0 c
          ∧ r.2.mem ((c.tc : Thread Cert.GateUpKernelIdeal.nD Cert.GateUpKernelIdeal.τ).loc Cert.GateUpKernelIdeal.main_v5_1) = v1 c
          ∧ r.2.mem ((c.tc : Thread Cert.GateUpKernelIdeal.nD Cert.GateUpKernelIdeal.τ).loc Cert.GateUpKernelIdeal.main_v5_2) = v2 c
          ∧ r.2.mem ((c.tc : Thread Cert.GateUpKernelIdeal.nD Cert.GateUpKernelIdeal.τ).loc Cert.GateUpKernelIdeal.main_arg0) = m ((c.tc : Thread Cert.GateUpKernelIdeal.nD Cert.GateUpKernelIdeal.τ).loc Cert.GateUpKernelIdeal.main_arg0)
          ∧ r.2.mem ((c.tc : Thread Cert.GateUpKernelIdeal.nD Cert.GateUpKernelIdeal.τ).loc Cert.GateUpKernelIdeal.main_arg1) = m ((c.tc : Thread Cert.GateUpKernelIdeal.nD Cert.GateUpKernelIdeal.τ).loc Cert.GateUpKernelIdeal.main_arg1))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v3) = v0 c
          ∧ r.2.mem ((c.tc : Thread Cert.GateUpReferenceIdeal.nD Cert.GateUpReferenceIdeal.τ).loc Cert.GateUpReferenceIdeal.main_v4) = v1 c
          ∧ r.2.mem ((c.tc : Thread Cert.GateUpReferenceIdeal.nD Cert.GateUpReferenceIdeal.τ).loc Cert.GateUpReferenceIdeal.main_v7) = v2 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v3)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v3) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_MlaUkvKernel_MlaUkvKernelIdeal : Prop :=
  True

def algebraic_MlaUkvKernelIdeal_MlaUkvReferenceIdeal [hMlaUkvKernelIdeal : Cert.MlaUkvKernelIdeal.Facts] [hMlaUkvReferenceIdeal : Cert.MlaUkvReferenceIdeal.Facts] : Prop :=
  ∀ (m : (ℓ : Loc Cert.MlaUkvKernelIdeal.nD Cert.MlaUkvKernelIdeal.τ Cert.MlaUkvKernelIdeal.sig) → Buf (Elt Ideal) ℓ) (g : Dev Cert.MlaUkvKernelIdeal.nD → PrngReg)
    (m' : (ℓ : Loc Cert.MlaUkvReferenceIdeal.nD Cert.MlaUkvReferenceIdeal.τ Cert.MlaUkvReferenceIdeal.sig) → Buf (Elt Ideal) ℓ) (g' : Dev Cert.MlaUkvReferenceIdeal.nD → PrngReg), Pre_MlaUkvKernelIdeal m →
    (∀ c : Dev Cert.MlaUkvKernelIdeal.nD,
      m' ((c.tc : Thread Cert.MlaUkvReferenceIdeal.nD Cert.MlaUkvReferenceIdeal.τ).loc Cert.MlaUkvReferenceIdeal.main_arg0) = m ((c.tc : Thread Cert.MlaUkvKernelIdeal.nD Cert.MlaUkvKernelIdeal.τ).loc Cert.MlaUkvKernelIdeal.main_arg0)
      ∧ m' ((c.tc : Thread Cert.MlaUkvReferenceIdeal.nD Cert.MlaUkvReferenceIdeal.τ).loc Cert.MlaUkvReferenceIdeal.main_arg1) = m ((c.tc : Thread Cert.MlaUkvKernelIdeal.nD Cert.MlaUkvKernelIdeal.τ).loc Cert.MlaUkvKernelIdeal.main_arg1)) →
    ∃ (v0 : (c : Dev Cert.MlaUkvKernelIdeal.nD) → Buf (Elt Ideal) ((c.tc : Thread Cert.MlaUkvKernelIdeal.nD Cert.MlaUkvKernelIdeal.τ).loc Cert.MlaUkvKernelIdeal.main_v5)),
      θ_run (Cert.MlaUkvKernelIdeal.defs (F := Ideal)) (onTc (τ := Cert.MlaUkvKernelIdeal.τ) (Cert.MlaUkvKernelIdeal.main (F := Ideal))) ⟨m, fun _ => 0, g⟩ (fun r => ∀ c : Dev Cert.MlaUkvKernelIdeal.nD,
          r.2.mem ((c.tc : Thread Cert.MlaUkvKernelIdeal.nD Cert.MlaUkvKernelIdeal.τ).loc Cert.MlaUkvKernelIdeal.main_v5) = v0 c
          ∧ r.2.mem ((c.tc : Thread Cert.MlaUkvKernelIdeal.nD Cert.MlaUkvKernelIdeal.τ).loc Cert.MlaUkvKernelIdeal.main_arg0) = m ((c.tc : Thread Cert.MlaUkvKernelIdeal.nD Cert.MlaUkvKernelIdeal.τ).loc Cert.MlaUkvKernelIdeal.main_arg0)
          ∧ r.2.mem ((c.tc : Thread Cert.MlaUkvKernelIdeal.nD Cert.MlaUkvKernelIdeal.τ).loc Cert.MlaUkvKernelIdeal.main_arg1) = m ((c.tc : Thread Cert.MlaUkvKernelIdeal.nD Cert.MlaUkvKernelIdeal.τ).loc Cert.MlaUkvKernelIdeal.main_arg1))
      ∧ θ_run (Cert.MlaUkvReferenceIdeal.defs (F := Ideal)) (onTc (τ := Cert.MlaUkvReferenceIdeal.τ) (Cert.MlaUkvReferenceIdeal.main (F := Ideal))) ⟨m', fun _ => 0, g'⟩ (fun r => ∀ c : Dev Cert.MlaUkvReferenceIdeal.nD,
          r.2.mem ((c.tc : Thread Cert.MlaUkvReferenceIdeal.nD Cert.MlaUkvReferenceIdeal.τ).loc Cert.MlaUkvReferenceIdeal.main_v1) = v0 c
          ∧ r.2.mem ((c.tc : Thread Cert.MlaUkvReferenceIdeal.nD Cert.MlaUkvReferenceIdeal.τ).loc Cert.MlaUkvReferenceIdeal.main_arg0) = m' ((c.tc : Thread Cert.MlaUkvReferenceIdeal.nD Cert.MlaUkvReferenceIdeal.τ).loc Cert.MlaUkvReferenceIdeal.main_arg0)
          ∧ r.2.mem ((c.tc : Thread Cert.MlaUkvReferenceIdeal.nD Cert.MlaUkvReferenceIdeal.τ).loc Cert.MlaUkvReferenceIdeal.main_arg1) = m' ((c.tc : Thread Cert.MlaUkvReferenceIdeal.nD Cert.MlaUkvReferenceIdeal.τ).loc Cert.MlaUkvReferenceIdeal.main_arg1))

def preserves_MlaUkvXKernel_MlaUkvXKernelIdeal : Prop :=
  True

def algebraic_MlaUkvXKernelIdeal_MlaUkvXReferenceIdeal [hMlaUkvXKernelIdeal : Cert.MlaUkvXKernelIdeal.Facts] [hMlaUkvXReferenceIdeal : Cert.MlaUkvXReferenceIdeal.Facts] : Prop :=
  ∀ (m : (ℓ : Loc Cert.MlaUkvXKernelIdeal.nD Cert.MlaUkvXKernelIdeal.τ Cert.MlaUkvXKernelIdeal.sig) → Buf (Elt Ideal) ℓ) (g : Dev Cert.MlaUkvXKernelIdeal.nD → PrngReg)
    (m' : (ℓ : Loc Cert.MlaUkvXReferenceIdeal.nD Cert.MlaUkvXReferenceIdeal.τ Cert.MlaUkvXReferenceIdeal.sig) → Buf (Elt Ideal) ℓ) (g' : Dev Cert.MlaUkvXReferenceIdeal.nD → PrngReg), Pre_MlaUkvXKernelIdeal m →
    (∀ c : Dev Cert.MlaUkvXKernelIdeal.nD,
      m' ((c.tc : Thread Cert.MlaUkvXReferenceIdeal.nD Cert.MlaUkvXReferenceIdeal.τ).loc Cert.MlaUkvXReferenceIdeal.main_arg0) = m ((c.tc : Thread Cert.MlaUkvXKernelIdeal.nD Cert.MlaUkvXKernelIdeal.τ).loc Cert.MlaUkvXKernelIdeal.main_arg0)
      ∧ m' ((c.tc : Thread Cert.MlaUkvXReferenceIdeal.nD Cert.MlaUkvXReferenceIdeal.τ).loc Cert.MlaUkvXReferenceIdeal.main_arg1) = m ((c.tc : Thread Cert.MlaUkvXKernelIdeal.nD Cert.MlaUkvXKernelIdeal.τ).loc Cert.MlaUkvXKernelIdeal.main_arg1)
      ∧ m' ((c.tc : Thread Cert.MlaUkvXReferenceIdeal.nD Cert.MlaUkvXReferenceIdeal.τ).loc Cert.MlaUkvXReferenceIdeal.main_arg2) = m ((c.tc : Thread Cert.MlaUkvXKernelIdeal.nD Cert.MlaUkvXKernelIdeal.τ).loc Cert.MlaUkvXKernelIdeal.main_arg2)) →
    ∃ (v0 : (c : Dev Cert.MlaUkvXKernelIdeal.nD) → Buf (Elt Ideal) ((c.tc : Thread Cert.MlaUkvXKernelIdeal.nD Cert.MlaUkvXKernelIdeal.τ).loc Cert.MlaUkvXKernelIdeal.main_v5)),
      θ_run (Cert.MlaUkvXKernelIdeal.defs (F := Ideal)) (onTc (τ := Cert.MlaUkvXKernelIdeal.τ) (Cert.MlaUkvXKernelIdeal.main (F := Ideal))) ⟨m, fun _ => 0, g⟩ (fun r => ∀ c : Dev Cert.MlaUkvXKernelIdeal.nD,
          r.2.mem ((c.tc : Thread Cert.MlaUkvXKernelIdeal.nD Cert.MlaUkvXKernelIdeal.τ).loc Cert.MlaUkvXKernelIdeal.main_v5) = v0 c
          ∧ r.2.mem ((c.tc : Thread Cert.MlaUkvXKernelIdeal.nD Cert.MlaUkvXKernelIdeal.τ).loc Cert.MlaUkvXKernelIdeal.main_arg0) = m ((c.tc : Thread Cert.MlaUkvXKernelIdeal.nD Cert.MlaUkvXKernelIdeal.τ).loc Cert.MlaUkvXKernelIdeal.main_arg0)
          ∧ r.2.mem ((c.tc : Thread Cert.MlaUkvXKernelIdeal.nD Cert.MlaUkvXKernelIdeal.τ).loc Cert.MlaUkvXKernelIdeal.main_arg1) = m ((c.tc : Thread Cert.MlaUkvXKernelIdeal.nD Cert.MlaUkvXKernelIdeal.τ).loc Cert.MlaUkvXKernelIdeal.main_arg1)
          ∧ r.2.mem ((c.tc : Thread Cert.MlaUkvXKernelIdeal.nD Cert.MlaUkvXKernelIdeal.τ).loc Cert.MlaUkvXKernelIdeal.main_arg2) = m ((c.tc : Thread Cert.MlaUkvXKernelIdeal.nD Cert.MlaUkvXKernelIdeal.τ).loc Cert.MlaUkvXKernelIdeal.main_arg2))
      ∧ θ_run (Cert.MlaUkvXReferenceIdeal.defs (F := Ideal)) (onTc (τ := Cert.MlaUkvXReferenceIdeal.τ) (Cert.MlaUkvXReferenceIdeal.main (F := Ideal))) ⟨m', fun _ => 0, g'⟩ (fun r => ∀ c : Dev Cert.MlaUkvXReferenceIdeal.nD,
          r.2.mem ((c.tc : Thread Cert.MlaUkvXReferenceIdeal.nD Cert.MlaUkvXReferenceIdeal.τ).loc Cert.MlaUkvXReferenceIdeal.main_v3) = v0 c
          ∧ r.2.mem ((c.tc : Thread Cert.MlaUkvXReferenceIdeal.nD Cert.MlaUkvXReferenceIdeal.τ).loc Cert.MlaUkvXReferenceIdeal.main_arg0) = m' ((c.tc : Thread Cert.MlaUkvXReferenceIdeal.nD Cert.MlaUkvXReferenceIdeal.τ).loc Cert.MlaUkvXReferenceIdeal.main_arg0)
          ∧ r.2.mem ((c.tc : Thread Cert.MlaUkvXReferenceIdeal.nD Cert.MlaUkvXReferenceIdeal.τ).loc Cert.MlaUkvXReferenceIdeal.main_arg1) = m' ((c.tc : Thread Cert.MlaUkvXReferenceIdeal.nD Cert.MlaUkvXReferenceIdeal.τ).loc Cert.MlaUkvXReferenceIdeal.main_arg1)
          ∧ r.2.mem ((c.tc : Thread Cert.MlaUkvXReferenceIdeal.nD Cert.MlaUkvXReferenceIdeal.τ).loc Cert.MlaUkvXReferenceIdeal.main_arg2) = m' ((c.tc : Thread Cert.MlaUkvXReferenceIdeal.nD Cert.MlaUkvXReferenceIdeal.τ).loc Cert.MlaUkvXReferenceIdeal.main_arg2))

def preserves_MlaUkvWKernel_MlaUkvWKernelIdeal : Prop :=
  True

def algebraic_MlaUkvWKernelIdeal_MlaUkvWReferenceIdeal [hMlaUkvWKernelIdeal : Cert.MlaUkvWKernelIdeal.Facts] [hMlaUkvWReferenceIdeal : Cert.MlaUkvWReferenceIdeal.Facts] : Prop :=
  ∀ (m : (ℓ : Loc Cert.MlaUkvWKernelIdeal.nD Cert.MlaUkvWKernelIdeal.τ Cert.MlaUkvWKernelIdeal.sig) → Buf (Elt Ideal) ℓ) (g : Dev Cert.MlaUkvWKernelIdeal.nD → PrngReg)
    (m' : (ℓ : Loc Cert.MlaUkvWReferenceIdeal.nD Cert.MlaUkvWReferenceIdeal.τ Cert.MlaUkvWReferenceIdeal.sig) → Buf (Elt Ideal) ℓ) (g' : Dev Cert.MlaUkvWReferenceIdeal.nD → PrngReg), Pre_MlaUkvWKernelIdeal m →
    (∀ c : Dev Cert.MlaUkvWKernelIdeal.nD,
      m' ((c.tc : Thread Cert.MlaUkvWReferenceIdeal.nD Cert.MlaUkvWReferenceIdeal.τ).loc Cert.MlaUkvWReferenceIdeal.main_arg0) = m ((c.tc : Thread Cert.MlaUkvWKernelIdeal.nD Cert.MlaUkvWKernelIdeal.τ).loc Cert.MlaUkvWKernelIdeal.main_arg0)
      ∧ m' ((c.tc : Thread Cert.MlaUkvWReferenceIdeal.nD Cert.MlaUkvWReferenceIdeal.τ).loc Cert.MlaUkvWReferenceIdeal.main_arg1) = m ((c.tc : Thread Cert.MlaUkvWKernelIdeal.nD Cert.MlaUkvWKernelIdeal.τ).loc Cert.MlaUkvWKernelIdeal.main_arg1)
      ∧ m' ((c.tc : Thread Cert.MlaUkvWReferenceIdeal.nD Cert.MlaUkvWReferenceIdeal.τ).loc Cert.MlaUkvWReferenceIdeal.main_arg2) = m ((c.tc : Thread Cert.MlaUkvWKernelIdeal.nD Cert.MlaUkvWKernelIdeal.τ).loc Cert.MlaUkvWKernelIdeal.main_arg2)) →
    ∃ (v0 : (c : Dev Cert.MlaUkvWKernelIdeal.nD) → Buf (Elt Ideal) ((c.tc : Thread Cert.MlaUkvWKernelIdeal.nD Cert.MlaUkvWKernelIdeal.τ).loc Cert.MlaUkvWKernelIdeal.main_v2)),
      θ_run (Cert.MlaUkvWKernelIdeal.defs (F := Ideal)) (onTc (τ := Cert.MlaUkvWKernelIdeal.τ) (Cert.MlaUkvWKernelIdeal.main (F := Ideal))) ⟨m, fun _ => 0, g⟩ (fun r => ∀ c : Dev Cert.MlaUkvWKernelIdeal.nD,
          r.2.mem ((c.tc : Thread Cert.MlaUkvWKernelIdeal.nD Cert.MlaUkvWKernelIdeal.τ).loc Cert.MlaUkvWKernelIdeal.main_v2) = v0 c
          ∧ r.2.mem ((c.tc : Thread Cert.MlaUkvWKernelIdeal.nD Cert.MlaUkvWKernelIdeal.τ).loc Cert.MlaUkvWKernelIdeal.main_arg0) = m ((c.tc : Thread Cert.MlaUkvWKernelIdeal.nD Cert.MlaUkvWKernelIdeal.τ).loc Cert.MlaUkvWKernelIdeal.main_arg0)
          ∧ r.2.mem ((c.tc : Thread Cert.MlaUkvWKernelIdeal.nD Cert.MlaUkvWKernelIdeal.τ).loc Cert.MlaUkvWKernelIdeal.main_arg1) = m ((c.tc : Thread Cert.MlaUkvWKernelIdeal.nD Cert.MlaUkvWKernelIdeal.τ).loc Cert.MlaUkvWKernelIdeal.main_arg1)
          ∧ r.2.mem ((c.tc : Thread Cert.MlaUkvWKernelIdeal.nD Cert.MlaUkvWKernelIdeal.τ).loc Cert.MlaUkvWKernelIdeal.main_arg2) = m ((c.tc : Thread Cert.MlaUkvWKernelIdeal.nD Cert.MlaUkvWKernelIdeal.τ).loc Cert.MlaUkvWKernelIdeal.main_arg2))
      ∧ θ_run (Cert.MlaUkvWReferenceIdeal.defs (F := Ideal)) (onTc (τ := Cert.MlaUkvWReferenceIdeal.τ) (Cert.MlaUkvWReferenceIdeal.main (F := Ideal))) ⟨m', fun _ => 0, g'⟩ (fun r => ∀ c : Dev Cert.MlaUkvWReferenceIdeal.nD,
          r.2.mem ((c.tc : Thread Cert.MlaUkvWReferenceIdeal.nD Cert.MlaUkvWReferenceIdeal.τ).loc Cert.MlaUkvWReferenceIdeal.main_v7) = v0 c
          ∧ r.2.mem ((c.tc : Thread Cert.MlaUkvWReferenceIdeal.nD Cert.MlaUkvWReferenceIdeal.τ).loc Cert.MlaUkvWReferenceIdeal.main_arg0) = m' ((c.tc : Thread Cert.MlaUkvWReferenceIdeal.nD Cert.MlaUkvWReferenceIdeal.τ).loc Cert.MlaUkvWReferenceIdeal.main_arg0)
          ∧ r.2.mem ((c.tc : Thread Cert.MlaUkvWReferenceIdeal.nD Cert.MlaUkvWReferenceIdeal.τ).loc Cert.MlaUkvWReferenceIdeal.main_arg1) = m' ((c.tc : Thread Cert.MlaUkvWReferenceIdeal.nD Cert.MlaUkvWReferenceIdeal.τ).loc Cert.MlaUkvWReferenceIdeal.main_arg1)
          ∧ r.2.mem ((c.tc : Thread Cert.MlaUkvWReferenceIdeal.nD Cert.MlaUkvWReferenceIdeal.τ).loc Cert.MlaUkvWReferenceIdeal.main_arg2) = m' ((c.tc : Thread Cert.MlaUkvWReferenceIdeal.nD Cert.MlaUkvWReferenceIdeal.τ).loc Cert.MlaUkvWReferenceIdeal.main_arg2))

def preserves_MlaInKernel_MlaInKernelIdeal : Prop :=
  True

def algebraic_MlaInKernelIdeal_MlaInReferenceIdeal [hMlaInKernelIdeal : Cert.MlaInKernelIdeal.Facts] [hMlaInReferenceIdeal : Cert.MlaInReferenceIdeal.Facts] : Prop :=
  ∀ (m : (ℓ : Loc Cert.MlaInKernelIdeal.nD Cert.MlaInKernelIdeal.τ Cert.MlaInKernelIdeal.sig) → Buf (Elt Ideal) ℓ) (g : Dev Cert.MlaInKernelIdeal.nD → PrngReg)
    (m' : (ℓ : Loc Cert.MlaInReferenceIdeal.nD Cert.MlaInReferenceIdeal.τ Cert.MlaInReferenceIdeal.sig) → Buf (Elt Ideal) ℓ) (g' : Dev Cert.MlaInReferenceIdeal.nD → PrngReg), Pre_MlaInKernelIdeal m →
    (∀ c : Dev Cert.MlaInKernelIdeal.nD,
      m' ((c.tc : Thread Cert.MlaInReferenceIdeal.nD Cert.MlaInReferenceIdeal.τ).loc Cert.MlaInReferenceIdeal.main_arg0) = m ((c.tc : Thread Cert.MlaInKernelIdeal.nD Cert.MlaInKernelIdeal.τ).loc Cert.MlaInKernelIdeal.main_arg0)
      ∧ m' ((c.tc : Thread Cert.MlaInReferenceIdeal.nD Cert.MlaInReferenceIdeal.τ).loc Cert.MlaInReferenceIdeal.main_arg1) = m ((c.tc : Thread Cert.MlaInKernelIdeal.nD Cert.MlaInKernelIdeal.τ).loc Cert.MlaInKernelIdeal.main_arg1)) →
    ∃ (v0 : (c : Dev Cert.MlaInKernelIdeal.nD) → Buf (Elt Ideal) ((c.tc : Thread Cert.MlaInKernelIdeal.nD Cert.MlaInKernelIdeal.τ).loc Cert.MlaInKernelIdeal.main_v4)),
      θ_run (Cert.MlaInKernelIdeal.defs (F := Ideal)) (onTc (τ := Cert.MlaInKernelIdeal.τ) (Cert.MlaInKernelIdeal.main (F := Ideal))) ⟨m, fun _ => 0, g⟩ (fun r => ∀ c : Dev Cert.MlaInKernelIdeal.nD,
          r.2.mem ((c.tc : Thread Cert.MlaInKernelIdeal.nD Cert.MlaInKernelIdeal.τ).loc Cert.MlaInKernelIdeal.main_v4) = v0 c
          ∧ r.2.mem ((c.tc : Thread Cert.MlaInKernelIdeal.nD Cert.MlaInKernelIdeal.τ).loc Cert.MlaInKernelIdeal.main_arg0) = m ((c.tc : Thread Cert.MlaInKernelIdeal.nD Cert.MlaInKernelIdeal.τ).loc Cert.MlaInKernelIdeal.main_arg0)
          ∧ r.2.mem ((c.tc : Thread Cert.MlaInKernelIdeal.nD Cert.MlaInKernelIdeal.τ).loc Cert.MlaInKernelIdeal.main_arg1) = m ((c.tc : Thread Cert.MlaInKernelIdeal.nD Cert.MlaInKernelIdeal.τ).loc Cert.MlaInKernelIdeal.main_arg1))
      ∧ θ_run (Cert.MlaInReferenceIdeal.defs (F := Ideal)) (onTc (τ := Cert.MlaInReferenceIdeal.τ) (Cert.MlaInReferenceIdeal.main (F := Ideal))) ⟨m', fun _ => 0, g'⟩ (fun r => ∀ c : Dev Cert.MlaInReferenceIdeal.nD,
          r.2.mem ((c.tc : Thread Cert.MlaInReferenceIdeal.nD Cert.MlaInReferenceIdeal.τ).loc Cert.MlaInReferenceIdeal.main_v1) = v0 c
          ∧ r.2.mem ((c.tc : Thread Cert.MlaInReferenceIdeal.nD Cert.MlaInReferenceIdeal.τ).loc Cert.MlaInReferenceIdeal.main_arg0) = m' ((c.tc : Thread Cert.MlaInReferenceIdeal.nD Cert.MlaInReferenceIdeal.τ).loc Cert.MlaInReferenceIdeal.main_arg0)
          ∧ r.2.mem ((c.tc : Thread Cert.MlaInReferenceIdeal.nD Cert.MlaInReferenceIdeal.τ).loc Cert.MlaInReferenceIdeal.main_arg1) = m' ((c.tc : Thread Cert.MlaInReferenceIdeal.nD Cert.MlaInReferenceIdeal.τ).loc Cert.MlaInReferenceIdeal.main_arg1))

def preserves_MlaInXKernel_MlaInXKernelIdeal : Prop :=
  True

def algebraic_MlaInXKernelIdeal_MlaInXReferenceIdeal [hMlaInXKernelIdeal : Cert.MlaInXKernelIdeal.Facts] [hMlaInXReferenceIdeal : Cert.MlaInXReferenceIdeal.Facts] : Prop :=
  ∀ (m : (ℓ : Loc Cert.MlaInXKernelIdeal.nD Cert.MlaInXKernelIdeal.τ Cert.MlaInXKernelIdeal.sig) → Buf (Elt Ideal) ℓ) (g : Dev Cert.MlaInXKernelIdeal.nD → PrngReg)
    (m' : (ℓ : Loc Cert.MlaInXReferenceIdeal.nD Cert.MlaInXReferenceIdeal.τ Cert.MlaInXReferenceIdeal.sig) → Buf (Elt Ideal) ℓ) (g' : Dev Cert.MlaInXReferenceIdeal.nD → PrngReg), Pre_MlaInXKernelIdeal m →
    (∀ c : Dev Cert.MlaInXKernelIdeal.nD,
      m' ((c.tc : Thread Cert.MlaInXReferenceIdeal.nD Cert.MlaInXReferenceIdeal.τ).loc Cert.MlaInXReferenceIdeal.main_arg0) = m ((c.tc : Thread Cert.MlaInXKernelIdeal.nD Cert.MlaInXKernelIdeal.τ).loc Cert.MlaInXKernelIdeal.main_arg0)
      ∧ m' ((c.tc : Thread Cert.MlaInXReferenceIdeal.nD Cert.MlaInXReferenceIdeal.τ).loc Cert.MlaInXReferenceIdeal.main_arg1) = m ((c.tc : Thread Cert.MlaInXKernelIdeal.nD Cert.MlaInXKernelIdeal.τ).loc Cert.MlaInXKernelIdeal.main_arg1)
      ∧ m' ((c.tc : Thread Cert.MlaInXReferenceIdeal.nD Cert.MlaInXReferenceIdeal.τ).loc Cert.MlaInXReferenceIdeal.main_arg2) = m ((c.tc : Thread Cert.MlaInXKernelIdeal.nD Cert.MlaInXKernelIdeal.τ).loc Cert.MlaInXKernelIdeal.main_arg2)) →
    ∃ (v0 : (c : Dev Cert.MlaInXKernelIdeal.nD) → Buf (Elt Ideal) ((c.tc : Thread Cert.MlaInXKernelIdeal.nD Cert.MlaInXKernelIdeal.τ).loc Cert.MlaInXKernelIdeal.main_v5)),
      θ_run (Cert.MlaInXKernelIdeal.defs (F := Ideal)) (onTc (τ := Cert.MlaInXKernelIdeal.τ) (Cert.MlaInXKernelIdeal.main (F := Ideal))) ⟨m, fun _ => 0, g⟩ (fun r => ∀ c : Dev Cert.MlaInXKernelIdeal.nD,
          r.2.mem ((c.tc : Thread Cert.MlaInXKernelIdeal.nD Cert.MlaInXKernelIdeal.τ).loc Cert.MlaInXKernelIdeal.main_v5) = v0 c
          ∧ r.2.mem ((c.tc : Thread Cert.MlaInXKernelIdeal.nD Cert.MlaInXKernelIdeal.τ).loc Cert.MlaInXKernelIdeal.main_arg0) = m ((c.tc : Thread Cert.MlaInXKernelIdeal.nD Cert.MlaInXKernelIdeal.τ).loc Cert.MlaInXKernelIdeal.main_arg0)
          ∧ r.2.mem ((c.tc : Thread Cert.MlaInXKernelIdeal.nD Cert.MlaInXKernelIdeal.τ).loc Cert.MlaInXKernelIdeal.main_arg1) = m ((c.tc : Thread Cert.MlaInXKernelIdeal.nD Cert.MlaInXKernelIdeal.τ).loc Cert.MlaInXKernelIdeal.main_arg1)
          ∧ r.2.mem ((c.tc : Thread Cert.MlaInXKernelIdeal.nD Cert.MlaInXKernelIdeal.τ).loc Cert.MlaInXKernelIdeal.main_arg2) = m ((c.tc : Thread Cert.MlaInXKernelIdeal.nD Cert.MlaInXKernelIdeal.τ).loc Cert.MlaInXKernelIdeal.main_arg2))
      ∧ θ_run (Cert.MlaInXReferenceIdeal.defs (F := Ideal)) (onTc (τ := Cert.MlaInXReferenceIdeal.τ) (Cert.MlaInXReferenceIdeal.main (F := Ideal))) ⟨m', fun _ => 0, g'⟩ (fun r => ∀ c : Dev Cert.MlaInXReferenceIdeal.nD,
          r.2.mem ((c.tc : Thread Cert.MlaInXReferenceIdeal.nD Cert.MlaInXReferenceIdeal.τ).loc Cert.MlaInXReferenceIdeal.main_v3) = v0 c
          ∧ r.2.mem ((c.tc : Thread Cert.MlaInXReferenceIdeal.nD Cert.MlaInXReferenceIdeal.τ).loc Cert.MlaInXReferenceIdeal.main_arg0) = m' ((c.tc : Thread Cert.MlaInXReferenceIdeal.nD Cert.MlaInXReferenceIdeal.τ).loc Cert.MlaInXReferenceIdeal.main_arg0)
          ∧ r.2.mem ((c.tc : Thread Cert.MlaInXReferenceIdeal.nD Cert.MlaInXReferenceIdeal.τ).loc Cert.MlaInXReferenceIdeal.main_arg1) = m' ((c.tc : Thread Cert.MlaInXReferenceIdeal.nD Cert.MlaInXReferenceIdeal.τ).loc Cert.MlaInXReferenceIdeal.main_arg1)
          ∧ r.2.mem ((c.tc : Thread Cert.MlaInXReferenceIdeal.nD Cert.MlaInXReferenceIdeal.τ).loc Cert.MlaInXReferenceIdeal.main_arg2) = m' ((c.tc : Thread Cert.MlaInXReferenceIdeal.nD Cert.MlaInXReferenceIdeal.τ).loc Cert.MlaInXReferenceIdeal.main_arg2))

def preserves_MlaInWKernel_MlaInWKernelIdeal : Prop :=
  True

def algebraic_MlaInWKernelIdeal_MlaInWReferenceIdeal [hMlaInWKernelIdeal : Cert.MlaInWKernelIdeal.Facts] [hMlaInWReferenceIdeal : Cert.MlaInWReferenceIdeal.Facts] : Prop :=
  ∀ (m : (ℓ : Loc Cert.MlaInWKernelIdeal.nD Cert.MlaInWKernelIdeal.τ Cert.MlaInWKernelIdeal.sig) → Buf (Elt Ideal) ℓ) (g : Dev Cert.MlaInWKernelIdeal.nD → PrngReg)
    (m' : (ℓ : Loc Cert.MlaInWReferenceIdeal.nD Cert.MlaInWReferenceIdeal.τ Cert.MlaInWReferenceIdeal.sig) → Buf (Elt Ideal) ℓ) (g' : Dev Cert.MlaInWReferenceIdeal.nD → PrngReg), Pre_MlaInWKernelIdeal m →
    (∀ c : Dev Cert.MlaInWKernelIdeal.nD,
      m' ((c.tc : Thread Cert.MlaInWReferenceIdeal.nD Cert.MlaInWReferenceIdeal.τ).loc Cert.MlaInWReferenceIdeal.main_arg0) = m ((c.tc : Thread Cert.MlaInWKernelIdeal.nD Cert.MlaInWKernelIdeal.τ).loc Cert.MlaInWKernelIdeal.main_arg0)
      ∧ m' ((c.tc : Thread Cert.MlaInWReferenceIdeal.nD Cert.MlaInWReferenceIdeal.τ).loc Cert.MlaInWReferenceIdeal.main_arg1) = m ((c.tc : Thread Cert.MlaInWKernelIdeal.nD Cert.MlaInWKernelIdeal.τ).loc Cert.MlaInWKernelIdeal.main_arg1)
      ∧ m' ((c.tc : Thread Cert.MlaInWReferenceIdeal.nD Cert.MlaInWReferenceIdeal.τ).loc Cert.MlaInWReferenceIdeal.main_arg2) = m ((c.tc : Thread Cert.MlaInWKernelIdeal.nD Cert.MlaInWKernelIdeal.τ).loc Cert.MlaInWKernelIdeal.main_arg2)) →
    ∃ (v0 : (c : Dev Cert.MlaInWKernelIdeal.nD) → Buf (Elt Ideal) ((c.tc : Thread Cert.MlaInWKernelIdeal.nD Cert.MlaInWKernelIdeal.τ).loc Cert.MlaInWKernelIdeal.main_v3)),
      θ_run (Cert.MlaInWKernelIdeal.defs (F := Ideal)) (onTc (τ := Cert.MlaInWKernelIdeal.τ) (Cert.MlaInWKernelIdeal.main (F := Ideal))) ⟨m, fun _ => 0, g⟩ (fun r => ∀ c : Dev Cert.MlaInWKernelIdeal.nD,
          r.2.mem ((c.tc : Thread Cert.MlaInWKernelIdeal.nD Cert.MlaInWKernelIdeal.τ).loc Cert.MlaInWKernelIdeal.main_v3) = v0 c
          ∧ r.2.mem ((c.tc : Thread Cert.MlaInWKernelIdeal.nD Cert.MlaInWKernelIdeal.τ).loc Cert.MlaInWKernelIdeal.main_arg0) = m ((c.tc : Thread Cert.MlaInWKernelIdeal.nD Cert.MlaInWKernelIdeal.τ).loc Cert.MlaInWKernelIdeal.main_arg0)
          ∧ r.2.mem ((c.tc : Thread Cert.MlaInWKernelIdeal.nD Cert.MlaInWKernelIdeal.τ).loc Cert.MlaInWKernelIdeal.main_arg1) = m ((c.tc : Thread Cert.MlaInWKernelIdeal.nD Cert.MlaInWKernelIdeal.τ).loc Cert.MlaInWKernelIdeal.main_arg1)
          ∧ r.2.mem ((c.tc : Thread Cert.MlaInWKernelIdeal.nD Cert.MlaInWKernelIdeal.τ).loc Cert.MlaInWKernelIdeal.main_arg2) = m ((c.tc : Thread Cert.MlaInWKernelIdeal.nD Cert.MlaInWKernelIdeal.τ).loc Cert.MlaInWKernelIdeal.main_arg2))
      ∧ θ_run (Cert.MlaInWReferenceIdeal.defs (F := Ideal)) (onTc (τ := Cert.MlaInWReferenceIdeal.τ) (Cert.MlaInWReferenceIdeal.main (F := Ideal))) ⟨m', fun _ => 0, g'⟩ (fun r => ∀ c : Dev Cert.MlaInWReferenceIdeal.nD,
          r.2.mem ((c.tc : Thread Cert.MlaInWReferenceIdeal.nD Cert.MlaInWReferenceIdeal.τ).loc Cert.MlaInWReferenceIdeal.main_v6) = v0 c
          ∧ r.2.mem ((c.tc : Thread Cert.MlaInWReferenceIdeal.nD Cert.MlaInWReferenceIdeal.τ).loc Cert.MlaInWReferenceIdeal.main_arg0) = m' ((c.tc : Thread Cert.MlaInWReferenceIdeal.nD Cert.MlaInWReferenceIdeal.τ).loc Cert.MlaInWReferenceIdeal.main_arg0)
          ∧ r.2.mem ((c.tc : Thread Cert.MlaInWReferenceIdeal.nD Cert.MlaInWReferenceIdeal.τ).loc Cert.MlaInWReferenceIdeal.main_arg1) = m' ((c.tc : Thread Cert.MlaInWReferenceIdeal.nD Cert.MlaInWReferenceIdeal.τ).loc Cert.MlaInWReferenceIdeal.main_arg1)
          ∧ r.2.mem ((c.tc : Thread Cert.MlaInWReferenceIdeal.nD Cert.MlaInWReferenceIdeal.τ).loc Cert.MlaInWReferenceIdeal.main_arg2) = m' ((c.tc : Thread Cert.MlaInWReferenceIdeal.nD Cert.MlaInWReferenceIdeal.τ).loc Cert.MlaInWReferenceIdeal.main_arg2))

def preserves_MlaUqKernel_MlaUqKernelIdeal : Prop :=
  True

def algebraic_MlaUqKernelIdeal_MlaUqReferenceIdeal [hMlaUqKernelIdeal : Cert.MlaUqKernelIdeal.Facts] [hMlaUqReferenceIdeal : Cert.MlaUqReferenceIdeal.Facts] : Prop :=
  ∀ (m : (ℓ : Loc Cert.MlaUqKernelIdeal.nD Cert.MlaUqKernelIdeal.τ Cert.MlaUqKernelIdeal.sig) → Buf (Elt Ideal) ℓ) (g : Dev Cert.MlaUqKernelIdeal.nD → PrngReg)
    (m' : (ℓ : Loc Cert.MlaUqReferenceIdeal.nD Cert.MlaUqReferenceIdeal.τ Cert.MlaUqReferenceIdeal.sig) → Buf (Elt Ideal) ℓ) (g' : Dev Cert.MlaUqReferenceIdeal.nD → PrngReg), Pre_MlaUqKernelIdeal m →
    (∀ c : Dev Cert.MlaUqKernelIdeal.nD,
      m' ((c.tc : Thread Cert.MlaUqReferenceIdeal.nD Cert.MlaUqReferenceIdeal.τ).loc Cert.MlaUqReferenceIdeal.main_arg0) = m ((c.tc : Thread Cert.MlaUqKernelIdeal.nD Cert.MlaUqKernelIdeal.τ).loc Cert.MlaUqKernelIdeal.main_arg0)
      ∧ m' ((c.tc : Thread Cert.MlaUqReferenceIdeal.nD Cert.MlaUqReferenceIdeal.τ).loc Cert.MlaUqReferenceIdeal.main_arg1) = m ((c.tc : Thread Cert.MlaUqKernelIdeal.nD Cert.MlaUqKernelIdeal.τ).loc Cert.MlaUqKernelIdeal.main_arg1)) →
    ∃ (v0 : (c : Dev Cert.MlaUqKernelIdeal.nD) → Buf (Elt Ideal) ((c.tc : Thread Cert.MlaUqKernelIdeal.nD Cert.MlaUqKernelIdeal.τ).loc Cert.MlaUqKernelIdeal.main_v8)),
      θ_run (Cert.MlaUqKernelIdeal.defs (F := Ideal)) (onTc (τ := Cert.MlaUqKernelIdeal.τ) (Cert.MlaUqKernelIdeal.main (F := Ideal))) ⟨m, fun _ => 0, g⟩ (fun r => ∀ c : Dev Cert.MlaUqKernelIdeal.nD,
          r.2.mem ((c.tc : Thread Cert.MlaUqKernelIdeal.nD Cert.MlaUqKernelIdeal.τ).loc Cert.MlaUqKernelIdeal.main_v8) = v0 c
          ∧ r.2.mem ((c.tc : Thread Cert.MlaUqKernelIdeal.nD Cert.MlaUqKernelIdeal.τ).loc Cert.MlaUqKernelIdeal.main_arg0) = m ((c.tc : Thread Cert.MlaUqKernelIdeal.nD Cert.MlaUqKernelIdeal.τ).loc Cert.MlaUqKernelIdeal.main_arg0)
          ∧ r.2.mem ((c.tc : Thread Cert.MlaUqKernelIdeal.nD Cert.MlaUqKernelIdeal.τ).loc Cert.MlaUqKernelIdeal.main_arg1) = m ((c.tc : Thread Cert.MlaUqKernelIdeal.nD Cert.MlaUqKernelIdeal.τ).loc Cert.MlaUqKernelIdeal.main_arg1))
      ∧ θ_run (Cert.MlaUqReferenceIdeal.defs (F := Ideal)) (onTc (τ := Cert.MlaUqReferenceIdeal.τ) (Cert.MlaUqReferenceIdeal.main (F := Ideal))) ⟨m', fun _ => 0, g'⟩ (fun r => ∀ c : Dev Cert.MlaUqReferenceIdeal.nD,
          r.2.mem ((c.tc : Thread Cert.MlaUqReferenceIdeal.nD Cert.MlaUqReferenceIdeal.τ).loc Cert.MlaUqReferenceIdeal.main_v6) = v0 c
          ∧ r.2.mem ((c.tc : Thread Cert.MlaUqReferenceIdeal.nD Cert.MlaUqReferenceIdeal.τ).loc Cert.MlaUqReferenceIdeal.main_arg0) = m' ((c.tc : Thread Cert.MlaUqReferenceIdeal.nD Cert.MlaUqReferenceIdeal.τ).loc Cert.MlaUqReferenceIdeal.main_arg0)
          ∧ r.2.mem ((c.tc : Thread Cert.MlaUqReferenceIdeal.nD Cert.MlaUqReferenceIdeal.τ).loc Cert.MlaUqReferenceIdeal.main_arg1) = m' ((c.tc : Thread Cert.MlaUqReferenceIdeal.nD Cert.MlaUqReferenceIdeal.τ).loc Cert.MlaUqReferenceIdeal.main_arg1))

def preserves_MlaUqXKernel_MlaUqXKernelIdeal : Prop :=
  True

def algebraic_MlaUqXKernelIdeal_MlaUqXReferenceIdeal [hMlaUqXKernelIdeal : Cert.MlaUqXKernelIdeal.Facts] [hMlaUqXReferenceIdeal : Cert.MlaUqXReferenceIdeal.Facts] : Prop :=
  ∀ (m : (ℓ : Loc Cert.MlaUqXKernelIdeal.nD Cert.MlaUqXKernelIdeal.τ Cert.MlaUqXKernelIdeal.sig) → Buf (Elt Ideal) ℓ) (g : Dev Cert.MlaUqXKernelIdeal.nD → PrngReg)
    (m' : (ℓ : Loc Cert.MlaUqXReferenceIdeal.nD Cert.MlaUqXReferenceIdeal.τ Cert.MlaUqXReferenceIdeal.sig) → Buf (Elt Ideal) ℓ) (g' : Dev Cert.MlaUqXReferenceIdeal.nD → PrngReg), Pre_MlaUqXKernelIdeal m →
    (∀ c : Dev Cert.MlaUqXKernelIdeal.nD,
      m' ((c.tc : Thread Cert.MlaUqXReferenceIdeal.nD Cert.MlaUqXReferenceIdeal.τ).loc Cert.MlaUqXReferenceIdeal.main_arg0) = m ((c.tc : Thread Cert.MlaUqXKernelIdeal.nD Cert.MlaUqXKernelIdeal.τ).loc Cert.MlaUqXKernelIdeal.main_arg0)
      ∧ m' ((c.tc : Thread Cert.MlaUqXReferenceIdeal.nD Cert.MlaUqXReferenceIdeal.τ).loc Cert.MlaUqXReferenceIdeal.main_arg1) = m ((c.tc : Thread Cert.MlaUqXKernelIdeal.nD Cert.MlaUqXKernelIdeal.τ).loc Cert.MlaUqXKernelIdeal.main_arg1)
      ∧ m' ((c.tc : Thread Cert.MlaUqXReferenceIdeal.nD Cert.MlaUqXReferenceIdeal.τ).loc Cert.MlaUqXReferenceIdeal.main_arg2) = m ((c.tc : Thread Cert.MlaUqXKernelIdeal.nD Cert.MlaUqXKernelIdeal.τ).loc Cert.MlaUqXKernelIdeal.main_arg2)
      ∧ m' ((c.tc : Thread Cert.MlaUqXReferenceIdeal.nD Cert.MlaUqXReferenceIdeal.τ).loc Cert.MlaUqXReferenceIdeal.main_arg3) = m ((c.tc : Thread Cert.MlaUqXKernelIdeal.nD Cert.MlaUqXKernelIdeal.τ).loc Cert.MlaUqXKernelIdeal.main_arg3)) →
    ∃ (v0 : (c : Dev Cert.MlaUqXKernelIdeal.nD) → Buf (Elt Ideal) ((c.tc : Thread Cert.MlaUqXKernelIdeal.nD Cert.MlaUqXKernelIdeal.τ).loc Cert.MlaUqXKernelIdeal.main_v9)),
      θ_run (Cert.MlaUqXKernelIdeal.defs (F := Ideal)) (onTc (τ := Cert.MlaUqXKernelIdeal.τ) (Cert.MlaUqXKernelIdeal.main (F := Ideal))) ⟨m, fun _ => 0, g⟩ (fun r => ∀ c : Dev Cert.MlaUqXKernelIdeal.nD,
          r.2.mem ((c.tc : Thread Cert.MlaUqXKernelIdeal.nD Cert.MlaUqXKernelIdeal.τ).loc Cert.MlaUqXKernelIdeal.main_v9) = v0 c
          ∧ r.2.mem ((c.tc : Thread Cert.MlaUqXKernelIdeal.nD Cert.MlaUqXKernelIdeal.τ).loc Cert.MlaUqXKernelIdeal.main_arg0) = m ((c.tc : Thread Cert.MlaUqXKernelIdeal.nD Cert.MlaUqXKernelIdeal.τ).loc Cert.MlaUqXKernelIdeal.main_arg0)
          ∧ r.2.mem ((c.tc : Thread Cert.MlaUqXKernelIdeal.nD Cert.MlaUqXKernelIdeal.τ).loc Cert.MlaUqXKernelIdeal.main_arg1) = m ((c.tc : Thread Cert.MlaUqXKernelIdeal.nD Cert.MlaUqXKernelIdeal.τ).loc Cert.MlaUqXKernelIdeal.main_arg1)
          ∧ r.2.mem ((c.tc : Thread Cert.MlaUqXKernelIdeal.nD Cert.MlaUqXKernelIdeal.τ).loc Cert.MlaUqXKernelIdeal.main_arg2) = m ((c.tc : Thread Cert.MlaUqXKernelIdeal.nD Cert.MlaUqXKernelIdeal.τ).loc Cert.MlaUqXKernelIdeal.main_arg2)
          ∧ r.2.mem ((c.tc : Thread Cert.MlaUqXKernelIdeal.nD Cert.MlaUqXKernelIdeal.τ).loc Cert.MlaUqXKernelIdeal.main_arg3) = m ((c.tc : Thread Cert.MlaUqXKernelIdeal.nD Cert.MlaUqXKernelIdeal.τ).loc Cert.MlaUqXKernelIdeal.main_arg3))
      ∧ θ_run (Cert.MlaUqXReferenceIdeal.defs (F := Ideal)) (onTc (τ := Cert.MlaUqXReferenceIdeal.τ) (Cert.MlaUqXReferenceIdeal.main (F := Ideal))) ⟨m', fun _ => 0, g'⟩ (fun r => ∀ c : Dev Cert.MlaUqXReferenceIdeal.nD,
          r.2.mem ((c.tc : Thread Cert.MlaUqXReferenceIdeal.nD Cert.MlaUqXReferenceIdeal.τ).loc Cert.MlaUqXReferenceIdeal.main_v14) = v0 c
          ∧ r.2.mem ((c.tc : Thread Cert.MlaUqXReferenceIdeal.nD Cert.MlaUqXReferenceIdeal.τ).loc Cert.MlaUqXReferenceIdeal.main_arg0) = m' ((c.tc : Thread Cert.MlaUqXReferenceIdeal.nD Cert.MlaUqXReferenceIdeal.τ).loc Cert.MlaUqXReferenceIdeal.main_arg0)
          ∧ r.2.mem ((c.tc : Thread Cert.MlaUqXReferenceIdeal.nD Cert.MlaUqXReferenceIdeal.τ).loc Cert.MlaUqXReferenceIdeal.main_arg1) = m' ((c.tc : Thread Cert.MlaUqXReferenceIdeal.nD Cert.MlaUqXReferenceIdeal.τ).loc Cert.MlaUqXReferenceIdeal.main_arg1)
          ∧ r.2.mem ((c.tc : Thread Cert.MlaUqXReferenceIdeal.nD Cert.MlaUqXReferenceIdeal.τ).loc Cert.MlaUqXReferenceIdeal.main_arg2) = m' ((c.tc : Thread Cert.MlaUqXReferenceIdeal.nD Cert.MlaUqXReferenceIdeal.τ).loc Cert.MlaUqXReferenceIdeal.main_arg2)
          ∧ r.2.mem ((c.tc : Thread Cert.MlaUqXReferenceIdeal.nD Cert.MlaUqXReferenceIdeal.τ).loc Cert.MlaUqXReferenceIdeal.main_arg3) = m' ((c.tc : Thread Cert.MlaUqXReferenceIdeal.nD Cert.MlaUqXReferenceIdeal.τ).loc Cert.MlaUqXReferenceIdeal.main_arg3))

def preserves_MlaUqWKernel_MlaUqWKernelIdeal : Prop :=
  True

def algebraic_MlaUqWKernelIdeal_MlaUqWReferenceIdeal [hMlaUqWKernelIdeal : Cert.MlaUqWKernelIdeal.Facts] [hMlaUqWReferenceIdeal : Cert.MlaUqWReferenceIdeal.Facts] : Prop :=
  ∀ (m : (ℓ : Loc Cert.MlaUqWKernelIdeal.nD Cert.MlaUqWKernelIdeal.τ Cert.MlaUqWKernelIdeal.sig) → Buf (Elt Ideal) ℓ) (g : Dev Cert.MlaUqWKernelIdeal.nD → PrngReg)
    (m' : (ℓ : Loc Cert.MlaUqWReferenceIdeal.nD Cert.MlaUqWReferenceIdeal.τ Cert.MlaUqWReferenceIdeal.sig) → Buf (Elt Ideal) ℓ) (g' : Dev Cert.MlaUqWReferenceIdeal.nD → PrngReg), Pre_MlaUqWKernelIdeal m →
    (∀ c : Dev Cert.MlaUqWKernelIdeal.nD,
      m' ((c.tc : Thread Cert.MlaUqWReferenceIdeal.nD Cert.MlaUqWReferenceIdeal.τ).loc Cert.MlaUqWReferenceIdeal.main_arg0) = m ((c.tc : Thread Cert.MlaUqWKernelIdeal.nD Cert.MlaUqWKernelIdeal.τ).loc Cert.MlaUqWKernelIdeal.main_arg0)
      ∧ m' ((c.tc : Thread Cert.MlaUqWReferenceIdeal.nD Cert.MlaUqWReferenceIdeal.τ).loc Cert.MlaUqWReferenceIdeal.main_arg1) = m ((c.tc : Thread Cert.MlaUqWKernelIdeal.nD Cert.MlaUqWKernelIdeal.τ).loc Cert.MlaUqWKernelIdeal.main_arg1)
      ∧ m' ((c.tc : Thread Cert.MlaUqWReferenceIdeal.nD Cert.MlaUqWReferenceIdeal.τ).loc Cert.MlaUqWReferenceIdeal.main_arg2) = m ((c.tc : Thread Cert.MlaUqWKernelIdeal.nD Cert.MlaUqWKernelIdeal.τ).loc Cert.MlaUqWKernelIdeal.main_arg2)
      ∧ m' ((c.tc : Thread Cert.MlaUqWReferenceIdeal.nD Cert.MlaUqWReferenceIdeal.τ).loc Cert.MlaUqWReferenceIdeal.main_arg3) = m ((c.tc : Thread Cert.MlaUqWKernelIdeal.nD Cert.MlaUqWKernelIdeal.τ).loc Cert.MlaUqWKernelIdeal.main_arg3)) →
    ∃ (v0 : (c : Dev Cert.MlaUqWKernelIdeal.nD) → Buf (Elt Ideal) ((c.tc : Thread Cert.MlaUqWKernelIdeal.nD Cert.MlaUqWKernelIdeal.τ).loc Cert.MlaUqWKernelIdeal.main_v3)),
      θ_run (Cert.MlaUqWKernelIdeal.defs (F := Ideal)) (onTc (τ := Cert.MlaUqWKernelIdeal.τ) (Cert.MlaUqWKernelIdeal.main (F := Ideal))) ⟨m, fun _ => 0, g⟩ (fun r => ∀ c : Dev Cert.MlaUqWKernelIdeal.nD,
          r.2.mem ((c.tc : Thread Cert.MlaUqWKernelIdeal.nD Cert.MlaUqWKernelIdeal.τ).loc Cert.MlaUqWKernelIdeal.main_v3) = v0 c
          ∧ r.2.mem ((c.tc : Thread Cert.MlaUqWKernelIdeal.nD Cert.MlaUqWKernelIdeal.τ).loc Cert.MlaUqWKernelIdeal.main_arg0) = m ((c.tc : Thread Cert.MlaUqWKernelIdeal.nD Cert.MlaUqWKernelIdeal.τ).loc Cert.MlaUqWKernelIdeal.main_arg0)
          ∧ r.2.mem ((c.tc : Thread Cert.MlaUqWKernelIdeal.nD Cert.MlaUqWKernelIdeal.τ).loc Cert.MlaUqWKernelIdeal.main_arg1) = m ((c.tc : Thread Cert.MlaUqWKernelIdeal.nD Cert.MlaUqWKernelIdeal.τ).loc Cert.MlaUqWKernelIdeal.main_arg1)
          ∧ r.2.mem ((c.tc : Thread Cert.MlaUqWKernelIdeal.nD Cert.MlaUqWKernelIdeal.τ).loc Cert.MlaUqWKernelIdeal.main_arg2) = m ((c.tc : Thread Cert.MlaUqWKernelIdeal.nD Cert.MlaUqWKernelIdeal.τ).loc Cert.MlaUqWKernelIdeal.main_arg2)
          ∧ r.2.mem ((c.tc : Thread Cert.MlaUqWKernelIdeal.nD Cert.MlaUqWKernelIdeal.τ).loc Cert.MlaUqWKernelIdeal.main_arg3) = m ((c.tc : Thread Cert.MlaUqWKernelIdeal.nD Cert.MlaUqWKernelIdeal.τ).loc Cert.MlaUqWKernelIdeal.main_arg3))
      ∧ θ_run (Cert.MlaUqWReferenceIdeal.defs (F := Ideal)) (onTc (τ := Cert.MlaUqWReferenceIdeal.τ) (Cert.MlaUqWReferenceIdeal.main (F := Ideal))) ⟨m', fun _ => 0, g'⟩ (fun r => ∀ c : Dev Cert.MlaUqWReferenceIdeal.nD,
          r.2.mem ((c.tc : Thread Cert.MlaUqWReferenceIdeal.nD Cert.MlaUqWReferenceIdeal.τ).loc Cert.MlaUqWReferenceIdeal.main_v20) = v0 c
          ∧ r.2.mem ((c.tc : Thread Cert.MlaUqWReferenceIdeal.nD Cert.MlaUqWReferenceIdeal.τ).loc Cert.MlaUqWReferenceIdeal.main_arg0) = m' ((c.tc : Thread Cert.MlaUqWReferenceIdeal.nD Cert.MlaUqWReferenceIdeal.τ).loc Cert.MlaUqWReferenceIdeal.main_arg0)
          ∧ r.2.mem ((c.tc : Thread Cert.MlaUqWReferenceIdeal.nD Cert.MlaUqWReferenceIdeal.τ).loc Cert.MlaUqWReferenceIdeal.main_arg1) = m' ((c.tc : Thread Cert.MlaUqWReferenceIdeal.nD Cert.MlaUqWReferenceIdeal.τ).loc Cert.MlaUqWReferenceIdeal.main_arg1)
          ∧ r.2.mem ((c.tc : Thread Cert.MlaUqWReferenceIdeal.nD Cert.MlaUqWReferenceIdeal.τ).loc Cert.MlaUqWReferenceIdeal.main_arg2) = m' ((c.tc : Thread Cert.MlaUqWReferenceIdeal.nD Cert.MlaUqWReferenceIdeal.τ).loc Cert.MlaUqWReferenceIdeal.main_arg2)
          ∧ r.2.mem ((c.tc : Thread Cert.MlaUqWReferenceIdeal.nD Cert.MlaUqWReferenceIdeal.τ).loc Cert.MlaUqWReferenceIdeal.main_arg3) = m' ((c.tc : Thread Cert.MlaUqWReferenceIdeal.nD Cert.MlaUqWReferenceIdeal.τ).loc Cert.MlaUqWReferenceIdeal.main_arg3))

def Claim : Prop :=
  ∃ (hDownActKernel : Cert.DownActKernel.Facts) (hDownActKernelIdeal : Cert.DownActKernelIdeal.Facts) (hDownActReferenceIdeal : Cert.DownActReferenceIdeal.Facts) (hDownWKernel : Cert.DownWKernel.Facts) (hDownWKernelIdeal : Cert.DownWKernelIdeal.Facts) (hDownWReferenceIdeal : Cert.DownWReferenceIdeal.Facts) (hGuXKernel : Cert.GuXKernel.Facts) (hGuXKernelIdeal : Cert.GuXKernelIdeal.Facts) (hGuXReferenceIdeal : Cert.GuXReferenceIdeal.Facts) (hGuWKernel : Cert.GuWKernel.Facts) (hGuWKernelIdeal : Cert.GuWKernelIdeal.Facts) (hGuWReferenceIdeal : Cert.GuWReferenceIdeal.Facts) (hSwigluKernel : Cert.SwigluKernel.Facts) (hSwigluKernelIdeal : Cert.SwigluKernelIdeal.Facts) (hSwigluReferenceIdeal : Cert.SwigluReferenceIdeal.Facts) (hConvKernel : Cert.ConvKernel.Facts) (hConvKernelIdeal : Cert.ConvKernelIdeal.Facts) (hConvReferenceIdeal : Cert.ConvReferenceIdeal.Facts) (hNormKernel : Cert.NormKernel.Facts) (hNormKernelIdeal : Cert.NormKernelIdeal.Facts) (hNormReferenceIdeal : Cert.NormReferenceIdeal.Facts) (hGatesKernel : Cert.GatesKernel.Facts) (hGatesKernelIdeal : Cert.GatesKernelIdeal.Facts) (hGatesReferenceIdeal : Cert.GatesReferenceIdeal.Facts) (hLruOutXKernel : Cert.LruOutXKernel.Facts) (hLruOutXKernelIdeal : Cert.LruOutXKernelIdeal.Facts) (hLruOutXReferenceIdeal : Cert.LruOutXReferenceIdeal.Facts) (hLruOutWKernel : Cert.LruOutWKernel.Facts) (hLruOutWKernelIdeal : Cert.LruOutWKernelIdeal.Facts) (hLruOutWReferenceIdeal : Cert.LruOutWReferenceIdeal.Facts) (hLruInXKernel : Cert.LruInXKernel.Facts) (hLruInXKernelIdeal : Cert.LruInXKernelIdeal.Facts) (hLruInXReferenceIdeal : Cert.LruInXReferenceIdeal.Facts) (hLruInWKernel : Cert.LruInWKernel.Facts) (hLruInWKernelIdeal : Cert.LruInWKernelIdeal.Facts) (hLruInWReferenceIdeal : Cert.LruInWReferenceIdeal.Facts) (hLruInKernel : Cert.LruInKernel.Facts) (hLruInKernelIdeal : Cert.LruInKernelIdeal.Facts) (hLruInReferenceIdeal : Cert.LruInReferenceIdeal.Facts) (hLruOutKernel : Cert.LruOutKernel.Facts) (hLruOutKernelIdeal : Cert.LruOutKernelIdeal.Facts) (hLruOutReferenceIdeal : Cert.LruOutReferenceIdeal.Facts) (hGateUpKernel : Cert.GateUpKernel.Facts) (hGateUpKernelIdeal : Cert.GateUpKernelIdeal.Facts) (hGateUpReferenceIdeal : Cert.GateUpReferenceIdeal.Facts) (hDownKernel : Cert.DownKernel.Facts) (hDownKernelIdeal : Cert.DownKernelIdeal.Facts) (hDownReferenceIdeal : Cert.DownReferenceIdeal.Facts) (hMlaUkvKernel : Cert.MlaUkvKernel.Facts) (hMlaUkvKernelIdeal : Cert.MlaUkvKernelIdeal.Facts) (hMlaUkvReferenceIdeal : Cert.MlaUkvReferenceIdeal.Facts) (hMlaUkvXKernel : Cert.MlaUkvXKernel.Facts) (hMlaUkvXKernelIdeal : Cert.MlaUkvXKernelIdeal.Facts) (hMlaUkvXReferenceIdeal : Cert.MlaUkvXReferenceIdeal.Facts) (hMlaUkvWKernel : Cert.MlaUkvWKernel.Facts) (hMlaUkvWKernelIdeal : Cert.MlaUkvWKernelIdeal.Facts) (hMlaUkvWReferenceIdeal : Cert.MlaUkvWReferenceIdeal.Facts) (hMlaInKernel : Cert.MlaInKernel.Facts) (hMlaInKernelIdeal : Cert.MlaInKernelIdeal.Facts) (hMlaInReferenceIdeal : Cert.MlaInReferenceIdeal.Facts) (hMlaInXKernel : Cert.MlaInXKernel.Facts) (hMlaInXKernelIdeal : Cert.MlaInXKernelIdeal.Facts) (hMlaInXReferenceIdeal : Cert.MlaInXReferenceIdeal.Facts) (hMlaInWKernel : Cert.MlaInWKernel.Facts) (hMlaInWKernelIdeal : Cert.MlaInWKernelIdeal.Facts) (hMlaInWReferenceIdeal : Cert.MlaInWReferenceIdeal.Facts) (hMlaUqKernel : Cert.MlaUqKernel.Facts) (hMlaUqKernelIdeal : Cert.MlaUqKernelIdeal.Facts) (hMlaUqReferenceIdeal : Cert.MlaUqReferenceIdeal.Facts) (hMlaUqXKernel : Cert.MlaUqXKernel.Facts) (hMlaUqXKernelIdeal : Cert.MlaUqXKernelIdeal.Facts) (hMlaUqXReferenceIdeal : Cert.MlaUqXReferenceIdeal.Facts) (hMlaUqWKernel : Cert.MlaUqWKernel.Facts) (hMlaUqWKernelIdeal : Cert.MlaUqWKernelIdeal.Facts) (hMlaUqWReferenceIdeal : Cert.MlaUqWReferenceIdeal.Facts) (hPre_swiglu_finite : Cert.Pre_swiglu_finite.Facts),
    quiescent_DownActKernel (hDownActKernel := hDownActKernel)
    ∧ quiescent_DownActKernelIdeal (hDownActKernelIdeal := hDownActKernelIdeal)
    ∧ quiescent_DownActReferenceIdeal (hDownActReferenceIdeal := hDownActReferenceIdeal)
    ∧ quiescent_DownWKernel (hDownWKernel := hDownWKernel)
    ∧ quiescent_DownWKernelIdeal (hDownWKernelIdeal := hDownWKernelIdeal)
    ∧ quiescent_DownWReferenceIdeal (hDownWReferenceIdeal := hDownWReferenceIdeal)
    ∧ quiescent_GuXKernel (hGuXKernel := hGuXKernel)
    ∧ quiescent_GuXKernelIdeal (hGuXKernelIdeal := hGuXKernelIdeal)
    ∧ quiescent_GuXReferenceIdeal (hGuXReferenceIdeal := hGuXReferenceIdeal)
    ∧ quiescent_GuWKernel (hGuWKernel := hGuWKernel)
    ∧ quiescent_GuWKernelIdeal (hGuWKernelIdeal := hGuWKernelIdeal)
    ∧ quiescent_GuWReferenceIdeal (hGuWReferenceIdeal := hGuWReferenceIdeal)
    ∧ quiescent_SwigluKernel (hSwigluKernel := hSwigluKernel)
    ∧ quiescent_SwigluKernelIdeal (hSwigluKernelIdeal := hSwigluKernelIdeal)
    ∧ quiescent_SwigluKernelIdeal_pre_swiglu_finite (hSwigluKernelIdeal := hSwigluKernelIdeal) (hPre_swiglu_finite := hPre_swiglu_finite)
    ∧ quiescent_SwigluReferenceIdeal (hSwigluReferenceIdeal := hSwigluReferenceIdeal)
    ∧ quiescent_SwigluReferenceIdeal_pre_swiglu_finite (hSwigluReferenceIdeal := hSwigluReferenceIdeal) (hPre_swiglu_finite := hPre_swiglu_finite)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_GatesKernel (hGatesKernel := hGatesKernel)
    ∧ quiescent_GatesKernelIdeal (hGatesKernelIdeal := hGatesKernelIdeal)
    ∧ quiescent_GatesReferenceIdeal (hGatesReferenceIdeal := hGatesReferenceIdeal)
    ∧ quiescent_LruOutXKernel (hLruOutXKernel := hLruOutXKernel)
    ∧ quiescent_LruOutXKernelIdeal (hLruOutXKernelIdeal := hLruOutXKernelIdeal)
    ∧ quiescent_LruOutXReferenceIdeal (hLruOutXReferenceIdeal := hLruOutXReferenceIdeal)
    ∧ quiescent_LruOutWKernel (hLruOutWKernel := hLruOutWKernel)
    ∧ quiescent_LruOutWKernelIdeal (hLruOutWKernelIdeal := hLruOutWKernelIdeal)
    ∧ quiescent_LruOutWReferenceIdeal (hLruOutWReferenceIdeal := hLruOutWReferenceIdeal)
    ∧ quiescent_LruInXKernel (hLruInXKernel := hLruInXKernel)
    ∧ quiescent_LruInXKernelIdeal (hLruInXKernelIdeal := hLruInXKernelIdeal)
    ∧ quiescent_LruInXReferenceIdeal (hLruInXReferenceIdeal := hLruInXReferenceIdeal)
    ∧ quiescent_LruInWKernel (hLruInWKernel := hLruInWKernel)
    ∧ quiescent_LruInWKernelIdeal (hLruInWKernelIdeal := hLruInWKernelIdeal)
    ∧ quiescent_LruInWReferenceIdeal (hLruInWReferenceIdeal := hLruInWReferenceIdeal)
    ∧ quiescent_LruInKernel (hLruInKernel := hLruInKernel)
    ∧ quiescent_LruInKernelIdeal (hLruInKernelIdeal := hLruInKernelIdeal)
    ∧ quiescent_LruInReferenceIdeal (hLruInReferenceIdeal := hLruInReferenceIdeal)
    ∧ quiescent_LruOutKernel (hLruOutKernel := hLruOutKernel)
    ∧ quiescent_LruOutKernelIdeal (hLruOutKernelIdeal := hLruOutKernelIdeal)
    ∧ quiescent_LruOutReferenceIdeal (hLruOutReferenceIdeal := hLruOutReferenceIdeal)
    ∧ quiescent_GateUpKernel (hGateUpKernel := hGateUpKernel)
    ∧ quiescent_GateUpKernelIdeal (hGateUpKernelIdeal := hGateUpKernelIdeal)
    ∧ quiescent_GateUpReferenceIdeal (hGateUpReferenceIdeal := hGateUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_MlaUkvKernel (hMlaUkvKernel := hMlaUkvKernel)
    ∧ quiescent_MlaUkvKernelIdeal (hMlaUkvKernelIdeal := hMlaUkvKernelIdeal)
    ∧ quiescent_MlaUkvReferenceIdeal (hMlaUkvReferenceIdeal := hMlaUkvReferenceIdeal)
    ∧ quiescent_MlaUkvXKernel (hMlaUkvXKernel := hMlaUkvXKernel)
    ∧ quiescent_MlaUkvXKernelIdeal (hMlaUkvXKernelIdeal := hMlaUkvXKernelIdeal)
    ∧ quiescent_MlaUkvXReferenceIdeal (hMlaUkvXReferenceIdeal := hMlaUkvXReferenceIdeal)
    ∧ quiescent_MlaUkvWKernel (hMlaUkvWKernel := hMlaUkvWKernel)
    ∧ quiescent_MlaUkvWKernelIdeal (hMlaUkvWKernelIdeal := hMlaUkvWKernelIdeal)
    ∧ quiescent_MlaUkvWReferenceIdeal (hMlaUkvWReferenceIdeal := hMlaUkvWReferenceIdeal)
    ∧ quiescent_MlaInKernel (hMlaInKernel := hMlaInKernel)
    ∧ quiescent_MlaInKernelIdeal (hMlaInKernelIdeal := hMlaInKernelIdeal)
    ∧ quiescent_MlaInReferenceIdeal (hMlaInReferenceIdeal := hMlaInReferenceIdeal)
    ∧ quiescent_MlaInXKernel (hMlaInXKernel := hMlaInXKernel)
    ∧ quiescent_MlaInXKernelIdeal (hMlaInXKernelIdeal := hMlaInXKernelIdeal)
    ∧ quiescent_MlaInXReferenceIdeal (hMlaInXReferenceIdeal := hMlaInXReferenceIdeal)
    ∧ quiescent_MlaInWKernel (hMlaInWKernel := hMlaInWKernel)
    ∧ quiescent_MlaInWKernelIdeal (hMlaInWKernelIdeal := hMlaInWKernelIdeal)
    ∧ quiescent_MlaInWReferenceIdeal (hMlaInWReferenceIdeal := hMlaInWReferenceIdeal)
    ∧ quiescent_MlaUqKernel (hMlaUqKernel := hMlaUqKernel)
    ∧ quiescent_MlaUqKernelIdeal (hMlaUqKernelIdeal := hMlaUqKernelIdeal)
    ∧ quiescent_MlaUqReferenceIdeal (hMlaUqReferenceIdeal := hMlaUqReferenceIdeal)
    ∧ quiescent_MlaUqXKernel (hMlaUqXKernel := hMlaUqXKernel)
    ∧ quiescent_MlaUqXKernelIdeal (hMlaUqXKernelIdeal := hMlaUqXKernelIdeal)
    ∧ quiescent_MlaUqXReferenceIdeal (hMlaUqXReferenceIdeal := hMlaUqXReferenceIdeal)
    ∧ quiescent_MlaUqWKernel (hMlaUqWKernel := hMlaUqWKernel)
    ∧ quiescent_MlaUqWKernelIdeal (hMlaUqWKernelIdeal := hMlaUqWKernelIdeal)
    ∧ quiescent_MlaUqWReferenceIdeal (hMlaUqWReferenceIdeal := hMlaUqWReferenceIdeal)
    ∧ preserves_DownActKernel_DownActKernelIdeal
    ∧ algebraic_DownActKernelIdeal_DownActReferenceIdeal (hDownActKernelIdeal := hDownActKernelIdeal) (hDownActReferenceIdeal := hDownActReferenceIdeal)
    ∧ preserves_DownWKernel_DownWKernelIdeal
    ∧ algebraic_DownWKernelIdeal_DownWReferenceIdeal (hDownWKernelIdeal := hDownWKernelIdeal) (hDownWReferenceIdeal := hDownWReferenceIdeal)
    ∧ preserves_GuXKernel_GuXKernelIdeal
    ∧ algebraic_GuXKernelIdeal_GuXReferenceIdeal (hGuXKernelIdeal := hGuXKernelIdeal) (hGuXReferenceIdeal := hGuXReferenceIdeal)
    ∧ preserves_GuWKernel_GuWKernelIdeal
    ∧ algebraic_GuWKernelIdeal_GuWReferenceIdeal (hGuWKernelIdeal := hGuWKernelIdeal) (hGuWReferenceIdeal := hGuWReferenceIdeal)
    ∧ preserves_SwigluKernel_SwigluKernelIdeal
    ∧ algebraic_SwigluKernelIdeal_SwigluReferenceIdeal_pre_swiglu_finite (hSwigluKernelIdeal := hSwigluKernelIdeal) (hSwigluReferenceIdeal := hSwigluReferenceIdeal) (hPre_swiglu_finite := hPre_swiglu_finite)
    ∧ preserves_ConvKernel_ConvKernelIdeal
    ∧ algebraic_ConvKernelIdeal_ConvReferenceIdeal (hConvKernelIdeal := hConvKernelIdeal) (hConvReferenceIdeal := hConvReferenceIdeal)
    ∧ preserves_NormKernel_NormKernelIdeal
    ∧ algebraic_NormKernelIdeal_NormReferenceIdeal (hNormKernelIdeal := hNormKernelIdeal) (hNormReferenceIdeal := hNormReferenceIdeal)
    ∧ preserves_GatesKernel_GatesKernelIdeal
    ∧ algebraic_GatesKernelIdeal_GatesReferenceIdeal (hGatesKernelIdeal := hGatesKernelIdeal) (hGatesReferenceIdeal := hGatesReferenceIdeal)
    ∧ preserves_LruOutXKernel_LruOutXKernelIdeal
    ∧ algebraic_LruOutXKernelIdeal_LruOutXReferenceIdeal (hLruOutXKernelIdeal := hLruOutXKernelIdeal) (hLruOutXReferenceIdeal := hLruOutXReferenceIdeal)
    ∧ preserves_LruOutWKernel_LruOutWKernelIdeal
    ∧ algebraic_LruOutWKernelIdeal_LruOutWReferenceIdeal (hLruOutWKernelIdeal := hLruOutWKernelIdeal) (hLruOutWReferenceIdeal := hLruOutWReferenceIdeal)
    ∧ preserves_LruInXKernel_LruInXKernelIdeal
    ∧ algebraic_LruInXKernelIdeal_LruInXReferenceIdeal (hLruInXKernelIdeal := hLruInXKernelIdeal) (hLruInXReferenceIdeal := hLruInXReferenceIdeal)
    ∧ preserves_LruInWKernel_LruInWKernelIdeal
    ∧ algebraic_LruInWKernelIdeal_LruInWReferenceIdeal (hLruInWKernelIdeal := hLruInWKernelIdeal) (hLruInWReferenceIdeal := hLruInWReferenceIdeal)
    ∧ preserves_LruInKernel_LruInKernelIdeal
    ∧ algebraic_LruInKernelIdeal_LruInReferenceIdeal (hLruInKernelIdeal := hLruInKernelIdeal) (hLruInReferenceIdeal := hLruInReferenceIdeal)
    ∧ preserves_LruOutKernel_LruOutKernelIdeal
    ∧ algebraic_LruOutKernelIdeal_LruOutReferenceIdeal (hLruOutKernelIdeal := hLruOutKernelIdeal) (hLruOutReferenceIdeal := hLruOutReferenceIdeal)
    ∧ preserves_GateUpKernel_GateUpKernelIdeal
    ∧ algebraic_GateUpKernelIdeal_GateUpReferenceIdeal (hGateUpKernelIdeal := hGateUpKernelIdeal) (hGateUpReferenceIdeal := hGateUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_MlaUkvKernel_MlaUkvKernelIdeal
    ∧ algebraic_MlaUkvKernelIdeal_MlaUkvReferenceIdeal (hMlaUkvKernelIdeal := hMlaUkvKernelIdeal) (hMlaUkvReferenceIdeal := hMlaUkvReferenceIdeal)
    ∧ preserves_MlaUkvXKernel_MlaUkvXKernelIdeal
    ∧ algebraic_MlaUkvXKernelIdeal_MlaUkvXReferenceIdeal (hMlaUkvXKernelIdeal := hMlaUkvXKernelIdeal) (hMlaUkvXReferenceIdeal := hMlaUkvXReferenceIdeal)
    ∧ preserves_MlaUkvWKernel_MlaUkvWKernelIdeal
    ∧ algebraic_MlaUkvWKernelIdeal_MlaUkvWReferenceIdeal (hMlaUkvWKernelIdeal := hMlaUkvWKernelIdeal) (hMlaUkvWReferenceIdeal := hMlaUkvWReferenceIdeal)
    ∧ preserves_MlaInKernel_MlaInKernelIdeal
    ∧ algebraic_MlaInKernelIdeal_MlaInReferenceIdeal (hMlaInKernelIdeal := hMlaInKernelIdeal) (hMlaInReferenceIdeal := hMlaInReferenceIdeal)
    ∧ preserves_MlaInXKernel_MlaInXKernelIdeal
    ∧ algebraic_MlaInXKernelIdeal_MlaInXReferenceIdeal (hMlaInXKernelIdeal := hMlaInXKernelIdeal) (hMlaInXReferenceIdeal := hMlaInXReferenceIdeal)
    ∧ preserves_MlaInWKernel_MlaInWKernelIdeal
    ∧ algebraic_MlaInWKernelIdeal_MlaInWReferenceIdeal (hMlaInWKernelIdeal := hMlaInWKernelIdeal) (hMlaInWReferenceIdeal := hMlaInWReferenceIdeal)
    ∧ preserves_MlaUqKernel_MlaUqKernelIdeal
    ∧ algebraic_MlaUqKernelIdeal_MlaUqReferenceIdeal (hMlaUqKernelIdeal := hMlaUqKernelIdeal) (hMlaUqReferenceIdeal := hMlaUqReferenceIdeal)
    ∧ preserves_MlaUqXKernel_MlaUqXKernelIdeal
    ∧ algebraic_MlaUqXKernelIdeal_MlaUqXReferenceIdeal (hMlaUqXKernelIdeal := hMlaUqXKernelIdeal) (hMlaUqXReferenceIdeal := hMlaUqXReferenceIdeal)
    ∧ preserves_MlaUqWKernel_MlaUqWKernelIdeal
    ∧ algebraic_MlaUqWKernelIdeal_MlaUqWReferenceIdeal (hMlaUqWKernelIdeal := hMlaUqWKernelIdeal) (hMlaUqWReferenceIdeal := hMlaUqWReferenceIdeal)
-- ==== Pre_swiglu_finite.lean ====
abbrev S4224x11264 : Shape := ⟨2, ![4224, 11264]⟩
abbrev S4224x5632 : Shape := ⟨2, ![4224, 5632]⟩
abbrev S_ : Shape := ⟨0, ![]⟩

class Facts : Prop where
  slices_S4224x11264_S4224x5632_0_5632 : S4224x11264.Slices ![0, 5632] S4224x5632
  bcast_S_S4224x5632 : S_.BroadcastsInDim S4224x5632 (![] : Fin 0 → Fin S4224x5632.rank)

variable [Facts]

def fn {F : FTy → Type} [FloatOps F] (main_arg0 : FVec F S4224x11264 .f32) (main_arg1 : FVec F S4224x5632 .f32) : IVec S4224x5632 1 × IVec S4224x5632 1 :=
  let main_v0 : FVec F S4224x5632 .f32 := (extractStridedSlice S4224x5632 ![0, 5632] · slices_S4224x11264_S4224x5632_0_5632) main_arg0
  let main_v1 : FVec F S4224x5632 .f32 := Host.absf main_v0
  let main_cst : FVec F S_ .f32 := constant S_ .f32 0x7F800000#32
  let main_v2 : FVec F S4224x5632 .f32 := broadcastInDim S4224x5632 ![] bcast_S_S4224x5632 main_cst
  let main_v3 : IVec S4224x5632 1 := cmpf .olt main_v1 main_v2
  let main_v4 : FVec F S4224x5632 .f32 := Host.absf main_arg1
  let main_cst_0 : FVec F S_ .f32 := constant S_ .f32 0x7F800000#32
  let main_v5 : FVec F S4224x5632 .f32 := broadcastInDim S4224x5632 ![] bcast_S_S4224x5632 main_cst_0
  let main_v6 : IVec S4224x5632 1 := cmpf .olt main_v4 main_v5
  (main_v3, main_v6)
-- ==== DownActKernel.lean ====
abbrev S4224x5632 : Shape := ⟨2, ![4224, 5632]⟩
abbrev S5632x2048 : Shape := ⟨2, ![5632, 2048]⟩
abbrev S4224x2048 : Shape := ⟨2, ![4224, 2048]⟩
abbrev S4x1x1408x2048 : Shape := ⟨4, ![4, 1, 1408, 2048]⟩
abbrev S704x2048 : Shape := ⟨2, ![704, 2048]⟩
abbrev S1x1x1408x2048 : Shape := ⟨4, ![1, 1, 1408, 2048]⟩
abbrev S704x1408 : Shape := ⟨2, ![704, 1408]⟩
abbrev S1408x2048 : Shape := ⟨2, ![1408, 2048]⟩

abbrev nBuf : Space → Nat
  | .hbm => 7
  | .vmem => 6
  | .smem => 0
  | _ => 0

abbrev bufTy : (tb : Table) → Fin (tcTables nBuf tb) → BufTy
  | .hbm, ⟨0, _⟩ => ⟨S4224x5632, .f32⟩
  | .hbm, ⟨1, _⟩ => ⟨S5632x2048, .f32⟩
  | .hbm, ⟨2, _⟩ => ⟨S4224x2048, .f32⟩
  | .hbm, ⟨3, _⟩ => ⟨S5632x2048, .bf16⟩
  | .hbm, ⟨4, _⟩ => ⟨S4x1x1408x2048, .bf16⟩
  | .hbm, ⟨5, _⟩ => ⟨S4224x2048, .bf16⟩
  | .hbm, ⟨6, _⟩ => ⟨S4224x5632, .bf16⟩
  | .local _ .vmem, ⟨0, _⟩ => ⟨S704x2048, .bf16⟩
  | .local _ .vmem, ⟨1, _⟩ => ⟨S704x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S704x1408, .bf16⟩
  | .local _ .vmem, ⟨5, _⟩ => ⟨S704x1408, .bf16⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownActReferenceIdeal.lean ====
abbrev S4224x5632 : Shape := ⟨2, ![4224, 5632]⟩
abbrev S5632x2048 : Shape := ⟨2, ![5632, 2048]⟩
abbrev S4224x2048 : Shape := ⟨2, ![4224, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S5632x2048, .f32⟩
  | .hbm, ⟨2, _⟩ => ⟨S4224x2048, .f32⟩
  | .hbm, ⟨3, _⟩ => ⟨S4224x2048, .f32⟩
  | .hbm, ⟨4, _⟩ => ⟨S2048x5632, .f32⟩
  | .hbm, ⟨5, _⟩ => ⟨S5632x2048, .f32⟩
  | .hbm, ⟨6, _⟩ => ⟨S4224x5632, .f32⟩
  | .hbm, ⟨7, _⟩ => ⟨S4224x5632, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownWKernel.lean ====
abbrev S4224x5632 : Shape := ⟨2, ![4224, 5632]⟩
abbrev S5632x2048 : Shape := ⟨2, ![5632, 2048]⟩
abbrev S4224x2048 : Shape := ⟨2, ![4224, 2048]⟩
abbrev S8x1408x1024 : Shape := ⟨3, ![8, 1408, 1024]⟩
abbrev S2112x1408 : Shape := ⟨2, ![2112, 1408]⟩
abbrev S2112x1024 : Shape := ⟨2, ![2112, 1024]⟩
abbrev S1x1408x1024 : Shape := ⟨3, ![1, 1408, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4224x5632, .f32⟩
  | .hbm, ⟨1, _⟩ => ⟨S5632x2048, .f32⟩
  | .hbm, ⟨2, _⟩ => ⟨S4224x2048, .f32⟩
  | .hbm, ⟨3, _⟩ => ⟨S4224x5632, .bf16⟩
  | .hbm, ⟨4, _⟩ => ⟨S4224x2048, .bf16⟩
  | .hbm, ⟨5, _⟩ => ⟨S8x1408x1024, .bf16⟩
  | .local _ .vmem, ⟨0, _⟩ => ⟨S2112x1408, .bf16⟩
  | .local _ .vmem, ⟨1, _⟩ => ⟨S2112x1408, .bf16⟩
  | .local _ .vmem, ⟨2, _⟩ => ⟨S2112x1024, .bf16⟩
  | .local _ .vmem, ⟨3, _⟩ => ⟨S2112x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.divsi arg1 c1_i32_5
  let c0_i32_6 : BitVec 32 := 0#32
  let v19 : BitVec 1 := Scalar.cmpi .sgt arg1 c0_i32_6
  let v20 : BitVec 32 := Scalar.extui v19
  let c0_i32_7 : BitVec 32 := 0#32
  let v21 : BitVec 1 := Scalar.cmpi .slt arg1 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi arg1 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let v35 : BitVec 32 := Scalar.addi v17 v34
  let c1_i32_12 : BitVec 32 := 1#32
  let c0_i32_13 : BitVec 32 := 0#32
  let v36 : BitVec 1 := Scalar.cmpi .eq c1_i32_12 c0_i32_13
  let c1_i32_14 : BitVec 32 := 1#32
  let v37 : BitVec 32 := Scalar.select v36 c1_i32_14 c1_i32_12
  let v38 : BitVec 32 := Scalar.remsi arg0 v37
  let c0_i32_15 : BitVec 32 := 0#32
  let v39 : BitVec 1 := Scalar.cmpi .ne v38 c0_i32_15
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let v43 : BitVec 1 := Scalar.andi v42 v39
  let v44 : BitVec 32 := Scalar.addi v38 v37
  let v45 : BitVec 32 := Scalar.select v43 v44 v38
  let c1_i32_18 : BitVec 32 := 1#32
  let c0_i32_19 : BitVec 32 := 0#32
  let v46 : BitVec 1 := Scalar.cmpi .eq c1_i32_18 c0_i32_19
  let c1_i32_20 : BitVec 32 := 1#32
  let v47 : BitVec 32 := Scalar.select v46 c1_i32_20 c1_i32_18
  let v48 : BitVec 32 := Scalar.remsi arg1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  ![v35.toNat, v45.toNat, v55.toNat]

abbrev stage0_0 : Fin 2 → Memref sig .tc .vmem S2112x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWReferenceIdeal.lean ====
abbrev S4224x5632 : Shape := ⟨2, ![4224, 5632]⟩
abbrev S5632x2048 : Shape := ⟨2, ![5632, 2048]⟩
abbrev S4224x2048 : Shape := ⟨2, ![4224, 2048]⟩
abbrev S2048x5632 : Shape := ⟨2, ![2048, 5632]⟩
abbrev S4x1408x2x1024 : Shape := ⟨4, ![4, 1408, 2, 1024]⟩
abbrev S4x2x1408x1024 : Shape := ⟨4, ![4, 2, 1408, 1024]⟩
abbrev S8x1408x1024 : Shape := ⟨3, ![8, 1408, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S5632x2048, .f32⟩
  | .hbm, ⟨2, _⟩ => ⟨S4224x2048, .f32⟩
  | .hbm, ⟨3, _⟩ => ⟨S4224x2048, .f32⟩
  | .hbm, ⟨4, _⟩ => ⟨S2048x5632, .f32⟩
  | .hbm, ⟨5, _⟩ => ⟨S5632x2048, .f32⟩
  | .hbm, ⟨6, _⟩ => ⟨S4224x5632, .f32⟩
  | .hbm, ⟨7, _⟩ => ⟨S4x1408x2x1024, .f32⟩
  | .hbm, ⟨8, _⟩ => ⟨S4x2x1408x1024, .f32⟩
  | .hbm, ⟨9, _⟩ => ⟨S8x1408x1024, .f32⟩
  | .hbm, ⟨10, _⟩ => ⟨S8x1408x1024, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GuXKernel.lean ====
abbrev S4224x2048 : Shape := ⟨2, ![4224, 2048]⟩
abbrev S2048x11264 : Shape := ⟨2, ![2048, 11264]⟩
abbrev S4224x11264 : Shape := ⟨2, ![4224, 11264]⟩
abbrev S2048x4x2816 : Shape := ⟨3, ![2048, 4, 2816]⟩
abbrev S4x2048x2816 : Shape := ⟨3, ![4, 2048, 2816]⟩
abbrev S4x1x2048x2816 : Shape := ⟨4, ![4, 1, 2048, 2816]⟩
abbrev S704x2816 : Shape := ⟨2, ![704, 2816]⟩
abbrev S1x1x1024x2816 : Shape := ⟨4, ![1, 1, 1024, 2816]⟩
abbrev S704x1024 : Shape := ⟨2, ![704, 1024]⟩
abbrev S1024x2816 : Shape := ⟨2, ![1024, 2816]⟩

abbrev nBuf : Space → Nat
  | .hbm => 9
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S2048x11264, .f32⟩
  | .hbm, ⟨2, _⟩ => ⟨S4224x11264, .f32⟩
  | .hbm, ⟨3, _⟩ => ⟨S2048x11264, .bf16⟩
  | .hbm, ⟨4, _⟩ => ⟨S2048x4x2816, .bf16⟩
  | .hbm, ⟨5, _⟩ => ⟨S4x2048x2816, .bf16⟩
  | .hbm, ⟨6, _⟩ => ⟨S4x1x2048x2816, .bf16⟩
  | .hbm, ⟨7, _⟩ => ⟨S4224x11264, .bf16⟩
  | .hbm, ⟨8, _⟩ => ⟨S4224x2048, .f32⟩
  | .local _ .vmem, ⟨0, _⟩ => ⟨S704x2816, .bf16⟩
  | .local _ .vmem, ⟨1, _⟩ => ⟨S704x2816, .bf16⟩
  | .local _ .vmem, ⟨2, _⟩ => ⟨S1x1x1024x2816, .bf16⟩
  | .local _ .vmem, ⟨3, _⟩ => ⟨S1x1x1024x2816, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuXReferenceIdeal.lean ====
abbrev S4224x2048 : Shape := ⟨2, ![4224, 2048]⟩
abbrev S2048x11264 : Shape := ⟨2, ![2048, 11264]⟩
abbrev S4224x11264 : Shape := ⟨2, ![4224, 11264]⟩
abbrev S11264x2048 : Shape := ⟨2, ![11264, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x11264, .f32⟩
  | .hbm, ⟨2, _⟩ => ⟨S4224x11264, .f32⟩
  | .hbm, ⟨3, _⟩ => ⟨S4224x11264, .f32⟩
  | .hbm, ⟨4, _⟩ => ⟨S11264x2048, .f32⟩
  | .hbm, ⟨5, _⟩ => ⟨S2048x11264, .f32⟩
  | .hbm, ⟨6, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GuWKernel.lean ====
abbrev S4224x2048 : Shape := ⟨2, ![4224, 2048]⟩
abbrev S2048x11264 : Shape := ⟨2, ![2048, 11264]⟩
abbrev S4224x11264 : Shape := ⟨2, ![4224, 11264]⟩
abbrev S8x1024x2816 : Shape := ⟨3, ![8, 1024, 2816]⟩
abbrev S2112x1024 : Shape := ⟨2, ![2112, 1024]⟩
abbrev S2112x1408 : Shape := ⟨2, ![2112, 1408]⟩
abbrev S1x1024x1408 : Shape := ⟨3, ![1, 1024, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S2048x11264, .f32⟩
  | .hbm, ⟨2, _⟩ => ⟨S4224x11264, .f32⟩
  | .hbm, ⟨3, _⟩ => ⟨S4224x2048, .bf16⟩
  | .hbm, ⟨4, _⟩ => ⟨S4224x11264, .bf16⟩
  | .hbm, ⟨5, _⟩ => ⟨S8x1024x2816, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1408, .bf16⟩
  | .local _ .vmem, ⟨3, _⟩ => ⟨S2112x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c1_i32_5 : BitVec 32 := 1#32
  let v18 : BitVec 32 := Scalar.divsi arg0 c1_i32_5
  let c0_i32_6 : BitVec 32 := 0#32
  let v19 : BitVec 1 := Scalar.cmpi .sgt arg0 c0_i32_6
  let v20 : BitVec 32 := Scalar.extui v19
  let c0_i32_7 : BitVec 32 := 0#32
  let v21 : BitVec 1 := Scalar.cmpi .slt arg0 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi arg0 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let v35 : BitVec 32 := Scalar.addi v17 v34
  let c1_i32_12 : BitVec 32 := 1#32
  let c0_i32_13 : BitVec 32 := 0#32
  let v36 : BitVec 1 := Scalar.cmpi .eq c1_i32_12 c0_i32_13
  let c1_i32_14 : BitVec 32 := 1#32
  let v37 : BitVec 32 := Scalar.select v36 c1_i32_14 c1_i32_12
  let v38 : BitVec 32 := Scalar.remsi arg0 v37
  let c0_i32_15 : BitVec 32 := 0#32
  let v39 : BitVec 1 := Scalar.cmpi .ne v38 c0_i32_15
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let v43 : BitVec 1 := Scalar.andi v42 v39
  let v44 : BitVec 32 := Scalar.addi v38 v37
  let v45 : BitVec 32 := Scalar.select v43 v44 v38
  let c2_i32_18 : BitVec 32 := 2#32
  let c0_i32_19 : BitVec 32 := 0#32
  let v46 : BitVec 1 := Scalar.cmpi .eq c2_i32_18 c0_i32_19
  let c1_i32_20 : BitVec 32 := 1#32
  let v47 : BitVec 32 := Scalar.select v46 c1_i32_20 c2_i32_18
  let v48 : BitVec 32 := Scalar.remsi arg1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  ![v35.toNat, v45.toNat, v55.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuWReferenceIdeal.lean ====
abbrev S4224x2048 : Shape := ⟨2, ![4224, 2048]⟩
abbrev S2048x11264 : Shape := ⟨2, ![2048, 11264]⟩
abbrev S4224x11264 : Shape := ⟨2, ![4224, 11264]⟩
abbrev S11264x2048 : Shape := ⟨2, ![11264, 2048]⟩
abbrev S2x1024x4x2816 : Shape := ⟨4, ![2, 1024, 4, 2816]⟩
abbrev S4x2x1024x2816 : Shape := ⟨4, ![4, 2, 1024, 2816]⟩
abbrev S8x1024x2816 : Shape := ⟨3, ![8, 1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x11264, .f32⟩
  | .hbm, ⟨2, _⟩ => ⟨S4224x11264, .f32⟩
  | .hbm, ⟨3, _⟩ => ⟨S4224x11264, .f32⟩
  | .hbm, ⟨4, _⟩ => ⟨S11264x2048, .f32⟩
  | .hbm, ⟨5, _⟩ => ⟨S2048x11264, .f32⟩
  | .hbm, ⟨6, _⟩ => ⟨S4224x2048, .f32⟩
  | .hbm, ⟨7, _⟩ => ⟨S2x1024x4x2816, .f32⟩
  | .hbm, ⟨8, _⟩ => ⟨S4x2x1024x2816, .f32⟩
  | .hbm, ⟨9, _⟩ => ⟨S8x1024x2816, .f32⟩
  | .hbm, ⟨10, _⟩ => ⟨S8x1024x2816, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SwigluKernel.lean ====
abbrev S4224x11264 : Shape := ⟨2, ![4224, 11264]⟩
abbrev S4224x5632 : Shape := ⟨2, ![4224, 5632]⟩
abbrev S128x5632 : Shape := ⟨2, ![128, 5632]⟩
abbrev S128x11264 : Shape := ⟨2, ![128, 11264]⟩

abbrev nBuf : Space → Nat
  | .hbm => 7
  | .vmem => 8
  | .smem => 0
  | _ => 0

abbrev bufTy : (tb : Table) → Fin (tcTables nBuf tb) → BufTy
  | .hbm, ⟨0, _⟩ => ⟨S4224x11264, .f32⟩
  | .hbm, ⟨1, _⟩ => ⟨S4224x5632, .f32⟩
  | .hbm, ⟨2, _⟩ => ⟨S4224x11264, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .hbm, ⟨6, _⟩ => ⟨S4224x11264, .bf16⟩
  | .local _ .vmem, ⟨0, _⟩ => ⟨S128x5632, .bf16⟩
  | .local _ .vmem, ⟨1, _⟩ => ⟨S128x5632, .bf16⟩
  | .local _ .vmem, ⟨2, _⟩ => ⟨S128x5632, .bf16⟩
  | .local _ .vmem, ⟨3, _⟩ => ⟨S128x5632, .bf16⟩
  | .local _ .vmem, ⟨4, _⟩ => ⟨S128x5632, .bf16⟩
  | .local _ .vmem, ⟨5, _⟩ => ⟨S128x5632, .bf16⟩
  | .local _ .vmem, ⟨6, _⟩ => ⟨S128x11264, .bf16⟩
  | .local _ .vmem, ⟨7, _⟩ => ⟨S128x11264, .bf16⟩
  | _, _ => ⟨S4224x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x11264 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SwigluReferenceIdeal.lean ====
abbrev S4224x11264 : Shape := ⟨2, ![4224, 11264]⟩
abbrev S4224x5632 : Shape := ⟨2, ![4224, 5632]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4224x11264, .f32⟩
  | .hbm, ⟨1, _⟩ => ⟨S4224x5632, .f32⟩
  | .hbm, ⟨2, _⟩ => ⟨S4224x5632, .f32⟩
  | .hbm, ⟨3, _⟩ => ⟨S4224x5632, .f32⟩
  | .hbm, ⟨4, _⟩ => ⟨S4224x5632, .f32⟩
  | .hbm, ⟨5, _⟩ => ⟨S4224x5632, .f32⟩
  | .hbm, ⟨6, _⟩ => ⟨S_, .f32⟩
  | .hbm, ⟨7, _⟩ => ⟨S4224x5632, .f32⟩
  | .hbm, ⟨8, _⟩ => ⟨S4224x5632, .f32⟩
  | .hbm, ⟨9, _⟩ => ⟨S_, .f32⟩
  | .hbm, ⟨10, _⟩ => ⟨S4224x5632, .f32⟩
  | .hbm, ⟨11, _⟩ => ⟨S4224x5632, .f32⟩
  | .hbm, ⟨12, _⟩ => ⟨S_, .f32⟩
  | .hbm, ⟨13, _⟩ => ⟨S4224x5632, .f32⟩
  | .hbm, ⟨14, _⟩ => ⟨S4224x5632, .f32⟩
  | .hbm, ⟨15, _⟩ => ⟨S4224x5632, .f32⟩
  | .hbm, ⟨16, _⟩ => ⟨S4224x5632, .f32⟩
  | .hbm, ⟨17, _⟩ => ⟨S4224x5632, .f32⟩
  | .hbm, ⟨18, _⟩ => ⟨S4224x5632, .f32⟩
  | .hbm, ⟨19, _⟩ => ⟨S4224x5632, .f32⟩
  | .hbm, ⟨20, _⟩ => ⟨S4224x5632, .f32⟩
  | .hbm, ⟨21, _⟩ => ⟨S4224x5632, .f32⟩
  | .hbm, ⟨22, _⟩ => ⟨S4224x5632, .f32⟩
  | .hbm, ⟨23, _⟩ => ⟨S4224x5632, .f32⟩
  | .hbm, ⟨24, _⟩ => ⟨S4224x11264, .f32⟩
  | .hbm, ⟨25, _⟩ => ⟨S4224x11264, .bf16⟩
  | _, _ => ⟨S4224x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== ConvKernel.lean ====
abbrev S4224x4096 : Shape := ⟨2, ![4224, 4096]⟩
abbrev S4x2048 : Shape := ⟨2, ![4, 2048]⟩
abbrev S2048 : Shape := ⟨1, ![2048]⟩
abbrev S4224x2048 : Shape := ⟨2, ![4224, 2048]⟩
abbrev S4x1x2048 : Shape := ⟨3, ![4, 1, 2048]⟩
abbrev S1x2048 : Shape := ⟨2, ![1, 2048]⟩
abbrev S1408x128 : Shape := ⟨2, ![1408, 128]⟩
abbrev S8x128 : Shape := ⟨2, ![8, 128]⟩
abbrev S4x128 : Shape := ⟨2, ![4, 128]⟩
abbrev S4x1x128 : Shape := ⟨3, ![4, 1, 128]⟩
abbrev S1x128 : Shape := ⟨2, ![1, 128]⟩
abbrev S1416x128 : Shape := ⟨2, ![1416, 128]⟩
abbrev S128 : Shape := ⟨1, ![128]⟩
abbrev S1x1x128 : Shape := ⟨3, ![1, 1, 128]⟩

abbrev nBuf : Space → Nat
  | .hbm => 7
  | .vmem => 18
  | .smem => 0
  | _ => 0

abbrev bufTy : (tb : Table) → Fin (tcTables nBuf tb) → BufTy
  | .hbm, ⟨0, _⟩ => ⟨S4224x4096, .f32⟩
  | .hbm, ⟨1, _⟩ => ⟨S4x2048, .f32⟩
  | .hbm, ⟨2, _⟩ => ⟨S2048, .f32⟩
  | .hbm, ⟨3, _⟩ => ⟨S4224x2048, .f32⟩
  | .hbm, ⟨4, _⟩ => ⟨S4224x2048, .bf16⟩
  | .hbm, ⟨5, _⟩ => ⟨S4x1x2048, .f32⟩
  | .hbm, ⟨6, _⟩ => ⟨S1x2048, .f32⟩
  | .local _ .vmem, ⟨0, _⟩ => ⟨S1408x128, .f32⟩
  | .local _ .vmem, ⟨1, _⟩ => ⟨S1408x128, .f32⟩
  | .local _ .vmem, ⟨2, _⟩ => ⟨S8x128, .f32⟩
  | .local _ .vmem, ⟨3, _⟩ => ⟨S8x128, .f32⟩
  | .local _ .vmem, ⟨4, _⟩ => ⟨S1408x128, .f32⟩
  | .local _ .vmem, ⟨5, _⟩ => ⟨S1408x128, .f32⟩
  | .local _ .vmem, ⟨6, _⟩ => ⟨S8x128, .f32⟩
  | .local _ .vmem, ⟨7, _⟩ => ⟨S8x128, .f32⟩
  | .local _ .vmem, ⟨8, _⟩ => ⟨S4x128, .f32⟩
  | .local _ .vmem, ⟨9, _⟩ => ⟨S4x128, .f32⟩
  | .local _ .vmem, ⟨10, _⟩ => ⟨S1408x128, .bf16⟩
  | .local _ .vmem, ⟨11, _⟩ => ⟨S1408x128, .bf16⟩
  | .local _ .vmem, ⟨12, _⟩ => ⟨S4x1x128, .f32⟩
  | .local _ .vmem, ⟨13, _⟩ => ⟨S4x1x128, .f32⟩
  | .local _ .vmem, ⟨14, _⟩ => ⟨S1x128, .f32⟩
  | .local _ .vmem, ⟨15, _⟩ => ⟨S1x128, .f32⟩
  | .local _ .vmem, ⟨16, _⟩ => ⟨S1416x128, .f32⟩
  | .local _ .vmem, ⟨17, _⟩ => ⟨S1416x128, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32_39 : BitVec 32 := 0#32
  let v61 : BitVec 1 := Scalar.cmpi .eq arg1 c0_i32_39
  let v62 : BitVec 32 := Scalar.extui v61
  let c0_i32_40 : BitVec 32 := 0#32
  let v63 : BitVec 1 := Scalar.cmpi .ne v62 c0_i32_40
  v63

def k0_cond2 (i : grid0.Coords) : BitVec 1 :=
  let arg1 : BitVec 32 := BitVec.ofNat 32 (i 1).val
  let c0_i32_41 : BitVec 32 := 0#32
  let v64 : BitVec 1 := Scalar.cmpi .sgt arg1 c0_i32_41
  let v65 : BitVec 32 := Scalar.extui v64
  let c0_i32_42 : BitVec 32 := 0#32
  let v66 : BitVec 1 := Scalar.cmpi .ne v65 c0_i32_42
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c176_i32 : BitVec 32 := 176#32
  let v1 : BitVec 32 := Scalar.muli v0 c176_i32
  let c527_i32 : BitVec 32 := 527#32
  let v2 : BitVec 32 := Scalar.minsi v1 c527_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c176_i32 : BitVec 32 := 176#32
  let v0 : BitVec 32 := Scalar.muli arg1 c176_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1408x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvReferenceIdeal.lean ====
abbrev S4224x4096 : Shape := ⟨2, ![4224, 4096]⟩
abbrev S4x2048 : Shape := ⟨2, ![4, 2048]⟩
abbrev S2048 : Shape := ⟨1, ![2048]⟩
abbrev S4224x2048 : Shape := ⟨2, ![4224, 2048]⟩
abbrev S_ : Shape := ⟨0, ![]⟩
abbrev S3x2048 : Shape := ⟨2, ![3, 2048]⟩
abbrev S4227x2048 : Shape := ⟨2, ![4227, 2048]⟩
abbrev S1x2048 : Shape := ⟨2, ![1, 2048]⟩
abbrev S4x1x2048 : Shape := ⟨3, ![4, 1, 2048]⟩

abbrev nBuf : Space → Nat
  | .hbm => 110
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4x2048, .f32⟩
  | .hbm, ⟨2, _⟩ => ⟨S2048, .f32⟩
  | .hbm, ⟨3, _⟩ => ⟨S4224x2048, .f32⟩
  | .hbm, ⟨4, _⟩ => ⟨S4224x2048, .f32⟩
  | .hbm, ⟨5, _⟩ => ⟨S4224x2048, .f32⟩
  | .hbm, ⟨6, _⟩ => ⟨S_, .f32⟩
  | .hbm, ⟨7, _⟩ => ⟨S3x2048, .f32⟩
  | .hbm, ⟨8, _⟩ => ⟨S4227x2048, .f32⟩
  | .hbm, ⟨9, _⟩ => ⟨S_, .f32⟩
  | .hbm, ⟨10, _⟩ => ⟨S3x2048, .f32⟩
  | .hbm, ⟨11, _⟩ => ⟨S4224x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S4224x2048, .f32⟩
  | .hbm, ⟨16, _⟩ => ⟨S4224x2048, .f32⟩
  | .hbm, ⟨17, _⟩ => ⟨S4224x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S4224x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S4224x2048, .f32⟩
  | .hbm, ⟨29, _⟩ => ⟨S4224x2048, .f32⟩
  | .hbm, ⟨30, _⟩ => ⟨S4224x2048, .f32⟩
  | .hbm, ⟨31, _⟩ => ⟨S4224x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S4224x2048, .f32⟩
  | .hbm, ⟨36, _⟩ => ⟨S4224x2048, .f32⟩
  | .hbm, ⟨37, _⟩ => ⟨S4224x2048, .f32⟩
  | .hbm, ⟨38, _⟩ => ⟨S1x2048, .f32⟩
  | .hbm, ⟨39, _⟩ => ⟨S4224x2048, .f32⟩
  | .hbm, ⟨40, _⟩ => ⟨S4224x2048, .f32⟩
  | .hbm, ⟨41, _⟩ => ⟨S4224x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S_, .f32⟩
  | .hbm, ⟨46, _⟩ => ⟨S2048, .f32⟩
  | .hbm, ⟨47, _⟩ => ⟨S4224x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4224x2048, .f32⟩
  | .hbm, ⟨52, _⟩ => ⟨S4224x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S_, .f32⟩
  | .hbm, ⟨57, _⟩ => ⟨S4x2048, .f32⟩
  | .hbm, ⟨58, _⟩ => ⟨S_, .f32⟩
  | .hbm, ⟨59, _⟩ => ⟨S4227x2048, .f32⟩
  | .hbm, ⟨60, _⟩ => ⟨S4224x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S4224x2048, .f32⟩
  | .hbm, ⟨65, _⟩ => ⟨S4224x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S_, .f32⟩
  | .hbm, ⟨70, _⟩ => ⟨S4x2048, .f32⟩
  | .hbm, ⟨71, _⟩ => ⟨S4x2048, .f32⟩
  | .hbm, ⟨72, _⟩ => ⟨S_, .f32⟩
  | .hbm, ⟨73, _⟩ => ⟨S4227x2048, .f32⟩
  | .hbm, ⟨74, _⟩ => ⟨S4227x2048, .f32⟩
  | .hbm, ⟨75, _⟩ => ⟨S4224x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S4224x2048, .f32⟩
  | .hbm, ⟨80, _⟩ => ⟨S4224x2048, .f32⟩
  | .hbm, ⟨81, _⟩ => ⟨S_, .f32⟩
  | .hbm, ⟨82, _⟩ => ⟨S2048, .f32⟩
  | .hbm, ⟨83, _⟩ => ⟨S1x2048, .f32⟩
  | .hbm, ⟨84, _⟩ => ⟨S_, .f32⟩
  | .hbm, ⟨85, _⟩ => ⟨S4x2048, .f32⟩
  | .hbm, ⟨86, _⟩ => ⟨S4x2048, .f32⟩
  | .hbm, ⟨87, _⟩ => ⟨S_, .f32⟩
  | .hbm, ⟨88, _⟩ => ⟨S4227x2048, .f32⟩
  | .hbm, ⟨89, _⟩ => ⟨S4227x2048, .f32⟩
  | .hbm, ⟨90, _⟩ => ⟨S4224x2048, .f32⟩
  | .hbm, ⟨91, _⟩ => ⟨S_, .f32⟩
  | .hbm, ⟨92, _⟩ => ⟨S2048, .f32⟩
  | .hbm, ⟨93, _⟩ => ⟨S1x2048, .f32⟩
  | .hbm, ⟨94, _⟩ => ⟨S4224x2048, .f32⟩
  | .hbm, ⟨95, _⟩ => ⟨S4224x2048, .f32⟩
  | .hbm, ⟨96, _⟩ => ⟨S_, .f32⟩
  | .hbm, ⟨97, _⟩ => ⟨S2048, .f32⟩
  | .hbm, ⟨98, _⟩ => ⟨S1x2048, .f32⟩
  | .hbm, ⟨99, _⟩ => ⟨S_, .f32⟩
  | .hbm, ⟨100, _⟩ => ⟨S4x2048, .f32⟩
  | .hbm, ⟨101, _⟩ => ⟨S4x2048, .f32⟩
  | .hbm, ⟨102, _⟩ => ⟨S_, .f32⟩
  | .hbm, ⟨103, _⟩ => ⟨S4227x2048, .f32⟩
  | .hbm, ⟨104, _⟩ => ⟨S4227x2048, .f32⟩
  | .hbm, ⟨105, _⟩ => ⟨S3x2048, .f32⟩
  | .hbm, ⟨106, _⟩ => ⟨S4224x2048, .f32⟩
  | .hbm, ⟨107, _⟩ => ⟨S4224x2048, .bf16⟩
  | .hbm, ⟨108, _⟩ => ⟨S4x1x2048, .f32⟩
  | .hbm, ⟨109, _⟩ => ⟨S1x2048, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_15 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_16 : Ref sig .tc := ⟨.hbm, 96, rfl⟩
abbrev main_v75 : Ref sig .tc := ⟨.hbm, 97, rfl⟩
abbrev main_v76 : Ref sig .tc := ⟨.hbm, 98, rfl⟩
abbrev main_cst_17 : Ref sig .tc := ⟨.hbm, 99, rfl⟩
abbrev main_v77 : Ref sig .tc := ⟨.hbm, 100, rfl⟩
abbrev main_v78 : Ref sig .tc := ⟨.hbm, 101, rfl⟩
abbrev main_cst_18 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩

abbrev nD : Nat := 1
abbrev τ : Topo := Topo.v7x

variable {F : FTy → Type} [FloatOps F]
-- ==== NormKernel.lean ====
abbrev S4224x2048 : Shape := ⟨2, ![4224, 2048]⟩
abbrev S2048 : Shape := ⟨1, ![2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩

abbrev nBuf : Space → Nat
  | .hbm => 8
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S2048, .f32⟩
  | .hbm, ⟨2, _⟩ => ⟨S4224x2048, .f32⟩
  | .hbm, ⟨3, _⟩ => ⟨S4224x2048, .f32⟩
  | .hbm, ⟨4, _⟩ => ⟨S1x2048, .f32⟩
  | .hbm, ⟨5, _⟩ => ⟨S4224x2048, .f32⟩
  | .hbm, ⟨6, _⟩ => ⟨S4224x2048, .bf16⟩
  | .hbm, ⟨7, _⟩ => ⟨S1x2048, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x2048, .f32⟩
  | .local _ .vmem, ⟨4, _⟩ => ⟨S384x2048, .f32⟩
  | .local _ .vmem, ⟨5, _⟩ => ⟨S384x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .f32⟩
  | .local _ .vmem, ⟨9, _⟩ => ⟨S384x2048, .bf16⟩
  | .local _ .vmem, ⟨10, _⟩ => ⟨S384x2048, .bf16⟩
  | .local _ .vmem, ⟨11, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S4224x2048 : Shape := ⟨2, ![4224, 2048]⟩
abbrev S2048 : Shape := ⟨1, ![2048]⟩
abbrev S_ : Shape := ⟨0, ![]⟩
abbrev S4224 : Shape := ⟨1, ![4224]⟩
abbrev S4224x1 : Shape := ⟨2, ![4224, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048, .f32⟩
  | .hbm, ⟨2, _⟩ => ⟨S4224x2048, .f32⟩
  | .hbm, ⟨3, _⟩ => ⟨S4224x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x2048, .f32⟩
  | .hbm, ⟨20, _⟩ => ⟨S4224x2048, .f32⟩
  | .hbm, ⟨21, _⟩ => ⟨S1x2048, .f32⟩
  | .hbm, ⟨22, _⟩ => ⟨S4224x2048, .f32⟩
  | .hbm, ⟨23, _⟩ => ⟨S4224x2048, .f32⟩
  | .hbm, ⟨24, _⟩ => ⟨S4224x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S2048, .f32⟩
  | .hbm, ⟨32, _⟩ => ⟨S4224x2048, .f32⟩
  | .hbm, ⟨33, _⟩ => ⟨S_, .f32⟩
  | .hbm, ⟨34, _⟩ => ⟨S4224, .f32⟩
  | .hbm, ⟨35, _⟩ => ⟨S4224x1, .f32⟩
  | .hbm, ⟨36, _⟩ => ⟨S4224x2048, .f32⟩
  | .hbm, ⟨37, _⟩ => ⟨S4224x2048, .f32⟩
  | .hbm, ⟨38, _⟩ => ⟨S4224x2048, .f32⟩
  | .hbm, ⟨39, _⟩ => ⟨S4224x1, .f32⟩
  | .hbm, ⟨40, _⟩ => ⟨S_, .f32⟩
  | .hbm, ⟨41, _⟩ => ⟨S4224x1, .f32⟩
  | .hbm, ⟨42, _⟩ => ⟨S4224x1, .f32⟩
  | .hbm, ⟨43, _⟩ => ⟨S_, .f32⟩
  | .hbm, ⟨44, _⟩ => ⟨S4224, .f32⟩
  | .hbm, ⟨45, _⟩ => ⟨S4224x2048, .f32⟩
  | .hbm, ⟨46, _⟩ => ⟨S4224x2048, .f32⟩
  | .hbm, ⟨47, _⟩ => ⟨S4224x2048, .f32⟩
  | .hbm, ⟨48, _⟩ => ⟨S4224x2048, .f32⟩
  | .hbm, ⟨49, _⟩ => ⟨S4224x2048, .f32⟩
  | .hbm, ⟨50, _⟩ => ⟨S4224x2048, .bf16⟩
  | .hbm, ⟨51, _⟩ => ⟨S1x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== GatesKernel.lean ====
abbrev S4224x2048 : Shape := ⟨2, ![4224, 2048]⟩
abbrev S16x128x128 : Shape := ⟨3, ![16, 128, 128]⟩
abbrev S16x128 : Shape := ⟨2, ![16, 128]⟩
abbrev S2048 : Shape := ⟨1, ![2048]⟩
abbrev S4224x16x128 : Shape := ⟨3, ![4224, 16, 128]⟩
abbrev S16x128x4224 : Shape := ⟨3, ![16, 128, 4224]⟩
abbrev S1x16x128 : Shape := ⟨3, ![1, 16, 128]⟩
abbrev S_ : Shape := ⟨0, ![]⟩
abbrev S1x2048 : Shape := ⟨2, ![1, 2048]⟩
abbrev S16x1x128 : Shape := ⟨3, ![16, 1, 128]⟩
abbrev S1408x128 : Shape := ⟨2, ![1408, 128]⟩
abbrev S1x128 : Shape := ⟨2, ![1, 128]⟩
abbrev S1x128x128 : Shape := ⟨3, ![1, 128, 128]⟩
abbrev S1x1x128 : Shape := ⟨3, ![1, 1, 128]⟩
abbrev S128 : Shape := ⟨1, ![128]⟩
abbrev S128x128 : Shape := ⟨2, ![128, 128]⟩

abbrev nBuf : Space → Nat
  | .hbm => 76
  | .vmem => 30
  | .smem => 0
  | _ => 0

abbrev bufTy : (tb : Table) → Fin (tcTables nBuf tb) → BufTy
  | .hbm, ⟨0, _⟩ => ⟨S4224x2048, .f32⟩
  | .hbm, ⟨1, _⟩ => ⟨S16x128x128, .f32⟩
  | .hbm, ⟨2, _⟩ => ⟨S16x128, .f32⟩
  | .hbm, ⟨3, _⟩ => ⟨S16x128x128, .f32⟩
  | .hbm, ⟨4, _⟩ => ⟨S16x128, .f32⟩
  | .hbm, ⟨5, _⟩ => ⟨S2048, .f32⟩
  | .hbm, ⟨6, _⟩ => ⟨S4224x2048, .f32⟩
  | .hbm, ⟨7, _⟩ => ⟨S4224x2048, .f32⟩
  | .hbm, ⟨8, _⟩ => ⟨S4224x16x128, .f32⟩
  | .hbm, ⟨9, _⟩ => ⟨S16x128x4224, .f32⟩
  | .hbm, ⟨10, _⟩ => ⟨S4224x16x128, .f32⟩
  | .hbm, ⟨11, _⟩ => ⟨S1x16x128, .f32⟩
  | .hbm, ⟨12, _⟩ => ⟨S4224x16x128, .f32⟩
  | .hbm, ⟨13, _⟩ => ⟨S4224x16x128, .f32⟩
  | .hbm, ⟨14, _⟩ => ⟨S4224x16x128, .f32⟩
  | .hbm, ⟨15, _⟩ => ⟨S4224x16x128, .f32⟩
  | .hbm, ⟨16, _⟩ => ⟨S_, .f32⟩
  | .hbm, ⟨17, _⟩ => ⟨S4224x16x128, .f32⟩
  | .hbm, ⟨18, _⟩ => ⟨S4224x16x128, .f32⟩
  | .hbm, ⟨19, _⟩ => ⟨S_, .f32⟩
  | .hbm, ⟨20, _⟩ => ⟨S4224x16x128, .f32⟩
  | .hbm, ⟨21, _⟩ => ⟨S4224x16x128, .f32⟩
  | .hbm, ⟨22, _⟩ => ⟨S4224x2048, .f32⟩
  | .hbm, ⟨23, _⟩ => ⟨S16x128x4224, .f32⟩
  | .hbm, ⟨24, _⟩ => ⟨S4224x16x128, .f32⟩
  | .hbm, ⟨25, _⟩ => ⟨S1x16x128, .f32⟩
  | .hbm, ⟨26, _⟩ => ⟨S4224x16x128, .f32⟩
  | .hbm, ⟨27, _⟩ => ⟨S4224x16x128, .f32⟩
  | .hbm, ⟨28, _⟩ => ⟨S4224x16x128, .f32⟩
  | .hbm, ⟨29, _⟩ => ⟨S4224x16x128, .f32⟩
  | .hbm, ⟨30, _⟩ => ⟨S_, .f32⟩
  | .hbm, ⟨31, _⟩ => ⟨S4224x16x128, .f32⟩
  | .hbm, ⟨32, _⟩ => ⟨S4224x16x128, .f32⟩
  | .hbm, ⟨33, _⟩ => ⟨S_, .f32⟩
  | .hbm, ⟨34, _⟩ => ⟨S4224x16x128, .f32⟩
  | .hbm, ⟨35, _⟩ => ⟨S4224x16x128, .f32⟩
  | .hbm, ⟨36, _⟩ => ⟨S4224x2048, .f32⟩
  | .hbm, ⟨37, _⟩ => ⟨S_, .f32⟩
  | .hbm, ⟨38, _⟩ => ⟨S4224x2048, .f32⟩
  | .hbm, ⟨39, _⟩ => ⟨S4224x2048, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S2048, .i1⟩
  | .hbm, ⟨47, _⟩ => ⟨S2048, .f32⟩
  | .hbm, ⟨48, _⟩ => ⟨S2048, .f32⟩
  | .hbm, ⟨49, _⟩ => ⟨S2048, .f32⟩
  | .hbm, ⟨50, _⟩ => ⟨S2048, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S2048, .f32⟩
  | .hbm, ⟨55, _⟩ => ⟨S1x2048, .f32⟩
  | .hbm, ⟨56, _⟩ => ⟨S4224x2048, .f32⟩
  | .hbm, ⟨57, _⟩ => ⟨S4224x2048, .f32⟩
  | .hbm, ⟨58, _⟩ => ⟨S4224x2048, .f32⟩
  | .hbm, ⟨59, _⟩ => ⟨S_, .f32⟩
  | .hbm, ⟨60, _⟩ => ⟨S4224x2048, .f32⟩
  | .hbm, ⟨61, _⟩ => ⟨S4224x2048, .f32⟩
  | .hbm, ⟨62, _⟩ => ⟨S4224x2048, .f32⟩
  | .hbm, ⟨63, _⟩ => ⟨S4224x2048, .f32⟩
  | .hbm, ⟨64, _⟩ => ⟨S4224x2048, .f32⟩
  | .hbm, ⟨65, _⟩ => ⟨S4224x2048, .f32⟩
  | .hbm, ⟨66, _⟩ => ⟨S4224x2048, .f32⟩
  | .hbm, ⟨67, _⟩ => ⟨S1x2048, .f32⟩
  | .hbm, ⟨68, _⟩ => ⟨S16x128x128, .bf16⟩
  | .hbm, ⟨69, _⟩ => ⟨S16x128x128, .bf16⟩
  | .hbm, ⟨70, _⟩ => ⟨S4224x2048, .f32⟩
  | .hbm, ⟨71, _⟩ => ⟨S16x128x128, .f32⟩
  | .hbm, ⟨72, _⟩ => ⟨S16x1x128, .f32⟩
  | .hbm, ⟨73, _⟩ => ⟨S16x128x128, .f32⟩
  | .hbm, ⟨74, _⟩ => ⟨S16x1x128, .f32⟩
  | .hbm, ⟨75, _⟩ => ⟨S1x2048, .f32⟩
  | .local _ .vmem, ⟨0, _⟩ => ⟨S1408x128, .f32⟩
  | .local _ .vmem, ⟨1, _⟩ => ⟨S1408x128, .f32⟩
  | .local _ .vmem, ⟨2, _⟩ => ⟨S1408x128, .f32⟩
  | .local _ .vmem, ⟨3, _⟩ => ⟨S1408x128, .f32⟩
  | .local _ .vmem, ⟨4, _⟩ => ⟨S1408x128, .f32⟩
  | .local _ .vmem, ⟨5, _⟩ => ⟨S1408x128, .f32⟩
  | .local _ .vmem, ⟨6, _⟩ => ⟨S1408x128, .f32⟩
  | .local _ .vmem, ⟨7, _⟩ => ⟨S1408x128, .f32⟩
  | .local _ .vmem, ⟨8, _⟩ => ⟨S1408x128, .f32⟩
  | .local _ .vmem, ⟨9, _⟩ => ⟨S1408x128, .f32⟩
  | .local _ .vmem, ⟨10, _⟩ => ⟨S1408x128, .f32⟩
  | .local _ .vmem, ⟨11, _⟩ => ⟨S1408x128, .f32⟩
  | .local _ .vmem, ⟨12, _⟩ => ⟨S1x128, .f32⟩
  | .local _ .vmem, ⟨13, _⟩ => ⟨S1x128, .f32⟩
  | .local _ .vmem, ⟨14, _⟩ => ⟨S1x128x128, .bf16⟩
  | .local _ .vmem, ⟨15, _⟩ => ⟨S1x128x128, .bf16⟩
  | .local _ .vmem, ⟨16, _⟩ => ⟨S1x128x128, .bf16⟩
  | .local _ .vmem, ⟨17, _⟩ => ⟨S1x128x128, .bf16⟩
  | .local _ .vmem, ⟨18, _⟩ => ⟨S1408x128, .f32⟩
  | .local _ .vmem, ⟨19, _⟩ => ⟨S1408x128, .f32⟩
  | .local _ .vmem, ⟨20, _⟩ => ⟨S1x128x128, .f32⟩
  | .local _ .vmem, ⟨21, _⟩ => ⟨S1x128x128, .f32⟩
  | .local _ .vmem, ⟨22, _⟩ => ⟨S1x1x128, .f32⟩
  | .local _ .vmem, ⟨23, _⟩ => ⟨S1x1x128, .f32⟩
  | .local _ .vmem, ⟨24, _⟩ => ⟨S1x128x128, .f32⟩
  | .local _ .vmem, ⟨25, _⟩ => ⟨S1x128x128, .f32⟩
  | .local _ .vmem, ⟨26, _⟩ => ⟨S1x1x128, .f32⟩
  | .local _ .vmem, ⟨27, _⟩ => ⟨S1x1x128, .f32⟩
  | .local _ .vmem, ⟨28, _⟩ => ⟨S1x128, .f32⟩
  | .local _ .vmem, ⟨29, _⟩ => ⟨S1x128, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43_0 : Ref sig .tc := ⟨.hbm, 70, rfl⟩
abbrev main_v43_1 : Ref sig .tc := ⟨.hbm, 71, rfl⟩
abbrev main_v43_2 : Ref sig .tc := ⟨.hbm, 72, rfl⟩
abbrev main_v43_3 : Ref sig .tc := ⟨.hbm, 73, rfl⟩
abbrev main_v43_4 : Ref sig .tc := ⟨.hbm, 74, rfl⟩
abbrev main_v43_5 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v78 : BitVec 1 := Scalar.cmpi .eq arg1 c0_i32
  let v79 : BitVec 32 := Scalar.extui v78
  let c0_i32_37 : BitVec 32 := 0#32
  let v80 : BitVec 1 := Scalar.cmpi .ne v79 c0_i32_37
  v80

def k0_cond2 (i : grid0.Coords) : BitVec 1 :=
  let arg1 : BitVec 32 := BitVec.ofNat 32 (i 1).val
  let c0_i32_38 : BitVec 32 := 0#32
  let v81 : BitVec 1 := Scalar.cmpi .sgt arg1 c0_i32_38
  let v82 : BitVec 32 := Scalar.extui v81
  let c0_i32_39 : BitVec 32 := 0#32
  let v83 : BitVec 1 := Scalar.cmpi .ne v82 c0_i32_39
  v83

def k0_cond3 (i : grid0.Coords) : BitVec 1 :=
  let arg1 : BitVec 32 := BitVec.ofNat 32 (i 1).val
  let c2_i32 : BitVec 32 := 2#32
  let v84 : BitVec 1 := Scalar.cmpi .eq arg1 c2_i32
  let v85 : BitVec 32 := Scalar.extui v84
  let c0_i32_40 : BitVec 32 := 0#32
  let v86 : BitVec 1 := Scalar.cmpi .ne v85 c0_i32_40
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1408x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== GatesReferenceIdeal.lean ====
abbrev S4224x2048 : Shape := ⟨2, ![4224, 2048]⟩
abbrev S16x128x128 : Shape := ⟨3, ![16, 128, 128]⟩
abbrev S16x128 : Shape := ⟨2, ![16, 128]⟩
abbrev S2048 : Shape := ⟨1, ![2048]⟩
abbrev S4224x16x128 : Shape := ⟨3, ![4224, 16, 128]⟩
abbrev S16x128x4224 : Shape := ⟨3, ![16, 128, 4224]⟩
abbrev S1x16x128 : Shape := ⟨3, ![1, 16, 128]⟩
abbrev S_ : Shape := ⟨0, ![]⟩
abbrev S1x2048 : Shape := ⟨2, ![1, 2048]⟩
abbrev S16x4224x128 : Shape := ⟨3, ![16, 4224, 128]⟩
abbrev S16x1x128 : Shape := ⟨3, ![16, 1, 128]⟩

abbrev nBuf : Space → Nat
  | .hbm => 166
  | .vmem => 0
  | .smem => 0
  | _ => 0

abbrev hbmTy0_0 (i : Nat) : BufTy := match i % 128 with
  | 0 => ⟨S4224x2048, .f32⟩
  | 1 => ⟨S16x128x128, .f32⟩
  | 2 => ⟨S16x128, .f32⟩
  | 3 => ⟨S16x128x128, .f32⟩
  | 4 => ⟨S16x128, .f32⟩
  | 5 => ⟨S2048, .f32⟩
  | 6 => ⟨S4224x2048, .f32⟩
  | 7 => ⟨S4224x2048, .f32⟩
  | 8 => ⟨S4224x16x128, .f32⟩
  | 9 => ⟨S16x128x4224, .f32⟩
  | 10 => ⟨S4224x16x128, .f32⟩
  | 11 => ⟨S1x16x128, .f32⟩
  | 12 => ⟨S4224x16x128, .f32⟩
  | 13 => ⟨S4224x16x128, .f32⟩
  | 14 => ⟨S4224x16x128, .f32⟩
  | 15 => ⟨S4224x16x128, .f32⟩
  | 16 => ⟨S_, .f32⟩
  | 17 => ⟨S4224x16x128, .f32⟩
  | 18 => ⟨S4224x16x128, .f32⟩
  | 19 => ⟨S_, .f32⟩
  | 20 => ⟨S4224x16x128, .f32⟩
  | 21 => ⟨S4224x16x128, .f32⟩
  | 22 => ⟨S_, .f32⟩
  | 23 => ⟨S4224x16x128, .f32⟩
  | 24 => ⟨S4224x16x128, .f32⟩
  | 25 => ⟨S4224x16x128, .f32⟩
  | 26 => ⟨S4224x2048, .f32⟩
  | 27 => ⟨S16x128x4224, .f32⟩
  | 28 => ⟨S4224x16x128, .f32⟩
  | 29 => ⟨S1x16x128, .f32⟩
  | 30 => ⟨S4224x16x128, .f32⟩
  | 31 => ⟨S4224x16x128, .f32⟩
  | 32 => ⟨S4224x16x128, .f32⟩
  | 33 => ⟨S4224x16x128, .f32⟩
  | 34 => ⟨S_, .f32⟩
  | 35 => ⟨S4224x16x128, .f32⟩
  | 36 => ⟨S4224x16x128, .f32⟩
  | 37 => ⟨S_, .f32⟩
  | 38 => ⟨S4224x16x128, .f32⟩
  | 39 => ⟨S4224x16x128, .f32⟩
  | 40 => ⟨S_, .f32⟩
  | 41 => ⟨S4224x16x128, .f32⟩
  | 42 => ⟨S4224x16x128, .f32⟩
  | 43 => ⟨S4224x16x128, .f32⟩
  | 44 => ⟨S4224x2048, .f32⟩
  | 45 => ⟨S_, .f32⟩
  | 46 => ⟨S4224x2048, .f32⟩
  | 47 => ⟨S4224x2048, .f32⟩
  | 48 => ⟨S2048, .f32⟩
  | 49 => ⟨S_, .f32⟩
  | 50 => ⟨S2048, .f32⟩
  | 51 => ⟨S2048, .f32⟩
  | 52 => ⟨S2048, .f32⟩
  | 53 => ⟨S2048, .f32⟩
  | 54 => ⟨S2048, .i1⟩
  | 55 => ⟨S2048, .f32⟩
  | 56 => ⟨S2048, .f32⟩
  | 57 => ⟨S2048, .f32⟩
  | 58 => ⟨S2048, .f32⟩
  | 59 => ⟨S2048, .f32⟩
  | 60 => ⟨S2048, .f32⟩
  | 61 => ⟨S2048, .f32⟩
  | 62 => ⟨S2048, .f32⟩
  | 63 => ⟨S_, .f32⟩
  | 64 => ⟨S2048, .f32⟩
  | 65 => ⟨S2048, .i1⟩
  | 66 => ⟨S_, .f32⟩
  | 67 => ⟨S2048, .f32⟩
  | 68 => ⟨S2048, .f32⟩
  | 69 => ⟨S_, .f32⟩
  | 70 => ⟨S2048, .f32⟩
  | 71 => ⟨S2048, .i1⟩
  | 72 => ⟨S_, .f32⟩
  | 73 => ⟨S2048, .f32⟩
  | 74 => ⟨S2048, .f32⟩
  | 75 => ⟨S2048, .f32⟩
  | 76 => ⟨S2048, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S_, .f32⟩
  | 84 => ⟨S2048, .f32⟩
  | 85 => ⟨S2048, .i1⟩
  | 86 => ⟨S_, .f32⟩
  | 87 => ⟨S2048, .f32⟩
  | 88 => ⟨S2048, .f32⟩
  | 89 => ⟨S2048, .f32⟩
  | 90 => ⟨S2048, .f32⟩
  | 91 => ⟨S2048, .f32⟩
  | 92 => ⟨S_, .f32⟩
  | 93 => ⟨S2048, .f32⟩
  | 94 => ⟨S2048, .f32⟩
  | 95 => ⟨S1x2048, .f32⟩
  | 96 => ⟨S4224x2048, .f32⟩
  | 97 => ⟨S4224x2048, .f32⟩
  | 98 => ⟨S4224x2048, .f32⟩
  | 99 => ⟨S_, .f32⟩
  | 100 => ⟨S4224x2048, .f32⟩
  | 101 => ⟨S4224x2048, .f32⟩
  | 102 => ⟨S4224x2048, .f32⟩
  | 103 => ⟨S4224x2048, .f32⟩
  | 104 => ⟨S4224x2048, .f32⟩
  | 105 => ⟨S4224x2048, .f32⟩
  | 106 => ⟨S_, .f32⟩
  | 107 => ⟨S4224x2048, .f32⟩
  | 108 => ⟨S4224x2048, .f32⟩
  | 109 => ⟨S4224x2048, .f32⟩
  | 110 => ⟨S4224x2048, .f32⟩
  | 111 => ⟨S4224x2048, .f32⟩
  | 112 => ⟨S4224x2048, .f32⟩
  | 113 => ⟨S4224x2048, .f32⟩
  | 114 => ⟨S4224x2048, .f32⟩
  | 115 => ⟨S4224x2048, .f32⟩
  | 116 => ⟨S4224x2048, .f32⟩
  | 117 => ⟨S4224x2048, .f32⟩
  | 118 => ⟨S_, .f32⟩
  | 119 => ⟨S4224x2048, .f32⟩
  | 120 => ⟨S4224x2048, .f32⟩
  | 121 => ⟨S4224x2048, .f32⟩
  | 122 => ⟨S4224x2048, .f32⟩
  | 123 => ⟨S4224x2048, .f32⟩
  | 124 => ⟨S_, .f32⟩
  | 125 => ⟨S2048, .f32⟩
  | 126 => ⟨S1x2048, .f32⟩
  | 127 => ⟨S4224x2048, .f32⟩
  | _ => ⟨S4224x2048, .f32⟩

abbrev hbmTy0_1 (i : Nat) : BufTy := match i % 128 with
  | 0 => ⟨S4224x2048, .f32⟩
  | 1 => ⟨S_, .f32⟩
  | 2 => ⟨S2048, .f32⟩
  | 3 => ⟨S2048, .f32⟩
  | 4 => ⟨S2048, .f32⟩
  | 5 => ⟨S_, .f32⟩
  | 6 => ⟨S4224x2048, .f32⟩
  | 7 => ⟨S4224x2048, .f32⟩
  | 8 => ⟨S4224x16x128, .f32⟩
  | 9 => ⟨S4224x16x128, .f32⟩
  | 10 => ⟨S_, .f32⟩
  | 11 => ⟨S16x128, .f32⟩
  | 12 => ⟨S1x16x128, .f32⟩
  | 13 => ⟨S_, .f32⟩
  | 14 => ⟨S16x128, .f32⟩
  | 15 => ⟨S16x128x4224, .f32⟩
  | 16 => ⟨S16x4224x128, .f32⟩
  | 17 => ⟨S4224x16x128, .f32⟩
  | 18 => ⟨S16x128x128, .f32⟩
  | 19 => ⟨S16x128x128, .f32⟩
  | 20 => ⟨S4224x16x128, .f32⟩
  | 21 => ⟨S4224x16x128, .f32⟩
  | 22 => ⟨S_, .f32⟩
  | 23 => ⟨S16x128, .f32⟩
  | 24 => ⟨S1x16x128, .f32⟩
  | 25 => ⟨S_, .f32⟩
  | 26 => ⟨S16x128, .f32⟩
  | 27 => ⟨S16x128x4224, .f32⟩
  | 28 => ⟨S16x4224x128, .f32⟩
  | 29 => ⟨S4224x16x128, .f32⟩
  | 30 => ⟨S4224x16x128, .f32⟩
  | 31 => ⟨S16x128x128, .f32⟩
  | 32 => ⟨S16x128x128, .f32⟩
  | 33 => ⟨S4224x2048, .f32⟩
  | 34 => ⟨S4224x2048, .f32⟩
  | 35 => ⟨S16x1x128, .f32⟩
  | 36 => ⟨S16x1x128, .f32⟩
  | 37 => ⟨S1x2048, .f32⟩
  | _ => ⟨S4224x2048, .f32⟩

abbrev hbmTy (i : Nat) : BufTy := match i / 128 with
  | 0 => hbmTy0_0 i
  | 1 => hbmTy0_1 i
  | _ => ⟨S4224x2048, .f32⟩

abbrev bufTy : (tb : Table) → Fin (tcTables nBuf tb) → BufTy
  | .hbm, ⟨i, _⟩ => hbmTy i
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_v34_0 : Ref sig .tc := ⟨.hbm, 62, rfl⟩
abbrev main_call0_cst_0 : Ref sig .tc := ⟨.hbm, 63, rfl⟩
abbrev main_call0_v13 : Ref sig .tc := ⟨.hbm, 64, rfl⟩
abbrev main_call0_v14 : Ref sig .tc := ⟨.hbm, 65, rfl⟩
abbrev main_call0_cst_1 : Ref sig .tc := ⟨.hbm, 66, rfl⟩
abbrev main_call0_v15 : Ref sig .tc := ⟨.hbm, 67, rfl⟩
abbrev main_call0_v16 : Ref sig .tc := ⟨.hbm, 68, rfl⟩
abbrev main_call0_cst_2 : Ref sig .tc := ⟨.hbm, 69, rfl⟩
abbrev main_call0_v17 : Ref sig .tc := ⟨.hbm, 70, rfl⟩
abbrev main_call0_v18 : Ref sig .tc := ⟨.hbm, 71, rfl⟩
abbrev main_call0_cst_3 : Ref sig .tc := ⟨.hbm, 72, rfl⟩
abbrev main_call0_v19 : Ref sig .tc := ⟨.hbm, 73, rfl⟩
abbrev main_call0_v20 : Ref sig .tc := ⟨.hbm, 74, rfl⟩
abbrev main_call0_v21 : Ref sig .tc := ⟨.hbm, 75, rfl⟩
abbrev main_v34_1 : Ref sig .tc := ⟨.hbm, 76, rfl⟩
abbrev main_call0_cst_4 : Ref sig .tc := ⟨.hbm, 77, rfl⟩
abbrev main_call0_cst_5 : Ref sig .tc := ⟨.hbm, 78, rfl⟩
abbrev main_call0_v23 : Ref sig .tc := ⟨.hbm, 79, rfl⟩
abbrev main_call0_cst_6 : Ref sig .tc := ⟨.hbm, 80, rfl⟩
abbrev main_call0_cst_7 : Ref sig .tc := ⟨.hbm, 81, rfl⟩
abbrev main_call0_v24 : Ref sig .tc := ⟨.hbm, 82, rfl⟩
abbrev main_call0_cst_8 : Ref sig .tc := ⟨.hbm, 83, rfl⟩
abbrev main_call0_v25 : Ref sig .tc := ⟨.hbm, 84, rfl⟩
abbrev main_call0_v26 : Ref sig .tc := ⟨.hbm, 85, rfl⟩
abbrev main_call0_cst_9 : Ref sig .tc := ⟨.hbm, 86, rfl⟩
abbrev main_call0_v27 : Ref sig .tc := ⟨.hbm, 87, rfl⟩
abbrev main_call0_v28 : Ref sig .tc := ⟨.hbm, 88, rfl⟩
abbrev main_call0_v29 : Ref sig .tc := ⟨.hbm, 89, rfl⟩
abbrev main_call0_v30 : Ref sig .tc := ⟨.hbm, 90, rfl⟩
abbrev main_call0_v31 : Ref sig .tc := ⟨.hbm, 91, rfl⟩
abbrev main_call0_cst_10 : Ref sig .tc := ⟨.hbm, 92, rfl⟩
abbrev main_call0_v32 : Ref sig .tc := ⟨.hbm, 93, rfl⟩
abbrev main_v34_2 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_cst_6 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_cst_7 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_cst_8 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_cst_9 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_cst_10 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_cst_11 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_cst_12 : Ref sig .tc := ⟨.hbm, 138, rfl⟩
abbrev main_v72 : Ref sig .tc := ⟨.hbm, 139, rfl⟩
abbrev main_v73 : Ref sig .tc := ⟨.hbm, 140, rfl⟩
abbrev main_cst_13 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_cst_14 : Ref sig .tc := ⟨.hbm, 150, rfl⟩
abbrev main_v82 : Ref sig .tc := ⟨.hbm, 151, rfl⟩
abbrev main_v83 : Ref sig .tc := ⟨.hbm, 152, rfl⟩
abbrev main_cst_15 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩

abbrev nD : Nat := 1
abbrev τ : Topo := Topo.v7x

variable {F : FTy → Type} [FloatOps F]
-- ==== LruOutXKernel.lean ====
abbrev S4224x2048 : Shape := ⟨2, ![4224, 2048]⟩
abbrev S2048x2048 : Shape := ⟨2, ![2048, 2048]⟩
abbrev S4x1x512x2048 : Shape := ⟨4, ![4, 1, 512, 2048]⟩
abbrev S704x2048 : Shape := ⟨2, ![704, 2048]⟩
abbrev S1x1x512x2048 : Shape := ⟨4, ![1, 1, 512, 2048]⟩
abbrev S704x512 : Shape := ⟨2, ![704, 512]⟩
abbrev S512x2048 : Shape := ⟨2, ![512, 2048]⟩

abbrev nBuf : Space → Nat
  | .hbm => 7
  | .vmem => 6
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S4224x2048, .f32⟩
  | .hbm, ⟨3, _⟩ => ⟨S2048x2048, .bf16⟩
  | .hbm, ⟨4, _⟩ => ⟨S4x1x512x2048, .bf16⟩
  | .hbm, ⟨5, _⟩ => ⟨S4224x2048, .bf16⟩
  | .hbm, ⟨6, _⟩ => ⟨S4224x2048, .f32⟩
  | .local _ .vmem, ⟨0, _⟩ => ⟨S704x2048, .bf16⟩
  | .local _ .vmem, ⟨1, _⟩ => ⟨S704x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S704x512, .f32⟩
  | .local _ .vmem, ⟨5, _⟩ => ⟨S704x512, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruOutXReferenceIdeal.lean ====
abbrev S4224x2048 : Shape := ⟨2, ![4224, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S4224x2048, .f32⟩
  | .hbm, ⟨3, _⟩ => ⟨S4224x2048, .f32⟩
  | .hbm, ⟨4, _⟩ => ⟨S2048x2048, .f32⟩
  | .hbm, ⟨5, _⟩ => ⟨S2048x2048, .f32⟩
  | .hbm, ⟨6, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LruOutWKernel.lean ====
abbrev S4224x2048 : Shape := ⟨2, ![4224, 2048]⟩
abbrev S2048x2048 : Shape := ⟨2, ![2048, 2048]⟩
abbrev S8x256x2048 : Shape := ⟨3, ![8, 256, 2048]⟩
abbrev S1408x256 : Shape := ⟨2, ![1408, 256]⟩
abbrev S1408x1024 : Shape := ⟨2, ![1408, 1024]⟩
abbrev S1x256x1024 : Shape := ⟨3, ![1, 256, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S4224x2048, .f32⟩
  | .hbm, ⟨3, _⟩ => ⟨S4224x2048, .bf16⟩
  | .hbm, ⟨4, _⟩ => ⟨S4224x2048, .bf16⟩
  | .hbm, ⟨5, _⟩ => ⟨S8x256x2048, .bf16⟩
  | .local _ .vmem, ⟨0, _⟩ => ⟨S1408x256, .bf16⟩
  | .local _ .vmem, ⟨1, _⟩ => ⟨S1408x256, .bf16⟩
  | .local _ .vmem, ⟨2, _⟩ => ⟨S1408x1024, .bf16⟩
  | .local _ .vmem, ⟨3, _⟩ => ⟨S1408x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c1_i32_11 : BitVec 32 := 1#32
  let v28 : BitVec 32 := Scalar.divsi v27 c1_i32_11
  let c0_i32_12 : BitVec 32 := 0#32
  let v29 : BitVec 1 := Scalar.cmpi .sgt v27 c0_i32_12
  let v30 : BitVec 32 := Scalar.extui v29
  let c0_i32_13 : BitVec 32 := 0#32
  let v31 : BitVec 1 := Scalar.cmpi .slt v27 c0_i32_13
  let v32 : BitVec 32 := Scalar.extui v31
  let v33 : BitVec 32 := Scalar.subi v30 v32
  let c0_i32_14 : BitVec 32 := 0#32
  let v34 : BitVec 1 := Scalar.cmpi .sgt c1_i32_11 c0_i32_14
  let v35 : BitVec 32 := Scalar.extui v34
  let c0_i32_15 : BitVec 32 := 0#32
  let v36 : BitVec 1 := Scalar.cmpi .slt c1_i32_11 c0_i32_15
  let v37 : BitVec 32 := Scalar.extui v36
  let v38 : BitVec 32 := Scalar.subi v35 v37
  let v39 : BitVec 1 := Scalar.cmpi .ne v33 v38
  let v40 : BitVec 32 := Scalar.remsi v27 c1_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let v45 : BitVec 32 := Scalar.addi v17 v44
  let c2_i32_18 : BitVec 32 := 2#32
  let c0_i32_19 : BitVec 32 := 0#32
  let v46 : BitVec 1 := Scalar.cmpi .eq c2_i32_18 c0_i32_19
  let c1_i32_20 : BitVec 32 := 1#32
  let v47 : BitVec 32 := Scalar.select v46 c1_i32_20 c2_i32_18
  let v48 : BitVec 32 := Scalar.remsi arg0 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c1_i32_24 : BitVec 32 := 1#32
  let c0_i32_25 : BitVec 32 := 0#32
  let v56 : BitVec 1 := Scalar.cmpi .eq c1_i32_24 c0_i32_25
  let c1_i32_26 : BitVec 32 := 1#32
  let v57 : BitVec 32 := Scalar.select v56 c1_i32_26 c1_i32_24
  let v58 : BitVec 32 := Scalar.remsi v55 v57
  let c0_i32_27 : BitVec 32 := 0#32
  let v59 : BitVec 1 := Scalar.cmpi .ne v58 c0_i32_27
  let c0_i32_28 : BitVec 32 := 0#32
  let v60 : BitVec 1 := Scalar.cmpi .slt v58 c0_i32_28
  let c0_i32_29 : BitVec 32 := 0#32
  let v61 : BitVec 1 := Scalar.cmpi .slt v57 c0_i32_29
  let v62 : BitVec 1 := Scalar.xori v60 v61
  let v63 : BitVec 1 := Scalar.andi v62 v59
  let v64 : BitVec 32 := Scalar.addi v58 v57
  let v65 : BitVec 32 := Scalar.select v63 v64 v58
  let c0_i32_30 : BitVec 32 := 0#32
  ![v45.toNat, v65.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruOutWReferenceIdeal.lean ====
abbrev S4224x2048 : Shape := ⟨2, ![4224, 2048]⟩
abbrev S2048x2048 : Shape := ⟨2, ![2048, 2048]⟩
abbrev S8x256x2048 : Shape := ⟨3, ![8, 256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S4224x2048, .f32⟩
  | .hbm, ⟨3, _⟩ => ⟨S4224x2048, .f32⟩
  | .hbm, ⟨4, _⟩ => ⟨S2048x2048, .f32⟩
  | .hbm, ⟨5, _⟩ => ⟨S2048x2048, .f32⟩
  | .hbm, ⟨6, _⟩ => ⟨S4224x2048, .f32⟩
  | .hbm, ⟨7, _⟩ => ⟨S8x256x2048, .f32⟩
  | .hbm, ⟨8, _⟩ => ⟨S8x256x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LruInXKernel.lean ====
abbrev S4224x2048 : Shape := ⟨2, ![4224, 2048]⟩
abbrev S2048x4096 : Shape := ⟨2, ![2048, 4096]⟩
abbrev S4224x4096 : Shape := ⟨2, ![4224, 4096]⟩
abbrev S2048x4x1024 : Shape := ⟨3, ![2048, 4, 1024]⟩
abbrev S4x2048x1024 : Shape := ⟨3, ![4, 2048, 1024]⟩
abbrev S4x1x2048x1024 : Shape := ⟨4, ![4, 1, 2048, 1024]⟩
abbrev S704x1024 : Shape := ⟨2, ![704, 1024]⟩
abbrev S1x1x1024x1024 : Shape := ⟨4, ![1, 1, 1024, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S2048x4096, .f32⟩
  | .hbm, ⟨2, _⟩ => ⟨S4224x4096, .f32⟩
  | .hbm, ⟨3, _⟩ => ⟨S4224x4096, .bf16⟩
  | .hbm, ⟨4, _⟩ => ⟨S2048x4096, .bf16⟩
  | .hbm, ⟨5, _⟩ => ⟨S2048x4x1024, .bf16⟩
  | .hbm, ⟨6, _⟩ => ⟨S4x2048x1024, .bf16⟩
  | .hbm, ⟨7, _⟩ => ⟨S4x1x2048x1024, .bf16⟩
  | .hbm, ⟨8, _⟩ => ⟨S4224x2048, .f32⟩
  | .local _ .vmem, ⟨0, _⟩ => ⟨S704x1024, .bf16⟩
  | .local _ .vmem, ⟨1, _⟩ => ⟨S704x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInXReferenceIdeal.lean ====
abbrev S4224x2048 : Shape := ⟨2, ![4224, 2048]⟩
abbrev S2048x4096 : Shape := ⟨2, ![2048, 4096]⟩
abbrev S4224x4096 : Shape := ⟨2, ![4224, 4096]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x4096, .f32⟩
  | .hbm, ⟨2, _⟩ => ⟨S4224x4096, .f32⟩
  | .hbm, ⟨3, _⟩ => ⟨S4224x4096, .f32⟩
  | .hbm, ⟨4, _⟩ => ⟨S4096x2048, .f32⟩
  | .hbm, ⟨5, _⟩ => ⟨S2048x4096, .f32⟩
  | .hbm, ⟨6, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LruInWKernel.lean ====
abbrev S4224x2048 : Shape := ⟨2, ![4224, 2048]⟩
abbrev S2048x4096 : Shape := ⟨2, ![2048, 4096]⟩
abbrev S4224x4096 : Shape := ⟨2, ![4224, 4096]⟩
abbrev S8x1024x1024 : Shape := ⟨3, ![8, 1024, 1024]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S2048x4096, .f32⟩
  | .hbm, ⟨2, _⟩ => ⟨S4224x4096, .f32⟩
  | .hbm, ⟨3, _⟩ => ⟨S4224x2048, .bf16⟩
  | .hbm, ⟨4, _⟩ => ⟨S4224x4096, .bf16⟩
  | .hbm, ⟨5, _⟩ => ⟨S8x1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.divsi arg0 c1_i32_5
  let c0_i32_6 : BitVec 32 := 0#32
  let v19 : BitVec 1 := Scalar.cmpi .sgt arg0 c0_i32_6
  let v20 : BitVec 32 := Scalar.extui v19
  let c0_i32_7 : BitVec 32 := 0#32
  let v21 : BitVec 1 := Scalar.cmpi .slt arg0 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi arg0 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let v35 : BitVec 32 := Scalar.addi v17 v34
  let c1_i32_12 : BitVec 32 := 1#32
  let c0_i32_13 : BitVec 32 := 0#32
  let v36 : BitVec 1 := Scalar.cmpi .eq c1_i32_12 c0_i32_13
  let c1_i32_14 : BitVec 32 := 1#32
  let v37 : BitVec 32 := Scalar.select v36 c1_i32_14 c1_i32_12
  let v38 : BitVec 32 := Scalar.remsi arg0 v37
  let c0_i32_15 : BitVec 32 := 0#32
  let v39 : BitVec 1 := Scalar.cmpi .ne v38 c0_i32_15
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let v43 : BitVec 1 := Scalar.andi v42 v39
  let v44 : BitVec 32 := Scalar.addi v38 v37
  let v45 : BitVec 32 := Scalar.select v43 v44 v38
  let c1_i32_18 : BitVec 32 := 1#32
  let c0_i32_19 : BitVec 32 := 0#32
  let v46 : BitVec 1 := Scalar.cmpi .eq c1_i32_18 c0_i32_19
  let c1_i32_20 : BitVec 32 := 1#32
  let v47 : BitVec 32 := Scalar.select v46 c1_i32_20 c1_i32_18
  let v48 : BitVec 32 := Scalar.remsi arg1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  ![v35.toNat, v45.toNat, v55.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInWReferenceIdeal.lean ====
abbrev S4224x2048 : Shape := ⟨2, ![4224, 2048]⟩
abbrev S2048x4096 : Shape := ⟨2, ![2048, 4096]⟩
abbrev S4224x4096 : Shape := ⟨2, ![4224, 4096]⟩
abbrev S4096x2048 : Shape := ⟨2, ![4096, 2048]⟩
abbrev S2x1024x4x1024 : Shape := ⟨4, ![2, 1024, 4, 1024]⟩
abbrev S4x2x1024x1024 : Shape := ⟨4, ![4, 2, 1024, 1024]⟩
abbrev S8x1024x1024 : Shape := ⟨3, ![8, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x4096, .f32⟩
  | .hbm, ⟨2, _⟩ => ⟨S4224x4096, .f32⟩
  | .hbm, ⟨3, _⟩ => ⟨S4224x4096, .f32⟩
  | .hbm, ⟨4, _⟩ => ⟨S4096x2048, .f32⟩
  | .hbm, ⟨5, _⟩ => ⟨S2048x4096, .f32⟩
  | .hbm, ⟨6, _⟩ => ⟨S4224x2048, .f32⟩
  | .hbm, ⟨7, _⟩ => ⟨S2x1024x4x1024, .f32⟩
  | .hbm, ⟨8, _⟩ => ⟨S4x2x1024x1024, .f32⟩
  | .hbm, ⟨9, _⟩ => ⟨S8x1024x1024, .f32⟩
  | .hbm, ⟨10, _⟩ => ⟨S8x1024x1024, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== LruInKernel.lean ====
abbrev S4224x2048 : Shape := ⟨2, ![4224, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4x1x2048x1024 : Shape := ⟨4, ![4, 1, 2048, 1024]⟩
abbrev S4224x4096 : Shape := ⟨2, ![4224, 4096]⟩
abbrev S704x2048 : Shape := ⟨2, ![704, 2048]⟩
abbrev S1x1x2048x1024 : Shape := ⟨4, ![1, 1, 2048, 1024]⟩
abbrev S704x1024 : Shape := ⟨2, ![704, 1024]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4224x2048, .f32⟩
  | .hbm, ⟨1, _⟩ => ⟨S2048x4096, .f32⟩
  | .hbm, ⟨2, _⟩ => ⟨S4224x2048, .bf16⟩
  | .hbm, ⟨3, _⟩ => ⟨S2048x4096, .bf16⟩
  | .hbm, ⟨4, _⟩ => ⟨S2048x4x1024, .bf16⟩
  | .hbm, ⟨5, _⟩ => ⟨S4x2048x1024, .bf16⟩
  | .hbm, ⟨6, _⟩ => ⟨S4x1x2048x1024, .bf16⟩
  | .hbm, ⟨7, _⟩ => ⟨S4224x4096, .f32⟩
  | .local _ .vmem, ⟨0, _⟩ => ⟨S704x2048, .bf16⟩
  | .local _ .vmem, ⟨1, _⟩ => ⟨S704x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S704x1024, .f32⟩
  | .local _ .vmem, ⟨5, _⟩ => ⟨S704x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInReferenceIdeal.lean ====
abbrev S4224x2048 : Shape := ⟨2, ![4224, 2048]⟩
abbrev S2048x4096 : Shape := ⟨2, ![2048, 4096]⟩
abbrev S4224x4096 : Shape := ⟨2, ![4224, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x4096, .f32⟩
  | .hbm, ⟨2, _⟩ => ⟨S4224x4096, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LruOutKernel.lean ====
abbrev S4224x2048 : Shape := ⟨2, ![4224, 2048]⟩
abbrev S2048x2048 : Shape := ⟨2, ![2048, 2048]⟩
abbrev S4x1x512x2048 : Shape := ⟨4, ![4, 1, 512, 2048]⟩
abbrev S704x512 : Shape := ⟨2, ![704, 512]⟩
abbrev S1x1x512x1024 : Shape := ⟨4, ![1, 1, 512, 1024]⟩
abbrev S704x1024 : Shape := ⟨2, ![704, 1024]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S2048x2048, .f32⟩
  | .hbm, ⟨3, _⟩ => ⟨S2048x2048, .bf16⟩
  | .hbm, ⟨4, _⟩ => ⟨S4x1x512x2048, .bf16⟩
  | .hbm, ⟨5, _⟩ => ⟨S4224x2048, .bf16⟩
  | .hbm, ⟨6, _⟩ => ⟨S4224x2048, .f32⟩
  | .local _ .vmem, ⟨0, _⟩ => ⟨S704x512, .bf16⟩
  | .local _ .vmem, ⟨1, _⟩ => ⟨S704x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LruOutReferenceIdeal.lean ====
abbrev S4224x2048 : Shape := ⟨2, ![4224, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S2048x2048, .f32⟩
  | .hbm, ⟨3, _⟩ => ⟨S4224x2048, .f32⟩
  | .hbm, ⟨4, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== GateUpKernel.lean ====
abbrev S4224x2048 : Shape := ⟨2, ![4224, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S4x1x2048x2816 : Shape := ⟨4, ![4, 1, 2048, 2816]⟩
abbrev S4224x5632 : Shape := ⟨2, ![4224, 5632]⟩
abbrev S352x2048 : Shape := ⟨2, ![352, 2048]⟩
abbrev S1x1x2048x1408 : Shape := ⟨4, ![1, 1, 2048, 1408]⟩
abbrev S352x1408 : Shape := ⟨2, ![352, 1408]⟩
abbrev S2048x1408 : Shape := ⟨2, ![2048, 1408]⟩

abbrev nBuf : Space → Nat
  | .hbm => 10
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S4x1x2048x2816, .bf16⟩
  | .hbm, ⟨6, _⟩ => ⟨S4224x2048, .bf16⟩
  | .hbm, ⟨7, _⟩ => ⟨S4224x5632, .bf16⟩
  | .hbm, ⟨8, _⟩ => ⟨S4224x5632, .bf16⟩
  | .hbm, ⟨9, _⟩ => ⟨S4224x5632, .bf16⟩
  | .local _ .vmem, ⟨0, _⟩ => ⟨S352x2048, .bf16⟩
  | .local _ .vmem, ⟨1, _⟩ => ⟨S352x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S352x1408, .bf16⟩
  | .local _ .vmem, ⟨7, _⟩ => ⟨S352x1408, .bf16⟩
  | .local _ .vmem, ⟨8, _⟩ => ⟨S352x1408, .bf16⟩
  | .local _ .vmem, ⟨9, _⟩ => ⟨S352x1408, .bf16⟩
  | .local _ .vmem, ⟨10, _⟩ => ⟨S352x1408, .bf16⟩
  | .local _ .vmem, ⟨11, _⟩ => ⟨S352x1408, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  let c0_i32_13 : BitVec 32 := 0#32
  ![v17.toNat, c0_i32_11.toNat, c0_i32_12.toNat, v27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S352x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S352x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpReferenceIdeal.lean ====
abbrev S4224x2048 : Shape := ⟨2, ![4224, 2048]⟩
abbrev S2048x11264 : Shape := ⟨2, ![2048, 11264]⟩
abbrev S4224x11264 : Shape := ⟨2, ![4224, 11264]⟩
abbrev S4224x5632 : Shape := ⟨2, ![4224, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x11264, .f32⟩
  | .hbm, ⟨2, _⟩ => ⟨S4224x11264, .f32⟩
  | .hbm, ⟨3, _⟩ => ⟨S4224x5632, .f32⟩
  | .hbm, ⟨4, _⟩ => ⟨S4224x5632, .f32⟩
  | .hbm, ⟨5, _⟩ => ⟨S4224x5632, .bf16⟩
  | .hbm, ⟨6, _⟩ => ⟨S4224x5632, .bf16⟩
  | .hbm, ⟨7, _⟩ => ⟨S4224x5632, .f32⟩
  | .hbm, ⟨8, _⟩ => ⟨S4224x5632, .f32⟩
  | .hbm, ⟨9, _⟩ => ⟨S_, .f32⟩
  | .hbm, ⟨10, _⟩ => ⟨S4224x5632, .f32⟩
  | .hbm, ⟨11, _⟩ => ⟨S4224x5632, .f32⟩
  | .hbm, ⟨12, _⟩ => ⟨S_, .f32⟩
  | .hbm, ⟨13, _⟩ => ⟨S4224x5632, .f32⟩
  | .hbm, ⟨14, _⟩ => ⟨S4224x5632, .f32⟩
  | .hbm, ⟨15, _⟩ => ⟨S4224x5632, .f32⟩
  | .hbm, ⟨16, _⟩ => ⟨S4224x5632, .f32⟩
  | .hbm, ⟨17, _⟩ => ⟨S4224x5632, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== DownKernel.lean ====
abbrev S4224x2048 : Shape := ⟨2, ![4224, 2048]⟩
abbrev S4224x5632 : Shape := ⟨2, ![4224, 5632]⟩
abbrev S5632x2048 : Shape := ⟨2, ![5632, 2048]⟩
abbrev S4x1x1408x2048 : Shape := ⟨4, ![4, 1, 1408, 2048]⟩
abbrev S704x1408 : Shape := ⟨2, ![704, 1408]⟩
abbrev S1x1x1408x1024 : Shape := ⟨4, ![1, 1, 1408, 1024]⟩
abbrev S704x1024 : Shape := ⟨2, ![704, 1024]⟩
abbrev S1408x1024 : Shape := ⟨2, ![1408, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4224x2048, .f32⟩
  | .hbm, ⟨1, _⟩ => ⟨S4224x5632, .f32⟩
  | .hbm, ⟨2, _⟩ => ⟨S5632x2048, .f32⟩
  | .hbm, ⟨3, _⟩ => ⟨S5632x2048, .bf16⟩
  | .hbm, ⟨4, _⟩ => ⟨S4x1x1408x2048, .bf16⟩
  | .hbm, ⟨5, _⟩ => ⟨S4224x5632, .bf16⟩
  | .hbm, ⟨6, _⟩ => ⟨S4224x2048, .f32⟩
  | .local _ .vmem, ⟨0, _⟩ => ⟨S704x1408, .bf16⟩
  | .local _ .vmem, ⟨1, _⟩ => ⟨S704x1408, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S4224x2048 : Shape := ⟨2, ![4224, 2048]⟩
abbrev S4224x5632 : Shape := ⟨2, ![4224, 5632]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x5632, .f32⟩
  | .hbm, ⟨2, _⟩ => ⟨S5632x2048, .f32⟩
  | .hbm, ⟨3, _⟩ => ⟨S4224x2048, .f32⟩
  | .hbm, ⟨4, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MlaUkvKernel.lean ====
abbrev S4224x512 : Shape := ⟨2, ![4224, 512]⟩
abbrev S512x4096 : Shape := ⟨2, ![512, 4096]⟩
abbrev S512x4x1024 : Shape := ⟨3, ![512, 4, 1024]⟩
abbrev S4x512x1024 : Shape := ⟨3, ![4, 512, 1024]⟩
abbrev S4x1x512x1024 : Shape := ⟨4, ![4, 1, 512, 1024]⟩
abbrev S4224x4096 : Shape := ⟨2, ![4224, 4096]⟩
abbrev S704x512 : Shape := ⟨2, ![704, 512]⟩
abbrev S1x1x512x1024 : Shape := ⟨4, ![1, 1, 512, 1024]⟩
abbrev S704x1024 : Shape := ⟨2, ![704, 1024]⟩
abbrev S512x1024 : Shape := ⟨2, ![512, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4224x512, .f32⟩
  | .hbm, ⟨1, _⟩ => ⟨S512x4096, .f32⟩
  | .hbm, ⟨2, _⟩ => ⟨S4224x512, .bf16⟩
  | .hbm, ⟨3, _⟩ => ⟨S512x4096, .bf16⟩
  | .hbm, ⟨4, _⟩ => ⟨S512x4x1024, .bf16⟩
  | .hbm, ⟨5, _⟩ => ⟨S4x512x1024, .bf16⟩
  | .hbm, ⟨6, _⟩ => ⟨S4x1x512x1024, .bf16⟩
  | .hbm, ⟨7, _⟩ => ⟨S4224x4096, .bf16⟩
  | .local _ .vmem, ⟨0, _⟩ => ⟨S704x512, .bf16⟩
  | .local _ .vmem, ⟨1, _⟩ => ⟨S704x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S704x1024, .bf16⟩
  | .local _ .vmem, ⟨5, _⟩ => ⟨S704x1024, .bf16⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUkvReferenceIdeal.lean ====
abbrev S4224x512 : Shape := ⟨2, ![4224, 512]⟩
abbrev S512x4096 : Shape := ⟨2, ![512, 4096]⟩
abbrev S4224x4096 : Shape := ⟨2, ![4224, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x4096, .f32⟩
  | .hbm, ⟨2, _⟩ => ⟨S4224x4096, .f32⟩
  | .hbm, ⟨3, _⟩ => ⟨S4224x4096, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlaUkvXKernel.lean ====
abbrev S4224x512 : Shape := ⟨2, ![4224, 512]⟩
abbrev S512x4096 : Shape := ⟨2, ![512, 4096]⟩
abbrev S4224x4096 : Shape := ⟨2, ![4224, 4096]⟩
abbrev S512x4x1024 : Shape := ⟨3, ![512, 4, 1024]⟩
abbrev S4x512x1024 : Shape := ⟨3, ![4, 512, 1024]⟩
abbrev S4x1x512x1024 : Shape := ⟨4, ![4, 1, 512, 1024]⟩
abbrev S704x1024 : Shape := ⟨2, ![704, 1024]⟩
abbrev S1x1x512x1024 : Shape := ⟨4, ![1, 1, 512, 1024]⟩
abbrev S704x512 : Shape := ⟨2, ![704, 512]⟩
abbrev S512x1024 : Shape := ⟨2, ![512, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4224x512, .f32⟩
  | .hbm, ⟨1, _⟩ => ⟨S512x4096, .f32⟩
  | .hbm, ⟨2, _⟩ => ⟨S4224x4096, .f32⟩
  | .hbm, ⟨3, _⟩ => ⟨S4224x4096, .bf16⟩
  | .hbm, ⟨4, _⟩ => ⟨S512x4096, .bf16⟩
  | .hbm, ⟨5, _⟩ => ⟨S512x4x1024, .bf16⟩
  | .hbm, ⟨6, _⟩ => ⟨S4x512x1024, .bf16⟩
  | .hbm, ⟨7, _⟩ => ⟨S4x1x512x1024, .bf16⟩
  | .hbm, ⟨8, _⟩ => ⟨S4224x512, .f32⟩
  | .local _ .vmem, ⟨0, _⟩ => ⟨S704x1024, .bf16⟩
  | .local _ .vmem, ⟨1, _⟩ => ⟨S704x1024, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S704x512, .f32⟩
  | .local _ .vmem, ⟨5, _⟩ => ⟨S704x512, .f32⟩
  | .local _ .vmem, ⟨6, _⟩ => ⟨S704x512, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUkvXReferenceIdeal.lean ====
abbrev S4224x512 : Shape := ⟨2, ![4224, 512]⟩
abbrev S512x4096 : Shape := ⟨2, ![512, 4096]⟩
abbrev S4224x4096 : Shape := ⟨2, ![4224, 4096]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x4096, .f32⟩
  | .hbm, ⟨2, _⟩ => ⟨S4224x4096, .f32⟩
  | .hbm, ⟨3, _⟩ => ⟨S4224x4096, .f32⟩
  | .hbm, ⟨4, _⟩ => ⟨S4096x512, .f32⟩
  | .hbm, ⟨5, _⟩ => ⟨S512x4096, .f32⟩
  | .hbm, ⟨6, _⟩ => ⟨S4224x512, .f32⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaUkvWKernel.lean ====
abbrev S4224x512 : Shape := ⟨2, ![4224, 512]⟩
abbrev S512x4096 : Shape := ⟨2, ![512, 4096]⟩
abbrev S4224x4096 : Shape := ⟨2, ![4224, 4096]⟩
abbrev S8x256x1024 : Shape := ⟨3, ![8, 256, 1024]⟩
abbrev S1408x256 : Shape := ⟨2, ![1408, 256]⟩
abbrev S1408x1024 : Shape := ⟨2, ![1408, 1024]⟩
abbrev S1x256x1024 : Shape := ⟨3, ![1, 256, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4224x512, .f32⟩
  | .hbm, ⟨1, _⟩ => ⟨S512x4096, .f32⟩
  | .hbm, ⟨2, _⟩ => ⟨S4224x4096, .f32⟩
  | .hbm, ⟨3, _⟩ => ⟨S4224x512, .bf16⟩
  | .hbm, ⟨4, _⟩ => ⟨S4224x4096, .bf16⟩
  | .hbm, ⟨5, _⟩ => ⟨S8x256x1024, .bf16⟩
  | .local _ .vmem, ⟨0, _⟩ => ⟨S1408x256, .bf16⟩
  | .local _ .vmem, ⟨1, _⟩ => ⟨S1408x256, .bf16⟩
  | .local _ .vmem, ⟨2, _⟩ => ⟨S1408x1024, .bf16⟩
  | .local _ .vmem, ⟨3, _⟩ => ⟨S1408x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.divsi arg0 c1_i32_5
  let c0_i32_6 : BitVec 32 := 0#32
  let v19 : BitVec 1 := Scalar.cmpi .sgt arg0 c0_i32_6
  let v20 : BitVec 32 := Scalar.extui v19
  let c0_i32_7 : BitVec 32 := 0#32
  let v21 : BitVec 1 := Scalar.cmpi .slt arg0 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi arg0 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let v35 : BitVec 32 := Scalar.addi v17 v34
  let c1_i32_12 : BitVec 32 := 1#32
  let c0_i32_13 : BitVec 32 := 0#32
  let v36 : BitVec 1 := Scalar.cmpi .eq c1_i32_12 c0_i32_13
  let c1_i32_14 : BitVec 32 := 1#32
  let v37 : BitVec 32 := Scalar.select v36 c1_i32_14 c1_i32_12
  let v38 : BitVec 32 := Scalar.remsi arg0 v37
  let c0_i32_15 : BitVec 32 := 0#32
  let v39 : BitVec 1 := Scalar.cmpi .ne v38 c0_i32_15
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let v43 : BitVec 1 := Scalar.andi v42 v39
  let v44 : BitVec 32 := Scalar.addi v38 v37
  let v45 : BitVec 32 := Scalar.select v43 v44 v38
  let c1_i32_18 : BitVec 32 := 1#32
  let c0_i32_19 : BitVec 32 := 0#32
  let v46 : BitVec 1 := Scalar.cmpi .eq c1_i32_18 c0_i32_19
  let c1_i32_20 : BitVec 32 := 1#32
  let v47 : BitVec 32 := Scalar.select v46 c1_i32_20 c1_i32_18
  let v48 : BitVec 32 := Scalar.remsi arg1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  ![v35.toNat, v45.toNat, v55.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUkvWReferenceIdeal.lean ====
abbrev S4224x512 : Shape := ⟨2, ![4224, 512]⟩
abbrev S512x4096 : Shape := ⟨2, ![512, 4096]⟩
abbrev S4224x4096 : Shape := ⟨2, ![4224, 4096]⟩
abbrev S4096x512 : Shape := ⟨2, ![4096, 512]⟩
abbrev S2x256x4x1024 : Shape := ⟨4, ![2, 256, 4, 1024]⟩
abbrev S4x2x256x1024 : Shape := ⟨4, ![4, 2, 256, 1024]⟩
abbrev S8x256x1024 : Shape := ⟨3, ![8, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x4096, .f32⟩
  | .hbm, ⟨2, _⟩ => ⟨S4224x4096, .f32⟩
  | .hbm, ⟨3, _⟩ => ⟨S4224x4096, .f32⟩
  | .hbm, ⟨4, _⟩ => ⟨S4096x512, .f32⟩
  | .hbm, ⟨5, _⟩ => ⟨S512x4096, .f32⟩
  | .hbm, ⟨6, _⟩ => ⟨S4224x512, .f32⟩
  | .hbm, ⟨7, _⟩ => ⟨S2x256x4x1024, .f32⟩
  | .hbm, ⟨8, _⟩ => ⟨S4x2x256x1024, .f32⟩
  | .hbm, ⟨9, _⟩ => ⟨S8x256x1024, .f32⟩
  | .hbm, ⟨10, _⟩ => ⟨S8x256x1024, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MlaInKernel.lean ====
abbrev S4224x2048 : Shape := ⟨2, ![4224, 2048]⟩
abbrev S2048x1088 : Shape := ⟨2, ![2048, 1088]⟩
abbrev S_ : Shape := ⟨0, ![]⟩
abbrev S2048x1152 : Shape := ⟨2, ![2048, 1152]⟩
abbrev S4x1x512x1152 : Shape := ⟨4, ![4, 1, 512, 1152]⟩
abbrev S4224x1152 : Shape := ⟨2, ![4224, 1152]⟩
abbrev S704x512 : Shape := ⟨2, ![704, 512]⟩
abbrev S1x1x512x1152 : Shape := ⟨4, ![1, 1, 512, 1152]⟩
abbrev S704x1152 : Shape := ⟨2, ![704, 1152]⟩
abbrev S512x1152 : Shape := ⟨2, ![512, 1152]⟩

abbrev nBuf : Space → Nat
  | .hbm => 9
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S2048x1088, .f32⟩
  | .hbm, ⟨2, _⟩ => ⟨S4224x2048, .bf16⟩
  | .hbm, ⟨3, _⟩ => ⟨S2048x1088, .bf16⟩
  | .hbm, ⟨4, _⟩ => ⟨S_, .i32⟩
  | .hbm, ⟨5, _⟩ => ⟨S_, .bf16⟩
  | .hbm, ⟨6, _⟩ => ⟨S2048x1152, .bf16⟩
  | .hbm, ⟨7, _⟩ => ⟨S4x1x512x1152, .bf16⟩
  | .hbm, ⟨8, _⟩ => ⟨S4224x1152, .f32⟩
  | .local _ .vmem, ⟨0, _⟩ => ⟨S704x512, .bf16⟩
  | .local _ .vmem, ⟨1, _⟩ => ⟨S704x512, .bf16⟩
  | .local _ .vmem, ⟨2, _⟩ => ⟨S1x1x512x1152, .bf16⟩
  | .local _ .vmem, ⟨3, _⟩ => ⟨S1x1x512x1152, .bf16⟩
  | .local _ .vmem, ⟨4, _⟩ => ⟨S704x1152, .f32⟩
  | .local _ .vmem, ⟨5, _⟩ => ⟨S704x1152, .f32⟩
  | .local _ .vmem, ⟨6, _⟩ => ⟨S704x1152, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaInReferenceIdeal.lean ====
abbrev S4224x2048 : Shape := ⟨2, ![4224, 2048]⟩
abbrev S2048x1088 : Shape := ⟨2, ![2048, 1088]⟩
abbrev S4224x1088 : Shape := ⟨2, ![4224, 1088]⟩
abbrev S_ : Shape := ⟨0, ![]⟩
abbrev S4224x1152 : Shape := ⟨2, ![4224, 1152]⟩

abbrev nBuf : Space → Nat
  | .hbm => 6
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x1088, .f32⟩
  | .hbm, ⟨2, _⟩ => ⟨S4224x1088, .f32⟩
  | .hbm, ⟨3, _⟩ => ⟨S_, .i32⟩
  | .hbm, ⟨4, _⟩ => ⟨S_, .f32⟩
  | .hbm, ⟨5, _⟩ => ⟨S4224x1152, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== MlaInXKernel.lean ====
abbrev S4224x2048 : Shape := ⟨2, ![4224, 2048]⟩
abbrev S2048x1088 : Shape := ⟨2, ![2048, 1088]⟩
abbrev S4224x1088 : Shape := ⟨2, ![4224, 1088]⟩
abbrev S_ : Shape := ⟨0, ![]⟩
abbrev S4224x1152 : Shape := ⟨2, ![4224, 1152]⟩
abbrev S2048x1152 : Shape := ⟨2, ![2048, 1152]⟩
abbrev S4x1x512x1152 : Shape := ⟨4, ![4, 1, 512, 1152]⟩
abbrev S704x1152 : Shape := ⟨2, ![704, 1152]⟩
abbrev S1x1x512x1152 : Shape := ⟨4, ![1, 1, 512, 1152]⟩
abbrev S704x512 : Shape := ⟨2, ![704, 512]⟩
abbrev S512x1152 : Shape := ⟨2, ![512, 1152]⟩

abbrev nBuf : Space → Nat
  | .hbm => 13
  | .vmem => 6
  | .smem => 0
  | _ => 0

abbrev bufTy : (tb : Table) → Fin (tcTables nBuf tb) → BufTy
  | .hbm, ⟨0, _⟩ => ⟨S4224x2048, .f32⟩
  | .hbm, ⟨1, _⟩ => ⟨S2048x1088, .f32⟩
  | .hbm, ⟨2, _⟩ => ⟨S4224x1088, .f32⟩
  | .hbm, ⟨3, _⟩ => ⟨S_, .i32⟩
  | .hbm, ⟨4, _⟩ => ⟨S_, .f32⟩
  | .hbm, ⟨5, _⟩ => ⟨S4224x1152, .f32⟩
  | .hbm, ⟨6, _⟩ => ⟨S4224x1152, .bf16⟩
  | .hbm, ⟨7, _⟩ => ⟨S2048x1088, .bf16⟩
  | .hbm, ⟨8, _⟩ => ⟨S_, .i32⟩
  | .hbm, ⟨9, _⟩ => ⟨S_, .bf16⟩
  | .hbm, ⟨10, _⟩ => ⟨S2048x1152, .bf16⟩
  | .hbm, ⟨11, _⟩ => ⟨S4x1x512x1152, .bf16⟩
  | .hbm, ⟨12, _⟩ => ⟨S4224x2048, .f32⟩
  | .local _ .vmem, ⟨0, _⟩ => ⟨S704x1152, .bf16⟩
  | .local _ .vmem, ⟨1, _⟩ => ⟨S704x1152, .bf16⟩
  | .local _ .vmem, ⟨2, _⟩ => ⟨S1x1x512x1152, .bf16⟩
  | .local _ .vmem, ⟨3, _⟩ => ⟨S1x1x512x1152, .bf16⟩
  | .local _ .vmem, ⟨4, _⟩ => ⟨S704x512, .f32⟩
  | .local _ .vmem, ⟨5, _⟩ => ⟨S704x512, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaInXReferenceIdeal.lean ====
abbrev S4224x2048 : Shape := ⟨2, ![4224, 2048]⟩
abbrev S2048x1088 : Shape := ⟨2, ![2048, 1088]⟩
abbrev S4224x1088 : Shape := ⟨2, ![4224, 1088]⟩
abbrev S1088x2048 : Shape := ⟨2, ![1088, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x1088, .f32⟩
  | .hbm, ⟨2, _⟩ => ⟨S4224x1088, .f32⟩
  | .hbm, ⟨3, _⟩ => ⟨S4224x1088, .f32⟩
  | .hbm, ⟨4, _⟩ => ⟨S1088x2048, .f32⟩
  | .hbm, ⟨5, _⟩ => ⟨S2048x1088, .f32⟩
  | .hbm, ⟨6, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaInWKernel.lean ====
abbrev S4224x2048 : Shape := ⟨2, ![4224, 2048]⟩
abbrev S2048x1088 : Shape := ⟨2, ![2048, 1088]⟩
abbrev S4224x1088 : Shape := ⟨2, ![4224, 1088]⟩
abbrev S_ : Shape := ⟨0, ![]⟩
abbrev S4224x1152 : Shape := ⟨2, ![4224, 1152]⟩
abbrev S8x256x1152 : Shape := ⟨3, ![8, 256, 1152]⟩
abbrev S1408x256 : Shape := ⟨2, ![1408, 256]⟩
abbrev S1408x1152 : Shape := ⟨2, ![1408, 1152]⟩
abbrev S1x256x1152 : Shape := ⟨3, ![1, 256, 1152]⟩
abbrev S256x1152 : Shape := ⟨2, ![256, 1152]⟩

abbrev nBuf : Space → Nat
  | .hbm => 9
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S2048x1088, .f32⟩
  | .hbm, ⟨2, _⟩ => ⟨S4224x1088, .f32⟩
  | .hbm, ⟨3, _⟩ => ⟨S_, .i32⟩
  | .hbm, ⟨4, _⟩ => ⟨S_, .f32⟩
  | .hbm, ⟨5, _⟩ => ⟨S4224x1152, .f32⟩
  | .hbm, ⟨6, _⟩ => ⟨S4224x1152, .bf16⟩
  | .hbm, ⟨7, _⟩ => ⟨S4224x2048, .bf16⟩
  | .hbm, ⟨8, _⟩ => ⟨S8x256x1152, .bf16⟩
  | .local _ .vmem, ⟨0, _⟩ => ⟨S1408x256, .bf16⟩
  | .local _ .vmem, ⟨1, _⟩ => ⟨S1408x256, .bf16⟩
  | .local _ .vmem, ⟨2, _⟩ => ⟨S1408x1152, .bf16⟩
  | .local _ .vmem, ⟨3, _⟩ => ⟨S1408x1152, .bf16⟩
  | .local _ .vmem, ⟨4, _⟩ => ⟨S1x256x1152, .bf16⟩
  | .local _ .vmem, ⟨5, _⟩ => ⟨S1x256x1152, .bf16⟩
  | .local _ .vmem, ⟨6, _⟩ => ⟨S256x1152, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c1_i32_11 : BitVec 32 := 1#32
  let v28 : BitVec 32 := Scalar.divsi v27 c1_i32_11
  let c0_i32_12 : BitVec 32 := 0#32
  let v29 : BitVec 1 := Scalar.cmpi .sgt v27 c0_i32_12
  let v30 : BitVec 32 := Scalar.extui v29
  let c0_i32_13 : BitVec 32 := 0#32
  let v31 : BitVec 1 := Scalar.cmpi .slt v27 c0_i32_13
  let v32 : BitVec 32 := Scalar.extui v31
  let v33 : BitVec 32 := Scalar.subi v30 v32
  let c0_i32_14 : BitVec 32 := 0#32
  let v34 : BitVec 1 := Scalar.cmpi .sgt c1_i32_11 c0_i32_14
  let v35 : BitVec 32 := Scalar.extui v34
  let c0_i32_15 : BitVec 32 := 0#32
  let v36 : BitVec 1 := Scalar.cmpi .slt c1_i32_11 c0_i32_15
  let v37 : BitVec 32 := Scalar.extui v36
  let v38 : BitVec 32 := Scalar.subi v35 v37
  let v39 : BitVec 1 := Scalar.cmpi .ne v33 v38
  let v40 : BitVec 32 := Scalar.remsi v27 c1_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let v45 : BitVec 32 := Scalar.addi v17 v44
  let c2_i32_18 : BitVec 32 := 2#32
  let c0_i32_19 : BitVec 32 := 0#32
  let v46 : BitVec 1 := Scalar.cmpi .eq c2_i32_18 c0_i32_19
  let c1_i32_20 : BitVec 32 := 1#32
  let v47 : BitVec 32 := Scalar.select v46 c1_i32_20 c2_i32_18
  let v48 : BitVec 32 := Scalar.remsi arg0 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c1_i32_24 : BitVec 32 := 1#32
  let c0_i32_25 : BitVec 32 := 0#32
  let v56 : BitVec 1 := Scalar.cmpi .eq c1_i32_24 c0_i32_25
  let c1_i32_26 : BitVec 32 := 1#32
  let v57 : BitVec 32 := Scalar.select v56 c1_i32_26 c1_i32_24
  let v58 : BitVec 32 := Scalar.remsi v55 v57
  let c0_i32_27 : BitVec 32 := 0#32
  let v59 : BitVec 1 := Scalar.cmpi .ne v58 c0_i32_27
  let c0_i32_28 : BitVec 32 := 0#32
  let v60 : BitVec 1 := Scalar.cmpi .slt v58 c0_i32_28
  let c0_i32_29 : BitVec 32 := 0#32
  let v61 : BitVec 1 := Scalar.cmpi .slt v57 c0_i32_29
  let v62 : BitVec 1 := Scalar.xori v60 v61
  let v63 : BitVec 1 := Scalar.andi v62 v59
  let v64 : BitVec 32 := Scalar.addi v58 v57
  let v65 : BitVec 32 := Scalar.select v63 v64 v58
  let c0_i32_30 : BitVec 32 := 0#32
  ![v45.toNat, v65.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaInWReferenceIdeal.lean ====
abbrev S4224x2048 : Shape := ⟨2, ![4224, 2048]⟩
abbrev S2048x1088 : Shape := ⟨2, ![2048, 1088]⟩
abbrev S4224x1088 : Shape := ⟨2, ![4224, 1088]⟩
abbrev S1088x2048 : Shape := ⟨2, ![1088, 2048]⟩
abbrev S_ : Shape := ⟨0, ![]⟩
abbrev S2048x1152 : Shape := ⟨2, ![2048, 1152]⟩
abbrev S8x256x1152 : Shape := ⟨3, ![8, 256, 1152]⟩

abbrev nBuf : Space → Nat
  | .hbm => 12
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x1088, .f32⟩
  | .hbm, ⟨2, _⟩ => ⟨S4224x1088, .f32⟩
  | .hbm, ⟨3, _⟩ => ⟨S4224x1088, .f32⟩
  | .hbm, ⟨4, _⟩ => ⟨S1088x2048, .f32⟩
  | .hbm, ⟨5, _⟩ => ⟨S2048x1088, .f32⟩
  | .hbm, ⟨6, _⟩ => ⟨S4224x2048, .f32⟩
  | .hbm, ⟨7, _⟩ => ⟨S_, .i32⟩
  | .hbm, ⟨8, _⟩ => ⟨S_, .f32⟩
  | .hbm, ⟨9, _⟩ => ⟨S2048x1152, .f32⟩
  | .hbm, ⟨10, _⟩ => ⟨S8x256x1152, .f32⟩
  | .hbm, ⟨11, _⟩ => ⟨S8x256x1152, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== MlaUqKernel.lean ====
abbrev S4224x512 : Shape := ⟨2, ![4224, 512]⟩
abbrev S512x3072 : Shape := ⟨2, ![512, 3072]⟩
abbrev S512x16x192 : Shape := ⟨3, ![512, 16, 192]⟩
abbrev S512x16x128 : Shape := ⟨3, ![512, 16, 128]⟩
abbrev S512x2048 : Shape := ⟨2, ![512, 2048]⟩
abbrev S512x16x64 : Shape := ⟨3, ![512, 16, 64]⟩
abbrev S512x1024 : Shape := ⟨2, ![512, 1024]⟩
abbrev S4224x3072 : Shape := ⟨2, ![4224, 3072]⟩
abbrev S704x512 : Shape := ⟨2, ![704, 512]⟩
abbrev S704x1024 : Shape := ⟨2, ![704, 1024]⟩

abbrev nBuf : Space → Nat
  | .hbm => 11
  | .vmem => 6
  | .smem => 0
  | _ => 0

abbrev bufTy : (tb : Table) → Fin (tcTables nBuf tb) → BufTy
  | .hbm, ⟨0, _⟩ => ⟨S4224x512, .f32⟩
  | .hbm, ⟨1, _⟩ => ⟨S512x3072, .f32⟩
  | .hbm, ⟨2, _⟩ => ⟨S4224x512, .bf16⟩
  | .hbm, ⟨3, _⟩ => ⟨S512x3072, .bf16⟩
  | .hbm, ⟨4, _⟩ => ⟨S512x16x192, .bf16⟩
  | .hbm, ⟨5, _⟩ => ⟨S512x16x128, .bf16⟩
  | .hbm, ⟨6, _⟩ => ⟨S512x2048, .bf16⟩
  | .hbm, ⟨7, _⟩ => ⟨S512x16x64, .bf16⟩
  | .hbm, ⟨8, _⟩ => ⟨S512x1024, .bf16⟩
  | .hbm, ⟨9, _⟩ => ⟨S512x3072, .bf16⟩
  | .hbm, ⟨10, _⟩ => ⟨S4224x3072, .f32⟩
  | .local _ .vmem, ⟨0, _⟩ => ⟨S704x512, .bf16⟩
  | .local _ .vmem, ⟨1, _⟩ => ⟨S704x512, .bf16⟩
  | .local _ .vmem, ⟨2, _⟩ => ⟨S512x1024, .bf16⟩
  | .local _ .vmem, ⟨3, _⟩ => ⟨S512x1024, .bf16⟩
  | .local _ .vmem, ⟨4, _⟩ => ⟨S704x1024, .f32⟩
  | .local _ .vmem, ⟨5, _⟩ => ⟨S704x1024, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUqReferenceIdeal.lean ====
abbrev S4224x512 : Shape := ⟨2, ![4224, 512]⟩
abbrev S512x3072 : Shape := ⟨2, ![512, 3072]⟩
abbrev S4224x3072 : Shape := ⟨2, ![4224, 3072]⟩
abbrev S4224x16x192 : Shape := ⟨3, ![4224, 16, 192]⟩
abbrev S4224x16x128 : Shape := ⟨3, ![4224, 16, 128]⟩
abbrev S4224x16x64 : Shape := ⟨3, ![4224, 16, 64]⟩
abbrev S4224x2048 : Shape := ⟨2, ![4224, 2048]⟩
abbrev S4224x1024 : Shape := ⟨2, ![4224, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x3072, .f32⟩
  | .hbm, ⟨2, _⟩ => ⟨S4224x3072, .f32⟩
  | .hbm, ⟨3, _⟩ => ⟨S4224x16x192, .f32⟩
  | .hbm, ⟨4, _⟩ => ⟨S4224x16x128, .f32⟩
  | .hbm, ⟨5, _⟩ => ⟨S4224x16x64, .f32⟩
  | .hbm, ⟨6, _⟩ => ⟨S4224x2048, .f32⟩
  | .hbm, ⟨7, _⟩ => ⟨S4224x1024, .f32⟩
  | .hbm, ⟨8, _⟩ => ⟨S4224x3072, .f32⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== MlaUqXKernel.lean ====
abbrev S4224x512 : Shape := ⟨2, ![4224, 512]⟩
abbrev S512x3072 : Shape := ⟨2, ![512, 3072]⟩
abbrev S4224x2048 : Shape := ⟨2, ![4224, 2048]⟩
abbrev S4224x1024 : Shape := ⟨2, ![4224, 1024]⟩
abbrev S4224x3072 : Shape := ⟨2, ![4224, 3072]⟩
abbrev S512x16x192 : Shape := ⟨3, ![512, 16, 192]⟩
abbrev S512x16x128 : Shape := ⟨3, ![512, 16, 128]⟩
abbrev S512x2048 : Shape := ⟨2, ![512, 2048]⟩
abbrev S512x16x64 : Shape := ⟨3, ![512, 16, 64]⟩
abbrev S512x1024 : Shape := ⟨2, ![512, 1024]⟩
abbrev S704x1024 : Shape := ⟨2, ![704, 1024]⟩
abbrev S704x512 : Shape := ⟨2, ![704, 512]⟩

abbrev nBuf : Space → Nat
  | .hbm => 14
  | .vmem => 7
  | .smem => 0
  | _ => 0

abbrev bufTy : (tb : Table) → Fin (tcTables nBuf tb) → BufTy
  | .hbm, ⟨0, _⟩ => ⟨S4224x512, .f32⟩
  | .hbm, ⟨1, _⟩ => ⟨S512x3072, .f32⟩
  | .hbm, ⟨2, _⟩ => ⟨S4224x2048, .f32⟩
  | .hbm, ⟨3, _⟩ => ⟨S4224x1024, .f32⟩
  | .hbm, ⟨4, _⟩ => ⟨S4224x3072, .f32⟩
  | .hbm, ⟨5, _⟩ => ⟨S4224x3072, .bf16⟩
  | .hbm, ⟨6, _⟩ => ⟨S512x3072, .bf16⟩
  | .hbm, ⟨7, _⟩ => ⟨S512x16x192, .bf16⟩
  | .hbm, ⟨8, _⟩ => ⟨S512x16x128, .bf16⟩
  | .hbm, ⟨9, _⟩ => ⟨S512x2048, .bf16⟩
  | .hbm, ⟨10, _⟩ => ⟨S512x16x64, .bf16⟩
  | .hbm, ⟨11, _⟩ => ⟨S512x1024, .bf16⟩
  | .hbm, ⟨12, _⟩ => ⟨S512x3072, .bf16⟩
  | .hbm, ⟨13, _⟩ => ⟨S4224x512, .f32⟩
  | .local _ .vmem, ⟨0, _⟩ => ⟨S704x1024, .bf16⟩
  | .local _ .vmem, ⟨1, _⟩ => ⟨S704x1024, .bf16⟩
  | .local _ .vmem, ⟨2, _⟩ => ⟨S512x1024, .bf16⟩
  | .local _ .vmem, ⟨3, _⟩ => ⟨S512x1024, .bf16⟩
  | .local _ .vmem, ⟨4, _⟩ => ⟨S704x512, .f32⟩
  | .local _ .vmem, ⟨5, _⟩ => ⟨S704x512, .f32⟩
  | .local _ .vmem, ⟨6, _⟩ => ⟨S704x512, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUqXReferenceIdeal.lean ====
abbrev S4224x512 : Shape := ⟨2, ![4224, 512]⟩
abbrev S512x3072 : Shape := ⟨2, ![512, 3072]⟩
abbrev S4224x2048 : Shape := ⟨2, ![4224, 2048]⟩
abbrev S4224x1024 : Shape := ⟨2, ![4224, 1024]⟩
abbrev S4224x3072 : Shape := ⟨2, ![4224, 3072]⟩
abbrev S4224x16x192 : Shape := ⟨3, ![4224, 16, 192]⟩
abbrev S4224x16x128 : Shape := ⟨3, ![4224, 16, 128]⟩
abbrev S4224x16x64 : Shape := ⟨3, ![4224, 16, 64]⟩
abbrev S_ : Shape := ⟨0, ![]⟩
abbrev S3072x512 : Shape := ⟨2, ![3072, 512]⟩

abbrev nBuf : Space → Nat
  | .hbm => 21
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x3072, .f32⟩
  | .hbm, ⟨2, _⟩ => ⟨S4224x2048, .f32⟩
  | .hbm, ⟨3, _⟩ => ⟨S4224x1024, .f32⟩
  | .hbm, ⟨4, _⟩ => ⟨S4224x3072, .f32⟩
  | .hbm, ⟨5, _⟩ => ⟨S4224x16x192, .f32⟩
  | .hbm, ⟨6, _⟩ => ⟨S4224x16x128, .f32⟩
  | .hbm, ⟨7, _⟩ => ⟨S4224x16x64, .f32⟩
  | .hbm, ⟨8, _⟩ => ⟨S4224x2048, .f32⟩
  | .hbm, ⟨9, _⟩ => ⟨S4224x1024, .f32⟩
  | .hbm, ⟨10, _⟩ => ⟨S4224x16x64, .f32⟩
  | .hbm, ⟨11, _⟩ => ⟨S4224x16x128, .f32⟩
  | .hbm, ⟨12, _⟩ => ⟨S_, .f32⟩
  | .hbm, ⟨13, _⟩ => ⟨S4224x16x192, .f32⟩
  | .hbm, ⟨14, _⟩ => ⟨S_, .f32⟩
  | .hbm, ⟨15, _⟩ => ⟨S4224x16x192, .f32⟩
  | .hbm, ⟨16, _⟩ => ⟨S4224x16x192, .f32⟩
  | .hbm, ⟨17, _⟩ => ⟨S4224x3072, .f32⟩
  | .hbm, ⟨18, _⟩ => ⟨S3072x512, .f32⟩
  | .hbm, ⟨19, _⟩ => ⟨S512x3072, .f32⟩
  | .hbm, ⟨20, _⟩ => ⟨S4224x512, .f32⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MlaUqWKernel.lean ====
abbrev S4224x512 : Shape := ⟨2, ![4224, 512]⟩
abbrev S512x3072 : Shape := ⟨2, ![512, 3072]⟩
abbrev S4224x2048 : Shape := ⟨2, ![4224, 2048]⟩
abbrev S4224x1024 : Shape := ⟨2, ![4224, 1024]⟩
abbrev S4224x3072 : Shape := ⟨2, ![4224, 3072]⟩
abbrev S1408x512 : Shape := ⟨2, ![1408, 512]⟩
abbrev S1408x1024 : Shape := ⟨2, ![1408, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4224x512, .f32⟩
  | .hbm, ⟨1, _⟩ => ⟨S512x3072, .f32⟩
  | .hbm, ⟨2, _⟩ => ⟨S4224x2048, .f32⟩
  | .hbm, ⟨3, _⟩ => ⟨S4224x1024, .f32⟩
  | .hbm, ⟨4, _⟩ => ⟨S4224x3072, .f32⟩
  | .hbm, ⟨5, _⟩ => ⟨S4224x3072, .bf16⟩
  | .hbm, ⟨6, _⟩ => ⟨S4224x512, .bf16⟩
  | .hbm, ⟨7, _⟩ => ⟨S512x3072, .f32⟩
  | .local _ .vmem, ⟨0, _⟩ => ⟨S1408x512, .bf16⟩
  | .local _ .vmem, ⟨1, _⟩ => ⟨S1408x512, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUqWReferenceIdeal.lean ====
abbrev S4224x512 : Shape := ⟨2, ![4224, 512]⟩
abbrev S512x3072 : Shape := ⟨2, ![512, 3072]⟩
abbrev S4224x2048 : Shape := ⟨2, ![4224, 2048]⟩
abbrev S4224x1024 : Shape := ⟨2, ![4224, 1024]⟩
abbrev S4224x3072 : Shape := ⟨2, ![4224, 3072]⟩
abbrev S4224x16x192 : Shape := ⟨3, ![4224, 16, 192]⟩
abbrev S4224x16x128 : Shape := ⟨3, ![4224, 16, 128]⟩
abbrev S4224x16x64 : Shape := ⟨3, ![4224, 16, 64]⟩
abbrev S_ : Shape := ⟨0, ![]⟩
abbrev S3072x512 : Shape := ⟨2, ![3072, 512]⟩
abbrev S512x16x192 : Shape := ⟨3, ![512, 16, 192]⟩
abbrev S512x16x128 : Shape := ⟨3, ![512, 16, 128]⟩
abbrev S512x2048 : Shape := ⟨2, ![512, 2048]⟩
abbrev S512x16x64 : Shape := ⟨3, ![512, 16, 64]⟩
abbrev S512x1024 : Shape := ⟨2, ![512, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x3072, .f32⟩
  | .hbm, ⟨2, _⟩ => ⟨S4224x2048, .f32⟩
  | .hbm, ⟨3, _⟩ => ⟨S4224x1024, .f32⟩
  | .hbm, ⟨4, _⟩ => ⟨S4224x3072, .f32⟩
  | .hbm, ⟨5, _⟩ => ⟨S4224x16x192, .f32⟩
  | .hbm, ⟨6, _⟩ => ⟨S4224x16x128, .f32⟩
  | .hbm, ⟨7, _⟩ => ⟨S4224x16x64, .f32⟩
  | .hbm, ⟨8, _⟩ => ⟨S4224x2048, .f32⟩
  | .hbm, ⟨9, _⟩ => ⟨S4224x1024, .f32⟩
  | .hbm, ⟨10, _⟩ => ⟨S4224x16x64, .f32⟩
  | .hbm, ⟨11, _⟩ => ⟨S4224x16x128, .f32⟩
  | .hbm, ⟨12, _⟩ => ⟨S_, .f32⟩
  | .hbm, ⟨13, _⟩ => ⟨S4224x16x192, .f32⟩
  | .hbm, ⟨14, _⟩ => ⟨S_, .f32⟩
  | .hbm, ⟨15, _⟩ => ⟨S4224x16x192, .f32⟩
  | .hbm, ⟨16, _⟩ => ⟨S4224x16x192, .f32⟩
  | .hbm, ⟨17, _⟩ => ⟨S4224x3072, .f32⟩
  | .hbm, ⟨18, _⟩ => ⟨S3072x512, .f32⟩
  | .hbm, ⟨19, _⟩ => ⟨S512x3072, .f32⟩
  | .hbm, ⟨20, _⟩ => ⟨S4224x512, .f32⟩
  | .hbm, ⟨21, _⟩ => ⟨S512x16x192, .f32⟩
  | .hbm, ⟨22, _⟩ => ⟨S512x16x128, .f32⟩
  | .hbm, ⟨23, _⟩ => ⟨S512x2048, .f32⟩
  | .hbm, ⟨24, _⟩ => ⟨S512x16x64, .f32⟩
  | .hbm, ⟨25, _⟩ => ⟨S512x1024, .f32⟩
  | .hbm, ⟨26, _⟩ => ⟨S512x3072, .f32⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.DownAct.lean ====
/- The gradient of the down projection with respect to its left operand: `dact = dout @ w_downᵀ`.

   The kernel's grid has 6 row tiles times 4 chip blocks; each point multiplies one 704-row tile of `dout` by one
   1408-row block of `w_down` and stores the product in the block of the result at that row tile and chip. The
   reference contracts `dout` with `w_down` over the model dimension. Both are the same sum over 2048 lanes. -/
module

public import proofs.«01_k».proof.Proof.Gen.DownActKernelIdeal.Value
public import proofs.«01_k».proof.Proof.Gen.DownActReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownActKernelIdeal.Hand

open Cert.DownActKernelIdeal Cert.DownActKernelIdeal.Gen

variable (m : (ℓ : Loc nD τ sig) → Buf (Elt Ideal) ℓ)

/-- The reference's result as a function of the weight and the incoming gradient. -/
abbrev REF (w : FVec Ideal Cert.DownActReferenceIdeal.S5632x2048 .f32)
    (dout : FVec Ideal Cert.DownActReferenceIdeal.S4224x2048 .f32) :
    FVec Ideal Cert.DownActReferenceIdeal.S4224x5632 .bf16 :=
  truncf .bf16 (Host.dotGeneral Cert.DownActReferenceIdeal.dot_S4224x2048_S5632x2048_S4224x5632_1_1_0_0_n_n none dout w)
    Cert.DownActReferenceIdeal.Gen.bitsLt_bf16_f32

/-- The block of each array that a grid point works on. -/
theorem idx : ∀ t : Fin cfg0.N, win0_0.index t = ![t.val / 4, 0] ∧ win0_1.index t = ![t.val % 4, 0, 0, 0]
    ∧ win0_2.index t = ![t.val / 4, t.val % 4] :=
  (by decide +kernel : ∀ t : Fin grid0.N, _)

/-- What a point stores is the reference at the place of the result that the point's block sits at. -/
theorem point (c : Dev nD) (t : Fin cfg0.N) (y) :
    k0_pay1 (iblk m c 0 t) (iblk m c 1 t) y
      = REF (m ((c : Thread nD τ).loc main_arg1)) (m ((c : Thread nD τ).loc main_arg2))
          (((cfg0.win 2).blk t).view.emb y) := by
  pointwise [k0_pay1, REF]
  blk_point [iblk, V, idx t]

/-- The result array after the run is the reference's. -/
theorem final (c : Dev nD) : (dats m 0 c).arrAt 2 (cfgs 0).N
    = REF (m ((c : Thread nD τ).loc main_arg1)) (m ((c : Thread nD τ).loc main_arg2)) := by
  refine (dats m 0 c).arrAt_eq_of_covers 2 _ (by decide +kernel) fun t hf y => ?_
  blk_simp; rw [after0_2]; frame_out
  exact point m c t y

end Cert.DownActKernelIdeal.Hand

end
-- ==== Proof.DownW.lean ====
/- The gradient of the down projection's weight: `dw = actᵀ @ dout`, laid out by chip and column half.

   The kernel's grid has 4 row blocks of the weight, 2 column halves and 2 halves of the rows summed over. The even
   points keep the first half's product, the odd points add the second half's and store the sum. The reference sums
   over all 4224 rows at once and rearranges the result. -/
module

public import proofs.«01_k».proof.Proof.Gen.DownWKernelIdeal.Value
public import proofs.«01_k».proof.Proof.Gen.DownWReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DownWKernelIdeal.Hand

open Cert.DownWKernelIdeal Cert.DownWKernelIdeal.Gen

variable (m : (ℓ : Loc nD τ sig) → Buf (Elt Ideal) ℓ)

/-- The reference's result as a function of the activations and the incoming gradient. -/
abbrev REF (act : FVec Ideal Cert.DownWReferenceIdeal.S4224x5632 .f32)
    (dout : FVec Ideal Cert.DownWReferenceIdeal.S4224x2048 .f32) :
    FVec Ideal Cert.DownWReferenceIdeal.S8x1408x1024 .bf16 :=
  truncf .bf16 (shapeCast Cert.DownWReferenceIdeal.S8x1408x1024
    (transpose Cert.DownWReferenceIdeal.S4x2x1408x1024 [0, 2, 1, 3]
      (shapeCast Cert.DownWReferenceIdeal.S4x1408x2x1024
        (transpose Cert.DownWReferenceIdeal.S5632x2048 [1, 0]
          (Host.dotGeneral Cert.DownWReferenceIdeal.dot_S4224x2048_S4224x5632_S2048x5632_0_0_1_1_n_n none dout act)
          Cert.DownWReferenceIdeal.Gen.transposes_S2048x5632_S5632x2048_1_0)
        Cert.DownWReferenceIdeal.Gen.shapeCasts_S5632x2048_S4x1408x2x1024)
      Cert.DownWReferenceIdeal.Gen.transposes_S4x1408x2x1024_S4x2x1408x1024_0_2_1_3)
    Cert.DownWReferenceIdeal.Gen.shapeCasts_S4x2x1408x1024_S8x1408x1024) Cert.DownWReferenceIdeal.Gen.bitsLt_bf16_f32

/-- The block of each array that a grid point works on. -/
theorem idx : ∀ t : Fin cfg0.N, win0_0.index t = ![t.val % 2, t.val / 4] ∧ win0_1.index t = ![t.val % 2, t.val / 2 % 2]
    ∧ win0_2.index t = ![t.val / 4 * 2 + t.val / 2 % 2, 0, 0] :=
  (by decide +kernel : ∀ t : Fin grid0.N, _)

/-- The part of a result's entry that one grid point contributes: the sum over its half of the rows. -/
def part (c : Dev nD) (t : Fin cfg0.N) (j : S1408x1024.Idx) : EReal :=
  ∑ x : Fin 2112, (show FVec Ideal S2112x1408 .bf16 from iblk m c 0 t) (ix2 x (j 0))
    * (show FVec Ideal S2112x1024 .bf16 from iblk m c 1 t) (ix2 x (j 1))

/-- An even point starts the kept sum with its part. -/
theorem start (c : Dev nD) (t : Fin cfg0.N) (h : t.val % 2 = 0) (j : S1408x1024.Idx) :
    (outsAt0 m c t.val t.isLt).2 j = 0 + part m c t j := by
  rw [outsAt0_A m c t h (by omega) (by omega)]; frame_out
  pointwise [k0_pay2, k0_pay1, part]

/-- An odd point adds its part to what the point before kept. -/
theorem step (c : Dev nD) (t : Fin cfg0.N) (h : ¬t.val % 2 = 0) (j : S1408x1024.Idx) :
    (outsAt0 m c t.val t.isLt).2 j
      = (outsAt0 m c (t.val - 1) (Nat.lt_of_le_of_lt (Nat.sub_le _ _) t.isLt)).2 j + part m c t j := by
  rw [outsAt0_B m c t h (by omega) (by omega)]; frame_out
  pointwise [k0_pay3, k0_pay1, part]
  rw [read_unread_whole]

/-- After an odd point the kept sum is the sum of both halves. -/
theorem kept (c : Dev nD) (t : Fin cfg0.N) (h : t.val % 2 = 2 - 1) (j : S1408x1024.Idx) :
    (outsAt0 m c t.val t.isLt).2 j
      = ∑ s : Fin 2, part m c ⟨2 * (t.val / 2) + s.val, Pipeline.run_point_lt_of_flush t h s⟩ j :=
  (Pipeline.eq_sum_fin_of_reset_step_apply_of_flush (fun n h => (outsAt0 m c n h).2) 2 (fun _ => (0 : EReal)) (part m c)
    (start m c) (step m c) t h j).trans (zero_add _)

/-- The result array after the run is the reference's. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  have h1 : t.val % 2 = 1 := (flush0_2 t).mp hf
  have h0 : ¬ t.val % 2 = 0 := by omega
  blk_simp; rw [after0_2, outsAt0_B m c t h0 h1 h1]
  frame_out
  pointwise [k0_pay1, k0_pay3, k0_pay4, REF]
  rw [read_unread_whole]
  refine (step m c t h0 (ix2 (y 1) (y 2))).symm.trans ((kept m c t h1 _).trans ?_)
  unfold part
  refine Fin.sum_mul_add_congr fun s k hl => ?_
  rw [mul_comm]
  blk_point [iblk, V, idx t, idx ⟨_, Pipeline.run_point_lt_of_flush t h1 s⟩]

end Cert.DownWKernelIdeal.Hand

end
-- ==== Proof.GuX.lean ====
/- The gradient of the gate and up projections with respect to their input: `dhn = dgu @ w_guᵀ`.

   The kernel's grid has 6 row tiles, 2 column halves of the result and the 4 chip blocks of the weight summed over.
   The first point of a run of four keeps its product, the others add theirs, and the last one stores the sum. The
   reference sums over all 11264 columns at once. -/
module

public import proofs.«01_k».proof.Proof.Gen.GuXKernelIdeal.Value
public import proofs.«01_k».proof.Proof.Gen.GuXReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GuXKernelIdeal.Hand

open Cert.GuXKernelIdeal Cert.GuXKernelIdeal.Gen

variable (m : (ℓ : Loc nD τ sig) → Buf (Elt Ideal) ℓ)

/-- The reference's result as a function of the weight and the incoming gradient. -/
abbrev REF (w : FVec Ideal Cert.GuXReferenceIdeal.S2048x11264 .f32)
    (dgu : FVec Ideal Cert.GuXReferenceIdeal.S4224x11264 .f32) :
    FVec Ideal Cert.GuXReferenceIdeal.S4224x2048 .f32 :=
  Host.dotGeneral Cert.GuXReferenceIdeal.dot_S4224x11264_S2048x11264_S4224x2048_1_1_0_0_n_n none dgu w

/-- The block of each array that a grid point works on. -/
theorem idx : ∀ t : Fin cfg0.N, win0_0.index t = ![t.val / 8, t.val % 4]
    ∧ win0_1.index t = ![t.val % 4, 0, t.val / 4 % 2, 0] ∧ win0_2.index t = ![t.val / 8, t.val / 4 % 2] :=
  (by decide +kernel : ∀ t : Fin grid0.N, _)

/-- The part of a result's entry that one grid point contributes: the sum over its chip's columns. -/
def part (c : Dev nD) (t : Fin cfg0.N) (j : S704x1024.Idx) : EReal :=
  ∑ x : Fin 2816, (show FVec Ideal S704x2816 .bf16 from iblk m c 0 t) (ix2 (j 0) x)
    * (show FVec Ideal S1x1x1024x2816 .bf16 from iblk m c 1 t) (ix4 0 0 (j 1) x)

/-- The first point of a run starts the kept sum with its part. -/
theorem start (c : Dev nD) (t : Fin cfg0.N) (h : t.val % 4 = 0) (j : S704x1024.Idx) :
    (outsAt0 m c t.val t.isLt).2 j = 0 + part m c t j := by
  rw [outsAt0_A m c t h (by omega) (by omega)]; frame_out
  pointwise [k0_pay2, k0_pay1, part]

/-- A later point adds its part to what the point before kept. -/
theorem step (c : Dev nD) (t : Fin cfg0.N) (h : ¬t.val % 4 = 0) (j : S704x1024.Idx) :
    (outsAt0 m c t.val t.isLt).2 j
      = (outsAt0 m c (t.val - 1) (Nat.lt_of_le_of_lt (Nat.sub_le _ _) t.isLt)).2 j + part m c t j := by
  by_cases h3 : t.val % 4 = 3
  · rw [outsAt0_C m c t h (by omega) h3]; frame_out
    pointwise [k0_pay3, k0_pay1, part]
    rw [read_unread_whole]
  · rw [outsAt0_B m c t h (by omega) h3]; frame_out
    pointwise [k0_pay3, k0_pay1, part]
    rw [read_unread_whole]

/-- After the last point of a run the kept sum is the sum of the four chips' parts. -/
theorem kept (c : Dev nD) (t : Fin cfg0.N) (h : t.val % 4 = 4 - 1) (j : S704x1024.Idx) :
    (outsAt0 m c t.val t.isLt).2 j
      = ∑ s : Fin 4, part m c ⟨4 * (t.val / 4) + s.val, Pipeline.run_point_lt_of_flush t h s⟩ j :=
  (Pipeline.eq_sum_fin_of_reset_step_apply_of_flush (fun n h => (outsAt0 m c n h).2) 4 (fun _ => (0 : EReal)) (part m c)
    (start m c) (step m c) t h j).trans (zero_add _)

/-- The result array after the run is the reference's. -/
theorem final (c : Dev nD) : (dats m 0 c).arrAt 2 (cfgs 0).N
    = REF (m ((c : Thread nD τ).loc main_arg1)) (m ((c : Thread nD τ).loc main_arg2)) := by
  refine (dats m 0 c).arrAt_eq_of_covers 2 _ (by decide +kernel) fun t hf y => ?_
  have h3 : t.val % 4 = 3 := (flush0_2 t).mp hf
  have h0 : ¬ t.val % 4 = 0 := by omega
  blk_simp; rw [after0_2, outsAt0_C m c t h0 (by omega) h3]
  frame_out
  pointwise [k0_pay1, k0_pay3, REF]
  rw [read_unread_whole]
  refine (step m c t h0 y).symm.trans ((kept m c t h3 _).trans ?_)
  unfold part
  refine Fin.sum_mul_add_congr fun s k hl => ?_
  blk_point [iblk, V, idx t, idx ⟨_, Pipeline.run_point_lt_of_flush t h3 s⟩]

end Cert.GuXKernelIdeal.Hand

end
-- ==== Proof.GuW.lean ====
/- The gradient of the gate and up projections' weight: `dw = hnᵀ @ dgu`, laid out by chip and row half.

   The kernel's grid has 2 row halves of the weight, 8 blocks of its columns and 2 halves of the rows summed over. The
   even points keep the first half's product, the odd points add the second half's and store the sum. The reference
   sums over all 4224 rows at once and rearranges the result. -/
module

public import proofs.«01_k».proof.Proof.Gen.GuWKernelIdeal.Value
public import proofs.«01_k».proof.Proof.Gen.GuWReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GuWKernelIdeal.Hand

open Cert.GuWKernelIdeal Cert.GuWKernelIdeal.Gen

variable (m : (ℓ : Loc nD τ sig) → Buf (Elt Ideal) ℓ)

/-- The reference's result as a function of the normed activations and the incoming gradient. -/
abbrev REF (hn : FVec Ideal Cert.GuWReferenceIdeal.S4224x2048 .f32)
    (dgu : FVec Ideal Cert.GuWReferenceIdeal.S4224x11264 .f32) :
    FVec Ideal Cert.GuWReferenceIdeal.S8x1024x2816 .bf16 :=
  truncf .bf16 (shapeCast Cert.GuWReferenceIdeal.S8x1024x2816
    (transpose Cert.GuWReferenceIdeal.S4x2x1024x2816 [2, 0, 1, 3]
      (shapeCast Cert.GuWReferenceIdeal.S2x1024x4x2816
        (transpose Cert.GuWReferenceIdeal.S2048x11264 [1, 0]
          (Host.dotGeneral Cert.GuWReferenceIdeal.dot_S4224x11264_S4224x2048_S11264x2048_0_0_1_1_n_n none dgu hn)
          Cert.GuWReferenceIdeal.Gen.transposes_S11264x2048_S2048x11264_1_0)
        Cert.GuWReferenceIdeal.Gen.shapeCasts_S2048x11264_S2x1024x4x2816)
      Cert.GuWReferenceIdeal.Gen.transposes_S2x1024x4x2816_S4x2x1024x2816_2_0_1_3)
    Cert.GuWReferenceIdeal.Gen.shapeCasts_S4x2x1024x2816_S8x1024x2816) Cert.GuWReferenceIdeal.Gen.bitsLt_bf16_f32

/-- The block of each array that a grid point works on. -/
theorem idx : ∀ t : Fin cfg0.N, win0_0.index t = ![t.val % 2, t.val / 16] ∧ win0_1.index t = ![t.val % 2, t.val / 2 % 8]
    ∧ win0_2.index t = ![t.val / 4 % 4 * 2 + t.val / 16, 0, t.val / 2 % 2] :=
  (by decide +kernel : ∀ t : Fin grid0.N, _)

/-- The part of a result's entry that one grid point contributes: the sum over its half of the rows. -/
def part (c : Dev nD) (t : Fin cfg0.N) (j : S1024x1408.Idx) : EReal :=
  ∑ x : Fin 2112, (show FVec Ideal S2112x1024 .bf16 from iblk m c 0 t) (ix2 x (j 0))
    * (show FVec Ideal S2112x1408 .bf16 from iblk m c 1 t) (ix2 x (j 1))

/-- An even point starts the kept sum with its part. -/
theorem start (c : Dev nD) (t : Fin cfg0.N) (h : t.val % 2 = 0) (j : S1024x1408.Idx) :
    (outsAt0 m c t.val t.isLt).2 j = 0 + part m c t j := by
  rw [outsAt0_A m c t h (by omega) (by omega)]; frame_out
  pointwise [k0_pay2, k0_pay1, part]

/-- An odd point adds its part to what the point before kept. -/
theorem step (c : Dev nD) (t : Fin cfg0.N) (h : ¬t.val % 2 = 0) (j : S1024x1408.Idx) :
    (outsAt0 m c t.val t.isLt).2 j
      = (outsAt0 m c (t.val - 1) (Nat.lt_of_le_of_lt (Nat.sub_le _ _) t.isLt)).2 j + part m c t j := by
  rw [outsAt0_B m c t h (by omega) (by omega)]; frame_out
  pointwise [k0_pay3, k0_pay1, part]
  rw [read_unread_whole]

/-- After an odd point the kept sum is the sum of both halves. -/
theorem kept (c : Dev nD) (t : Fin cfg0.N) (h : t.val % 2 = 2 - 1) (j : S1024x1408.Idx) :
    (outsAt0 m c t.val t.isLt).2 j
      = ∑ s : Fin 2, part m c ⟨2 * (t.val / 2) + s.val, Pipeline.run_point_lt_of_flush t h s⟩ j :=
  (Pipeline.eq_sum_fin_of_reset_step_apply_of_flush (fun n h => (outsAt0 m c n h).2) 2 (fun _ => (0 : EReal)) (part m c)
    (start m c) (step m c) t h j).trans (zero_add _)

/-- The result array after the run is the reference's. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  have h1 : t.val % 2 = 1 := (flush0_2 t).mp hf
  have h0 : ¬ t.val % 2 = 0 := by omega
  blk_simp; rw [after0_2, outsAt0_B m c t h0 h1 h1]
  frame_out
  pointwise [k0_pay1, k0_pay3, k0_pay4, REF]
  rw [read_unread_whole]
  refine (step m c t h0 (ix2 (y 1) (y 2))).symm.trans ((kept m c t h1 _).trans ?_)
  unfold part
  refine Fin.sum_mul_add_congr fun s k hl => ?_
  rw [mul_comm]
  blk_point [iblk, V, idx t, idx ⟨_, Pipeline.run_point_lt_of_flush t h1 s⟩]

end Cert.GuWKernelIdeal.Hand

end
-- ==== Proof.Swiglu.lean ====
/- The gradient of the gate `silu(g) * u` with respect to both halves of its input.

   Each of the 33 grid points works on 128 rows: from the blocks of `g`, `u` and the incoming gradient `d` it stores
   `(d u) (σ (1 + g (1 - σ)))` into the left half of the block of the result and `d (g σ)` into the right half, with
   `σ = 1 / (1 + exp (-g))`. The reference has `(d u) σ + (g (d u)) (σ (1 - σ))` and `(g σ) d`. The right halves agree
   for all extended reals; the left halves agree for every `g`, the infinities included, once `d` and `u` are real. -/
module

public import proofs.«01_k».proof.Proof.Gen.SwigluKernelIdeal.Value
public import proofs.«01_k».proof.Proof.Gen.SwigluReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SwigluReferenceIdeal.Hand

open Cert.SwigluReferenceIdeal Cert.SwigluReferenceIdeal.Gen

/-- The logistic function of the gate half, as the reference's host operations compute it. -/
abbrev REFsig (gu : FVec Ideal S4224x11264 .f32) : FVec Ideal S4224x5632 .f32 :=
  Host.divf (broadcastInDim S4224x5632 ![] bcast_S_S4224x5632 (constant S_ .f32 0x3F800000#32))
    (addf (broadcastInDim S4224x5632 ![] bcast_S_S4224x5632 (constant S_ .f32 0x3F800000#32))
      (Host.exp (Host.negf (extractStridedSlice S4224x5632 ![0, 0] gu slices_S4224x11264_S4224x5632_0_0))))

/-- The reference's gradient with respect to the gate half. -/
abbrev REFg (gu : FVec Ideal S4224x11264 .f32) (d : FVec Ideal S4224x5632 .f32) : FVec Ideal S4224x5632 .f32 :=
  addf
    (mulf (mulf d (extractStridedSlice S4224x5632 ![0, 5632] gu slices_S4224x11264_S4224x5632_0_5632)) (REFsig gu))
    (mulf
      (mulf (extractStridedSlice S4224x5632 ![0, 0] gu slices_S4224x11264_S4224x5632_0_0)
        (mulf d (extractStridedSlice S4224x5632 ![0, 5632] gu slices_S4224x11264_S4224x5632_0_5632)))
      (mulf (REFsig gu)
        (subf (broadcastInDim S4224x5632 ![] bcast_S_S4224x5632 (constant S_ .f32 0x3F800000#32)) (REFsig gu))))

/-- The reference's gradient with respect to the up half. -/
abbrev REFu (gu : FVec Ideal S4224x11264 .f32) (d : FVec Ideal S4224x5632 .f32) : FVec Ideal S4224x5632 .f32 :=
  mulf (mulf (extractStridedSlice S4224x5632 ![0, 0] gu slices_S4224x11264_S4224x5632_0_0) (REFsig gu)) d

/-- The reference's result: both gradients side by side. -/
abbrev REF (gu : FVec Ideal S4224x11264 .f32) (d : FVec Ideal S4224x5632 .f32) : FVec Ideal S4224x11264 .bf16 :=
  truncf .bf16 (concatenate S4224x11264 1 [⟨S4224x5632, REFg gu d⟩, ⟨S4224x5632, REFu gu d⟩]
    concatenates_S4224x5632_S4224x5632_S4224x11264_d1) bitsLt_bf16_f32

end Cert.SwigluReferenceIdeal.Hand

namespace Cert.SwigluKernelIdeal.Hand

open Cert.SwigluKernelIdeal Cert.SwigluKernelIdeal.Gen
open Cert.SwigluReferenceIdeal.Hand (REF REFg REFu REFsig)

variable (m : (ℓ : Loc nD τ sig) → Buf (Elt Ideal) ℓ)

/-- The logistic function as both programs write it. -/
def logi (g : EReal) : EReal := Ideal.div 1 (1 + Ideal.exp (-g))

theorem logi_top : logi ⊤ = 1 := by
  have h : ((1 : ℝ) : EReal) = 1 := rfl
  rw [logi, EReal.neg_top, Ideal.exp_bot, add_zero, ← h, Ideal.div_coe one_ne_zero]
  norm_num

theorem logi_bot : logi ⊥ = 0 := by
  have h : (1 : EReal) + ⊤ = ⊤ := by rfl
  rw [logi, EReal.neg_bot, Ideal.exp_top, h, Ideal.div, if_neg (by simp), EReal.inv_top, mul_zero]

theorem logi_coe (g : ℝ) : logi (g : EReal) = ((1 / (1 + Real.exp (-g)) : ℝ) : EReal) := by
  have h : (1 : EReal) + ((Real.exp (-g) : ℝ) : EReal) = ((1 + Real.exp (-g) : ℝ) : EReal) := by push_cast; rfl
  rw [logi, ← EReal.coe_neg, Ideal.exp_coe, h, Ideal.div_coe (by positivity), one_mul]

/-- The two forms of the gradient with respect to `g` agree when the factor `d u` is real. -/
theorem left_eq (g : EReal) (d u : ℝ) :
    ((d : EReal) * u) * (logi g * (1 + g * (1 - logi g)))
      = ((d : EReal) * u) * logi g + (g * ((d : EReal) * u)) * (logi g * (1 - logi g)) := by
  induction g with
  | bot => rw [logi_bot]; simp
  | top =>
    have h : (1 : EReal) - 1 = 0 := EReal.sub_self_le_zero.antisymm (by rw [show (1 : EReal) = ((1 : ℝ) : EReal) from rfl, ← EReal.coe_sub]; simp)
    rw [logi_top, h]; simp
  | coe g =>
    rw [logi_coe]
    have h1 : (1 : EReal) = ((1 : ℝ) : EReal) := rfl
    rw [h1]
    norm_cast
    ring

/-- The block of each array that a grid point works on. -/
theorem idx : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)

/-- What a point stores is the reference at the place of the result that the point's block sits at. -/
theorem point (c : Dev nD)
    (hu : ∀ i : S4224x11264.Idx, 5632 ≤ (i 1 : ℕ) → ∃ r : ℝ, m ((c : Thread nD τ).loc main_arg0) i = (r : EReal))
    (hd : ∀ i : S4224x5632.Idx, ∃ r : ℝ, m ((c : Thread nD τ).loc main_arg1) i = (r : EReal)) (t : Fin cfg0.N) (y) :
    out0_3 (iblk m c 0 t) (iblk m c 1 t) (iblk m c 2 t) y
      = REF (m ((c : Thread nD τ).loc main_arg0)) (m ((c : Thread nD τ).loc main_arg1))
          (((cfg0.win 3).blk t).view.emb y) := by
  canon_tiles x h
  all_goals (open_payloads; pointwise [REF, REFg, REFu, REFsig]; blk_simp [idx t])
  rotate_left
  · have hy : (y 1 : ℕ) < 5632 := by omega
    rw [dif_pos hy]
    have hg : iblk m c 0 t x = m ((c : Thread nD τ).loc main_arg0) (((cfg0.win 3).blk t).view.emb y) := by
      blk_point [iblk, V, idx t]
    have hu' : iblk m c 1 t x = m ((c : Thread nD τ).loc main_arg0)
        (ix2 (((cfg0.win 3).blk t).view.emb y 0) ⟨5632 + (y 1 : ℕ), by omega⟩) := by
      blk_point [iblk, V, idx t]
    have hd' : iblk m c 2 t x = m ((c : Thread nD τ).loc main_arg1)
        (ix2 (((cfg0.win 3).blk t).view.emb y 0) ⟨(y 1 : ℕ), hy⟩) := by
      blk_point [iblk, V, idx t]
    obtain ⟨u, hur⟩ := hu (ix2 (((cfg0.win 3).blk t).view.emb y 0) ⟨5632 + (y 1 : ℕ), by omega⟩) (by simp [ix2])
    obtain ⟨d, hdr⟩ := hd (ix2 (((cfg0.win 3).blk t).view.emb y 0) ⟨(y 1 : ℕ), hy⟩)
    rw [hg, hu', hd', hur, hdr, zero_sub]
    exact left_eq _ d u
  · have hy : ¬ (y 1 : ℕ) < 5632 := by omega
    rw [dif_neg hy]
    have hg : iblk m c 0 t x = m ((c : Thread nD τ).loc main_arg0)
        (ix2 (((cfg0.win 3).blk t).view.emb y 0) ⟨(y 1 : ℕ) - 5632, by omega⟩) := by
      blk_point [iblk, V, idx t]
    have hd' : iblk m c 2 t x = m ((c : Thread nD τ).loc main_arg1)
        (ix2 (((cfg0.win 3).blk t).view.emb y 0) ⟨(y 1 : ℕ) - 5632, by omega⟩) := by
      blk_point [iblk, V, idx t]
    rw [hg, hd', zero_sub]
    exact mul_comm _ _

/-- The result array after the run is the reference's, when the up half and the incoming gradient are real. -/
theorem final (c : Dev nD)
    (hu : ∀ i : S4224x11264.Idx, 5632 ≤ (i 1 : ℕ) → ∃ r : ℝ, m ((c : Thread nD τ).loc main_arg0) i = (r : EReal))
    (hd : ∀ i : S4224x5632.Idx, ∃ r : ℝ, m ((c : Thread nD τ).loc main_arg1) i = (r : EReal)) :
    (dats m 0 c).arrAt 3 (cfgs 0).N
      = REF (m ((c : Thread nD τ).loc main_arg0)) (m ((c : Thread nD τ).loc main_arg1)) := by
  refine (dats m 0 c).arrAt_eq_of_covers 3 _ (by decide +kernel) fun t hf y => ?_
  blk_simp; rw [after0_3]
  exact point m c hu hd t y

end Cert.SwigluKernelIdeal.Hand

end
-- ==== Proof.SwigluClaim.lean ====
/- The claim on SwiGLU's gradient: its precondition makes the up half and the incoming gradient real. -/
module

public import proofs.«01_k».proof.Defs
public import proofs.«01_k».proof.Proof.Swiglu
public import proofs.«01_k».proof.Proof.Gen.Pre_swiglu_finite
public import proofs.«01_k».proof.Proof.Gen.SwigluReferenceIdeal.Run
public import Idealize.ShloMosaic.Lib.Claim

@[expose] public section

set_option maxRecDepth 16384

noncomputable section

namespace Cert.Proof

open Idealize.ShloMosaic Idealize.ShloMosaic.TcCoe Idealize.SL.Sem

/-- A value whose absolute value is below infinity is real. -/
theorem real_of_abs (x : EReal)
    (h : BitVec.ofBool (decide (max x (-x) < Ideal.ofBits FTy.f32 0x7F800000#32)) = 1#1) : ∃ r : ℝ, x = (r : EReal) := by
  have htop : Ideal.ofBits .f32 0x7F800000#32 = ⊤ := by simp [Ideal.ofBits, Ideal.ieee]
  rw [htop] at h
  induction x with
  | bot => simp at h
  | top => simp at h
  | coe r => exact ⟨r, rfl⟩

/-- The precondition makes the up half real. -/
theorem pre_up (a0 : Cert.Pre_swiglu_finite.S4224x11264.Idx → EReal) (a1 : Cert.Pre_swiglu_finite.S4224x5632.Idx → EReal)
    (h : (Cert.Pre_swiglu_finite.fn (F := Ideal) a0 a1).1 = fun _ => 1#1) (i : Cert.Pre_swiglu_finite.S4224x11264.Idx)
    (hi : 5632 ≤ (i 1 : ℕ)) : ∃ r : ℝ, a0 i = (r : EReal) := by
  have h1 : (i 1 : ℕ) < 11264 := (i 1).isLt
  have e : (Cert.Pre_swiglu_finite.fn (F := Ideal) a0 a1).1 (ix2 (i 0) ⟨(i 1 : ℕ) - 5632, by omega⟩)
      = BitVec.ofBool (decide (max (a0 (ix2 (i 0) ⟨5632 + ((i 1 : ℕ) - 5632), by omega⟩))
        (-(a0 (ix2 (i 0) ⟨5632 + ((i 1 : ℕ) - 5632), by omega⟩))) < Ideal.ofBits FTy.f32 0x7F800000#32)) := by
    pointwise [Cert.Pre_swiglu_finite.fn]
    try rfl
  have e2 : (ix2 (i 0) ⟨5632 + ((i 1 : ℕ) - 5632), by omega⟩ : Cert.Pre_swiglu_finite.S4224x11264.Idx) = i := by
    funext a
    refine Fin.cases rfl (fun b => Fin.cases (Fin.ext ?_) (fun d => d.elim0) b) a
    show 5632 + ((i 1 : ℕ) - 5632) = (i 1 : ℕ)
    omega
  rw [h, e2] at e
  exact real_of_abs _ e.symm

/-- The precondition makes the incoming gradient real. -/
theorem pre_d (a0 : Cert.Pre_swiglu_finite.S4224x11264.Idx → EReal) (a1 : Cert.Pre_swiglu_finite.S4224x5632.Idx → EReal)
    (h : (Cert.Pre_swiglu_finite.fn (F := Ideal) a0 a1).2 = fun _ => 1#1) (i : Cert.Pre_swiglu_finite.S4224x5632.Idx) :
    ∃ r : ℝ, a1 i = (r : EReal) := by
  have e : (Cert.Pre_swiglu_finite.fn (F := Ideal) a0 a1).2 i
      = BitVec.ofBool (decide (max (a1 i) (-(a1 i)) < Ideal.ofBits FTy.f32 0x7F800000#32)) := by
    pointwise [Cert.Pre_swiglu_finite.fn]
    try rfl
  rw [h] at e
  exact real_of_abs _ e.symm

/-- The call's result is the reference's for every gate half, the infinities included, when the up half and the
    incoming gradient are finite. -/
theorem algebraic_SwigluKernelIdeal_SwigluReferenceIdeal_pre_swiglu_finite :
    Cert.algebraic_SwigluKernelIdeal_SwigluReferenceIdeal_pre_swiglu_finite := by
  pair_intro
  · run_from Cert.SwigluKernelIdeal.Gen.run_main m g
  · hlo_run
    exact (Cert.SwigluKernelIdeal.Hand.final m c (fun i hi => pre_up _ _ (hpre c).1 i hi)
      (fun i => pre_d _ _ (hpre c).2 i)).symm

end Cert.Proof

end
-- ==== Proof.ConvBase.lean ====
/- The convolution's backward call: the reference's results, and what one grid point reads, with the rows beside its tile. -/
module

public import proofs.«01_k».proof.Proof.Gen.ConvKernelIdeal.Value
public import proofs.«01_k».proof.Proof.Gen.ConvReferenceIdeal
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.ConvReferenceIdeal.Hand

open Cert.ConvReferenceIdeal Cert.ConvReferenceIdeal.Gen

/-- The gradient with respect to the input: the incoming gradient times the taps, shifted back. -/
abbrev REFx (a1 : FVec Ideal S4x2048 .f32) (a3 : FVec Ideal S4224x2048 .f32) : FVec Ideal S4224x2048 .bf16 :=
  truncf .bf16 (extractStridedSlice S4224x2048 ![3, 0] (addf (addf (addf (pad S4227x2048 ![3, 0] ![0, 0] ![0, 0]
    (mulf (shapeCast _ a3 shapeCasts_S4224x2048_S4224x2048) (broadcastInDim S4224x2048 ![0, 1]
    bcast_S1x2048_S4224x2048_0_1 (broadcastInDim S1x2048 ![1] bcast_S2048_S1x2048_1 (shapeCast _
    (extractStridedSlice S1x2048 ![3, 0] a1 slices_S4x2048_S1x2048_3_0) shapeCasts_S1x2048_S2048)))) (constant
    S_ .f32 0x00000000#32) pads_S4224x2048_S4227x2048_300_000 h_S_) (pad S4227x2048 ![2, 0] ![1, 0] ![0, 0]
    (mulf (shapeCast _ a3 shapeCasts_S4224x2048_S4224x2048) (broadcastInDim S4224x2048 ![0, 1]
    bcast_S1x2048_S4224x2048_0_1 (broadcastInDim S1x2048 ![1] bcast_S2048_S1x2048_1 (shapeCast _
    (extractStridedSlice S1x2048 ![2, 0] a1 slices_S4x2048_S1x2048_2_0) shapeCasts_S1x2048_S2048)))) (constant
    S_ .f32 0x00000000#32) pads_S4224x2048_S4227x2048_210_000 h_S_)) (pad S4227x2048 ![1, 0] ![2, 0] ![0, 0]
    (mulf (shapeCast _ a3 shapeCasts_S4224x2048_S4224x2048) (broadcastInDim S4224x2048 ![0, 1]
    bcast_S1x2048_S4224x2048_0_1 (broadcastInDim S1x2048 ![1] bcast_S2048_S1x2048_1 (shapeCast _
    (extractStridedSlice S1x2048 ![1, 0] a1 slices_S4x2048_S1x2048_1_0) shapeCasts_S1x2048_S2048)))) (constant
    S_ .f32 0x00000000#32) pads_S4224x2048_S4227x2048_120_000 h_S_)) (pad S4227x2048 ![0, 0] ![3, 0] ![0, 0]
    (mulf (shapeCast _ a3 shapeCasts_S4224x2048_S4224x2048) (broadcastInDim S4224x2048 ![0, 1]
    bcast_S1x2048_S4224x2048_0_1 (broadcastInDim S1x2048 ![1] bcast_S2048_S1x2048_1 (shapeCast _
    (extractStridedSlice S1x2048 ![0, 0] a1 slices_S4x2048_S1x2048_0_0) shapeCasts_S1x2048_S2048)))) (constant
    S_ .f32 0x00000000#32) pads_S4224x2048_S4227x2048_030_000 h_S_)) slices_S4227x2048_S4224x2048_3_0)
    bitsLt_bf16_f32

/-- The gradient with respect to the four taps. -/
abbrev REFw (a0 : FVec Ideal S4224x4096 .f32) (a3 : FVec Ideal S4224x2048 .f32) : FVec Ideal S4x1x2048 .f32 :=
  shapeCast _ (addf (addf (addf (pad S4x2048 ![3, 0] ![0, 0] ![0, 0] (broadcastInDim S1x2048 ![1]
    bcast_S2048_S1x2048_1 (Host.reduceAdd (shapeCast _ (Host.reduceAdd (mulf (extractStridedSlice S4224x2048
    ![3, 0] (concatenate S4227x2048 0 [⟨S3x2048, (broadcastInDim S3x2048 ![] bcast_S_S3x2048 (constant S_ .f32
    0x00000000#32))⟩, ⟨S4224x2048, (extractStridedSlice S4224x2048 ![0, 0] a0
    slices_S4224x4096_S4224x2048_0_0)⟩] concatenates_S3x2048_S4224x2048_S4227x2048_d0)
    slices_S4227x2048_S4224x2048_3_0) (shapeCast _ a3 shapeCasts_S4224x2048_S4224x2048)) (constant S_ .f32
    0x00000000#32) reducesTo_S4224x2048_S2048_d0 h_S_) shapeCasts_S2048_S1x2048) (constant S_ .f32
    0x00000000#32) reducesTo_S1x2048_S2048_d0 h_S_)) (constant S_ .f32 0x00000000#32)
    pads_S1x2048_S4x2048_300_000 h_S_) (pad S4x2048 ![2, 0] ![1, 0] ![0, 0] (broadcastInDim S1x2048 ![1]
    bcast_S2048_S1x2048_1 (Host.reduceAdd (shapeCast _ (Host.reduceAdd (mulf (extractStridedSlice S4224x2048
    ![2, 0] (concatenate S4227x2048 0 [⟨S3x2048, (broadcastInDim S3x2048 ![] bcast_S_S3x2048 (constant S_ .f32
    0x00000000#32))⟩, ⟨S4224x2048, (extractStridedSlice S4224x2048 ![0, 0] a0
    slices_S4224x4096_S4224x2048_0_0)⟩] concatenates_S3x2048_S4224x2048_S4227x2048_d0)
    slices_S4227x2048_S4224x2048_2_0) (shapeCast _ a3 shapeCasts_S4224x2048_S4224x2048)) (constant S_ .f32
    0x00000000#32) reducesTo_S4224x2048_S2048_d0 h_S_) shapeCasts_S2048_S1x2048) (constant S_ .f32
    0x00000000#32) reducesTo_S1x2048_S2048_d0 h_S_)) (constant S_ .f32 0x00000000#32)
    pads_S1x2048_S4x2048_210_000 h_S_)) (pad S4x2048 ![1, 0] ![2, 0] ![0, 0] (broadcastInDim S1x2048 ![1]
    bcast_S2048_S1x2048_1 (Host.reduceAdd (shapeCast _ (Host.reduceAdd (mulf (extractStridedSlice S4224x2048
    ![1, 0] (concatenate S4227x2048 0 [⟨S3x2048, (broadcastInDim S3x2048 ![] bcast_S_S3x2048 (constant S_ .f32
    0x00000000#32))⟩, ⟨S4224x2048, (extractStridedSlice S4224x2048 ![0, 0] a0
    slices_S4224x4096_S4224x2048_0_0)⟩] concatenates_S3x2048_S4224x2048_S4227x2048_d0)
    slices_S4227x2048_S4224x2048_1_0) (shapeCast _ a3 shapeCasts_S4224x2048_S4224x2048)) (constant S_ .f32
    0x00000000#32) reducesTo_S4224x2048_S2048_d0 h_S_) shapeCasts_S2048_S1x2048) (constant S_ .f32
    0x00000000#32) reducesTo_S1x2048_S2048_d0 h_S_)) (constant S_ .f32 0x00000000#32)
    pads_S1x2048_S4x2048_120_000 h_S_)) (pad S4x2048 ![0, 0] ![3, 0] ![0, 0] (broadcastInDim S1x2048 ![1]
    bcast_S2048_S1x2048_1 (Host.reduceAdd (shapeCast _ (Host.reduceAdd (mulf (extractStridedSlice S4224x2048
    ![0, 0] (concatenate S4227x2048 0 [⟨S3x2048, (broadcastInDim S3x2048 ![] bcast_S_S3x2048 (constant S_ .f32
    0x00000000#32))⟩, ⟨S4224x2048, (extractStridedSlice S4224x2048 ![0, 0] a0
    slices_S4224x4096_S4224x2048_0_0)⟩] concatenates_S3x2048_S4224x2048_S4227x2048_d0)
    slices_S4227x2048_S4224x2048_0_0) (shapeCast _ a3 shapeCasts_S4224x2048_S4224x2048)) (constant S_ .f32
    0x00000000#32) reducesTo_S4224x2048_S2048_d0 h_S_) shapeCasts_S2048_S1x2048) (constant S_ .f32
    0x00000000#32) reducesTo_S1x2048_S2048_d0 h_S_)) (constant S_ .f32 0x00000000#32)
    pads_S1x2048_S4x2048_030_000 h_S_)) shapeCasts_S4x2048_S4x1x2048

/-- The gradient with respect to the bias. -/
abbrev REFb (a3 : FVec Ideal S4224x2048 .f32) : FVec Ideal S1x2048 .f32 :=
  shapeCast _ (Host.reduceAdd (shapeCast _ (Host.reduceAdd a3 (constant S_ .f32 0x00000000#32)
    reducesTo_S4224x2048_S2048_d0 h_S_) shapeCasts_S2048_S1x2048) (constant S_ .f32 0x00000000#32)
    reducesTo_S1x2048_S2048_d0 h_S_) shapeCasts_S2048_S1x2048

end Cert.ConvReferenceIdeal.Hand

namespace Cert.ConvKernelIdeal.Hand

open Cert.ConvKernelIdeal Cert.ConvKernelIdeal.Gen
open Cert.ConvReferenceIdeal.Hand (REFx REFw REFb)

variable (m : (ℓ : Loc nD τ sig) → Buf (Elt Ideal) ℓ)

/-- The block of each array that a grid point works on: the row tile is `t % 3`, the column block `t / 3`. -/
theorem idx : ∀ t : Fin cfg0.N, win0_0.index t = ![t.val % 3, t.val / 3]
    ∧ win0_2.index t = ![t.val % 3, t.val / 3]
    ∧ win0_4.index t = ![0, t.val / 3]
    ∧ win0_5.index t = ![t.val % 3, t.val / 3]
    ∧ win0_6.index t = ![0, 0, t.val / 3]
    ∧ win0_7.index t = ![0, t.val / 3] :=
  (by decide +kernel : ∀ t : Fin grid0.N, _)

/-- The eight rows after the tile, clamped at the array's end, and the eight rows before it, clamped at its start. -/
theorem idx_halo : ∀ t : Fin cfg0.N, win0_1.index t = ![min (t.val % 3 * 176 + 176) 527, t.val / 3]
    ∧ win0_3.index t = ![t.val % 3 * 176 - 1, t.val / 3] ∧ (grid0.coords t 1).val = t.val % 3 :=
  (by decide +kernel : ∀ t : Fin grid0.N, _)

/-- A buffer of `a + b` rows, its first `a` rows stored and then the other `b`, read at one index. -/
theorem read_two {sg : RefSig} {κ : Kind} {sp : Space} {Val : EltTy → Type} {e : EltTy} {N C a b : ℕ}
    (v : View sg κ sp (⟨2, ![N, C]⟩ : Shape) e) (f : v.ty.Contents Val) (hN : N = a + b)
    (inb1 : ∀ i : Fin 2, (![a, 0] : Fin 2 → ℕ) i + (![b, C] : Fin 2 → ℕ) i ≤ (![N, C] : Fin 2 → ℕ) i)
    (inb0 : ∀ i : Fin 2, (![0, 0] : Fin 2 → ℕ) i + (![a, C] : Fin 2 → ℕ) i ≤ (![N, C] : Fin 2 → ℕ) i)
    (A : (⟨2, ![b, C]⟩ : Shape).Idx → Val e) (B : (⟨2, ![a, C]⟩ : Shape).Idx → Val e) (r : Fin N) (j : Fin C) :
    v.read Val (v.writes Val f [⟨Rect.unit (s := ⟨2, ![N, C]⟩) ![a, 0] ![b, C] inb1, A⟩,
        ⟨Rect.unit (s := ⟨2, ![N, C]⟩) ![0, 0] ![a, C] inb0, B⟩]) (ix2 r j)
      = if h : (r : ℕ) < a then B (ix2 ⟨(r : ℕ), h⟩ j)
        else A (ix2 ⟨(r : ℕ) - a, by have := r.isLt; omega⟩ j) := by
  split_ifs with h
  · refine (View.read_writes_cons_rows_of_not_mem v f (o := a) (W := b) inb1 A _ _ rfl rfl (Or.inl h)).trans ?_
    exact View.read_writes_cons_rows_of_mem v f (o := 0) inb0 B [] _ (ix2 ⟨(r : ℕ), h⟩ j) rfl (Nat.zero_add _).symm rfl
  · refine View.read_writes_cons_rows_of_mem v f (o := a) inb1 A _ _ (ix2 ⟨(r : ℕ) - a, by have := r.isLt; omega⟩ j) rfl ?_ rfl
    show (r : ℕ) = a + ((r : ℕ) - a)
    omega

/-- The same buffer loaded at rows `k`, `k + 1`, …. -/
theorem load_two {sg : RefSig} {κ : Kind} {sp : Space} {Val : EltTy → Type} [∀ e, Nonempty (Val e)] {e : EltTy} {N C a b k n : ℕ}
    (v : View sg κ sp (⟨2, ![N, C]⟩ : Shape) e) (hN : N = a + b) (hk : k + n ≤ N)
    (inb1 : ∀ i : Fin 2, (![a, 0] : Fin 2 → ℕ) i + (![b, C] : Fin 2 → ℕ) i ≤ (![N, C] : Fin 2 → ℕ) i)
    (inb0 : ∀ i : Fin 2, (![0, 0] : Fin 2 → ℕ) i + (![a, C] : Fin 2 → ℕ) i ≤ (![N, C] : Fin 2 → ℕ) i)
    (inb : ∀ i : Fin 2, (![k, 0] : Fin 2 → ℕ) i + (![n, C] : Fin 2 → ℕ) i ≤ (![N, C] : Fin 2 → ℕ) i)
    (A : (⟨2, ![b, C]⟩ : Shape).Idx → Val e) (B : (⟨2, ![a, C]⟩ : Shape).Idx → Val e) (p : Fin n) (j : Fin C) :
    v.readCov [⟨Rect.unit (s := ⟨2, ![N, C]⟩) ![a, 0] ![b, C] inb1, A⟩,
        ⟨Rect.unit (s := ⟨2, ![N, C]⟩) ![0, 0] ![a, C] inb0, B⟩]
        (Rect.unit (s := ⟨2, ![N, C]⟩) ![k, 0] ![n, C] inb).toLoadRect (ix2 p j : (⟨2, ![n, C]⟩ : Shape).Idx)
      = if h : k + (p : ℕ) < a then B (ix2 ⟨k + (p : ℕ), h⟩ j)
        else A (ix2 ⟨k + (p : ℕ) - a, by have := p.isLt; omega⟩ j) := by
  have e : (Rect.unit (s := ⟨2, ![N, C]⟩) ![k, 0] ![n, C] inb).toLoadRect.idx (ix2 p j : (⟨2, ![n, C]⟩ : Shape).Idx)
      = (ix2 ⟨k + (p : ℕ), by have := p.isLt; omega⟩ j : (⟨2, ![N, C]⟩ : Shape).Idx) := by
    funext x
    refine Fin.cases (Fin.ext ?_) (fun y => Fin.cases (Fin.ext ?_) (fun d => d.elim0) y) x
    · show k + 1 * (p : ℕ) = k + (p : ℕ)
      omega
    · show 0 + 1 * (j : ℕ) = (j : ℕ)
      omega
  refine (congrArg _ e).trans ?_
  exact read_two v _ hN inb1 inb0 A B _ j

/-- The incoming gradient continued by zero rows past its end. -/
def dpad (a3 : S4224x2048.Idx → EReal) (r : ℕ) (j : Fin 2048) : EReal := if h : r < 4224 then a3 (ix2 ⟨r, h⟩ j) else 0

/-- The reference's input gradient, element by element. -/
theorem REFx_apply (a1 : S4x2048.Idx → EReal) (a3 : S4224x2048.Idx → EReal) (r : Fin 4224) (j : Fin 2048) :
    REFx a1 a3 (ix2 r j) = dpad a3 r j * a1 (ix2 3 j) + dpad a3 (r + 1) j * a1 (ix2 2 j)
      + dpad a3 (r + 2) j * a1 (ix2 1 j) + dpad a3 (r + 3) j * a1 (ix2 0 j) := by
  pointwise [REFx]
  have h0 : dpad a3 r j = a3 (ix2 r j) := by rw [dpad, dif_pos r.isLt]
  have h1 : dpad a3 (r + 1) j * a1 (ix2 2 j)
      = if h : 2 ≤ 3 + (r : ℕ) ∧ 3 + (r : ℕ) - 2 < 4224 then a3 (ix2 ⟨3 + (r : ℕ) - 2, h.2⟩ j) * a1 (ix2 2 j) else 0 := by
    rw [dpad]
    split_ifs with h g g
    · congr 4; first | omega | (simp; omega)
    · omega
    · omega
    · exact zero_mul _
  have h2 : dpad a3 (r + 2) j * a1 (ix2 1 j)
      = if h : 1 ≤ 3 + (r : ℕ) ∧ 3 + (r : ℕ) - 1 < 4224 then a3 (ix2 ⟨3 + (r : ℕ) - 1, h.2⟩ j) * a1 (ix2 1 j) else 0 := by
    rw [dpad]
    split_ifs with h g g
    · congr 4; first | omega | (simp; omega)
    · omega
    · omega
    · exact zero_mul _
  have h3 : dpad a3 (r + 3) j * a1 (ix2 0 j)
      = if h : 3 + (r : ℕ) < 4224 then a3 (ix2 ⟨3 + (r : ℕ), h⟩ j) * a1 (ix2 0 j) else 0 := by
    rw [dpad]
    split_ifs with h g g
    · congr 4; first | omega | (simp; omega)
    · omega
    · omega
    · exact zero_mul _
  rw [h0, h1, h2, h3]

/-- The column of the array that lane `q` of point `t` works on. -/
def col (t : Fin cfg0.N) (q : Fin 128) : Fin 2048 :=
  ⟨t.val / 3 * 128 + q, by have : t.val < 48 := t.isLt; omega⟩

/-- A tile's block of the incoming gradient. -/
theorem blk_d (c : Dev nD) (t : Fin cfg0.N) (p : Fin 1408) (q : Fin 128) :
    iblk m c 0 t (ix2 p q)
      = m ((c : Thread nD τ).loc main_arg3) (ix2 ⟨t.val % 3 * 1408 + p, by omega⟩ (col t q)) := by
  blk_point [iblk, V, idx t, col]

/-- The rows that follow a tile: the next tile's first eight, or zeros after the last. -/
theorem blk_dnext (c : Dev nD) (t : Fin cfg0.N) (p : Fin 8) (q : Fin 128) :
    k0_pay11 (grid0.coords t) (iblk m c 1 t) (ix2 p q)
      = dpad (m ((c : Thread nD τ).loc main_arg3)) (t.val % 3 * 1408 + 1408 + p) (col t q) := by
  obtain ⟨e1, e3, e⟩ := idx_halo t
  pointwise [k0_pay11]
  rw [e, dpad]
  have sel0 : ∀ u v : EReal, Scalar.select 0#1 u v = v := fun u v => rfl
  have sel1 : ∀ u v : EReal, Scalar.select 1#1 u v = u := fun u v => rfl
  rcases (by omega : t.val % 3 = 0 ∨ t.val % 3 = 1 ∨ t.val % 3 = 2) with h | h | h
  · rw [h, show Scalar.cmpi CmpIPredicate.eq (BitVec.ofNat 32 0) 2#32 = 0#1 from rfl, sel0, dif_pos (by omega)]
    blk_point [iblk, V, e1, col]
  · rw [h, show Scalar.cmpi CmpIPredicate.eq (BitVec.ofNat 32 1) 2#32 = 0#1 from rfl, sel0, dif_pos (by omega)]
    blk_point [iblk, V, e1, col]
  · rw [h, show Scalar.cmpi CmpIPredicate.eq (BitVec.ofNat 32 2) 2#32 = 1#1 from rfl, sel1, dif_neg (by omega)]

/-- The input continued by three zero rows before its start; row `r` is the input's row `r - 3`. -/
def xpad (a0 : S4224x4096.Idx → EReal) (r : ℕ) (j : Fin 2048) : EReal :=
  if h : 3 ≤ r ∧ r - 3 < 4224 then a0 (ix2 ⟨r - 3, h.2⟩ ⟨j, by have := j.isLt; omega⟩) else 0

/-- A tile's block of the input. -/
theorem blk_x (c : Dev nD) (t : Fin cfg0.N) (p : Fin 1408) (q : Fin 128) :
    k0_pay13 (iblk m c 2 t) (ix2 p q)
      = xpad (m ((c : Thread nD τ).loc main_arg0)) (t.val % 3 * 1408 + p + 3) (col t q) := by
  pointwise [k0_pay13]
  rw [xpad, dif_pos (by omega)]
  blk_point [iblk, V, idx t, col]

/-- The eight rows before a tile: the previous tile's last eight, or zeros before the first. -/
theorem blk_xprev (c : Dev nD) (t : Fin cfg0.N) (p : Fin 8) (q : Fin 128) :
    k0_pay12 (grid0.coords t) (iblk m c 3 t) (ix2 p q)
      = xpad (m ((c : Thread nD τ).loc main_arg0)) (t.val % 3 * 1408 + p - 5) (col t q) := by
  obtain ⟨e1, e3, e⟩ := idx_halo t
  have sel0 : ∀ u v : EReal, Scalar.select 0#1 u v = v := fun u v => rfl
  have sel1 : ∀ u v : EReal, Scalar.select 1#1 u v = u := fun u v => rfl
  pointwise [k0_pay12]
  rw [e, xpad]
  rcases (by omega : t.val % 3 = 0 ∨ t.val % 3 = 1 ∨ t.val % 3 = 2) with h | h | h
  · rw [h, show Scalar.cmpi CmpIPredicate.eq (BitVec.ofNat 32 0) 0#32 = 1#1 from rfl, sel1, dif_neg (by omega)]
  · rw [h, show Scalar.cmpi CmpIPredicate.eq (BitVec.ofNat 32 1) 0#32 = 0#1 from rfl, sel0, dif_pos (by omega)]
    blk_point [iblk, V, e3, col]
  · rw [h, show Scalar.cmpi CmpIPredicate.eq (BitVec.ofNat 32 2) 0#32 = 0#1 from rfl, sel0, dif_pos (by omega)]
    blk_point [iblk, V, e3, col]

/-- The buffer of gradient rows read `k` rows further on: the gradient's rows from the tile's row `k`. -/
theorem ds_val (c : Dev nD) (t : Fin cfg0.N) {k : ℕ} (hk : k ≤ 8)
    (inb : ∀ i : Fin 2, (![k, 0] : Fin 2 → ℕ) i + (![1408, 128] : Fin 2 → ℕ) i ≤ S1416x128.size i)
    (p : Fin 1408) (q : Fin 128) :
    (View.whole cc0_scratch0).readCov (Val := Elt Ideal)
        [⟨Rect.unit (s := S1416x128) ![1408, 0] ![8, 128] inb_S1416x128_S8x128_1408_0, k0_pay11 (grid0.coords t) (iblk m c 1 t)⟩,
          ⟨Rect.unit (s := S1416x128) ![0, 0] ![1408, 128] inb_S1416x128_S1408x128_0_0, k0_pay10 (iblk m c 0 t)⟩]
        (Rect.unit (s := S1416x128) ![k, 0] ![1408, 128] inb).toLoadRect (ix2 p q)
      = dpad (m ((c : Thread nD τ).loc main_arg3)) (t.val % 3 * 1408 + p + k) (col t q) := by
  refine (load_two (Val := Elt Ideal) (a := 1408) (b := 8) (View.whole cc0_scratch0) rfl (by omega) _ _ inb _ _ p q).trans ?_
  split_ifs with h
  · pointwise [k0_pay10]
    rw [blk_d m c t, dpad, dif_pos (by omega)]
    congr 2; apply Fin.ext; simp only; omega
  · rw [blk_dnext m c t]
    congr 1; simp only; omega

/-- The buffer of input rows read from row `k`, `5 ≤ k ≤ 8`. -/
theorem xs_val (c : Dev nD) (t : Fin cfg0.N) {k : ℕ} (hk : 5 ≤ k ∧ k ≤ 8)
    (inb : ∀ i : Fin 2, (![k, 0] : Fin 2 → ℕ) i + (![1408, 128] : Fin 2 → ℕ) i ≤ S1416x128.size i)
    (p : Fin 1408) (q : Fin 128) :
    (View.whole cc0_scratch1).readCov (Val := Elt Ideal)
        [⟨Rect.unit (s := S1416x128) ![8, 0] ![1408, 128] inb_S1416x128_S1408x128_8_0, k0_pay13 (iblk m c 2 t)⟩,
          ⟨Rect.unit (s := S1416x128) ![0, 0] ![8, 128] inb_S1416x128_S8x128_0_0, k0_pay12 (grid0.coords t) (iblk m c 3 t)⟩]
        (Rect.unit (s := S1416x128) ![k, 0] ![1408, 128] inb).toLoadRect (ix2 p q)
      = xpad (m ((c : Thread nD τ).loc main_arg0)) (t.val % 3 * 1408 + p + (k - 5)) (col t q) := by
  refine (load_two (Val := Elt Ideal) (a := 8) (b := 1408) (View.whole cc0_scratch1) rfl (by omega) _ _ inb _ _ p q).trans ?_
  split_ifs with h
  · rw [blk_xprev m c t]
    congr 1; simp only; omega
  · rw [blk_x m c t]
    congr 1; simp only; omega

/-- One row of taps as the block of a point holds it. -/
theorem tap (c : Dev nD) (t : Fin cfg0.N) {k : ℕ} (hk : k < 4)
    (inb : ∀ i : Fin 2, (![k, 0] : Fin 2 → ℕ) i + (![1, 128] : Fin 2 → ℕ) i ≤ S4x128.size i) (q : Fin 128) :
    View.ld (iblk m c 4 t) (Rect.unit (s := S4x128) ![k, 0] ![1, 128] inb) (ix2 0 q)
      = m ((c : Thread nD τ).loc main_arg1) (ix2 ⟨k, hk⟩ (col t q)) := by
  blk_point [iblk, V, idx t, col]

end Cert.ConvKernelIdeal.Hand

end
-- ==== Proof.ConvX.lean ====
/- The convolution's backward call: the input's gradient. -/
module

public import proofs.«01_k».proof.Proof.ConvBase

@[expose] public section

set_option maxRecDepth 16384

noncomputable section

open Idealize.ShloMosaic Idealize.ShloMosaic.TcCoe Idealize.SL.Sem
open Idealize.ShloMosaic.Pipeline (Dat)
open scoped BigOperators

namespace Cert.ConvKernelIdeal.Hand

open Cert.ConvKernelIdeal Cert.ConvKernelIdeal.Gen
open Cert.ConvReferenceIdeal.Hand (REFx REFw REFb)

variable (m : (ℓ : Loc nD τ sig) → Buf (Elt Ideal) ℓ)

/-- What one point computes of the input's gradient: four taps times the rows that follow. -/
theorem pay_x (u0 u1 u2 u3 : Vec Ideal S1x128 .f32) (v0 v1 v2 v3 : Vec Ideal S1408x128 .f32) (p : Fin 1408) (q : Fin 128) :
    k0_pay15 (k0_pay14 u0 v0) u1 v1 u2 v2 u3 v3 (ix2 p q)
      = u0 (ix2 0 q) * v0 (ix2 p q) + u1 (ix2 0 q) * v1 (ix2 p q) + u2 (ix2 0 q) * v2 (ix2 p q)
        + u3 (ix2 0 q) * v3 (ix2 p q) := by
  pointwise [k0_pay15, k0_pay14]

/-- The four terms in the reference's order. -/
theorem four_terms (A B C D a b c d : EReal) : a * A + b * B + c * C + d * D = D * d + C * c + B * b + A * a := by
  rw [mul_comm a, mul_comm b, mul_comm c, mul_comm d]
  abel

/-- The first point of a column block gives the reference's entries. -/
theorem point_5_A (c : Dev nD) (t : Fin cfg0.N) (h0 : t.val % 3 = 0) (h1 : ¬ 1 ≤ t.val % 3) (y) :
    (out0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      scM0_1 (Memref.isWhole_whole _) ((hcond0_0 t).mpr h0) (fun h => h1 ((hcond0_1 t).mp h)) (iblk m c 0 t) (iblk m c 1
      t) (iblk m c 2 t) (iblk m c 3 t) (iblk m c 4 t)) y
      = REFx (m ((c : Thread nD τ).loc main_arg1)) (m ((c : Thread nD τ).loc main_arg3)) (((cfg0.win 5).blk t).view.emb y) := by
  obtain ⟨p, q, rfl⟩ : ∃ (p : Fin 1408) (q : Fin 128), y = ix2 p q := ⟨y 0, y 1, by funext i; fin_cases i <;> rfl⟩
  have e : ((cfg0.win 5).blk t).view.emb (ix2 p q) = ix2 ⟨t.val % 3 * 1408 + p, by omega⟩ (col t q) := by
    blk_ext [idx t, col]
  rw [e, REFx_apply]
  frame_out
  rw [pay_x, tap m c t (k := 0) (by omega), tap m c t (k := 1) (by omega), tap m c t (k := 2) (by omega),
    tap m c t (k := 3) (by omega), ds_val m c t (k := 3) (by omega), ds_val m c t (k := 2) (by omega),
    ds_val m c t (k := 1) (by omega), ds_val m c t (k := 0) (by omega)]
  exact four_terms _ _ _ _ _ _ _ _

/-- A later point of a column block gives the reference's entries. -/
theorem point_5_B (c : Dev nD) (t : Fin cfg0.N) (h0 : ¬t.val % 3 = 0) (h1 : 1 ≤ t.val % 3) (y) :
    (out0_B_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      scM0_1 (Memref.isWhole_whole _) (fun h => h0 ((hcond0_0 t).mp h)) ((hcond0_1 t).mpr h1) (iblk m c 0 t) (iblk m c 1
      t) (iblk m c 2 t) (iblk m c 3 t) (iblk m c 4 t) (outsAt0 m c (t.val - 1) (Nat.lt_of_le_of_lt (Nat.sub_le _ _)
      t.isLt)).2.1 (outsAt0 m c (t.val - 1) (Nat.lt_of_le_of_lt (Nat.sub_le _ _) t.isLt)).2.2) y
      = REFx (m ((c : Thread nD τ).loc main_arg1)) (m ((c : Thread nD τ).loc main_arg3)) (((cfg0.win 5).blk t).view.emb y) := by
  obtain ⟨p, q, rfl⟩ : ∃ (p : Fin 1408) (q : Fin 128), y = ix2 p q := ⟨y 0, y 1, by funext i; fin_cases i <;> rfl⟩
  have e : ((cfg0.win 5).blk t).view.emb (ix2 p q) = ix2 ⟨t.val % 3 * 1408 + p, by omega⟩ (col t q) := by
    blk_ext [idx t, col]
  rw [e, REFx_apply]
  frame_out
  rw [pay_x, tap m c t (k := 0) (by omega), tap m c t (k := 1) (by omega), tap m c t (k := 2) (by omega),
    tap m c t (k := 3) (by omega), ds_val m c t (k := 3) (by omega), ds_val m c t (k := 2) (by omega),
    ds_val m c t (k := 1) (by omega), ds_val m c t (k := 0) (by omega)]
  exact four_terms _ _ _ _ _ _ _ _

/-- The call's first result: the input's gradient. -/
theorem final_5 (c : Dev nD) : (dats m 0 c).arrAt 5 (cfgs 0).N
    = REFx (m ((c : Thread nD τ).loc main_arg1)) (m ((c : Thread nD τ).loc main_arg3)) := by
  refine (dats m 0 c).arrAt_eq_of_covers 5 _ (by decide +kernel) fun t hf y => ?_
  blk_simp
  rw [after0_5]
  by_cases h : t.val % 3 = 0
  · rw [outsAt0_A m c t h (by omega)]
    dsimp only
    exact point_5_A m c t h (by omega) y
  · rw [outsAt0_B m c t h (by omega)]
    dsimp only
    exact point_5_B m c t h (by omega) y

end Cert.ConvKernelIdeal.Hand

end
-- ==== Proof.ConvW.lean ====
/- The convolution's backward call: the gradients of the taps and of the bias, summed over three points. -/
module

public import proofs.«01_k».proof.Proof.ConvBase

@[expose] public section

set_option maxRecDepth 16384

noncomputable section

open Idealize.ShloMosaic Idealize.ShloMosaic.TcCoe Idealize.SL.Sem
open Idealize.ShloMosaic.Pipeline (Dat)
open scoped BigOperators

namespace Cert.ConvKernelIdeal.Hand

open Cert.ConvKernelIdeal Cert.ConvKernelIdeal.Gen
open Cert.ConvReferenceIdeal.Hand (REFx REFw REFb)

variable (m : (ℓ : Loc nD τ sig) → Buf (Elt Ideal) ℓ)

/-- The reference's bias gradient, element by element: a column's sum. -/
theorem REFb_apply (a3 : S4224x2048.Idx → EReal) (z : Fin 1) (j : Fin 2048) :
    REFb a3 (ix2 z j) = ∑ r : Fin 4224, a3 (ix2 r j) := by
  pointwise [REFb]
  exact Fintype.sum_unique _

/-- A sum over 4224 rows whose first three terms are given apart. -/
theorem sum_three (f : Fin 4224 → EReal) :
    ∑ x : Fin 3, f ⟨x, by omega⟩ + ∑ x : Fin 4221, f ⟨3 + x, by omega⟩ = ∑ r, f r :=
  (Fin.sum_univ_add (a := 3) (b := 4221) f).symm

/-- The reference's tap gradients, element by element: the gradient's rows against the shifted input's. -/
theorem REFw_apply (a0 : S4224x4096.Idx → EReal) (a3 : S4224x2048.Idx → EReal) (k : Fin 4) (z : Fin 1) (j : Fin 2048) :
    REFw a0 a3 (ix3 k z j) = ∑ r : Fin 4224, a3 (ix2 r j) * xpad a0 (r + k) j := by
  pointwise [REFw]
  obtain ⟨k, hk⟩ := k
  rcases (by omega : k = 0 ∨ k = 1 ∨ k = 2 ∨ k = 3) with rfl | rfl | rfl | rfl
  · rw [dif_neg (by simp), dif_neg (by simp), dif_neg (by simp), dif_pos (by simp), zero_add, zero_add, zero_add]
    refine (Fintype.sum_unique _).trans ?_
    rw [← sum_three]
    congr 1
    · refine Finset.sum_congr rfl fun x _ => ?_
      rw [xpad, dif_neg (by simp), mul_zero, zero_mul]
    · refine Finset.sum_congr rfl fun x _ => ?_
      rw [xpad, dif_pos (by simp; omega), mul_comm]
      congr 3
      apply Fin.ext
      show (x : ℕ) = 3 + (x : ℕ) + 0 - 3
      omega
  · rw [dif_neg (by simp), dif_neg (by simp), dif_pos (by simp), dif_neg (by simp), zero_add, zero_add, add_zero]
    refine (Fintype.sum_unique _).trans (Finset.sum_congr rfl fun x _ => ?_)
    rw [xpad, mul_comm]
    by_cases h : 1 + (x : ℕ) < 3
    · rw [dif_pos h, dif_neg (by simp; omega)]
    · rw [dif_neg h, dif_pos (by simp; omega)]
      congr 3; apply Fin.ext; simp; omega
  · rw [dif_neg (by simp), dif_pos (by simp), dif_neg (by simp), dif_neg (by simp), zero_add, add_zero, add_zero]
    refine (Fintype.sum_unique _).trans (Finset.sum_congr rfl fun x _ => ?_)
    rw [xpad, mul_comm]
    by_cases h : 2 + (x : ℕ) < 3
    · rw [dif_pos h, dif_neg (by simp; omega)]
    · rw [dif_neg h, dif_pos (by simp; omega)]
      congr 3; apply Fin.ext; simp; omega
  · rw [dif_pos (by simp), dif_neg (by simp), dif_neg (by simp), dif_neg (by simp), add_zero, add_zero, add_zero]
    refine (Fintype.sum_unique _).trans (Finset.sum_congr rfl fun x _ => ?_)
    rw [xpad, dif_pos (by simp), mul_comm]
    rfl

/-- What one point adds to the gradient of tap `k`: its rows of the gradient against the shifted input's. -/
def part6 (a0 : S4224x4096.Idx → EReal) (a3 : S4224x2048.Idx → EReal) (t : Fin cfg0.N) (k : ℕ) (q : Fin 128) : EReal :=
  ∑ p : Fin 1408, a3 (ix2 ⟨t.val % 3 * 1408 + p, by omega⟩ (col t q)) * xpad a0 (t.val % 3 * 1408 + p + k) (col t q)

/-- What one point adds to the bias gradient. -/
def part7 (a3 : S4224x2048.Idx → EReal) (t : Fin cfg0.N) (q : Fin 128) : EReal :=
  ∑ p : Fin 1408, a3 (ix2 ⟨t.val % 3 * 1408 + p, by omega⟩ (col t q))

/-- One row of a point's tap gradients, from the blocks it reads. -/
theorem row6 (c : Dev nD) (t : Fin cfg0.N) (k : ℕ) (hk : 5 ≤ k ∧ k ≤ 8) (q : Fin 128)
    (inb : ∀ i : Fin 2, (![k, 0] : Fin 2 → ℕ) i + (![1408, 128] : Fin 2 → ℕ) i ≤ S1416x128.size i) :
    ∑ p : Fin 1408, (show FVec Ideal S1408x128 .f32 from iblk m c 0 t) (ix2 p q)
      * (View.whole cc0_scratch1).readCov (Val := Elt Ideal)
        [⟨Rect.unit (s := S1416x128) ![8, 0] ![1408, 128] inb_S1416x128_S1408x128_8_0, k0_pay13 (iblk m c 2 t)⟩,
          ⟨Rect.unit (s := S1416x128) ![0, 0] ![8, 128] inb_S1416x128_S8x128_0_0, k0_pay12 (grid0.coords t) (iblk m c 3 t)⟩]
        (Rect.unit (s := S1416x128) ![k, 0] ![1408, 128] inb).toLoadRect (ix2 p q)
      = part6 (m ((c : Thread nD τ).loc main_arg0)) (m ((c : Thread nD τ).loc main_arg3)) t (k - 5) q := by
  unfold part6
  refine Finset.sum_congr rfl fun p _ => ?_
  exact congrArg₂ (· * ·) (blk_d m c t p q) (xs_val m c t hk inb p q)

/-- The first point of a column block starts the tap gradients with its part. -/
theorem start_6 (c : Dev nD) (t : Fin cfg0.N) (h : t.val % 3 = 0) (y : S4x1x128.Idx) :
    (outsAt0 m c t.val t.isLt).2.1 y = 0 + part6 (m ((c : Thread nD τ).loc main_arg0)) (m ((c : Thread nD τ).loc main_arg3)) t (y 0).val (y 2) := by
  rw [outsAt0_A m c t h (by omega), zero_add]
  dsimp only
  frame_out
  canon_tiles x g
  all_goals (pointwise [k0_pay1, k0_pay2, k0_pay3, k0_pay4, k0_pay17, k0_pay18, k0_pay19, k0_pay20])
  all_goals
    refine (row6 m c t _ (by omega) _ _).trans (congrArg₂ (part6 _ _ t) ?_ ?_)
    · omega
    · exact Fin.ext (by omega)

/-- A later point adds its part to what the point before left. -/
theorem step_6 (c : Dev nD) (t : Fin cfg0.N) (h : ¬ t.val % 3 = 0) (y : S4x1x128.Idx) :
    (outsAt0 m c t.val t.isLt).2.1 y
      = (outsAt0 m c (t.val - 1) (Nat.lt_of_le_of_lt (Nat.sub_le _ _) t.isLt)).2.1 y
        + part6 (m ((c : Thread nD τ).loc main_arg0)) (m ((c : Thread nD τ).loc main_arg3)) t (y 0).val (y 2) := by
  rw [outsAt0_B m c t h (by omega)]
  dsimp only
  generalize (outsAt0 m c (t.val - 1) (Nat.lt_of_le_of_lt (Nat.sub_le _ _) t.isLt)).2.1 = a
  frame_out
  canon_tiles x g
  all_goals (pointwise [k0_pay6, k0_pay7, k0_pay8, k0_pay9, k0_pay17, k0_pay18, k0_pay19, k0_pay20])
  all_goals
    refine congrArg₂ (· + ·) (congrArg a ?_) ((row6 m c t _ (by omega) _ _).trans (congrArg₂ (part6 _ _ t) ?_ ?_))
    · have y1 : ((y 1 : Fin 1) : ℕ) = 0 := by omega
      funext i
      fin_cases i
      · refine Fin.ext (Eq.trans ?_ g0.symm)
        simp
      · exact Fin.ext y1.symm
      · exact Fin.ext g2.symm
    · omega
    · exact Fin.ext (by omega)

/-- The first point of a column block starts the bias gradient with its part. -/
theorem start_7 (c : Dev nD) (t : Fin cfg0.N) (h : t.val % 3 = 0) (y : S1x128.Idx) :
    (outsAt0 m c t.val t.isLt).2.2 y = 0 + part7 (m ((c : Thread nD τ).loc main_arg3)) t (y 1) := by
  rw [outsAt0_A m c t h (by omega), zero_add]
  frame_out
  pointwise [k0_pay16, part7]
  exact Finset.sum_congr rfl fun p _ => blk_d m c t p _

/-- A later point adds its part. -/
theorem step_7 (c : Dev nD) (t : Fin cfg0.N) (h : ¬ t.val % 3 = 0) (y : S1x128.Idx) :
    (outsAt0 m c t.val t.isLt).2.2 y
      = (outsAt0 m c (t.val - 1) (Nat.lt_of_le_of_lt (Nat.sub_le _ _) t.isLt)).2.2 y + part7 (m ((c : Thread nD τ).loc main_arg3)) t (y 1) := by
  rw [outsAt0_B m c t h (by omega)]
  frame_out
  pointwise [k0_pay16, k0_pay5, part7]
  congr 1
  exact Finset.sum_congr rfl fun p _ => blk_d m c t p _

/-- The column of a run's points is the last one's. -/
theorem col_run (t : Fin cfg0.N) (s : Fin 3) (hs : 3 * (t.val / 3) + s.val < cfg0.N) (q : Fin 128) :
    col ⟨3 * (t.val / 3) + s.val, hs⟩ q = col t q := by
  refine Fin.ext ?_
  show (3 * (t.val / 3) + s.val) / 3 * 128 + q.val = t.val / 3 * 128 + q.val
  omega

/-- The call's second result: the tap gradients. -/
theorem final_6 (c : Dev nD) : (dats m 0 c).arrAt 6 (cfgs 0).N
    = REFw (m ((c : Thread nD τ).loc main_arg0)) (m ((c : Thread nD τ).loc main_arg3)) := by
  refine (dats m 0 c).arrAt_eq_of_covers 6 _ (by decide +kernel) fun t hf y => ?_
  have h2 := (flush0_6 t).mp hf
  obtain ⟨a, z, q, rfl⟩ : ∃ (a : Fin 4) (z : Fin 1) (q : Fin 128), y = ix3 a z q :=
    ⟨y 0, y 1, y 2, by funext i; fin_cases i <;> rfl⟩
  have e : ((cfg0.win 6).blk t).view.emb (ix3 a z q) = ix3 a 0 (col t q) := by
    blk_ext [idx t, col]
  blk_simp
  rw [after0_6, e, REFw_apply]
  refine (Pipeline.eq_sum_fin_of_reset_step_apply_of_flush (fun n h => (outsAt0 m c n h).2.1) 3 (fun _ => (0 : EReal))
    (fun t (y : S4x1x128.Idx) => part6 (m ((c : Thread nD τ).loc main_arg0)) (m ((c : Thread nD τ).loc main_arg3)) t (y 0).val (y 2))
    (start_6 m c) (step_6 m c) t h2 (ix3 a z q)).trans ((zero_add _).trans ?_)
  unfold part6
  refine Fin.sum_mul_add_congr fun s k hl => ?_
  have e2 : (3 * (t.val / 3) + s.val) % 3 = s.val := by omega
  have e3 : (3 * (t.val / 3) + s.val) % 3 * 1408 + k.val = s.val * 1408 + k.val := by rw [e2]
  refine congrArg₂ (· * ·) (congrArg₂ (fun i j => m ((c : Thread nD τ).loc main_arg3) (ix2 i j)) (Fin.ext e3) (col_run t s _ q))
    (congrArg₂ (xpad _) (congrArg (· + a.val) e3) (col_run t s _ q))

/-- The call's third result: the bias gradient. -/
theorem final_7 (c : Dev nD) : (dats m 0 c).arrAt 7 (cfgs 0).N = REFb (m ((c : Thread nD τ).loc main_arg3)) := by
  refine (dats m 0 c).arrAt_eq_of_covers 7 _ (by decide +kernel) fun t hf y => ?_
  have h2 := (flush0_7 t).mp hf
  obtain ⟨z, q, rfl⟩ : ∃ (z : Fin 1) (q : Fin 128), y = ix2 z q := ⟨y 0, y 1, by funext i; fin_cases i <;> rfl⟩
  have e : ((cfg0.win 7).blk t).view.emb (ix2 z q) = ix2 0 (col t q) := by
    blk_ext [idx t, col]
  blk_simp
  rw [after0_7, e, REFb_apply]
  refine (Pipeline.eq_sum_fin_of_reset_step_apply_of_flush (fun n h => (outsAt0 m c n h).2.2) 3 (fun _ => (0 : EReal))
    (fun t (y : S1x128.Idx) => part7 (m ((c : Thread nD τ).loc main_arg3)) t (y 1))
    (start_7 m c) (step_7 m c) t h2 (ix2 z q)).trans ((zero_add _).trans ?_)
  unfold part7
  refine Fin.sum_mul_add_congr fun s k hl => ?_
  have e2 : (3 * (t.val / 3) + s.val) % 3 = s.val := by omega
  have e3 : (3 * (t.val / 3) + s.val) % 3 * 1408 + k.val = s.val * 1408 + k.val := by rw [e2]
  exact congrArg₂ (fun i j => m ((c : Thread nD τ).loc main_arg3) (ix2 i j)) (Fin.ext e3) (col_run t s _ q)

end Cert.ConvKernelIdeal.Hand

end
-- ==== Proof.ConvClaim.lean ====
/- The convolution's backward call against the gradient of the reference: its three results. -/
module

public import proofs.«01_k».proof.Defs
public import proofs.«01_k».proof.Proof.ConvX
public import proofs.«01_k».proof.Proof.ConvW
public import proofs.«01_k».proof.Proof.Gen.ConvReferenceIdeal.Run
public import Idealize.ShloMosaic.Lib.Claim

@[expose] public section

set_option maxRecDepth 16384

noncomputable section

namespace Cert.Proof

open Idealize.ShloMosaic Idealize.SL.Sem

set_option maxHeartbeats 1600000 in
/-- The call's three results are the reference's, entry by entry over the extended reals. -/
theorem algebraic_ConvKernelIdeal_ConvReferenceIdeal : Cert.algebraic_ConvKernelIdeal_ConvReferenceIdeal := by
  pair_intro
  · run_from Cert.ConvKernelIdeal.Gen.run_main m g
  · hlo_run
    · exact (Cert.ConvKernelIdeal.Hand.final_5 m c).symm
    · exact (Cert.ConvKernelIdeal.Hand.final_6 m c).symm
    · exact (Cert.ConvKernelIdeal.Hand.final_7 m c).symm

end Cert.Proof

end
-- ==== Proof.NormMath.lean ====
/- The gradient of the root-mean-square norm, over the extended reals.

   With `u = mean x² + ε` the kernel computes `r (d - x r mean(d x r))` with `r = u^(-1/2)`; the reference adds
   `d r` and twice `x ((Σ x d) (-1/2) (r / u) / 2048)`. The mean square is never negative, so `u` is either `⊤`, and then
   `r = 0` and both are zero, or a positive real, and then `r` and `r / u` are positive reals, which multiply and
   distribute over extended reals as usual. No entry has to be finite. -/
module

public import Idealize.ShloMosaic.Lib.Pipeline.ValueKit

@[expose] public section

noncomputable section

open Idealize.ShloMosaic

namespace Cert.Norm

/-- A real factor leaves a sum of extended reals when it is not negative. -/
theorem sum_mul_coe {n : ℕ} (f : Fin n → EReal) (r : ℝ) (hr : 0 ≤ r) :
    ∑ i, f i * (r : EReal) = (∑ i, f i) * (r : EReal) := by
  have h : ∀ s : Finset (Fin n), ∑ i ∈ s, f i * (r : EReal) = (∑ i ∈ s, f i) * (r : EReal) := by
    intro s
    induction s using Finset.induction_on with
    | empty => simp
    | insert a s ha ih =>
      rw [Finset.sum_insert ha, Finset.sum_insert ha, ih,
        EReal.right_distrib_of_nonneg_of_ne_top (by exact_mod_cast hr) (EReal.coe_ne_top r)]
  exact h _

/-- Twice the same extended real times a real is the extended real times twice the real. -/
theorem add_self_mul (w : EReal) (c : ℝ) : w * (c : EReal) + w * (c : EReal) = w * ((c + c : ℝ) : EReal) := by
  induction w with
  | coe w => rw [← EReal.coe_mul, ← EReal.coe_mul, ← EReal.coe_add]; congr 1; ring
  | top =>
    rcases lt_trichotomy c 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy c 0 with h | rfl | h
    · rw [EReal.bot_mul_coe_of_neg h, EReal.bot_mul_coe_of_neg (by linarith)]; rfl
    · simp
    · rw [EReal.bot_mul_coe_of_pos h, EReal.bot_mul_coe_of_pos (by linarith)]; rfl

/-- The mean square plus a positive real is `⊤` or a positive real. -/
theorem mean_sq {n : ℕ} (x : Fin n → EReal) (e : ℝ) (he : 0 < e) :
    Ideal.div (∑ i, x i * x i) ((2048 : ℝ) : EReal) + (e : EReal) = ⊤
      ∨ ∃ v : ℝ, 0 < v ∧ Ideal.div (∑ i, x i * x i) ((2048 : ℝ) : EReal) + (e : EReal) = (v : EReal) := by
  have h0 : 0 ≤ ∑ i, x i * x i := Finset.sum_nonneg fun i _ => by
    rcases le_total 0 (x i) with h | h
    · exact mul_nonneg h h
    · have h' := EReal.neg_nonneg.mpr h
      simpa using mul_nonneg h' h'
  rw [Ideal.div_coe (by norm_num)]
  generalize ∑ i, x i * x i = s at *
  induction s with
  | coe s =>
    right
    refine ⟨s * (1 / 2048) + e, ?_, by push_cast; rfl⟩
    have : 0 ≤ s := by exact_mod_cast h0
    positivity
  | top => left; rw [EReal.top_mul_coe_of_pos (by norm_num)]; rfl
  | bot => exact absurd h0 (by simp)

/-- The two forms of the gradient agree. -/
theorem grad_eq {n : ℕ} (u res : EReal) (hu : u = ⊤ ∨ ∃ v : ℝ, 0 < v ∧ u = (v : EReal)) (x d : Fin n → EReal) (k : Fin n) :
    Ideal.rsqrt u * (d k - x k * Ideal.rsqrt u
        * Ideal.div (∑ i, d i * (x i * Ideal.rsqrt u)) ((2048 : ℝ) : EReal)) + res
      = res + d k * Ideal.rsqrt u
        + x k * Ideal.div ((∑ i, x i * d i) * (((-1 / 2 : ℝ) : EReal) * Ideal.div (Ideal.rsqrt u) u)) ((2048 : ℝ) : EReal)
        + Ideal.div ((∑ i, x i * d i) * (((-1 / 2 : ℝ) : EReal) * Ideal.div (Ideal.rsqrt u) u)) ((2048 : ℝ) : EReal) * x k := by
  have hk : ((2048 : ℝ)) ≠ 0 := by norm_num
  rcases hu with rfl | ⟨v, hv, rfl⟩
  · have h : Ideal.div 0 (⊤ : EReal) = 0 := by rw [Ideal.div, if_neg (by simp), zero_mul]
    simp [Ideal.rsqrt_top, h, Ideal.div_coe hk]
  · have hr : Ideal.rsqrt (v : EReal) = (((Real.sqrt v)⁻¹ : ℝ) : EReal) := by
      rw [Ideal.rsqrt_coe, if_neg (by linarith), if_neg (by linarith)]
    have hs : 0 < (Real.sqrt v)⁻¹ := inv_pos.mpr (Real.sqrt_pos.mpr hv)
    have hq : (Real.sqrt v)⁻¹ * (1 / v) = (Real.sqrt v)⁻¹ * (Real.sqrt v)⁻¹ * (Real.sqrt v)⁻¹ := by
      rw [mul_assoc, ← mul_inv, Real.mul_self_sqrt hv.le, one_div]
    rw [hr, Ideal.div_coe hv.ne', ← EReal.coe_mul, ← EReal.coe_mul, hq]
    generalize (Real.sqrt v)⁻¹ = r at *
    have e1 : ∑ i, d i * (x i * (r : EReal)) = (∑ i, x i * d i) * (r : EReal) := by
      rw [← sum_mul_coe _ r hs.le]
      exact Finset.sum_congr rfl fun i _ => by rw [← mul_assoc, mul_comm (d i)]
    rw [e1, Ideal.div_coe hk, Ideal.div_coe hk]
    generalize (∑ i, x i * d i) = S
    have e2 : (r : EReal) * (d k - x k * r * (S * r * ((1 / 2048 : ℝ) : EReal)))
        = d k * r + (x k * S) * ((-(r * r * r * (1 / 2048)) : ℝ) : EReal) := by
      rw [sub_eq_add_neg, EReal.left_distrib_of_nonneg_of_ne_top (by exact_mod_cast hs.le) (EReal.coe_ne_top r),
        mul_comm (r : EReal) (d k), EReal.coe_neg, mul_neg, mul_neg]
      congr 2
      push_cast
      ac_rfl
    have e3 : x k * (S * ((-1 / 2 * (r * r * r) : ℝ) : EReal) * ((1 / 2048 : ℝ) : EReal))
        = (x k * S) * ((-1 / 2 * (r * r * r) * (1 / 2048) : ℝ) : EReal) := by
      push_cast
      ac_rfl
    rw [e2, mul_comm (S * _ * _) (x k), e3, add_assoc (res + _), add_self_mul]
    have e4 : (-1 / 2 * (r * r * r) * (1 / 2048) + -1 / 2 * (r * r * r) * (1 / 2048) : ℝ) = -(r * r * r * (1 / 2048)) := by
      ring
    rw [e4]
    abel

end Cert.Norm

end
-- ==== Proof.Norm.lean ====
/- The norm's backward call with its residual, against the gradient of the reference: its three results.

   Each of the 11 grid points works on 384 rows. The first two results are stored row by row: the residual plus the
   gradient with respect to the input. The third, the gradient of the gain, is summed over the points: the first point
   stores its rows' sum, the others add theirs. -/
module

public import proofs.«01_k».proof.Proof.Gen.NormKernelIdeal.Value
public import proofs.«01_k».proof.Proof.Gen.NormReferenceIdeal
public import proofs.«01_k».proof.Proof.NormMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormReferenceIdeal.Hand

open Cert.NormReferenceIdeal Cert.NormReferenceIdeal.Gen

/-- The mean square of each row plus the norm's constant. -/
abbrev U (a0 : FVec Ideal S4224x2048 .f32) : FVec Ideal S4224x1 .f32 :=
  addf (Host.divf (broadcastInDim S4224x1 ![0] bcast_S4224_S4224x1_0 (Host.reduceAdd (mulf a0 a0)
    (constant S_ .f32 0x00000000#32) reducesTo_S4224x2048_S4224_d1 h_S_))
    (broadcastInDim S4224x1 ![] bcast_S_S4224x1 (constant S_ .f32 0x45000000#32)))
    (broadcastInDim S4224x1 ![] bcast_S_S4224x1 (constant S_ .f32 0x358637BD#32))

/-- The incoming gradient times the gain. -/
abbrev DXH (a1 : FVec Ideal S2048 .f32) (a2 : FVec Ideal S4224x2048 .f32) : FVec Ideal S4224x2048 .f32 :=
  mulf a2 (broadcastInDim S4224x2048 ![0, 1] bcast_S1x2048_S4224x2048_0_1 (broadcastInDim S1x2048 ![1]
    bcast_S2048_S1x2048_1 a1))

/-- The part of the gradient that comes through the mean square, one value per row. -/
abbrev SQ (a0 : FVec Ideal S4224x2048 .f32) (a1 : FVec Ideal S2048 .f32) (a2 : FVec Ideal S4224x2048 .f32) :
    FVec Ideal S4224x2048 .f32 :=
  broadcastInDim S4224x2048 ![0] bcast_S4224_S4224x2048_0 (Host.reduceAdd (Host.divf (mulf (shapeCast _ (Host.reduceAdd
    (mulf a0 (DXH a1 a2)) (constant S_ .f32 0x00000000#32) reducesTo_S4224x2048_S4224_d1 h_S_)
    shapeCasts_S4224_S4224x1) (mulf (broadcastInDim S4224x1 ![] bcast_S_S4224x1 (constant S_ .f32 0xBF000000#32))
    (Host.divf (Host.rsqrt (U a0)) (U a0)))) (broadcastInDim S4224x1 ![] bcast_S_S4224x1
    (constant S_ .f32 0x45000000#32))) (constant S_ .f32 0x00000000#32) reducesTo_S4224x1_S4224_d1 h_S_)

/-- The residual plus the gradient with respect to the input. -/
abbrev REFx (a0 : FVec Ideal S4224x2048 .f32) (a1 : FVec Ideal S2048 .f32) (a2 a3 : FVec Ideal S4224x2048 .f32) :
    FVec Ideal S4224x2048 .f32 :=
  addf (addf (addf a3 (mulf (DXH a1 a2) (broadcastInDim S4224x2048 ![0, 1] bcast_S4224x1_S4224x2048_0_1
    (Host.rsqrt (U a0))))) (mulf a0 (SQ a0 a1 a2))) (mulf (SQ a0 a1 a2) a0)

/-- The gradient of the gain. -/
abbrev REFg (a0 : FVec Ideal S4224x2048 .f32) (a2 : FVec Ideal S4224x2048 .f32) : FVec Ideal S1x2048 .f32 :=
  shapeCast _ (Host.reduceAdd (shapeCast _ (Host.reduceAdd (mulf (mulf a0 (broadcastInDim S4224x2048 ![0, 1]
    bcast_S4224x1_S4224x2048_0_1 (Host.rsqrt (U a0)))) a2) (constant S_ .f32 0x00000000#32)
    reducesTo_S4224x2048_S2048_d0 h_S_) shapeCasts_S2048_S1x2048) (constant S_ .f32 0x00000000#32)
    reducesTo_S1x2048_S2048_d0 h_S_) shapeCasts_S2048_S1x2048

/-- The value of the norm's constant. -/
def eps : ℝ := 8796093 / 2 ^ 43

/-- The mean square of one row plus the norm's constant. -/
def u (a0 : S4224x2048.Idx → EReal) (p : Fin 4224) : EReal :=
  Ideal.div (∑ k : Fin 2048, a0 (ix2 p k) * a0 (ix2 p k)) ((2048 : ℝ) : EReal) + (eps : EReal)

/-- The word of the width, 2048. -/
theorem lit_n : Ideal.ofBits .f32 1157627904#32 = ((2048 : ℝ) : EReal) := by
  simp [Ideal.ofBits, Ideal.ieee]
  rw [← EReal.coe_mul]; norm_num

/-- The word of the norm's epsilon. -/
theorem lit_eps : Ideal.ofBits .f32 897988541#32 = (eps : EReal) := by
  simp [Ideal.ofBits, Ideal.ieee, eps]
  rw [← EReal.coe_mul]; norm_num

/-- The word of minus one half. -/
theorem lit_half : Ideal.ofBits .f32 3204448256#32 = ((-1 / 2 : ℝ) : EReal) := by
  simp [Ideal.ofBits, Ideal.ieee]
  rw [← EReal.coe_mul]; norm_num

/-- A row's mean of squares with the epsilon. -/
theorem U_apply (a0 : FVec Ideal S4224x2048 .f32) (p : Fin 4224) (z : Fin 1) : U a0 (ix2 p z) = u a0 p := by
  pointwise [U, u]
  rw [lit_n, lit_eps]

/-- The first result's entry, in the form that meets the kernel's. -/
theorem REFx_apply (a0 : FVec Ideal S4224x2048 .f32) (a1 : FVec Ideal S2048 .f32) (a2 a3 : FVec Ideal S4224x2048 .f32)
    (p : Fin 4224) (q : Fin 2048) : REFx a0 a1 a2 a3 (ix2 p q)
      = Ideal.rsqrt (u a0 p) * (a2 (ix2 p q) * a1 (ix1 q) - a0 (ix2 p q) * Ideal.rsqrt (u a0 p)
          * Ideal.div (∑ i : Fin 2048, a2 (ix2 p i) * a1 (ix1 i) * (a0 (ix2 p i) * Ideal.rsqrt (u a0 p)))
            ((2048 : ℝ) : EReal)) + a3 (ix2 p q) := by
  rw [Cert.Norm.grad_eq (u a0 p) (a3 (ix2 p q)) (Cert.Norm.mean_sq (fun k => a0 (ix2 p k)) eps (by unfold eps; positivity))
    (fun i => a0 (ix2 p i)) (fun i => a2 (ix2 p i) * a1 (ix1 i)) q]
  pointwise [REFx, SQ, DXH, U]
  simp only [lit_n, lit_half, lit_eps, Fintype.sum_unique, u]

/-- The third result's entry: the sum over all rows. -/
theorem REFg_apply (a0 : FVec Ideal S4224x2048 .f32) (a2 : FVec Ideal S4224x2048 .f32)
    (z : Fin 1) (q : Fin 2048) : REFg a0 a2 (ix2 z q)
      = ∑ p : Fin 4224, a2 (ix2 p q) * (a0 (ix2 p q) * Ideal.rsqrt (u a0 p)) := by
  pointwise [REFg, U]
  simp only [lit_n, lit_eps, Fintype.sum_unique, u]
  exact Finset.sum_congr rfl fun p _ => mul_comm _ _

end Cert.NormReferenceIdeal.Hand

namespace Cert.NormKernelIdeal.Hand

open Cert.NormKernelIdeal Cert.NormKernelIdeal.Gen
open Cert.NormReferenceIdeal.Hand (REFx REFg u eps)

variable (m : (ℓ : Loc nD τ sig) → Buf (Elt Ideal) ℓ)

/-- The block of each array that a grid point works on. -/
theorem idx : ∀ t : Fin cfg0.N, win0_0.index t = ![t.val, 0] ∧ win0_1.index t = ![0, 0]
    ∧ win0_2.index t = ![t.val, 0] ∧ win0_3.index t = ![t.val, 0] ∧ win0_4.index t = ![t.val, 0]
    ∧ win0_5.index t = ![t.val, 0] ∧ win0_6.index t = ![0, 0] :=
  (by decide +kernel : ∀ t : Fin grid0.N, _)

/-- The inverse root of one row's mean square. -/
theorem r_apply (x : FVec Ideal S384x2048 .f32) (p : Fin 384) (z : Fin 1) : k0_pay2 (F := Ideal) x (ix2 p z)
    = Ideal.rsqrt (Ideal.div (∑ k : Fin 2048, x (ix2 p k) * x (ix2 p k)) ((2048 : ℝ) : EReal) + (eps : EReal)) := by
  pointwise [k0_pay2]
  rw [Cert.NormReferenceIdeal.Hand.lit_n, Cert.NormReferenceIdeal.Hand.lit_eps]

/-- One entry of the input's gradient plus the residual, from the rows a point reads. -/
theorem dx_apply (x dy res : FVec Ideal S384x2048 .f32) (g : FVec Ideal S1x2048 .f32) (p : Fin 384) (q : Fin 2048)
    (w : EReal) (hw : Ideal.div (∑ k : Fin 2048, x (ix2 p k) * x (ix2 p k)) ((2048 : ℝ) : EReal) + (eps : EReal) = w) :
    k0_pay5 (F := Ideal) x dy g res (ix2 p q) = Ideal.rsqrt w * (dy (ix2 p q) * g (ix2 0 q) - x (ix2 p q) * Ideal.rsqrt w
        * Ideal.div (∑ i : Fin 2048, dy (ix2 p i) * g (ix2 0 i) * (x (ix2 p i) * Ideal.rsqrt w)) ((2048 : ℝ) : EReal))
      + res (ix2 p q) := by
  have h : k0_pay2 (F := Ideal) x (ix2 p 0) = Ideal.rsqrt w := hw ▸ r_apply x p 0
  generalize hr : k0_pay2 (F := Ideal) x = r at h
  pointwise [k0_pay5, k0_pay3, hr]
  rw [h, Cert.NormReferenceIdeal.Hand.lit_n]

/-- One entry of what a point adds to the gain's gradient. -/
theorem dg_apply (x dy : FVec Ideal S384x2048 .f32) (z : Fin 1) (q : Fin 2048) (w : Fin 384 → EReal)
    (hw : ∀ p, Ideal.div (∑ k : Fin 2048, x (ix2 p k) * x (ix2 p k)) ((2048 : ℝ) : EReal) + (eps : EReal) = w p) :
    k0_pay4 (F := Ideal) x dy (ix2 z q) = ∑ p : Fin 384, dy (ix2 p q) * (x (ix2 p q) * Ideal.rsqrt (w p)) := by
  have h : ∀ p : Fin 384, k0_pay2 (F := Ideal) x (ix2 p 0) = Ideal.rsqrt (w p) := fun p => (hw p) ▸ r_apply x p 0
  generalize hr : k0_pay2 (F := Ideal) x = r at h
  pointwise [k0_pay4, k0_pay3, hr]
  simp only [h]

/-- The row of the arrays that row `p` of a point's blocks is. -/
abbrev row (t : Fin cfg0.N) (p : Fin 384) : Fin 4224 := ⟨t.val * 384 + p, by have h : t.val < 11 := t.isLt; omega⟩

/-- A block of the input holds its point's rows and columns. -/
theorem blk_x (c : Dev nD) (t : Fin cfg0.N) (p : Fin 384) (q : Fin 2048) :
    (show FVec Ideal S384x2048 .f32 from iblk m c 0 t) (ix2 p q)
      = m ((c : Thread nD τ).loc main_arg0) (ix2 (row t p) q) := by
  blk_point [iblk, V, idx t]

/-- A block of the scale is the whole scale. -/
theorem blk_g (c : Dev nD) (t : Fin cfg0.N) (z : Fin 1) (q : Fin 2048) :
    (show FVec Ideal S1x2048 .f32 from iblk m c 1 t) (ix2 z q) = m ((c : Thread nD τ).loc main_arg1) (ix1 q) := by
  blk_point [iblk, V, idx t]

/-- A block of the incoming gradient is its row tile. -/
theorem blk_dy (c : Dev nD) (t : Fin cfg0.N) (p : Fin 384) (q : Fin 2048) :
    (show FVec Ideal S384x2048 .f32 from iblk m c 2 t) (ix2 p q)
      = m ((c : Thread nD τ).loc main_arg2) (ix2 (row t p) q) := by
  blk_point [iblk, V, idx t]

/-- A block of the residual's gradient is its row tile. -/
theorem blk_res (c : Dev nD) (t : Fin cfg0.N) (p : Fin 384) (q : Fin 2048) :
    (show FVec Ideal S384x2048 .f32 from iblk m c 3 t) (ix2 p q)
      = m ((c : Thread nD τ).loc main_arg3) (ix2 (row t p) q) := by
  blk_point [iblk, V, idx t]

/-- The mean square of a point's row is that of the array's row. -/
theorem u_blk (c : Dev nD) (t : Fin cfg0.N) (p : Fin 384) :
    Ideal.div (∑ k : Fin 2048, (show FVec Ideal S384x2048 .f32 from iblk m c 0 t) (ix2 p k)
        * (show FVec Ideal S384x2048 .f32 from iblk m c 0 t) (ix2 p k)) ((2048 : ℝ) : EReal) + (eps : EReal)
      = u (m ((c : Thread nD τ).loc main_arg0)) (row t p) := by
  unfold u
  simp only [blk_x]

/-- The first result's block, from the rows a point reads. -/
theorem point_x (c : Dev nD) (t : Fin cfg0.N) (p : Fin 384) (q : Fin 2048) :
    k0_pay5 (F := Ideal) (iblk m c 0 t) (iblk m c 2 t) (iblk m c 1 t) (iblk m c 3 t) (ix2 p q)
      = REFx (m ((c : Thread nD τ).loc main_arg0)) (m ((c : Thread nD τ).loc main_arg1)) (m ((c : Thread nD τ).loc main_arg2))
        (m ((c : Thread nD τ).loc main_arg3)) (ix2 (row t p) q) := by
  rw [Cert.NormReferenceIdeal.Hand.REFx_apply]
  refine (dx_apply _ _ _ _ p q _ (u_blk m c t p)).trans ?_
  simp only [← blk_x m c t, ← blk_dy m c t, ← blk_g m c t 0, ← blk_res m c t]

/-- What one point adds to the gain's gradient: the sum over its rows. -/
def part (a0 a2 : S4224x2048.Idx → EReal) (t : Fin cfg0.N) (q : Fin 2048) : EReal :=
  ∑ p : Fin 384, a2 (ix2 (row t p) q) * (a0 (ix2 (row t p) q) * Ideal.rsqrt (u a0 (row t p)))

/-- A point's part of the scale's gradient, in the arguments' entries. -/
theorem point_g (c : Dev nD) (t : Fin cfg0.N) (z : Fin 1) (q : Fin 2048) :
    k0_pay4 (F := Ideal) (iblk m c 0 t) (iblk m c 2 t) (ix2 z q)
      = part (m ((c : Thread nD τ).loc main_arg0)) (m ((c : Thread nD τ).loc main_arg2)) t q := by
  refine (dg_apply _ _ z q _ (u_blk m c t)).trans ?_
  unfold part
  refine Finset.sum_congr rfl fun p _ => ?_
  rw [← blk_x m c t, ← blk_dy m c t]

/-- The call's first result: the residual plus the gradient of the input. -/
theorem final_4 (c : Dev nD) : (dats m 0 c).arrAt 4 (cfgs 0).N
    = REFx (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  have ht : t.val < 11 := t.isLt
  obtain ⟨p, q, rfl⟩ : ∃ (p : Fin 384) (q : Fin 2048), y = ix2 p q := ⟨y 0, y 1, by funext i; fin_cases i <;> rfl⟩
  have e : ((cfg0.win 4).blk t).view.emb (ix2 p q) = ix2 (row t p) q := by blk_ext [idx t, row]
  blk_simp
  rw [after0_4, e]
  by_cases h : t.val % 11 = 0
  · rw [outsAt0_A m c t h (by omega)]
    dsimp only
    frame_out
    exact point_x m c t p q
  · rw [outsAt0_B m c t h (by omega)]
    dsimp only
    frame_out
    exact point_x m c t p q

/-- The call's second result: the first one rounded, which over the reals is the first one. -/
theorem final_5 (c : Dev nD) : (dats m 0 c).arrAt 5 (cfgs 0).N
    = truncf .bf16 (REFx (m ((c : Thread nD τ).loc main_arg0)) (m ((c : Thread nD τ).loc main_arg1)) (m ((c : Thread nD τ).loc main_arg2))
        (m ((c : Thread nD τ).loc main_arg3))) (by decide) := by
  refine (dats m 0 c).arrAt_eq_of_covers 5 _ (by decide +kernel) fun t hf y => ?_
  have ht : t.val < 11 := t.isLt
  obtain ⟨p, q, rfl⟩ : ∃ (p : Fin 384) (q : Fin 2048), y = ix2 p q := ⟨y 0, y 1, by funext i; fin_cases i <;> rfl⟩
  have e : ((cfg0.win 5).blk t).view.emb (ix2 p q) = ix2 (row t p) q := by blk_ext [idx t, row]
  blk_simp
  rw [after0_5, e]
  by_cases h : t.val % 11 = 0
  · rw [outsAt0_A m c t h (by omega)]
    dsimp only
    frame_out
    exact point_x m c t p q
  · rw [outsAt0_B m c t h (by omega)]
    dsimp only
    frame_out
    exact point_x m c t p q

/-- The first point starts the gain's gradient with its part. -/
theorem start_6 (c : Dev nD) (t : Fin cfg0.N) (h : t.val % 11 = 0) (y : S1x2048.Idx) :
    (outsAt0 m c t.val t.isLt).2.2 y
      = 0 + part (m ((c : Thread nD τ).loc main_arg0)) (m ((c : Thread nD τ).loc main_arg2)) t (y 1) := by
  have ht : t.val < 11 := t.isLt
  obtain ⟨z, q, rfl⟩ : ∃ (z : Fin 1) (q : Fin 2048), y = ix2 z q := ⟨y 0, y 1, by funext i; fin_cases i <;> rfl⟩
  rw [outsAt0_A m c t h (by omega), zero_add]
  dsimp only
  frame_out
  exact point_g m c t z q

/-- A later point adds its part. -/
theorem step_6 (c : Dev nD) (t : Fin cfg0.N) (h : ¬ t.val % 11 = 0) (y : S1x2048.Idx) :
    (outsAt0 m c t.val t.isLt).2.2 y
      = (outsAt0 m c (t.val - 1) (Nat.lt_of_le_of_lt (Nat.sub_le _ _) t.isLt)).2.2 y
        + part (m ((c : Thread nD τ).loc main_arg0)) (m ((c : Thread nD τ).loc main_arg2)) t (y 1) := by
  obtain ⟨z, q, rfl⟩ : ∃ (z : Fin 1) (q : Fin 2048), y = ix2 z q := ⟨y 0, y 1, by funext i; fin_cases i <;> rfl⟩
  rw [outsAt0_B m c t h (by omega)]
  dsimp only
  generalize (outsAt0 m c (t.val - 1) (Nat.lt_of_le_of_lt (Nat.sub_le _ _) t.isLt)).2.2 = a
  have hp := point_g m c t z q
  frame_out
  generalize k0_pay4 (F := Ideal) (iblk m c 0 t) (iblk m c 2 t) = G at *
  pointwise [k0_pay1]
  exact congrArg _ hp

/-- The call's third result: the gain's gradient. -/
theorem final_6 (c : Dev nD) : (dats m 0 c).arrAt 6 (cfgs 0).N
    = REFg (m ((c : Thread nD τ).loc main_arg0)) (m ((c : Thread nD τ).loc main_arg2)) := by
  refine (dats m 0 c).arrAt_eq_of_covers 6 _ (by decide +kernel) fun t hf y => ?_
  have h2 := (flush0_6 t).mp hf
  have ht : t.val < 11 := t.isLt
  obtain ⟨z, q, rfl⟩ : ∃ (z : Fin 1) (q : Fin 2048), y = ix2 z q := ⟨y 0, y 1, by funext i; fin_cases i <;> rfl⟩
  have e : ((cfg0.win 6).blk t).view.emb (ix2 z q) = ix2 z q := by blk_ext [idx t]
  blk_simp
  rw [after0_6, e, Cert.NormReferenceIdeal.Hand.REFg_apply]
  refine (Pipeline.eq_sum_fin_of_reset_step_apply_of_flush (fun n h => (outsAt0 m c n h).2.2) 11 (fun _ => (0 : EReal))
    (fun t (y : S1x2048.Idx) => part (m ((c : Thread nD τ).loc main_arg0)) (m ((c : Thread nD τ).loc main_arg2)) t (y 1))
    (start_6 m c) (step_6 m c) t h2 (ix2 z q)).trans ((zero_add _).trans ?_)
  unfold part
  refine Fin.sum_mul_add_congr fun s k hl => ?_
  have e3 : (11 * (t.val / 11) + s.val) * 384 + k.val = s.val * 384 + k.val := by omega
  have e4 : row ⟨11 * (t.val / 11) + s.val, by omega⟩ k = ⟨s.val * 384 + k.val, hl⟩ := Fin.ext e3
  rw [e4]
  rfl

end Cert.NormKernelIdeal.Hand

end
-- ==== Proof.NormClaim.lean ====
/- The norm's backward call against the gradient of the reference: its three results. -/
module

public import proofs.«01_k».proof.Defs
public import proofs.«01_k».proof.Proof.Norm
public import proofs.«01_k».proof.Proof.Gen.NormReferenceIdeal.Run
public import Idealize.ShloMosaic.Lib.Claim

@[expose] public section

set_option maxRecDepth 16384

noncomputable section

namespace Cert.Proof

open Idealize.ShloMosaic Idealize.SL.Sem

set_option maxHeartbeats 1600000 in
/-- The call's three results are the reference's, entry by entry over the extended reals. -/
theorem algebraic_NormKernelIdeal_NormReferenceIdeal : Cert.algebraic_NormKernelIdeal_NormReferenceIdeal := by
  pair_intro
  · run_from Cert.NormKernelIdeal.Gen.run_main m g
  · hlo_run
    · exact (Cert.NormKernelIdeal.Hand.final_4 m c).symm
    · exact (Cert.NormKernelIdeal.Hand.final_5 m c).symm
    · exact (Cert.NormKernelIdeal.Hand.final_6 m c).symm

end Cert.Proof

end
-- ==== Proof.GatesMath.lean ====
/- The arithmetic behind the gates' gradient, over the extended reals.

   The call takes the gates `r` and `i`, values of the logistic function and so between 0 and 1, the decay
   `a = exp l` with `l = -8 r softplus(-lam)`, and writes `sqrt (1 - a²)` as `sqrt (-tanh l (a² + 1))`; the reference
   has `sqrt (-(exp (2 l) - 1))`. The two agree for every `l ≤ 0`. Where the root is zero, `l` is, and the programs
   divide by it; then `r` or `softplus(-lam)` is zero and the product with it removes what the division gave. -/
module

public import Idealize.ShloMosaic.PureOps.Ideal

@[expose] public section

noncomputable section

open Idealize.ShloMosaic

namespace Cert.Gates

/-- The logistic function as both programs write it. -/
def logi (g : EReal) : EReal := Ideal.div 1 (1 + Ideal.exp (-g))

/-- Its values are real, between 0 and 1. -/
theorem logi_real (g : EReal) : ∃ r : ℝ, 0 ≤ r ∧ r ≤ 1 ∧ logi g = (r : EReal) := by
  induction g with
  | bot =>
    refine ⟨0, le_rfl, zero_le_one, ?_⟩
    have h : (1 : EReal) + ⊤ = ⊤ := by rfl
    rw [logi, EReal.neg_bot, Ideal.exp_top, h, Ideal.div, if_neg (by simp), EReal.inv_top, mul_zero]; rfl
  | top =>
    refine ⟨1, zero_le_one, le_rfl, ?_⟩
    have h : ((1 : ℝ) : EReal) = 1 := rfl
    rw [logi, EReal.neg_top, Ideal.exp_bot, add_zero, ← h, Ideal.div_coe one_ne_zero]
    norm_num
  | coe g =>
    refine ⟨1 / (1 + Real.exp (-g)), by positivity, ?_, ?_⟩
    · rw [div_le_one (by positivity)]; linarith [Real.exp_pos (-g)]
    · have h : (1 : EReal) + ((Real.exp (-g) : ℝ) : EReal) = ((1 + Real.exp (-g) : ℝ) : EReal) := by push_cast; rfl
      rw [logi, ← EReal.coe_neg, Ideal.exp_coe, h, Ideal.div_coe (by positivity), one_mul]

/-- The softplus function as both programs write it. -/
def soft (x : EReal) : EReal := max x 0 + Ideal.log1p (Ideal.exp (-(max x (-x))))

/-- The softplus at plus infinity. -/
theorem soft_top : soft ⊤ = ⊤ := by
  have h : max (⊤ : EReal) (-⊤) = ⊤ := by simp
  rw [soft, h, EReal.neg_top, Ideal.exp_bot, Ideal.log1p, add_zero]
  have h1 : Ideal.log 1 = 0 := by
    have : Ideal.log ((1 : ℝ) : EReal) = if (1 : ℝ) ≤ 0 then ⊥ else ((Real.log 1 : ℝ) : EReal) := rfl
    rw [if_neg (by norm_num), Real.log_one] at this
    exact this
  rw [h1]; simp

/-- The softplus at minus infinity. -/
theorem soft_bot : soft ⊥ = 0 := by
  have h : max (⊥ : EReal) (-⊥) = ⊤ := by simp
  rw [soft, h, EReal.neg_top, Ideal.exp_bot, Ideal.log1p, add_zero]
  have h1 : Ideal.log 1 = 0 := by
    have : Ideal.log ((1 : ℝ) : EReal) = if (1 : ℝ) ≤ 0 then ⊥ else ((Real.log 1 : ℝ) : EReal) := rfl
    rw [if_neg (by norm_num), Real.log_one] at this
    exact this
  rw [h1]; simp

/-- The softplus of a real is the logarithm of one plus its exponential. -/
theorem soft_coe (x : ℝ) : soft (x : EReal) = ((Real.log (1 + Real.exp x) : ℝ) : EReal) := by
  have mx : ∀ a b : ℝ, max (a : EReal) (b : EReal) = ((max a b : ℝ) : EReal) := fun a b =>
    (EReal.coe_strictMono.monotone.map_max (a := a) (b := b)).symm
  have h : max (x : EReal) (-(x : EReal)) = ((|x| : ℝ) : EReal) := by
    rw [← EReal.coe_neg, mx]; rfl
  have h1 : (1 : EReal) + ((Real.exp (-|x|) : ℝ) : EReal) = ((1 + Real.exp (-|x|) : ℝ) : EReal) := by push_cast; rfl
  have h2 : (0 : ℝ) < 1 + Real.exp (-|x|) := by positivity
  have h0 : max (x : EReal) 0 = ((max x 0 : ℝ) : EReal) := mx x 0
  rw [soft, h, ← EReal.coe_neg, Ideal.exp_coe, Ideal.log1p, h1, h0]
  have h3 : Ideal.log ((1 + Real.exp (-|x|) : ℝ) : EReal) = ((Real.log (1 + Real.exp (-|x|)) : ℝ) : EReal) := by
    simp only [Ideal.log]; exact if_neg (by linarith)
  rw [h3, ← EReal.coe_add]
  congr 1
  rcases le_total 0 x with hx | hx
  · rw [max_eq_left hx, abs_of_nonneg hx]
    have e : 1 + Real.exp x = Real.exp x * (1 + Real.exp (-x)) := by
      rw [mul_add, ← Real.exp_add]; simp [add_comm]
    rw [e, Real.log_mul (by positivity) (by positivity), Real.log_exp]
  · rw [max_eq_right hx, abs_of_nonpos hx, zero_add, neg_neg]

/-- The softplus function is not negative, and is zero only at minus infinity. -/
theorem soft_cases (x : EReal) : x = ⊤ ∧ soft x = ⊤ ∨ x = ⊥ ∧ soft x = 0 ∨ ∃ v : ℝ, 0 < v ∧ soft x = (v : EReal) := by
  induction x with
  | top => exact Or.inl ⟨rfl, soft_top⟩
  | bot => exact Or.inr (Or.inl ⟨rfl, soft_bot⟩)
  | coe x => exact Or.inr (Or.inr ⟨_, Real.log_pos (by linarith [Real.exp_pos x]), soft_coe x⟩)

/-- The derivative of softplus: the logistic function, which the reference writes `exp (x - softplus x)`. -/
theorem soft_deriv (x : EReal) :
    Ideal.exp ((if x = ⊤ then 0 else x) - (if soft x = ⊤ then 0 else soft x)) = logi x := by
  induction x with
  | top =>
    have h : ((1 : ℝ) : EReal) = 1 := rfl
    rw [soft_top, if_pos rfl, logi, EReal.neg_top, Ideal.exp_bot, add_zero, ← h, Ideal.div_coe one_ne_zero, sub_zero,
      show (0 : EReal) = ((0 : ℝ) : EReal) from rfl, Ideal.exp_coe]
    norm_num
  | bot =>
    have h : (1 : EReal) + ⊤ = ⊤ := by rfl
    rw [soft_bot, if_neg (by simp), if_neg (by simp), logi, EReal.neg_bot, Ideal.exp_top, h, Ideal.div, if_neg (by simp),
      EReal.inv_top, mul_zero, sub_zero, Ideal.exp_bot]
  | coe x =>
    have h : (1 : EReal) + ((Real.exp (-x) : ℝ) : EReal) = ((1 + Real.exp (-x) : ℝ) : EReal) := by push_cast; rfl
    rw [soft_coe, if_neg (EReal.coe_ne_top _), if_neg (EReal.coe_ne_top _), logi, ← EReal.coe_neg, Ideal.exp_coe, h,
      Ideal.div_coe (by positivity), one_mul, ← EReal.coe_sub, Ideal.exp_coe, Real.exp_sub, Real.exp_log (by positivity)]
    congr 1
    rw [Real.exp_neg]
    have := Real.exp_pos x
    field_simp
    ring

/-- The root that scales the recurrence's input, as the reference writes it. -/
def root (l : EReal) : EReal := Ideal.sqrt (-(Ideal.expm1 (((2 : ℝ) : EReal) * l)))

/-- The recurrence's logarithmic decay. -/
def decay (r sp : EReal) : EReal := (((-8 : ℝ) : EReal) * r) * sp

/-- The logarithmic decay is a real below zero or minus infinity, or it is zero because one of its factors is. -/
theorem decay_cases (z x : EReal) : decay (logi z) (soft x) = ⊥ ∨ (∃ l : ℝ, l < 0 ∧ decay (logi z) (soft x) = (l : EReal))
    ∨ decay (logi z) (soft x) = 0 ∧ (logi z = 0 ∨ x = ⊥ ∧ soft x = 0) := by
  obtain ⟨r, h0, h1, hr⟩ := logi_real z
  rw [hr]
  rcases eq_or_lt_of_le h0 with h | h
  · refine Or.inr (Or.inr ?_)
    subst h
    simp [decay]
  · rcases soft_cases x with ⟨_, hs⟩ | ⟨hx, hs⟩ | ⟨v, hv, hs⟩
    · refine Or.inl ?_
      rw [hs, decay, ← EReal.coe_mul]
      exact EReal.coe_mul_top_of_neg (by linarith)
    · refine Or.inr (Or.inr ⟨?_, Or.inr ⟨hx, hs⟩⟩)
      rw [hs, decay, mul_zero]
    · refine Or.inr (Or.inl ⟨-8 * r * v, ?_, ?_⟩)
      · have := mul_pos h hv; linarith
      · rw [hs, decay, ← EReal.coe_mul, ← EReal.coe_mul]

/-- Two times the exponent squares the exponential. -/
theorem exp_two (l : EReal) (h : l = ⊥ ∨ ∃ v : ℝ, l = (v : EReal)) :
    Ideal.exp (((2 : ℝ) : EReal) * l) = Ideal.exp l * Ideal.exp l := by
  rcases h with rfl | ⟨v, rfl⟩
  · rw [EReal.coe_mul_bot_of_pos (by norm_num), Ideal.exp_bot, mul_zero]
  · rw [← EReal.coe_mul, Ideal.exp_coe, Ideal.exp_coe, ← EReal.coe_mul, ← Real.exp_add, two_mul]

/-- The two ways of writing the root agree. -/
theorem root_eq (l : EReal) (h : l = ⊥ ∨ ∃ v : ℝ, v ≤ 0 ∧ l = (v : EReal)) :
    Ideal.sqrt ((0 - Ideal.tanh l) * (Ideal.exp l * Ideal.exp l + 1)) = root l := by
  have h1 : ((1 : ℝ) : EReal) = 1 := rfl
  rcases h with rfl | ⟨v, hv, rfl⟩
  · rw [root, Ideal.expm1, EReal.coe_mul_bot_of_pos (by norm_num), Ideal.exp_bot, mul_zero, zero_add, mul_one,
      show Ideal.tanh ⊥ = -1 from rfl]
    rw [← h1, show (0 : EReal) = ((0 : ℝ) : EReal) from rfl, ← EReal.coe_neg, ← EReal.coe_sub, ← EReal.coe_sub, ← EReal.coe_neg]
    norm_num
  · rw [root, Ideal.expm1, show Ideal.tanh (v : EReal) = ((Real.tanh v : ℝ) : EReal) from rfl, ← EReal.coe_mul, Ideal.exp_coe,
      Ideal.exp_coe, ← h1, show (0 : EReal) = ((0 : ℝ) : EReal) from rfl, ← EReal.coe_mul, ← EReal.coe_sub, ← EReal.coe_add,
      ← EReal.coe_mul, ← EReal.coe_sub, ← EReal.coe_neg]
    congr 2
    rw [Real.tanh_eq_sinh_div_cosh, Real.sinh_eq, Real.cosh_eq, two_mul, Real.exp_add, Real.exp_neg]
    have := Real.exp_pos v
    field_simp
    ring

/-- The reference's gradient with respect to the logarithmic decay. -/
def dlog (da db x i l : EReal) : EReal :=
  ((2 : ℝ) : EReal) * ((-((db * (i * x)) * Ideal.div ((1 / 2 : ℝ) : EReal) (root l))) * Ideal.exp (((2 : ℝ) : EReal) * l))
    + da * Ideal.exp l

/-- The call's gradient with respect to the logarithmic decay. -/
def dlogK (da db x i l : EReal) : EReal :=
  da * Ideal.exp l - Ideal.div ((db * (i * x)) * (Ideal.exp l * Ideal.exp l)) (root l)

/-- The root of a negative logarithmic decay is a positive real. -/
theorem root_pos (l : EReal) (h : l = ⊥ ∨ ∃ v : ℝ, v < 0 ∧ l = (v : EReal)) : ∃ s : ℝ, 0 < s ∧ root l = (s : EReal) := by
  have h1 : ((1 : ℝ) : EReal) = 1 := rfl
  rcases h with rfl | ⟨v, hv, rfl⟩
  · refine ⟨1, one_pos, ?_⟩
    rw [root, Ideal.expm1, EReal.coe_mul_bot_of_pos (by norm_num), Ideal.exp_bot, ← h1,
      show (0 : EReal) = ((0 : ℝ) : EReal) from rfl, ← EReal.coe_sub, ← EReal.coe_neg]
    have e : -((0 : ℝ) - 1) = 1 := by norm_num
    have e2 : Ideal.sqrt ((1 : ℝ) : EReal) = if (1 : ℝ) < 0 then ⊥ else ((Real.sqrt 1 : ℝ) : EReal) := rfl
    rw [e, e2, if_neg (by norm_num), Real.sqrt_one]
  · refine ⟨Real.sqrt (-(Real.exp (2 * v) - 1)), ?_, ?_⟩
    · apply Real.sqrt_pos.mpr
      have : Real.exp (2 * v) < 1 := Real.exp_lt_one_iff.mpr (by linarith)
      linarith
    · have : Real.exp (2 * v) < 1 := Real.exp_lt_one_iff.mpr (by linarith)
      rw [root, Ideal.expm1, ← EReal.coe_mul, Ideal.exp_coe, ← h1, ← EReal.coe_sub, ← EReal.coe_neg]
      simp only [Ideal.sqrt]
      exact if_neg (by linarith)

/-- With a negative logarithmic decay the two gradients agree. -/
theorem dlog_eq (da db x i l : EReal) (h : l = ⊥ ∨ ∃ v : ℝ, v < 0 ∧ l = (v : EReal)) :
    dlogK da db x i l = dlog da db x i l := by
  obtain ⟨s, hs, hr⟩ := root_pos l h
  have h2 := exp_two l (h.imp id fun ⟨v, _, e⟩ => ⟨v, e⟩)
  rw [dlogK, dlog, hr, h2, Ideal.div_coe hs.ne', Ideal.div_coe hs.ne', sub_eq_add_neg, add_comm]
  congr 1
  rw [neg_mul, mul_neg]
  congr 1
  have e : (((1 / s : ℝ)) : EReal) = ((2 : ℝ) : EReal) * (((1 / 2 : ℝ) : EReal) * ((1 / s : ℝ) : EReal)) := by
    rw [← EReal.coe_mul, ← EReal.coe_mul]; congr 1; ring
  generalize ((1 / s : ℝ) : EReal) = S at *
  generalize hH : ((2 : ℝ) : EReal) * (((1 / 2 : ℝ) : EReal) * S) = H at *
  have e' : ((2 : ℝ) : EReal) * (db * (i * x) * (((1 / 2 : ℝ) : EReal) * S) * (Ideal.exp l * Ideal.exp l))
      = db * (i * x) * (((2 : ℝ) : EReal) * (((1 / 2 : ℝ) : EReal) * S)) * (Ideal.exp l * Ideal.exp l) := by ac_rfl
  rw [e', hH, ← e]
  ac_rfl

/-- The gradient that goes through the recurrence gate: the two programs agree for all extended reals. -/
theorem dzr_eq (da db xc i z x : EReal) :
    dlogK da db xc i (decay (logi z) (soft x)) * (((-8 : ℝ) : EReal) * soft x) * logi z * (1 - logi z)
      = (((-8 : ℝ) : EReal) * (dlog da db xc i (decay (logi z) (soft x)) * soft x)) * (logi z * (1 - logi z)) := by
  rcases decay_cases z x with h | h | ⟨_, h | ⟨_, h⟩⟩
  · rw [dlog_eq _ _ _ _ _ (Or.inl h)]; ac_rfl
  · rw [dlog_eq _ _ _ _ _ (Or.inr h)]; ac_rfl
  · rw [h]; simp
  · rw [h]; simp

/-- What a row adds to the gradient of `lam`: the two programs agree unless `-lam` is minus infinity. -/
theorem dsp_eq (da db xc i z x : EReal) (hx : x ≠ ⊥) :
    dlogK da db xc i (decay (logi z) (soft x)) * (((-8 : ℝ) : EReal) * logi z)
      = (((-8 : ℝ) : EReal) * logi z) * dlog da db xc i (decay (logi z) (soft x)) := by
  rcases decay_cases z x with h | h | ⟨_, h | ⟨h, _⟩⟩
  · rw [dlog_eq _ _ _ _ _ (Or.inl h)]; ac_rfl
  · rw [dlog_eq _ _ _ _ _ (Or.inr h)]; ac_rfl
  · rw [h]; simp
  · exact absurd h hx

/-- The two ways of writing the root agree at the programs' logarithmic decay. -/
theorem root_decay (z x : EReal) :
    Ideal.sqrt ((0 - Ideal.tanh (decay (logi z) (soft x)))
      * (Ideal.exp (decay (logi z) (soft x)) * Ideal.exp (decay (logi z) (soft x)) + 1)) = root (decay (logi z) (soft x)) := by
  refine root_eq _ ?_
  rcases decay_cases z x with h | ⟨l, hl, h⟩ | ⟨h, _⟩
  · exact Or.inl h
  · exact Or.inr ⟨l, hl.le, h⟩
  · exact Or.inr ⟨0, le_rfl, h⟩

/-- The logistic function at minus infinity. -/
theorem logi_bot : logi ⊥ = 0 := by
  have h : (1 : EReal) + ⊤ = ⊤ := by rfl
  rw [logi, EReal.neg_bot, Ideal.exp_top, h, Ideal.div, if_neg (by simp), EReal.inv_top, mul_zero]

end Cert.Gates

end
-- ==== Proof.GatesRef.lean ====
/- The reference's gradient of the gates, read entry by entry. -/
module

public import proofs.«01_k».proof.Proof.Gen.GatesReferenceIdeal
public import proofs.«01_k».proof.Proof.GatesMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GatesReferenceIdeal.Hand

open Cert.GatesReferenceIdeal Cert.GatesReferenceIdeal.Gen
open Cert.Gates

/-- One number in every place. -/
abbrev num2 (w : BitVec 32) : FVec Ideal S4224x2048 .f32 := broadcastInDim S4224x2048 ![] bcast_S_S4224x2048 (constant S_ .f32 w)
/-- A number spread over the gates' array. -/
abbrev num3 (w : BitVec 32) : FVec Ideal S4224x16x128 .f32 := broadcastInDim S4224x16x128 ![] bcast_S_S4224x16x128 (constant S_ .f32 w)
/-- A number spread over the decay parameter's array. -/
abbrev num1 (w : BitVec 32) : FVec Ideal S2048 .f32 := broadcastInDim S2048 ![] bcast_S_S2048 (constant S_ .f32 w)

/-- A gate: the logistic function of a block diagonal product plus a bias. -/
def GATE (x : FVec Ideal S4224x2048 .f32) (w : FVec Ideal S16x128x128 .f32) (b : FVec Ideal S16x128 .f32) : FVec Ideal S4224x16x128 .f32 :=
  Host.divf (num3 0x3F800000#32) (addf (num3 0x3F800000#32) (Host.exp (Host.negf (addf
    (transpose S4224x16x128 [2, 0, 1] (Host.dotGeneral dot_S16x128x128_S4224x16x128_S16x128x4224_1_2_2_0_0_1 none w
      (shapeCast _ x shapeCasts_S4224x2048_S4224x16x128)) transposes_S16x128x4224_S4224x16x128_2_0_1)
    (broadcastInDim S4224x16x128 ![0, 1, 2] bcast_S1x16x128_S4224x16x128_0_1_2
      (broadcastInDim S1x16x128 ![1, 2] bcast_S16x128_S1x16x128_1_2 b))))))

/-- The softplus of `-lam`. -/
def SP (lam : FVec Ideal S2048 .f32) : FVec Ideal S2048 .f32 :=
  select (cmpf .une (subf (Host.negf lam) (num1 0x00000000#32)) (subf (Host.negf lam) (num1 0x00000000#32)))
    (addf (Host.negf lam) (num1 0x00000000#32))
    (addf (maximumf (Host.negf lam) (num1 0x00000000#32))
      (Host.log1p (Host.exp (Host.negf (Host.absf (subf (Host.negf lam) (num1 0x00000000#32)))))))

/-- A gate's array with its channels in one row. -/
def flat (R : FVec Ideal S4224x16x128 .f32) : FVec Ideal S4224x2048 .f32 := shapeCast _ R shapeCasts_S4224x16x128_S4224x2048

/-- An array's channels in 16 groups. -/
def split (X : FVec Ideal S4224x2048 .f32) : FVec Ideal S4224x16x128 .f32 := shapeCast _ X shapeCasts_S4224x2048_S4224x16x128

/-- `-8` times the recurrence gate. -/
def M8 (R : FVec Ideal S4224x16x128 .f32) : FVec Ideal S4224x2048 .f32 := mulf (num2 0xC1000000#32) (flat R)

/-- One value per channel, for every row. -/
def rows (v : FVec Ideal S2048 .f32) : FVec Ideal S4224x2048 .f32 :=
  broadcastInDim S4224x2048 ![0, 1] bcast_S1x2048_S4224x2048_0_1 (broadcastInDim S1x2048 ![1] bcast_S2048_S1x2048_1 v)

/-- The logarithmic decay. -/
def LOG (R : FVec Ideal S4224x16x128 .f32) (lam : FVec Ideal S2048 .f32) : FVec Ideal S4224x2048 .f32 :=
  mulf (M8 R) (rows (SP lam))

/-- The root that scales the recurrence's input. -/
def ROOT (R : FVec Ideal S4224x16x128 .f32) (lam : FVec Ideal S2048 .f32) : FVec Ideal S4224x2048 .f32 :=
  Host.sqrt (Host.negf (Host.expm1 (mulf (num2 0x40000000#32) (LOG R lam))))

/-- The gradient with respect to the logarithmic decay. -/
def DLOG (R I : FVec Ideal S4224x16x128 .f32) (lam : FVec Ideal S2048 .f32) (x da db : FVec Ideal S4224x2048 .f32) :
    FVec Ideal S4224x2048 .f32 :=
  addf (mulf (num2 0x40000000#32) (mulf (Host.negf (mulf (mulf db (mulf (flat I) x))
    (Host.divf (num2 0x3F000000#32) (ROOT R lam)))) (Host.exp (mulf (num2 0x40000000#32) (LOG R lam)))))
    (mulf da (Host.exp (LOG R lam)))

/-- The gradient that goes through the input gate. -/
def DZI (R I : FVec Ideal S4224x16x128 .f32) (lam : FVec Ideal S2048 .f32) (x db : FVec Ideal S4224x2048 .f32) :
    FVec Ideal S4224x16x128 .f32 :=
  mulf (split (mulf (mulf (ROOT R lam) db) x)) (mulf I (subf (num3 0x3F800000#32) I))

/-- The gradient that goes through the recurrence gate. -/
def DZR (R I : FVec Ideal S4224x16x128 .f32) (lam : FVec Ideal S2048 .f32) (x da db : FVec Ideal S4224x2048 .f32) :
    FVec Ideal S4224x16x128 .f32 :=
  mulf (split (mulf (num2 0xC1000000#32) (mulf (DLOG R I lam x da db) (rows (SP lam))))) (mulf R (subf (num3 0x3F800000#32) R))

/-- A gate's share of the input's gradient. -/
def BACK (dz : FVec Ideal S4224x16x128 .f32) (w : FVec Ideal S16x128x128 .f32) : FVec Ideal S4224x16x128 .f32 :=
  transpose S4224x16x128 [1, 0, 2] (Host.dotGeneral dot_S16x128x4224_S16x128x128_S16x4224x128_1_2_2_1_0_0 none
    (transpose S16x128x4224 [1, 2, 0] dz transposes_S4224x16x128_S16x128x4224_1_2_0) w) transposes_S16x4224x128_S4224x16x128_1_0_2

/-- The first result: the gradient of the convolution's output. -/
def REFx (R I : FVec Ideal S4224x16x128 .f32) (lam : FVec Ideal S2048 .f32) (x da db : FVec Ideal S4224x2048 .f32)
    (wr wi : FVec Ideal S16x128x128 .f32) : FVec Ideal S4224x2048 .f32 :=
  addf (mulf (flat I) (mulf (ROOT R lam) db)) (flat (addf (BACK (DZI R I lam x db) wi) (BACK (DZR R I lam x da db) wr)))

/-- A gate's weights' gradient. -/
def REFw (dz : FVec Ideal S4224x16x128 .f32) (x : FVec Ideal S4224x2048 .f32) : FVec Ideal S16x128x128 .f32 :=
  transpose S16x128x128 [0, 2, 1] (Host.dotGeneral dot_S16x128x4224_S4224x16x128_S16x128x128_2_0_1_2_0_1 none
    (transpose S16x128x4224 [1, 2, 0] dz transposes_S4224x16x128_S16x128x4224_1_2_0) (split x)) transposes_S16x128x128_S16x128x128_0_2_1

/-- A gate's bias' gradient. -/
def REFb (dz : FVec Ideal S4224x16x128 .f32) : FVec Ideal S16x1x128 .f32 :=
  shapeCast _ (Host.reduceAdd (shapeCast _ (Host.reduceAdd dz (constant S_ .f32 0x00000000#32) reducesTo_S4224x16x128_S16x128_d0 h_S_)
    shapeCasts_S16x128_S1x16x128) (constant S_ .f32 0x00000000#32) reducesTo_S1x16x128_S16x128_d0 h_S_) shapeCasts_S16x128_S16x1x128

/-- The derivative of softplus at `-lam`. -/
def DSP (lam : FVec Ideal S2048 .f32) : FVec Ideal S2048 .f32 :=
  Host.exp (subf
    (select (cmpf .oeq (Host.negf lam) (num1 0x7F800000#32)) (num1 0x00000000#32) (Host.negf lam))
    (select (cmpf .oeq (SP lam) (num1 0x7F800000#32)) (num1 0x00000000#32) (SP lam)))

/-- The last result: the gradient of `lam`. -/
def REFl (R I : FVec Ideal S4224x16x128 .f32) (lam : FVec Ideal S2048 .f32) (x da db : FVec Ideal S4224x2048 .f32) : FVec Ideal S1x2048 .f32 :=
  shapeCast _ (Host.negf (mulf (Host.reduceAdd (shapeCast _ (Host.reduceAdd (mulf (M8 R) (DLOG R I lam x da db))
    (constant S_ .f32 0x00000000#32) reducesTo_S4224x2048_S2048_d0 h_S_) shapeCasts_S2048_S1x2048)
    (constant S_ .f32 0x00000000#32) reducesTo_S1x2048_S2048_d0 h_S_) (DSP lam))) shapeCasts_S2048_S1x2048

/-- The word of minus eight. -/
theorem lit_m8 : Ideal.ofBits .f32 3238002688#32 = ((-8 : ℝ) : EReal) := by
  simp [Ideal.ofBits, Ideal.ieee]
  try (rw [← EReal.coe_mul]; norm_num)

/-- The word of two. -/
theorem lit_two : Ideal.ofBits .f32 1073741824#32 = ((2 : ℝ) : EReal) := by
  simp [Ideal.ofBits, Ideal.ieee]
  try (rw [← EReal.coe_mul]; norm_num)

/-- The word of one half. -/
theorem lit_half : Ideal.ofBits .f32 1056964608#32 = ((1 / 2 : ℝ) : EReal) := by
  simp [Ideal.ofBits, Ideal.ieee]
  try (rw [← EReal.coe_mul]; norm_num)

/-- The word of infinity. -/
theorem lit_top : Ideal.ofBits .f32 2139095040#32 = ⊤ := by
  simp [Ideal.ofBits, Ideal.ieee]

/-- The softplus at one entry. -/
theorem SP_apply (lam : FVec Ideal S2048 .f32) (i : Fin 2048) : SP lam (ix1 i) = soft (-(lam (ix1 i))) := by
  pointwise [SP]
  rw [if_neg (by simp)]
  rfl

/-- The softplus's slope at one entry. -/
theorem DSP_apply (lam : FVec Ideal S2048 .f32) (i : Fin 2048) : DSP lam (ix1 i) = logi (-(lam (ix1 i))) := by
  have h := SP_apply lam i
  generalize hS : SP lam = S at h
  pointwise [DSP, hS]
  rw [h, lit_top]
  exact soft_deriv _

/-- A gate at one entry: the logistic function of a row's product with its head's weight and the bias. -/
theorem GATE_apply (x : FVec Ideal S4224x2048 .f32) (w : FVec Ideal S16x128x128 .f32) (b : FVec Ideal S16x128 .f32)
    (i : S4224x16x128.Idx) : ∃ z, GATE x w b i = logi z := by
  obtain ⟨p, n, j, rfl⟩ : ∃ (p : Fin 4224) (n : Fin 16) (j : Fin 128), i = ix3 p n j :=
    ⟨i 0, i 1, i 2, by funext a; fin_cases a <;> rfl⟩
  refine ⟨?_, ?_⟩
  rotate_left
  · pointwise [GATE]
    rfl

/-- The channel of a group. -/
abbrev ch (n : Fin 16) (j : Fin 128) : Fin 2048 := ⟨n * 128 + j, by omega⟩

/-- The gates' array without its heads, at one entry. -/
theorem flat_apply (R : FVec Ideal S4224x16x128 .f32) (p : Fin 4224) (n : Fin 16) (j : Fin 128) :
    flat R (ix2 p (ch n j)) = R (ix3 p n j) := by
  pointwise [flat]
  exact congrArg₂ (fun a b => R (ix3 p a b)) (Fin.ext (by show (n.val * 128 + j.val) / 128 = n.val; omega))
    (Fin.ext (by show (n.val * 128 + j.val) % 128 = j.val; omega))

/-- An array split into heads, at one entry. -/
theorem split_apply (X : FVec Ideal S4224x2048 .f32) (p : Fin 4224) (n : Fin 16) (j : Fin 128) :
    split X (ix3 p n j) = X (ix2 p (ch n j)) := by
  pointwise [split]

/-- A vector spread over the rows, at one entry. -/
theorem rows_apply (v : FVec Ideal S2048 .f32) (p : Fin 4224) (q : Fin 2048) : rows v (ix2 p q) = v (ix1 q) := by
  pointwise [rows]

variable (R I : FVec Ideal S4224x16x128 .f32) (lam : FVec Ideal S2048 .f32) (x da db : FVec Ideal S4224x2048 .f32)
  (wr wi : FVec Ideal S16x128x128 .f32)

/-- Minus eight times the gate, at one entry. -/
theorem M8_apply (p : Fin 4224) (n : Fin 16) (j : Fin 128) : M8 R (ix2 p (ch n j)) = ((-8 : ℝ) : EReal) * R (ix3 p n j) := by
  have h := flat_apply R p n j
  generalize hS : flat R = S at h
  pointwise [M8, hS]
  rw [lit_m8, h]

/-- The logarithm of the decay at one entry. -/
theorem LOG_apply (p : Fin 4224) (n : Fin 16) (j : Fin 128) :
    LOG R lam (ix2 p (ch n j)) = decay (R (ix3 p n j)) (soft (-(lam (ix1 (ch n j))))) := by
  rw [← SP_apply, ← rows_apply (SP lam) p, decay, ← M8_apply]
  rfl

/-- The root at one entry. -/
theorem ROOT_apply (p : Fin 4224) (n : Fin 16) (j : Fin 128) :
    ROOT R lam (ix2 p (ch n j)) = root (decay (R (ix3 p n j)) (soft (-(lam (ix1 (ch n j)))))) := by
  rw [← LOG_apply, root, ← lit_two]
  rfl

/-- The gradient by the logarithm of the decay at one entry. -/
theorem DLOG_apply (p : Fin 4224) (n : Fin 16) (j : Fin 128) : DLOG R I lam x da db (ix2 p (ch n j))
    = dlog (da (ix2 p (ch n j))) (db (ix2 p (ch n j))) (x (ix2 p (ch n j))) (I (ix3 p n j))
        (decay (R (ix3 p n j)) (soft (-(lam (ix1 (ch n j)))))) := by
  rw [dlog, ← ROOT_apply, ← LOG_apply, ← flat_apply I, ← lit_two, ← lit_half]
  rfl

/-- The gradient by the input gate before its logistic function, at one entry. -/
theorem DZI_apply (p : Fin 4224) (n : Fin 16) (j : Fin 128) : DZI R I lam x db (ix3 p n j)
    = root (decay (R (ix3 p n j)) (soft (-(lam (ix1 (ch n j)))))) * db (ix2 p (ch n j)) * x (ix2 p (ch n j))
      * (I (ix3 p n j) * (1 - I (ix3 p n j))) := by
  rw [← ROOT_apply]
  have h := split_apply (mulf (mulf (ROOT R lam) db) x) p n j
  generalize hS : split (mulf (mulf (ROOT R lam) db) x) = S at h
  pointwise [DZI, hS]
  rw [h]
  rfl

/-- The gradient by the recurrence gate before its logistic function, at one entry. -/
theorem DZR_apply (p : Fin 4224) (n : Fin 16) (j : Fin 128) : DZR R I lam x da db (ix3 p n j)
    = ((-8 : ℝ) : EReal) * (dlog (da (ix2 p (ch n j))) (db (ix2 p (ch n j))) (x (ix2 p (ch n j))) (I (ix3 p n j))
        (decay (R (ix3 p n j)) (soft (-(lam (ix1 (ch n j)))))) * soft (-(lam (ix1 (ch n j)))))
      * (R (ix3 p n j) * (1 - R (ix3 p n j))) := by
  rw [← DLOG_apply, ← SP_apply, ← rows_apply (SP lam) p]
  have h := split_apply (mulf (num2 0xC1000000#32) (mulf (DLOG R I lam x da db) (rows (SP lam)))) p n j
  generalize hS : split (mulf (num2 0xC1000000#32) (mulf (DLOG R I lam x da db) (rows (SP lam)))) = S at h
  pointwise [DZR, hS]
  rw [h, ← lit_m8]
  rfl

/-- A gate's part of the gradient by its input, at one entry. -/
theorem BACK_apply (dz : FVec Ideal S4224x16x128 .f32) (w : FVec Ideal S16x128x128 .f32) (p : Fin 4224) (n : Fin 16)
    (j : Fin 128) : BACK dz w (ix3 p n j) = ∑ k : Fin 128, dz (ix3 p n k) * w (ix3 n j k) := by
  pointwise [BACK]

/-- The reference's gradient by the gates' input, at one entry. -/
theorem REFx_apply (p : Fin 4224) (n : Fin 16) (j : Fin 128) : REFx R I lam x da db wr wi (ix2 p (ch n j))
    = I (ix3 p n j) * (root (decay (R (ix3 p n j)) (soft (-(lam (ix1 (ch n j)))))) * db (ix2 p (ch n j)))
      + (∑ k : Fin 128, DZI R I lam x db (ix3 p n k) * wi (ix3 n j k)
        + ∑ k : Fin 128, DZR R I lam x da db (ix3 p n k) * wr (ix3 n j k)) := by
  rw [← BACK_apply, ← BACK_apply, ← ROOT_apply, ← flat_apply I]
  refine congrArg₂ (· + ·) rfl ?_
  exact flat_apply (addf (BACK (DZI R I lam x db) wi) (BACK (DZR R I lam x da db) wr)) p n j

/-- The reference's gradient by a gate's weight, at one entry. -/
theorem REFw_apply (dz : FVec Ideal S4224x16x128 .f32) (x : FVec Ideal S4224x2048 .f32) (n : Fin 16) (k j : Fin 128) :
    REFw dz x (ix3 n k j) = ∑ p : Fin 4224, dz (ix3 p n j) * x (ix2 p (ch n k)) := by
  have h := fun p => split_apply x p n k
  generalize hS : split x = S at h
  pointwise [REFw, hS]
  simp only [h]

/-- The reference's gradient by a gate's bias, at one entry. -/
theorem REFb_apply (dz : FVec Ideal S4224x16x128 .f32) (n : Fin 16) (z : Fin 1) (j : Fin 128) :
    REFb dz (ix3 n z j) = ∑ p : Fin 4224, dz (ix3 p n j) := by
  pointwise [REFb]
  exact Fintype.sum_unique _

/-- The reference's gradient by the decay parameter, at one entry. -/
theorem REFl_apply (z : Fin 1) (n : Fin 16) (j : Fin 128) : REFl R I lam x da db (ix2 z (ch n j))
    = -((∑ p : Fin 4224, ((-8 : ℝ) : EReal) * R (ix3 p n j)
        * dlog (da (ix2 p (ch n j))) (db (ix2 p (ch n j))) (x (ix2 p (ch n j))) (I (ix3 p n j))
          (decay (R (ix3 p n j)) (soft (-(lam (ix1 (ch n j))))))) * logi (-(lam (ix1 (ch n j))))) := by
  have h1 := fun p => M8_apply R p n j
  have h2 := fun p => DLOG_apply R I lam x da db p n j
  have h3 := DSP_apply lam (ch n j)
  generalize hS : M8 R = S at h1
  generalize hT : DLOG R I lam x da db = T at h2
  generalize hD : DSP lam = D at h3
  pointwise [REFl, hS, hT, hD]
  simp only [Fintype.sum_unique]
  rw [h3]
  simp only [h1, h2]

end Cert.GatesReferenceIdeal.Hand

end
-- ==== Proof.GatesPoint.lean ====
/- The gates' backward call at one grid point: what each payload holds, read entry by entry.

   A point works on one of 16 blocks of 128 channels and on one tile of rows. -/
module

public import proofs.«01_k».proof.Proof.Gen.GatesKernelIdeal.Value
public import proofs.«01_k».proof.Proof.GatesRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GatesKernelIdeal.Hand

open Cert.GatesKernelIdeal Cert.GatesKernelIdeal.Gen
open Cert.GatesReferenceIdeal.Hand
open Cert.Gates

variable (m : (ℓ : Loc nD τ sig) → Buf (Elt Ideal) ℓ)

/-- The block of each array that a grid point works on. -/
theorem idx : ∀ t : Fin cfg0.N, win0_0.index t = ![t.val % 3, t.val / 3] ∧ win0_1.index t = ![t.val % 3, t.val / 3]
    ∧ win0_2.index t = ![t.val % 3, t.val / 3] ∧ win0_3.index t = ![t.val % 3, t.val / 3] ∧ win0_4.index t = ![t.val % 3, t.val / 3]
    ∧ win0_5.index t = ![t.val % 3, t.val / 3] ∧ win0_6.index t = ![0, t.val / 3] ∧ win0_7.index t = ![t.val / 3, 0, 0]
    ∧ win0_8.index t = ![t.val / 3, 0, 0] ∧ win0_9.index t = ![t.val % 3, t.val / 3] ∧ win0_10.index t = ![t.val / 3, 0, 0]
    ∧ win0_11.index t = ![t.val / 3, 0, 0] ∧ win0_12.index t = ![t.val / 3, 0, 0] ∧ win0_13.index t = ![t.val / 3, 0, 0]
    ∧ win0_14.index t = ![0, t.val / 3] :=
  (by decide +kernel : ∀ t : Fin grid0.N, _)

/-- The row of the arrays that row `p` of a point's blocks is. -/
abbrev row (t : Fin cfg0.N) (p : Fin 1408) : Fin 4224 := ⟨t.val % 3 * 1408 + p, by omega⟩

/-- The channel group a point works on. -/
abbrev grp (t : Fin cfg0.N) : Fin 16 := ⟨t.val / 3, by have h : t.val < 48 := t.isLt; omega⟩

/-- The recurrence gate's value, from the arguments. -/
abbrev Rg (c : Dev nD) : FVec Ideal Cert.GatesReferenceIdeal.S4224x16x128 .f32 :=
  GATE (m ((c : Thread nD τ).loc main_arg0)) (m ((c : Thread nD τ).loc main_arg1)) (m ((c : Thread nD τ).loc main_arg2))
/-- The input gate's value, from the arguments. -/
abbrev Ig (c : Dev nD) : FVec Ideal Cert.GatesReferenceIdeal.S4224x16x128 .f32 :=
  GATE (m ((c : Thread nD τ).loc main_arg0)) (m ((c : Thread nD τ).loc main_arg3)) (m ((c : Thread nD τ).loc main_arg4))

/-- The recurrence gate's value is a value of the logistic function. -/
theorem Rg_logi (c : Dev nD) (i : Cert.GatesReferenceIdeal.S4224x16x128.Idx) : ∃ z, Rg m c i = logi z := GATE_apply _ _ _ i

/-- The host's array of the recurrence gate. -/
theorem arr_r (c : Dev nD) : V m c (Pipeline.arrRef spec0 3) = flat (Rg m c) := by
  simp only [V]
  rfl

/-- A block of the gradient by the recurrence's input. -/
theorem blk_db (c : Dev nD) (t : Fin cfg0.N) (p : Fin 1408) (j : Fin 128) :
    (show FVec Ideal S1408x128 .f32 from iblk m c 0 t) (ix2 p j)
      = m ((c : Thread nD τ).loc main_arg7) (ix2 (row t p) (ch (grp t) j)) := by
  blk_point [iblk, V, idx t]

/-- A block of the gradient by the decay. -/
theorem blk_da (c : Dev nD) (t : Fin cfg0.N) (p : Fin 1408) (j : Fin 128) :
    (show FVec Ideal S1408x128 .f32 from iblk m c 1 t) (ix2 p j)
      = m ((c : Thread nD τ).loc main_arg6) (ix2 (row t p) (ch (grp t) j)) := by
  blk_point [iblk, V, idx t]

/-- A block of the input holds its point's rows and columns. -/
theorem blk_x (c : Dev nD) (t : Fin cfg0.N) (p : Fin 1408) (j : Fin 128) :
    (show FVec Ideal S1408x128 .f32 from iblk m c 2 t) (ix2 p j)
      = m ((c : Thread nD τ).loc main_arg0) (ix2 (row t p) (ch (grp t) j)) := by
  blk_point [iblk, V, idx t]

/-- The host's array of the decay parameter. -/
theorem arr_lam (c : Dev nD) : V m c (Pipeline.arrRef spec0 6)
    = shapeCast S1x2048 (show FVec Ideal S2048 .f32 from m ((c : Thread nD τ).loc main_arg5)) shapeCasts_S2048_S1x2048 := by
  simp only [V]
  rfl

/-- A block of the decay parameter. -/
theorem blk_lam (c : Dev nD) (t : Fin cfg0.N) (z : Fin 1) (j : Fin 128) :
    (show FVec Ideal S1x128 .f32 from iblk m c 6 t) (ix2 z j)
      = m ((c : Thread nD τ).loc main_arg5) (ix1 (ch (grp t) j)) := by
  have e : ((cfg0.win 6).blk t).view.emb (ix2 z j) = ix2 0 (ch (grp t) j) := by blk_ext [idx t]
  have h : (show FVec Ideal S1x128 .f32 from iblk m c 6 t) (ix2 z j)
    = V m c (Pipeline.arrRef spec0 6) (((cfg0.win 6).blk t).view.emb (ix2 z j)) := rfl
  rw [h, e, arr_lam]
  pointwise []

/-- A block of the recurrence gate's weight is its head's. -/
theorem blk_wa (c : Dev nD) (t : Fin cfg0.N) (z : Fin 1) (k j : Fin 128) :
    (show FVec Ideal S1x128x128 .bf16 from iblk m c 7 t) (ix3 z k j)
      = m ((c : Thread nD τ).loc main_arg1) (ix3 (grp t) k j) := by
  blk_point [iblk, V, idx t]

/-- A block of the input gate's weight is its head's. -/
theorem blk_wx (c : Dev nD) (t : Fin cfg0.N) (z : Fin 1) (k j : Fin 128) :
    (show FVec Ideal S1x128x128 .bf16 from iblk m c 8 t) (ix3 z k j)
      = m ((c : Thread nD τ).loc main_arg3) (ix3 (grp t) k j) := by
  blk_point [iblk, V, idx t]

/-- A block of the recurrence gate. -/
theorem blk_r (c : Dev nD) (t : Fin cfg0.N) (p : Fin 1408) (j : Fin 128) :
    (show FVec Ideal S1408x128 .f32 from iblk m c 3 t) (ix2 p j) = Rg m c (ix3 (row t p) (grp t) j) := by
  have e : ((cfg0.win 3).blk t).view.emb (ix2 p j) = ix2 (row t p) (ch (grp t) j) := by blk_ext [idx t]
  have h : (show FVec Ideal S1408x128 .f32 from iblk m c 3 t) (ix2 p j)
    = V m c (Pipeline.arrRef spec0 3) (((cfg0.win 3).blk t).view.emb (ix2 p j)) := rfl
  rw [h, e, arr_r]
  exact flat_apply _ _ _ _

/-- The host's array of the input gate. -/
theorem arr_i (c : Dev nD) : V m c (Pipeline.arrRef spec0 4) = flat (Ig m c) := by
  simp only [V]
  rfl

/-- A block of the input gate. -/
theorem blk_i (c : Dev nD) (t : Fin cfg0.N) (p : Fin 1408) (j : Fin 128) :
    (show FVec Ideal S1408x128 .f32 from iblk m c 4 t) (ix2 p j) = Ig m c (ix3 (row t p) (grp t) j) := by
  have e : ((cfg0.win 4).blk t).view.emb (ix2 p j) = ix2 (row t p) (ch (grp t) j) := by blk_ext [idx t]
  have h : (show FVec Ideal S1408x128 .f32 from iblk m c 4 t) (ix2 p j)
    = V m c (Pipeline.arrRef spec0 4) (((cfg0.win 4).blk t).view.emb (ix2 p j)) := rfl
  rw [h, e, arr_i]
  exact flat_apply _ _ _ _

/-- The host's array of the decay. -/
theorem arr_a (c : Dev nD) : V m c (Pipeline.arrRef spec0 5)
    = Host.exp (LOG (Rg m c) (m ((c : Thread nD τ).loc main_arg5))) := by
  simp only [V]
  rfl

/-- A block of the decay. -/
theorem blk_a (c : Dev nD) (t : Fin cfg0.N) (p : Fin 1408) (j : Fin 128) :
    (show FVec Ideal S1408x128 .f32 from iblk m c 5 t) (ix2 p j) = Ideal.exp (decay (Rg m c (ix3 (row t p) (grp t) j))
      (soft (-(show EReal from m ((c : Thread nD τ).loc main_arg5) (ix1 (ch (grp t) j)))))) := by
  have e : ((cfg0.win 5).blk t).view.emb (ix2 p j) = ix2 (row t p) (ch (grp t) j) := by blk_ext [idx t]
  have h : (show FVec Ideal S1408x128 .f32 from iblk m c 5 t) (ix2 p j)
    = V m c (Pipeline.arrRef spec0 5) (((cfg0.win 5).blk t).view.emb (ix2 p j)) := rfl
  rw [h, e, arr_a]
  exact congrArg Ideal.exp (LOG_apply _ _ _ _ _)

/-! What the body computes at one entry, from the blocks it reads. -/

section
variable (x r i a db da : FVec Ideal S1408x128 .f32) (lam : FVec Ideal S1x128 .f32)

/-- The softplus, one entry of a block. -/
theorem pay14_apply (z : Fin 1) (j : Fin 128) : k0_pay14 (F := Ideal) lam (ix2 z j) = soft (-(lam (ix2 z j))) := by
  pointwise [k0_pay14, soft]
  rw [zero_sub, zero_sub]
  rfl

/-- The root of one minus the decay's square, one entry of a block. -/
theorem pay15_apply (p : Fin 1408) (j : Fin 128) : k0_pay15 (F := Ideal) r a lam (ix2 p j)
    = Ideal.sqrt ((0 - Ideal.tanh (decay (r (ix2 p j)) (soft (-(lam (ix2 0 j)))))) * (a (ix2 p j) * a (ix2 p j) + 1)) := by
  have h := pay14_apply lam 0 j
  generalize hS : k0_pay14 (F := Ideal) lam = S at h
  pointwise [k0_pay15, k0_pay11, k0_pay13, hS, decay]
  rw [h, lit_m8]

/-- The logarithmic decay's gradient as the body computes it. -/
theorem pay20_apply (p : Fin 1408) (j : Fin 128) :
    k0_pay20 (F := Ideal) (k0_pay15 r a lam) (k0_pay17 x i db) (k0_pay18 a da) (k0_pay19 a) (ix2 p j)
      = da (ix2 p j) * a (ix2 p j) - Ideal.div ((db (ix2 p j) * (i (ix2 p j) * x (ix2 p j))) * (a (ix2 p j) * a (ix2 p j)))
          (k0_pay15 (F := Ideal) r a lam (ix2 p j)) := by
  generalize k0_pay15 (F := Ideal) r a lam = S
  pointwise [k0_pay20, k0_pay17, k0_pay18, k0_pay19, k0_pay12, k0_pay13]

/-- A point's part of the decay parameter's gradient, before the softplus's slope. -/
theorem pay21_apply (D : FVec Ideal S1408x128 .f32) (h : ∀ p j, k0_pay20 (F := Ideal) (k0_pay15 r a lam) (k0_pay17 x i db)
    (k0_pay18 a da) (k0_pay19 a) (ix2 p j) = D (ix2 p j)) (z : Fin 1) (j : Fin 128) :
    k0_pay21 (F := Ideal) (k0_pay11 r) (k0_pay15 r a lam) (k0_pay17 x i db) (k0_pay18 a da) (k0_pay19 a) (ix2 z j)
      = ∑ p : Fin 1408, D (ix2 p j) * (((-8 : ℝ) : EReal) * r (ix2 p j)) := by
  generalize k0_pay15 (F := Ideal) r a lam = S at h ⊢
  generalize k0_pay17 (F := Ideal) x i db = S1 at h ⊢
  generalize k0_pay18 (F := Ideal) a da = S2 at h ⊢
  generalize k0_pay19 (F := Ideal) a = S3 at h ⊢
  have e : k0_pay21 (F := Ideal) (k0_pay11 r) S S1 S2 S3 = shapeCast S1x128 (multiReduction .add [0] S128
    (mulf (k0_pay20 (F := Ideal) S S1 S2 S3) (mulf (broadcast S1408x128 (Scalar.ofBits .f32 0xC1000000#32)) (k0_pay11 r)))
    0x00000000#32 reduces_S1408x128_S128 (.inl rfl) rfl) shapeCasts_S128_S1x128 := rfl
  rw [e]
  generalize k0_pay20 (F := Ideal) S S1 S2 S3 = E at h ⊢
  pointwise [k0_pay11]
  simp only [h, lit_m8]

/-- The gradient by the recurrence gate before its logistic function, one entry of a block. -/
theorem pay22_apply (D : EReal) (p : Fin 1408) (j : Fin 128) (h : k0_pay20 (F := Ideal) (k0_pay15 r a lam) (k0_pay17 x i db)
    (k0_pay18 a da) (k0_pay19 a) (ix2 p j) = D) :
    k0_pay22 (F := Ideal) (k0_pay11 r) (k0_pay14 lam) (k0_pay15 r a lam) (k0_pay17 x i db) (k0_pay18 a da) (k0_pay19 a) (ix2 p j)
      = D * (((-8 : ℝ) : EReal) * soft (-(lam (ix2 0 j)))) * r (ix2 p j) * (1 - r (ix2 p j)) := by
  have h' := pay14_apply lam 0 j
  generalize k0_pay15 (F := Ideal) r a lam = S at h ⊢
  generalize k0_pay17 (F := Ideal) x i db = S1 at h ⊢
  generalize k0_pay18 (F := Ideal) a da = S2 at h ⊢
  generalize k0_pay19 (F := Ideal) a = S3 at h ⊢
  generalize k0_pay14 (F := Ideal) lam = L at h' ⊢
  have e : k0_pay22 (F := Ideal) (k0_pay11 r) L S S1 S2 S3 = mulf (mulf (mulf (k0_pay20 (F := Ideal) S S1 S2 S3)
    (broadcastTo S1408x128 (mulf (broadcast S1x128 (Scalar.ofBits .f32 0xC1000000#32)) L) broadcasts_S1x128_S1408x128))
    (k0_pay11 r)) (subf (broadcast S1408x128 (Scalar.ofBits .f32 0x3F800000#32)) (k0_pay11 r)) := rfl
  rw [e]
  generalize k0_pay20 (F := Ideal) S S1 S2 S3 = E at h ⊢
  pointwise [k0_pay11]
  rw [h, h', lit_m8]

/-- The gradient by the input gate before its logistic function, one entry of a block. -/
theorem pay23_apply (p : Fin 1408) (j : Fin 128) :
    k0_pay23 (F := Ideal) x (k0_pay12 i) (k0_pay16 r a db lam) (ix2 p j)
      = db (ix2 p j) * k0_pay15 (F := Ideal) r a lam (ix2 p j) * x (ix2 p j) * i (ix2 p j) * (1 - i (ix2 p j)) := by
  generalize hS : k0_pay15 (F := Ideal) r a lam = S
  pointwise [k0_pay23, k0_pay12, k0_pay16, hS]

end

/-! The same at a grid point: the reference's entries. -/

/-- The point's rows of the gradient that goes through the recurrence gate. -/
abbrev dzr (c : Dev nD) (t : Fin cfg0.N) : FVec Ideal S1408x128 .f32 :=
  k0_pay22 (F := Ideal) (k0_pay11 (iblk m c 3 t)) (k0_pay14 (iblk m c 6 t)) (k0_pay15 (iblk m c 3 t) (iblk m c 5 t) (iblk m c 6 t))
    (k0_pay17 (iblk m c 2 t) (iblk m c 4 t) (iblk m c 0 t)) (k0_pay18 (iblk m c 5 t) (iblk m c 1 t)) (k0_pay19 (iblk m c 5 t))

/-- The point's rows of the gradient that goes through the input gate. -/
abbrev dzi (c : Dev nD) (t : Fin cfg0.N) : FVec Ideal S1408x128 .f32 :=
  k0_pay23 (F := Ideal) (iblk m c 2 t) (k0_pay12 (iblk m c 4 t)) (k0_pay16 (iblk m c 3 t) (iblk m c 5 t) (iblk m c 0 t) (iblk m c 6 t))

/-- The reference's two gate gradients for the call's arguments. -/
abbrev DZRm (c : Dev nD) : FVec Ideal Cert.GatesReferenceIdeal.S4224x16x128 .f32 :=
  DZR (Rg m c) (Ig m c) (m ((c : Thread nD τ).loc main_arg5)) (m ((c : Thread nD τ).loc main_arg0))
    (m ((c : Thread nD τ).loc main_arg6)) (m ((c : Thread nD τ).loc main_arg7))
/-- The gradient by the input gate before its logistic function, from the arguments. -/
abbrev DZIm (c : Dev nD) : FVec Ideal Cert.GatesReferenceIdeal.S4224x16x128 .f32 :=
  DZI (Rg m c) (Ig m c) (m ((c : Thread nD τ).loc main_arg5)) (m ((c : Thread nD τ).loc main_arg0))
    (m ((c : Thread nD τ).loc main_arg7))

/-- The logarithmic decay at one entry. -/
abbrev ld (c : Dev nD) (t : Fin cfg0.N) (p : Fin 1408) (j : Fin 128) : EReal :=
  decay (Rg m c (ix3 (row t p) (grp t) j)) (soft (-(show EReal from m ((c : Thread nD τ).loc main_arg5) (ix1 (ch (grp t) j)))))

/-- The root in a block is the reference's. -/
theorem point_root (c : Dev nD) (t : Fin cfg0.N) (p : Fin 1408) (j : Fin 128) :
    k0_pay15 (F := Ideal) (iblk m c 3 t) (iblk m c 5 t) (iblk m c 6 t) (ix2 p j) = root (ld m c t p j) := by
  refine (pay15_apply _ _ _ p j).trans ?_
  have h1 := blk_r m c t p j
  have h2 := blk_a m c t p j
  have h3 := blk_lam m c t 0 j
  dsimp only at h1 h2 h3
  rw [h1, h2, h3]
  obtain ⟨z, hz⟩ := Rg_logi m c (ix3 (row t p) (grp t) j)
  unfold ld
  rw [hz]
  exact root_decay z _

/-- The gradient by the logarithm of the decay in a block is the reference's. -/
theorem point_dlog (c : Dev nD) (t : Fin cfg0.N) (p : Fin 1408) (j : Fin 128) :
    k0_pay20 (F := Ideal) (k0_pay15 (iblk m c 3 t) (iblk m c 5 t) (iblk m c 6 t)) (k0_pay17 (iblk m c 2 t) (iblk m c 4 t) (iblk m c 0 t))
      (k0_pay18 (iblk m c 5 t) (iblk m c 1 t)) (k0_pay19 (iblk m c 5 t)) (ix2 p j)
      = dlogK (m ((c : Thread nD τ).loc main_arg6) (ix2 (row t p) (ch (grp t) j))) (m ((c : Thread nD τ).loc main_arg7) (ix2 (row t p) (ch (grp t) j)))
          (m ((c : Thread nD τ).loc main_arg0) (ix2 (row t p) (ch (grp t) j))) (Ig m c (ix3 (row t p) (grp t) j)) (ld m c t p j) := by
  refine (pay20_apply _ _ _ _ _ _ _ p j).trans ?_
  rw [point_root]
  have h1 := blk_db m c t p j
  have h2 := blk_da m c t p j
  have h3 := blk_x m c t p j
  have h4 := blk_i m c t p j
  have h5 := blk_a m c t p j
  dsimp only at h1 h2 h3 h4 h5
  rw [h1, h2, h3, h4, h5, dlogK]

/-- The gradient by the recurrence gate in a block is the reference's. -/
theorem point_dzr (c : Dev nD) (t : Fin cfg0.N) (p : Fin 1408) (j : Fin 128) :
    dzr m c t (ix2 p j) = DZRm m c (ix3 (row t p) (grp t) j) := by
  refine (pay22_apply _ _ _ _ _ _ _ _ p j (point_dlog m c t p j)).trans ?_
  have h1 := blk_r m c t p j
  have h3 := blk_lam m c t 0 j
  dsimp only at h1 h3
  rw [h1, h3, DZRm, DZR_apply]
  obtain ⟨z, hz⟩ := Rg_logi m c (ix3 (row t p) (grp t) j)
  unfold ld
  rw [hz]
  exact dzr_eq _ _ _ _ z _

/-- The gradient by the input gate in a block is the reference's. -/
theorem point_dzi (c : Dev nD) (t : Fin cfg0.N) (p : Fin 1408) (j : Fin 128) :
    dzi m c t (ix2 p j) = DZIm m c (ix3 (row t p) (grp t) j) := by
  refine (pay23_apply _ _ _ _ _ _ p j).trans ?_
  rw [point_root]
  have h1 := blk_db m c t p j
  have h3 := blk_x m c t p j
  have h4 := blk_i m c t p j
  dsimp only at h1 h3 h4
  rw [h1, h3, h4, DZIm, DZI_apply]
  unfold ld
  ac_rfl

end Cert.GatesKernelIdeal.Hand

end
-- ==== Proof.Gates.lean ====
/- The gates' backward call against the gradient of the reference: its six results.

   The gradient with respect to the branch is stored tile by tile. The gradients of the two weights, of the two biases
   and of the decay are summed over the row tiles: the first tile stores its sum, the others add theirs. -/
module

public import proofs.«01_k».proof.Proof.GatesPoint

@[expose] public section

set_option maxRecDepth 16384

noncomputable section

open Idealize.ShloMosaic Idealize.ShloMosaic.TcCoe Idealize.SL.Sem
open Idealize.ShloMosaic.Pipeline (Dat)

namespace Cert.GatesKernelIdeal.Hand

open Cert.GatesKernelIdeal Cert.GatesKernelIdeal.Gen
open Cert.GatesReferenceIdeal.Hand
open Cert.Gates

variable (m : (ℓ : Loc nD τ sig) → Buf (Elt Ideal) ℓ)

/-- The reference's first result for the call's arguments. -/
abbrev REFxm (c : Dev nD) : FVec Ideal Cert.GatesReferenceIdeal.S4224x2048 .f32 :=
  REFx (Rg m c) (Ig m c) (m ((c : Thread nD τ).loc main_arg5)) (m ((c : Thread nD τ).loc main_arg0))
    (m ((c : Thread nD τ).loc main_arg6)) (m ((c : Thread nD τ).loc main_arg7)) (m ((c : Thread nD τ).loc main_arg1))
    (m ((c : Thread nD τ).loc main_arg3))

section
variable (x r i a db da : FVec Ideal S1408x128 .f32) (lam : FVec Ideal S1x128 .f32)

/-- The gradient by the gates' input, one entry of a block: both gates' parts and the direct one. -/
theorem pay27_apply (wa wx : FVec Ideal S1x128x128 .bf16) (zr zi : FVec Ideal S1408x128 .f32)
    (hr : k0_pay22 (F := Ideal) (k0_pay11 r) (k0_pay14 lam) (k0_pay15 r a lam) (k0_pay17 x i db) (k0_pay18 a da) (k0_pay19 a) = zr)
    (hi : k0_pay23 (F := Ideal) x (k0_pay12 i) (k0_pay16 r a db lam) = zi) (p : Fin 1408) (j : Fin 128) :
    k0_pay27 (F := Ideal) x (k0_pay11 r) (k0_pay12 i) (k0_pay14 lam) (k0_pay15 r a lam) (k0_pay16 r a db lam) (k0_pay17 x i db)
      (k0_pay18 a da) (k0_pay19 a) wa wx (ix2 p j)
      = db (ix2 p j) * k0_pay15 (F := Ideal) r a lam (ix2 p j) * i (ix2 p j) + ∑ k : Fin 128, zr (ix2 p k) * wa (ix3 0 j k)
        + ∑ k : Fin 128, zi (ix2 p k) * wx (ix3 0 j k) := by
  generalize hS : k0_pay15 (F := Ideal) r a lam = S at *
  pointwise [k0_pay27, k0_pay24, k0_pay25, hr, hi, k0_pay16, k0_pay12, hS]
  subst hi hS
  have e : k0_pay12 (F := Ideal) i = i := shapeCast_self _ _
  rw [e]
  rfl

/-- The recurrence gate's gradient by its weight, one entry of a point's part. -/
theorem pay28_apply (zr : FVec Ideal S1408x128 .f32)
    (hr : k0_pay22 (F := Ideal) (k0_pay11 r) (k0_pay14 lam) (k0_pay15 r a lam) (k0_pay17 x i db) (k0_pay18 a da) (k0_pay19 a) = zr)
    (k j : Fin 128) :
    k0_pay28 (F := Ideal) x (k0_pay11 r) (k0_pay14 lam) (k0_pay15 r a lam) (k0_pay17 x i db) (k0_pay18 a da) (k0_pay19 a) (ix2 k j)
      = ∑ p : Fin 1408, x (ix2 p k) * zr (ix2 p j) := by
  pointwise [k0_pay28, k0_pay26, k0_pay24, hr]

/-- The input gate's gradient by its weight, one entry of a point's part. -/
theorem pay29_apply (zi : FVec Ideal S1408x128 .f32) (hi : k0_pay23 (F := Ideal) x (k0_pay12 i) (k0_pay16 r a db lam) = zi)
    (k j : Fin 128) :
    k0_pay29 (F := Ideal) x (k0_pay12 i) (k0_pay16 r a db lam) (ix2 k j) = ∑ p : Fin 1408, x (ix2 p k) * zi (ix2 p j) := by
  pointwise [k0_pay29, k0_pay26, k0_pay25, hi]

/-- The recurrence gate's gradient by its bias, one entry of a point's part. -/
theorem pay30_apply (zr : FVec Ideal S1408x128 .f32)
    (hr : k0_pay22 (F := Ideal) (k0_pay11 r) (k0_pay14 lam) (k0_pay15 r a lam) (k0_pay17 x i db) (k0_pay18 a da) (k0_pay19 a) = zr)
    (z : Fin 1) (j : Fin 128) :
    k0_pay30 (F := Ideal) (k0_pay11 r) (k0_pay14 lam) (k0_pay15 r a lam) (k0_pay17 x i db) (k0_pay18 a da) (k0_pay19 a) (ix2 z j)
      = ∑ p : Fin 1408, zr (ix2 p j) := by
  pointwise [k0_pay30, hr]

/-- The input gate's gradient by its bias, one entry of a point's part. -/
theorem pay31_apply (zi : FVec Ideal S1408x128 .f32) (hi : k0_pay23 (F := Ideal) x (k0_pay12 i) (k0_pay16 r a db lam) = zi)
    (z : Fin 1) (j : Fin 128) :
    k0_pay31 (F := Ideal) x (k0_pay12 i) (k0_pay16 r a db lam) (ix2 z j) = ∑ p : Fin 1408, zi (ix2 p j) := by
  pointwise [k0_pay31, hi]

end

/-- The first result's block. -/
theorem point_x (c : Dev nD) (t : Fin cfg0.N) (p : Fin 1408) (j : Fin 128) :
    k0_pay27 (F := Ideal) (iblk m c 2 t) (k0_pay11 (iblk m c 3 t)) (k0_pay12 (iblk m c 4 t)) (k0_pay14 (iblk m c 6 t))
      (k0_pay15 (iblk m c 3 t) (iblk m c 5 t) (iblk m c 6 t)) (k0_pay16 (iblk m c 3 t) (iblk m c 5 t) (iblk m c 0 t) (iblk m c 6 t))
      (k0_pay17 (iblk m c 2 t) (iblk m c 4 t) (iblk m c 0 t)) (k0_pay18 (iblk m c 5 t) (iblk m c 1 t)) (k0_pay19 (iblk m c 5 t))
      (iblk m c 7 t) (iblk m c 8 t) (ix2 p j) = REFxm m c (ix2 (row t p) (ch (grp t) j)) := by
  refine (pay27_apply _ _ _ _ _ _ _ _ _ (dzr m c t) (dzi m c t) rfl rfl p j).trans ?_
  rw [point_root]
  have h1 := blk_db m c t p j
  have h4 := blk_i m c t p j
  have h5 := fun k => blk_wa m c t 0 j k
  have h6 := fun k => blk_wx m c t 0 j k
  dsimp only at h1 h4 h5 h6
  simp only [point_dzr, point_dzi, h1, h4, h5, h6]
  rw [REFxm, REFx_apply, add_assoc, add_comm (∑ k : Fin 128, DZRm m c _ * _)]
  refine congrArg₂ (· + ·) ?_ rfl
  unfold ld
  ac_rfl

/-- The call's first result: the gradient of the convolution's output. -/
theorem final_9 (c : Dev nD) : (dats m 0 c).arrAt 9 (cfgs 0).N = REFxm m c := by
  refine (dats m 0 c).arrAt_eq_of_covers 9 _ (by decide +kernel) fun t hf y => ?_
  obtain ⟨p, j, rfl⟩ : ∃ (p : Fin 1408) (j : Fin 128), y = ix2 p j := ⟨y 0, y 1, by funext i; fin_cases i <;> rfl⟩
  have e : ((cfg0.win 9).blk t).view.emb (ix2 p j) = ix2 (row t p) (ch (grp t) j) := by blk_ext [idx t]
  blk_simp
  rw [after0_9, e]
  by_cases h : t.val % 3 = 0
  · rw [outsAt0_A m c t h (by omega) (by omega)]
    dsimp only
    frame_out
    exact point_x m c t p j
  · by_cases h2 : t.val % 3 = 2
    · rw [outsAt0_C m c t h (by omega) h2]
      dsimp only
      frame_out
      exact point_x m c t p j
    · rw [outsAt0_B m c t h (by omega) h2]
      dsimp only
      frame_out
      exact point_x m c t p j

/-! The results summed over a group's three points. -/

/-- What one point adds to a gate's weights' gradient: its rows' products. -/
def partW (x : S4224x2048.Idx → EReal) (dz : Cert.GatesReferenceIdeal.S4224x16x128.Idx → EReal) (t : Fin cfg0.N) (k j : Fin 128) : EReal :=
  ∑ p : Fin 1408, dz (ix3 (row t p) (grp t) j) * x (ix2 (row t p) (ch (grp t) k))

/-- What one point adds to a gate's bias' gradient: its rows' sum. -/
def partB (dz : Cert.GatesReferenceIdeal.S4224x16x128.Idx → EReal) (t : Fin cfg0.N) (j : Fin 128) : EReal :=
  ∑ p : Fin 1408, dz (ix3 (row t p) (grp t) j)

/-- A point's part of the recurrence gate's weight gradient, in the reference's numbers. -/
theorem point_wa (c : Dev nD) (t : Fin cfg0.N) (k j : Fin 128) :
    k0_pay28 (F := Ideal) (iblk m c 2 t) (k0_pay11 (iblk m c 3 t)) (k0_pay14 (iblk m c 6 t))
      (k0_pay15 (iblk m c 3 t) (iblk m c 5 t) (iblk m c 6 t)) (k0_pay17 (iblk m c 2 t) (iblk m c 4 t) (iblk m c 0 t))
      (k0_pay18 (iblk m c 5 t) (iblk m c 1 t)) (k0_pay19 (iblk m c 5 t)) (ix2 k j)
      = partW (m ((c : Thread nD τ).loc main_arg0)) (DZRm m c) t k j := by
  refine (pay28_apply _ _ _ _ _ _ _ (dzr m c t) rfl k j).trans (Finset.sum_congr rfl fun p _ => ?_)
  rw [point_dzr, mul_comm]
  exact congrArg _ (blk_x m c t p k)

/-- A point's part of the input gate's weight gradient, in the reference's numbers. -/
theorem point_wx (c : Dev nD) (t : Fin cfg0.N) (k j : Fin 128) :
    k0_pay29 (F := Ideal) (iblk m c 2 t) (k0_pay12 (iblk m c 4 t)) (k0_pay16 (iblk m c 3 t) (iblk m c 5 t) (iblk m c 0 t) (iblk m c 6 t)) (ix2 k j)
      = partW (m ((c : Thread nD τ).loc main_arg0)) (DZIm m c) t k j := by
  refine (pay29_apply _ _ _ _ _ _ (dzi m c t) rfl k j).trans (Finset.sum_congr rfl fun p _ => ?_)
  rw [point_dzi, mul_comm]
  exact congrArg _ (blk_x m c t p k)

/-- A point's part of the recurrence gate's bias gradient, in the reference's numbers. -/
theorem point_ba (c : Dev nD) (t : Fin cfg0.N) (z : Fin 1) (j : Fin 128) :
    k0_pay30 (F := Ideal) (k0_pay11 (iblk m c 3 t)) (k0_pay14 (iblk m c 6 t))
      (k0_pay15 (iblk m c 3 t) (iblk m c 5 t) (iblk m c 6 t)) (k0_pay17 (iblk m c 2 t) (iblk m c 4 t) (iblk m c 0 t))
      (k0_pay18 (iblk m c 5 t) (iblk m c 1 t)) (k0_pay19 (iblk m c 5 t)) (ix2 z j) = partB (DZRm m c) t j := by
  refine (pay30_apply _ _ _ _ _ _ _ (dzr m c t) rfl z j).trans (Finset.sum_congr rfl fun p _ => ?_)
  rw [point_dzr]

/-- A point's part of the input gate's bias gradient, in the reference's numbers. -/
theorem point_bx (c : Dev nD) (t : Fin cfg0.N) (z : Fin 1) (j : Fin 128) :
    k0_pay31 (F := Ideal) (iblk m c 2 t) (k0_pay12 (iblk m c 4 t)) (k0_pay16 (iblk m c 3 t) (iblk m c 5 t) (iblk m c 0 t) (iblk m c 6 t)) (ix2 z j)
      = partB (DZIm m c) t j := by
  refine (pay31_apply _ _ _ _ _ _ (dzi m c t) rfl z j).trans (Finset.sum_congr rfl fun p _ => ?_)
  rw [point_dzi]

/-- The group of a run's points is the last one's. -/
theorem grp_run (t : Fin cfg0.N) (s : Fin 3) (hs : 3 * (t.val / 3) + s.val < cfg0.N) :
    grp ⟨3 * (t.val / 3) + s.val, hs⟩ = grp t := by
  refine Fin.ext ?_
  show (3 * (t.val / 3) + s.val) / 3 = t.val / 3
  omega

/-- A row of a run's point. -/
theorem row_run (t : Fin cfg0.N) (s : Fin 3) (hs : 3 * (t.val / 3) + s.val < cfg0.N) (p : Fin 1408) (hl : s.val * 1408 + p.val < 4224) :
    row ⟨3 * (t.val / 3) + s.val, hs⟩ p = ⟨s.val * 1408 + p.val, hl⟩ := by
  refine Fin.ext ?_
  show (3 * (t.val / 3) + s.val) % 3 * 1408 + p.val = s.val * 1408 + p.val
  omega

/-- The first point of a group starts result 1 with its part. -/
theorem start_10 (c : Dev nD) (t : Fin cfg0.N) (h : t.val % 3 = 0) (y : S1x128x128.Idx) :
    (outsAt0 m c t.val t.isLt).2.1 y = 0 + partW (m ((c : Thread nD τ).loc main_arg0)) (DZRm m c) t (y 1) (y 2) := by
  obtain ⟨z, k, j, rfl⟩ : ∃ (z : Fin 1) (k : Fin 128) (j : Fin 128), y = ix3 z k j :=
    ⟨y 0, y 1, y 2, by funext i; fin_cases i <;> rfl⟩
  rw [outsAt0_A m c t h (by omega) (by omega), zero_add]
  dsimp only
  frame_out
  pointwise [k0_pay1]
  exact point_wa m c t k j

/-- A later point adds its part. -/
theorem step_10 (c : Dev nD) (t : Fin cfg0.N) (h : ¬ t.val % 3 = 0) (y : S1x128x128.Idx) :
    (outsAt0 m c t.val t.isLt).2.1 y
      = (outsAt0 m c (t.val - 1) (Nat.lt_of_le_of_lt (Nat.sub_le _ _) t.isLt)).2.1 y + partW (m ((c : Thread nD τ).loc main_arg0)) (DZRm m c) t (y 1) (y 2) := by
  obtain ⟨z, k, j, rfl⟩ : ∃ (z : Fin 1) (k : Fin 128) (j : Fin 128), y = ix3 z k j :=
    ⟨y 0, y 1, y 2, by funext i; fin_cases i <;> rfl⟩
  by_cases h2 : t.val % 3 = 2
  · rw [outsAt0_C m c t h (by omega) h2]
    dsimp only
    generalize (outsAt0 m c (t.val - 1) (Nat.lt_of_le_of_lt (Nat.sub_le _ _) t.isLt)).2.1 = a
    frame_out
    pointwise [k0_pay6]
    exact congrArg₂ (· + ·) (congrArg a (by funext i; fin_cases i <;> first | rfl | exact Subsingleton.elim (α := Fin 1) _ _)) (point_wa m c t k j)
  · rw [outsAt0_B m c t h (by omega) h2]
    dsimp only
    generalize (outsAt0 m c (t.val - 1) (Nat.lt_of_le_of_lt (Nat.sub_le _ _) t.isLt)).2.1 = a
    frame_out
    pointwise [k0_pay6]
    exact congrArg₂ (· + ·) (congrArg a (by funext i; fin_cases i <;> first | rfl | exact Subsingleton.elim (α := Fin 1) _ _)) (point_wa m c t k j)

/-- The second result: the recurrence gate's weights' gradient. -/
theorem final_10 (c : Dev nD) : (dats m 0 c).arrAt 10 (cfgs 0).N = REFw (DZRm m c) (m ((c : Thread nD τ).loc main_arg0)) := by
  refine (dats m 0 c).arrAt_eq_of_covers 10 _ (by decide +kernel) fun t hf y => ?_
  have h2 := (flush0_10 t).mp hf
  obtain ⟨z, k, j, rfl⟩ : ∃ (z : Fin 1) (k : Fin 128) (j : Fin 128), y = ix3 z k j :=
    ⟨y 0, y 1, y 2, by funext i; fin_cases i <;> rfl⟩
  have e : ((cfg0.win 10).blk t).view.emb (ix3 z k j) = ix3 (grp t) k j := by blk_ext [idx t]
  blk_simp
  rw [after0_10, e, REFw_apply]
  refine (Pipeline.eq_sum_fin_of_reset_step_apply_of_flush (fun n h => (outsAt0 m c n h).2.1) 3 (fun _ => (0 : EReal))
    (fun t (y : S1x128x128.Idx) => partW (m ((c : Thread nD τ).loc main_arg0)) (DZRm m c) t (y 1) (y 2)) (start_10 m c) (step_10 m c) t h2 (ix3 z k j)).trans ((zero_add _).trans ?_)
  unfold partW
  refine Fin.sum_mul_add_congr fun s k hl => ?_
  rw [grp_run, row_run t s _ k hl]
  rfl

/-- The first point of a group starts result 2 with its part. -/
theorem start_11 (c : Dev nD) (t : Fin cfg0.N) (h : t.val % 3 = 0) (y : S1x1x128.Idx) :
    (outsAt0 m c t.val t.isLt).2.2.1 y = 0 + partB (DZRm m c) t (y 2) := by
  obtain ⟨z, w, j, rfl⟩ : ∃ (z : Fin 1) (w : Fin 1) (j : Fin 128), y = ix3 z w j :=
    ⟨y 0, y 1, y 2, by funext i; fin_cases i <;> rfl⟩
  rw [outsAt0_A m c t h (by omega) (by omega), zero_add]
  dsimp only
  frame_out
  pointwise [k0_pay3]
  exact point_ba m c t 0 j

/-- A later point adds its part. -/
theorem step_11 (c : Dev nD) (t : Fin cfg0.N) (h : ¬ t.val % 3 = 0) (y : S1x1x128.Idx) :
    (outsAt0 m c t.val t.isLt).2.2.1 y
      = (outsAt0 m c (t.val - 1) (Nat.lt_of_le_of_lt (Nat.sub_le _ _) t.isLt)).2.2.1 y + partB (DZRm m c) t (y 2) := by
  obtain ⟨z, w, j, rfl⟩ : ∃ (z : Fin 1) (w : Fin 1) (j : Fin 128), y = ix3 z w j :=
    ⟨y 0, y 1, y 2, by funext i; fin_cases i <;> rfl⟩
  by_cases h2 : t.val % 3 = 2
  · rw [outsAt0_C m c t h (by omega) h2]
    dsimp only
    generalize (outsAt0 m c (t.val - 1) (Nat.lt_of_le_of_lt (Nat.sub_le _ _) t.isLt)).2.2.1 = a
    frame_out
    pointwise [k0_pay8]
    exact congrArg₂ (· + ·) (congrArg a (by funext i; fin_cases i <;> first | rfl | exact Subsingleton.elim (α := Fin 1) _ _)) (point_ba m c t 0 j)
  · rw [outsAt0_B m c t h (by omega) h2]
    dsimp only
    generalize (outsAt0 m c (t.val - 1) (Nat.lt_of_le_of_lt (Nat.sub_le _ _) t.isLt)).2.2.1 = a
    frame_out
    pointwise [k0_pay8]
    exact congrArg₂ (· + ·) (congrArg a (by funext i; fin_cases i <;> first | rfl | exact Subsingleton.elim (α := Fin 1) _ _)) (point_ba m c t 0 j)

/-- The third result: the recurrence gate's bias' gradient. -/
theorem final_11 (c : Dev nD) : (dats m 0 c).arrAt 11 (cfgs 0).N = REFb (DZRm m c) := by
  refine (dats m 0 c).arrAt_eq_of_covers 11 _ (by decide +kernel) fun t hf y => ?_
  have h2 := (flush0_11 t).mp hf
  obtain ⟨z, w, j, rfl⟩ : ∃ (z : Fin 1) (w : Fin 1) (j : Fin 128), y = ix3 z w j :=
    ⟨y 0, y 1, y 2, by funext i; fin_cases i <;> rfl⟩
  have e : ((cfg0.win 11).blk t).view.emb (ix3 z w j) = ix3 (grp t) w j := by blk_ext [idx t]
  blk_simp
  rw [after0_11, e, REFb_apply]
  refine (Pipeline.eq_sum_fin_of_reset_step_apply_of_flush (fun n h => (outsAt0 m c n h).2.2.1) 3 (fun _ => (0 : EReal))
    (fun t (y : S1x1x128.Idx) => partB (DZRm m c) t (y 2)) (start_11 m c) (step_11 m c) t h2 (ix3 z w j)).trans ((zero_add _).trans ?_)
  unfold partB
  refine Fin.sum_mul_add_congr fun s k hl => ?_
  rw [grp_run, row_run t s _ k hl]
  rfl

/-- The first point of a group starts result 3 with its part. -/
theorem start_12 (c : Dev nD) (t : Fin cfg0.N) (h : t.val % 3 = 0) (y : S1x128x128.Idx) :
    (outsAt0 m c t.val t.isLt).2.2.2.1 y = 0 + partW (m ((c : Thread nD τ).loc main_arg0)) (DZIm m c) t (y 1) (y 2) := by
  obtain ⟨z, k, j, rfl⟩ : ∃ (z : Fin 1) (k : Fin 128) (j : Fin 128), y = ix3 z k j :=
    ⟨y 0, y 1, y 2, by funext i; fin_cases i <;> rfl⟩
  rw [outsAt0_A m c t h (by omega) (by omega), zero_add]
  dsimp only
  frame_out
  pointwise [k0_pay2]
  exact point_wx m c t k j

/-- A later point adds its part. -/
theorem step_12 (c : Dev nD) (t : Fin cfg0.N) (h : ¬ t.val % 3 = 0) (y : S1x128x128.Idx) :
    (outsAt0 m c t.val t.isLt).2.2.2.1 y
      = (outsAt0 m c (t.val - 1) (Nat.lt_of_le_of_lt (Nat.sub_le _ _) t.isLt)).2.2.2.1 y + partW (m ((c : Thread nD τ).loc main_arg0)) (DZIm m c) t (y 1) (y 2) := by
  obtain ⟨z, k, j, rfl⟩ : ∃ (z : Fin 1) (k : Fin 128) (j : Fin 128), y = ix3 z k j :=
    ⟨y 0, y 1, y 2, by funext i; fin_cases i <;> rfl⟩
  by_cases h2 : t.val % 3 = 2
  · rw [outsAt0_C m c t h (by omega) h2]
    dsimp only
    generalize (outsAt0 m c (t.val - 1) (Nat.lt_of_le_of_lt (Nat.sub_le _ _) t.isLt)).2.2.2.1 = a
    frame_out
    pointwise [k0_pay7]
    exact congrArg₂ (· + ·) (congrArg a (by funext i; fin_cases i <;> first | rfl | exact Subsingleton.elim (α := Fin 1) _ _)) (point_wx m c t k j)
  · rw [outsAt0_B m c t h (by omega) h2]
    dsimp only
    generalize (outsAt0 m c (t.val - 1) (Nat.lt_of_le_of_lt (Nat.sub_le _ _) t.isLt)).2.2.2.1 = a
    frame_out
    pointwise [k0_pay7]
    exact congrArg₂ (· + ·) (congrArg a (by funext i; fin_cases i <;> first | rfl | exact Subsingleton.elim (α := Fin 1) _ _)) (point_wx m c t k j)

/-- The fourth result: the input gate's weights' gradient. -/
theorem final_12 (c : Dev nD) : (dats m 0 c).arrAt 12 (cfgs 0).N = REFw (DZIm m c) (m ((c : Thread nD τ).loc main_arg0)) := by
  refine (dats m 0 c).arrAt_eq_of_covers 12 _ (by decide +kernel) fun t hf y => ?_
  have h2 := (flush0_12 t).mp hf
  obtain ⟨z, k, j, rfl⟩ : ∃ (z : Fin 1) (k : Fin 128) (j : Fin 128), y = ix3 z k j :=
    ⟨y 0, y 1, y 2, by funext i; fin_cases i <;> rfl⟩
  have e : ((cfg0.win 12).blk t).view.emb (ix3 z k j) = ix3 (grp t) k j := by blk_ext [idx t]
  blk_simp
  rw [after0_12, e, REFw_apply]
  refine (Pipeline.eq_sum_fin_of_reset_step_apply_of_flush (fun n h => (outsAt0 m c n h).2.2.2.1) 3 (fun _ => (0 : EReal))
    (fun t (y : S1x128x128.Idx) => partW (m ((c : Thread nD τ).loc main_arg0)) (DZIm m c) t (y 1) (y 2)) (start_12 m c) (step_12 m c) t h2 (ix3 z k j)).trans ((zero_add _).trans ?_)
  unfold partW
  refine Fin.sum_mul_add_congr fun s k hl => ?_
  rw [grp_run, row_run t s _ k hl]
  rfl

/-- The first point of a group starts result 4 with its part. -/
theorem start_13 (c : Dev nD) (t : Fin cfg0.N) (h : t.val % 3 = 0) (y : S1x1x128.Idx) :
    (outsAt0 m c t.val t.isLt).2.2.2.2.1 y = 0 + partB (DZIm m c) t (y 2) := by
  obtain ⟨z, w, j, rfl⟩ : ∃ (z : Fin 1) (w : Fin 1) (j : Fin 128), y = ix3 z w j :=
    ⟨y 0, y 1, y 2, by funext i; fin_cases i <;> rfl⟩
  rw [outsAt0_A m c t h (by omega) (by omega), zero_add]
  dsimp only
  frame_out
  pointwise [k0_pay4]
  exact point_bx m c t 0 j

/-- A later point adds its part. -/
theorem step_13 (c : Dev nD) (t : Fin cfg0.N) (h : ¬ t.val % 3 = 0) (y : S1x1x128.Idx) :
    (outsAt0 m c t.val t.isLt).2.2.2.2.1 y
      = (outsAt0 m c (t.val - 1) (Nat.lt_of_le_of_lt (Nat.sub_le _ _) t.isLt)).2.2.2.2.1 y + partB (DZIm m c) t (y 2) := by
  obtain ⟨z, w, j, rfl⟩ : ∃ (z : Fin 1) (w : Fin 1) (j : Fin 128), y = ix3 z w j :=
    ⟨y 0, y 1, y 2, by funext i; fin_cases i <;> rfl⟩
  by_cases h2 : t.val % 3 = 2
  · rw [outsAt0_C m c t h (by omega) h2]
    dsimp only
    generalize (outsAt0 m c (t.val - 1) (Nat.lt_of_le_of_lt (Nat.sub_le _ _) t.isLt)).2.2.2.2.1 = a
    frame_out
    pointwise [k0_pay9]
    exact congrArg₂ (· + ·) (congrArg a (by funext i; fin_cases i <;> first | rfl | exact Subsingleton.elim (α := Fin 1) _ _)) (point_bx m c t 0 j)
  · rw [outsAt0_B m c t h (by omega) h2]
    dsimp only
    generalize (outsAt0 m c (t.val - 1) (Nat.lt_of_le_of_lt (Nat.sub_le _ _) t.isLt)).2.2.2.2.1 = a
    frame_out
    pointwise [k0_pay9]
    exact congrArg₂ (· + ·) (congrArg a (by funext i; fin_cases i <;> first | rfl | exact Subsingleton.elim (α := Fin 1) _ _)) (point_bx m c t 0 j)

/-- The fifth result: the input gate's bias' gradient. -/
theorem final_13 (c : Dev nD) : (dats m 0 c).arrAt 13 (cfgs 0).N = REFb (DZIm m c) := by
  refine (dats m 0 c).arrAt_eq_of_covers 13 _ (by decide +kernel) fun t hf y => ?_
  have h2 := (flush0_13 t).mp hf
  obtain ⟨z, w, j, rfl⟩ : ∃ (z : Fin 1) (w : Fin 1) (j : Fin 128), y = ix3 z w j :=
    ⟨y 0, y 1, y 2, by funext i; fin_cases i <;> rfl⟩
  have e : ((cfg0.win 13).blk t).view.emb (ix3 z w j) = ix3 (grp t) w j := by blk_ext [idx t]
  blk_simp
  rw [after0_13, e, REFb_apply]
  refine (Pipeline.eq_sum_fin_of_reset_step_apply_of_flush (fun n h => (outsAt0 m c n h).2.2.2.2.1) 3 (fun _ => (0 : EReal))
    (fun t (y : S1x1x128.Idx) => partB (DZIm m c) t (y 2)) (start_13 m c) (step_13 m c) t h2 (ix3 z w j)).trans ((zero_add _).trans ?_)
  unfold partB
  refine Fin.sum_mul_add_congr fun s k hl => ?_
  rw [grp_run, row_run t s _ k hl]
  rfl

/-! The gradient of `lam`, summed over a group's three points and scaled at the last. -/

/-- What one point adds to it: its rows' sum. -/
def partL (c : Dev nD) (t : Fin cfg0.N) (j : Fin 128) : EReal :=
  ∑ p : Fin 1408, dlogK (m ((c : Thread nD τ).loc main_arg6) (ix2 (row t p) (ch (grp t) j))) (m ((c : Thread nD τ).loc main_arg7) (ix2 (row t p) (ch (grp t) j)))
      (m ((c : Thread nD τ).loc main_arg0) (ix2 (row t p) (ch (grp t) j))) (Ig m c (ix3 (row t p) (grp t) j)) (ld m c t p j)
    * (((-8 : ℝ) : EReal) * Rg m c (ix3 (row t p) (grp t) j))

/-- A point's part of the decay parameter's gradient, in the reference's numbers. -/
theorem point_l (c : Dev nD) (t : Fin cfg0.N) (z : Fin 1) (j : Fin 128) :
    k0_pay21 (F := Ideal) (k0_pay11 (iblk m c 3 t)) (k0_pay15 (iblk m c 3 t) (iblk m c 5 t) (iblk m c 6 t))
      (k0_pay17 (iblk m c 2 t) (iblk m c 4 t) (iblk m c 0 t)) (k0_pay18 (iblk m c 5 t) (iblk m c 1 t)) (k0_pay19 (iblk m c 5 t)) (ix2 z j)
      = partL m c t j := by
  refine (pay21_apply _ _ _ _ _ _ _ _ (fun p j => rfl) z j).trans (Finset.sum_congr rfl fun p _ => ?_)
  exact congrArg₂ (fun a b : EReal => a * (((-8 : ℝ) : EReal) * b)) (point_dlog m c t p j) (blk_r m c t p j)

/-- What the last point of a run stores for the decay parameter: its sum times the softplus's slope. -/
theorem pay5_apply (s lam : FVec Ideal S1x128 .f32) (z : Fin 1) (j : Fin 128) :
    k0_pay5 (F := Ideal) s lam (ix2 z j) = -(s (ix2 z j) * logi (-(lam (ix2 z j)))) := by
  rw [← mul_neg, logi]
  pointwise [k0_pay5]
  rw [zero_sub, zero_sub, zero_sub]
  try rfl

/-- The first point of a run starts the decay parameter's sum with its part. -/
theorem start_14 (c : Dev nD) (t : Fin cfg0.N) (h : t.val % 3 = 0) (z : Fin 1) (j : Fin 128) :
    (outsAt0 m c t.val t.isLt).2.2.2.2.2 (ix2 z j) = partL m c t j := by
  rw [outsAt0_A m c t h (by omega) (by omega)]
  dsimp only
  frame_out
  exact point_l m c t z j

/-- A point in the middle of a run adds its part to the decay parameter's sum. -/
theorem step_14 (c : Dev nD) (t : Fin cfg0.N) (h : ¬ t.val % 3 = 0) (h2 : ¬ t.val % 3 = 2) (z : Fin 1) (j : Fin 128) :
    (outsAt0 m c t.val t.isLt).2.2.2.2.2 (ix2 z j)
      = (outsAt0 m c (t.val - 1) (Nat.lt_of_le_of_lt (Nat.sub_le _ _) t.isLt)).2.2.2.2.2 (ix2 z j) + partL m c t j := by
  rw [outsAt0_B m c t h (by omega) h2]
  dsimp only
  generalize (outsAt0 m c (t.val - 1) (Nat.lt_of_le_of_lt (Nat.sub_le _ _) t.isLt)).2.2.2.2.2 = a
  have hp := point_l m c t z j
  frame_out
  generalize k0_pay21 (F := Ideal) _ _ _ _ _ = G at *
  pointwise [k0_pay10]
  exact congrArg _ hp

/-- The last point of a run adds its part and multiplies by the softplus's slope. -/
theorem last_14 (c : Dev nD) (t : Fin cfg0.N) (h2 : t.val % 3 = 2) (z : Fin 1) (j : Fin 128) :
    (outsAt0 m c t.val t.isLt).2.2.2.2.2 (ix2 z j)
      = -(((outsAt0 m c (t.val - 1) (Nat.lt_of_le_of_lt (Nat.sub_le _ _) t.isLt)).2.2.2.2.2 (ix2 z j) + partL m c t j)
          * logi (-(show EReal from m ((c : Thread nD τ).loc main_arg5) (ix1 (ch (grp t) j))))) := by
  rw [outsAt0_C m c t (by omega) (by omega) h2]
  dsimp only
  generalize (outsAt0 m c (t.val - 1) (Nat.lt_of_le_of_lt (Nat.sub_le _ _) t.isLt)).2.2.2.2.2 = a
  have hp := point_l m c t z j
  have hl := blk_lam m c t z j
  frame_out
  generalize k0_pay21 (F := Ideal) _ _ _ _ _ = G at *
  refine (pay5_apply _ _ z j).trans ?_
  dsimp only at hl
  rw [hl, ← hp]
  pointwise [k0_pay10]

/-- The call's sixth result: the gradient of `lam`. -/
theorem final_14 (c : Dev nD) : (dats m 0 c).arrAt 14 (cfgs 0).N
    = REFl (Rg m c) (Ig m c) (m ((c : Thread nD τ).loc main_arg5)) (m ((c : Thread nD τ).loc main_arg0))
        (m ((c : Thread nD τ).loc main_arg6)) (m ((c : Thread nD τ).loc main_arg7)) := by
  refine (dats m 0 c).arrAt_eq_of_covers 14 _ (by decide +kernel) fun t hf y => ?_
  have h2 := (flush0_14 t).mp hf
  have ht : t.val < 48 := t.isLt
  obtain ⟨z, j, rfl⟩ : ∃ (z : Fin 1) (j : Fin 128), y = ix2 z j := ⟨y 0, y 1, by funext i; fin_cases i <;> rfl⟩
  have e : ((cfg0.win 14).blk t).view.emb (ix2 z j) = ix2 z (ch (grp t) j) := by blk_ext [idx t]
  blk_simp
  rw [after0_14, e, REFl_apply]
  have h3 : t.val % 3 = 2 := by omega
  have t1 : t.val - 1 < cfg0.N := Nat.lt_of_le_of_lt (Nat.sub_le _ _) t.isLt
  have t2 : t.val - 1 - 1 < cfg0.N := Nat.lt_of_le_of_lt (Nat.sub_le _ _) t1
  refine (last_14 m c t h3 z j).trans ?_
  rw [step_14 m c ⟨t.val - 1, t1⟩ (by dsimp only; omega) (by dsimp only; omega) z j,
    start_14 m c ⟨t.val - 1 - 1, t2⟩ (by dsimp only; omega) z j]
  refine congrArg Neg.neg ?_
  by_cases hb : -(show EReal from m ((c : Thread nD τ).loc main_arg5) (ix1 (ch (grp t) j))) = ⊥
  · dsimp only at hb
    rw [hb, logi_bot, mul_zero, mul_zero]
  refine congrArg (· * _) (Eq.trans (b := ∑ s : Fin 3, partL m c ⟨3 * (t.val / 3) + s.val, by have h : cfg0.N = 48 := rfl; omega⟩ j) ?_ ?_)
  · rw [Fin.sum_univ_three]
    refine congrArg₂ (· + ·) (congrArg₂ (· + ·) ?_ ?_) ?_
    · exact congrArg (fun u => partL m c u j) (Fin.ext (by dsimp only; simp; omega))
    · exact congrArg (fun u => partL m c u j) (Fin.ext (by dsimp only; simp; omega))
    · exact congrArg (fun u => partL m c u j) (Fin.ext (by dsimp only; simp; omega))
  unfold partL
  refine Fin.sum_mul_add_congr fun s k hl => ?_
  unfold ld
  rw [grp_run, row_run t s _ k hl]
  obtain ⟨z', hz⟩ := Rg_logi m c (ix3 ⟨s.val * 1408 + k.val, hl⟩ (grp t) j)
  rw [hz]
  exact dsp_eq _ _ _ _ z' _ hb

end Cert.GatesKernelIdeal.Hand

end
-- ==== Proof.GatesClaim.lean ====
/- The gates' backward call against the gradient of the reference: its six results. -/
module

public import proofs.«01_k».proof.Defs
public import proofs.«01_k».proof.Proof.Gates
public import proofs.«01_k».proof.Proof.Gen.GatesReferenceIdeal.Run
public import Idealize.ShloMosaic.Lib.Claim

@[expose] public section

set_option maxRecDepth 16384

noncomputable section

namespace Cert.GatesReferenceIdeal.Hand

open Idealize.ShloMosaic Idealize.SL.Sem Idealize.ShloMosaic.TcCoe
open Cert.GatesReferenceIdeal Cert.GatesReferenceIdeal.Gen

set_option maxHeartbeats 4000000 in
/-- The reference ends with its six results at the functions of its arguments that the other files speak of. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v92)
        = REFx (GATE (m ((c.tc : Thread nD τ).loc main_arg0)) (m ((c.tc : Thread nD τ).loc main_arg1)) (m ((c.tc : Thread nD τ).loc main_arg2)))
            (GATE (m ((c.tc : Thread nD τ).loc main_arg0)) (m ((c.tc : Thread nD τ).loc main_arg3)) (m ((c.tc : Thread nD τ).loc main_arg4)))
            (m ((c.tc : Thread nD τ).loc main_arg5)) (m ((c.tc : Thread nD τ).loc main_arg0)) (m ((c.tc : Thread nD τ).loc main_arg6))
            (m ((c.tc : Thread nD τ).loc main_arg7)) (m ((c.tc : Thread nD τ).loc main_arg1)) (m ((c.tc : Thread nD τ).loc main_arg3))
      ∧ r.2.mem ((c.tc : Thread nD τ).loc main_v90)
        = REFw (DZR (GATE (m ((c.tc : Thread nD τ).loc main_arg0)) (m ((c.tc : Thread nD τ).loc main_arg1)) (m ((c.tc : Thread nD τ).loc main_arg2)))
            (GATE (m ((c.tc : Thread nD τ).loc main_arg0)) (m ((c.tc : Thread nD τ).loc main_arg3)) (m ((c.tc : Thread nD τ).loc main_arg4)))
            (m ((c.tc : Thread nD τ).loc main_arg5)) (m ((c.tc : Thread nD τ).loc main_arg0)) (m ((c.tc : Thread nD τ).loc main_arg6))
            (m ((c.tc : Thread nD τ).loc main_arg7))) (m ((c.tc : Thread nD τ).loc main_arg0))
      ∧ r.2.mem ((c.tc : Thread nD τ).loc main_v93)
        = REFb (DZR (GATE (m ((c.tc : Thread nD τ).loc main_arg0)) (m ((c.tc : Thread nD τ).loc main_arg1)) (m ((c.tc : Thread nD τ).loc main_arg2)))
            (GATE (m ((c.tc : Thread nD τ).loc main_arg0)) (m ((c.tc : Thread nD τ).loc main_arg3)) (m ((c.tc : Thread nD τ).loc main_arg4)))
            (m ((c.tc : Thread nD τ).loc main_arg5)) (m ((c.tc : Thread nD τ).loc main_arg0)) (m ((c.tc : Thread nD τ).loc main_arg6))
            (m ((c.tc : Thread nD τ).loc main_arg7)))
      ∧ r.2.mem ((c.tc : Thread nD τ).loc main_v79)
        = REFw (DZI (GATE (m ((c.tc : Thread nD τ).loc main_arg0)) (m ((c.tc : Thread nD τ).loc main_arg1)) (m ((c.tc : Thread nD τ).loc main_arg2)))
            (GATE (m ((c.tc : Thread nD τ).loc main_arg0)) (m ((c.tc : Thread nD τ).loc main_arg3)) (m ((c.tc : Thread nD τ).loc main_arg4)))
            (m ((c.tc : Thread nD τ).loc main_arg5)) (m ((c.tc : Thread nD τ).loc main_arg0))
            (m ((c.tc : Thread nD τ).loc main_arg7))) (m ((c.tc : Thread nD τ).loc main_arg0))
      ∧ r.2.mem ((c.tc : Thread nD τ).loc main_v94)
        = REFb (DZI (GATE (m ((c.tc : Thread nD τ).loc main_arg0)) (m ((c.tc : Thread nD τ).loc main_arg1)) (m ((c.tc : Thread nD τ).loc main_arg2)))
            (GATE (m ((c.tc : Thread nD τ).loc main_arg0)) (m ((c.tc : Thread nD τ).loc main_arg3)) (m ((c.tc : Thread nD τ).loc main_arg4)))
            (m ((c.tc : Thread nD τ).loc main_arg5)) (m ((c.tc : Thread nD τ).loc main_arg0))
            (m ((c.tc : Thread nD τ).loc main_arg7)))
      ∧ r.2.mem ((c.tc : Thread nD τ).loc main_v95)
        = REFl (GATE (m ((c.tc : Thread nD τ).loc main_arg0)) (m ((c.tc : Thread nD τ).loc main_arg1)) (m ((c.tc : Thread nD τ).loc main_arg2)))
            (GATE (m ((c.tc : Thread nD τ).loc main_arg0)) (m ((c.tc : Thread nD τ).loc main_arg3)) (m ((c.tc : Thread nD τ).loc main_arg4)))
            (m ((c.tc : Thread nD τ).loc main_arg5)) (m ((c.tc : Thread nD τ).loc main_arg0)) (m ((c.tc : Thread nD τ).loc main_arg6))
            (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans rfl, (h c).2.1.trans rfl, (h c).2.2.1.trans rfl, (h c).2.2.2.1.trans rfl,
    (h c).2.2.2.2.1.trans rfl, (h c).2.2.2.2.2.1.trans rfl, (h c).2.2.2.2.2.2⟩) (Value.run m ρ)

end Cert.GatesReferenceIdeal.Hand

namespace Cert.Proof

open Idealize.ShloMosaic Idealize.SL.Sem

set_option maxHeartbeats 1600000 in
/-- The call's six results are the reference's, entry by entry over the extended reals. -/
theorem algebraic_GatesKernelIdeal_GatesReferenceIdeal : Cert.algebraic_GatesKernelIdeal_GatesReferenceIdeal := by
  pair_intro
  · run_from Cert.GatesKernelIdeal.Value.run_blocks m g
  · run_from Cert.GatesReferenceIdeal.Hand.ref_run m' g'
    · exact (Cert.GatesKernelIdeal.Hand.final_9 m c).symm
    · exact (Cert.GatesKernelIdeal.Hand.final_10 m c).symm
    · exact (Cert.GatesKernelIdeal.Hand.final_11 m c).symm
    · exact (Cert.GatesKernelIdeal.Hand.final_12 m c).symm
    · exact (Cert.GatesKernelIdeal.Hand.final_13 m c).symm
    · exact (Cert.GatesKernelIdeal.Hand.final_14 m c).symm

end Cert.Proof

end
-- ==== Proof.LruOutX.lean ====
/- The gradient of an output projection with respect to its left operand: `dmixed = dout @ w_outᵀ`.

   The kernel's grid has 6 row tiles times 4 chip blocks; each point multiplies one 704-row tile of `dout` by one
   512-row block of `w_out` and stores the product in the block of the result at that row tile and chip. The
   reference contracts `dout` with `w_out` over the model dimension. Both are the same sum over 2048 lanes. -/
module

public import proofs.«01_k».proof.Proof.Gen.LruOutXKernelIdeal.Value
public import proofs.«01_k».proof.Proof.Gen.LruOutXReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LruOutXKernelIdeal.Hand

open Cert.LruOutXKernelIdeal Cert.LruOutXKernelIdeal.Gen

variable (m : (ℓ : Loc nD τ sig) → Buf (Elt Ideal) ℓ)

/-- The reference's result as a function of the weight and the incoming gradient. -/
abbrev REF (w : FVec Ideal Cert.LruOutXReferenceIdeal.S2048x2048 .f32)
    (dout : FVec Ideal Cert.LruOutXReferenceIdeal.S4224x2048 .f32) :
    FVec Ideal Cert.LruOutXReferenceIdeal.S4224x2048 .f32 :=
  Host.dotGeneral Cert.LruOutXReferenceIdeal.dot_S4224x2048_S2048x2048_S4224x2048_1_1_0_0_n_n none dout w

/-- The block of each array that a grid point works on. -/
theorem idx : ∀ t : Fin cfg0.N, win0_0.index t = ![t.val / 4, 0] ∧ win0_1.index t = ![t.val % 4, 0, 0, 0]
    ∧ win0_2.index t = ![t.val / 4, t.val % 4] :=
  (by decide +kernel : ∀ t : Fin grid0.N, _)

/-- What a point stores is the reference at the place of the result that the point's block sits at. -/
theorem point (c : Dev nD) (t : Fin cfg0.N) (y) :
    k0_pay1 (iblk m c 0 t) (iblk m c 1 t) y
      = REF (m ((c : Thread nD τ).loc main_arg1)) (m ((c : Thread nD τ).loc main_arg2))
          (((cfg0.win 2).blk t).view.emb y) := by
  pointwise [k0_pay1, REF]
  blk_point [iblk, V, idx t]

/-- The result array after the run is the reference's. -/
theorem final (c : Dev nD) : (dats m 0 c).arrAt 2 (cfgs 0).N
    = REF (m ((c : Thread nD τ).loc main_arg1)) (m ((c : Thread nD τ).loc main_arg2)) := by
  refine (dats m 0 c).arrAt_eq_of_covers 2 _ (by decide +kernel) fun t hf y => ?_
  blk_simp; rw [after0_2]; frame_out
  exact point m c t y

end Cert.LruOutXKernelIdeal.Hand

end
-- ==== Proof.LruOutW.lean ====
/- The gradient of an output projection's weight: `dw = mixedᵀ @ dout`, laid out by device.

   The kernel's grid has 8 row blocks of the weight, 2 column halves and 3 parts of the rows summed over. The
   first point of a run of three keeps its product, the others add theirs, and the last one stores the sum. The reference sums
   over all 4224 rows at once and rearranges the result. -/
module

public import proofs.«01_k».proof.Proof.Gen.LruOutWKernelIdeal.Value
public import proofs.«01_k».proof.Proof.Gen.LruOutWReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LruOutWKernelIdeal.Hand

open Cert.LruOutWKernelIdeal Cert.LruOutWKernelIdeal.Gen

variable (m : (ℓ : Loc nD τ sig) → Buf (Elt Ideal) ℓ)

/-- The reference's result as a function of the mixed activations and the incoming gradient. -/
abbrev REF (mixed : FVec Ideal Cert.LruOutWReferenceIdeal.S4224x2048 .f32)
    (dout : FVec Ideal Cert.LruOutWReferenceIdeal.S4224x2048 .f32) :
    FVec Ideal Cert.LruOutWReferenceIdeal.S8x256x2048 .bf16 :=
  truncf .bf16 (shapeCast Cert.LruOutWReferenceIdeal.S8x256x2048
    (transpose Cert.LruOutWReferenceIdeal.S2048x2048 [1, 0]
      (Host.dotGeneral Cert.LruOutWReferenceIdeal.dot_S4224x2048_S4224x2048_S2048x2048_0_0_1_1_n_n none dout mixed)
      Cert.LruOutWReferenceIdeal.Gen.transposes_S2048x2048_S2048x2048_1_0)
    Cert.LruOutWReferenceIdeal.Gen.shapeCasts_S2048x2048_S8x256x2048) Cert.LruOutWReferenceIdeal.Gen.bitsLt_bf16_f32

/-- The block of each array that a grid point works on. -/
theorem idx : ∀ t : Fin cfg0.N, win0_0.index t = ![t.val % 3, t.val / 6] ∧ win0_1.index t = ![t.val % 3, t.val / 3 % 2]
    ∧ win0_2.index t = ![t.val / 6, 0, t.val / 3 % 2] :=
  (by decide +kernel : ∀ t : Fin grid0.N, _)

/-- The part of a result's entry that one grid point contributes: the sum over its third of the rows. -/
def part (c : Dev nD) (t : Fin cfg0.N) (j : S256x1024.Idx) : EReal :=
  ∑ x : Fin 1408, (show FVec Ideal S1408x256 .bf16 from iblk m c 0 t) (ix2 x (j 0))
    * (show FVec Ideal S1408x1024 .bf16 from iblk m c 1 t) (ix2 x (j 1))

/-- The first point of a run starts the kept sum with its part. -/
theorem start (c : Dev nD) (t : Fin cfg0.N) (h : t.val % 3 = 0) (j : S256x1024.Idx) :
    (outsAt0 m c t.val t.isLt).2 j = 0 + part m c t j := by
  rw [outsAt0_A m c t h (by omega) (by omega)]; frame_out
  pointwise [k0_pay2, k0_pay1, part]

/-- A later point adds its part to what the point before kept. -/
theorem step (c : Dev nD) (t : Fin cfg0.N) (h : ¬t.val % 3 = 0) (j : S256x1024.Idx) :
    (outsAt0 m c t.val t.isLt).2 j
      = (outsAt0 m c (t.val - 1) (Nat.lt_of_le_of_lt (Nat.sub_le _ _) t.isLt)).2 j + part m c t j := by
  by_cases h2 : t.val % 3 = 2
  · rw [outsAt0_C m c t h (by omega) h2]; frame_out
    pointwise [k0_pay3, k0_pay1, part]
    rw [read_unread_whole]
  · rw [outsAt0_B m c t h (by omega) h2]; frame_out
    pointwise [k0_pay3, k0_pay1, part]
    rw [read_unread_whole]

/-- After the last point of a run the kept sum is the sum of the three parts. -/
theorem kept (c : Dev nD) (t : Fin cfg0.N) (h : t.val % 3 = 3 - 1) (j : S256x1024.Idx) :
    (outsAt0 m c t.val t.isLt).2 j
      = ∑ s : Fin 3, part m c ⟨3 * (t.val / 3) + s.val, Pipeline.run_point_lt_of_flush t h s⟩ j :=
  (Pipeline.eq_sum_fin_of_reset_step_apply_of_flush (fun n h => (outsAt0 m c n h).2) 3 (fun _ => (0 : EReal)) (part m c)
    (start m c) (step m c) t h j).trans (zero_add _)

/-- The result array after the run is the reference's. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  have h2 : t.val % 3 = 2 := (flush0_2 t).mp hf
  have h0 : ¬ t.val % 3 = 0 := by omega
  blk_simp; rw [after0_2, outsAt0_C m c t h0 (by omega) h2]
  frame_out
  pointwise [k0_pay1, k0_pay3, k0_pay4, REF]
  rw [read_unread_whole]
  refine (step m c t h0 (ix2 (y 1) (y 2))).symm.trans ((kept m c t h2 _).trans ?_)
  unfold part
  refine Fin.sum_mul_add_congr fun s k hl => ?_
  rw [mul_comm]
  blk_point [iblk, V, idx t, idx ⟨_, Pipeline.run_point_lt_of_flush t h2 s⟩]

end Cert.LruOutWKernelIdeal.Hand

end
-- ==== Proof.LruInX.lean ====
/- The gradient of the RG-LRU's input projection with respect to its input: `dhn = dxy @ w_inᵀ`.

   The kernel's grid has 6 row tiles, 2 column halves of the result and the 4 chip blocks of the weight summed over.
   The first point of a run of four keeps its product, the others add theirs, and the last one stores the sum. The
   reference sums over all 4096 columns at once. -/
module

public import proofs.«01_k».proof.Proof.Gen.LruInXKernelIdeal.Value
public import proofs.«01_k».proof.Proof.Gen.LruInXReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LruInXKernelIdeal.Hand

open Cert.LruInXKernelIdeal Cert.LruInXKernelIdeal.Gen

variable (m : (ℓ : Loc nD τ sig) → Buf (Elt Ideal) ℓ)

/-- The reference's result as a function of the weight and the incoming gradient. -/
abbrev REF (w : FVec Ideal Cert.LruInXReferenceIdeal.S2048x4096 .f32)
    (dxy : FVec Ideal Cert.LruInXReferenceIdeal.S4224x4096 .f32) :
    FVec Ideal Cert.LruInXReferenceIdeal.S4224x2048 .f32 :=
  Host.dotGeneral Cert.LruInXReferenceIdeal.dot_S4224x4096_S2048x4096_S4224x2048_1_1_0_0_n_n none dxy w

/-- The block of each array that a grid point works on. -/
theorem idx : ∀ t : Fin cfg0.N, win0_0.index t = ![t.val / 8, t.val % 4]
    ∧ win0_1.index t = ![t.val % 4, 0, t.val / 4 % 2, 0] ∧ win0_2.index t = ![t.val / 8, t.val / 4 % 2] :=
  (by decide +kernel : ∀ t : Fin grid0.N, _)

/-- The part of a result's entry that one grid point contributes: the sum over its chip's columns. -/
def part (c : Dev nD) (t : Fin cfg0.N) (j : S704x1024.Idx) : EReal :=
  ∑ x : Fin 1024, (show FVec Ideal S704x1024 .bf16 from iblk m c 0 t) (ix2 (j 0) x)
    * (show FVec Ideal S1x1x1024x1024 .bf16 from iblk m c 1 t) (ix4 0 0 (j 1) x)

/-- The first point of a run starts the kept sum with its part. -/
theorem start (c : Dev nD) (t : Fin cfg0.N) (h : t.val % 4 = 0) (j : S704x1024.Idx) :
    (outsAt0 m c t.val t.isLt).2 j = 0 + part m c t j := by
  rw [outsAt0_A m c t h (by omega) (by omega)]; frame_out
  pointwise [k0_pay2, k0_pay1, part]

/-- A later point adds its part to what the point before kept. -/
theorem step (c : Dev nD) (t : Fin cfg0.N) (h : ¬t.val % 4 = 0) (j : S704x1024.Idx) :
    (outsAt0 m c t.val t.isLt).2 j
      = (outsAt0 m c (t.val - 1) (Nat.lt_of_le_of_lt (Nat.sub_le _ _) t.isLt)).2 j + part m c t j := by
  by_cases h3 : t.val % 4 = 3
  · rw [outsAt0_C m c t h (by omega) h3]; frame_out
    pointwise [k0_pay3, k0_pay1, part]
    rw [read_unread_whole]
  · rw [outsAt0_B m c t h (by omega) h3]; frame_out
    pointwise [k0_pay3, k0_pay1, part]
    rw [read_unread_whole]

/-- After the last point of a run the kept sum is the sum of the four chips' parts. -/
theorem kept (c : Dev nD) (t : Fin cfg0.N) (h : t.val % 4 = 4 - 1) (j : S704x1024.Idx) :
    (outsAt0 m c t.val t.isLt).2 j
      = ∑ s : Fin 4, part m c ⟨4 * (t.val / 4) + s.val, Pipeline.run_point_lt_of_flush t h s⟩ j :=
  (Pipeline.eq_sum_fin_of_reset_step_apply_of_flush (fun n h => (outsAt0 m c n h).2) 4 (fun _ => (0 : EReal)) (part m c)
    (start m c) (step m c) t h j).trans (zero_add _)

/-- The result array after the run is the reference's. -/
theorem final (c : Dev nD) : (dats m 0 c).arrAt 2 (cfgs 0).N
    = REF (m ((c : Thread nD τ).loc main_arg1)) (m ((c : Thread nD τ).loc main_arg2)) := by
  refine (dats m 0 c).arrAt_eq_of_covers 2 _ (by decide +kernel) fun t hf y => ?_
  have h3 : t.val % 4 = 3 := (flush0_2 t).mp hf
  have h0 : ¬ t.val % 4 = 0 := by omega
  blk_simp; rw [after0_2, outsAt0_C m c t h0 (by omega) h3]
  frame_out
  pointwise [k0_pay1, k0_pay3, REF]
  rw [read_unread_whole]
  refine (step m c t h0 y).symm.trans ((kept m c t h3 _).trans ?_)
  unfold part
  refine Fin.sum_mul_add_congr fun s k hl => ?_
  blk_point [iblk, V, idx t, idx ⟨_, Pipeline.run_point_lt_of_flush t h3 s⟩]

end Cert.LruInXKernelIdeal.Hand

end
-- ==== Proof.LruInW.lean ====
/- The gradient of the RG-LRU's input projection's weight: `dw = hnᵀ @ dxy`, laid out by chip and row half.

   The kernel's grid has 2 row halves of the weight, 4 blocks of its columns and 3 parts of the rows summed over. The
   first point of a run of three keeps its product, the others add theirs, and the last one stores the sum. The reference
   sums over all 4224 rows at once and rearranges the result. -/
module

public import proofs.«01_k».proof.Proof.Gen.LruInWKernelIdeal.Value
public import proofs.«01_k».proof.Proof.Gen.LruInWReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LruInWKernelIdeal.Hand

open Cert.LruInWKernelIdeal Cert.LruInWKernelIdeal.Gen

variable (m : (ℓ : Loc nD τ sig) → Buf (Elt Ideal) ℓ)

/-- The reference's result as a function of the normed activations and the incoming gradient. -/
abbrev REF (hn : FVec Ideal Cert.LruInWReferenceIdeal.S4224x2048 .f32)
    (dxy : FVec Ideal Cert.LruInWReferenceIdeal.S4224x4096 .f32) :
    FVec Ideal Cert.LruInWReferenceIdeal.S8x1024x1024 .bf16 :=
  truncf .bf16 (shapeCast Cert.LruInWReferenceIdeal.S8x1024x1024
    (transpose Cert.LruInWReferenceIdeal.S4x2x1024x1024 [2, 0, 1, 3]
      (shapeCast Cert.LruInWReferenceIdeal.S2x1024x4x1024
        (transpose Cert.LruInWReferenceIdeal.S2048x4096 [1, 0]
          (Host.dotGeneral Cert.LruInWReferenceIdeal.dot_S4224x4096_S4224x2048_S4096x2048_0_0_1_1_n_n none dxy hn)
          Cert.LruInWReferenceIdeal.Gen.transposes_S4096x2048_S2048x4096_1_0)
        Cert.LruInWReferenceIdeal.Gen.shapeCasts_S2048x4096_S2x1024x4x1024)
      Cert.LruInWReferenceIdeal.Gen.transposes_S2x1024x4x1024_S4x2x1024x1024_2_0_1_3)
    Cert.LruInWReferenceIdeal.Gen.shapeCasts_S4x2x1024x1024_S8x1024x1024) Cert.LruInWReferenceIdeal.Gen.bitsLt_bf16_f32

/-- The block of each array that a grid point works on. -/
theorem idx : ∀ t : Fin cfg0.N, win0_0.index t = ![t.val % 3, t.val / 12] ∧ win0_1.index t = ![t.val % 3, t.val / 3 % 4]
    ∧ win0_2.index t = ![t.val / 3 % 4 * 2 + t.val / 12, 0, 0] :=
  (by decide +kernel : ∀ t : Fin grid0.N, _)

/-- The places of the blocks of a run of three points, in the two ways the layout counts them. -/
theorem blocks : ∀ t < 24, ∀ s < 3, (3 * (t / 3) + s) / 3 % 4 = (t / 3 % 4 * 2 + t / 12) / 2
    ∧ (3 * (t / 3) + s) / 12 = (t / 3 % 4 * 2 + t / 12) % 2 := by decide

/-- The part of a result's entry that one grid point contributes: the sum over its third of the rows. -/
def part (c : Dev nD) (t : Fin cfg0.N) (j : S1024x1024.Idx) : EReal :=
  ∑ x : Fin 1408, (show FVec Ideal S1408x1024 .bf16 from iblk m c 0 t) (ix2 x (j 0))
    * (show FVec Ideal S1408x1024 .bf16 from iblk m c 1 t) (ix2 x (j 1))

/-- The first point of a run starts the kept sum with its part. -/
theorem start (c : Dev nD) (t : Fin cfg0.N) (h : t.val % 3 = 0) (j : S1024x1024.Idx) :
    (outsAt0 m c t.val t.isLt).2 j = 0 + part m c t j := by
  rw [outsAt0_A m c t h (by omega) (by omega)]; frame_out
  pointwise [k0_pay2, k0_pay1, part]

/-- A later point adds its part to what the point before kept. -/
theorem step (c : Dev nD) (t : Fin cfg0.N) (h : ¬t.val % 3 = 0) (j : S1024x1024.Idx) :
    (outsAt0 m c t.val t.isLt).2 j
      = (outsAt0 m c (t.val - 1) (Nat.lt_of_le_of_lt (Nat.sub_le _ _) t.isLt)).2 j + part m c t j := by
  by_cases h2 : t.val % 3 = 2
  · rw [outsAt0_C m c t h (by omega) h2]; frame_out
    pointwise [k0_pay3, k0_pay1, part]
    rw [read_unread_whole]
  · rw [outsAt0_B m c t h (by omega) h2]; frame_out
    pointwise [k0_pay3, k0_pay1, part]
    rw [read_unread_whole]

/-- After the last point of a run the kept sum is the sum of the three parts. -/
theorem kept (c : Dev nD) (t : Fin cfg0.N) (h : t.val % 3 = 3 - 1) (j : S1024x1024.Idx) :
    (outsAt0 m c t.val t.isLt).2 j
      = ∑ s : Fin 3, part m c ⟨3 * (t.val / 3) + s.val, Pipeline.run_point_lt_of_flush t h s⟩ j :=
  (Pipeline.eq_sum_fin_of_reset_step_apply_of_flush (fun n h => (outsAt0 m c n h).2) 3 (fun _ => (0 : EReal)) (part m c)
    (start m c) (step m c) t h j).trans (zero_add _)

/-- The result array after the run is the reference's. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  have h2 : t.val % 3 = 2 := (flush0_2 t).mp hf
  have h0 : ¬ t.val % 3 = 0 := by omega
  blk_simp; rw [after0_2, outsAt0_C m c t h0 (by omega) h2]
  frame_out
  pointwise [k0_pay1, k0_pay3, k0_pay4, REF]
  rw [read_unread_whole]
  refine (step m c t h0 (ix2 (y 1) (y 2))).symm.trans ((kept m c t h2 _).trans ?_)
  unfold part
  refine Fin.sum_mul_add_congr fun s k hl => ?_
  rw [mul_comm]
  blk_point [iblk, V, idx t, idx ⟨_, Pipeline.run_point_lt_of_flush t h2 s⟩]
  · rw [(blocks t.val (by assumption) s.val s.isLt).1]
  · rw [(blocks t.val (by assumption) s.val s.isLt).2]

end Cert.LruInWKernelIdeal.Hand

end
-- ==== Proof.LruIn.lean ====
/- The input projection of the RG-LRU: `xy = hn @ w_in`.

   The kernel's grid has 6 row tiles times 4 chip blocks; each point multiplies one 704-row tile of `hn` by one
   1024-column block of `w_in` and stores the product in the block of the result at that row tile and chip. The
   reference contracts `hn` with `w_in` over the model dimension. Both are the same sum over 2048 lanes. -/
module

public import proofs.«01_k».proof.Proof.Gen.LruInKernelIdeal.Value
public import proofs.«01_k».proof.Proof.Gen.LruInReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LruInKernelIdeal.Hand

open Cert.LruInKernelIdeal Cert.LruInKernelIdeal.Gen

variable (m : (ℓ : Loc nD τ sig) → Buf (Elt Ideal) ℓ)

/-- The reference's result as a function of the normed activations and the weight. -/
abbrev REF (hn : FVec Ideal Cert.LruInReferenceIdeal.S4224x2048 .f32)
    (w : FVec Ideal Cert.LruInReferenceIdeal.S2048x4096 .f32) :
    FVec Ideal Cert.LruInReferenceIdeal.S4224x4096 .f32 :=
  Host.dotGeneral Cert.LruInReferenceIdeal.dot_S4224x2048_S2048x4096_S4224x4096_1_0_0_1_n_n none hn w

/-- The block of each array that a grid point works on. -/
theorem idx : ∀ t : Fin cfg0.N, win0_0.index t = ![t.val / 4, 0] ∧ win0_1.index t = ![t.val % 4, 0, 0, 0]
    ∧ win0_2.index t = ![t.val / 4, t.val % 4] :=
  (by decide +kernel : ∀ t : Fin grid0.N, _)

/-- What a point stores is the reference at the place of the result that the point's block sits at. -/
theorem point (c : Dev nD) (t : Fin cfg0.N) (y) :
    k0_pay1 (iblk m c 0 t) (iblk m c 1 t) y
      = REF (m ((c : Thread nD τ).loc main_arg0)) (m ((c : Thread nD τ).loc main_arg1))
          (((cfg0.win 2).blk t).view.emb y) := by
  pointwise [k0_pay1, REF]
  blk_point [iblk, V, idx t]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.LruInKernelIdeal.Hand

end
-- ==== Proof.LruOut.lean ====
/- An output projection with its residual: `h + mixed @ w_out`.

   The kernel's grid has 6 row tiles, 2 column halves of the result and the 4 chip blocks of the weight's rows summed
   over. The first point of a run of four keeps its product, the others add theirs, and the last one adds the residual
   and stores the sum. The reference sums over all 2048 rows of the weight at once. -/
module

public import proofs.«01_k».proof.Proof.Gen.LruOutKernelIdeal.Value
public import proofs.«01_k».proof.Proof.Gen.LruOutReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LruOutKernelIdeal.Hand

open Cert.LruOutKernelIdeal Cert.LruOutKernelIdeal.Gen

variable (m : (ℓ : Loc nD τ sig) → Buf (Elt Ideal) ℓ)

/-- The reference's result as a function of the residual, the left operand and the weight. -/
abbrev REF (h : FVec Ideal Cert.LruOutReferenceIdeal.S4224x2048 .f32)
    (x : FVec Ideal Cert.LruOutReferenceIdeal.S4224x2048 .f32) (w : FVec Ideal Cert.LruOutReferenceIdeal.S2048x2048 .f32) :
    FVec Ideal Cert.LruOutReferenceIdeal.S4224x2048 .f32 :=
  addf h (Host.dotGeneral Cert.LruOutReferenceIdeal.dot_S4224x2048_S2048x2048_S4224x2048_1_0_0_1_n_n none x w)

/-- The block of each array that a grid point works on. -/
theorem idx : ∀ t : Fin cfg0.N, win0_0.index t = ![t.val / 8, t.val % 4]
    ∧ win0_1.index t = ![t.val % 4, 0, 0, t.val / 4 % 2]
    ∧ win0_2.index t = ![t.val / 8, t.val / 4 % 2] ∧ win0_3.index t = ![t.val / 8, t.val / 4 % 2] :=
  (by decide +kernel : ∀ t : Fin grid0.N, _)

/-- The part of a result's entry that one grid point contributes: the sum over its chip's rows of the weight. -/
def part (c : Dev nD) (t : Fin cfg0.N) (j : S704x1024.Idx) : EReal :=
  ∑ x : Fin 512, (show FVec Ideal S704x512 .bf16 from iblk m c 0 t) (ix2 (j 0) x)
    * (show FVec Ideal S1x1x512x1024 .bf16 from iblk m c 1 t) (ix4 0 0 x (j 1))

/-- The first point of a run starts the kept sum with its part. -/
theorem start (c : Dev nD) (t : Fin cfg0.N) (h : t.val % 4 = 0) (j : S704x1024.Idx) :
    (outsAt0 m c t.val t.isLt).2 j = 0 + part m c t j := by
  rw [outsAt0_A m c t h (by omega) (by omega)]; frame_out
  pointwise [k0_pay2, k0_pay1, part]

/-- A later point adds its part to what the point before kept. -/
theorem step (c : Dev nD) (t : Fin cfg0.N) (h : ¬t.val % 4 = 0) (j : S704x1024.Idx) :
    (outsAt0 m c t.val t.isLt).2 j
      = (outsAt0 m c (t.val - 1) (Nat.lt_of_le_of_lt (Nat.sub_le _ _) t.isLt)).2 j + part m c t j := by
  by_cases h3 : t.val % 4 = 3
  · rw [outsAt0_C m c t h (by omega) h3]; frame_out
    pointwise [k0_pay3, k0_pay1, part]
    rw [read_unread_whole]
  · rw [outsAt0_B m c t h (by omega) h3]; frame_out
    pointwise [k0_pay3, k0_pay1, part]
    rw [read_unread_whole]

/-- After the last point of a run the kept sum is the sum of the four chips' parts. -/
theorem kept (c : Dev nD) (t : Fin cfg0.N) (h : t.val % 4 = 4 - 1) (j : S704x1024.Idx) :
    (outsAt0 m c t.val t.isLt).2 j
      = ∑ s : Fin 4, part m c ⟨4 * (t.val / 4) + s.val, Pipeline.run_point_lt_of_flush t h s⟩ j :=
  (Pipeline.eq_sum_fin_of_reset_step_apply_of_flush (fun n h => (outsAt0 m c n h).2) 4 (fun _ => (0 : EReal)) (part m c)
    (start m c) (step m c) t h j).trans (zero_add _)

/-- The result array after the run is the reference's. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t hf y => ?_
  have h3 : t.val % 4 = 3 := (flush0_3 t).mp hf
  have h0 : ¬ t.val % 4 = 0 := by omega
  blk_simp; rw [after0_3, outsAt0_C m c t h0 (by omega) h3]
  frame_out
  pointwise [k0_pay1, k0_pay3, k0_pay4, REF]
  rw [read_unread_whole, add_comm]
  refine congrArg₂ (· + ·) (by blk_point [iblk, V, idx t]) ?_
  refine (step m c t h0 y).symm.trans ((kept m c t h3 _).trans ?_)
  unfold part
  refine Fin.sum_mul_add_congr fun s k hl => ?_
  blk_point [iblk, V, idx t, idx ⟨_, Pipeline.run_point_lt_of_flush t h3 s⟩]

end Cert.LruOutKernelIdeal.Hand

end
-- ==== Proof.GateUp.lean ====
/- The gate and up projections of the MLP and their gated product: `g, u = split(hn @ w_gu)`, `act = silu(g) * u`.

   The kernel's grid has 4 column blocks of the results times 12 row tiles; each point multiplies one 352-row tile of
   `hn` by a 1408-column block of the gate's half of `w_gu` and by the block at the same place in the up half, and
   stores both products and the gated product. The reference multiplies once and splits the columns. -/
module

public import proofs.«01_k».proof.Proof.Gen.GateUpKernelIdeal.Value
public import proofs.«01_k».proof.Proof.Gen.GateUpReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateUpKernelIdeal.Hand

open Cert.GateUpKernelIdeal Cert.GateUpKernelIdeal.Gen

variable (m : (ℓ : Loc nD τ sig) → Buf (Elt Ideal) ℓ)

/-- The block of each array that a grid point works on. -/
theorem idx : ∀ t : Fin cfg0.N, win0_0.index t = ![t.val % 12, 0] ∧ win0_1.index t = ![t.val / 24, 0, 0, t.val / 12 % 2]
    ∧ win0_2.index t = ![2 + t.val / 24, 0, 0, t.val / 12 % 2] ∧ win0_3.index t = ![t.val % 12, t.val / 12]
    ∧ win0_4.index t = ![t.val % 12, t.val / 12] ∧ win0_5.index t = ![t.val % 12, t.val / 12] :=
  (by decide +kernel : ∀ t : Fin grid0.N, _)

/-- The reference's product of the normed activations and the weight. -/
abbrev REFgu (hn : FVec Ideal Cert.GateUpReferenceIdeal.S4224x2048 .f32)
    (w : FVec Ideal Cert.GateUpReferenceIdeal.S2048x11264 .f32) : FVec Ideal Cert.GateUpReferenceIdeal.S4224x11264 .f32 :=
  Host.dotGeneral Cert.GateUpReferenceIdeal.dot_S4224x2048_S2048x11264_S4224x11264_1_0_0_1_n_n none hn w

/-- The gate half of the reference's product. -/
abbrev REFg (hn : FVec Ideal Cert.GateUpReferenceIdeal.S4224x2048 .f32)
    (w : FVec Ideal Cert.GateUpReferenceIdeal.S2048x11264 .f32) : FVec Ideal Cert.GateUpReferenceIdeal.S4224x5632 .f32 :=
  extractStridedSlice Cert.GateUpReferenceIdeal.S4224x5632 ![0, 0] (REFgu hn w)
    Cert.GateUpReferenceIdeal.Gen.slices_S4224x11264_S4224x5632_0_0

/-- The up half of the reference's product. -/
abbrev REFu (hn : FVec Ideal Cert.GateUpReferenceIdeal.S4224x2048 .f32)
    (w : FVec Ideal Cert.GateUpReferenceIdeal.S2048x11264 .f32) : FVec Ideal Cert.GateUpReferenceIdeal.S4224x5632 .f32 :=
  extractStridedSlice Cert.GateUpReferenceIdeal.S4224x5632 ![0, 5632] (REFgu hn w)
    Cert.GateUpReferenceIdeal.Gen.slices_S4224x11264_S4224x5632_0_5632

open Cert.GateUpReferenceIdeal.Gen (bcast_S_S4224x5632) in
/-- The gated product of the reference: `silu(g) * u`. -/
abbrev REFact (hn : FVec Ideal Cert.GateUpReferenceIdeal.S4224x2048 .f32)
    (w : FVec Ideal Cert.GateUpReferenceIdeal.S2048x11264 .f32) : FVec Ideal Cert.GateUpReferenceIdeal.S4224x5632 .f32 :=
  mulf (mulf (REFg hn w)
    (Host.divf (broadcastInDim Cert.GateUpReferenceIdeal.S4224x5632 ![] bcast_S_S4224x5632
        (constant Cert.GateUpReferenceIdeal.S_ .f32 0x3F800000#32))
      (addf (broadcastInDim Cert.GateUpReferenceIdeal.S4224x5632 ![] bcast_S_S4224x5632
          (constant Cert.GateUpReferenceIdeal.S_ .f32 0x3F800000#32))
        (Host.exp (Host.negf (REFg hn w)))))) (REFu hn w)

/-- A point's gate product is the gate half of the reference at the place the point's block sits at. -/
theorem gate (c : Dev nD) (t : Fin cfg0.N) (y : S352x1408.Idx) (i : Cert.GateUpReferenceIdeal.S4224x5632.Idx)
    (h0 : (i 0).val = t.val % 12 * 352 + (y 0).val) (h1 : (i 1).val = t.val / 12 * 1408 + (y 1).val) :
    k0_pay2 (iblk m c 0 t) (iblk m c 1 t) y
      = REFg (m ((c : Thread nD τ).loc main_arg0)) (m ((c : Thread nD τ).loc main_arg1)) i := by
  pointwise [k0_pay2, k0_pay1, REFg, REFgu]
  blk_point [iblk, V, idx t, h0, h1]

/-- A point's up product is the up half of the reference at the place the point's block sits at. -/
theorem up (c : Dev nD) (t : Fin cfg0.N) (y : S352x1408.Idx) (i : Cert.GateUpReferenceIdeal.S4224x5632.Idx)
    (h0 : (i 0).val = t.val % 12 * 352 + (y 0).val) (h1 : (i 1).val = t.val / 12 * 1408 + (y 1).val) :
    k0_pay3 (iblk m c 0 t) (iblk m c 2 t) y
      = REFu (m ((c : Thread nD τ).loc main_arg0)) (m ((c : Thread nD τ).loc main_arg1)) i := by
  pointwise [k0_pay3, k0_pay1, REFu, REFgu]
  blk_point [iblk, V, idx t, h0, h1]

/-- The first result after the run is the reference's gate. -/
theorem final_3 (c : Dev nD) : (dats m 0 c).arrAt 3 (cfgs 0).N
    = truncf .bf16 (REFg (m ((c : Thread nD τ).loc main_arg0)) (m ((c : Thread nD τ).loc main_arg1)))
        Cert.GateUpReferenceIdeal.Gen.bitsLt_bf16_f32 := by
  refine (dats m 0 c).arrAt_eq_of_covers 3 _ (by decide +kernel) fun t hf y => ?_
  blk_simp; rw [after0_3]; frame_out
  exact gate m c t y _ (by blk_ext [idx t]) (by blk_ext [idx t])

/-- The second result after the run is the reference's up projection. -/
theorem final_4 (c : Dev nD) : (dats m 0 c).arrAt 4 (cfgs 0).N
    = truncf .bf16 (REFu (m ((c : Thread nD τ).loc main_arg0)) (m ((c : Thread nD τ).loc main_arg1)))
        Cert.GateUpReferenceIdeal.Gen.bitsLt_bf16_f32 := by
  refine (dats m 0 c).arrAt_eq_of_covers 4 _ (by decide +kernel) fun t hf y => ?_
  blk_simp; rw [after0_4]; frame_out
  exact up m c t y _ (by blk_ext [idx t]) (by blk_ext [idx t])

/-- The third result after the run is the reference's gated product. -/
theorem final_5 (c : Dev nD) : (dats m 0 c).arrAt 5 (cfgs 0).N
    = truncf .bf16 (REFact (m ((c : Thread nD τ).loc main_arg0)) (m ((c : Thread nD τ).loc main_arg1)))
        Cert.GateUpReferenceIdeal.Gen.bitsLt_bf16_f32 := by
  refine (dats m 0 c).arrAt_eq_of_covers 5 _ (by decide +kernel) fun t hf y => ?_
  blk_simp; rw [after0_5]; frame_out
  have hg := gate m c t y (((cfg0.win 5).blk t).view.emb y) (by blk_ext [idx t]) (by blk_ext [idx t])
  have hu := up m c t y (((cfg0.win 5).blk t).view.emb y) (by blk_ext [idx t]) (by blk_ext [idx t])
  simp only [k0_pay6, REFact]
  generalize k0_pay2 (iblk m c 0 t) (iblk m c 1 t) = G at *
  generalize k0_pay3 (iblk m c 0 t) (iblk m c 2 t) = U at *
  generalize REFg (m ((c : Thread nD τ).loc main_arg0)) (m ((c : Thread nD τ).loc main_arg1)) = G' at *
  generalize REFu (m ((c : Thread nD τ).loc main_arg0)) (m ((c : Thread nD τ).loc main_arg1)) = U' at *
  pointwise []
  rw [hg, hu, zero_sub]

end Cert.GateUpKernelIdeal.Hand

end
-- ==== Proof.GateUpClaim.lean ====
/- The gate and up projections' call against the reference: its three results. -/
module

public import proofs.«01_k».proof.Defs
public import proofs.«01_k».proof.Proof.GateUp
public import proofs.«01_k».proof.Proof.Gen.GateUpReferenceIdeal.Run
public import Idealize.ShloMosaic.Lib.Claim

@[expose] public section

set_option maxRecDepth 16384

noncomputable section

namespace Cert.Proof

open Idealize.ShloMosaic Idealize.SL.Sem

set_option maxHeartbeats 1600000 in
/-- The call's three results are the reference's, entry by entry over the extended reals. -/
theorem algebraic_GateUpKernelIdeal_GateUpReferenceIdeal : Cert.algebraic_GateUpKernelIdeal_GateUpReferenceIdeal := by
  pair_intro
  · run_from Cert.GateUpKernelIdeal.Gen.run_main m g
  · hlo_run
    · exact (Cert.GateUpKernelIdeal.Hand.final_3 m c).symm
    · exact (Cert.GateUpKernelIdeal.Hand.final_4 m c).symm
    · exact (Cert.GateUpKernelIdeal.Hand.final_5 m c).symm

end Cert.Proof

end
-- ==== Proof.Down.lean ====
/- The down projection of the MLP with its residual: `h + act @ w_down`.

   The kernel's grid has 6 row tiles, 2 column halves of the result and the 4 chip blocks of the weight's rows summed
   over. The first point of a run of four keeps its product, the others add theirs, and the last one adds the residual
   and stores the sum. The reference sums over all 5632 rows of the weight at once. -/
module

public import proofs.«01_k».proof.Proof.Gen.DownKernelIdeal.Value
public import proofs.«01_k».proof.Proof.Gen.DownReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DownKernelIdeal.Hand

open Cert.DownKernelIdeal Cert.DownKernelIdeal.Gen

variable (m : (ℓ : Loc nD τ sig) → Buf (Elt Ideal) ℓ)

/-- The reference's result as a function of the residual, the left operand and the weight. -/
abbrev REF (h : FVec Ideal Cert.DownReferenceIdeal.S4224x2048 .f32)
    (x : FVec Ideal Cert.DownReferenceIdeal.S4224x5632 .f32) (w : FVec Ideal Cert.DownReferenceIdeal.S5632x2048 .f32) :
    FVec Ideal Cert.DownReferenceIdeal.S4224x2048 .f32 :=
  addf h (Host.dotGeneral Cert.DownReferenceIdeal.dot_S4224x5632_S5632x2048_S4224x2048_1_0_0_1_n_n none x w)

/-- The block of each array that a grid point works on. -/
theorem idx : ∀ t : Fin cfg0.N, win0_0.index t = ![t.val / 8, t.val % 4]
    ∧ win0_1.index t = ![t.val % 4, 0, 0, t.val / 4 % 2]
    ∧ win0_2.index t = ![t.val / 8, t.val / 4 % 2] ∧ win0_3.index t = ![t.val / 8, t.val / 4 % 2] :=
  (by decide +kernel : ∀ t : Fin grid0.N, _)

/-- The part of a result's entry that one grid point contributes: the sum over its chip's rows of the weight. -/
def part (c : Dev nD) (t : Fin cfg0.N) (j : S704x1024.Idx) : EReal :=
  ∑ x : Fin 1408, (show FVec Ideal S704x1408 .bf16 from iblk m c 0 t) (ix2 (j 0) x)
    * (show FVec Ideal S1x1x1408x1024 .bf16 from iblk m c 1 t) (ix4 0 0 x (j 1))

/-- The first point of a run starts the kept sum with its part. -/
theorem start (c : Dev nD) (t : Fin cfg0.N) (h : t.val % 4 = 0) (j : S704x1024.Idx) :
    (outsAt0 m c t.val t.isLt).2 j = 0 + part m c t j := by
  rw [outsAt0_A m c t h (by omega) (by omega)]; frame_out
  pointwise [k0_pay2, k0_pay1, part]

/-- A later point adds its part to what the point before kept. -/
theorem step (c : Dev nD) (t : Fin cfg0.N) (h : ¬t.val % 4 = 0) (j : S704x1024.Idx) :
    (outsAt0 m c t.val t.isLt).2 j
      = (outsAt0 m c (t.val - 1) (Nat.lt_of_le_of_lt (Nat.sub_le _ _) t.isLt)).2 j + part m c t j := by
  by_cases h3 : t.val % 4 = 3
  · rw [outsAt0_C m c t h (by omega) h3]; frame_out
    pointwise [k0_pay3, k0_pay1, part]
    rw [read_unread_whole]
  · rw [outsAt0_B m c t h (by omega) h3]; frame_out
    pointwise [k0_pay3, k0_pay1, part]
    rw [read_unread_whole]

/-- After the last point of a run the kept sum is the sum of the four chips' parts. -/
theorem kept (c : Dev nD) (t : Fin cfg0.N) (h : t.val % 4 = 4 - 1) (j : S704x1024.Idx) :
    (outsAt0 m c t.val t.isLt).2 j
      = ∑ s : Fin 4, part m c ⟨4 * (t.val / 4) + s.val, Pipeline.run_point_lt_of_flush t h s⟩ j :=
  (Pipeline.eq_sum_fin_of_reset_step_apply_of_flush (fun n h => (outsAt0 m c n h).2) 4 (fun _ => (0 : EReal)) (part m c)
    (start m c) (step m c) t h j).trans (zero_add _)

/-- The result array after the run is the reference's. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t hf y => ?_
  have h3 : t.val % 4 = 3 := (flush0_3 t).mp hf
  have h0 : ¬ t.val % 4 = 0 := by omega
  blk_simp; rw [after0_3, outsAt0_C m c t h0 (by omega) h3]
  frame_out
  pointwise [k0_pay1, k0_pay3, k0_pay4, REF]
  rw [read_unread_whole, add_comm]
  refine congrArg₂ (· + ·) (by blk_point [iblk, V, idx t]) ?_
  refine (step m c t h0 y).symm.trans ((kept m c t h3 _).trans ?_)
  unfold part
  refine Fin.sum_mul_add_congr fun s k hl => ?_
  blk_point [iblk, V, idx t, idx ⟨_, Pipeline.run_point_lt_of_flush t h3 s⟩]

end Cert.DownKernelIdeal.Hand

end
-- ==== Proof.MlaUkv.lean ====
/- The keys' and values' projection: `kv = c_kv @ w_ukv`.

   The kernel's grid has 6 row tiles times 4 chip blocks; each point multiplies one 704-row tile of `c_kv` by one
   1024-column block of `w_ukv` and stores the product in the block of the result at that row tile and chip. The
   reference contracts `c_kv` with `w_ukv` over the latent dimension. Both are the same sum over 512 lanes. -/
module

public import proofs.«01_k».proof.Proof.Gen.MlaUkvKernelIdeal.Value
public import proofs.«01_k».proof.Proof.Gen.MlaUkvReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaUkvKernelIdeal.Hand

open Cert.MlaUkvKernelIdeal Cert.MlaUkvKernelIdeal.Gen

variable (m : (ℓ : Loc nD τ sig) → Buf (Elt Ideal) ℓ)

/-- The reference's result as a function of the latent and the weight. -/
abbrev REF (c_kv : FVec Ideal Cert.MlaUkvReferenceIdeal.S4224x512 .f32)
    (w : FVec Ideal Cert.MlaUkvReferenceIdeal.S512x4096 .f32) :
    FVec Ideal Cert.MlaUkvReferenceIdeal.S4224x4096 .bf16 :=
  truncf .bf16 (Host.dotGeneral Cert.MlaUkvReferenceIdeal.dot_S4224x512_S512x4096_S4224x4096_1_0_0_1_n_n none c_kv w)
    Cert.MlaUkvReferenceIdeal.Gen.bitsLt_bf16_f32

/-- The block of each array that a grid point works on. -/
theorem idx : ∀ t : Fin cfg0.N, win0_0.index t = ![t.val / 4, 0] ∧ win0_1.index t = ![t.val % 4, 0, 0, 0]
    ∧ win0_2.index t = ![t.val / 4, t.val % 4] :=
  (by decide +kernel : ∀ t : Fin grid0.N, _)

/-- What a point stores is the reference at the place of the result that the point's block sits at. -/
theorem point (c : Dev nD) (t : Fin cfg0.N) (y) :
    k0_pay1 (iblk m c 0 t) (iblk m c 1 t) y
      = REF (m ((c : Thread nD τ).loc main_arg0)) (m ((c : Thread nD τ).loc main_arg1))
          (((cfg0.win 2).blk t).view.emb y) := by
  pointwise [k0_pay1, REF]
  blk_point [iblk, V, idx t]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.MlaUkvKernelIdeal.Hand

end
-- ==== Proof.MlaUkvX.lean ====
/- The gradient of the keys' and values' projection with respect to the latent: `dc_kv = dkv @ w_ukvᵀ`.

   The kernel's grid has 6 row tiles and the 4 chip blocks of the weight summed over. The first point of a run of four
   keeps its product, the others add theirs, and the last one stores the sum. The reference sums over all 4096 columns
   at once. -/
module

public import proofs.«01_k».proof.Proof.Gen.MlaUkvXKernelIdeal.Value
public import proofs.«01_k».proof.Proof.Gen.MlaUkvXReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlaUkvXKernelIdeal.Hand

open Cert.MlaUkvXKernelIdeal Cert.MlaUkvXKernelIdeal.Gen

variable (m : (ℓ : Loc nD τ sig) → Buf (Elt Ideal) ℓ)

/-- The reference's result as a function of the weight and the incoming gradient. -/
abbrev REF (w : FVec Ideal Cert.MlaUkvXReferenceIdeal.S512x4096 .f32)
    (dkv : FVec Ideal Cert.MlaUkvXReferenceIdeal.S4224x4096 .f32) :
    FVec Ideal Cert.MlaUkvXReferenceIdeal.S4224x512 .f32 :=
  Host.dotGeneral Cert.MlaUkvXReferenceIdeal.dot_S4224x4096_S512x4096_S4224x512_1_1_0_0_n_n none dkv w

/-- The block of each array that a grid point works on. -/
theorem idx : ∀ t : Fin cfg0.N, win0_0.index t = ![t.val / 4, t.val % 4]
    ∧ win0_1.index t = ![t.val % 4, 0, 0, 0] ∧ win0_2.index t = ![t.val / 4, 0] :=
  (by decide +kernel : ∀ t : Fin grid0.N, _)

/-- The part of a result's entry that one grid point contributes: the sum over its chip's columns. -/
def part (c : Dev nD) (t : Fin cfg0.N) (j : S704x512.Idx) : EReal :=
  ∑ x : Fin 1024, (show FVec Ideal S704x1024 .bf16 from iblk m c 0 t) (ix2 (j 0) x)
    * (show FVec Ideal S1x1x512x1024 .bf16 from iblk m c 1 t) (ix4 0 0 (j 1) x)

/-- The first point of a run starts the kept sum with its part. -/
theorem start (c : Dev nD) (t : Fin cfg0.N) (h : t.val % 4 = 0) (j : S704x512.Idx) :
    (outsAt0 m c t.val t.isLt).2 j = 0 + part m c t j := by
  rw [outsAt0_A m c t h (by omega) (by omega)]; frame_out
  pointwise [k0_pay2, k0_pay1, part]

/-- A later point adds its part to what the point before kept. -/
theorem step (c : Dev nD) (t : Fin cfg0.N) (h : ¬t.val % 4 = 0) (j : S704x512.Idx) :
    (outsAt0 m c t.val t.isLt).2 j
      = (outsAt0 m c (t.val - 1) (Nat.lt_of_le_of_lt (Nat.sub_le _ _) t.isLt)).2 j + part m c t j := by
  by_cases h3 : t.val % 4 = 3
  · rw [outsAt0_C m c t h (by omega) h3]; frame_out
    pointwise [k0_pay3, k0_pay1, part]
    rw [read_unread_whole]
  · rw [outsAt0_B m c t h (by omega) h3]; frame_out
    pointwise [k0_pay3, k0_pay1, part]
    rw [read_unread_whole]

/-- After the last point of a run the kept sum is the sum of the four chips' parts. -/
theorem kept (c : Dev nD) (t : Fin cfg0.N) (h : t.val % 4 = 4 - 1) (j : S704x512.Idx) :
    (outsAt0 m c t.val t.isLt).2 j
      = ∑ s : Fin 4, part m c ⟨4 * (t.val / 4) + s.val, Pipeline.run_point_lt_of_flush t h s⟩ j :=
  (Pipeline.eq_sum_fin_of_reset_step_apply_of_flush (fun n h => (outsAt0 m c n h).2) 4 (fun _ => (0 : EReal)) (part m c)
    (start m c) (step m c) t h j).trans (zero_add _)

/-- The result array after the run is the reference's. -/
theorem final (c : Dev nD) : (dats m 0 c).arrAt 2 (cfgs 0).N
    = REF (m ((c : Thread nD τ).loc main_arg1)) (m ((c : Thread nD τ).loc main_arg2)) := by
  refine (dats m 0 c).arrAt_eq_of_covers 2 _ (by decide +kernel) fun t hf y => ?_
  have h3 : t.val % 4 = 3 := (flush0_2 t).mp hf
  have h0 : ¬ t.val % 4 = 0 := by omega
  blk_simp; rw [after0_2, outsAt0_C m c t h0 (by omega) h3]
  frame_out
  pointwise [k0_pay1, k0_pay3, REF]
  rw [read_unread_whole]
  refine (step m c t h0 y).symm.trans ((kept m c t h3 _).trans ?_)
  unfold part
  refine Fin.sum_mul_add_congr fun s k hl => ?_
  blk_point [iblk, V, idx t, idx ⟨_, Pipeline.run_point_lt_of_flush t h3 s⟩]

end Cert.MlaUkvXKernelIdeal.Hand

end
-- ==== Proof.MlaUkvW.lean ====
/- The gradient of the keys' and values' projection's weight: `dw = c_kvᵀ @ dkv`, laid out by chip and row half.

   The kernel's grid has 2 row halves of the weight, 4 blocks of its columns and 3 parts of the rows summed over. The
   first point of a run of three keeps its product, the others add theirs, and the last one stores the sum. The reference
   sums over all 4224 rows at once and rearranges the result. -/
module

public import proofs.«01_k».proof.Proof.Gen.MlaUkvWKernelIdeal.Value
public import proofs.«01_k».proof.Proof.Gen.MlaUkvWReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlaUkvWKernelIdeal.Hand

open Cert.MlaUkvWKernelIdeal Cert.MlaUkvWKernelIdeal.Gen

variable (m : (ℓ : Loc nD τ sig) → Buf (Elt Ideal) ℓ)

/-- The reference's result as a function of the latent and the incoming gradient. -/
abbrev REF (c_kv : FVec Ideal Cert.MlaUkvWReferenceIdeal.S4224x512 .f32)
    (dkv : FVec Ideal Cert.MlaUkvWReferenceIdeal.S4224x4096 .f32) :
    FVec Ideal Cert.MlaUkvWReferenceIdeal.S8x256x1024 .bf16 :=
  truncf .bf16 (shapeCast Cert.MlaUkvWReferenceIdeal.S8x256x1024
    (transpose Cert.MlaUkvWReferenceIdeal.S4x2x256x1024 [2, 0, 1, 3]
      (shapeCast Cert.MlaUkvWReferenceIdeal.S2x256x4x1024
        (transpose Cert.MlaUkvWReferenceIdeal.S512x4096 [1, 0]
          (Host.dotGeneral Cert.MlaUkvWReferenceIdeal.dot_S4224x4096_S4224x512_S4096x512_0_0_1_1_n_n none dkv c_kv)
          Cert.MlaUkvWReferenceIdeal.Gen.transposes_S4096x512_S512x4096_1_0)
        Cert.MlaUkvWReferenceIdeal.Gen.shapeCasts_S512x4096_S2x256x4x1024)
      Cert.MlaUkvWReferenceIdeal.Gen.transposes_S2x256x4x1024_S4x2x256x1024_2_0_1_3)
    Cert.MlaUkvWReferenceIdeal.Gen.shapeCasts_S4x2x256x1024_S8x256x1024) Cert.MlaUkvWReferenceIdeal.Gen.bitsLt_bf16_f32

/-- The block of each array that a grid point works on. -/
theorem idx : ∀ t : Fin cfg0.N, win0_0.index t = ![t.val % 3, t.val / 12] ∧ win0_1.index t = ![t.val % 3, t.val / 3 % 4]
    ∧ win0_2.index t = ![t.val / 3 % 4 * 2 + t.val / 12, 0, 0] :=
  (by decide +kernel : ∀ t : Fin grid0.N, _)

/-- The places of the blocks of a run of three points, in the two ways the layout counts them. -/
theorem blocks : ∀ t < 24, ∀ s < 3, (3 * (t / 3) + s) / 3 % 4 = (t / 3 % 4 * 2 + t / 12) / 2
    ∧ (3 * (t / 3) + s) / 12 = (t / 3 % 4 * 2 + t / 12) % 2 := by decide

/-- The part of a result's entry that one grid point contributes: the sum over its third of the rows. -/
def part (c : Dev nD) (t : Fin cfg0.N) (j : S256x1024.Idx) : EReal :=
  ∑ x : Fin 1408, (show FVec Ideal S1408x256 .bf16 from iblk m c 0 t) (ix2 x (j 0))
    * (show FVec Ideal S1408x1024 .bf16 from iblk m c 1 t) (ix2 x (j 1))

/-- The first point of a run starts the kept sum with its part. -/
theorem start (c : Dev nD) (t : Fin cfg0.N) (h : t.val % 3 = 0) (j : S256x1024.Idx) :
    (outsAt0 m c t.val t.isLt).2 j = 0 + part m c t j := by
  rw [outsAt0_A m c t h (by omega) (by omega)]; frame_out
  pointwise [k0_pay2, k0_pay1, part]

/-- A later point adds its part to what the point before kept. -/
theorem step (c : Dev nD) (t : Fin cfg0.N) (h : ¬t.val % 3 = 0) (j : S256x1024.Idx) :
    (outsAt0 m c t.val t.isLt).2 j
      = (outsAt0 m c (t.val - 1) (Nat.lt_of_le_of_lt (Nat.sub_le _ _) t.isLt)).2 j + part m c t j := by
  by_cases h2 : t.val % 3 = 2
  · rw [outsAt0_C m c t h (by omega) h2]; frame_out
    pointwise [k0_pay3, k0_pay1, part]
    rw [read_unread_whole]
  · rw [outsAt0_B m c t h (by omega) h2]; frame_out
    pointwise [k0_pay3, k0_pay1, part]
    rw [read_unread_whole]

/-- After the last point of a run the kept sum is the sum of the three parts. -/
theorem kept (c : Dev nD) (t : Fin cfg0.N) (h : t.val % 3 = 3 - 1) (j : S256x1024.Idx) :
    (outsAt0 m c t.val t.isLt).2 j
      = ∑ s : Fin 3, part m c ⟨3 * (t.val / 3) + s.val, Pipeline.run_point_lt_of_flush t h s⟩ j :=
  (Pipeline.eq_sum_fin_of_reset_step_apply_of_flush (fun n h => (outsAt0 m c n h).2) 3 (fun _ => (0 : EReal)) (part m c)
    (start m c) (step m c) t h j).trans (zero_add _)

/-- The result array after the run is the reference's. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  have h2 : t.val % 3 = 2 := (flush0_2 t).mp hf
  have h0 : ¬ t.val % 3 = 0 := by omega
  blk_simp; rw [after0_2, outsAt0_C m c t h0 (by omega) h2]
  frame_out
  pointwise [k0_pay1, k0_pay3, k0_pay4, REF]
  rw [read_unread_whole]
  refine (step m c t h0 (ix2 (y 1) (y 2))).symm.trans ((kept m c t h2 _).trans ?_)
  unfold part
  refine Fin.sum_mul_add_congr fun s k hl => ?_
  rw [mul_comm]
  blk_point [iblk, V, idx t, idx ⟨_, Pipeline.run_point_lt_of_flush t h2 s⟩]
  · rw [(blocks t.val (by assumption) s.val s.isLt).1]
  · rw [(blocks t.val (by assumption) s.val s.isLt).2]

end Cert.MlaUkvWKernelIdeal.Hand

end
-- ==== Proof.MlaIn.lean ====
/- The projection to the latents: `proj = hn @ w_in`, with zero columns up to whole lanes.

   The kernel's grid has 6 row tiles and the 4 chip blocks of the weight's rows summed over. The first point of a run of
   four keeps its product, the others add theirs, and the last one stores the sum. The reference sums over all 2048 rows
   of the weight at once and pads the product; the kernel pads the weight. -/
module

public import proofs.«01_k».proof.Proof.Gen.MlaInKernelIdeal.Value
public import proofs.«01_k».proof.Proof.Gen.MlaInReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlaInKernelIdeal.Hand

open Cert.MlaInKernelIdeal Cert.MlaInKernelIdeal.Gen

variable (m : (ℓ : Loc nD τ sig) → Buf (Elt Ideal) ℓ)

/-- The reference's result as a function of the normed activations and the weight. -/
abbrev REF (hn : FVec Ideal Cert.MlaInReferenceIdeal.S4224x2048 .f32)
    (w : FVec Ideal Cert.MlaInReferenceIdeal.S2048x1088 .f32) :
    FVec Ideal Cert.MlaInReferenceIdeal.S4224x1152 .f32 :=
  pad Cert.MlaInReferenceIdeal.S4224x1152 ![0, 0] ![0, 64] ![0, 0]
    (Host.dotGeneral Cert.MlaInReferenceIdeal.dot_S4224x2048_S2048x1088_S4224x1088_1_0_0_1_n_n none hn w)
    (sitofp .f32 (constantI Cert.MlaInReferenceIdeal.S_ 32 0#32))
    Cert.MlaInReferenceIdeal.Gen.pads_S4224x1088_S4224x1152_000_0640 Cert.MlaInReferenceIdeal.Gen.h_S_

/-- The block of each array that a grid point works on. -/
theorem idx : ∀ t : Fin cfg0.N, win0_0.index t = ![t.val / 4, t.val % 4]
    ∧ win0_1.index t = ![t.val % 4, 0, 0, 0] ∧ win0_2.index t = ![t.val / 4, 0] :=
  (by decide +kernel : ∀ t : Fin grid0.N, _)

/-- The number the host pads with is zero. -/
theorem zero_pad (φ : FTy) : (FloatOps.sitofp φ (0#32) : Ideal φ) = (0 : EReal) := by
  show (((0#32 : BitVec 32).toInt : ℝ) : EReal) = 0
  simp

/-- The host's weight array: the weight's rows by chip, zero past its last column. -/
theorem arr_w (c : Dev nD) (s : Fin 4) (x : Fin 512) (j : Fin 1152) :
    (V m c (Pipeline.arrRef spec0 1) : FVec Ideal S4x1x512x1152 .bf16) (ix4 s 0 x j)
      = if h : j.val < 1088 then (show EReal from m ((c : Thread nD τ).loc main_arg1) (ix2 ⟨s.val * 512 + x.val, by omega⟩ ⟨j.val, h⟩))
        else 0 := by
  have e : (V m c (Pipeline.arrRef spec0 1) : FVec Ideal S4x1x512x1152 .bf16)
      = shapeCast _ (pad S2048x1152 ![0, 0] ![0, 64] ![0, 0]
          (truncf .bf16 (show FVec Ideal S2048x1088 .f32 from m ((c : Thread nD τ).loc main_arg1)) bitsLt_bf16_f32)
          (sitofp .bf16 (constantI S_ 32 0#32)) pads_S2048x1088_S2048x1152_000_0640 h_S_) shapeCasts_S2048x1152_S4x1x512x1152 := by
    simp only [V]; rfl
  rw [e]
  pointwise
  by_cases hj : j.val < 1088
  · rw [dif_pos ⟨by omega, hj⟩, dif_pos hj]
  · rw [dif_neg (fun h => hj h.2), dif_neg hj]
    exact zero_pad _

/-- A block of the weight is its chip's. -/
theorem blk_w (c : Dev nD) (t : Fin cfg0.N) (x : Fin 512) (j : Fin 1152) :
    (show FVec Ideal S1x1x512x1152 .bf16 from iblk m c 1 t) (ix4 0 0 x j)
      = if h : j.val < 1088 then (show EReal from m ((c : Thread nD τ).loc main_arg1) (ix2 ⟨t.val % 4 * 512 + x.val, by omega⟩ ⟨j.val, h⟩))
        else 0 := by
  have e : ((cfg0.win 1).blk t).view.emb (ix4 0 0 x j) = ix4 ⟨t.val % 4, by omega⟩ 0 x j := by blk_ext [idx t]
  have h : (show FVec Ideal S1x1x512x1152 .bf16 from iblk m c 1 t) (ix4 0 0 x j)
      = V m c (Pipeline.arrRef spec0 1) (((cfg0.win 1).blk t).view.emb (ix4 0 0 x j)) := rfl
  rw [h, e]
  exact arr_w m c ⟨t.val % 4, by omega⟩ x j

/-- A block of the activations is its row tile and its chip's columns. -/
theorem blk_h (c : Dev nD) (t : Fin cfg0.N) (p : Fin 704) (j : Fin 512) :
    (show FVec Ideal S704x512 .bf16 from iblk m c 0 t) (ix2 p j)
      = (show EReal from m ((c : Thread nD τ).loc main_arg0) (ix2 ⟨t.val / 4 * 704 + p.val, by have : t.val < 24 := t.isLt; omega⟩
          ⟨t.val % 4 * 512 + j.val, by omega⟩)) := by
  have e : ((cfg0.win 0).blk t).view.emb (ix2 p j) = ix2 ⟨t.val / 4 * 704 + p.val, by have : t.val < 24 := t.isLt; omega⟩
      ⟨t.val % 4 * 512 + j.val, by omega⟩ := by blk_ext [idx t]
  have h : (show FVec Ideal S704x512 .bf16 from iblk m c 0 t) (ix2 p j)
      = V m c (Pipeline.arrRef spec0 0) (((cfg0.win 0).blk t).view.emb (ix2 p j)) := rfl
  have a : (V m c (Pipeline.arrRef spec0 0) : FVec Ideal S4224x2048 .bf16)
      = truncf .bf16 (show FVec Ideal S4224x2048 .f32 from m ((c : Thread nD τ).loc main_arg0)) bitsLt_bf16_f32 := by
    simp only [V]; rfl
  rw [h, e, a]
  rfl

/-- The reference's result at one entry: a sum over the weight's rows, zero past the last column. -/
theorem REF_apply (hn : FVec Ideal Cert.MlaInReferenceIdeal.S4224x2048 .f32)
    (w : FVec Ideal Cert.MlaInReferenceIdeal.S2048x1088 .f32) (p : Fin 4224) (j : Fin 1152) :
    REF hn w (ix2 p j) = if h : j.val < 1088 then ∑ l : Fin 2048, hn (ix2 p l) * w (ix2 l ⟨j.val, h⟩) else 0 := by
  pointwise [REF]
  by_cases hj : j.val < 1088
  · rw [dif_pos (by omega), dif_pos hj]
  · rw [dif_neg (by omega), dif_neg hj]
    exact zero_pad _

/-- The part of a result's entry that one grid point contributes: the sum over its chip's rows of the weight. -/
def part (c : Dev nD) (t : Fin cfg0.N) (j : S704x1152.Idx) : EReal :=
  ∑ x : Fin 512, (show FVec Ideal S704x512 .bf16 from iblk m c 0 t) (ix2 (j 0) x)
    * (show FVec Ideal S1x1x512x1152 .bf16 from iblk m c 1 t) (ix4 0 0 x (j 1))

/-- A point's part, in the arguments' entries. -/
theorem part_eq (c : Dev nD) (t : Fin cfg0.N) (p : Fin 704) (j : Fin 1152) : part m c t (ix2 p j)
    = ∑ x : Fin 512, (show EReal from m ((c : Thread nD τ).loc main_arg0) (ix2 ⟨t.val / 4 * 704 + p.val, by have : t.val < 24 := t.isLt; omega⟩
          ⟨t.val % 4 * 512 + x.val, by omega⟩))
        * (if h : j.val < 1088 then (show EReal from m ((c : Thread nD τ).loc main_arg1) (ix2 ⟨t.val % 4 * 512 + x.val, by omega⟩ ⟨j.val, h⟩))
        else 0) :=
  Finset.sum_congr rfl fun x _ => congrArg₂ _ (blk_h m c t p x) (blk_w m c t x j)

/-- The first point of a run starts the kept sum with its part. -/
theorem start (c : Dev nD) (t : Fin cfg0.N) (h : t.val % 4 = 0) (j : S704x1152.Idx) :
    (outsAt0 m c t.val t.isLt).2 j = 0 + part m c t j := by
  rw [outsAt0_A m c t h (by omega) (by omega)]; frame_out
  pointwise [k0_pay2, k0_pay1, part]

/-- A later point adds its part to what the point before kept. -/
theorem step (c : Dev nD) (t : Fin cfg0.N) (h : ¬t.val % 4 = 0) (j : S704x1152.Idx) :
    (outsAt0 m c t.val t.isLt).2 j
      = (outsAt0 m c (t.val - 1) (Nat.lt_of_le_of_lt (Nat.sub_le _ _) t.isLt)).2 j + part m c t j := by
  by_cases h3 : t.val % 4 = 3
  · rw [outsAt0_C m c t h (by omega) h3]; frame_out
    pointwise [k0_pay3, k0_pay1, part]
    rw [read_unread_whole]
  · rw [outsAt0_B m c t h (by omega) h3]; frame_out
    pointwise [k0_pay3, k0_pay1, part]
    rw [read_unread_whole]

/-- After the last point of a run the kept sum is the sum of the four chips' parts. -/
theorem kept (c : Dev nD) (t : Fin cfg0.N) (h : t.val % 4 = 4 - 1) (j : S704x1152.Idx) :
    (outsAt0 m c t.val t.isLt).2 j
      = ∑ s : Fin 4, part m c ⟨4 * (t.val / 4) + s.val, Pipeline.run_point_lt_of_flush t h s⟩ j :=
  (Pipeline.eq_sum_fin_of_reset_step_apply_of_flush (fun n h => (outsAt0 m c n h).2) 4 (fun _ => (0 : EReal)) (part m c)
    (start m c) (step m c) t h j).trans (zero_add _)

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have h0 : ¬ t.val % 4 = 0 := by omega
  obtain ⟨p, j, rfl⟩ : ∃ (p : Fin 704) (j : Fin 1152), y = ix2 p j := ⟨y 0, y 1, by funext i; fin_cases i <;> rfl⟩
  have e : ((cfg0.win 2).blk t).view.emb (ix2 p j) = ix2 ⟨t.val / 4 * 704 + p.val, by have : t.val < 24 := t.isLt; omega⟩ j := by
    blk_ext [idx t]
  blk_simp; rw [after0_2, outsAt0_C m c t h0 (by omega) h3, e, REF_apply]
  frame_out
  pointwise [k0_pay1, k0_pay3]
  rw [read_unread_whole]
  refine (step m c t h0 (ix2 p j)).symm.trans ((kept m c t h3 _).trans ?_)
  simp only [part_eq]
  by_cases hj : j.val < 1088
  · rw [dif_pos hj]
    refine Fin.sum_mul_add_congr fun s x hl => ?_
    rw [dif_pos hj]
    have e1 : (⟨(4 * (t.val / 4) + s.val) % 4 * 512 + x.val, by omega⟩ : Fin 2048) = ⟨s.val * 512 + x.val, hl⟩ :=
      Fin.ext (by show (4 * (t.val / 4) + s.val) % 4 * 512 + x.val = s.val * 512 + x.val; omega)
    have e2 : (⟨(4 * (t.val / 4) + s.val) / 4 * 704 + p.val, by have : t.val < 24 := t.isLt; omega⟩ : Fin 4224)
        = ⟨t.val / 4 * 704 + p.val, by have : t.val < 24 := t.isLt; omega⟩ :=
      Fin.ext (by show (4 * (t.val / 4) + s.val) / 4 * 704 + p.val = t.val / 4 * 704 + p.val; omega)
    rw [e1, e2]
  · rw [dif_neg hj]
    refine Finset.sum_eq_zero fun s _ => Finset.sum_eq_zero fun x _ => ?_
    rw [dif_neg hj, mul_zero]

end Cert.MlaInKernelIdeal.Hand

end
-- ==== Proof.MlaInClaim.lean ====
/- The latents' projection against the product: its result. -/
module

public import proofs.«01_k».proof.Defs
public import proofs.«01_k».proof.Proof.MlaIn
public import proofs.«01_k».proof.Proof.Gen.MlaInReferenceIdeal.Run
public import Idealize.ShloMosaic.Lib.Claim

@[expose] public section

set_option maxRecDepth 16384

noncomputable section

namespace Cert.Proof

open Idealize.ShloMosaic Idealize.SL.Sem

set_option maxHeartbeats 1600000 in
/-- The call's result is the reference's, entry by entry over the extended reals. -/
theorem algebraic_MlaInKernelIdeal_MlaInReferenceIdeal : Cert.algebraic_MlaInKernelIdeal_MlaInReferenceIdeal := by
  pair_intro
  · run_from Cert.MlaInKernelIdeal.Value.run_blocks m g
  · hlo_run
    exact (Cert.MlaInKernelIdeal.Hand.final m c).symm

end Cert.Proof

end
-- ==== Proof.MlaInX.lean ====
/- The gradient of the projection to the latents with respect to its input: `dhn = dproj @ w_inᵀ`.

   The kernel's grid has 6 row tiles times the 4 chip blocks of the weight's rows; each point multiplies one 704-row tile
   of `dproj` by one block, both padded with zero columns up to whole lanes. The reference contracts `dproj` with `w_in`
   over their 1088 columns; the padded columns add zeros. -/
module

public import proofs.«01_k».proof.Proof.Gen.MlaInXKernelIdeal.Value
public import proofs.«01_k».proof.Proof.Gen.MlaInXReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaInXKernelIdeal.Hand

open Cert.MlaInXKernelIdeal Cert.MlaInXKernelIdeal.Gen

variable (m : (ℓ : Loc nD τ sig) → Buf (Elt Ideal) ℓ)

/-- The reference's result as a function of the weight and the incoming gradient. -/
abbrev REF (w : FVec Ideal Cert.MlaInXReferenceIdeal.S2048x1088 .f32)
    (dproj : FVec Ideal Cert.MlaInXReferenceIdeal.S4224x1088 .f32) :
    FVec Ideal Cert.MlaInXReferenceIdeal.S4224x2048 .f32 :=
  Host.dotGeneral Cert.MlaInXReferenceIdeal.dot_S4224x1088_S2048x1088_S4224x2048_1_1_0_0_n_n none dproj w

/-- The block of each array that a grid point works on. -/
theorem idx : ∀ t : Fin cfg0.N, win0_0.index t = ![t.val / 4, 0] ∧ win0_1.index t = ![t.val % 4, 0, 0, 0]
    ∧ win0_2.index t = ![t.val / 4, t.val % 4] :=
  (by decide +kernel : ∀ t : Fin grid0.N, _)

/-- The number the host pads with is zero. -/
theorem zero_pad (φ : FTy) : (FloatOps.sitofp φ (0#32) : Ideal φ) = (0 : EReal) := by
  show (((0#32 : BitVec 32).toInt : ℝ) : EReal) = 0
  simp

/-- The host's weight array: the weight's rows by chip, zero past its last column. -/
theorem arr_w (c : Dev nD) (s : Fin 4) (x : Fin 512) (j : Fin 1152) :
    (V m c (Pipeline.arrRef spec0 1) : FVec Ideal S4x1x512x1152 .bf16) (ix4 s 0 x j)
      = if h : j.val < 1088 then (show EReal from m ((c : Thread nD τ).loc main_arg1) (ix2 ⟨s.val * 512 + x.val, by omega⟩ ⟨j.val, h⟩))
        else 0 := by
  have e : (V m c (Pipeline.arrRef spec0 1) : FVec Ideal S4x1x512x1152 .bf16)
      = shapeCast _ (pad S2048x1152 ![0, 0] ![0, 64] ![0, 0]
          (truncf .bf16 (show FVec Ideal S2048x1088 .f32 from m ((c : Thread nD τ).loc main_arg1)) bitsLt_bf16_f32)
          (sitofp .bf16 (constantI S_ 32 0#32)) pads_S2048x1088_S2048x1152_000_0640 h_S_) shapeCasts_S2048x1152_S4x1x512x1152 := by
    simp only [V]; rfl
  rw [e]
  pointwise
  by_cases hj : j.val < 1088
  · rw [dif_pos ⟨by omega, hj⟩, dif_pos hj]
  · rw [dif_neg (fun h => hj h.2), dif_neg hj]
    exact zero_pad _

/-- A block of the weight is its chip's. -/
theorem blk_w (c : Dev nD) (t : Fin cfg0.N) (x : Fin 512) (j : Fin 1152) :
    (show FVec Ideal S1x1x512x1152 .bf16 from iblk m c 1 t) (ix4 0 0 x j)
      = if h : j.val < 1088 then (show EReal from m ((c : Thread nD τ).loc main_arg1) (ix2 ⟨t.val % 4 * 512 + x.val, by omega⟩ ⟨j.val, h⟩))
        else 0 := by
  have e : ((cfg0.win 1).blk t).view.emb (ix4 0 0 x j) = ix4 ⟨t.val % 4, by omega⟩ 0 x j := by blk_ext [idx t]
  have h : (show FVec Ideal S1x1x512x1152 .bf16 from iblk m c 1 t) (ix4 0 0 x j)
      = V m c (Pipeline.arrRef spec0 1) (((cfg0.win 1).blk t).view.emb (ix4 0 0 x j)) := rfl
  rw [h, e]
  exact arr_w m c ⟨t.val % 4, by omega⟩ x j

/-- The host's gradient array: the incoming gradient, zero past its last column. -/
theorem arr_d (c : Dev nD) (p : Fin 4224) (j : Fin 1152) :
    (V m c (Pipeline.arrRef spec0 0) : FVec Ideal S4224x1152 .bf16) (ix2 p j)
      = if h : j.val < 1088 then (show EReal from m ((c : Thread nD τ).loc main_arg2) (ix2 p ⟨j.val, h⟩)) else 0 := by
  have e : (V m c (Pipeline.arrRef spec0 0) : FVec Ideal S4224x1152 .bf16)
      = truncf .bf16 (pad S4224x1152 ![0, 0] ![0, 64] ![0, 0]
          (show FVec Ideal S4224x1088 .f32 from m ((c : Thread nD τ).loc main_arg2))
          (sitofp .f32 (constantI S_ 32 0#32)) pads_S4224x1088_S4224x1152_000_0640 h_S_) bitsLt_bf16_f32 := by
    simp only [V]; rfl
  rw [e]
  pointwise
  by_cases hj : j.val < 1088
  · rw [dif_pos hj, dif_pos hj]
  · rw [dif_neg hj, dif_neg hj]
    exact zero_pad _

/-- A block of the gradient is its row tile. -/
theorem blk_d (c : Dev nD) (t : Fin cfg0.N) (p : Fin 704) (j : Fin 1152) :
    (show FVec Ideal S704x1152 .bf16 from iblk m c 0 t) (ix2 p j)
      = if h : j.val < 1088 then (show EReal from m ((c : Thread nD τ).loc main_arg2) (ix2 ⟨t.val / 4 * 704 + p.val, by have := t.isLt; have : t.val < 24 := this; omega⟩ ⟨j.val, h⟩))
        else 0 := by
  have e : ((cfg0.win 0).blk t).view.emb (ix2 p j) = ix2 ⟨t.val / 4 * 704 + p.val, by have : t.val < 24 := t.isLt; omega⟩ j := by blk_ext [idx t]
  have h : (show FVec Ideal S704x1152 .bf16 from iblk m c 0 t) (ix2 p j)
      = V m c (Pipeline.arrRef spec0 0) (((cfg0.win 0).blk t).view.emb (ix2 p j)) := rfl
  rw [h, e]
  exact arr_d m c _ j

/-- What a point stores is the reference at the place of the result that the point's block sits at. -/
theorem point (c : Dev nD) (t : Fin cfg0.N) (y) :
    k0_pay1 (iblk m c 0 t) (iblk m c 1 t) y
      = REF (m ((c : Thread nD τ).loc main_arg1)) (m ((c : Thread nD τ).loc main_arg2))
          (((cfg0.win 2).blk t).view.emb y) := by
  obtain ⟨p, j, rfl⟩ : ∃ (p : Fin 704) (j : Fin 512), y = ix2 p j := ⟨y 0, y 1, by funext i; fin_cases i <;> rfl⟩
  have e : ((cfg0.win 2).blk t).view.emb (ix2 p j)
      = ix2 ⟨t.val / 4 * 704 + p.val, by have : t.val < 24 := t.isLt; omega⟩ ⟨t.val % 4 * 512 + j.val, by omega⟩ := by blk_ext [idx t]
  rw [e]
  have hk : k0_pay1 (F := Ideal) (iblk m c 0 t) (iblk m c 1 t) (ix2 p j)
      = ∑ x : Fin 1152, (show FVec Ideal S704x1152 .bf16 from iblk m c 0 t) (ix2 p x)
        * (show FVec Ideal S1x1x512x1152 .bf16 from iblk m c 1 t) (ix4 0 0 j x) := by
    pointwise [k0_pay1]
  rw [hk]
  pointwise [REF]
  refine (Fin.sum_univ_add (a := 1088) (b := 64) _).trans ?_
  rw [Finset.sum_eq_zero (s := (Finset.univ : Finset (Fin 64))) (fun x _ => ?_), add_zero]
  · refine Finset.sum_congr rfl fun x _ => ?_
    exact congrArg₂ (· * ·) ((blk_d m c t p _).trans (dif_pos x.isLt)) ((blk_w m c t j _).trans (dif_pos x.isLt))
  · have h0 := (blk_d m c t p (Fin.natAdd 1088 x)).trans (dif_neg (by show ¬ (1088 + x.val < 1088); omega))
    exact (congrArg (fun a : EReal => a * _) h0).trans (zero_mul _)

/-- The result array after the run is the reference's. -/
theorem final (c : Dev nD) : (dats m 0 c).arrAt 2 (cfgs 0).N
    = REF (m ((c : Thread nD τ).loc main_arg1)) (m ((c : Thread nD τ).loc main_arg2)) := by
  refine (dats m 0 c).arrAt_eq_of_covers 2 _ (by decide +kernel) fun t hf y => ?_
  blk_simp; rw [after0_2]; frame_out
  exact point m c t y

end Cert.MlaInXKernelIdeal.Hand

end
-- ==== Proof.MlaInXClaim.lean ====
/- The latents' projection's gradient by the activations: its result. -/
module

public import proofs.«01_k».proof.Defs
public import proofs.«01_k».proof.Proof.MlaInX
public import proofs.«01_k».proof.Proof.Gen.MlaInXReferenceIdeal.Run
public import Idealize.ShloMosaic.Lib.Claim

@[expose] public section

set_option maxRecDepth 16384

noncomputable section

namespace Cert.Proof

open Idealize.ShloMosaic Idealize.SL.Sem

set_option maxHeartbeats 1600000 in
/-- The call's result is the reference's, entry by entry over the extended reals. -/
theorem algebraic_MlaInXKernelIdeal_MlaInXReferenceIdeal : Cert.algebraic_MlaInXKernelIdeal_MlaInXReferenceIdeal := by
  pair_intro
  · run_from Cert.MlaInXKernelIdeal.Value.run_blocks m g
  · hlo_run
    exact (Cert.MlaInXKernelIdeal.Hand.final m c).symm

end Cert.Proof

end
-- ==== Proof.MlaInW.lean ====
/- The gradient of the weight of the projection to the latents: `dw = hnᵀ @ dproj`, laid out by device.

   The kernel's grid has 8 blocks of the weight's rows and 3 parts of the rows summed over. The first point of a run of
   three keeps its product, the others add theirs, and the last one stores the sum. The kernel pads `dproj` with zero
   columns up to whole lanes; the reference sums over all 4224 rows at once and pads the product. -/
module

public import proofs.«01_k».proof.Proof.Gen.MlaInWKernelIdeal.Value
public import proofs.«01_k».proof.Proof.Gen.MlaInWReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlaInWKernelIdeal.Hand

open Cert.MlaInWKernelIdeal Cert.MlaInWKernelIdeal.Gen

variable (m : (ℓ : Loc nD τ sig) → Buf (Elt Ideal) ℓ)

/-- The reference's result as a function of the normed activations and the incoming gradient. -/
abbrev REF (hn : FVec Ideal Cert.MlaInWReferenceIdeal.S4224x2048 .f32)
    (dproj : FVec Ideal Cert.MlaInWReferenceIdeal.S4224x1088 .f32) :
    FVec Ideal Cert.MlaInWReferenceIdeal.S8x256x1152 .bf16 :=
  truncf .bf16 (shapeCast Cert.MlaInWReferenceIdeal.S8x256x1152
    (pad Cert.MlaInWReferenceIdeal.S2048x1152 ![0, 0] ![0, 64] ![0, 0]
      (transpose Cert.MlaInWReferenceIdeal.S2048x1088 [1, 0]
        (Host.dotGeneral Cert.MlaInWReferenceIdeal.dot_S4224x1088_S4224x2048_S1088x2048_0_0_1_1_n_n none dproj hn)
        Cert.MlaInWReferenceIdeal.Gen.transposes_S1088x2048_S2048x1088_1_0)
      (sitofp .f32 (constantI Cert.MlaInWReferenceIdeal.S_ 32 0#32))
      Cert.MlaInWReferenceIdeal.Gen.pads_S2048x1088_S2048x1152_000_0640 Cert.MlaInWReferenceIdeal.Gen.h_S_)
    Cert.MlaInWReferenceIdeal.Gen.shapeCasts_S2048x1152_S8x256x1152) Cert.MlaInWReferenceIdeal.Gen.bitsLt_bf16_f32

/-- The block of each array that a grid point works on. -/
theorem idx : ∀ t : Fin cfg0.N, win0_0.index t = ![t.val % 3, t.val / 3] ∧ win0_1.index t = ![t.val % 3, 0]
    ∧ win0_2.index t = ![t.val / 3, 0, 0] :=
  (by decide +kernel : ∀ t : Fin grid0.N, _)

/-- The number the host pads with is zero. -/
theorem zero_pad (φ : FTy) : (FloatOps.sitofp φ (0#32) : Ideal φ) = (0 : EReal) := by
  show (((0#32 : BitVec 32).toInt : ℝ) : EReal) = 0
  simp

/-- The host's gradient array: the incoming gradient, zero past its last column. -/
theorem arr_d (c : Dev nD) (p : Fin 4224) (j : Fin 1152) :
    (V m c (Pipeline.arrRef spec0 1) : FVec Ideal S4224x1152 .bf16) (ix2 p j)
      = if h : j.val < 1088 then (show EReal from m ((c : Thread nD τ).loc main_arg2) (ix2 p ⟨j.val, h⟩)) else 0 := by
  have e : (V m c (Pipeline.arrRef spec0 1) : FVec Ideal S4224x1152 .bf16)
      = truncf .bf16 (pad S4224x1152 ![0, 0] ![0, 64] ![0, 0]
          (show FVec Ideal S4224x1088 .f32 from m ((c : Thread nD τ).loc main_arg2))
          (sitofp .f32 (constantI S_ 32 0#32)) pads_S4224x1088_S4224x1152_000_0640 h_S_) bitsLt_bf16_f32 := by
    simp only [V]; rfl
  rw [e]
  pointwise
  by_cases hj : j.val < 1088
  · rw [dif_pos hj, dif_pos hj]
  · rw [dif_neg hj, dif_neg hj]
    exact zero_pad _

/-- A block of the gradient is its third of the rows. -/
theorem blk_d (c : Dev nD) (t : Fin cfg0.N) (p : Fin 1408) (j : Fin 1152) :
    (show FVec Ideal S1408x1152 .bf16 from iblk m c 1 t) (ix2 p j)
      = if h : j.val < 1088 then (show EReal from m ((c : Thread nD τ).loc main_arg2) (ix2 ⟨t.val % 3 * 1408 + p.val, by omega⟩ ⟨j.val, h⟩))
        else 0 := by
  have e : ((cfg0.win 1).blk t).view.emb (ix2 p j) = ix2 ⟨t.val % 3 * 1408 + p.val, by omega⟩ j := by blk_ext [idx t]
  have h : (show FVec Ideal S1408x1152 .bf16 from iblk m c 1 t) (ix2 p j)
      = V m c (Pipeline.arrRef spec0 1) (((cfg0.win 1).blk t).view.emb (ix2 p j)) := rfl
  rw [h, e]
  exact arr_d m c _ j

/-- A block of the activations is its third of the rows and its 256 columns. -/
theorem blk_h (c : Dev nD) (t : Fin cfg0.N) (p : Fin 1408) (j : Fin 256) :
    (show FVec Ideal S1408x256 .bf16 from iblk m c 0 t) (ix2 p j)
      = (show EReal from m ((c : Thread nD τ).loc main_arg0) (ix2 ⟨t.val % 3 * 1408 + p.val, by omega⟩
          ⟨t.val / 3 * 256 + j.val, by have : t.val < 24 := t.isLt; omega⟩)) := by
  have e : ((cfg0.win 0).blk t).view.emb (ix2 p j) = ix2 ⟨t.val % 3 * 1408 + p.val, by omega⟩
      ⟨t.val / 3 * 256 + j.val, by have : t.val < 24 := t.isLt; omega⟩ := by blk_ext [idx t]
  have h : (show FVec Ideal S1408x256 .bf16 from iblk m c 0 t) (ix2 p j)
      = V m c (Pipeline.arrRef spec0 0) (((cfg0.win 0).blk t).view.emb (ix2 p j)) := rfl
  have a : (V m c (Pipeline.arrRef spec0 0) : FVec Ideal S4224x2048 .bf16)
      = truncf .bf16 (show FVec Ideal S4224x2048 .f32 from m ((c : Thread nD τ).loc main_arg0)) bitsLt_bf16_f32 := by
    simp only [V]; rfl
  rw [h, e, a]
  rfl

/-- The reference's result at one entry: a sum over the rows, zero past the last column. -/
theorem REF_apply (hn : FVec Ideal Cert.MlaInWReferenceIdeal.S4224x2048 .f32)
    (dproj : FVec Ideal Cert.MlaInWReferenceIdeal.S4224x1088 .f32) (b : Fin 8) (k : Fin 256) (j : Fin 1152) :
    REF hn dproj (ix3 b k j) = if h : j.val < 1088 then
      ∑ l : Fin 4224, hn (ix2 l ⟨b.val * 256 + k.val, by omega⟩) * dproj (ix2 l ⟨j.val, h⟩) else 0 := by
  pointwise [REF]
  by_cases hj : j.val < 1088
  · rw [dif_pos (by omega), dif_pos hj]
    exact Finset.sum_congr rfl fun l _ => mul_comm _ _
  · rw [dif_neg (by omega), dif_neg hj]
    exact zero_pad _

/-- The part of a result's entry that one grid point contributes: the sum over its third of the rows. -/
def part (c : Dev nD) (t : Fin cfg0.N) (j : S256x1152.Idx) : EReal :=
  ∑ x : Fin 1408, (show FVec Ideal S1408x256 .bf16 from iblk m c 0 t) (ix2 x (j 0))
    * (show FVec Ideal S1408x1152 .bf16 from iblk m c 1 t) (ix2 x (j 1))

/-- A point's part, in the arguments' entries. -/
theorem part_eq (c : Dev nD) (t : Fin cfg0.N) (k : Fin 256) (j : Fin 1152) : part m c t (ix2 k j)
    = ∑ x : Fin 1408, (show EReal from m ((c : Thread nD τ).loc main_arg0) (ix2 ⟨t.val % 3 * 1408 + x.val, by omega⟩
          ⟨t.val / 3 * 256 + k.val, by have : t.val < 24 := t.isLt; omega⟩))
        * (if h : j.val < 1088 then (show EReal from m ((c : Thread nD τ).loc main_arg2) (ix2 ⟨t.val % 3 * 1408 + x.val, by omega⟩ ⟨j.val, h⟩))
        else 0) :=
  Finset.sum_congr rfl fun x _ => congrArg₂ _ (blk_h m c t x k) (blk_d m c t x j)

/-- The first point of a run starts the kept sum with its part. -/
theorem start (c : Dev nD) (t : Fin cfg0.N) (h : t.val % 3 = 0) (j : S256x1152.Idx) :
    (outsAt0 m c t.val t.isLt).2 j = 0 + part m c t j := by
  rw [outsAt0_A m c t h (by omega) (by omega)]; frame_out
  pointwise [k0_pay2, k0_pay1, part]

/-- A later point adds its part to what the point before kept. -/
theorem step (c : Dev nD) (t : Fin cfg0.N) (h : ¬t.val % 3 = 0) (j : S256x1152.Idx) :
    (outsAt0 m c t.val t.isLt).2 j
      = (outsAt0 m c (t.val - 1) (Nat.lt_of_le_of_lt (Nat.sub_le _ _) t.isLt)).2 j + part m c t j := by
  by_cases h2 : t.val % 3 = 2
  · rw [outsAt0_C m c t h (by omega) h2]; frame_out
    pointwise [k0_pay3, k0_pay1, part]
    rw [read_unread_whole]
  · rw [outsAt0_B m c t h (by omega) h2]; frame_out
    pointwise [k0_pay3, k0_pay1, part]
    rw [read_unread_whole]

/-- After the last point of a run the kept sum is the sum of the three parts. -/
theorem kept (c : Dev nD) (t : Fin cfg0.N) (h : t.val % 3 = 3 - 1) (j : S256x1152.Idx) :
    (outsAt0 m c t.val t.isLt).2 j
      = ∑ s : Fin 3, part m c ⟨3 * (t.val / 3) + s.val, Pipeline.run_point_lt_of_flush t h s⟩ j :=
  (Pipeline.eq_sum_fin_of_reset_step_apply_of_flush (fun n h => (outsAt0 m c n h).2) 3 (fun _ => (0 : EReal)) (part m c)
    (start m c) (step m c) t h j).trans (zero_add _)

/-- The result array after the run is the reference's. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  have h2 : t.val % 3 = 2 := (flush0_2 t).mp hf
  have h0 : ¬ t.val % 3 = 0 := by omega
  obtain ⟨z, k, j, rfl⟩ : ∃ (z : Fin 1) (k : Fin 256) (j : Fin 1152), y = ix3 z k j :=
    ⟨y 0, y 1, y 2, by funext i; fin_cases i <;> rfl⟩
  have e : ((cfg0.win 2).blk t).view.emb (ix3 z k j) = ix3 ⟨t.val / 3, by have : t.val < 24 := t.isLt; omega⟩ k j := by blk_ext [idx t]
  blk_simp; rw [after0_2, outsAt0_C m c t h0 (by omega) h2, e, REF_apply]
  frame_out
  pointwise [k0_pay1, k0_pay3, k0_pay4]
  rw [read_unread_whole]
  refine (step m c t h0 (ix2 k j)).symm.trans ((kept m c t h2 _).trans ?_)
  simp only [part_eq]
  by_cases hj : j.val < 1088
  · rw [dif_pos hj]
    refine Fin.sum_mul_add_congr fun s x hl => ?_
    rw [dif_pos hj]
    have e1 : (⟨(3 * (t.val / 3) + s.val) % 3 * 1408 + x.val, by omega⟩ : Fin 4224) = ⟨s.val * 1408 + x.val, hl⟩ :=
      Fin.ext (by show (3 * (t.val / 3) + s.val) % 3 * 1408 + x.val = s.val * 1408 + x.val; omega)
    have e2 : (⟨(3 * (t.val / 3) + s.val) / 3 * 256 + k.val, by have : t.val < 24 := t.isLt; omega⟩ : Fin 2048)
        = ⟨t.val / 3 * 256 + k.val, by have : t.val < 24 := t.isLt; omega⟩ :=
      Fin.ext (by show (3 * (t.val / 3) + s.val) / 3 * 256 + k.val = t.val / 3 * 256 + k.val; omega)
    rw [e1, e2]
  · rw [dif_neg hj]
    refine Finset.sum_eq_zero fun s _ => Finset.sum_eq_zero fun x _ => ?_
    rw [dif_neg hj, mul_zero]

end Cert.MlaInWKernelIdeal.Hand

end
-- ==== Proof.MlaInWClaim.lean ====
/- The gradient of the latents' weight: its result. -/
module

public import proofs.«01_k».proof.Defs
public import proofs.«01_k».proof.Proof.MlaInW
public import proofs.«01_k».proof.Proof.Gen.MlaInWReferenceIdeal.Run
public import Idealize.ShloMosaic.Lib.Claim

@[expose] public section

set_option maxRecDepth 16384

noncomputable section

namespace Cert.Proof

open Idealize.ShloMosaic Idealize.SL.Sem

set_option maxHeartbeats 1600000 in
/-- The call's result is the reference's, entry by entry over the extended reals. -/
theorem algebraic_MlaInWKernelIdeal_MlaInWReferenceIdeal : Cert.algebraic_MlaInWKernelIdeal_MlaInWReferenceIdeal := by
  pair_intro
  · run_from Cert.MlaInWKernelIdeal.Value.run_blocks m g
  · hlo_run
    exact (Cert.MlaInWKernelIdeal.Hand.final m c).symm

end Cert.Proof

end
-- ==== Proof.MlaCols.lean ====
/- The two orders of the queries' columns.

   The weight has its columns head by head, 128 without rotation and then 64 rotated ones for each of the 16 heads. The
   kernel works with the columns without rotation of all heads first and the rotated ones of all heads after them. -/
module

public import proofs.«01_k».proof.Proof.Gen.MlaUqWReferenceIdeal
public import Idealize.ShloMosaic.Lib.Pipeline.ValueKit

@[expose] public section

set_option maxRecDepth 16384

noncomputable section

open Idealize.ShloMosaic

namespace Cert.Mla

open Cert.MlaUqWReferenceIdeal Cert.MlaUqWReferenceIdeal.Gen

/-- The weight's column that the kernel keeps as its column `j`. -/
def col (j : Fin 3072) : Fin 3072 :=
  if h : j.val < 2048 then ⟨j.val / 128 * 192 + j.val % 128, by omega⟩
  else ⟨(j.val - 2048) / 64 * 192 + (128 + (j.val - 2048) % 64), by omega⟩

/-- The place of a column without rotation. -/
theorem col_low (j : Fin 3072) (h : j.val < 2048) : col j = ⟨j.val / 128 * 192 + j.val % 128, by omega⟩ := dif_pos h

/-- The place of a rotated column. -/
theorem col_high (j : Fin 3072) (h : ¬ j.val < 2048) :
    col j = ⟨(j.val - 2048) / 64 * 192 + (128 + (j.val - 2048) % 64), by omega⟩ := dif_neg h

/-- The order is a rearrangement: no column is kept twice, and so none is lost. -/
theorem col_bijective : Function.Bijective col := by
  refine Finite.injective_iff_bijective.mp fun a b h => Fin.ext ?_
  have h' := congrArg Fin.val h
  by_cases ha : a.val < 2048 <;> by_cases hb : b.val < 2048
  · rw [col_low a ha, col_low b hb] at h'; dsimp only at h'; omega
  · rw [col_low a ha, col_high b hb] at h'; dsimp only at h'; omega
  · rw [col_high a ha, col_low b hb] at h'; dsimp only at h'; omega
  · rw [col_high a ha, col_high b hb] at h'; dsimp only at h'; omega

/-- The incoming gradient in the order of the weight's columns, as the reference sets it together. -/
def DQ (dqn : FVec Ideal S4224x2048 .f32) (dqr : FVec Ideal S4224x1024 .f32) : FVec Ideal S4224x3072 .f32 :=
  shapeCast S4224x3072 (addf
      (pad S4224x16x192 ![0, 0, 128] ![0, 0, 0] ![0, 0, 0]
        (shapeCast S4224x16x64 dqr shapeCasts_S4224x1024_S4224x16x64)
        (constant S_ .f32 0x00000000#32) pads_S4224x16x64_S4224x16x192_000_000_12800 h_S_)
      (pad S4224x16x192 ![0, 0, 0] ![0, 0, 64] ![0, 0, 0]
        (shapeCast S4224x16x128 dqn shapeCasts_S4224x2048_S4224x16x128)
        (constant S_ .f32 0x00000000#32) pads_S4224x16x128_S4224x16x192_000_000_0640 h_S_))
    shapeCasts_S4224x16x192_S4224x3072

/-- The incoming gradient in the order of the kernel. -/
def CAT (dqn : FVec Ideal S4224x2048 .f32) (dqr : FVec Ideal S4224x1024 .f32) (p : Fin 4224) (j : Fin 3072) : EReal :=
  if h : j.val < 2048 then dqn (ix2 p ⟨j.val, h⟩) else dqr (ix2 p ⟨j.val - 2048, by omega⟩)

/-- The place of a column without rotation inside its head. -/
theorem low_place (j : Nat) (h : j < 2048) : (j / 128 * 192 + j % 128) / 192 = j / 128
    ∧ (j / 128 * 192 + j % 128) % 192 = j % 128 := by omega

/-- The place of a rotated column inside its head. -/
theorem high_place (j : Nat) : ((j - 2048) / 64 * 192 + (128 + (j - 2048) % 64)) / 192 = (j - 2048) / 64
    ∧ ((j - 2048) / 64 * 192 + (128 + (j - 2048) % 64)) % 192 = 128 + (j - 2048) % 64 := by omega

/-- The two orders hold the same entries. -/
theorem DQ_col (dqn : FVec Ideal S4224x2048 .f32) (dqr : FVec Ideal S4224x1024 .f32) (p : Fin 4224) (j : Fin 3072) :
    DQ dqn dqr (ix2 p (col j)) = CAT dqn dqr p j := by
  have hj := j.isLt
  unfold CAT
  by_cases h : j.val < 2048
  · rw [col_low j h, dif_pos h]
    obtain ⟨e1, e2⟩ := low_place j.val h
    pointwise [DQ]
    refine (congrArg₂ (fun a b : EReal => a + b) (dif_neg (fun h' => ?_)) (dif_pos ⟨?_, ?_⟩)).trans ((zero_add _).trans ?_)
    · have h1 := h'.2.1; rw [e2] at h1; clear h' e1 e2; omega
    · exact congrArg (fun a => dqn (ix2 p a)) (Fin.ext (by dsimp only; rw [e1, e2]; clear e1 e2; omega))
    · rw [e1]; clear e1 e2; omega
    · rw [e2]; clear e1 e2; omega
  · rw [col_high j h, dif_neg h]
    obtain ⟨e1, e2⟩ := high_place j.val
    pointwise [DQ]
    refine (congrArg₂ (fun a b : EReal => a + b) (dif_pos ⟨?_, ?_, ?_⟩) (dif_neg (fun h' => ?_))).trans ((add_zero _).trans ?_)
    · have h1 := h'.2; rw [e2] at h1; clear h' e1 e2; omega
    · exact congrArg (fun a => dqr (ix2 p a)) (Fin.ext (by dsimp only; rw [e1, e2]; clear e1 e2; omega))
    · rw [e1]; clear e1 e2; omega
    · rw [e2]; clear e1 e2; omega
    · rw [e2]; clear e1 e2; omega

end Cert.Mla

end
-- ==== Proof.MlaUq.lean ====
/- The queries' projection: `c_q @ w_uq`, the columns without rotation of all heads first, then the rotated ones.

   The kernel's grid has 6 row tiles times 3 column tiles; each point multiplies one 704-row tile of `c_q` by one
   1024-column tile of the weight, whose columns the host has put in that order. The reference multiplies and takes the
   columns of the product in that order. Both are the same sum over 512 lanes. -/
module

public import proofs.«01_k».proof.Proof.Gen.MlaUqKernelIdeal.Value
public import proofs.«01_k».proof.Proof.Gen.MlaUqReferenceIdeal
public import proofs.«01_k».proof.Proof.MlaCols
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaUqKernelIdeal.Hand

open Cert.MlaUqKernelIdeal Cert.MlaUqKernelIdeal.Gen

variable (m : (ℓ : Loc nD τ sig) → Buf (Elt Ideal) ℓ)

/-- The reference's product, head by head. -/
abbrev Q (c_q : FVec Ideal Cert.MlaUqReferenceIdeal.S4224x512 .f32) (w : FVec Ideal Cert.MlaUqReferenceIdeal.S512x3072 .f32) : FVec Ideal Cert.MlaUqReferenceIdeal.S4224x16x192 .f32 :=
  shapeCast Cert.MlaUqReferenceIdeal.S4224x16x192 (Host.dotGeneral Cert.MlaUqReferenceIdeal.dot_S4224x512_S512x3072_S4224x3072_1_0_0_1_n_n none c_q w)
    Cert.MlaUqReferenceIdeal.Gen.shapeCasts_S4224x3072_S4224x16x192

/-- The reference's result as a function of the latent and the weight. -/
abbrev REF (c_q : FVec Ideal Cert.MlaUqReferenceIdeal.S4224x512 .f32) (w : FVec Ideal Cert.MlaUqReferenceIdeal.S512x3072 .f32) : FVec Ideal Cert.MlaUqReferenceIdeal.S4224x3072 .f32 :=
  concatenate Cert.MlaUqReferenceIdeal.S4224x3072 1
    [⟨Cert.MlaUqReferenceIdeal.S4224x2048, shapeCast Cert.MlaUqReferenceIdeal.S4224x2048 (extractStridedSlice Cert.MlaUqReferenceIdeal.S4224x16x128 ![0, 0, 0] (Q c_q w)
      Cert.MlaUqReferenceIdeal.Gen.slices_S4224x16x192_S4224x16x128_0_0_0) Cert.MlaUqReferenceIdeal.Gen.shapeCasts_S4224x16x128_S4224x2048⟩,
     ⟨Cert.MlaUqReferenceIdeal.S4224x1024, shapeCast Cert.MlaUqReferenceIdeal.S4224x1024 (extractStridedSlice Cert.MlaUqReferenceIdeal.S4224x16x64 ![0, 0, 128] (Q c_q w)
      Cert.MlaUqReferenceIdeal.Gen.slices_S4224x16x192_S4224x16x64_0_0_128) Cert.MlaUqReferenceIdeal.Gen.shapeCasts_S4224x16x64_S4224x1024⟩]
    Cert.MlaUqReferenceIdeal.Gen.concatenates_S4224x2048_S4224x1024_S4224x3072_d1

/-- The block of each array that a grid point works on. -/
theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

/-- The host's weight array: the weight's columns in the order of the kernel. -/
theorem arr_w (c : Dev nD) (x : Fin 512) (j : Fin 3072) :
    (V m c (Pipeline.arrRef spec0 1) : FVec Ideal S512x3072 .bf16) (ix2 x j)
      = (show EReal from m ((c : Thread nD τ).loc main_arg1) (ix2 x (Cert.Mla.col j))) := by
  have e : (V m c (Pipeline.arrRef spec0 1) : FVec Ideal S512x3072 .bf16)
      = concatenate S512x3072 1
          [⟨S512x2048, shapeCast S512x2048 (extractStridedSlice S512x16x128 ![0, 0, 0] (shapeCast S512x16x192
            (truncf .bf16 (show FVec Ideal S512x3072 .f32 from m ((c : Thread nD τ).loc main_arg1)) bitsLt_bf16_f32)
            shapeCasts_S512x3072_S512x16x192) slices_S512x16x192_S512x16x128_0_0_0) shapeCasts_S512x16x128_S512x2048⟩,
           ⟨S512x1024, shapeCast S512x1024 (extractStridedSlice S512x16x64 ![0, 0, 128] (shapeCast S512x16x192
            (truncf .bf16 (show FVec Ideal S512x3072 .f32 from m ((c : Thread nD τ).loc main_arg1)) bitsLt_bf16_f32)
            shapeCasts_S512x3072_S512x16x192) slices_S512x16x192_S512x16x64_0_0_128) shapeCasts_S512x16x64_S512x1024⟩]
          concatenates_S512x2048_S512x1024_S512x3072_d1 := by
    simp only [V]; rfl
  rw [e]
  pointwise
  by_cases h : j.val < 2048
  · rw [Cert.Mla.col_low j h, dif_pos h]
  · rw [Cert.Mla.col_high j h, dif_neg h]

/-- The host's array of the latent. -/
theorem arr_q (c : Dev nD) : (V m c (Pipeline.arrRef spec0 0) : FVec Ideal S4224x512 .bf16)
    = truncf .bf16 (show FVec Ideal S4224x512 .f32 from m ((c : Thread nD τ).loc main_arg0)) bitsLt_bf16_f32 := by
  simp only [V]; rfl

/-- A block of the latent is its row tile. -/
theorem blk_q (c : Dev nD) (t : Fin cfg0.N) (p : Fin 704) (j : Fin 512) :
    (show FVec Ideal S704x512 .bf16 from iblk m c 0 t) (ix2 p j)
      = (show EReal from m ((c : Thread nD τ).loc main_arg0) (ix2 ⟨t.val / 3 * 704 + p.val, by have : t.val < 18 := t.isLt; omega⟩ j)) := by
  have e : ((cfg0.win 0).blk t).view.emb (ix2 p j) = ix2 ⟨t.val / 3 * 704 + p.val, by have : t.val < 18 := t.isLt; omega⟩ j := by blk_ext [idx t]
  have h : (show FVec Ideal S704x512 .bf16 from iblk m c 0 t) (ix2 p j)
      = V m c (Pipeline.arrRef spec0 0) (((cfg0.win 0).blk t).view.emb (ix2 p j)) := rfl
  rw [h, e]
  exact congrFun (arr_q m c) _

/-- A block of the weight is its column tile. -/
theorem blk_w (c : Dev nD) (t : Fin cfg0.N) (p : Fin 512) (j : Fin 1024) :
    (show FVec Ideal S512x1024 .bf16 from iblk m c 1 t) (ix2 p j)
      = (show EReal from m ((c : Thread nD τ).loc main_arg1) (ix2 p (Cert.Mla.col ⟨t.val % 3 * 1024 + j.val, by have : t.val < 18 := t.isLt; omega⟩))) := by
  have e : ((cfg0.win 1).blk t).view.emb (ix2 p j) = ix2 p ⟨t.val % 3 * 1024 + j.val, by have : t.val < 18 := t.isLt; omega⟩ := by blk_ext [idx t]
  have h : (show FVec Ideal S512x1024 .bf16 from iblk m c 1 t) (ix2 p j)
      = V m c (Pipeline.arrRef spec0 1) (((cfg0.win 1).blk t).view.emb (ix2 p j)) := rfl
  rw [h, e]
  exact arr_w m c _ _

/-- The reference's result at one entry. -/
theorem REF_apply (c_q : FVec Ideal Cert.MlaUqReferenceIdeal.S4224x512 .f32)
    (w : FVec Ideal Cert.MlaUqReferenceIdeal.S512x3072 .f32) (p : Fin 4224) (j : Fin 3072) :
    REF c_q w (ix2 p j) = ∑ l : Fin 512, c_q (ix2 p l) * w (ix2 l (Cert.Mla.col j)) := by
  by_cases h : j.val < 2048
  · rw [Cert.Mla.col_low j h]
    pointwise [REF]
    rw [dif_pos h]
  · rw [Cert.Mla.col_high j h]
    pointwise [REF]
    rw [dif_neg h]

/-- What a point stores is the reference at the place of the result that the point's block sits at. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  obtain ⟨p, j, rfl⟩ : ∃ (p : Fin 704) (j : Fin 1024), y = ix2 p j := ⟨y 0, y 1, by funext i; fin_cases i <;> rfl⟩
  have e : ((cfg0.win 2).blk t).view.emb (ix2 p j)
      = ix2 ⟨t.val / 3 * 704 + p.val, by have : t.val < 18 := t.isLt; omega⟩
          ⟨t.val % 3 * 1024 + j.val, by have : t.val < 18 := t.isLt; omega⟩ := by blk_ext [idx t]
  rw [e, REF_apply]
  pointwise [k0_pay1]
  exact Finset.sum_congr rfl fun x _ => congrArg₂ _ (blk_q m c t p x) (blk_w m c t x j)

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.MlaUqKernelIdeal.Hand

end
-- ==== Proof.MlaUqX.lean ====
/- The gradient of the queries' projection with respect to the latent: `dc_q = dq @ w_uqᵀ`.

   The kernel's grid has 6 row tiles and 3 column tiles of the weight summed over. The first point of a run of three keeps
   its product, the others add theirs, and the last one stores the sum. The kernel has the columns without rotation of all
   heads first; the reference sets the incoming gradient into the order of the weight, head by head, and sums over all
   3072 columns at once. The two sums have the same terms in another order. -/
module

public import proofs.«01_k».proof.Proof.Gen.MlaUqXKernelIdeal.Value
public import proofs.«01_k».proof.Proof.Gen.MlaUqXReferenceIdeal
public import proofs.«01_k».proof.Proof.MlaCols
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlaUqXKernelIdeal.Hand

open Cert.MlaUqXKernelIdeal Cert.MlaUqXKernelIdeal.Gen

variable (m : (ℓ : Loc nD τ sig) → Buf (Elt Ideal) ℓ)

/-- The reference's result as a function of the weight and the two parts of the incoming gradient. -/
def REF (w : FVec Ideal Cert.MlaUqXReferenceIdeal.S512x3072 .f32) (dqn : FVec Ideal Cert.MlaUqXReferenceIdeal.S4224x2048 .f32)
    (dqr : FVec Ideal Cert.MlaUqXReferenceIdeal.S4224x1024 .f32) : FVec Ideal Cert.MlaUqXReferenceIdeal.S4224x512 .f32 :=
  Host.dotGeneral Cert.MlaUqXReferenceIdeal.dot_S4224x3072_S512x3072_S4224x512_1_1_0_0_n_n none (Cert.Mla.DQ dqn dqr) w

/-- The reference's result at one entry, its sum in the order of the kernel. -/
theorem REF_apply (w : FVec Ideal Cert.MlaUqXReferenceIdeal.S512x3072 .f32) (dqn : FVec Ideal Cert.MlaUqXReferenceIdeal.S4224x2048 .f32)
    (dqr : FVec Ideal Cert.MlaUqXReferenceIdeal.S4224x1024 .f32) (p : Fin 4224) (k : Fin 512) :
    REF w dqn dqr (ix2 p k) = ∑ j : Fin 3072, Cert.Mla.CAT dqn dqr p j * w (ix2 k (Cert.Mla.col j)) := by
  simp only [← Cert.Mla.DQ_col]
  unfold REF
  generalize Cert.Mla.DQ dqn dqr = Q
  pointwise
  exact (Fintype.sum_bijective _ Cert.Mla.col_bijective _ _ fun j => rfl).symm

/-- The block of each array that a grid point works on. -/
theorem idx : ∀ t : Fin cfg0.N, win0_0.index t = ![t.val / 3, t.val % 3] ∧ win0_1.index t = ![0, t.val % 3]
    ∧ win0_2.index t = ![t.val / 3, 0] :=
  (by decide +kernel : ∀ t : Fin grid0.N, _)

/-- The host's weight array: the weight's columns in the order of the kernel. -/
theorem arr_w (c : Dev nD) (x : Fin 512) (j : Fin 3072) :
    (V m c (Pipeline.arrRef spec0 1) : FVec Ideal S512x3072 .bf16) (ix2 x j)
      = (show EReal from m ((c : Thread nD τ).loc main_arg1) (ix2 x (Cert.Mla.col j))) := by
  have e : (V m c (Pipeline.arrRef spec0 1) : FVec Ideal S512x3072 .bf16)
      = concatenate S512x3072 1
          [⟨S512x2048, shapeCast S512x2048 (extractStridedSlice S512x16x128 ![0, 0, 0] (shapeCast S512x16x192
            (truncf .bf16 (show FVec Ideal S512x3072 .f32 from m ((c : Thread nD τ).loc main_arg1)) bitsLt_bf16_f32)
            shapeCasts_S512x3072_S512x16x192) slices_S512x16x192_S512x16x128_0_0_0) shapeCasts_S512x16x128_S512x2048⟩,
           ⟨S512x1024, shapeCast S512x1024 (extractStridedSlice S512x16x64 ![0, 0, 128] (shapeCast S512x16x192
            (truncf .bf16 (show FVec Ideal S512x3072 .f32 from m ((c : Thread nD τ).loc main_arg1)) bitsLt_bf16_f32)
            shapeCasts_S512x3072_S512x16x192) slices_S512x16x192_S512x16x64_0_0_128) shapeCasts_S512x16x64_S512x1024⟩]
          concatenates_S512x2048_S512x1024_S512x3072_d1 := by
    simp only [V]; rfl
  rw [e]
  pointwise
  by_cases h : j.val < 2048
  · rw [Cert.Mla.col_low j h, dif_pos h]
  · rw [Cert.Mla.col_high j h, dif_neg h]

/-- The host's array of the incoming gradient, in the order of the kernel. -/
theorem arr_d (c : Dev nD) (p : Fin 4224) (j : Fin 3072) :
    (V m c (Pipeline.arrRef spec0 0) : FVec Ideal S4224x3072 .bf16) (ix2 p j)
      = Cert.Mla.CAT (m ((c : Thread nD τ).loc main_arg2)) (m ((c : Thread nD τ).loc main_arg3)) p j := by
  have e : (V m c (Pipeline.arrRef spec0 0) : FVec Ideal S4224x3072 .bf16)
      = truncf .bf16 (concatenate S4224x3072 1
          [⟨S4224x2048, (show FVec Ideal S4224x2048 .f32 from m ((c : Thread nD τ).loc main_arg2))⟩,
           ⟨S4224x1024, (show FVec Ideal S4224x1024 .f32 from m ((c : Thread nD τ).loc main_arg3))⟩]
          concatenates_S4224x2048_S4224x1024_S4224x3072_d1) bitsLt_bf16_f32 := by
    simp only [V]; rfl
  rw [e]
  pointwise [Cert.Mla.CAT]

/-- A block of the gradient is its row tile and its column tile. -/
theorem blk_d (c : Dev nD) (t : Fin cfg0.N) (p : Fin 704) (j : Fin 1024) :
    (show FVec Ideal S704x1024 .bf16 from iblk m c 0 t) (ix2 p j)
      = Cert.Mla.CAT (m ((c : Thread nD τ).loc main_arg2)) (m ((c : Thread nD τ).loc main_arg3)) ⟨t.val / 3 * 704 + p.val, by have : t.val < 18 := t.isLt; omega⟩ ⟨t.val % 3 * 1024 + j.val, by have : t.val < 18 := t.isLt; omega⟩ := by
  have e : ((cfg0.win 0).blk t).view.emb (ix2 p j) = ix2 ⟨t.val / 3 * 704 + p.val, by have : t.val < 18 := t.isLt; omega⟩ ⟨t.val % 3 * 1024 + j.val, by have : t.val < 18 := t.isLt; omega⟩ := by blk_ext [idx t]
  have h : (show FVec Ideal S704x1024 .bf16 from iblk m c 0 t) (ix2 p j)
      = V m c (Pipeline.arrRef spec0 0) (((cfg0.win 0).blk t).view.emb (ix2 p j)) := rfl
  rw [h, e]
  exact arr_d m c _ _

/-- A block of the weight is its column tile. -/
theorem blk_w (c : Dev nD) (t : Fin cfg0.N) (p : Fin 512) (j : Fin 1024) :
    (show FVec Ideal S512x1024 .bf16 from iblk m c 1 t) (ix2 p j)
      = (show EReal from m ((c : Thread nD τ).loc main_arg1) (ix2 p (Cert.Mla.col ⟨t.val % 3 * 1024 + j.val, by have : t.val < 18 := t.isLt; omega⟩))) := by
  have e : ((cfg0.win 1).blk t).view.emb (ix2 p j) = ix2 p ⟨t.val % 3 * 1024 + j.val, by have : t.val < 18 := t.isLt; omega⟩ := by blk_ext [idx t]
  have h : (show FVec Ideal S512x1024 .bf16 from iblk m c 1 t) (ix2 p j)
      = V m c (Pipeline.arrRef spec0 1) (((cfg0.win 1).blk t).view.emb (ix2 p j)) := rfl
  rw [h, e]
  exact arr_w m c _ _

/-- The part of a result's entry that one grid point contributes: the sum over its column tile. -/
def part (c : Dev nD) (t : Fin cfg0.N) (j : S704x512.Idx) : EReal :=
  ∑ x : Fin 1024, (show FVec Ideal S704x1024 .bf16 from iblk m c 0 t) (ix2 (j 0) x)
    * (show FVec Ideal S512x1024 .bf16 from iblk m c 1 t) (ix2 (j 1) x)

/-- A point's part, in the arguments' entries. -/
theorem part_eq (c : Dev nD) (t : Fin cfg0.N) (p : Fin 704) (k : Fin 512) : part m c t (ix2 p k)
    = ∑ j : Fin 1024, Cert.Mla.CAT (m ((c : Thread nD τ).loc main_arg2)) (m ((c : Thread nD τ).loc main_arg3)) ⟨t.val / 3 * 704 + p.val, by have : t.val < 18 := t.isLt; omega⟩ ⟨t.val % 3 * 1024 + j.val, by have : t.val < 18 := t.isLt; omega⟩
        * (show EReal from m ((c : Thread nD τ).loc main_arg1) (ix2 k (Cert.Mla.col ⟨t.val % 3 * 1024 + j.val, by have : t.val < 18 := t.isLt; omega⟩))) :=
  Finset.sum_congr rfl fun x _ => congrArg₂ _ (blk_d m c t p x) (blk_w m c t k x)

/-- The first point of a run starts the kept sum with its part. -/
theorem start (c : Dev nD) (t : Fin cfg0.N) (h : t.val % 3 = 0) (j : S704x512.Idx) :
    (outsAt0 m c t.val t.isLt).2 j = 0 + part m c t j := by
  rw [outsAt0_A m c t h (by omega) (by omega)]; frame_out
  pointwise [k0_pay2, k0_pay1, part]

/-- A later point adds its part to what the point before kept. -/
theorem step (c : Dev nD) (t : Fin cfg0.N) (h : ¬t.val % 3 = 0) (j : S704x512.Idx) :
    (outsAt0 m c t.val t.isLt).2 j
      = (outsAt0 m c (t.val - 1) (Nat.lt_of_le_of_lt (Nat.sub_le _ _) t.isLt)).2 j + part m c t j := by
  by_cases h3 : t.val % 3 = 2
  · rw [outsAt0_C m c t h (by omega) h3]; frame_out
    pointwise [k0_pay3, k0_pay1, part]
    rw [read_unread_whole]
  · rw [outsAt0_B m c t h (by omega) h3]; frame_out
    pointwise [k0_pay3, k0_pay1, part]
    rw [read_unread_whole]

/-- After the last point of a run the kept sum is the sum of the three parts. -/
theorem kept (c : Dev nD) (t : Fin cfg0.N) (h : t.val % 3 = 3 - 1) (j : S704x512.Idx) :
    (outsAt0 m c t.val t.isLt).2 j
      = ∑ s : Fin 3, part m c ⟨3 * (t.val / 3) + s.val, Pipeline.run_point_lt_of_flush t h s⟩ j :=
  (Pipeline.eq_sum_fin_of_reset_step_apply_of_flush (fun n h => (outsAt0 m c n h).2) 3 (fun _ => (0 : EReal)) (part m c)
    (start m c) (step m c) t h j).trans (zero_add _)

/-- The result array after the run is the reference's. -/
theorem final (c : Dev nD) : (dats m 0 c).arrAt 2 (cfgs 0).N = REF (m ((c : Thread nD τ).loc main_arg1)) (m ((c : Thread nD τ).loc main_arg2)) (m ((c : Thread nD τ).loc main_arg3)) := by
  refine (dats m 0 c).arrAt_eq_of_covers 2 _ (by decide +kernel) fun t hf y => ?_
  have h2 : t.val % 3 = 2 := (flush0_2 t).mp hf
  have h0 : ¬ t.val % 3 = 0 := by omega
  obtain ⟨p, k, rfl⟩ : ∃ (p : Fin 704) (k : Fin 512), y = ix2 p k := ⟨y 0, y 1, by funext i; fin_cases i <;> rfl⟩
  have e : ((cfg0.win 2).blk t).view.emb (ix2 p k) = ix2 ⟨t.val / 3 * 704 + p.val, by have : t.val < 18 := t.isLt; omega⟩ k := by blk_ext [idx t]
  blk_simp; rw [after0_2, outsAt0_C m c t h0 (by omega) h2, e, REF_apply]
  frame_out
  pointwise [k0_pay1, k0_pay3]
  rw [read_unread_whole]
  refine (step m c t h0 (ix2 p k)).symm.trans ((kept m c t h2 _).trans ?_)
  simp only [part_eq]
  refine Fin.sum_mul_add_congr fun s x hl => ?_
  have e1 : (⟨(3 * (t.val / 3) + s.val) % 3 * 1024 + x.val, by omega⟩ : Fin 3072) = ⟨s.val * 1024 + x.val, hl⟩ :=
    Fin.ext (by show (3 * (t.val / 3) + s.val) % 3 * 1024 + x.val = s.val * 1024 + x.val; omega)
  have e2 : (⟨(3 * (t.val / 3) + s.val) / 3 * 704 + p.val, by have : t.val < 18 := t.isLt; omega⟩ : Fin 4224)
      = ⟨t.val / 3 * 704 + p.val, by have : t.val < 18 := t.isLt; omega⟩ :=
    Fin.ext (by show (3 * (t.val / 3) + s.val) / 3 * 704 + p.val = t.val / 3 * 704 + p.val; omega)
  rw [e1, e2]

end Cert.MlaUqXKernelIdeal.Hand

end
-- ==== Proof.MlaUqW.lean ====
/- The gradient of the queries' projection's weight: `dw = c_qᵀ @ dq`, the columns without rotation of all heads first,
   then the rotated ones.

   The kernel's grid has 3 column tiles of the weight and 3 parts of the rows summed over. The first point of a run of
   three keeps its product, the others add theirs, and the last one stores the sum. The reference sets the two parts of
   the incoming gradient into the order of the weight, head by head, sums over all 4224 rows at once and takes the
   columns of the result in the order of the kernel. -/
module

public import proofs.«01_k».proof.Proof.Gen.MlaUqWKernelIdeal.Value
public import proofs.«01_k».proof.Proof.Gen.MlaUqWReferenceIdeal
public import proofs.«01_k».proof.Proof.MlaCols
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlaUqWKernelIdeal.Hand

open Cert.MlaUqWKernelIdeal Cert.MlaUqWKernelIdeal.Gen

variable (m : (ℓ : Loc nD τ sig) → Buf (Elt Ideal) ℓ)

/-- The reference's gradient of the weight, head by head. -/
def DW (c_q : FVec Ideal Cert.MlaUqWReferenceIdeal.S4224x512 .f32) (dqn : FVec Ideal Cert.MlaUqWReferenceIdeal.S4224x2048 .f32)
    (dqr : FVec Ideal Cert.MlaUqWReferenceIdeal.S4224x1024 .f32) : FVec Ideal Cert.MlaUqWReferenceIdeal.S512x16x192 .f32 :=
  shapeCast Cert.MlaUqWReferenceIdeal.S512x16x192 (transpose Cert.MlaUqWReferenceIdeal.S512x3072 [1, 0]
    (Host.dotGeneral Cert.MlaUqWReferenceIdeal.dot_S4224x3072_S4224x512_S3072x512_0_0_1_1_n_n none (Cert.Mla.DQ dqn dqr) c_q)
    Cert.MlaUqWReferenceIdeal.Gen.transposes_S3072x512_S512x3072_1_0) Cert.MlaUqWReferenceIdeal.Gen.shapeCasts_S512x3072_S512x16x192

/-- The reference's result as a function of the latent and the two parts of the incoming gradient. -/
def REF (c_q : FVec Ideal Cert.MlaUqWReferenceIdeal.S4224x512 .f32) (dqn : FVec Ideal Cert.MlaUqWReferenceIdeal.S4224x2048 .f32)
    (dqr : FVec Ideal Cert.MlaUqWReferenceIdeal.S4224x1024 .f32) : FVec Ideal Cert.MlaUqWReferenceIdeal.S512x3072 .f32 :=
  concatenate Cert.MlaUqWReferenceIdeal.S512x3072 1
    [⟨Cert.MlaUqWReferenceIdeal.S512x2048, shapeCast Cert.MlaUqWReferenceIdeal.S512x2048 (extractStridedSlice Cert.MlaUqWReferenceIdeal.S512x16x128 ![0, 0, 0] (DW c_q dqn dqr)
      Cert.MlaUqWReferenceIdeal.Gen.slices_S512x16x192_S512x16x128_0_0_0) Cert.MlaUqWReferenceIdeal.Gen.shapeCasts_S512x16x128_S512x2048⟩,
     ⟨Cert.MlaUqWReferenceIdeal.S512x1024, shapeCast Cert.MlaUqWReferenceIdeal.S512x1024 (extractStridedSlice Cert.MlaUqWReferenceIdeal.S512x16x64 ![0, 0, 128] (DW c_q dqn dqr)
      Cert.MlaUqWReferenceIdeal.Gen.slices_S512x16x192_S512x16x64_0_0_128) Cert.MlaUqWReferenceIdeal.Gen.shapeCasts_S512x16x64_S512x1024⟩]
    Cert.MlaUqWReferenceIdeal.Gen.concatenates_S512x2048_S512x1024_S512x3072_d1

/-- The block of each array that a grid point works on. -/
theorem idx : ∀ t : Fin cfg0.N, win0_0.index t = ![t.val % 3, 0] ∧ win0_1.index t = ![t.val % 3, t.val / 3]
    ∧ win0_2.index t = ![0, t.val / 3] :=
  (by decide +kernel : ∀ t : Fin grid0.N, _)

/-- The host's array of the latent. -/
theorem arr_q (c : Dev nD) : (V m c (Pipeline.arrRef spec0 0) : FVec Ideal S4224x512 .bf16)
    = truncf .bf16 (show FVec Ideal S4224x512 .f32 from m ((c : Thread nD τ).loc main_arg0)) bitsLt_bf16_f32 := by
  simp only [V]; rfl

/-- The host's array of the incoming gradient, in the order of the kernel. -/
theorem arr_d (c : Dev nD) (p : Fin 4224) (j : Fin 3072) :
    (V m c (Pipeline.arrRef spec0 1) : FVec Ideal S4224x3072 .bf16) (ix2 p j)
      = Cert.Mla.CAT (m ((c : Thread nD τ).loc main_arg2)) (m ((c : Thread nD τ).loc main_arg3)) p j := by
  have e : (V m c (Pipeline.arrRef spec0 1) : FVec Ideal S4224x3072 .bf16)
      = truncf .bf16 (concatenate S4224x3072 1
          [⟨S4224x2048, (show FVec Ideal S4224x2048 .f32 from m ((c : Thread nD τ).loc main_arg2))⟩,
           ⟨S4224x1024, (show FVec Ideal S4224x1024 .f32 from m ((c : Thread nD τ).loc main_arg3))⟩]
          concatenates_S4224x2048_S4224x1024_S4224x3072_d1) bitsLt_bf16_f32 := by
    simp only [V]; rfl
  rw [e]
  pointwise [Cert.Mla.CAT]

/-- A block of the latent is its third of the rows. -/
theorem blk_q (c : Dev nD) (t : Fin cfg0.N) (p : Fin 1408) (j : Fin 512) :
    (show FVec Ideal S1408x512 .bf16 from iblk m c 0 t) (ix2 p j)
      = (show EReal from m ((c : Thread nD τ).loc main_arg0) (ix2 ⟨t.val % 3 * 1408 + p.val, by omega⟩ j)) := by
  have e : ((cfg0.win 0).blk t).view.emb (ix2 p j) = ix2 ⟨t.val % 3 * 1408 + p.val, by omega⟩ j := by blk_ext [idx t]
  have h : (show FVec Ideal S1408x512 .bf16 from iblk m c 0 t) (ix2 p j)
      = V m c (Pipeline.arrRef spec0 0) (((cfg0.win 0).blk t).view.emb (ix2 p j)) := rfl
  rw [h, e]
  exact congrFun (arr_q m c) _

/-- A block of the gradient is its third of the rows and its column tile. -/
theorem blk_d (c : Dev nD) (t : Fin cfg0.N) (p : Fin 1408) (j : Fin 1024) :
    (show FVec Ideal S1408x1024 .bf16 from iblk m c 1 t) (ix2 p j)
      = Cert.Mla.CAT (m ((c : Thread nD τ).loc main_arg2)) (m ((c : Thread nD τ).loc main_arg3)) ⟨t.val % 3 * 1408 + p.val, by omega⟩ ⟨t.val / 3 * 1024 + j.val, by have : t.val < 9 := t.isLt; omega⟩ := by
  have e : ((cfg0.win 1).blk t).view.emb (ix2 p j) = ix2 ⟨t.val % 3 * 1408 + p.val, by omega⟩ ⟨t.val / 3 * 1024 + j.val, by have : t.val < 9 := t.isLt; omega⟩ := by blk_ext [idx t]
  have h : (show FVec Ideal S1408x1024 .bf16 from iblk m c 1 t) (ix2 p j)
      = V m c (Pipeline.arrRef spec0 1) (((cfg0.win 1).blk t).view.emb (ix2 p j)) := rfl
  rw [h, e]
  exact arr_d m c _ _

/-- The reference's gradient of the weight at one entry. -/
theorem DW_apply (c_q : FVec Ideal Cert.MlaUqWReferenceIdeal.S4224x512 .f32) (dqn : FVec Ideal Cert.MlaUqWReferenceIdeal.S4224x2048 .f32)
    (dqr : FVec Ideal Cert.MlaUqWReferenceIdeal.S4224x1024 .f32) (k : Fin 512) (h : Fin 16) (r : Fin 192) :
    DW c_q dqn dqr (ix3 k h r)
      = ∑ l : Fin 4224, c_q (ix2 l k) * Cert.Mla.DQ dqn dqr (ix2 l ⟨h.val * 192 + r.val, by omega⟩) := by
  unfold DW
  generalize Cert.Mla.DQ dqn dqr = Q
  pointwise
  exact Finset.sum_congr rfl fun l _ => mul_comm _ _

/-- The reference's result at one entry. -/
theorem REF_apply (c_q : FVec Ideal Cert.MlaUqWReferenceIdeal.S4224x512 .f32) (dqn : FVec Ideal Cert.MlaUqWReferenceIdeal.S4224x2048 .f32)
    (dqr : FVec Ideal Cert.MlaUqWReferenceIdeal.S4224x1024 .f32) (k : Fin 512) (j : Fin 3072) :
    REF c_q dqn dqr (ix2 k j) = ∑ l : Fin 4224, c_q (ix2 l k) * Cert.Mla.CAT dqn dqr l j := by
  simp only [← Cert.Mla.DQ_col]
  have hD := DW_apply c_q dqn dqr k
  unfold REF
  generalize DW c_q dqn dqr = G at hD ⊢
  by_cases h : j.val < 2048
  · rw [Cert.Mla.col_low j h]
    pointwise
    rw [dif_pos h]
    exact hD _ _
  · rw [Cert.Mla.col_high j h]
    pointwise
    rw [dif_neg h]
    exact hD _ _

/-- The part of a result's entry that one grid point contributes: the sum over its third of the rows. -/
def part (c : Dev nD) (t : Fin cfg0.N) (j : S512x1024.Idx) : EReal :=
  ∑ x : Fin 1408, (show FVec Ideal S1408x512 .bf16 from iblk m c 0 t) (ix2 x (j 0))
    * (show FVec Ideal S1408x1024 .bf16 from iblk m c 1 t) (ix2 x (j 1))

/-- A point's part, in the arguments' entries. -/
theorem part_eq (c : Dev nD) (t : Fin cfg0.N) (k : Fin 512) (j : Fin 1024) : part m c t (ix2 k j)
    = ∑ x : Fin 1408, (show EReal from m ((c : Thread nD τ).loc main_arg0) (ix2 ⟨t.val % 3 * 1408 + x.val, by omega⟩ k))
        * Cert.Mla.CAT (m ((c : Thread nD τ).loc main_arg2)) (m ((c : Thread nD τ).loc main_arg3)) ⟨t.val % 3 * 1408 + x.val, by omega⟩ ⟨t.val / 3 * 1024 + j.val, by have : t.val < 9 := t.isLt; omega⟩ :=
  Finset.sum_congr rfl fun x _ => congrArg₂ _ (blk_q m c t x k) (blk_d m c t x j)

/-- The first point of a run starts the kept sum with its part. -/
theorem start (c : Dev nD) (t : Fin cfg0.N) (h : t.val % 3 = 0) (j : S512x1024.Idx) :
    (outsAt0 m c t.val t.isLt).2 j = 0 + part m c t j := by
  rw [outsAt0_A m c t h (by omega) (by omega)]; frame_out
  pointwise [k0_pay2, k0_pay1, part]

/-- A later point adds its part to what the point before kept. -/
theorem step (c : Dev nD) (t : Fin cfg0.N) (h : ¬t.val % 3 = 0) (j : S512x1024.Idx) :
    (outsAt0 m c t.val t.isLt).2 j
      = (outsAt0 m c (t.val - 1) (Nat.lt_of_le_of_lt (Nat.sub_le _ _) t.isLt)).2 j + part m c t j := by
  by_cases h2 : t.val % 3 = 2
  · rw [outsAt0_C m c t h (by omega) h2]; frame_out
    pointwise [k0_pay3, k0_pay1, part]
    rw [read_unread_whole]
  · rw [outsAt0_B m c t h (by omega) h2]; frame_out
    pointwise [k0_pay3, k0_pay1, part]
    rw [read_unread_whole]

/-- After the last point of a run the kept sum is the sum of the three parts. -/
theorem kept (c : Dev nD) (t : Fin cfg0.N) (h : t.val % 3 = 3 - 1) (j : S512x1024.Idx) :
    (outsAt0 m c t.val t.isLt).2 j
      = ∑ s : Fin 3, part m c ⟨3 * (t.val / 3) + s.val, Pipeline.run_point_lt_of_flush t h s⟩ j :=
  (Pipeline.eq_sum_fin_of_reset_step_apply_of_flush (fun n h => (outsAt0 m c n h).2) 3 (fun _ => (0 : EReal)) (part m c)
    (start m c) (step m c) t h j).trans (zero_add _)

/-- The result array after the run is the reference's. -/
theorem final (c : Dev nD) : (dats m 0 c).arrAt 2 (cfgs 0).N
    = REF (m ((c : Thread nD τ).loc main_arg0)) (m ((c : Thread nD τ).loc main_arg2)) (m ((c : Thread nD τ).loc main_arg3)) := by
  refine (dats m 0 c).arrAt_eq_of_covers 2 _ (by decide +kernel) fun t hf y => ?_
  have h2 : t.val % 3 = 2 := (flush0_2 t).mp hf
  have h0 : ¬ t.val % 3 = 0 := by omega
  obtain ⟨k, j, rfl⟩ : ∃ (k : Fin 512) (j : Fin 1024), y = ix2 k j := ⟨y 0, y 1, by funext i; fin_cases i <;> rfl⟩
  have e : ((cfg0.win 2).blk t).view.emb (ix2 k j) = ix2 k ⟨t.val / 3 * 1024 + j.val, by have : t.val < 9 := t.isLt; omega⟩ := by blk_ext [idx t]
  blk_simp; rw [after0_2, outsAt0_C m c t h0 (by omega) h2, e, REF_apply]
  frame_out
  pointwise [k0_pay1, k0_pay3]
  rw [read_unread_whole]
  refine (step m c t h0 (ix2 k j)).symm.trans ((kept m c t h2 _).trans ?_)
  simp only [part_eq]
  refine Fin.sum_mul_add_congr fun s x hl => ?_
  have e1 : (⟨(3 * (t.val / 3) + s.val) % 3 * 1408 + x.val, by omega⟩ : Fin 4224) = ⟨s.val * 1408 + x.val, hl⟩ :=
    Fin.ext (by show (3 * (t.val / 3) + s.val) % 3 * 1408 + x.val = s.val * 1408 + x.val; omega)
  have e2 : (⟨(3 * (t.val / 3) + s.val) / 3 * 1024 + j.val, by have : t.val < 9 := t.isLt; omega⟩ : Fin 3072)
      = ⟨t.val / 3 * 1024 + j.val, by have : t.val < 9 := t.isLt; omega⟩ :=
    Fin.ext (by show (3 * (t.val / 3) + s.val) / 3 * 1024 + j.val = t.val / 3 * 1024 + j.val; omega)
  rw [e1, e2]

end Cert.MlaUqWKernelIdeal.Hand

end
-- ==== Proof.MlaUqWClaim.lean ====
/- The gradient of the queries' weight: its result. -/
module

public import proofs.«01_k».proof.Defs
public import proofs.«01_k».proof.Proof.MlaUqW
public import proofs.«01_k».proof.Proof.Gen.MlaUqWReferenceIdeal.Run
public import Idealize.ShloMosaic.Lib.Claim

@[expose] public section

set_option maxRecDepth 16384

noncomputable section

namespace Cert.MlaUqWReferenceIdeal.Hand

open Idealize.ShloMosaic Idealize.SL.Sem Idealize.ShloMosaic.TcCoe
open Cert.MlaUqWReferenceIdeal Cert.MlaUqWReferenceIdeal.Gen

set_option maxHeartbeats 4000000 in
/-- The reference ends with its result at the function of its arguments that the other file speaks of. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
        = Cert.MlaUqWKernelIdeal.Hand.REF (m ((c.tc : Thread nD τ).loc main_arg0)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans rfl, (h c).2⟩) (Value.run m ρ)

end Cert.MlaUqWReferenceIdeal.Hand

namespace Cert.Proof

open Idealize.ShloMosaic Idealize.SL.Sem

set_option maxHeartbeats 1600000 in
/-- The call's result is the reference's, entry by entry over the extended reals. -/
theorem algebraic_MlaUqWKernelIdeal_MlaUqWReferenceIdeal : Cert.algebraic_MlaUqWKernelIdeal_MlaUqWReferenceIdeal := by
  pair_intro
  · run_from Cert.MlaUqWKernelIdeal.Value.run_blocks m g
  · run_from Cert.MlaUqWReferenceIdeal.Hand.ref_run m' g'
    exact (Cert.MlaUqWKernelIdeal.Hand.final m c).symm

end Cert.Proof

end
-- ==== Proof.lean ====
/- The claims assembled: the frame of every program, the preservation of each ideal program, and the equations
   between the calls and the gradients of the reference. -/
module

public import proofs.«01_k».proof.Defs
public import proofs.«01_k».proof.Proof.Gen.DownActKernel.Frame
public import proofs.«01_k».proof.Proof.Gen.DownActKernelIdeal.Frame
public import proofs.«01_k».proof.Proof.Gen.DownActKernelIdeal.Value
public import proofs.«01_k».proof.Proof.Gen.DownActReferenceIdeal.Run
public import proofs.«01_k».proof.Proof.Gen.DownWKernel.Frame
public import proofs.«01_k».proof.Proof.Gen.DownWKernelIdeal.Frame
public import proofs.«01_k».proof.Proof.Gen.DownWKernelIdeal.Value
public import proofs.«01_k».proof.Proof.Gen.DownWReferenceIdeal.Run
public import proofs.«01_k».proof.Proof.Gen.GuXKernel.Frame
public import proofs.«01_k».proof.Proof.Gen.GuXKernelIdeal.Frame
public import proofs.«01_k».proof.Proof.Gen.GuXKernelIdeal.Value
public import proofs.«01_k».proof.Proof.Gen.GuXReferenceIdeal.Run
public import proofs.«01_k».proof.Proof.Gen.GuWKernel.Frame
public import proofs.«01_k».proof.Proof.Gen.GuWKernelIdeal.Frame
public import proofs.«01_k».proof.Proof.Gen.GuWKernelIdeal.Value
public import proofs.«01_k».proof.Proof.Gen.GuWReferenceIdeal.Run
public import proofs.«01_k».proof.Proof.Gen.SwigluKernel.Frame
public import proofs.«01_k».proof.Proof.Gen.SwigluKernelIdeal.Frame
public import proofs.«01_k».proof.Proof.Gen.SwigluKernelIdeal.Value
public import proofs.«01_k».proof.Proof.Gen.SwigluReferenceIdeal.Run
public import proofs.«01_k».proof.Proof.Gen.ConvKernel.Frame
public import proofs.«01_k».proof.Proof.Gen.ConvKernelIdeal.Frame
public import proofs.«01_k».proof.Proof.Gen.ConvKernelIdeal.Value
public import proofs.«01_k».proof.Proof.Gen.ConvReferenceIdeal.Run
public import proofs.«01_k».proof.Proof.Gen.NormKernel.Frame
public import proofs.«01_k».proof.Proof.Gen.NormKernelIdeal.Frame
public import proofs.«01_k».proof.Proof.Gen.NormKernelIdeal.Value
public import proofs.«01_k».proof.Proof.Gen.NormReferenceIdeal.Run
public import proofs.«01_k».proof.Proof.Gen.GatesKernel.Frame
public import proofs.«01_k».proof.Proof.Gen.GatesKernelIdeal.Frame
public import proofs.«01_k».proof.Proof.Gen.GatesKernelIdeal.Value
public import proofs.«01_k».proof.Proof.Gen.GatesReferenceIdeal.Run
public import proofs.«01_k».proof.Proof.Gen.LruOutXKernel.Frame
public import proofs.«01_k».proof.Proof.Gen.LruOutXKernelIdeal.Frame
public import proofs.«01_k».proof.Proof.Gen.LruOutXKernelIdeal.Value
public import proofs.«01_k».proof.Proof.Gen.LruOutXReferenceIdeal.Run
public import proofs.«01_k».proof.Proof.Gen.LruOutWKernel.Frame
public import proofs.«01_k».proof.Proof.Gen.LruOutWKernelIdeal.Frame
public import proofs.«01_k».proof.Proof.Gen.LruOutWKernelIdeal.Value
public import proofs.«01_k».proof.Proof.Gen.LruOutWReferenceIdeal.Run
public import proofs.«01_k».proof.Proof.Gen.LruInXKernel.Frame
public import proofs.«01_k».proof.Proof.Gen.LruInXKernelIdeal.Frame
public import proofs.«01_k».proof.Proof.Gen.LruInXKernelIdeal.Value
public import proofs.«01_k».proof.Proof.Gen.LruInXReferenceIdeal.Run
public import proofs.«01_k».proof.Proof.Gen.LruInWKernel.Frame
public import proofs.«01_k».proof.Proof.Gen.LruInWKernelIdeal.Frame
public import proofs.«01_k».proof.Proof.Gen.LruInWKernelIdeal.Value
public import proofs.«01_k».proof.Proof.Gen.LruInWReferenceIdeal.Run
public import proofs.«01_k».proof.Proof.Gen.LruInKernel.Frame
public import proofs.«01_k».proof.Proof.Gen.LruInKernelIdeal.Frame
public import proofs.«01_k».proof.Proof.Gen.LruInKernelIdeal.Value
public import proofs.«01_k».proof.Proof.Gen.LruInReferenceIdeal.Run
public import proofs.«01_k».proof.Proof.Gen.LruOutKernel.Frame
public import proofs.«01_k».proof.Proof.Gen.LruOutKernelIdeal.Frame
public import proofs.«01_k».proof.Proof.Gen.LruOutKernelIdeal.Value
public import proofs.«01_k».proof.Proof.Gen.LruOutReferenceIdeal.Run
public import proofs.«01_k».proof.Proof.Gen.GateUpKernel.Frame
public import proofs.«01_k».proof.Proof.Gen.GateUpKernelIdeal.Frame
public import proofs.«01_k».proof.Proof.Gen.GateUpKernelIdeal.Value
public import proofs.«01_k».proof.Proof.Gen.GateUpReferenceIdeal.Run
public import proofs.«01_k».proof.Proof.Gen.DownKernel.Frame
public import proofs.«01_k».proof.Proof.Gen.DownKernelIdeal.Frame
public import proofs.«01_k».proof.Proof.Gen.DownKernelIdeal.Value
public import proofs.«01_k».proof.Proof.Gen.DownReferenceIdeal.Run
public import proofs.«01_k».proof.Proof.Gen.MlaUkvKernel.Frame
public import proofs.«01_k».proof.Proof.Gen.MlaUkvKernelIdeal.Frame
public import proofs.«01_k».proof.Proof.Gen.MlaUkvKernelIdeal.Value
public import proofs.«01_k».proof.Proof.Gen.MlaUkvReferenceIdeal.Run
public import proofs.«01_k».proof.Proof.Gen.MlaUkvXKernel.Frame
public import proofs.«01_k».proof.Proof.Gen.MlaUkvXKernelIdeal.Frame
public import proofs.«01_k».proof.Proof.Gen.MlaUkvXKernelIdeal.Value
public import proofs.«01_k».proof.Proof.Gen.MlaUkvXReferenceIdeal.Run
public import proofs.«01_k».proof.Proof.Gen.MlaUkvWKernel.Frame
public import proofs.«01_k».proof.Proof.Gen.MlaUkvWKernelIdeal.Frame
public import proofs.«01_k».proof.Proof.Gen.MlaUkvWKernelIdeal.Value
public import proofs.«01_k».proof.Proof.Gen.MlaUkvWReferenceIdeal.Run
public import proofs.«01_k».proof.Proof.Gen.MlaInKernel.Frame
public import proofs.«01_k».proof.Proof.Gen.MlaInKernelIdeal.Frame
public import proofs.«01_k».proof.Proof.Gen.MlaInKernelIdeal.Value
public import proofs.«01_k».proof.Proof.Gen.MlaInReferenceIdeal.Run
public import proofs.«01_k».proof.Proof.Gen.MlaInXKernel.Frame
public import proofs.«01_k».proof.Proof.Gen.MlaInXKernelIdeal.Frame
public import proofs.«01_k».proof.Proof.Gen.MlaInXKernelIdeal.Value
public import proofs.«01_k».proof.Proof.Gen.MlaInXReferenceIdeal.Run
public import proofs.«01_k».proof.Proof.Gen.MlaInWKernel.Frame
public import proofs.«01_k».proof.Proof.Gen.MlaInWKernelIdeal.Frame
public import proofs.«01_k».proof.Proof.Gen.MlaInWKernelIdeal.Value
public import proofs.«01_k».proof.Proof.Gen.MlaInWReferenceIdeal.Run
public import proofs.«01_k».proof.Proof.Gen.MlaUqKernel.Frame
public import proofs.«01_k».proof.Proof.Gen.MlaUqKernelIdeal.Frame
public import proofs.«01_k».proof.Proof.Gen.MlaUqKernelIdeal.Value
public import proofs.«01_k».proof.Proof.Gen.MlaUqReferenceIdeal.Run
public import proofs.«01_k».proof.Proof.Gen.MlaUqXKernel.Frame
public import proofs.«01_k».proof.Proof.Gen.MlaUqXKernelIdeal.Frame
public import proofs.«01_k».proof.Proof.Gen.MlaUqXKernelIdeal.Value
public import proofs.«01_k».proof.Proof.Gen.MlaUqXReferenceIdeal.Run
public import proofs.«01_k».proof.Proof.Gen.MlaUqWKernel.Frame
public import proofs.«01_k».proof.Proof.Gen.MlaUqWKernelIdeal.Frame
public import proofs.«01_k».proof.Proof.Gen.MlaUqWKernelIdeal.Value
public import proofs.«01_k».proof.Proof.Gen.MlaUqWReferenceIdeal.Run
public import proofs.«01_k».proof.Proof.Gen.Pre_swiglu_finite
public import proofs.«01_k».proof.Proof.DownAct
public import proofs.«01_k».proof.Proof.DownW
public import proofs.«01_k».proof.Proof.GuX
public import proofs.«01_k».proof.Proof.GuW
public import proofs.«01_k».proof.Proof.SwigluClaim
public import proofs.«01_k».proof.Proof.ConvClaim
public import proofs.«01_k».proof.Proof.NormClaim
public import proofs.«01_k».proof.Proof.GatesClaim
public import proofs.«01_k».proof.Proof.LruOutX
public import proofs.«01_k».proof.Proof.LruOutW
public import proofs.«01_k».proof.Proof.LruInX
public import proofs.«01_k».proof.Proof.LruInW
public import proofs.«01_k».proof.Proof.LruIn
public import proofs.«01_k».proof.Proof.LruOut
public import proofs.«01_k».proof.Proof.GateUpClaim
public import proofs.«01_k».proof.Proof.Down
public import proofs.«01_k».proof.Proof.MlaUkv
public import proofs.«01_k».proof.Proof.MlaUkvX
public import proofs.«01_k».proof.Proof.MlaUkvW
public import proofs.«01_k».proof.Proof.MlaInClaim
public import proofs.«01_k».proof.Proof.MlaInXClaim
public import proofs.«01_k».proof.Proof.MlaInWClaim
public import proofs.«01_k».proof.Proof.MlaUq
public import proofs.«01_k».proof.Proof.MlaUqX
public import proofs.«01_k».proof.Proof.MlaUqWClaim
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The program `DownActKernel` terminates, faults nowhere and leaves its arguments and its semaphores. -/
theorem quiescent_DownActKernel : Cert.quiescent_DownActKernel := fun m ρ _ => Cert.DownActKernel.Gen.frame m ρ

/-- The program `DownActKernelIdeal` terminates, faults nowhere and leaves its arguments and its semaphores. -/
theorem quiescent_DownActKernelIdeal : Cert.quiescent_DownActKernelIdeal := fun m ρ _ => Cert.DownActKernelIdeal.Gen.frame m ρ

/-- The reference `DownActReferenceIdeal` terminates, faults nowhere and leaves its arguments. -/
theorem quiescent_DownActReferenceIdeal : Cert.quiescent_DownActReferenceIdeal := fun m g _ =>
  (θ_run _ _ _).mono (fun r h => ⟨fun c => (h c).2, sem_eq_zero_of_no_sems (by decide) r.2⟩)
    (Cert.DownActReferenceIdeal.Value.run m g)

/-- The program `DownWKernel` terminates, faults nowhere and leaves its arguments and its semaphores. -/
theorem quiescent_DownWKernel : Cert.quiescent_DownWKernel := fun m ρ _ => Cert.DownWKernel.Gen.frame m ρ

/-- The program `DownWKernelIdeal` terminates, faults nowhere and leaves its arguments and its semaphores. -/
theorem quiescent_DownWKernelIdeal : Cert.quiescent_DownWKernelIdeal := fun m ρ _ => Cert.DownWKernelIdeal.Gen.frame m ρ

/-- The reference `DownWReferenceIdeal` terminates, faults nowhere and leaves its arguments. -/
theorem quiescent_DownWReferenceIdeal : Cert.quiescent_DownWReferenceIdeal := fun m g _ =>
  (θ_run _ _ _).mono (fun r h => ⟨fun c => (h c).2, sem_eq_zero_of_no_sems (by decide) r.2⟩)
    (Cert.DownWReferenceIdeal.Value.run m g)

/-- The program `GuXKernel` terminates, faults nowhere and leaves its arguments and its semaphores. -/
theorem quiescent_GuXKernel : Cert.quiescent_GuXKernel := fun m ρ _ => Cert.GuXKernel.Gen.frame m ρ

/-- The program `GuXKernelIdeal` terminates, faults nowhere and leaves its arguments and its semaphores. -/
theorem quiescent_GuXKernelIdeal : Cert.quiescent_GuXKernelIdeal := fun m ρ _ => Cert.GuXKernelIdeal.Gen.frame m ρ

/-- The reference `GuXReferenceIdeal` terminates, faults nowhere and leaves its arguments. -/
theorem quiescent_GuXReferenceIdeal : Cert.quiescent_GuXReferenceIdeal := fun m g _ =>
  (θ_run _ _ _).mono (fun r h => ⟨fun c => (h c).2, sem_eq_zero_of_no_sems (by decide) r.2⟩)
    (Cert.GuXReferenceIdeal.Value.run m g)

/-- The program `GuWKernel` terminates, faults nowhere and leaves its arguments and its semaphores. -/
theorem quiescent_GuWKernel : Cert.quiescent_GuWKernel := fun m ρ _ => Cert.GuWKernel.Gen.frame m ρ

/-- The program `GuWKernelIdeal` terminates, faults nowhere and leaves its arguments and its semaphores. -/
theorem quiescent_GuWKernelIdeal : Cert.quiescent_GuWKernelIdeal := fun m ρ _ => Cert.GuWKernelIdeal.Gen.frame m ρ

/-- The reference `GuWReferenceIdeal` terminates, faults nowhere and leaves its arguments. -/
theorem quiescent_GuWReferenceIdeal : Cert.quiescent_GuWReferenceIdeal := fun m g _ =>
  (θ_run _ _ _).mono (fun r h => ⟨fun c => (h c).2, sem_eq_zero_of_no_sems (by decide) r.2⟩)
    (Cert.GuWReferenceIdeal.Value.run m g)

/-- The program `SwigluKernel` terminates, faults nowhere and leaves its arguments and its semaphores. -/
theorem quiescent_SwigluKernel : Cert.quiescent_SwigluKernel := fun m ρ _ => Cert.SwigluKernel.Gen.frame m ρ

/-- The program `SwigluKernelIdeal` terminates, faults nowhere and leaves its arguments and its semaphores. -/
theorem quiescent_SwigluKernelIdeal : Cert.quiescent_SwigluKernelIdeal := fun m ρ _ => Cert.SwigluKernelIdeal.Gen.frame m ρ

/-- The program `SwigluKernelIdeal` terminates, faults nowhere and leaves its arguments and its semaphores. -/
theorem quiescent_SwigluKernelIdeal_pre_swiglu_finite : Cert.quiescent_SwigluKernelIdeal_pre_swiglu_finite := fun m ρ _ => Cert.SwigluKernelIdeal.Gen.frame m ρ

/-- The reference `SwigluReferenceIdeal` terminates, faults nowhere and leaves its arguments. -/
theorem quiescent_SwigluReferenceIdeal : Cert.quiescent_SwigluReferenceIdeal := fun m g _ =>
  (θ_run _ _ _).mono (fun r h => ⟨fun c => (h c).2, sem_eq_zero_of_no_sems (by decide) r.2⟩)
    (Cert.SwigluReferenceIdeal.Value.run m g)

/-- The reference `SwigluReferenceIdeal` terminates, faults nowhere and leaves its arguments. -/
theorem quiescent_SwigluReferenceIdeal_pre_swiglu_finite : Cert.quiescent_SwigluReferenceIdeal_pre_swiglu_finite := fun m g _ =>
  (θ_run _ _ _).mono (fun r h => ⟨fun c => (h c).2, sem_eq_zero_of_no_sems (by decide) r.2⟩)
    (Cert.SwigluReferenceIdeal.Value.run m g)

/-- The program `ConvKernel` terminates, faults nowhere and leaves its arguments and its semaphores. -/
theorem quiescent_ConvKernel : Cert.quiescent_ConvKernel := fun m ρ _ => Cert.ConvKernel.Gen.frame m ρ

/-- The program `ConvKernelIdeal` terminates, faults nowhere and leaves its arguments and its semaphores. -/
theorem quiescent_ConvKernelIdeal : Cert.quiescent_ConvKernelIdeal := fun m ρ _ => Cert.ConvKernelIdeal.Gen.frame m ρ

/-- The reference `ConvReferenceIdeal` terminates, faults nowhere and leaves its arguments. -/
theorem quiescent_ConvReferenceIdeal : Cert.quiescent_ConvReferenceIdeal := fun m g _ =>
  (θ_run _ _ _).mono (fun r h => ⟨fun c => (h c).2.2.2, sem_eq_zero_of_no_sems (by decide) r.2⟩)
    (Cert.ConvReferenceIdeal.Value.run m g)

/-- The program `NormKernel` terminates, faults nowhere and leaves its arguments and its semaphores. -/
theorem quiescent_NormKernel : Cert.quiescent_NormKernel := fun m ρ _ => Cert.NormKernel.Gen.frame m ρ

/-- The program `NormKernelIdeal` terminates, faults nowhere and leaves its arguments and its semaphores. -/
theorem quiescent_NormKernelIdeal : Cert.quiescent_NormKernelIdeal := fun m ρ _ => Cert.NormKernelIdeal.Gen.frame m ρ

/-- The reference `NormReferenceIdeal` terminates, faults nowhere and leaves its arguments. -/
theorem quiescent_NormReferenceIdeal : Cert.quiescent_NormReferenceIdeal := fun m g _ =>
  (θ_run _ _ _).mono (fun r h => ⟨fun c => (h c).2.2.2, sem_eq_zero_of_no_sems (by decide) r.2⟩)
    (Cert.NormReferenceIdeal.Value.run m g)

/-- The program `GatesKernel` terminates, faults nowhere and leaves its arguments and its semaphores. -/
theorem quiescent_GatesKernel : Cert.quiescent_GatesKernel := fun m ρ _ => Cert.GatesKernel.Gen.frame m ρ

/-- The program `GatesKernelIdeal` terminates, faults nowhere and leaves its arguments and its semaphores. -/
theorem quiescent_GatesKernelIdeal : Cert.quiescent_GatesKernelIdeal := fun m ρ _ => Cert.GatesKernelIdeal.Gen.frame m ρ

/-- The reference `GatesReferenceIdeal` terminates, faults nowhere and leaves its arguments. -/
theorem quiescent_GatesReferenceIdeal : Cert.quiescent_GatesReferenceIdeal := fun m g _ =>
  (θ_run _ _ _).mono (fun r h => ⟨fun c => (h c).2.2.2.2.2.2, sem_eq_zero_of_no_sems (by decide) r.2⟩)
    (Cert.GatesReferenceIdeal.Value.run m g)

/-- The program `LruOutXKernel` terminates, faults nowhere and leaves its arguments and its semaphores. -/
theorem quiescent_LruOutXKernel : Cert.quiescent_LruOutXKernel := fun m ρ _ => Cert.LruOutXKernel.Gen.frame m ρ

/-- The program `LruOutXKernelIdeal` terminates, faults nowhere and leaves its arguments and its semaphores. -/
theorem quiescent_LruOutXKernelIdeal : Cert.quiescent_LruOutXKernelIdeal := fun m ρ _ => Cert.LruOutXKernelIdeal.Gen.frame m ρ

/-- The reference `LruOutXReferenceIdeal` terminates, faults nowhere and leaves its arguments. -/
theorem quiescent_LruOutXReferenceIdeal : Cert.quiescent_LruOutXReferenceIdeal := fun m g _ =>
  (θ_run _ _ _).mono (fun r h => ⟨fun c => (h c).2, sem_eq_zero_of_no_sems (by decide) r.2⟩)
    (Cert.LruOutXReferenceIdeal.Value.run m g)

/-- The program `LruOutWKernel` terminates, faults nowhere and leaves its arguments and its semaphores. -/
theorem quiescent_LruOutWKernel : Cert.quiescent_LruOutWKernel := fun m ρ _ => Cert.LruOutWKernel.Gen.frame m ρ

/-- The program `LruOutWKernelIdeal` terminates, faults nowhere and leaves its arguments and its semaphores. -/
theorem quiescent_LruOutWKernelIdeal : Cert.quiescent_LruOutWKernelIdeal := fun m ρ _ => Cert.LruOutWKernelIdeal.Gen.frame m ρ

/-- The reference `LruOutWReferenceIdeal` terminates, faults nowhere and leaves its arguments. -/
theorem quiescent_LruOutWReferenceIdeal : Cert.quiescent_LruOutWReferenceIdeal := fun m g _ =>
  (θ_run _ _ _).mono (fun r h => ⟨fun c => (h c).2, sem_eq_zero_of_no_sems (by decide) r.2⟩)
    (Cert.LruOutWReferenceIdeal.Value.run m g)

/-- The program `LruInXKernel` terminates, faults nowhere and leaves its arguments and its semaphores. -/
theorem quiescent_LruInXKernel : Cert.quiescent_LruInXKernel := fun m ρ _ => Cert.LruInXKernel.Gen.frame m ρ

/-- The program `LruInXKernelIdeal` terminates, faults nowhere and leaves its arguments and its semaphores. -/
theorem quiescent_LruInXKernelIdeal : Cert.quiescent_LruInXKernelIdeal := fun m ρ _ => Cert.LruInXKernelIdeal.Gen.frame m ρ

/-- The reference `LruInXReferenceIdeal` terminates, faults nowhere and leaves its arguments. -/
theorem quiescent_LruInXReferenceIdeal : Cert.quiescent_LruInXReferenceIdeal := fun m g _ =>
  (θ_run _ _ _).mono (fun r h => ⟨fun c => (h c).2, sem_eq_zero_of_no_sems (by decide) r.2⟩)
    (Cert.LruInXReferenceIdeal.Value.run m g)

/-- The program `LruInWKernel` terminates, faults nowhere and leaves its arguments and its semaphores. -/
theorem quiescent_LruInWKernel : Cert.quiescent_LruInWKernel := fun m ρ _ => Cert.LruInWKernel.Gen.frame m ρ

/-- The program `LruInWKernelIdeal` terminates, faults nowhere and leaves its arguments and its semaphores. -/
theorem quiescent_LruInWKernelIdeal : Cert.quiescent_LruInWKernelIdeal := fun m ρ _ => Cert.LruInWKernelIdeal.Gen.frame m ρ

/-- The reference `LruInWReferenceIdeal` terminates, faults nowhere and leaves its arguments. -/
theorem quiescent_LruInWReferenceIdeal : Cert.quiescent_LruInWReferenceIdeal := fun m g _ =>
  (θ_run _ _ _).mono (fun r h => ⟨fun c => (h c).2, sem_eq_zero_of_no_sems (by decide) r.2⟩)
    (Cert.LruInWReferenceIdeal.Value.run m g)

/-- The program `LruInKernel` terminates, faults nowhere and leaves its arguments and its semaphores. -/
theorem quiescent_LruInKernel : Cert.quiescent_LruInKernel := fun m ρ _ => Cert.LruInKernel.Gen.frame m ρ

/-- The program `LruInKernelIdeal` terminates, faults nowhere and leaves its arguments and its semaphores. -/
theorem quiescent_LruInKernelIdeal : Cert.quiescent_LruInKernelIdeal := fun m ρ _ => Cert.LruInKernelIdeal.Gen.frame m ρ

/-- The reference `LruInReferenceIdeal` terminates, faults nowhere and leaves its arguments. -/
theorem quiescent_LruInReferenceIdeal : Cert.quiescent_LruInReferenceIdeal := fun m g _ =>
  (θ_run _ _ _).mono (fun r h => ⟨fun c => (h c).2, sem_eq_zero_of_no_sems (by decide) r.2⟩)
    (Cert.LruInReferenceIdeal.Value.run m g)

/-- The program `LruOutKernel` terminates, faults nowhere and leaves its arguments and its semaphores. -/
theorem quiescent_LruOutKernel : Cert.quiescent_LruOutKernel := fun m ρ _ => Cert.LruOutKernel.Gen.frame m ρ

/-- The program `LruOutKernelIdeal` terminates, faults nowhere and leaves its arguments and its semaphores. -/
theorem quiescent_LruOutKernelIdeal : Cert.quiescent_LruOutKernelIdeal := fun m ρ _ => Cert.LruOutKernelIdeal.Gen.frame m ρ

/-- The reference `LruOutReferenceIdeal` terminates, faults nowhere and leaves its arguments. -/
theorem quiescent_LruOutReferenceIdeal : Cert.quiescent_LruOutReferenceIdeal := fun m g _ =>
  (θ_run _ _ _).mono (fun r h => ⟨fun c => (h c).2, sem_eq_zero_of_no_sems (by decide) r.2⟩)
    (Cert.LruOutReferenceIdeal.Value.run m g)

/-- The program `GateUpKernel` terminates, faults nowhere and leaves its arguments and its semaphores. -/
theorem quiescent_GateUpKernel : Cert.quiescent_GateUpKernel := fun m ρ _ => Cert.GateUpKernel.Gen.frame m ρ

/-- The program `GateUpKernelIdeal` terminates, faults nowhere and leaves its arguments and its semaphores. -/
theorem quiescent_GateUpKernelIdeal : Cert.quiescent_GateUpKernelIdeal := fun m ρ _ => Cert.GateUpKernelIdeal.Gen.frame m ρ

/-- The reference `GateUpReferenceIdeal` terminates, faults nowhere and leaves its arguments. -/
theorem quiescent_GateUpReferenceIdeal : Cert.quiescent_GateUpReferenceIdeal := fun m g _ =>
  (θ_run _ _ _).mono (fun r h => ⟨fun c => (h c).2.2.2, sem_eq_zero_of_no_sems (by decide) r.2⟩)
    (Cert.GateUpReferenceIdeal.Value.run m g)

/-- The program `DownKernel` terminates, faults nowhere and leaves its arguments and its semaphores. -/
theorem quiescent_DownKernel : Cert.quiescent_DownKernel := fun m ρ _ => Cert.DownKernel.Gen.frame m ρ

/-- The program `DownKernelIdeal` terminates, faults nowhere and leaves its arguments and its semaphores. -/
theorem quiescent_DownKernelIdeal : Cert.quiescent_DownKernelIdeal := fun m ρ _ => Cert.DownKernelIdeal.Gen.frame m ρ

/-- The reference `DownReferenceIdeal` terminates, faults nowhere and leaves its arguments. -/
theorem quiescent_DownReferenceIdeal : Cert.quiescent_DownReferenceIdeal := fun m g _ =>
  (θ_run _ _ _).mono (fun r h => ⟨fun c => (h c).2, sem_eq_zero_of_no_sems (by decide) r.2⟩)
    (Cert.DownReferenceIdeal.Value.run m g)

/-- The program `MlaUkvKernel` terminates, faults nowhere and leaves its arguments and its semaphores. -/
theorem quiescent_MlaUkvKernel : Cert.quiescent_MlaUkvKernel := fun m ρ _ => Cert.MlaUkvKernel.Gen.frame m ρ

/-- The program `MlaUkvKernelIdeal` terminates, faults nowhere and leaves its arguments and its semaphores. -/
theorem quiescent_MlaUkvKernelIdeal : Cert.quiescent_MlaUkvKernelIdeal := fun m ρ _ => Cert.MlaUkvKernelIdeal.Gen.frame m ρ

/-- The reference `MlaUkvReferenceIdeal` terminates, faults nowhere and leaves its arguments. -/
theorem quiescent_MlaUkvReferenceIdeal : Cert.quiescent_MlaUkvReferenceIdeal := fun m g _ =>
  (θ_run _ _ _).mono (fun r h => ⟨fun c => (h c).2, sem_eq_zero_of_no_sems (by decide) r.2⟩)
    (Cert.MlaUkvReferenceIdeal.Value.run m g)

/-- The program `MlaUkvXKernel` terminates, faults nowhere and leaves its arguments and its semaphores. -/
theorem quiescent_MlaUkvXKernel : Cert.quiescent_MlaUkvXKernel := fun m ρ _ => Cert.MlaUkvXKernel.Gen.frame m ρ

/-- The program `MlaUkvXKernelIdeal` terminates, faults nowhere and leaves its arguments and its semaphores. -/
theorem quiescent_MlaUkvXKernelIdeal : Cert.quiescent_MlaUkvXKernelIdeal := fun m ρ _ => Cert.MlaUkvXKernelIdeal.Gen.frame m ρ

/-- The reference `MlaUkvXReferenceIdeal` terminates, faults nowhere and leaves its arguments. -/
theorem quiescent_MlaUkvXReferenceIdeal : Cert.quiescent_MlaUkvXReferenceIdeal := fun m g _ =>
  (θ_run _ _ _).mono (fun r h => ⟨fun c => (h c).2, sem_eq_zero_of_no_sems (by decide) r.2⟩)
    (Cert.MlaUkvXReferenceIdeal.Value.run m g)

/-- The program `MlaUkvWKernel` terminates, faults nowhere and leaves its arguments and its semaphores. -/
theorem quiescent_MlaUkvWKernel : Cert.quiescent_MlaUkvWKernel := fun m ρ _ => Cert.MlaUkvWKernel.Gen.frame m ρ

/-- The program `MlaUkvWKernelIdeal` terminates, faults nowhere and leaves its arguments and its semaphores. -/
theorem quiescent_MlaUkvWKernelIdeal : Cert.quiescent_MlaUkvWKernelIdeal := fun m ρ _ => Cert.MlaUkvWKernelIdeal.Gen.frame m ρ

/-- The reference `MlaUkvWReferenceIdeal` terminates, faults nowhere and leaves its arguments. -/
theorem quiescent_MlaUkvWReferenceIdeal : Cert.quiescent_MlaUkvWReferenceIdeal := fun m g _ =>
  (θ_run _ _ _).mono (fun r h => ⟨fun c => (h c).2, sem_eq_zero_of_no_sems (by decide) r.2⟩)
    (Cert.MlaUkvWReferenceIdeal.Value.run m g)

/-- The program `MlaInKernel` terminates, faults nowhere and leaves its arguments and its semaphores. -/
theorem quiescent_MlaInKernel : Cert.quiescent_MlaInKernel := fun m ρ _ => Cert.MlaInKernel.Gen.frame m ρ

/-- The program `MlaInKernelIdeal` terminates, faults nowhere and leaves its arguments and its semaphores. -/
theorem quiescent_MlaInKernelIdeal : Cert.quiescent_MlaInKernelIdeal := fun m ρ _ => Cert.MlaInKernelIdeal.Gen.frame m ρ

/-- The reference `MlaInReferenceIdeal` terminates, faults nowhere and leaves its arguments. -/
theorem quiescent_MlaInReferenceIdeal : Cert.quiescent_MlaInReferenceIdeal := fun m g _ =>
  (θ_run _ _ _).mono (fun r h => ⟨fun c => (h c).2, sem_eq_zero_of_no_sems (by decide) r.2⟩)
    (Cert.MlaInReferenceIdeal.Value.run m g)

/-- The program `MlaInXKernel` terminates, faults nowhere and leaves its arguments and its semaphores. -/
theorem quiescent_MlaInXKernel : Cert.quiescent_MlaInXKernel := fun m ρ _ => Cert.MlaInXKernel.Gen.frame m ρ

/-- The program `MlaInXKernelIdeal` terminates, faults nowhere and leaves its arguments and its semaphores. -/
theorem quiescent_MlaInXKernelIdeal : Cert.quiescent_MlaInXKernelIdeal := fun m ρ _ => Cert.MlaInXKernelIdeal.Gen.frame m ρ

/-- The reference `MlaInXReferenceIdeal` terminates, faults nowhere and leaves its arguments. -/
theorem quiescent_MlaInXReferenceIdeal : Cert.quiescent_MlaInXReferenceIdeal := fun m g _ =>
  (θ_run _ _ _).mono (fun r h => ⟨fun c => (h c).2, sem_eq_zero_of_no_sems (by decide) r.2⟩)
    (Cert.MlaInXReferenceIdeal.Value.run m g)

/-- The program `MlaInWKernel` terminates, faults nowhere and leaves its arguments and its semaphores. -/
theorem quiescent_MlaInWKernel : Cert.quiescent_MlaInWKernel := fun m ρ _ => Cert.MlaInWKernel.Gen.frame m ρ

/-- The program `MlaInWKernelIdeal` terminates, faults nowhere and leaves its arguments and its semaphores. -/
theorem quiescent_MlaInWKernelIdeal : Cert.quiescent_MlaInWKernelIdeal := fun m ρ _ => Cert.MlaInWKernelIdeal.Gen.frame m ρ

/-- The reference `MlaInWReferenceIdeal` terminates, faults nowhere and leaves its arguments. -/
theorem quiescent_MlaInWReferenceIdeal : Cert.quiescent_MlaInWReferenceIdeal := fun m g _ =>
  (θ_run _ _ _).mono (fun r h => ⟨fun c => (h c).2, sem_eq_zero_of_no_sems (by decide) r.2⟩)
    (Cert.MlaInWReferenceIdeal.Value.run m g)

/-- The program `MlaUqKernel` terminates, faults nowhere and leaves its arguments and its semaphores. -/
theorem quiescent_MlaUqKernel : Cert.quiescent_MlaUqKernel := fun m ρ _ => Cert.MlaUqKernel.Gen.frame m ρ

/-- The program `MlaUqKernelIdeal` terminates, faults nowhere and leaves its arguments and its semaphores. -/
theorem quiescent_MlaUqKernelIdeal : Cert.quiescent_MlaUqKernelIdeal := fun m ρ _ => Cert.MlaUqKernelIdeal.Gen.frame m ρ

/-- The reference `MlaUqReferenceIdeal` terminates, faults nowhere and leaves its arguments. -/
theorem quiescent_MlaUqReferenceIdeal : Cert.quiescent_MlaUqReferenceIdeal := fun m g _ =>
  (θ_run _ _ _).mono (fun r h => ⟨fun c => (h c).2, sem_eq_zero_of_no_sems (by decide) r.2⟩)
    (Cert.MlaUqReferenceIdeal.Value.run m g)

/-- The program `MlaUqXKernel` terminates, faults nowhere and leaves its arguments and its semaphores. -/
theorem quiescent_MlaUqXKernel : Cert.quiescent_MlaUqXKernel := fun m ρ _ => Cert.MlaUqXKernel.Gen.frame m ρ

/-- The program `MlaUqXKernelIdeal` terminates, faults nowhere and leaves its arguments and its semaphores. -/
theorem quiescent_MlaUqXKernelIdeal : Cert.quiescent_MlaUqXKernelIdeal := fun m ρ _ => Cert.MlaUqXKernelIdeal.Gen.frame m ρ

/-- The reference `MlaUqXReferenceIdeal` terminates, faults nowhere and leaves its arguments. -/
theorem quiescent_MlaUqXReferenceIdeal : Cert.quiescent_MlaUqXReferenceIdeal := fun m g _ =>
  (θ_run _ _ _).mono (fun r h => ⟨fun c => (h c).2, sem_eq_zero_of_no_sems (by decide) r.2⟩)
    (Cert.MlaUqXReferenceIdeal.Value.run m g)

/-- The program `MlaUqWKernel` terminates, faults nowhere and leaves its arguments and its semaphores. -/
theorem quiescent_MlaUqWKernel : Cert.quiescent_MlaUqWKernel := fun m ρ _ => Cert.MlaUqWKernel.Gen.frame m ρ

/-- The program `MlaUqWKernelIdeal` terminates, faults nowhere and leaves its arguments and its semaphores. -/
theorem quiescent_MlaUqWKernelIdeal : Cert.quiescent_MlaUqWKernelIdeal := fun m ρ _ => Cert.MlaUqWKernelIdeal.Gen.frame m ρ

/-- The reference `MlaUqWReferenceIdeal` terminates, faults nowhere and leaves its arguments. -/
theorem quiescent_MlaUqWReferenceIdeal : Cert.quiescent_MlaUqWReferenceIdeal := fun m g _ =>
  (θ_run _ _ _).mono (fun r h => ⟨fun c => (h c).2, sem_eq_zero_of_no_sems (by decide) r.2⟩)
    (Cert.MlaUqWReferenceIdeal.Value.run m g)

/-- No operation was rewritten. -/
theorem preserves_DownActKernel_DownActKernelIdeal : Cert.preserves_DownActKernel_DownActKernelIdeal := trivial

/-- The call's result is the reference's, entry by entry over the extended reals. -/
theorem algebraic_DownActKernelIdeal_DownActReferenceIdeal : Cert.algebraic_DownActKernelIdeal_DownActReferenceIdeal := by
  pair_intro
  · run_from Cert.DownActKernelIdeal.Gen.run_main m g
  · hlo_run
    exact (Cert.DownActKernelIdeal.Hand.final m c).symm

/-- No operation was rewritten. -/
theorem preserves_DownWKernel_DownWKernelIdeal : Cert.preserves_DownWKernel_DownWKernelIdeal := trivial

/-- The call's result is the reference's, entry by entry over the extended reals. -/
theorem algebraic_DownWKernelIdeal_DownWReferenceIdeal : Cert.algebraic_DownWKernelIdeal_DownWReferenceIdeal := by
  pair_intro
  · run_from Cert.DownWKernelIdeal.Gen.run_main m g
  · hlo_run
    exact (Cert.DownWKernelIdeal.Hand.final m c).symm

/-- No operation was rewritten. -/
theorem preserves_GuXKernel_GuXKernelIdeal : Cert.preserves_GuXKernel_GuXKernelIdeal := trivial

/-- The call's result is the reference's, entry by entry over the extended reals. -/
theorem algebraic_GuXKernelIdeal_GuXReferenceIdeal : Cert.algebraic_GuXKernelIdeal_GuXReferenceIdeal := by
  pair_intro
  · run_from Cert.GuXKernelIdeal.Gen.run_main m g
  · hlo_run
    exact (Cert.GuXKernelIdeal.Hand.final m c).symm

/-- No operation was rewritten. -/
theorem preserves_GuWKernel_GuWKernelIdeal : Cert.preserves_GuWKernel_GuWKernelIdeal := trivial

/-- The call's result is the reference's, entry by entry over the extended reals. -/
theorem algebraic_GuWKernelIdeal_GuWReferenceIdeal : Cert.algebraic_GuWKernelIdeal_GuWReferenceIdeal := by
  pair_intro
  · run_from Cert.GuWKernelIdeal.Gen.run_main m g
  · hlo_run
    exact (Cert.GuWKernelIdeal.Hand.final m c).symm

/-- No operation was rewritten. -/
theorem preserves_SwigluKernel_SwigluKernelIdeal : Cert.preserves_SwigluKernel_SwigluKernelIdeal := trivial

/-- No operation was rewritten. -/
theorem preserves_ConvKernel_ConvKernelIdeal : Cert.preserves_ConvKernel_ConvKernelIdeal := trivial

/-- No operation was rewritten. -/
theorem preserves_NormKernel_NormKernelIdeal : Cert.preserves_NormKernel_NormKernelIdeal := trivial

/-- No operation was rewritten. -/
theorem preserves_GatesKernel_GatesKernelIdeal : Cert.preserves_GatesKernel_GatesKernelIdeal := trivial

/-- No operation was rewritten. -/
theorem preserves_LruOutXKernel_LruOutXKernelIdeal : Cert.preserves_LruOutXKernel_LruOutXKernelIdeal := trivial

/-- The call's result is the reference's, entry by entry over the extended reals. -/
theorem algebraic_LruOutXKernelIdeal_LruOutXReferenceIdeal : Cert.algebraic_LruOutXKernelIdeal_LruOutXReferenceIdeal := by
  pair_intro
  · run_from Cert.LruOutXKernelIdeal.Gen.run_main m g
  · hlo_run
    exact (Cert.LruOutXKernelIdeal.Hand.final m c).symm

/-- No operation was rewritten. -/
theorem preserves_LruOutWKernel_LruOutWKernelIdeal : Cert.preserves_LruOutWKernel_LruOutWKernelIdeal := trivial

/-- The call's result is the reference's, entry by entry over the extended reals. -/
theorem algebraic_LruOutWKernelIdeal_LruOutWReferenceIdeal : Cert.algebraic_LruOutWKernelIdeal_LruOutWReferenceIdeal := by
  pair_intro
  · run_from Cert.LruOutWKernelIdeal.Gen.run_main m g
  · hlo_run
    exact (Cert.LruOutWKernelIdeal.Hand.final m c).symm

/-- No operation was rewritten. -/
theorem preserves_LruInXKernel_LruInXKernelIdeal : Cert.preserves_LruInXKernel_LruInXKernelIdeal := trivial

/-- The call's result is the reference's, entry by entry over the extended reals. -/
theorem algebraic_LruInXKernelIdeal_LruInXReferenceIdeal : Cert.algebraic_LruInXKernelIdeal_LruInXReferenceIdeal := by
  pair_intro
  · run_from Cert.LruInXKernelIdeal.Gen.run_main m g
  · hlo_run
    exact (Cert.LruInXKernelIdeal.Hand.final m c).symm

/-- No operation was rewritten. -/
theorem preserves_LruInWKernel_LruInWKernelIdeal : Cert.preserves_LruInWKernel_LruInWKernelIdeal := trivial

/-- The call's result is the reference's, entry by entry over the extended reals. -/
theorem algebraic_LruInWKernelIdeal_LruInWReferenceIdeal : Cert.algebraic_LruInWKernelIdeal_LruInWReferenceIdeal := by
  pair_intro
  · run_from Cert.LruInWKernelIdeal.Gen.run_main m g
  · hlo_run
    exact (Cert.LruInWKernelIdeal.Hand.final m c).symm

/-- No operation was rewritten. -/
theorem preserves_LruInKernel_LruInKernelIdeal : Cert.preserves_LruInKernel_LruInKernelIdeal := trivial

/-- The call's result is the reference's, entry by entry over the extended reals. -/
theorem algebraic_LruInKernelIdeal_LruInReferenceIdeal : Cert.algebraic_LruInKernelIdeal_LruInReferenceIdeal := by
  pair_intro
  · run_from Cert.LruInKernelIdeal.Gen.run_main m g
  · hlo_run
    exact (Cert.LruInKernelIdeal.Hand.final m c).symm

/-- No operation was rewritten. -/
theorem preserves_LruOutKernel_LruOutKernelIdeal : Cert.preserves_LruOutKernel_LruOutKernelIdeal := trivial

/-- The call's result is the reference's, entry by entry over the extended reals. -/
theorem algebraic_LruOutKernelIdeal_LruOutReferenceIdeal : Cert.algebraic_LruOutKernelIdeal_LruOutReferenceIdeal := by
  pair_intro
  · run_from Cert.LruOutKernelIdeal.Gen.run_main m g
  · hlo_run
    exact (Cert.LruOutKernelIdeal.Hand.final m c).symm

/-- No operation was rewritten. -/
theorem preserves_GateUpKernel_GateUpKernelIdeal : Cert.preserves_GateUpKernel_GateUpKernelIdeal := trivial

/-- No operation was rewritten. -/
theorem preserves_DownKernel_DownKernelIdeal : Cert.preserves_DownKernel_DownKernelIdeal := trivial

/-- The call's result is the reference's, entry by entry over the extended reals. -/
theorem algebraic_DownKernelIdeal_DownReferenceIdeal : Cert.algebraic_DownKernelIdeal_DownReferenceIdeal := by
  pair_intro
  · run_from Cert.DownKernelIdeal.Gen.run_main m g
  · hlo_run
    exact (Cert.DownKernelIdeal.Hand.final m c).symm

/-- No operation was rewritten. -/
theorem preserves_MlaUkvKernel_MlaUkvKernelIdeal : Cert.preserves_MlaUkvKernel_MlaUkvKernelIdeal := trivial

/-- The call's result is the reference's, entry by entry over the extended reals. -/
theorem algebraic_MlaUkvKernelIdeal_MlaUkvReferenceIdeal : Cert.algebraic_MlaUkvKernelIdeal_MlaUkvReferenceIdeal := by
  pair_intro
  · run_from Cert.MlaUkvKernelIdeal.Gen.run_main m g
  · hlo_run
    exact (Cert.MlaUkvKernelIdeal.Hand.final m c).symm

/-- No operation was rewritten. -/
theorem preserves_MlaUkvXKernel_MlaUkvXKernelIdeal : Cert.preserves_MlaUkvXKernel_MlaUkvXKernelIdeal := trivial

/-- The call's result is the reference's, entry by entry over the extended reals. -/
theorem algebraic_MlaUkvXKernelIdeal_MlaUkvXReferenceIdeal : Cert.algebraic_MlaUkvXKernelIdeal_MlaUkvXReferenceIdeal := by
  pair_intro
  · run_from Cert.MlaUkvXKernelIdeal.Gen.run_main m g
  · hlo_run
    exact (Cert.MlaUkvXKernelIdeal.Hand.final m c).symm

/-- No operation was rewritten. -/
theorem preserves_MlaUkvWKernel_MlaUkvWKernelIdeal : Cert.preserves_MlaUkvWKernel_MlaUkvWKernelIdeal := trivial

/-- The call's result is the reference's, entry by entry over the extended reals. -/
theorem algebraic_MlaUkvWKernelIdeal_MlaUkvWReferenceIdeal : Cert.algebraic_MlaUkvWKernelIdeal_MlaUkvWReferenceIdeal := by
  pair_intro
  · run_from Cert.MlaUkvWKernelIdeal.Gen.run_main m g
  · hlo_run
    exact (Cert.MlaUkvWKernelIdeal.Hand.final m c).symm

/-- No operation was rewritten. -/
theorem preserves_MlaInKernel_MlaInKernelIdeal : Cert.preserves_MlaInKernel_MlaInKernelIdeal := trivial

/-- No operation was rewritten. -/
theorem preserves_MlaInXKernel_MlaInXKernelIdeal : Cert.preserves_MlaInXKernel_MlaInXKernelIdeal := trivial

/-- No operation was rewritten. -/
theorem preserves_MlaInWKernel_MlaInWKernelIdeal : Cert.preserves_MlaInWKernel_MlaInWKernelIdeal := trivial

/-- No operation was rewritten. -/
theorem preserves_MlaUqKernel_MlaUqKernelIdeal : Cert.preserves_MlaUqKernel_MlaUqKernelIdeal := trivial

/-- The call's result is the reference's, entry by entry over the extended reals. -/
theorem algebraic_MlaUqKernelIdeal_MlaUqReferenceIdeal : Cert.algebraic_MlaUqKernelIdeal_MlaUqReferenceIdeal := by
  pair_intro
  · run_from Cert.MlaUqKernelIdeal.Gen.run_main m g
  · hlo_run
    exact (Cert.MlaUqKernelIdeal.Hand.final m c).symm

/-- No operation was rewritten. -/
theorem preserves_MlaUqXKernel_MlaUqXKernelIdeal : Cert.preserves_MlaUqXKernel_MlaUqXKernelIdeal := trivial

/-- The call's result is the reference's, entry by entry over the extended reals. -/
theorem algebraic_MlaUqXKernelIdeal_MlaUqXReferenceIdeal : Cert.algebraic_MlaUqXKernelIdeal_MlaUqXReferenceIdeal := by
  pair_intro
  · run_from Cert.MlaUqXKernelIdeal.Gen.run_main m g
  · hlo_run
    exact (Cert.MlaUqXKernelIdeal.Hand.final m c).symm

/-- No operation was rewritten. -/
theorem preserves_MlaUqWKernel_MlaUqWKernelIdeal : Cert.preserves_MlaUqWKernel_MlaUqWKernelIdeal := trivial

/-- All claims together. -/
theorem claim : Cert.Claim := ⟨
  Cert.DownActKernel.Gen.facts, Cert.DownActKernelIdeal.Gen.facts, Cert.DownActReferenceIdeal.Gen.facts,
  Cert.DownWKernel.Gen.facts, Cert.DownWKernelIdeal.Gen.facts, Cert.DownWReferenceIdeal.Gen.facts,
  Cert.GuXKernel.Gen.facts, Cert.GuXKernelIdeal.Gen.facts, Cert.GuXReferenceIdeal.Gen.facts,
  Cert.GuWKernel.Gen.facts, Cert.GuWKernelIdeal.Gen.facts, Cert.GuWReferenceIdeal.Gen.facts,
  Cert.SwigluKernel.Gen.facts, Cert.SwigluKernelIdeal.Gen.facts, Cert.SwigluReferenceIdeal.Gen.facts,
  Cert.ConvKernel.Gen.facts, Cert.ConvKernelIdeal.Gen.facts, Cert.ConvReferenceIdeal.Gen.facts,
  Cert.NormKernel.Gen.facts, Cert.NormKernelIdeal.Gen.facts, Cert.NormReferenceIdeal.Gen.facts,
  Cert.GatesKernel.Gen.facts, Cert.GatesKernelIdeal.Gen.facts, Cert.GatesReferenceIdeal.Gen.facts,
  Cert.LruOutXKernel.Gen.facts, Cert.LruOutXKernelIdeal.Gen.facts, Cert.LruOutXReferenceIdeal.Gen.facts,
  Cert.LruOutWKernel.Gen.facts, Cert.LruOutWKernelIdeal.Gen.facts, Cert.LruOutWReferenceIdeal.Gen.facts,
  Cert.LruInXKernel.Gen.facts, Cert.LruInXKernelIdeal.Gen.facts, Cert.LruInXReferenceIdeal.Gen.facts,
  Cert.LruInWKernel.Gen.facts, Cert.LruInWKernelIdeal.Gen.facts, Cert.LruInWReferenceIdeal.Gen.facts,
  Cert.LruInKernel.Gen.facts, Cert.LruInKernelIdeal.Gen.facts, Cert.LruInReferenceIdeal.Gen.facts,
  Cert.LruOutKernel.Gen.facts, Cert.LruOutKernelIdeal.Gen.facts, Cert.LruOutReferenceIdeal.Gen.facts,
  Cert.GateUpKernel.Gen.facts, Cert.GateUpKernelIdeal.Gen.facts, Cert.GateUpReferenceIdeal.Gen.facts,
  Cert.DownKernel.Gen.facts, Cert.DownKernelIdeal.Gen.facts, Cert.DownReferenceIdeal.Gen.facts,
  Cert.MlaUkvKernel.Gen.facts, Cert.MlaUkvKernelIdeal.Gen.facts, Cert.MlaUkvReferenceIdeal.Gen.facts,
  Cert.MlaUkvXKernel.Gen.facts, Cert.MlaUkvXKernelIdeal.Gen.facts, Cert.MlaUkvXReferenceIdeal.Gen.facts,
  Cert.MlaUkvWKernel.Gen.facts, Cert.MlaUkvWKernelIdeal.Gen.facts, Cert.MlaUkvWReferenceIdeal.Gen.facts,
  Cert.MlaInKernel.Gen.facts, Cert.MlaInKernelIdeal.Gen.facts, Cert.MlaInReferenceIdeal.Gen.facts,
  Cert.MlaInXKernel.Gen.facts, Cert.MlaInXKernelIdeal.Gen.facts, Cert.MlaInXReferenceIdeal.Gen.facts,
  Cert.MlaInWKernel.Gen.facts, Cert.MlaInWKernelIdeal.Gen.facts, Cert.MlaInWReferenceIdeal.Gen.facts,
  Cert.MlaUqKernel.Gen.facts, Cert.MlaUqKernelIdeal.Gen.facts, Cert.MlaUqReferenceIdeal.Gen.facts,
  Cert.MlaUqXKernel.Gen.facts, Cert.MlaUqXKernelIdeal.Gen.facts, Cert.MlaUqXReferenceIdeal.Gen.facts,
  Cert.MlaUqWKernel.Gen.facts, Cert.MlaUqWKernelIdeal.Gen.facts, Cert.MlaUqWReferenceIdeal.Gen.facts,
  Cert.Pre_swiglu_finite.Gen.facts, quiescent_DownActKernel, quiescent_DownActKernelIdeal,
  quiescent_DownActReferenceIdeal, quiescent_DownWKernel, quiescent_DownWKernelIdeal,
  quiescent_DownWReferenceIdeal, quiescent_GuXKernel, quiescent_GuXKernelIdeal, quiescent_GuXReferenceIdeal,
  quiescent_GuWKernel, quiescent_GuWKernelIdeal, quiescent_GuWReferenceIdeal, quiescent_SwigluKernel,
  quiescent_SwigluKernelIdeal, quiescent_SwigluKernelIdeal_pre_swiglu_finite, quiescent_SwigluReferenceIdeal,
  quiescent_SwigluReferenceIdeal_pre_swiglu_finite, quiescent_ConvKernel, quiescent_ConvKernelIdeal,
  quiescent_ConvReferenceIdeal, quiescent_NormKernel, quiescent_NormKernelIdeal,
  quiescent_NormReferenceIdeal, quiescent_GatesKernel, quiescent_GatesKernelIdeal,
  quiescent_GatesReferenceIdeal, quiescent_LruOutXKernel, quiescent_LruOutXKernelIdeal,
  quiescent_LruOutXReferenceIdeal, quiescent_LruOutWKernel, quiescent_LruOutWKernelIdeal,
  quiescent_LruOutWReferenceIdeal, quiescent_LruInXKernel, quiescent_LruInXKernelIdeal,
  quiescent_LruInXReferenceIdeal, quiescent_LruInWKernel, quiescent_LruInWKernelIdeal,
  quiescent_LruInWReferenceIdeal, quiescent_LruInKernel, quiescent_LruInKernelIdeal,
  quiescent_LruInReferenceIdeal, quiescent_LruOutKernel, quiescent_LruOutKernelIdeal,
  quiescent_LruOutReferenceIdeal, quiescent_GateUpKernel, quiescent_GateUpKernelIdeal,
  quiescent_GateUpReferenceIdeal, quiescent_DownKernel, quiescent_DownKernelIdeal,
  quiescent_DownReferenceIdeal, quiescent_MlaUkvKernel, quiescent_MlaUkvKernelIdeal,
  quiescent_MlaUkvReferenceIdeal, quiescent_MlaUkvXKernel, quiescent_MlaUkvXKernelIdeal,
  quiescent_MlaUkvXReferenceIdeal, quiescent_MlaUkvWKernel, quiescent_MlaUkvWKernelIdeal,
  quiescent_MlaUkvWReferenceIdeal, quiescent_MlaInKernel, quiescent_MlaInKernelIdeal,
  quiescent_MlaInReferenceIdeal, quiescent_MlaInXKernel, quiescent_MlaInXKernelIdeal,
  quiescent_MlaInXReferenceIdeal, quiescent_MlaInWKernel, quiescent_MlaInWKernelIdeal,
  quiescent_MlaInWReferenceIdeal, quiescent_MlaUqKernel, quiescent_MlaUqKernelIdeal,
  quiescent_MlaUqReferenceIdeal, quiescent_MlaUqXKernel, quiescent_MlaUqXKernelIdeal,
  quiescent_MlaUqXReferenceIdeal, quiescent_MlaUqWKernel, quiescent_MlaUqWKernelIdeal,
  quiescent_MlaUqWReferenceIdeal, preserves_DownActKernel_DownActKernelIdeal,
  algebraic_DownActKernelIdeal_DownActReferenceIdeal, preserves_DownWKernel_DownWKernelIdeal,
  algebraic_DownWKernelIdeal_DownWReferenceIdeal, preserves_GuXKernel_GuXKernelIdeal,
  algebraic_GuXKernelIdeal_GuXReferenceIdeal, preserves_GuWKernel_GuWKernelIdeal,
  algebraic_GuWKernelIdeal_GuWReferenceIdeal, preserves_SwigluKernel_SwigluKernelIdeal,
  algebraic_SwigluKernelIdeal_SwigluReferenceIdeal_pre_swiglu_finite, preserves_ConvKernel_ConvKernelIdeal,
  algebraic_ConvKernelIdeal_ConvReferenceIdeal, preserves_NormKernel_NormKernelIdeal,
  algebraic_NormKernelIdeal_NormReferenceIdeal, preserves_GatesKernel_GatesKernelIdeal,
  algebraic_GatesKernelIdeal_GatesReferenceIdeal, preserves_LruOutXKernel_LruOutXKernelIdeal,
  algebraic_LruOutXKernelIdeal_LruOutXReferenceIdeal, preserves_LruOutWKernel_LruOutWKernelIdeal,
  algebraic_LruOutWKernelIdeal_LruOutWReferenceIdeal, preserves_LruInXKernel_LruInXKernelIdeal,
  algebraic_LruInXKernelIdeal_LruInXReferenceIdeal, preserves_LruInWKernel_LruInWKernelIdeal,
  algebraic_LruInWKernelIdeal_LruInWReferenceIdeal, preserves_LruInKernel_LruInKernelIdeal,
  algebraic_LruInKernelIdeal_LruInReferenceIdeal, preserves_LruOutKernel_LruOutKernelIdeal,
  algebraic_LruOutKernelIdeal_LruOutReferenceIdeal, preserves_GateUpKernel_GateUpKernelIdeal,
  algebraic_GateUpKernelIdeal_GateUpReferenceIdeal, preserves_DownKernel_DownKernelIdeal,
  algebraic_DownKernelIdeal_DownReferenceIdeal, preserves_MlaUkvKernel_MlaUkvKernelIdeal,
  algebraic_MlaUkvKernelIdeal_MlaUkvReferenceIdeal, preserves_MlaUkvXKernel_MlaUkvXKernelIdeal,
  algebraic_MlaUkvXKernelIdeal_MlaUkvXReferenceIdeal, preserves_MlaUkvWKernel_MlaUkvWKernelIdeal,
  algebraic_MlaUkvWKernelIdeal_MlaUkvWReferenceIdeal, preserves_MlaInKernel_MlaInKernelIdeal,
  algebraic_MlaInKernelIdeal_MlaInReferenceIdeal, preserves_MlaInXKernel_MlaInXKernelIdeal,
  algebraic_MlaInXKernelIdeal_MlaInXReferenceIdeal, preserves_MlaInWKernel_MlaInWKernelIdeal,
  algebraic_MlaInWKernelIdeal_MlaInWReferenceIdeal, preserves_MlaUqKernel_MlaUqKernelIdeal,
  algebraic_MlaUqKernelIdeal_MlaUqReferenceIdeal, preserves_MlaUqXKernel_MlaUqXKernelIdeal,
  algebraic_MlaUqXKernelIdeal_MlaUqXReferenceIdeal, preserves_MlaUqWKernel_MlaUqWKernelIdeal,
  algebraic_MlaUqWKernelIdeal_MlaUqWReferenceIdeal⟩

end Cert.Proof

end
